-- ==== Defs.lean ====
def Pre_Kernel [hPre_finite : Cert.Pre_finite.Facts] (m : (ℓ : Loc Cert.Kernel.nD Cert.Kernel.τ Cert.Kernel.sig) → Buf (Elt Bits) ℓ) : Prop :=
  ∀ c : Dev Cert.Kernel.nD,
    (Cert.Pre_finite.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpReferenceIdeal (m : (ℓ : Loc Cert.MlpReferenceIdeal.nD Cert.MlpReferenceIdeal.τ Cert.MlpReferenceIdeal.sig) → Buf (Elt Ideal) ℓ) : Prop :=
  True

def Pre_MlpForward (m : (ℓ : Loc Cert.MlpForward.nD Cert.MlpForward.τ Cert.MlpForward.sig) → Buf (Elt Bits) ℓ) : Prop :=
  True

def Pre_MlpForwardIdeal (m : (ℓ : Loc Cert.MlpForwardIdeal.nD Cert.MlpForwardIdeal.τ Cert.MlpForwardIdeal.sig) → Buf (Elt Ideal) ℓ) : Prop :=
  True

def Pre_MlpForwardReferenceIdeal (m : (ℓ : Loc Cert.MlpForwardReferenceIdeal.nD Cert.MlpForwardReferenceIdeal.τ Cert.MlpForwardReferenceIdeal.sig) → Buf (Elt Ideal) ℓ) : Prop :=
  True

def Pre_Pieces (m : (ℓ : Loc Cert.Pieces.nD Cert.Pieces.τ Cert.Pieces.sig) → Buf (Elt Bits) ℓ) : Prop :=
  True

def Pre_PiecesIdeal (m : (ℓ : Loc Cert.PiecesIdeal.nD Cert.PiecesIdeal.τ Cert.PiecesIdeal.sig) → Buf (Elt Ideal) ℓ) : Prop :=
  True

def Pre_PiecesReferenceIdeal (m : (ℓ : Loc Cert.PiecesReferenceIdeal.nD Cert.PiecesReferenceIdeal.τ Cert.PiecesReferenceIdeal.sig) → Buf (Elt Ideal) ℓ) : Prop :=
  True

def Pre_Mixer (m : (ℓ : Loc Cert.Mixer.nD Cert.Mixer.τ Cert.Mixer.sig) → Buf (Elt Bits) ℓ) : Prop :=
  True

def Pre_MixerIdeal (m : (ℓ : Loc Cert.MixerIdeal.nD Cert.MixerIdeal.τ Cert.MixerIdeal.sig) → Buf (Elt Ideal) ℓ) : Prop :=
  True

def Pre_MixerReferenceIdeal (m : (ℓ : Loc Cert.MixerReferenceIdeal.nD Cert.MixerReferenceIdeal.τ Cert.MixerReferenceIdeal.sig) → Buf (Elt Ideal) ℓ) : Prop :=
  True

def quiescent_Kernel [hKernel : Cert.Kernel.Facts] [hPre_finite : Cert.Pre_finite.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3))
      ∧ r.2.sem = fun _ => 0)

def quiescent_MlpReferenceIdeal [hMlpReferenceIdeal : Cert.MlpReferenceIdeal.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3))
      ∧ r.2.sem = fun _ => 0)

def quiescent_MlpForward [hMlpForward : Cert.MlpForward.Facts] : Prop :=
  ∀ (m : (ℓ : Loc Cert.MlpForward.nD Cert.MlpForward.τ Cert.MlpForward.sig) → Buf (Elt Bits) ℓ) (g : Dev Cert.MlpForward.nD → PrngReg), Pre_MlpForward m →
    θ_run (Cert.MlpForward.defs (F := Bits)) (onTc (τ := Cert.MlpForward.τ) (Cert.MlpForward.main (F := Bits))) ⟨m, fun _ => 0, g⟩ (fun r => (∀ c : Dev Cert.MlpForward.nD,
      r.2.mem ((c.tc : Thread Cert.MlpForward.nD Cert.MlpForward.τ).loc Cert.MlpForward.main_arg0) = m ((c.tc : Thread Cert.MlpForward.nD Cert.MlpForward.τ).loc Cert.MlpForward.main_arg0)
      ∧ r.2.mem ((c.tc : Thread Cert.MlpForward.nD Cert.MlpForward.τ).loc Cert.MlpForward.main_arg1) = m ((c.tc : Thread Cert.MlpForward.nD Cert.MlpForward.τ).loc Cert.MlpForward.main_arg1)
      ∧ r.2.mem ((c.tc : Thread Cert.MlpForward.nD Cert.MlpForward.τ).loc Cert.MlpForward.main_arg2) = m ((c.tc : Thread Cert.MlpForward.nD Cert.MlpForward.τ).loc Cert.MlpForward.main_arg2)
      ∧ r.2.mem ((c.tc : Thread Cert.MlpForward.nD Cert.MlpForward.τ).loc Cert.MlpForward.main_arg3) = m ((c.tc : Thread Cert.MlpForward.nD Cert.MlpForward.τ).loc Cert.MlpForward.main_arg3)
      ∧ r.2.mem ((c.tc : Thread Cert.MlpForward.nD Cert.MlpForward.τ).loc Cert.MlpForward.main_arg4) = m ((c.tc : Thread Cert.MlpForward.nD Cert.MlpForward.τ).loc Cert.MlpForward.main_arg4))
      ∧ r.2.sem = fun _ => 0)

def quiescent_MlpForwardIdeal [hMlpForwardIdeal : Cert.MlpForwardIdeal.Facts] : Prop :=
  ∀ (m : (ℓ : Loc Cert.MlpForwardIdeal.nD Cert.MlpForwardIdeal.τ Cert.MlpForwardIdeal.sig) → Buf (Elt Ideal) ℓ) (g : Dev Cert.MlpForwardIdeal.nD → PrngReg), Pre_MlpForwardIdeal m →
    θ_run (Cert.MlpForwardIdeal.defs (F := Ideal)) (onTc (τ := Cert.MlpForwardIdeal.τ) (Cert.MlpForwardIdeal.main (F := Ideal))) ⟨m, fun _ => 0, g⟩ (fun r => (∀ c : Dev Cert.MlpForwardIdeal.nD,
      r.2.mem ((c.tc : Thread Cert.MlpForwardIdeal.nD Cert.MlpForwardIdeal.τ).loc Cert.MlpForwardIdeal.main_arg0) = m ((c.tc : Thread Cert.MlpForwardIdeal.nD Cert.MlpForwardIdeal.τ).loc Cert.MlpForwardIdeal.main_arg0)
      ∧ r.2.mem ((c.tc : Thread Cert.MlpForwardIdeal.nD Cert.MlpForwardIdeal.τ).loc Cert.MlpForwardIdeal.main_arg1) = m ((c.tc : Thread Cert.MlpForwardIdeal.nD Cert.MlpForwardIdeal.τ).loc Cert.MlpForwardIdeal.main_arg1)
      ∧ r.2.mem ((c.tc : Thread Cert.MlpForwardIdeal.nD Cert.MlpForwardIdeal.τ).loc Cert.MlpForwardIdeal.main_arg2) = m ((c.tc : Thread Cert.MlpForwardIdeal.nD Cert.MlpForwardIdeal.τ).loc Cert.MlpForwardIdeal.main_arg2)
      ∧ r.2.mem ((c.tc : Thread Cert.MlpForwardIdeal.nD Cert.MlpForwardIdeal.τ).loc Cert.MlpForwardIdeal.main_arg3) = m ((c.tc : Thread Cert.MlpForwardIdeal.nD Cert.MlpForwardIdeal.τ).loc Cert.MlpForwardIdeal.main_arg3)
      ∧ r.2.mem ((c.tc : Thread Cert.MlpForwardIdeal.nD Cert.MlpForwardIdeal.τ).loc Cert.MlpForwardIdeal.main_arg4) = m ((c.tc : Thread Cert.MlpForwardIdeal.nD Cert.MlpForwardIdeal.τ).loc Cert.MlpForwardIdeal.main_arg4))
      ∧ r.2.sem = fun _ => 0)

def quiescent_MlpForwardReferenceIdeal [hMlpForwardReferenceIdeal : Cert.MlpForwardReferenceIdeal.Facts] : Prop :=
  ∀ (m : (ℓ : Loc Cert.MlpForwardReferenceIdeal.nD Cert.MlpForwardReferenceIdeal.τ Cert.MlpForwardReferenceIdeal.sig) → Buf (Elt Ideal) ℓ) (g : Dev Cert.MlpForwardReferenceIdeal.nD → PrngReg), Pre_MlpForwardReferenceIdeal m →
    θ_run (Cert.MlpForwardReferenceIdeal.defs (F := Ideal)) (onTc (τ := Cert.MlpForwardReferenceIdeal.τ) (Cert.MlpForwardReferenceIdeal.main (F := Ideal))) ⟨m, fun _ => 0, g⟩ (fun r => (∀ c : Dev Cert.MlpForwardReferenceIdeal.nD,
      r.2.mem ((c.tc : Thread Cert.MlpForwardReferenceIdeal.nD Cert.MlpForwardReferenceIdeal.τ).loc Cert.MlpForwardReferenceIdeal.main_arg0) = m ((c.tc : Thread Cert.MlpForwardReferenceIdeal.nD Cert.MlpForwardReferenceIdeal.τ).loc Cert.MlpForwardReferenceIdeal.main_arg0)
      ∧ r.2.mem ((c.tc : Thread Cert.MlpForwardReferenceIdeal.nD Cert.MlpForwardReferenceIdeal.τ).loc Cert.MlpForwardReferenceIdeal.main_arg1) = m ((c.tc : Thread Cert.MlpForwardReferenceIdeal.nD Cert.MlpForwardReferenceIdeal.τ).loc Cert.MlpForwardReferenceIdeal.main_arg1)
      ∧ r.2.mem ((c.tc : Thread Cert.MlpForwardReferenceIdeal.nD Cert.MlpForwardReferenceIdeal.τ).loc Cert.MlpForwardReferenceIdeal.main_arg2) = m ((c.tc : Thread Cert.MlpForwardReferenceIdeal.nD Cert.MlpForwardReferenceIdeal.τ).loc Cert.MlpForwardReferenceIdeal.main_arg2)
      ∧ r.2.mem ((c.tc : Thread Cert.MlpForwardReferenceIdeal.nD Cert.MlpForwardReferenceIdeal.τ).loc Cert.MlpForwardReferenceIdeal.main_arg3) = m ((c.tc : Thread Cert.MlpForwardReferenceIdeal.nD Cert.MlpForwardReferenceIdeal.τ).loc Cert.MlpForwardReferenceIdeal.main_arg3)
      ∧ r.2.mem ((c.tc : Thread Cert.MlpForwardReferenceIdeal.nD Cert.MlpForwardReferenceIdeal.τ).loc Cert.MlpForwardReferenceIdeal.main_arg4) = m ((c.tc : Thread Cert.MlpForwardReferenceIdeal.nD Cert.MlpForwardReferenceIdeal.τ).loc Cert.MlpForwardReferenceIdeal.main_arg4))
      ∧ r.2.sem = fun _ => 0)

def quiescent_Pieces [hPieces : Cert.Pieces.Facts] : Prop :=
  ∀ (m : (ℓ : Loc Cert.Pieces.nD Cert.Pieces.τ Cert.Pieces.sig) → Buf (Elt Bits) ℓ) (g : Dev Cert.Pieces.nD → PrngReg), Pre_Pieces m →
    θ_run (Cert.Pieces.defs (F := Bits)) (onTc (τ := Cert.Pieces.τ) (Cert.Pieces.main (F := Bits))) ⟨m, fun _ => 0, g⟩ (fun r => (∀ c : Dev Cert.Pieces.nD,
      r.2.mem ((c.tc : Thread Cert.Pieces.nD Cert.Pieces.τ).loc Cert.Pieces.main_arg0) = m ((c.tc : Thread Cert.Pieces.nD Cert.Pieces.τ).loc Cert.Pieces.main_arg0)
      ∧ r.2.mem ((c.tc : Thread Cert.Pieces.nD Cert.Pieces.τ).loc Cert.Pieces.main_arg1) = m ((c.tc : Thread Cert.Pieces.nD Cert.Pieces.τ).loc Cert.Pieces.main_arg1)
      ∧ r.2.mem ((c.tc : Thread Cert.Pieces.nD Cert.Pieces.τ).loc Cert.Pieces.main_arg2) = m ((c.tc : Thread Cert.Pieces.nD Cert.Pieces.τ).loc Cert.Pieces.main_arg2)
      ∧ r.2.mem ((c.tc : Thread Cert.Pieces.nD Cert.Pieces.τ).loc Cert.Pieces.main_arg3) = m ((c.tc : Thread Cert.Pieces.nD Cert.Pieces.τ).loc Cert.Pieces.main_arg3)
      ∧ r.2.mem ((c.tc : Thread Cert.Pieces.nD Cert.Pieces.τ).loc Cert.Pieces.main_arg4) = m ((c.tc : Thread Cert.Pieces.nD Cert.Pieces.τ).loc Cert.Pieces.main_arg4)
      ∧ r.2.mem ((c.tc : Thread Cert.Pieces.nD Cert.Pieces.τ).loc Cert.Pieces.main_arg5) = m ((c.tc : Thread Cert.Pieces.nD Cert.Pieces.τ).loc Cert.Pieces.main_arg5)
      ∧ r.2.mem ((c.tc : Thread Cert.Pieces.nD Cert.Pieces.τ).loc Cert.Pieces.main_arg6) = m ((c.tc : Thread Cert.Pieces.nD Cert.Pieces.τ).loc Cert.Pieces.main_arg6))
      ∧ r.2.sem = fun _ => 0)

def quiescent_PiecesIdeal [hPiecesIdeal : Cert.PiecesIdeal.Facts] : Prop :=
  ∀ (m : (ℓ : Loc Cert.PiecesIdeal.nD Cert.PiecesIdeal.τ Cert.PiecesIdeal.sig) → Buf (Elt Ideal) ℓ) (g : Dev Cert.PiecesIdeal.nD → PrngReg), Pre_PiecesIdeal m →
    θ_run (Cert.PiecesIdeal.defs (F := Ideal)) (onTc (τ := Cert.PiecesIdeal.τ) (Cert.PiecesIdeal.main (F := Ideal))) ⟨m, fun _ => 0, g⟩ (fun r => (∀ c : Dev Cert.PiecesIdeal.nD,
      r.2.mem ((c.tc : Thread Cert.PiecesIdeal.nD Cert.PiecesIdeal.τ).loc Cert.PiecesIdeal.main_arg0) = m ((c.tc : Thread Cert.PiecesIdeal.nD Cert.PiecesIdeal.τ).loc Cert.PiecesIdeal.main_arg0)
      ∧ r.2.mem ((c.tc : Thread Cert.PiecesIdeal.nD Cert.PiecesIdeal.τ).loc Cert.PiecesIdeal.main_arg1) = m ((c.tc : Thread Cert.PiecesIdeal.nD Cert.PiecesIdeal.τ).loc Cert.PiecesIdeal.main_arg1)
      ∧ r.2.mem ((c.tc : Thread Cert.PiecesIdeal.nD Cert.PiecesIdeal.τ).loc Cert.PiecesIdeal.main_arg2) = m ((c.tc : Thread Cert.PiecesIdeal.nD Cert.PiecesIdeal.τ).loc Cert.PiecesIdeal.main_arg2)
      ∧ r.2.mem ((c.tc : Thread Cert.PiecesIdeal.nD Cert.PiecesIdeal.τ).loc Cert.PiecesIdeal.main_arg3) = m ((c.tc : Thread Cert.PiecesIdeal.nD Cert.PiecesIdeal.τ).loc Cert.PiecesIdeal.main_arg3)
      ∧ r.2.mem ((c.tc : Thread Cert.PiecesIdeal.nD Cert.PiecesIdeal.τ).loc Cert.PiecesIdeal.main_arg4) = m ((c.tc : Thread Cert.PiecesIdeal.nD Cert.PiecesIdeal.τ).loc Cert.PiecesIdeal.main_arg4)
      ∧ r.2.mem ((c.tc : Thread Cert.PiecesIdeal.nD Cert.PiecesIdeal.τ).loc Cert.PiecesIdeal.main_arg5) = m ((c.tc : Thread Cert.PiecesIdeal.nD Cert.PiecesIdeal.τ).loc Cert.PiecesIdeal.main_arg5)
      ∧ r.2.mem ((c.tc : Thread Cert.PiecesIdeal.nD Cert.PiecesIdeal.τ).loc Cert.PiecesIdeal.main_arg6) = m ((c.tc : Thread Cert.PiecesIdeal.nD Cert.PiecesIdeal.τ).loc Cert.PiecesIdeal.main_arg6))
      ∧ r.2.sem = fun _ => 0)

def quiescent_PiecesReferenceIdeal [hPiecesReferenceIdeal : Cert.PiecesReferenceIdeal.Facts] : Prop :=
  ∀ (m : (ℓ : Loc Cert.PiecesReferenceIdeal.nD Cert.PiecesReferenceIdeal.τ Cert.PiecesReferenceIdeal.sig) → Buf (Elt Ideal) ℓ) (g : Dev Cert.PiecesReferenceIdeal.nD → PrngReg), Pre_PiecesReferenceIdeal m →
    θ_run (Cert.PiecesReferenceIdeal.defs (F := Ideal)) (onTc (τ := Cert.PiecesReferenceIdeal.τ) (Cert.PiecesReferenceIdeal.main (F := Ideal))) ⟨m, fun _ => 0, g⟩ (fun r => (∀ c : Dev Cert.PiecesReferenceIdeal.nD,
      r.2.mem ((c.tc : Thread Cert.PiecesReferenceIdeal.nD Cert.PiecesReferenceIdeal.τ).loc Cert.PiecesReferenceIdeal.main_arg0) = m ((c.tc : Thread Cert.PiecesReferenceIdeal.nD Cert.PiecesReferenceIdeal.τ).loc Cert.PiecesReferenceIdeal.main_arg0)
      ∧ r.2.mem ((c.tc : Thread Cert.PiecesReferenceIdeal.nD Cert.PiecesReferenceIdeal.τ).loc Cert.PiecesReferenceIdeal.main_arg1) = m ((c.tc : Thread Cert.PiecesReferenceIdeal.nD Cert.PiecesReferenceIdeal.τ).loc Cert.PiecesReferenceIdeal.main_arg1)
      ∧ r.2.mem ((c.tc : Thread Cert.PiecesReferenceIdeal.nD Cert.PiecesReferenceIdeal.τ).loc Cert.PiecesReferenceIdeal.main_arg2) = m ((c.tc : Thread Cert.PiecesReferenceIdeal.nD Cert.PiecesReferenceIdeal.τ).loc Cert.PiecesReferenceIdeal.main_arg2)
      ∧ r.2.mem ((c.tc : Thread Cert.PiecesReferenceIdeal.nD Cert.PiecesReferenceIdeal.τ).loc Cert.PiecesReferenceIdeal.main_arg3) = m ((c.tc : Thread Cert.PiecesReferenceIdeal.nD Cert.PiecesReferenceIdeal.τ).loc Cert.PiecesReferenceIdeal.main_arg3)
      ∧ r.2.mem ((c.tc : Thread Cert.PiecesReferenceIdeal.nD Cert.PiecesReferenceIdeal.τ).loc Cert.PiecesReferenceIdeal.main_arg4) = m ((c.tc : Thread Cert.PiecesReferenceIdeal.nD Cert.PiecesReferenceIdeal.τ).loc Cert.PiecesReferenceIdeal.main_arg4)
      ∧ r.2.mem ((c.tc : Thread Cert.PiecesReferenceIdeal.nD Cert.PiecesReferenceIdeal.τ).loc Cert.PiecesReferenceIdeal.main_arg5) = m ((c.tc : Thread Cert.PiecesReferenceIdeal.nD Cert.PiecesReferenceIdeal.τ).loc Cert.PiecesReferenceIdeal.main_arg5)
      ∧ r.2.mem ((c.tc : Thread Cert.PiecesReferenceIdeal.nD Cert.PiecesReferenceIdeal.τ).loc Cert.PiecesReferenceIdeal.main_arg6) = m ((c.tc : Thread Cert.PiecesReferenceIdeal.nD Cert.PiecesReferenceIdeal.τ).loc Cert.PiecesReferenceIdeal.main_arg6))
      ∧ r.2.sem = fun _ => 0)

def quiescent_Mixer [hMixer : Cert.Mixer.Facts] : Prop :=
  ∀ (m : (ℓ : Loc Cert.Mixer.nD Cert.Mixer.τ Cert.Mixer.sig) → Buf (Elt Bits) ℓ) (g : Dev Cert.Mixer.nD → PrngReg), Pre_Mixer m →
    θ_run (Cert.Mixer.defs (F := Bits)) (onTc (τ := Cert.Mixer.τ) (Cert.Mixer.main (F := Bits))) ⟨m, fun _ => 0, g⟩ (fun r => (∀ c : Dev Cert.Mixer.nD,
      r.2.mem ((c.tc : Thread Cert.Mixer.nD Cert.Mixer.τ).loc Cert.Mixer.main_arg0) = m ((c.tc : Thread Cert.Mixer.nD Cert.Mixer.τ).loc Cert.Mixer.main_arg0)
      ∧ r.2.mem ((c.tc : Thread Cert.Mixer.nD Cert.Mixer.τ).loc Cert.Mixer.main_arg1) = m ((c.tc : Thread Cert.Mixer.nD Cert.Mixer.τ).loc Cert.Mixer.main_arg1)
      ∧ r.2.mem ((c.tc : Thread Cert.Mixer.nD Cert.Mixer.τ).loc Cert.Mixer.main_arg2) = m ((c.tc : Thread Cert.Mixer.nD Cert.Mixer.τ).loc Cert.Mixer.main_arg2)
      ∧ r.2.mem ((c.tc : Thread Cert.Mixer.nD Cert.Mixer.τ).loc Cert.Mixer.main_arg3) = m ((c.tc : Thread Cert.Mixer.nD Cert.Mixer.τ).loc Cert.Mixer.main_arg3)
      ∧ r.2.mem ((c.tc : Thread Cert.Mixer.nD Cert.Mixer.τ).loc Cert.Mixer.main_arg4) = m ((c.tc : Thread Cert.Mixer.nD Cert.Mixer.τ).loc Cert.Mixer.main_arg4)
      ∧ r.2.mem ((c.tc : Thread Cert.Mixer.nD Cert.Mixer.τ).loc Cert.Mixer.main_arg5) = m ((c.tc : Thread Cert.Mixer.nD Cert.Mixer.τ).loc Cert.Mixer.main_arg5)
      ∧ r.2.mem ((c.tc : Thread Cert.Mixer.nD Cert.Mixer.τ).loc Cert.Mixer.main_arg6) = m ((c.tc : Thread Cert.Mixer.nD Cert.Mixer.τ).loc Cert.Mixer.main_arg6))
      ∧ r.2.sem = fun _ => 0)

def quiescent_MixerIdeal [hMixerIdeal : Cert.MixerIdeal.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6))
      ∧ r.2.sem = fun _ => 0)

def quiescent_MixerReferenceIdeal [hMixerReferenceIdeal : Cert.MixerReferenceIdeal.Facts] : Prop :=
  ∀ (m : (ℓ : Loc Cert.MixerReferenceIdeal.nD Cert.MixerReferenceIdeal.τ Cert.MixerReferenceIdeal.sig) → Buf (Elt Ideal) ℓ) (g : Dev Cert.MixerReferenceIdeal.nD → PrngReg), Pre_MixerReferenceIdeal m →
    θ_run (Cert.MixerReferenceIdeal.defs (F := Ideal)) (onTc (τ := Cert.MixerReferenceIdeal.τ) (Cert.MixerReferenceIdeal.main (F := Ideal))) ⟨m, fun _ => 0, g⟩ (fun r => (∀ c : Dev Cert.MixerReferenceIdeal.nD,
      r.2.mem ((c.tc : Thread Cert.MixerReferenceIdeal.nD Cert.MixerReferenceIdeal.τ).loc Cert.MixerReferenceIdeal.main_arg0) = m ((c.tc : Thread Cert.MixerReferenceIdeal.nD Cert.MixerReferenceIdeal.τ).loc Cert.MixerReferenceIdeal.main_arg0)
      ∧ r.2.mem ((c.tc : Thread Cert.MixerReferenceIdeal.nD Cert.MixerReferenceIdeal.τ).loc Cert.MixerReferenceIdeal.main_arg1) = m ((c.tc : Thread Cert.MixerReferenceIdeal.nD Cert.MixerReferenceIdeal.τ).loc Cert.MixerReferenceIdeal.main_arg1)
      ∧ r.2.mem ((c.tc : Thread Cert.MixerReferenceIdeal.nD Cert.MixerReferenceIdeal.τ).loc Cert.MixerReferenceIdeal.main_arg2) = m ((c.tc : Thread Cert.MixerReferenceIdeal.nD Cert.MixerReferenceIdeal.τ).loc Cert.MixerReferenceIdeal.main_arg2)
      ∧ r.2.mem ((c.tc : Thread Cert.MixerReferenceIdeal.nD Cert.MixerReferenceIdeal.τ).loc Cert.MixerReferenceIdeal.main_arg3) = m ((c.tc : Thread Cert.MixerReferenceIdeal.nD Cert.MixerReferenceIdeal.τ).loc Cert.MixerReferenceIdeal.main_arg3)
      ∧ r.2.mem ((c.tc : Thread Cert.MixerReferenceIdeal.nD Cert.MixerReferenceIdeal.τ).loc Cert.MixerReferenceIdeal.main_arg4) = m ((c.tc : Thread Cert.MixerReferenceIdeal.nD Cert.MixerReferenceIdeal.τ).loc Cert.MixerReferenceIdeal.main_arg4)
      ∧ r.2.mem ((c.tc : Thread Cert.MixerReferenceIdeal.nD Cert.MixerReferenceIdeal.τ).loc Cert.MixerReferenceIdeal.main_arg5) = m ((c.tc : Thread Cert.MixerReferenceIdeal.nD Cert.MixerReferenceIdeal.τ).loc Cert.MixerReferenceIdeal.main_arg5)
      ∧ r.2.mem ((c.tc : Thread Cert.MixerReferenceIdeal.nD Cert.MixerReferenceIdeal.τ).loc Cert.MixerReferenceIdeal.main_arg6) = m ((c.tc : Thread Cert.MixerReferenceIdeal.nD Cert.MixerReferenceIdeal.τ).loc Cert.MixerReferenceIdeal.main_arg6))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v35_0)) (v1 : (c : Dev Cert.KernelIdeal.nD) → Buf (Elt Ideal) ((c.tc : Thread Cert.KernelIdeal.nD Cert.KernelIdeal.τ).loc Cert.KernelIdeal.main_v35_1)) (v2 : (c : Dev Cert.KernelIdeal.nD) → Buf (Elt Ideal) ((c.tc : Thread Cert.KernelIdeal.nD Cert.KernelIdeal.τ).loc Cert.KernelIdeal.main_v35_2)) (v3 : (c : Dev Cert.KernelIdeal.nD) → Buf (Elt Ideal) ((c.tc : Thread Cert.KernelIdeal.nD Cert.KernelIdeal.τ).loc Cert.KernelIdeal.main_v35_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35_0) = v0 c
          ∧ r.2.mem ((c.tc : Thread Cert.KernelIdeal.nD Cert.KernelIdeal.τ).loc Cert.KernelIdeal.main_v35_1) = v1 c
          ∧ r.2.mem ((c.tc : Thread Cert.KernelIdeal.nD Cert.KernelIdeal.τ).loc Cert.KernelIdeal.main_v35_2) = v2 c
          ∧ r.2.mem ((c.tc : Thread Cert.KernelIdeal.nD Cert.KernelIdeal.τ).loc Cert.KernelIdeal.main_v35_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v89) = v1 c
          ∧ r.2.mem ((c.tc : Thread Cert.ReferenceIdeal.nD Cert.ReferenceIdeal.τ).loc Cert.ReferenceIdeal.main_v90) = v2 c
          ∧ r.2.mem ((c.tc : Thread Cert.ReferenceIdeal.nD Cert.ReferenceIdeal.τ).loc Cert.ReferenceIdeal.main_v92) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Mlp_MlpIdeal : Prop :=
  True

def algebraic_MlpIdeal_MlpReferenceIdeal [hMlpIdeal : Cert.MlpIdeal.Facts] [hMlpReferenceIdeal : Cert.MlpReferenceIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpReferenceIdeal.nD Cert.MlpReferenceIdeal.τ Cert.MlpReferenceIdeal.sig) → Buf (Elt Ideal) ℓ) (g' : Dev Cert.MlpReferenceIdeal.nD → PrngReg), Pre_MlpIdeal m →
    (∀ c : Dev Cert.MlpIdeal.nD,
      m' ((c.tc : Thread Cert.MlpReferenceIdeal.nD Cert.MlpReferenceIdeal.τ).loc Cert.MlpReferenceIdeal.main_arg0) = m ((c.tc : Thread Cert.MlpIdeal.nD Cert.MlpIdeal.τ).loc Cert.MlpIdeal.main_arg0)
      ∧ m' ((c.tc : Thread Cert.MlpReferenceIdeal.nD Cert.MlpReferenceIdeal.τ).loc Cert.MlpReferenceIdeal.main_arg1) = m ((c.tc : Thread Cert.MlpIdeal.nD Cert.MlpIdeal.τ).loc Cert.MlpIdeal.main_arg1)
      ∧ m' ((c.tc : Thread Cert.MlpReferenceIdeal.nD Cert.MlpReferenceIdeal.τ).loc Cert.MlpReferenceIdeal.main_arg2) = m ((c.tc : Thread Cert.MlpIdeal.nD Cert.MlpIdeal.τ).loc Cert.MlpIdeal.main_arg2)
      ∧ m' ((c.tc : Thread Cert.MlpReferenceIdeal.nD Cert.MlpReferenceIdeal.τ).loc Cert.MlpReferenceIdeal.main_arg3) = m ((c.tc : Thread Cert.MlpIdeal.nD Cert.MlpIdeal.τ).loc Cert.MlpIdeal.main_arg3)) →
    ∃ (v0 : (c : Dev Cert.MlpIdeal.nD) → Buf (Elt Ideal) ((c.tc : Thread Cert.MlpIdeal.nD Cert.MlpIdeal.τ).loc Cert.MlpIdeal.main_v6_0)) (v1 : (c : Dev Cert.MlpIdeal.nD) → Buf (Elt Ideal) ((c.tc : Thread Cert.MlpIdeal.nD Cert.MlpIdeal.τ).loc Cert.MlpIdeal.main_v6_1)) (v2 : (c : Dev Cert.MlpIdeal.nD) → Buf (Elt Ideal) ((c.tc : Thread Cert.MlpIdeal.nD Cert.MlpIdeal.τ).loc Cert.MlpIdeal.main_v6_2)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v6_0) = v0 c
          ∧ r.2.mem ((c.tc : Thread Cert.MlpIdeal.nD Cert.MlpIdeal.τ).loc Cert.MlpIdeal.main_v6_1) = v1 c
          ∧ r.2.mem ((c.tc : Thread Cert.MlpIdeal.nD Cert.MlpIdeal.τ).loc Cert.MlpIdeal.main_v6_2) = v2 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3))
      ∧ θ_run (Cert.MlpReferenceIdeal.defs (F := Ideal)) (onTc (τ := Cert.MlpReferenceIdeal.τ) (Cert.MlpReferenceIdeal.main (F := Ideal))) ⟨m', fun _ => 0, g'⟩ (fun r => ∀ c : Dev Cert.MlpReferenceIdeal.nD,
          r.2.mem ((c.tc : Thread Cert.MlpReferenceIdeal.nD Cert.MlpReferenceIdeal.τ).loc Cert.MlpReferenceIdeal.main_v20) = v0 c
          ∧ r.2.mem ((c.tc : Thread Cert.MlpReferenceIdeal.nD Cert.MlpReferenceIdeal.τ).loc Cert.MlpReferenceIdeal.main_v21) = v1 c
          ∧ r.2.mem ((c.tc : Thread Cert.MlpReferenceIdeal.nD Cert.MlpReferenceIdeal.τ).loc Cert.MlpReferenceIdeal.main_v22) = v2 c
          ∧ r.2.mem ((c.tc : Thread Cert.MlpReferenceIdeal.nD Cert.MlpReferenceIdeal.τ).loc Cert.MlpReferenceIdeal.main_arg0) = m' ((c.tc : Thread Cert.MlpReferenceIdeal.nD Cert.MlpReferenceIdeal.τ).loc Cert.MlpReferenceIdeal.main_arg0)
          ∧ r.2.mem ((c.tc : Thread Cert.MlpReferenceIdeal.nD Cert.MlpReferenceIdeal.τ).loc Cert.MlpReferenceIdeal.main_arg1) = m' ((c.tc : Thread Cert.MlpReferenceIdeal.nD Cert.MlpReferenceIdeal.τ).loc Cert.MlpReferenceIdeal.main_arg1)
          ∧ r.2.mem ((c.tc : Thread Cert.MlpReferenceIdeal.nD Cert.MlpReferenceIdeal.τ).loc Cert.MlpReferenceIdeal.main_arg2) = m' ((c.tc : Thread Cert.MlpReferenceIdeal.nD Cert.MlpReferenceIdeal.τ).loc Cert.MlpReferenceIdeal.main_arg2)
          ∧ r.2.mem ((c.tc : Thread Cert.MlpReferenceIdeal.nD Cert.MlpReferenceIdeal.τ).loc Cert.MlpReferenceIdeal.main_arg3) = m' ((c.tc : Thread Cert.MlpReferenceIdeal.nD Cert.MlpReferenceIdeal.τ).loc Cert.MlpReferenceIdeal.main_arg3))

def preserves_MlpForward_MlpForwardIdeal : Prop :=
  True

def algebraic_MlpForwardIdeal_MlpForwardReferenceIdeal [hMlpForwardIdeal : Cert.MlpForwardIdeal.Facts] [hMlpForwardReferenceIdeal : Cert.MlpForwardReferenceIdeal.Facts] : Prop :=
  ∀ (m : (ℓ : Loc Cert.MlpForwardIdeal.nD Cert.MlpForwardIdeal.τ Cert.MlpForwardIdeal.sig) → Buf (Elt Ideal) ℓ) (g : Dev Cert.MlpForwardIdeal.nD → PrngReg)
    (m' : (ℓ : Loc Cert.MlpForwardReferenceIdeal.nD Cert.MlpForwardReferenceIdeal.τ Cert.MlpForwardReferenceIdeal.sig) → Buf (Elt Ideal) ℓ) (g' : Dev Cert.MlpForwardReferenceIdeal.nD → PrngReg), Pre_MlpForwardIdeal m →
    (∀ c : Dev Cert.MlpForwardIdeal.nD,
      m' ((c.tc : Thread Cert.MlpForwardReferenceIdeal.nD Cert.MlpForwardReferenceIdeal.τ).loc Cert.MlpForwardReferenceIdeal.main_arg0) = m ((c.tc : Thread Cert.MlpForwardIdeal.nD Cert.MlpForwardIdeal.τ).loc Cert.MlpForwardIdeal.main_arg0)
      ∧ m' ((c.tc : Thread Cert.MlpForwardReferenceIdeal.nD Cert.MlpForwardReferenceIdeal.τ).loc Cert.MlpForwardReferenceIdeal.main_arg1) = m ((c.tc : Thread Cert.MlpForwardIdeal.nD Cert.MlpForwardIdeal.τ).loc Cert.MlpForwardIdeal.main_arg1)
      ∧ m' ((c.tc : Thread Cert.MlpForwardReferenceIdeal.nD Cert.MlpForwardReferenceIdeal.τ).loc Cert.MlpForwardReferenceIdeal.main_arg2) = m ((c.tc : Thread Cert.MlpForwardIdeal.nD Cert.MlpForwardIdeal.τ).loc Cert.MlpForwardIdeal.main_arg2)
      ∧ m' ((c.tc : Thread Cert.MlpForwardReferenceIdeal.nD Cert.MlpForwardReferenceIdeal.τ).loc Cert.MlpForwardReferenceIdeal.main_arg3) = m ((c.tc : Thread Cert.MlpForwardIdeal.nD Cert.MlpForwardIdeal.τ).loc Cert.MlpForwardIdeal.main_arg3)
      ∧ m' ((c.tc : Thread Cert.MlpForwardReferenceIdeal.nD Cert.MlpForwardReferenceIdeal.τ).loc Cert.MlpForwardReferenceIdeal.main_arg4) = m ((c.tc : Thread Cert.MlpForwardIdeal.nD Cert.MlpForwardIdeal.τ).loc Cert.MlpForwardIdeal.main_arg4)) →
    ∃ (v0 : (c : Dev Cert.MlpForwardIdeal.nD) → Buf (Elt Ideal) ((c.tc : Thread Cert.MlpForwardIdeal.nD Cert.MlpForwardIdeal.τ).loc Cert.MlpForwardIdeal.main_v7_0)) (v1 : (c : Dev Cert.MlpForwardIdeal.nD) → Buf (Elt Ideal) ((c.tc : Thread Cert.MlpForwardIdeal.nD Cert.MlpForwardIdeal.τ).loc Cert.MlpForwardIdeal.main_v7_1)) (v2 : (c : Dev Cert.MlpForwardIdeal.nD) → Buf (Elt Ideal) ((c.tc : Thread Cert.MlpForwardIdeal.nD Cert.MlpForwardIdeal.τ).loc Cert.MlpForwardIdeal.main_v7_2)),
      θ_run (Cert.MlpForwardIdeal.defs (F := Ideal)) (onTc (τ := Cert.MlpForwardIdeal.τ) (Cert.MlpForwardIdeal.main (F := Ideal))) ⟨m, fun _ => 0, g⟩ (fun r => ∀ c : Dev Cert.MlpForwardIdeal.nD,
          r.2.mem ((c.tc : Thread Cert.MlpForwardIdeal.nD Cert.MlpForwardIdeal.τ).loc Cert.MlpForwardIdeal.main_v7_0) = v0 c
          ∧ r.2.mem ((c.tc : Thread Cert.MlpForwardIdeal.nD Cert.MlpForwardIdeal.τ).loc Cert.MlpForwardIdeal.main_v7_1) = v1 c
          ∧ r.2.mem ((c.tc : Thread Cert.MlpForwardIdeal.nD Cert.MlpForwardIdeal.τ).loc Cert.MlpForwardIdeal.main_v7_2) = v2 c
          ∧ r.2.mem ((c.tc : Thread Cert.MlpForwardIdeal.nD Cert.MlpForwardIdeal.τ).loc Cert.MlpForwardIdeal.main_arg0) = m ((c.tc : Thread Cert.MlpForwardIdeal.nD Cert.MlpForwardIdeal.τ).loc Cert.MlpForwardIdeal.main_arg0)
          ∧ r.2.mem ((c.tc : Thread Cert.MlpForwardIdeal.nD Cert.MlpForwardIdeal.τ).loc Cert.MlpForwardIdeal.main_arg1) = m ((c.tc : Thread Cert.MlpForwardIdeal.nD Cert.MlpForwardIdeal.τ).loc Cert.MlpForwardIdeal.main_arg1)
          ∧ r.2.mem ((c.tc : Thread Cert.MlpForwardIdeal.nD Cert.MlpForwardIdeal.τ).loc Cert.MlpForwardIdeal.main_arg2) = m ((c.tc : Thread Cert.MlpForwardIdeal.nD Cert.MlpForwardIdeal.τ).loc Cert.MlpForwardIdeal.main_arg2)
          ∧ r.2.mem ((c.tc : Thread Cert.MlpForwardIdeal.nD Cert.MlpForwardIdeal.τ).loc Cert.MlpForwardIdeal.main_arg3) = m ((c.tc : Thread Cert.MlpForwardIdeal.nD Cert.MlpForwardIdeal.τ).loc Cert.MlpForwardIdeal.main_arg3)
          ∧ r.2.mem ((c.tc : Thread Cert.MlpForwardIdeal.nD Cert.MlpForwardIdeal.τ).loc Cert.MlpForwardIdeal.main_arg4) = m ((c.tc : Thread Cert.MlpForwardIdeal.nD Cert.MlpForwardIdeal.τ).loc Cert.MlpForwardIdeal.main_arg4))
      ∧ θ_run (Cert.MlpForwardReferenceIdeal.defs (F := Ideal)) (onTc (τ := Cert.MlpForwardReferenceIdeal.τ) (Cert.MlpForwardReferenceIdeal.main (F := Ideal))) ⟨m', fun _ => 0, g'⟩ (fun r => ∀ c : Dev Cert.MlpForwardReferenceIdeal.nD,
          r.2.mem ((c.tc : Thread Cert.MlpForwardReferenceIdeal.nD Cert.MlpForwardReferenceIdeal.τ).loc Cert.MlpForwardReferenceIdeal.main_v5) = v0 c
          ∧ r.2.mem ((c.tc : Thread Cert.MlpForwardReferenceIdeal.nD Cert.MlpForwardReferenceIdeal.τ).loc Cert.MlpForwardReferenceIdeal.main_v4) = v1 c
          ∧ r.2.mem ((c.tc : Thread Cert.MlpForwardReferenceIdeal.nD Cert.MlpForwardReferenceIdeal.τ).loc Cert.MlpForwardReferenceIdeal.main_v19) = v2 c
          ∧ r.2.mem ((c.tc : Thread Cert.MlpForwardReferenceIdeal.nD Cert.MlpForwardReferenceIdeal.τ).loc Cert.MlpForwardReferenceIdeal.main_arg0) = m' ((c.tc : Thread Cert.MlpForwardReferenceIdeal.nD Cert.MlpForwardReferenceIdeal.τ).loc Cert.MlpForwardReferenceIdeal.main_arg0)
          ∧ r.2.mem ((c.tc : Thread Cert.MlpForwardReferenceIdeal.nD Cert.MlpForwardReferenceIdeal.τ).loc Cert.MlpForwardReferenceIdeal.main_arg1) = m' ((c.tc : Thread Cert.MlpForwardReferenceIdeal.nD Cert.MlpForwardReferenceIdeal.τ).loc Cert.MlpForwardReferenceIdeal.main_arg1)
          ∧ r.2.mem ((c.tc : Thread Cert.MlpForwardReferenceIdeal.nD Cert.MlpForwardReferenceIdeal.τ).loc Cert.MlpForwardReferenceIdeal.main_arg2) = m' ((c.tc : Thread Cert.MlpForwardReferenceIdeal.nD Cert.MlpForwardReferenceIdeal.τ).loc Cert.MlpForwardReferenceIdeal.main_arg2)
          ∧ r.2.mem ((c.tc : Thread Cert.MlpForwardReferenceIdeal.nD Cert.MlpForwardReferenceIdeal.τ).loc Cert.MlpForwardReferenceIdeal.main_arg3) = m' ((c.tc : Thread Cert.MlpForwardReferenceIdeal.nD Cert.MlpForwardReferenceIdeal.τ).loc Cert.MlpForwardReferenceIdeal.main_arg3)
          ∧ r.2.mem ((c.tc : Thread Cert.MlpForwardReferenceIdeal.nD Cert.MlpForwardReferenceIdeal.τ).loc Cert.MlpForwardReferenceIdeal.main_arg4) = m' ((c.tc : Thread Cert.MlpForwardReferenceIdeal.nD Cert.MlpForwardReferenceIdeal.τ).loc Cert.MlpForwardReferenceIdeal.main_arg4))

def preserves_Pieces_PiecesIdeal : Prop :=
  True

def algebraic_PiecesIdeal_PiecesReferenceIdeal [hPiecesIdeal : Cert.PiecesIdeal.Facts] [hPiecesReferenceIdeal : Cert.PiecesReferenceIdeal.Facts] : Prop :=
  ∀ (m : (ℓ : Loc Cert.PiecesIdeal.nD Cert.PiecesIdeal.τ Cert.PiecesIdeal.sig) → Buf (Elt Ideal) ℓ) (g : Dev Cert.PiecesIdeal.nD → PrngReg)
    (m' : (ℓ : Loc Cert.PiecesReferenceIdeal.nD Cert.PiecesReferenceIdeal.τ Cert.PiecesReferenceIdeal.sig) → Buf (Elt Ideal) ℓ) (g' : Dev Cert.PiecesReferenceIdeal.nD → PrngReg), Pre_PiecesIdeal m →
    (∀ c : Dev Cert.PiecesIdeal.nD,
      m' ((c.tc : Thread Cert.PiecesReferenceIdeal.nD Cert.PiecesReferenceIdeal.τ).loc Cert.PiecesReferenceIdeal.main_arg0) = m ((c.tc : Thread Cert.PiecesIdeal.nD Cert.PiecesIdeal.τ).loc Cert.PiecesIdeal.main_arg0)
      ∧ m' ((c.tc : Thread Cert.PiecesReferenceIdeal.nD Cert.PiecesReferenceIdeal.τ).loc Cert.PiecesReferenceIdeal.main_arg1) = m ((c.tc : Thread Cert.PiecesIdeal.nD Cert.PiecesIdeal.τ).loc Cert.PiecesIdeal.main_arg1)
      ∧ m' ((c.tc : Thread Cert.PiecesReferenceIdeal.nD Cert.PiecesReferenceIdeal.τ).loc Cert.PiecesReferenceIdeal.main_arg2) = m ((c.tc : Thread Cert.PiecesIdeal.nD Cert.PiecesIdeal.τ).loc Cert.PiecesIdeal.main_arg2)
      ∧ m' ((c.tc : Thread Cert.PiecesReferenceIdeal.nD Cert.PiecesReferenceIdeal.τ).loc Cert.PiecesReferenceIdeal.main_arg3) = m ((c.tc : Thread Cert.PiecesIdeal.nD Cert.PiecesIdeal.τ).loc Cert.PiecesIdeal.main_arg3)
      ∧ m' ((c.tc : Thread Cert.PiecesReferenceIdeal.nD Cert.PiecesReferenceIdeal.τ).loc Cert.PiecesReferenceIdeal.main_arg4) = m ((c.tc : Thread Cert.PiecesIdeal.nD Cert.PiecesIdeal.τ).loc Cert.PiecesIdeal.main_arg4)
      ∧ m' ((c.tc : Thread Cert.PiecesReferenceIdeal.nD Cert.PiecesReferenceIdeal.τ).loc Cert.PiecesReferenceIdeal.main_arg5) = m ((c.tc : Thread Cert.PiecesIdeal.nD Cert.PiecesIdeal.τ).loc Cert.PiecesIdeal.main_arg5)
      ∧ m' ((c.tc : Thread Cert.PiecesReferenceIdeal.nD Cert.PiecesReferenceIdeal.τ).loc Cert.PiecesReferenceIdeal.main_arg6) = m ((c.tc : Thread Cert.PiecesIdeal.nD Cert.PiecesIdeal.τ).loc Cert.PiecesIdeal.main_arg6)) →
    ∃ (v0 : (c : Dev Cert.PiecesIdeal.nD) → Buf (Elt Ideal) ((c.tc : Thread Cert.PiecesIdeal.nD Cert.PiecesIdeal.τ).loc Cert.PiecesIdeal.main_v7_0)) (v1 : (c : Dev Cert.PiecesIdeal.nD) → Buf (Elt Ideal) ((c.tc : Thread Cert.PiecesIdeal.nD Cert.PiecesIdeal.τ).loc Cert.PiecesIdeal.main_v7_1)) (v2 : (c : Dev Cert.PiecesIdeal.nD) → Buf (Elt Ideal) ((c.tc : Thread Cert.PiecesIdeal.nD Cert.PiecesIdeal.τ).loc Cert.PiecesIdeal.main_v7_2)) (v3 : (c : Dev Cert.PiecesIdeal.nD) → Buf (Elt Ideal) ((c.tc : Thread Cert.PiecesIdeal.nD Cert.PiecesIdeal.τ).loc Cert.PiecesIdeal.main_v7_3)) (v4 : (c : Dev Cert.PiecesIdeal.nD) → Buf (Elt Ideal) ((c.tc : Thread Cert.PiecesIdeal.nD Cert.PiecesIdeal.τ).loc Cert.PiecesIdeal.main_v7_4)) (v5 : (c : Dev Cert.PiecesIdeal.nD) → Buf (Elt Ideal) ((c.tc : Thread Cert.PiecesIdeal.nD Cert.PiecesIdeal.τ).loc Cert.PiecesIdeal.main_v7_5)),
      θ_run (Cert.PiecesIdeal.defs (F := Ideal)) (onTc (τ := Cert.PiecesIdeal.τ) (Cert.PiecesIdeal.main (F := Ideal))) ⟨m, fun _ => 0, g⟩ (fun r => ∀ c : Dev Cert.PiecesIdeal.nD,
          r.2.mem ((c.tc : Thread Cert.PiecesIdeal.nD Cert.PiecesIdeal.τ).loc Cert.PiecesIdeal.main_v7_0) = v0 c
          ∧ r.2.mem ((c.tc : Thread Cert.PiecesIdeal.nD Cert.PiecesIdeal.τ).loc Cert.PiecesIdeal.main_v7_1) = v1 c
          ∧ r.2.mem ((c.tc : Thread Cert.PiecesIdeal.nD Cert.PiecesIdeal.τ).loc Cert.PiecesIdeal.main_v7_2) = v2 c
          ∧ r.2.mem ((c.tc : Thread Cert.PiecesIdeal.nD Cert.PiecesIdeal.τ).loc Cert.PiecesIdeal.main_v7_3) = v3 c
          ∧ r.2.mem ((c.tc : Thread Cert.PiecesIdeal.nD Cert.PiecesIdeal.τ).loc Cert.PiecesIdeal.main_v7_4) = v4 c
          ∧ r.2.mem ((c.tc : Thread Cert.PiecesIdeal.nD Cert.PiecesIdeal.τ).loc Cert.PiecesIdeal.main_v7_5) = v5 c
          ∧ r.2.mem ((c.tc : Thread Cert.PiecesIdeal.nD Cert.PiecesIdeal.τ).loc Cert.PiecesIdeal.main_arg0) = m ((c.tc : Thread Cert.PiecesIdeal.nD Cert.PiecesIdeal.τ).loc Cert.PiecesIdeal.main_arg0)
          ∧ r.2.mem ((c.tc : Thread Cert.PiecesIdeal.nD Cert.PiecesIdeal.τ).loc Cert.PiecesIdeal.main_arg1) = m ((c.tc : Thread Cert.PiecesIdeal.nD Cert.PiecesIdeal.τ).loc Cert.PiecesIdeal.main_arg1)
          ∧ r.2.mem ((c.tc : Thread Cert.PiecesIdeal.nD Cert.PiecesIdeal.τ).loc Cert.PiecesIdeal.main_arg2) = m ((c.tc : Thread Cert.PiecesIdeal.nD Cert.PiecesIdeal.τ).loc Cert.PiecesIdeal.main_arg2)
          ∧ r.2.mem ((c.tc : Thread Cert.PiecesIdeal.nD Cert.PiecesIdeal.τ).loc Cert.PiecesIdeal.main_arg3) = m ((c.tc : Thread Cert.PiecesIdeal.nD Cert.PiecesIdeal.τ).loc Cert.PiecesIdeal.main_arg3)
          ∧ r.2.mem ((c.tc : Thread Cert.PiecesIdeal.nD Cert.PiecesIdeal.τ).loc Cert.PiecesIdeal.main_arg4) = m ((c.tc : Thread Cert.PiecesIdeal.nD Cert.PiecesIdeal.τ).loc Cert.PiecesIdeal.main_arg4)
          ∧ r.2.mem ((c.tc : Thread Cert.PiecesIdeal.nD Cert.PiecesIdeal.τ).loc Cert.PiecesIdeal.main_arg5) = m ((c.tc : Thread Cert.PiecesIdeal.nD Cert.PiecesIdeal.τ).loc Cert.PiecesIdeal.main_arg5)
          ∧ r.2.mem ((c.tc : Thread Cert.PiecesIdeal.nD Cert.PiecesIdeal.τ).loc Cert.PiecesIdeal.main_arg6) = m ((c.tc : Thread Cert.PiecesIdeal.nD Cert.PiecesIdeal.τ).loc Cert.PiecesIdeal.main_arg6))
      ∧ θ_run (Cert.PiecesReferenceIdeal.defs (F := Ideal)) (onTc (τ := Cert.PiecesReferenceIdeal.τ) (Cert.PiecesReferenceIdeal.main (F := Ideal))) ⟨m', fun _ => 0, g'⟩ (fun r => ∀ c : Dev Cert.PiecesReferenceIdeal.nD,
          r.2.mem ((c.tc : Thread Cert.PiecesReferenceIdeal.nD Cert.PiecesReferenceIdeal.τ).loc Cert.PiecesReferenceIdeal.main_v3) = v0 c
          ∧ r.2.mem ((c.tc : Thread Cert.PiecesReferenceIdeal.nD Cert.PiecesReferenceIdeal.τ).loc Cert.PiecesReferenceIdeal.main_v7) = v1 c
          ∧ r.2.mem ((c.tc : Thread Cert.PiecesReferenceIdeal.nD Cert.PiecesReferenceIdeal.τ).loc Cert.PiecesReferenceIdeal.main_v11) = v2 c
          ∧ r.2.mem ((c.tc : Thread Cert.PiecesReferenceIdeal.nD Cert.PiecesReferenceIdeal.τ).loc Cert.PiecesReferenceIdeal.main_v15) = v3 c
          ∧ r.2.mem ((c.tc : Thread Cert.PiecesReferenceIdeal.nD Cert.PiecesReferenceIdeal.τ).loc Cert.PiecesReferenceIdeal.main_v19) = v4 c
          ∧ r.2.mem ((c.tc : Thread Cert.PiecesReferenceIdeal.nD Cert.PiecesReferenceIdeal.τ).loc Cert.PiecesReferenceIdeal.main_v23) = v5 c
          ∧ r.2.mem ((c.tc : Thread Cert.PiecesReferenceIdeal.nD Cert.PiecesReferenceIdeal.τ).loc Cert.PiecesReferenceIdeal.main_arg0) = m' ((c.tc : Thread Cert.PiecesReferenceIdeal.nD Cert.PiecesReferenceIdeal.τ).loc Cert.PiecesReferenceIdeal.main_arg0)
          ∧ r.2.mem ((c.tc : Thread Cert.PiecesReferenceIdeal.nD Cert.PiecesReferenceIdeal.τ).loc Cert.PiecesReferenceIdeal.main_arg1) = m' ((c.tc : Thread Cert.PiecesReferenceIdeal.nD Cert.PiecesReferenceIdeal.τ).loc Cert.PiecesReferenceIdeal.main_arg1)
          ∧ r.2.mem ((c.tc : Thread Cert.PiecesReferenceIdeal.nD Cert.PiecesReferenceIdeal.τ).loc Cert.PiecesReferenceIdeal.main_arg2) = m' ((c.tc : Thread Cert.PiecesReferenceIdeal.nD Cert.PiecesReferenceIdeal.τ).loc Cert.PiecesReferenceIdeal.main_arg2)
          ∧ r.2.mem ((c.tc : Thread Cert.PiecesReferenceIdeal.nD Cert.PiecesReferenceIdeal.τ).loc Cert.PiecesReferenceIdeal.main_arg3) = m' ((c.tc : Thread Cert.PiecesReferenceIdeal.nD Cert.PiecesReferenceIdeal.τ).loc Cert.PiecesReferenceIdeal.main_arg3)
          ∧ r.2.mem ((c.tc : Thread Cert.PiecesReferenceIdeal.nD Cert.PiecesReferenceIdeal.τ).loc Cert.PiecesReferenceIdeal.main_arg4) = m' ((c.tc : Thread Cert.PiecesReferenceIdeal.nD Cert.PiecesReferenceIdeal.τ).loc Cert.PiecesReferenceIdeal.main_arg4)
          ∧ r.2.mem ((c.tc : Thread Cert.PiecesReferenceIdeal.nD Cert.PiecesReferenceIdeal.τ).loc Cert.PiecesReferenceIdeal.main_arg5) = m' ((c.tc : Thread Cert.PiecesReferenceIdeal.nD Cert.PiecesReferenceIdeal.τ).loc Cert.PiecesReferenceIdeal.main_arg5)
          ∧ r.2.mem ((c.tc : Thread Cert.PiecesReferenceIdeal.nD Cert.PiecesReferenceIdeal.τ).loc Cert.PiecesReferenceIdeal.main_arg6) = m' ((c.tc : Thread Cert.PiecesReferenceIdeal.nD Cert.PiecesReferenceIdeal.τ).loc Cert.PiecesReferenceIdeal.main_arg6))

def preserves_Mixer_MixerIdeal : Prop :=
  True

def algebraic_MixerIdeal_MixerReferenceIdeal [hMixerIdeal : Cert.MixerIdeal.Facts] [hMixerReferenceIdeal : Cert.MixerReferenceIdeal.Facts] : Prop :=
  ∀ (m : (ℓ : Loc Cert.MixerIdeal.nD Cert.MixerIdeal.τ Cert.MixerIdeal.sig) → Buf (Elt Ideal) ℓ) (g : Dev Cert.MixerIdeal.nD → PrngReg)
    (m' : (ℓ : Loc Cert.MixerReferenceIdeal.nD Cert.MixerReferenceIdeal.τ Cert.MixerReferenceIdeal.sig) → Buf (Elt Ideal) ℓ) (g' : Dev Cert.MixerReferenceIdeal.nD → PrngReg), Pre_MixerIdeal m →
    (∀ c : Dev Cert.MixerIdeal.nD,
      m' ((c.tc : Thread Cert.MixerReferenceIdeal.nD Cert.MixerReferenceIdeal.τ).loc Cert.MixerReferenceIdeal.main_arg0) = m ((c.tc : Thread Cert.MixerIdeal.nD Cert.MixerIdeal.τ).loc Cert.MixerIdeal.main_arg0)
      ∧ m' ((c.tc : Thread Cert.MixerReferenceIdeal.nD Cert.MixerReferenceIdeal.τ).loc Cert.MixerReferenceIdeal.main_arg1) = m ((c.tc : Thread Cert.MixerIdeal.nD Cert.MixerIdeal.τ).loc Cert.MixerIdeal.main_arg1)
      ∧ m' ((c.tc : Thread Cert.MixerReferenceIdeal.nD Cert.MixerReferenceIdeal.τ).loc Cert.MixerReferenceIdeal.main_arg2) = m ((c.tc : Thread Cert.MixerIdeal.nD Cert.MixerIdeal.τ).loc Cert.MixerIdeal.main_arg2)
      ∧ m' ((c.tc : Thread Cert.MixerReferenceIdeal.nD Cert.MixerReferenceIdeal.τ).loc Cert.MixerReferenceIdeal.main_arg3) = m ((c.tc : Thread Cert.MixerIdeal.nD Cert.MixerIdeal.τ).loc Cert.MixerIdeal.main_arg3)
      ∧ m' ((c.tc : Thread Cert.MixerReferenceIdeal.nD Cert.MixerReferenceIdeal.τ).loc Cert.MixerReferenceIdeal.main_arg4) = m ((c.tc : Thread Cert.MixerIdeal.nD Cert.MixerIdeal.τ).loc Cert.MixerIdeal.main_arg4)
      ∧ m' ((c.tc : Thread Cert.MixerReferenceIdeal.nD Cert.MixerReferenceIdeal.τ).loc Cert.MixerReferenceIdeal.main_arg5) = m ((c.tc : Thread Cert.MixerIdeal.nD Cert.MixerIdeal.τ).loc Cert.MixerIdeal.main_arg5)
      ∧ m' ((c.tc : Thread Cert.MixerReferenceIdeal.nD Cert.MixerReferenceIdeal.τ).loc Cert.MixerReferenceIdeal.main_arg6) = m ((c.tc : Thread Cert.MixerIdeal.nD Cert.MixerIdeal.τ).loc Cert.MixerIdeal.main_arg6)) →
    ∃ (v0 : (c : Dev Cert.MixerIdeal.nD) → Buf (Elt Ideal) ((c.tc : Thread Cert.MixerIdeal.nD Cert.MixerIdeal.τ).loc Cert.MixerIdeal.main_v5_0)) (v1 : (c : Dev Cert.MixerIdeal.nD) → Buf (Elt Ideal) ((c.tc : Thread Cert.MixerIdeal.nD Cert.MixerIdeal.τ).loc Cert.MixerIdeal.main_v5_1)) (v2 : (c : Dev Cert.MixerIdeal.nD) → Buf (Elt Ideal) ((c.tc : Thread Cert.MixerIdeal.nD Cert.MixerIdeal.τ).loc Cert.MixerIdeal.main_v5_2)),
      θ_run (Cert.MixerIdeal.defs (F := Ideal)) (onTc (τ := Cert.MixerIdeal.τ) (Cert.MixerIdeal.main (F := Ideal))) ⟨m, fun _ => 0, g⟩ (fun r => ∀ c : Dev Cert.MixerIdeal.nD,
          r.2.mem ((c.tc : Thread Cert.MixerIdeal.nD Cert.MixerIdeal.τ).loc Cert.MixerIdeal.main_v5_0) = v0 c
          ∧ r.2.mem ((c.tc : Thread Cert.MixerIdeal.nD Cert.MixerIdeal.τ).loc Cert.MixerIdeal.main_v5_1) = v1 c
          ∧ r.2.mem ((c.tc : Thread Cert.MixerIdeal.nD Cert.MixerIdeal.τ).loc Cert.MixerIdeal.main_v5_2) = v2 c
          ∧ r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
          ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
          ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
          ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
          ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
          ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
          ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6))
      ∧ θ_run (Cert.MixerReferenceIdeal.defs (F := Ideal)) (onTc (τ := Cert.MixerReferenceIdeal.τ) (Cert.MixerReferenceIdeal.main (F := Ideal))) ⟨m', fun _ => 0, g'⟩ (fun r => ∀ c : Dev Cert.MixerReferenceIdeal.nD,
          r.2.mem ((c.tc : Thread Cert.MixerReferenceIdeal.nD Cert.MixerReferenceIdeal.τ).loc Cert.MixerReferenceIdeal.main_v28) = v0 c
          ∧ r.2.mem ((c.tc : Thread Cert.MixerReferenceIdeal.nD Cert.MixerReferenceIdeal.τ).loc Cert.MixerReferenceIdeal.main_v42) = v1 c
          ∧ r.2.mem ((c.tc : Thread Cert.MixerReferenceIdeal.nD Cert.MixerReferenceIdeal.τ).loc Cert.MixerReferenceIdeal.main_v43) = v2 c
          ∧ r.2.mem ((c.tc : Thread Cert.MixerReferenceIdeal.nD Cert.MixerReferenceIdeal.τ).loc Cert.MixerReferenceIdeal.main_arg0) = m' ((c.tc : Thread Cert.MixerReferenceIdeal.nD Cert.MixerReferenceIdeal.τ).loc Cert.MixerReferenceIdeal.main_arg0)
          ∧ r.2.mem ((c.tc : Thread Cert.MixerReferenceIdeal.nD Cert.MixerReferenceIdeal.τ).loc Cert.MixerReferenceIdeal.main_arg1) = m' ((c.tc : Thread Cert.MixerReferenceIdeal.nD Cert.MixerReferenceIdeal.τ).loc Cert.MixerReferenceIdeal.main_arg1)
          ∧ r.2.mem ((c.tc : Thread Cert.MixerReferenceIdeal.nD Cert.MixerReferenceIdeal.τ).loc Cert.MixerReferenceIdeal.main_arg2) = m' ((c.tc : Thread Cert.MixerReferenceIdeal.nD Cert.MixerReferenceIdeal.τ).loc Cert.MixerReferenceIdeal.main_arg2)
          ∧ r.2.mem ((c.tc : Thread Cert.MixerReferenceIdeal.nD Cert.MixerReferenceIdeal.τ).loc Cert.MixerReferenceIdeal.main_arg3) = m' ((c.tc : Thread Cert.MixerReferenceIdeal.nD Cert.MixerReferenceIdeal.τ).loc Cert.MixerReferenceIdeal.main_arg3)
          ∧ r.2.mem ((c.tc : Thread Cert.MixerReferenceIdeal.nD Cert.MixerReferenceIdeal.τ).loc Cert.MixerReferenceIdeal.main_arg4) = m' ((c.tc : Thread Cert.MixerReferenceIdeal.nD Cert.MixerReferenceIdeal.τ).loc Cert.MixerReferenceIdeal.main_arg4)
          ∧ r.2.mem ((c.tc : Thread Cert.MixerReferenceIdeal.nD Cert.MixerReferenceIdeal.τ).loc Cert.MixerReferenceIdeal.main_arg5) = m' ((c.tc : Thread Cert.MixerReferenceIdeal.nD Cert.MixerReferenceIdeal.τ).loc Cert.MixerReferenceIdeal.main_arg5)
          ∧ r.2.mem ((c.tc : Thread Cert.MixerReferenceIdeal.nD Cert.MixerReferenceIdeal.τ).loc Cert.MixerReferenceIdeal.main_arg6) = m' ((c.tc : Thread Cert.MixerReferenceIdeal.nD Cert.MixerReferenceIdeal.τ).loc Cert.MixerReferenceIdeal.main_arg6))

def Claim : Prop :=
  ∃ (hKernel : Cert.Kernel.Facts) (hKernelIdeal : Cert.KernelIdeal.Facts) (hReferenceIdeal : Cert.ReferenceIdeal.Facts) (hMlp : Cert.Mlp.Facts) (hMlpIdeal : Cert.MlpIdeal.Facts) (hMlpReferenceIdeal : Cert.MlpReferenceIdeal.Facts) (hMlpForward : Cert.MlpForward.Facts) (hMlpForwardIdeal : Cert.MlpForwardIdeal.Facts) (hMlpForwardReferenceIdeal : Cert.MlpForwardReferenceIdeal.Facts) (hPieces : Cert.Pieces.Facts) (hPiecesIdeal : Cert.PiecesIdeal.Facts) (hPiecesReferenceIdeal : Cert.PiecesReferenceIdeal.Facts) (hMixer : Cert.Mixer.Facts) (hMixerIdeal : Cert.MixerIdeal.Facts) (hMixerReferenceIdeal : Cert.MixerReferenceIdeal.Facts) (hPre_finite : Cert.Pre_finite.Facts),
    quiescent_Kernel (hKernel := hKernel) (hPre_finite := hPre_finite)
    ∧ quiescent_KernelIdeal (hKernelIdeal := hKernelIdeal) (hPre_finite := hPre_finite)
    ∧ quiescent_ReferenceIdeal (hReferenceIdeal := hReferenceIdeal) (hPre_finite := hPre_finite)
    ∧ quiescent_Mlp (hMlp := hMlp)
    ∧ quiescent_MlpIdeal (hMlpIdeal := hMlpIdeal)
    ∧ quiescent_MlpReferenceIdeal (hMlpReferenceIdeal := hMlpReferenceIdeal)
    ∧ quiescent_MlpForward (hMlpForward := hMlpForward)
    ∧ quiescent_MlpForwardIdeal (hMlpForwardIdeal := hMlpForwardIdeal)
    ∧ quiescent_MlpForwardReferenceIdeal (hMlpForwardReferenceIdeal := hMlpForwardReferenceIdeal)
    ∧ quiescent_Pieces (hPieces := hPieces)
    ∧ quiescent_PiecesIdeal (hPiecesIdeal := hPiecesIdeal)
    ∧ quiescent_PiecesReferenceIdeal (hPiecesReferenceIdeal := hPiecesReferenceIdeal)
    ∧ quiescent_Mixer (hMixer := hMixer)
    ∧ quiescent_MixerIdeal (hMixerIdeal := hMixerIdeal)
    ∧ quiescent_MixerReferenceIdeal (hMixerReferenceIdeal := hMixerReferenceIdeal)
    ∧ preserves_Kernel_KernelIdeal
    ∧ algebraic_KernelIdeal_ReferenceIdeal (hKernelIdeal := hKernelIdeal) (hReferenceIdeal := hReferenceIdeal) (hPre_finite := hPre_finite)
    ∧ preserves_Mlp_MlpIdeal
    ∧ algebraic_MlpIdeal_MlpReferenceIdeal (hMlpIdeal := hMlpIdeal) (hMlpReferenceIdeal := hMlpReferenceIdeal)
    ∧ preserves_MlpForward_MlpForwardIdeal
    ∧ algebraic_MlpForwardIdeal_MlpForwardReferenceIdeal (hMlpForwardIdeal := hMlpForwardIdeal) (hMlpForwardReferenceIdeal := hMlpForwardReferenceIdeal)
    ∧ preserves_Pieces_PiecesIdeal
    ∧ algebraic_PiecesIdeal_PiecesReferenceIdeal (hPiecesIdeal := hPiecesIdeal) (hPiecesReferenceIdeal := hPiecesReferenceIdeal)
    ∧ preserves_Mixer_MixerIdeal
    ∧ algebraic_MixerIdeal_MixerReferenceIdeal (hMixerIdeal := hMixerIdeal) (hMixerReferenceIdeal := hMixerReferenceIdeal)
-- ==== Pre_finite.lean ====
abbrev S2176x512 : Shape := ⟨2, ![2176, 512]⟩
abbrev S2176x8 : Shape := ⟨2, ![2176, 8]⟩
abbrev S_ : Shape := ⟨0, ![]⟩
abbrev S2176x2056 : Shape := ⟨2, ![2176, 2056]⟩

class Facts : Prop where
  bcast_S_S2176x512 : S_.BroadcastsInDim S2176x512 (![] : Fin 0 → Fin S2176x512.rank)
  bcast_S_S2176x8 : S_.BroadcastsInDim S2176x8 (![] : Fin 0 → Fin S2176x8.rank)
  concatenates_S2176x512_S2176x512_S2176x512_S2176x8_S2176x512_S2176x2056_d1 : Shape.Concatenates [S2176x512, S2176x512, S2176x512, S2176x8, S2176x512] S2176x2056 1

variable [Facts]

def fn {F : FTy → Type} [FloatOps F] (main_arg0 : FVec F S2176x512 .f32) (main_arg1 : FVec F S2176x512 .f32) (main_arg2 : FVec F S2176x512 .f32) (main_arg3 : FVec F S2176x8 .f32) (main_arg4 : FVec F S2176x512 .f32) : IVec S2176x2056 1 :=
  let main_v0 : FVec F S2176x512 .f32 := Host.absf main_arg0
  let main_cst : FVec F S_ .f32 := constant S_ .f32 0x7F800000#32
  let main_v1 : FVec F S2176x512 .f32 := broadcastInDim S2176x512 ![] bcast_S_S2176x512 main_cst
  let main_v2 : IVec S2176x512 1 := cmpf .olt main_v0 main_v1
  let main_v3 : FVec F S2176x512 .f32 := Host.absf main_arg1
  let main_cst_0 : FVec F S_ .f32 := constant S_ .f32 0x7F800000#32
  let main_v4 : FVec F S2176x512 .f32 := broadcastInDim S2176x512 ![] bcast_S_S2176x512 main_cst_0
  let main_v5 : IVec S2176x512 1 := cmpf .olt main_v3 main_v4
  let main_v6 : FVec F S2176x512 .f32 := Host.absf main_arg2
  let main_cst_1 : FVec F S_ .f32 := constant S_ .f32 0x7F800000#32
  let main_v7 : FVec F S2176x512 .f32 := broadcastInDim S2176x512 ![] bcast_S_S2176x512 main_cst_1
  let main_v8 : IVec S2176x512 1 := cmpf .olt main_v6 main_v7
  let main_v9 : FVec F S2176x8 .f32 := Host.absf main_arg3
  let main_cst_2 : FVec F S_ .f32 := constant S_ .f32 0x7F800000#32
  let main_v10 : FVec F S2176x8 .f32 := broadcastInDim S2176x8 ![] bcast_S_S2176x8 main_cst_2
  let main_v11 : IVec S2176x8 1 := cmpf .olt main_v9 main_v10
  let main_v12 : FVec F S2176x512 .f32 := Host.absf main_arg4
  let main_cst_3 : FVec F S_ .f32 := constant S_ .f32 0x7F800000#32
  let main_v13 : FVec F S2176x512 .f32 := broadcastInDim S2176x512 ![] bcast_S_S2176x512 main_cst_3
  let main_v14 : IVec S2176x512 1 := cmpf .olt main_v12 main_v13
  let main_v15 : IVec S2176x2056 1 := concatenate S2176x2056 1 [⟨S2176x512, main_v2⟩, ⟨S2176x512, main_v5⟩, ⟨S2176x512, main_v8⟩, ⟨S2176x8, main_v11⟩, ⟨S2176x512, main_v14⟩] concatenates_S2176x512_S2176x512_S2176x512_S2176x8_S2176x512_S2176x2056_d1
  main_v15
-- ==== Kernel.lean ====
abbrev S2176x512 : Shape := ⟨2, ![2176, 512]⟩
abbrev S2176x8 : Shape := ⟨2, ![2176, 8]⟩
abbrev S_ : Shape := ⟨0, ![]⟩
abbrev S2176x1536 : Shape := ⟨2, ![2176, 1536]⟩
abbrev S2176x8x64 : Shape := ⟨3, ![2176, 8, 64]⟩
abbrev S8x2176x2176 : Shape := ⟨3, ![8, 2176, 2176]⟩
abbrev S8x2176 : Shape := ⟨2, ![8, 2176]⟩
abbrev S8x2176x1 : Shape := ⟨3, ![8, 2176, 1]⟩
abbrev S8x1x2176 : Shape := ⟨3, ![8, 1, 2176]⟩
abbrev S2176 : Shape := ⟨1, ![2176]⟩
abbrev S2176x1 : Shape := ⟨2, ![2176, 1]⟩
abbrev S1x2176 : Shape := ⟨2, ![1, 2176]⟩
abbrev S2176x2176 : Shape := ⟨2, ![2176, 2176]⟩
abbrev S1x2176x2176 : Shape := ⟨3, ![1, 2176, 2176]⟩
abbrev S2x4x2176 : Shape := ⟨3, ![2, 4, 2176]⟩
abbrev S2176x120 : Shape := ⟨2, ![2176, 120]⟩
abbrev S2176x128 : Shape := ⟨2, ![2176, 128]⟩
abbrev S128x256 : Shape := ⟨2, ![128, 256]⟩
abbrev S2176x256 : Shape := ⟨2, ![2176, 256]⟩
abbrev S8x128 : Shape := ⟨2, ![8, 128]⟩
abbrev S1x4x128 : Shape := ⟨3, ![1, 4, 128]⟩
abbrev S4x2176x1 : Shape := ⟨3, ![4, 2176, 1]⟩
abbrev S4x2176x128 : Shape := ⟨3, ![4, 2176, 128]⟩
abbrev S256x2176 : Shape := ⟨2, ![256, 2176]⟩
abbrev S1x2176x128 : Shape := ⟨3, ![1, 2176, 128]⟩
abbrev S128x128 : Shape := ⟨2, ![128, 128]⟩
abbrev S256x128 : Shape := ⟨2, ![256, 128]⟩
abbrev S1x128 : Shape := ⟨2, ![1, 128]⟩
abbrev S1x1x128 : Shape := ⟨3, ![1, 1, 128]⟩
abbrev S256x256 : Shape := ⟨2, ![256, 256]⟩
abbrev S1x256x128 : Shape := ⟨3, ![1, 256, 128]⟩
abbrev S128 : Shape := ⟨1, ![128]⟩
abbrev S1x256x1 : Shape := ⟨3, ![1, 256, 1]⟩
abbrev S256x1 : Shape := ⟨2, ![256, 1]⟩
abbrev S256 : Shape := ⟨1, ![256]⟩
abbrev S64x128 : Shape := ⟨2, ![64, 128]⟩
abbrev S512x128 : Shape := ⟨2, ![512, 128]⟩
abbrev S512x256 : Shape := ⟨2, ![512, 256]⟩
abbrev S1x512x128 : Shape := ⟨3, ![1, 512, 128]⟩
abbrev S1x512x1 : Shape := ⟨3, ![1, 512, 1]⟩
abbrev S512x1 : Shape := ⟨2, ![512, 1]⟩
abbrev S512 : Shape := ⟨1, ![512]⟩
abbrev S128x512 : Shape := ⟨2, ![128, 512]⟩
abbrev S768x128 : Shape := ⟨2, ![768, 128]⟩
abbrev S768x256 : Shape := ⟨2, ![768, 256]⟩
abbrev S1x768x128 : Shape := ⟨3, ![1, 768, 128]⟩
abbrev S1x768x1 : Shape := ⟨3, ![1, 768, 1]⟩
abbrev S768x1 : Shape := ⟨2, ![768, 1]⟩
abbrev S768 : Shape := ⟨1, ![768]⟩
abbrev S128x768 : Shape := ⟨2, ![128, 768]⟩
abbrev S1024x128 : Shape := ⟨2, ![1024, 128]⟩
abbrev S1024x256 : Shape := ⟨2, ![1024, 256]⟩
abbrev S1x1024x128 : Shape := ⟨3, ![1, 1024, 128]⟩
abbrev S1x1024x1 : Shape := ⟨3, ![1, 1024, 1]⟩
abbrev S1024x1 : Shape := ⟨2, ![1024, 1]⟩
abbrev S1024 : Shape := ⟨1, ![1024]⟩
abbrev S128x1024 : Shape := ⟨2, ![128, 1024]⟩
abbrev S1280x128 : Shape := ⟨2, ![1280, 128]⟩
abbrev S1280x256 : Shape := ⟨2, ![1280, 256]⟩
abbrev S1x1280x128 : Shape := ⟨3, ![1, 1280, 128]⟩
abbrev S1x1280x1 : Shape := ⟨3, ![1, 1280, 1]⟩
abbrev S1280x1 : Shape := ⟨2, ![1280, 1]⟩
abbrev S1280 : Shape := ⟨1, ![1280]⟩
abbrev S128x1280 : Shape := ⟨2, ![128, 1280]⟩
abbrev S1536x128 : Shape := ⟨2, ![1536, 128]⟩
abbrev S1536x256 : Shape := ⟨2, ![1536, 256]⟩
abbrev S1x1536x128 : Shape := ⟨3, ![1, 1536, 128]⟩
abbrev S1x1536x1 : Shape := ⟨3, ![1, 1536, 1]⟩
abbrev S1536x1 : Shape := ⟨2, ![1536, 1]⟩
abbrev S1536 : Shape := ⟨1, ![1536]⟩
abbrev S128x1536 : Shape := ⟨2, ![128, 1536]⟩
abbrev S1792x128 : Shape := ⟨2, ![1792, 128]⟩
abbrev S1792x256 : Shape := ⟨2, ![1792, 256]⟩
abbrev S1x1792x128 : Shape := ⟨3, ![1, 1792, 128]⟩
abbrev S1x1792x1 : Shape := ⟨3, ![1, 1792, 1]⟩
abbrev S1792x1 : Shape := ⟨2, ![1792, 1]⟩
abbrev S1792 : Shape := ⟨1, ![1792]⟩
abbrev S128x1792 : Shape := ⟨2, ![128, 1792]⟩
abbrev S2048x128 : Shape := ⟨2, ![2048, 128]⟩
abbrev S2048x256 : Shape := ⟨2, ![2048, 256]⟩
abbrev S1x2048x128 : Shape := ⟨3, ![1, 2048, 128]⟩
abbrev S1x128x128 : Shape := ⟨3, ![1, 128, 128]⟩
abbrev S1x2048x1 : Shape := ⟨3, ![1, 2048, 1]⟩
abbrev S2048x1 : Shape := ⟨2, ![2048, 1]⟩
abbrev S2048 : Shape := ⟨1, ![2048]⟩
abbrev S128x2048 : Shape := ⟨2, ![128, 2048]⟩
abbrev S1x128x1 : Shape := ⟨3, ![1, 128, 1]⟩
abbrev S128x1 : Shape := ⟨2, ![128, 1]⟩
abbrev S1x2176x1 : Shape := ⟨3, ![1, 2176, 1]⟩

abbrev nBuf : Space → Nat
  | .hbm => 53
  | .vmem => 25
  | .smem => 0
  | _ => 0

abbrev bufTy : (tb : Table) → Fin (tcTables nBuf tb) → BufTy
  | .hbm, ⟨0, _⟩ => ⟨S2176x512, .f32⟩
  | .hbm, ⟨1, _⟩ => ⟨S2176x512, .f32⟩
  | .hbm, ⟨2, _⟩ => ⟨S2176x512, .f32⟩
  | .hbm, ⟨3, _⟩ => ⟨S2176x8, .f32⟩
  | .hbm, ⟨4, _⟩ => ⟨S2176x512, .f32⟩
  | .hbm, ⟨5, _⟩ => ⟨S_, .f32⟩
  | .hbm, ⟨6, _⟩ => ⟨S2176x512, .f32⟩
  | .hbm, ⟨7, _⟩ => ⟨S2176x512, .f32⟩
  | .hbm, ⟨8, _⟩ => ⟨S2176x1536, .f32⟩
  | .hbm, ⟨9, _⟩ => ⟨S2176x1536, .bf16⟩
  | .hbm, ⟨10, _⟩ => ⟨S2176x8x64, .f32⟩
  | .hbm, ⟨11, _⟩ => ⟨S2176x8x64, .f32⟩
  | .hbm, ⟨12, _⟩ => ⟨S8x2176x2176, .f32⟩
  | .hbm, ⟨13, _⟩ => ⟨S_, .f32⟩
  | .hbm, ⟨14, _⟩ => ⟨S8x2176x2176, .f32⟩
  | .hbm, ⟨15, _⟩ => ⟨S8x2176x2176, .f32⟩
  | .hbm, ⟨16, _⟩ => ⟨S8x2176, .f32⟩
  | .hbm, ⟨17, _⟩ => ⟨S8x2176x1, .f32⟩
  | .hbm, ⟨18, _⟩ => ⟨S8x1x2176, .f32⟩
  | .hbm, ⟨19, _⟩ => ⟨S8x2176x2176, .f32⟩
  | .hbm, ⟨20, _⟩ => ⟨S8x2176x2176, .f32⟩
  | .hbm, ⟨21, _⟩ => ⟨S8x2176x2176, .f32⟩
  | .hbm, ⟨22, _⟩ => ⟨S8x2176x2176, .f32⟩
  | .hbm, ⟨23, _⟩ => ⟨S2176, .i32⟩
  | .hbm, ⟨24, _⟩ => ⟨S2176x1, .i32⟩
  | .hbm, ⟨25, _⟩ => ⟨S1x2176, .i32⟩
  | .hbm, ⟨26, _⟩ => ⟨S2176x2176, .i32⟩
  | .hbm, ⟨27, _⟩ => ⟨S2176x2176, .i32⟩
  | .hbm, ⟨28, _⟩ => ⟨S2176x2176, .i1⟩
  | .hbm, ⟨29, _⟩ => ⟨S1x2176x2176, .i1⟩
  | .hbm, ⟨30, _⟩ => ⟨S_, .f32⟩
  | .hbm, ⟨31, _⟩ => ⟨S_, .f32⟩
  | .hbm, ⟨32, _⟩ => ⟨S8x2176x2176, .i1⟩
  | .hbm, ⟨33, _⟩ => ⟨S8x2176x2176, .f32⟩
  | .hbm, ⟨34, _⟩ => ⟨S8x2176x2176, .f32⟩
  | .hbm, ⟨35, _⟩ => ⟨S_, .f32⟩
  | .hbm, ⟨36, _⟩ => ⟨S8x2176, .f32⟩
  | .hbm, ⟨37, _⟩ => ⟨S8x2176x1, .f32⟩
  | .hbm, ⟨38, _⟩ => ⟨S8x2176x2176, .f32⟩
  | .hbm, ⟨39, _⟩ => ⟨S8x2176x2176, .f32⟩
  | .hbm, ⟨40, _⟩ => ⟨S8x2176x2176, .f32⟩
  | .hbm, ⟨41, _⟩ => ⟨S_, .f32⟩
  | .hbm, ⟨42, _⟩ => ⟨S8x2176, .f32⟩
  | .hbm, ⟨43, _⟩ => ⟨S8x2176, .f32⟩
  | .hbm, ⟨44, _⟩ => ⟨S8x2176, .f32⟩
  | .hbm, ⟨45, _⟩ => ⟨S2x4x2176, .f32⟩
  | .hbm, ⟨46, _⟩ => ⟨S_, .f32⟩
  | .hbm, ⟨47, _⟩ => ⟨S2176x120, .f32⟩
  | .hbm, ⟨48, _⟩ => ⟨S2176x128, .f32⟩
  | .hbm, ⟨49, _⟩ => ⟨S2176x512, .bf16⟩
  | .hbm, ⟨50, _⟩ => ⟨S2176x512, .bf16⟩
  | .hbm, ⟨51, _⟩ => ⟨S2176x512, .bf16⟩
  | .hbm, ⟨52, _⟩ => ⟨S2176x128, .f32⟩
  | .local _ .vmem, ⟨0, _⟩ => ⟨S128x256, .bf16⟩
  | .local _ .vmem, ⟨1, _⟩ => ⟨S128x256, .bf16⟩
  | .local _ .vmem, ⟨2, _⟩ => ⟨S2176x256, .bf16⟩
  | .local _ .vmem, ⟨3, _⟩ => ⟨S2176x256, .bf16⟩
  | .local _ .vmem, ⟨4, _⟩ => ⟨S2176x256, .bf16⟩
  | .local _ .vmem, ⟨5, _⟩ => ⟨S2176x256, .bf16⟩
  | .local _ .vmem, ⟨6, _⟩ => ⟨S2176x128, .f32⟩
  | .local _ .vmem, ⟨7, _⟩ => ⟨S8x128, .f32⟩
  | .local _ .vmem, ⟨8, _⟩ => ⟨S8x128, .f32⟩
  | .local _ .vmem, ⟨9, _⟩ => ⟨S1x4x128, .f32⟩
  | .local _ .vmem, ⟨10, _⟩ => ⟨S1x4x128, .f32⟩
  | .local _ .vmem, ⟨11, _⟩ => ⟨S128x256, .f32⟩
  | .local _ .vmem, ⟨12, _⟩ => ⟨S128x256, .f32⟩
  | .local _ .vmem, ⟨13, _⟩ => ⟨S128x256, .bf16⟩
  | .local _ .vmem, ⟨14, _⟩ => ⟨S128x256, .bf16⟩
  | .local _ .vmem, ⟨15, _⟩ => ⟨S2176x256, .bf16⟩
  | .local _ .vmem, ⟨16, _⟩ => ⟨S2176x256, .bf16⟩
  | .local _ .vmem, ⟨17, _⟩ => ⟨S2176x256, .bf16⟩
  | .local _ .vmem, ⟨18, _⟩ => ⟨S2176x256, .bf16⟩
  | .local _ .vmem, ⟨19, _⟩ => ⟨S2176x128, .f32⟩
  | .local _ .vmem, ⟨20, _⟩ => ⟨S2176x256, .f32⟩
  | .local _ .vmem, ⟨21, _⟩ => ⟨S2176x256, .f32⟩
  | .local _ .vmem, ⟨22, _⟩ => ⟨S4x2176x1, .f32⟩
  | .local _ .vmem, ⟨23, _⟩ => ⟨S4x2176x128, .f32⟩
  | .local _ .vmem, ⟨24, _⟩ => ⟨S256x2176, .bf16⟩
  | _, _ => ⟨S2176x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_1 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_3 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_v35_0 : Ref sig .tc := ⟨.hbm, 49, rfl⟩
abbrev main_v35_1 : Ref sig .tc := ⟨.hbm, 50, rfl⟩
abbrev main_v35_2 : Ref sig .tc := ⟨.hbm, 51, rfl⟩
abbrev main_v35_3 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨2, ![2, 17], ![false, false]⟩

def k0_cond3 (i : grid0.Coords) : BitVec 1 :=
  let arg1 : BitVec 32 := BitVec.ofNat 32 (i 1).val
  let c0_i32_4 : BitVec 32 := 0#32
  let v8 : BitVec 1 := Scalar.cmpi .sge arg1 c0_i32_4
  let c2_i32 : BitVec 32 := 2#32
  let v9 : BitVec 1 := Scalar.cmpi .slt arg1 c2_i32
  let v10 : BitVec 1 := Scalar.andi v8 v9
  let v11 : BitVec 32 := Scalar.extui v10
  let c0_i32_5 : BitVec 32 := 0#32
  let v12 : BitVec 1 := Scalar.cmpi .ne v11 c0_i32_5
  v12

def k0_mult1 (i : grid0.Coords) : BitVec 32 :=
  let arg1 : BitVec 32 := BitVec.ofNat 32 (i 1).val
  let c128_i32 : BitVec 32 := 128#32
  let v56 : BitVec 32 := Scalar.muli arg1 c128_i32
  v56
def k0_off1 (i : grid0.Coords) (c0_i32_39 : BitVec 32) : Fin 2 → Nat :=
  let c4_i32_38 : BitVec 32 := 4#32
  let arg0 : BitVec 32 := BitVec.ofNat 32 (i 0).val
  let v108 : BitVec 32 := Scalar.muli c4_i32_38 arg0
  let v109 : BitVec 32 := Scalar.addi v108 c0_i32_39
  let v110 : Index := Scalar.indexCast v109
  let c0_40 : Index := 0#32
  ![v110.toNat, 0]
def k0_cond4 (i : grid0.Coords) : BitVec 1 :=
  let arg1 : BitVec 32 := BitVec.ofNat 32 (i 1).val
  let c2_i32_6 : BitVec 32 := 2#32
  let v13 : BitVec 1 := Scalar.cmpi .sge arg1 c2_i32_6
  let c4_i32 : BitVec 32 := 4#32
  let v14 : BitVec 1 := Scalar.cmpi .slt arg1 c4_i32
  let v15 : BitVec 1 := Scalar.andi v13 v14
  let v16 : BitVec 32 := Scalar.extui v15
  let c0_i32_7 : BitVec 32 := 0#32
  let v17 : BitVec 1 := Scalar.cmpi .ne v16 c0_i32_7
  v17

def k0_mult2 (i : grid0.Coords) : BitVec 32 :=
  let arg1 : BitVec 32 := BitVec.ofNat 32 (i 1).val
  let c128_i32 : BitVec 32 := 128#32
  let v56 : BitVec 32 := Scalar.muli arg1 c128_i32
  v56
def k0_off2 (i : grid0.Coords) (c0_i32_39 : BitVec 32) : Fin 2 → Nat :=
  let c4_i32_38 : BitVec 32 := 4#32
  let arg0 : BitVec 32 := BitVec.ofNat 32 (i 0).val
  let v108 : BitVec 32 := Scalar.muli c4_i32_38 arg0
  let v109 : BitVec 32 := Scalar.addi v108 c0_i32_39
  let v110 : Index := Scalar.indexCast v109
  let c0_40 : Index := 0#32
  ![v110.toNat, 0]
def k0_cond5 (i : grid0.Coords) : BitVec 1 :=
  let arg1 : BitVec 32 := BitVec.ofNat 32 (i 1).val
  let c4_i32_8 : BitVec 32 := 4#32
  let v18 : BitVec 1 := Scalar.cmpi .sge arg1 c4_i32_8
  let c6_i32 : BitVec 32 := 6#32
  let v19 : BitVec 1 := Scalar.cmpi .slt arg1 c6_i32
  let v20 : BitVec 1 := Scalar.andi v18 v19
  let v21 : BitVec 32 := Scalar.extui v20
  let c0_i32_9 : BitVec 32 := 0#32
  let v22 : BitVec 1 := Scalar.cmpi .ne v21 c0_i32_9
  v22

def k0_mult3 (i : grid0.Coords) : BitVec 32 :=
  let arg1 : BitVec 32 := BitVec.ofNat 32 (i 1).val
  let c128_i32 : BitVec 32 := 128#32
  let v56 : BitVec 32 := Scalar.muli arg1 c128_i32
  v56
def k0_off3 (i : grid0.Coords) (c0_i32_39 : BitVec 32) : Fin 2 → Nat :=
  let c4_i32_38 : BitVec 32 := 4#32
  let arg0 : BitVec 32 := BitVec.ofNat 32 (i 0).val
  let v108 : BitVec 32 := Scalar.muli c4_i32_38 arg0
  let v109 : BitVec 32 := Scalar.addi v108 c0_i32_39
  let v110 : Index := Scalar.indexCast v109
  let c0_40 : Index := 0#32
  ![v110.toNat, 0]
def k0_cond6 (i : grid0.Coords) : BitVec 1 :=
  let arg1 : BitVec 32 := BitVec.ofNat 32 (i 1).val
  let c6_i32_10 : BitVec 32 := 6#32
  let v23 : BitVec 1 := Scalar.cmpi .sge arg1 c6_i32_10
  let c8_i32 : BitVec 32 := 8#32
  let v24 : BitVec 1 := Scalar.cmpi .slt arg1 c8_i32
  let v25 : BitVec 1 := Scalar.andi v23 v24
  let v26 : BitVec 32 := Scalar.extui v25
  let c0_i32_11 : BitVec 32 := 0#32
  let v27 : BitVec 1 := Scalar.cmpi .ne v26 c0_i32_11
  v27

def k0_mult4 (i : grid0.Coords) : BitVec 32 :=
  let arg1 : BitVec 32 := BitVec.ofNat 32 (i 1).val
  let c128_i32 : BitVec 32 := 128#32
  let v56 : BitVec 32 := Scalar.muli arg1 c128_i32
  v56
def k0_off4 (i : grid0.Coords) (c0_i32_39 : BitVec 32) : Fin 2 → Nat :=
  let c4_i32_38 : BitVec 32 := 4#32
  let arg0 : BitVec 32 := BitVec.ofNat 32 (i 0).val
  let v108 : BitVec 32 := Scalar.muli c4_i32_38 arg0
  let v109 : BitVec 32 := Scalar.addi v108 c0_i32_39
  let v110 : Index := Scalar.indexCast v109
  let c0_40 : Index := 0#32
  ![v110.toNat, 0]
def k0_cond7 (i : grid0.Coords) : BitVec 1 :=
  let arg1 : BitVec 32 := BitVec.ofNat 32 (i 1).val
  let c8_i32_12 : BitVec 32 := 8#32
  let v28 : BitVec 1 := Scalar.cmpi .sge arg1 c8_i32_12
  let c10_i32 : BitVec 32 := 10#32
  let v29 : BitVec 1 := Scalar.cmpi .slt arg1 c10_i32
  let v30 : BitVec 1 := Scalar.andi v28 v29
  let v31 : BitVec 32 := Scalar.extui v30
  let c0_i32_13 : BitVec 32 := 0#32
  let v32 : BitVec 1 := Scalar.cmpi .ne v31 c0_i32_13
  v32

def k0_mult5 (i : grid0.Coords) : BitVec 32 :=
  let arg1 : BitVec 32 := BitVec.ofNat 32 (i 1).val
  let c128_i32 : BitVec 32 := 128#32
  let v56 : BitVec 32 := Scalar.muli arg1 c128_i32
  v56
def k0_off5 (i : grid0.Coords) (c0_i32_39 : BitVec 32) : Fin 2 → Nat :=
  let c4_i32_38 : BitVec 32 := 4#32
  let arg0 : BitVec 32 := BitVec.ofNat 32 (i 0).val
  let v108 : BitVec 32 := Scalar.muli c4_i32_38 arg0
  let v109 : BitVec 32 := Scalar.addi v108 c0_i32_39
  let v110 : Index := Scalar.indexCast v109
  let c0_40 : Index := 0#32
  ![v110.toNat, 0]
def k0_cond8 (i : grid0.Coords) : BitVec 1 :=
  let arg1 : BitVec 32 := BitVec.ofNat 32 (i 1).val
  let c10_i32_14 : BitVec 32 := 10#32
  let v33 : BitVec 1 := Scalar.cmpi .sge arg1 c10_i32_14
  let c12_i32 : BitVec 32 := 12#32
  let v34 : BitVec 1 := Scalar.cmpi .slt arg1 c12_i32
  let v35 : BitVec 1 := Scalar.andi v33 v34
  let v36 : BitVec 32 := Scalar.extui v35
  let c0_i32_15 : BitVec 32 := 0#32
  let v37 : BitVec 1 := Scalar.cmpi .ne v36 c0_i32_15
  v37

def k0_mult6 (i : grid0.Coords) : BitVec 32 :=
  let arg1 : BitVec 32 := BitVec.ofNat 32 (i 1).val
  let c128_i32 : BitVec 32 := 128#32
  let v56 : BitVec 32 := Scalar.muli arg1 c128_i32
  v56
def k0_off6 (i : grid0.Coords) (c0_i32_39 : BitVec 32) : Fin 2 → Nat :=
  let c4_i32_38 : BitVec 32 := 4#32
  let arg0 : BitVec 32 := BitVec.ofNat 32 (i 0).val
  let v108 : BitVec 32 := Scalar.muli c4_i32_38 arg0
  let v109 : BitVec 32 := Scalar.addi v108 c0_i32_39
  let v110 : Index := Scalar.indexCast v109
  let c0_40 : Index := 0#32
  ![v110.toNat, 0]
def k0_cond9 (i : grid0.Coords) : BitVec 1 :=
  let arg1 : BitVec 32 := BitVec.ofNat 32 (i 1).val
  let c12_i32_16 : BitVec 32 := 12#32
  let v38 : BitVec 1 := Scalar.cmpi .sge arg1 c12_i32_16
  let c14_i32 : BitVec 32 := 14#32
  let v39 : BitVec 1 := Scalar.cmpi .slt arg1 c14_i32
  let v40 : BitVec 1 := Scalar.andi v38 v39
  let v41 : BitVec 32 := Scalar.extui v40
  let c0_i32_17 : BitVec 32 := 0#32
  let v42 : BitVec 1 := Scalar.cmpi .ne v41 c0_i32_17
  v42

def k0_mult7 (i : grid0.Coords) : BitVec 32 :=
  let arg1 : BitVec 32 := BitVec.ofNat 32 (i 1).val
  let c128_i32 : BitVec 32 := 128#32
  let v56 : BitVec 32 := Scalar.muli arg1 c128_i32
  v56
def k0_off7 (i : grid0.Coords) (c0_i32_39 : BitVec 32) : Fin 2 → Nat :=
  let c4_i32_38 : BitVec 32 := 4#32
  let arg0 : BitVec 32 := BitVec.ofNat 32 (i 0).val
  let v108 : BitVec 32 := Scalar.muli c4_i32_38 arg0
  let v109 : BitVec 32 := Scalar.addi v108 c0_i32_39
  let v110 : Index := Scalar.indexCast v109
  let c0_40 : Index := 0#32
  ![v110.toNat, 0]
def k0_cond10 (i : grid0.Coords) : BitVec 1 :=
  let arg1 : BitVec 32 := BitVec.ofNat 32 (i 1).val
  let c14_i32_18 : BitVec 32 := 14#32
  let v43 : BitVec 1 := Scalar.cmpi .sge arg1 c14_i32_18
  let c16_i32 : BitVec 32 := 16#32
  let v44 : BitVec 1 := Scalar.cmpi .slt arg1 c16_i32
  let v45 : BitVec 1 := Scalar.andi v43 v44
  let v46 : BitVec 32 := Scalar.extui v45
  let c0_i32_19 : BitVec 32 := 0#32
  let v47 : BitVec 1 := Scalar.cmpi .ne v46 c0_i32_19
  v47

def k0_mult8 (i : grid0.Coords) : BitVec 32 :=
  let arg1 : BitVec 32 := BitVec.ofNat 32 (i 1).val
  let c128_i32 : BitVec 32 := 128#32
  let v56 : BitVec 32 := Scalar.muli arg1 c128_i32
  v56
def k0_off8 (i : grid0.Coords) (c0_i32_39 : BitVec 32) : Fin 2 → Nat :=
  let c4_i32_38 : BitVec 32 := 4#32
  let arg0 : BitVec 32 := BitVec.ofNat 32 (i 0).val
  let v108 : BitVec 32 := Scalar.muli c4_i32_38 arg0
  let v109 : BitVec 32 := Scalar.addi v108 c0_i32_39
  let v110 : Index := Scalar.indexCast v109
  let c0_40 : Index := 0#32
  ![v110.toNat, 0]
def k0_cond11 (i : grid0.Coords) : BitVec 1 :=
  let arg1 : BitVec 32 := BitVec.ofNat 32 (i 1).val
  let c16_i32_20 : BitVec 32 := 16#32
  let v48 : BitVec 1 := Scalar.cmpi .sge arg1 c16_i32_20
  let c17_i32 : BitVec 32 := 17#32
  let v49 : BitVec 1 := Scalar.cmpi .slt arg1 c17_i32
  let v50 : BitVec 1 := Scalar.andi v48 v49
  let v51 : BitVec 32 := Scalar.extui v50
  let c0_i32_21 : BitVec 32 := 0#32
  let v52 : BitVec 1 := Scalar.cmpi .ne v51 c0_i32_21
  v52

def k0_mult9 (i : grid0.Coords) : BitVec 32 :=
  let arg1 : BitVec 32 := BitVec.ofNat 32 (i 1).val
  let c128_i32 : BitVec 32 := 128#32
  let v56 : BitVec 32 := Scalar.muli arg1 c128_i32
  v56
def k0_off9 (i : grid0.Coords) (c0_i32_39 : BitVec 32) : Fin 2 → Nat :=
  let c4_i32_38 : BitVec 32 := 4#32
  let arg0 : BitVec 32 := BitVec.ofNat 32 (i 0).val
  let v108 : BitVec 32 := Scalar.muli c4_i32_38 arg0
  let v109 : BitVec 32 := Scalar.addi v108 c0_i32_39
  let v110 : Index := Scalar.indexCast v109
  let c0_40 : Index := 0#32
  ![v110.toNat, 0]
def k0_cond12 (i : grid0.Coords) : BitVec 1 :=
  let arg1 : BitVec 32 := BitVec.ofNat 32 (i 1).val
  let c16_i32_22 : BitVec 32 := 16#32
  let v53 : BitVec 1 := Scalar.cmpi .eq arg1 c16_i32_22
  let v54 : BitVec 32 := Scalar.extui v53
  let c0_i32_23 : BitVec 32 := 0#32
  let v55 : BitVec 1 := Scalar.cmpi .ne v54 c0_i32_23
  v55

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let arg0 : BitVec 32 := BitVec.ofNat 32 (i 0).val
  let c0_i32_2 : BitVec 32 := 0#32
  let v4 : BitVec 1 := Scalar.cmpi .eq arg0 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2176x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2176x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S2176x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x4x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2176x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S2176x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S2176x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== KernelIdeal.lean ====
variable {F : FTy → Type} [FloatOps F] [Named F]
def κ : String → Option EReal := fun
  | "mask" => some ⊥
  | _ => none
-- ==== ReferenceIdeal.lean ====
abbrev S2176x512 : Shape := ⟨2, ![2176, 512]⟩
abbrev S2176x8 : Shape := ⟨2, ![2176, 8]⟩
abbrev S2176x8x64 : Shape := ⟨3, ![2176, 8, 64]⟩
abbrev S8x2176 : Shape := ⟨2, ![8, 2176]⟩
abbrev S2176 : Shape := ⟨1, ![2176]⟩
abbrev S8x2176x2176 : Shape := ⟨3, ![8, 2176, 2176]⟩
abbrev S_ : Shape := ⟨0, ![]⟩
abbrev S8x2176x1 : Shape := ⟨3, ![8, 2176, 1]⟩
abbrev S8x1x2176 : Shape := ⟨3, ![8, 1, 2176]⟩
abbrev S2176x1 : Shape := ⟨2, ![2176, 1]⟩
abbrev S1x2176 : Shape := ⟨2, ![1, 2176]⟩
abbrev S2176x2176 : Shape := ⟨2, ![2176, 2176]⟩
abbrev S1x2176x2176 : Shape := ⟨3, ![1, 2176, 2176]⟩
abbrev S8x64x2176 : Shape := ⟨3, ![8, 64, 2176]⟩
abbrev S8x2176x64 : Shape := ⟨3, ![8, 2176, 64]⟩
abbrev S2176x120 : Shape := ⟨2, ![2176, 120]⟩
abbrev S2176x128 : Shape := ⟨2, ![2176, 128]⟩

abbrev nBuf : Space → Nat
  | .hbm => 125
  | .vmem => 0
  | .smem => 0
  | _ => 0

abbrev bufTy : (tb : Table) → Fin (tcTables nBuf tb) → BufTy
  | .hbm, ⟨0, _⟩ => ⟨S2176x512, .f32⟩
  | .hbm, ⟨1, _⟩ => ⟨S2176x512, .f32⟩
  | .hbm, ⟨2, _⟩ => ⟨S2176x512, .f32⟩
  | .hbm, ⟨3, _⟩ => ⟨S2176x8, .f32⟩
  | .hbm, ⟨4, _⟩ => ⟨S2176x512, .f32⟩
  | .hbm, ⟨5, _⟩ => ⟨S2176x8x64, .f32⟩
  | .hbm, ⟨6, _⟩ => ⟨S2176x8x64, .f32⟩
  | .hbm, ⟨7, _⟩ => ⟨S2176x8x64, .f32⟩
  | .hbm, ⟨8, _⟩ => ⟨S8x2176, .f32⟩
  | .hbm, ⟨9, _⟩ => ⟨S2176, .i32⟩
  | .hbm, ⟨10, _⟩ => ⟨S8x2176x2176, .f32⟩
  | .hbm, ⟨11, _⟩ => ⟨S_, .f32⟩
  | .hbm, ⟨12, _⟩ => ⟨S8x2176x2176, .f32⟩
  | .hbm, ⟨13, _⟩ => ⟨S8x2176x2176, .f32⟩
  | .hbm, ⟨14, _⟩ => ⟨S8x2176x1, .f32⟩
  | .hbm, ⟨15, _⟩ => ⟨S8x1x2176, .f32⟩
  | .hbm, ⟨16, _⟩ => ⟨S8x2176x2176, .f32⟩
  | .hbm, ⟨17, _⟩ => ⟨S8x2176x2176, .f32⟩
  | .hbm, ⟨18, _⟩ => ⟨S8x2176x2176, .f32⟩
  | .hbm, ⟨19, _⟩ => ⟨S2176x1, .i32⟩
  | .hbm, ⟨20, _⟩ => ⟨S1x2176, .i32⟩
  | .hbm, ⟨21, _⟩ => ⟨S2176x2176, .i32⟩
  | .hbm, ⟨22, _⟩ => ⟨S2176x2176, .i32⟩
  | .hbm, ⟨23, _⟩ => ⟨S2176x2176, .i1⟩
  | .hbm, ⟨24, _⟩ => ⟨S1x2176x2176, .i1⟩
  | .hbm, ⟨25, _⟩ => ⟨S8x2176x2176, .f32⟩
  | .hbm, ⟨26, _⟩ => ⟨S_, .f32⟩
  | .hbm, ⟨27, _⟩ => ⟨S_, .f32⟩
  | .hbm, ⟨28, _⟩ => ⟨S8x2176x2176, .i1⟩
  | .hbm, ⟨29, _⟩ => ⟨S8x2176x2176, .f32⟩
  | .hbm, ⟨30, _⟩ => ⟨S8x2176x2176, .f32⟩
  | .hbm, ⟨31, _⟩ => ⟨S_, .f32⟩
  | .hbm, ⟨32, _⟩ => ⟨S8x2176x2176, .f32⟩
  | .hbm, ⟨33, _⟩ => ⟨S_, .f32⟩
  | .hbm, ⟨34, _⟩ => ⟨S8x2176, .f32⟩
  | .hbm, ⟨35, _⟩ => ⟨S8x2176x1, .f32⟩
  | .hbm, ⟨36, _⟩ => ⟨S8x2176x2176, .f32⟩
  | .hbm, ⟨37, _⟩ => ⟨S8x2176x2176, .i1⟩
  | .hbm, ⟨38, _⟩ => ⟨S8x2176x2176, .f32⟩
  | .hbm, ⟨39, _⟩ => ⟨S_, .f32⟩
  | .hbm, ⟨40, _⟩ => ⟨S8x2176, .f32⟩
  | .hbm, ⟨41, _⟩ => ⟨S_, .f32⟩
  | .hbm, ⟨42, _⟩ => ⟨S8x2176, .f32⟩
  | .hbm, ⟨43, _⟩ => ⟨S8x2176, .f32⟩
  | .hbm, ⟨44, _⟩ => ⟨S_, .f32⟩
  | .hbm, ⟨45, _⟩ => ⟨S8x2176, .f32⟩
  | .hbm, ⟨46, _⟩ => ⟨S8x2176, .i1⟩
  | .hbm, ⟨47, _⟩ => ⟨S_, .f32⟩
  | .hbm, ⟨48, _⟩ => ⟨S8x2176, .f32⟩
  | .hbm, ⟨49, _⟩ => ⟨S8x2176, .i1⟩
  | .hbm, ⟨50, _⟩ => ⟨S_, .f32⟩
  | .hbm, ⟨51, _⟩ => ⟨S8x2176, .f32⟩
  | .hbm, ⟨52, _⟩ => ⟨S_, .f32⟩
  | .hbm, ⟨53, _⟩ => ⟨S8x2176, .f32⟩
  | .hbm, ⟨54, _⟩ => ⟨S_, .f32⟩
  | .hbm, ⟨55, _⟩ => ⟨S8x2176, .f32⟩
  | .hbm, ⟨56, _⟩ => ⟨S8x2176, .f32⟩
  | .hbm, ⟨57, _⟩ => ⟨S8x2176, .f32⟩
  | .hbm, ⟨58, _⟩ => ⟨S8x2176x1, .f32⟩
  | .hbm, ⟨59, _⟩ => ⟨S8x2176x2176, .f32⟩
  | .hbm, ⟨60, _⟩ => ⟨S8x2176x2176, .f32⟩
  | .hbm, ⟨61, _⟩ => ⟨S8x2176x2176, .f32⟩
  | .hbm, ⟨62, _⟩ => ⟨S_, .f32⟩
  | .hbm, ⟨63, _⟩ => ⟨S8x2176, .f32⟩
  | .hbm, ⟨64, _⟩ => ⟨S8x2176x1, .f32⟩
  | .hbm, ⟨65, _⟩ => ⟨S8x2176x2176, .f32⟩
  | .hbm, ⟨66, _⟩ => ⟨S8x2176x2176, .f32⟩
  | .hbm, ⟨67, _⟩ => ⟨S8x2176x1, .f32⟩
  | .hbm, ⟨68, _⟩ => ⟨S_, .f32⟩
  | .hbm, ⟨69, _⟩ => ⟨S8x2176x1, .f32⟩
  | .hbm, ⟨70, _⟩ => ⟨S8x2176x1, .f32⟩
  | .hbm, ⟨71, _⟩ => ⟨S8x64x2176, .f32⟩
  | .hbm, ⟨72, _⟩ => ⟨S2176x8x64, .f32⟩
  | .hbm, ⟨73, _⟩ => ⟨S2176x512, .f32⟩
  | .hbm, ⟨74, _⟩ => ⟨S2176x8x64, .f32⟩
  | .hbm, ⟨75, _⟩ => ⟨S8x64x2176, .f32⟩
  | .hbm, ⟨76, _⟩ => ⟨S8x2176x2176, .f32⟩
  | .hbm, ⟨77, _⟩ => ⟨S8x64x2176, .f32⟩
  | .hbm, ⟨78, _⟩ => ⟨S2176x8x64, .f32⟩
  | .hbm, ⟨79, _⟩ => ⟨S8x2176x2176, .f32⟩
  | .hbm, ⟨80, _⟩ => ⟨S8x2176x2176, .f32⟩
  | .hbm, ⟨81, _⟩ => ⟨S8x2176x2176, .f32⟩
  | .hbm, ⟨82, _⟩ => ⟨S_, .f32⟩
  | .hbm, ⟨83, _⟩ => ⟨S8x2176, .f32⟩
  | .hbm, ⟨84, _⟩ => ⟨S8x2176x1, .f32⟩
  | .hbm, ⟨85, _⟩ => ⟨S8x2176x1, .f32⟩
  | .hbm, ⟨86, _⟩ => ⟨S8x2176x2176, .f32⟩
  | .hbm, ⟨87, _⟩ => ⟨S8x2176x2176, .f32⟩
  | .hbm, ⟨88, _⟩ => ⟨S_, .f32⟩
  | .hbm, ⟨89, _⟩ => ⟨S8x2176, .f32⟩
  | .hbm, ⟨90, _⟩ => ⟨S8x2176x2176, .f32⟩
  | .hbm, ⟨91, _⟩ => ⟨S8x2176x2176, .f32⟩
  | .hbm, ⟨92, _⟩ => ⟨S8x2176x2176, .f32⟩
  | .hbm, ⟨93, _⟩ => ⟨S_, .f32⟩
  | .hbm, ⟨94, _⟩ => ⟨S8x2176x2176, .f32⟩
  | .hbm, ⟨95, _⟩ => ⟨S8x2176x2176, .f32⟩
  | .hbm, ⟨96, _⟩ => ⟨S_, .f32⟩
  | .hbm, ⟨97, _⟩ => ⟨S8x2176, .f32⟩
  | .hbm, ⟨98, _⟩ => ⟨S8x2176x1, .f32⟩
  | .hbm, ⟨99, _⟩ => ⟨S8x2176x2176, .f32⟩
  | .hbm, ⟨100, _⟩ => ⟨S_, .f32⟩
  | .hbm, ⟨101, _⟩ => ⟨S8x2176, .f32⟩
  | .hbm, ⟨102, _⟩ => ⟨S8x1x2176, .f32⟩
  | .hbm, ⟨103, _⟩ => ⟨S_, .f32⟩
  | .hbm, ⟨104, _⟩ => ⟨S8x2176, .f32⟩
  | .hbm, ⟨105, _⟩ => ⟨S_, .f32⟩
  | .hbm, ⟨106, _⟩ => ⟨S8x2176, .f32⟩
  | .hbm, ⟨107, _⟩ => ⟨S8x2176, .f32⟩
  | .hbm, ⟨108, _⟩ => ⟨S_, .f32⟩
  | .hbm, ⟨109, _⟩ => ⟨S8x2176x2176, .f32⟩
  | .hbm, ⟨110, _⟩ => ⟨S8x2176x2176, .f32⟩
  | .hbm, ⟨111, _⟩ => ⟨S8x2176x64, .f32⟩
  | .hbm, ⟨112, _⟩ => ⟨S2176x8x64, .f32⟩
  | .hbm, ⟨113, _⟩ => ⟨S8x2176x64, .f32⟩
  | .hbm, ⟨114, _⟩ => ⟨S2176x8x64, .f32⟩
  | .hbm, ⟨115, _⟩ => ⟨S2176x8, .f32⟩
  | .hbm, ⟨116, _⟩ => ⟨S2176x512, .f32⟩
  | .hbm, ⟨117, _⟩ => ⟨S2176x512, .f32⟩
  | .hbm, ⟨118, _⟩ => ⟨S2176x512, .f32⟩
  | .hbm, ⟨119, _⟩ => ⟨S2176x512, .bf16⟩
  | .hbm, ⟨120, _⟩ => ⟨S2176x512, .bf16⟩
  | .hbm, ⟨121, _⟩ => ⟨S2176x512, .bf16⟩
  | .hbm, ⟨122, _⟩ => ⟨S_, .f32⟩
  | .hbm, ⟨123, _⟩ => ⟨S2176x120, .f32⟩
  | .hbm, ⟨124, _⟩ => ⟨S2176x128, .f32⟩
  | _, _ => ⟨S2176x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_0 : Ref sig .tc := ⟨.hbm, 26, rfl⟩
abbrev main_call0_v0 : Ref sig .tc := ⟨.hbm, 27, rfl⟩
abbrev main_v20_1 : Ref sig .tc := ⟨.hbm, 28, rfl⟩
abbrev main_call0_v2 : Ref sig .tc := ⟨.hbm, 29, rfl⟩
abbrev main_v20_0 : Ref sig .tc := ⟨.hbm, 30, rfl⟩
abbrev main_call0_cst : Ref sig .tc := ⟨.hbm, 31, rfl⟩
abbrev main_v20_2 : Ref sig .tc := ⟨.hbm, 32, rfl⟩
abbrev main_cst_1 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_cst_5 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_cst_8 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_9 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_10 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_11 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_12 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_call1_cst : Ref sig .tc := ⟨.hbm, 93, rfl⟩
abbrev main_call1_v0 : Ref sig .tc := ⟨.hbm, 94, rfl⟩
abbrev main_v69 : Ref sig .tc := ⟨.hbm, 95, rfl⟩
abbrev main_cst_13 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_14 : Ref sig .tc := ⟨.hbm, 100, rfl⟩
abbrev main_v73 : Ref sig .tc := ⟨.hbm, 101, rfl⟩
abbrev main_v74 : Ref sig .tc := ⟨.hbm, 102, rfl⟩
abbrev main_cst_15 : Ref sig .tc := ⟨.hbm, 103, rfl⟩
abbrev main_v75 : Ref sig .tc := ⟨.hbm, 104, rfl⟩
abbrev main_cst_16 : Ref sig .tc := ⟨.hbm, 105, rfl⟩
abbrev main_v76 : Ref sig .tc := ⟨.hbm, 106, rfl⟩
abbrev main_v77 : Ref sig .tc := ⟨.hbm, 107, rfl⟩
abbrev main_cst_17 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_cst_18 : Ref sig .tc := ⟨.hbm, 122, rfl⟩
abbrev main_v91 : Ref sig .tc := ⟨.hbm, 123, rfl⟩
abbrev main_v92 : Ref sig .tc := ⟨.hbm, 124, rfl⟩

abbrev nD : Nat := 1
abbrev τ : Topo := Topo.v7x

variable {F : FTy → Type} [FloatOps F]
-- ==== Mlp.lean ====
abbrev S2176x1024 : Shape := ⟨2, ![2176, 1024]⟩
abbrev S1024x4096 : Shape := ⟨2, ![1024, 4096]⟩
abbrev S4096x1024 : Shape := ⟨2, ![4096, 1024]⟩
abbrev S2176x4096 : Shape := ⟨2, ![2176, 4096]⟩
abbrev S4x1024x1024 : Shape := ⟨3, ![4, 1024, 1024]⟩
abbrev S1x512x1024 : Shape := ⟨3, ![1, 512, 1024]⟩
abbrev S2176x512 : Shape := ⟨2, ![2176, 512]⟩
abbrev S512x1024 : Shape := ⟨2, ![512, 1024]⟩
abbrev S1x1024x512 : Shape := ⟨3, ![1, 1024, 512]⟩
abbrev S1024x512 : Shape := ⟨2, ![1024, 512]⟩

abbrev nBuf : Space → Nat
  | .hbm => 13
  | .vmem => 12
  | .smem => 0
  | _ => 0

abbrev bufTy : (tb : Table) → Fin (tcTables nBuf tb) → BufTy
  | .hbm, ⟨0, _⟩ => ⟨S2176x1024, .f32⟩
  | .hbm, ⟨1, _⟩ => ⟨S1024x4096, .f32⟩
  | .hbm, ⟨2, _⟩ => ⟨S4096x1024, .f32⟩
  | .hbm, ⟨3, _⟩ => ⟨S2176x1024, .f32⟩
  | .hbm, ⟨4, _⟩ => ⟨S2176x4096, .f32⟩
  | .hbm, ⟨5, _⟩ => ⟨S2176x4096, .bf16⟩
  | .hbm, ⟨6, _⟩ => ⟨S2176x1024, .bf16⟩
  | .hbm, ⟨7, _⟩ => ⟨S4x1024x1024, .f32⟩
  | .hbm, ⟨8, _⟩ => ⟨S4x1024x1024, .bf16⟩
  | .hbm, ⟨9, _⟩ => ⟨S2176x1024, .bf16⟩
  | .hbm, ⟨10, _⟩ => ⟨S2176x4096, .bf16⟩
  | .hbm, ⟨11, _⟩ => ⟨S4096x1024, .bf16⟩
  | .hbm, ⟨12, _⟩ => ⟨S4x1024x1024, .bf16⟩
  | .local _ .vmem, ⟨0, _⟩ => ⟨S2176x1024, .bf16⟩
  | .local _ .vmem, ⟨1, _⟩ => ⟨S2176x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S2176x512, .bf16⟩
  | .local _ .vmem, ⟨5, _⟩ => ⟨S2176x512, .bf16⟩
  | .local _ .vmem, ⟨6, _⟩ => ⟨S2176x512, .bf16⟩
  | .local _ .vmem, ⟨7, _⟩ => ⟨S2176x512, .bf16⟩
  | .local _ .vmem, ⟨8, _⟩ => ⟨S512x1024, .bf16⟩
  | .local _ .vmem, ⟨9, _⟩ => ⟨S512x1024, .bf16⟩
  | .local _ .vmem, ⟨10, _⟩ => ⟨S1x1024x512, .bf16⟩
  | .local _ .vmem, ⟨11, _⟩ => ⟨S1x1024x512, .bf16⟩
  | _, _ => ⟨S2176x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 1 → Memref sig .tc .vmem S2176x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2176x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2176x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2176x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MlpReferenceIdeal.lean ====
abbrev S2176x1024 : Shape := ⟨2, ![2176, 1024]⟩
abbrev S1024x4096 : Shape := ⟨2, ![1024, 4096]⟩
abbrev S4096x1024 : Shape := ⟨2, ![4096, 1024]⟩
abbrev S2176x4096 : Shape := ⟨2, ![2176, 4096]⟩
abbrev S_ : Shape := ⟨0, ![]⟩
abbrev S1024x4x1024 : Shape := ⟨3, ![1024, 4, 1024]⟩
abbrev S4x1024x1024 : Shape := ⟨3, ![4, 1024, 1024]⟩

abbrev nBuf : Space → Nat
  | .hbm => 32
  | .vmem => 0
  | .smem => 0
  | _ => 0

abbrev bufTy : (tb : Table) → Fin (tcTables nBuf tb) → BufTy
  | .hbm, ⟨0, _⟩ => ⟨S2176x1024, .f32⟩
  | .hbm, ⟨1, _⟩ => ⟨S1024x4096, .f32⟩
  | .hbm, ⟨2, _⟩ => ⟨S4096x1024, .f32⟩
  | .hbm, ⟨3, _⟩ => ⟨S2176x1024, .f32⟩
  | .hbm, ⟨4, _⟩ => ⟨S2176x4096, .f32⟩
  | .hbm, ⟨5, _⟩ => ⟨S_, .f32⟩
  | .hbm, ⟨6, _⟩ => ⟨S2176x4096, .f32⟩
  | .hbm, ⟨7, _⟩ => ⟨S2176x4096, .f32⟩
  | .hbm, ⟨8, _⟩ => ⟨S_, .f32⟩
  | .hbm, ⟨9, _⟩ => ⟨S2176x4096, .f32⟩
  | .hbm, ⟨10, _⟩ => ⟨S2176x4096, .i1⟩
  | .hbm, ⟨11, _⟩ => ⟨S_, .f32⟩
  | .hbm, ⟨12, _⟩ => ⟨S2176x4096, .f32⟩
  | .hbm, ⟨13, _⟩ => ⟨S2176x4096, .f32⟩
  | .hbm, ⟨14, _⟩ => ⟨S2176x1024, .f32⟩
  | .hbm, ⟨15, _⟩ => ⟨S1024x4096, .f32⟩
  | .hbm, ⟨16, _⟩ => ⟨S4096x1024, .f32⟩
  | .hbm, ⟨17, _⟩ => ⟨S2176x4096, .f32⟩
  | .hbm, ⟨18, _⟩ => ⟨S2176x4096, .f32⟩
  | .hbm, ⟨19, _⟩ => ⟨S2176x4096, .f32⟩
  | .hbm, ⟨20, _⟩ => ⟨S2176x4096, .f32⟩
  | .hbm, ⟨21, _⟩ => ⟨S_, .f32⟩
  | .hbm, ⟨22, _⟩ => ⟨S2176x4096, .f32⟩
  | .hbm, ⟨23, _⟩ => ⟨S2176x4096, .f32⟩
  | .hbm, ⟨24, _⟩ => ⟨S4096x1024, .f32⟩
  | .hbm, ⟨25, _⟩ => ⟨S1024x4096, .f32⟩
  | .hbm, ⟨26, _⟩ => ⟨S2176x1024, .f32⟩
  | .hbm, ⟨27, _⟩ => ⟨S1024x4x1024, .f32⟩
  | .hbm, ⟨28, _⟩ => ⟨S4x1024x1024, .f32⟩
  | .hbm, ⟨29, _⟩ => ⟨S2176x4096, .bf16⟩
  | .hbm, ⟨30, _⟩ => ⟨S4096x1024, .bf16⟩
  | .hbm, ⟨31, _⟩ => ⟨S4x1024x1024, .bf16⟩
  | _, _ => ⟨S2176x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== MlpForward.lean ====
abbrev S2176x1024 : Shape := ⟨2, ![2176, 1024]⟩
abbrev S1024x4096 : Shape := ⟨2, ![1024, 4096]⟩
abbrev S4096x1024 : Shape := ⟨2, ![4096, 1024]⟩
abbrev S1024 : Shape := ⟨1, ![1024]⟩
abbrev S1024x4x1024 : Shape := ⟨3, ![1024, 4, 1024]⟩
abbrev S4x1024x1024 : Shape := ⟨3, ![4, 1024, 1024]⟩
abbrev S1x1024 : Shape := ⟨2, ![1, 1024]⟩
abbrev S2176x4096 : Shape := ⟨2, ![2176, 4096]⟩
abbrev S544x1024 : Shape := ⟨2, ![544, 1024]⟩
abbrev S544x4096 : Shape := ⟨2, ![544, 4096]⟩
abbrev S1x1024x1024 : Shape := ⟨3, ![1, 1024, 1024]⟩
abbrev S1024x1024 : Shape := ⟨2, ![1024, 1024]⟩
abbrev S544 : Shape := ⟨1, ![544]⟩
abbrev S544x1 : Shape := ⟨2, ![544, 1]⟩

abbrev nBuf : Space → Nat
  | .hbm => 15
  | .vmem => 13
  | .smem => 0
  | _ => 0

abbrev bufTy : (tb : Table) → Fin (tcTables nBuf tb) → BufTy
  | .hbm, ⟨0, _⟩ => ⟨S2176x1024, .f32⟩
  | .hbm, ⟨1, _⟩ => ⟨S1024x4096, .f32⟩
  | .hbm, ⟨2, _⟩ => ⟨S4096x1024, .f32⟩
  | .hbm, ⟨3, _⟩ => ⟨S2176x1024, .f32⟩
  | .hbm, ⟨4, _⟩ => ⟨S1024, .f32⟩
  | .hbm, ⟨5, _⟩ => ⟨S1024x4x1024, .f32⟩
  | .hbm, ⟨6, _⟩ => ⟨S4x1024x1024, .f32⟩
  | .hbm, ⟨7, _⟩ => ⟨S4x1024x1024, .bf16⟩
  | .hbm, ⟨8, _⟩ => ⟨S2176x1024, .bf16⟩
  | .hbm, ⟨9, _⟩ => ⟨S4x1024x1024, .f32⟩
  | .hbm, ⟨10, _⟩ => ⟨S4x1024x1024, .bf16⟩
  | .hbm, ⟨11, _⟩ => ⟨S1x1024, .f32⟩
  | .hbm, ⟨12, _⟩ => ⟨S2176x4096, .bf16⟩
  | .hbm, ⟨13, _⟩ => ⟨S2176x1024, .f32⟩
  | .hbm, ⟨14, _⟩ => ⟨S2176x1024, .bf16⟩
  | .local _ .vmem, ⟨0, _⟩ => ⟨S544x1024, .bf16⟩
  | .local _ .vmem, ⟨1, _⟩ => ⟨S544x1024, .bf16⟩
  | .local _ .vmem, ⟨2, _⟩ => ⟨S4x1024x1024, .bf16⟩
  | .local _ .vmem, ⟨3, _⟩ => ⟨S4x1024x1024, .bf16⟩
  | .local _ .vmem, ⟨4, _⟩ => ⟨S544x1024, .f32⟩
  | .local _ .vmem, ⟨5, _⟩ => ⟨S544x1024, .f32⟩
  | .local _ .vmem, ⟨6, _⟩ => ⟨S1x1024, .f32⟩
  | .local _ .vmem, ⟨7, _⟩ => ⟨S544x4096, .bf16⟩
  | .local _ .vmem, ⟨8, _⟩ => ⟨S544x4096, .bf16⟩
  | .local _ .vmem, ⟨9, _⟩ => ⟨S544x1024, .f32⟩
  | .local _ .vmem, ⟨10, _⟩ => ⟨S544x1024, .f32⟩
  | .local _ .vmem, ⟨11, _⟩ => ⟨S544x1024, .bf16⟩
  | .local _ .vmem, ⟨12, _⟩ => ⟨S544x1024, .bf16⟩
  | _, _ => ⟨S2176x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S544x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S544x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S544x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S544x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S544x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MlpForwardReferenceIdeal.lean ====
abbrev S2176x1024 : Shape := ⟨2, ![2176, 1024]⟩
abbrev S1024x4096 : Shape := ⟨2, ![1024, 4096]⟩
abbrev S4096x1024 : Shape := ⟨2, ![4096, 1024]⟩
abbrev S1024 : Shape := ⟨1, ![1024]⟩
abbrev S2176x4096 : Shape := ⟨2, ![2176, 4096]⟩
abbrev S_ : Shape := ⟨0, ![]⟩
abbrev S2176 : Shape := ⟨1, ![2176]⟩
abbrev S2176x1 : Shape := ⟨2, ![2176, 1]⟩
abbrev S1x1024 : Shape := ⟨2, ![1, 1024]⟩

abbrev nBuf : Space → Nat
  | .hbm => 30
  | .vmem => 0
  | .smem => 0
  | _ => 0

abbrev bufTy : (tb : Table) → Fin (tcTables nBuf tb) → BufTy
  | .hbm, ⟨0, _⟩ => ⟨S2176x1024, .f32⟩
  | .hbm, ⟨1, _⟩ => ⟨S1024x4096, .f32⟩
  | .hbm, ⟨2, _⟩ => ⟨S4096x1024, .f32⟩
  | .hbm, ⟨3, _⟩ => ⟨S2176x1024, .f32⟩
  | .hbm, ⟨4, _⟩ => ⟨S1024, .f32⟩
  | .hbm, ⟨5, _⟩ => ⟨S2176x4096, .f32⟩
  | .hbm, ⟨6, _⟩ => ⟨S_, .f32⟩
  | .hbm, ⟨7, _⟩ => ⟨S2176x4096, .f32⟩
  | .hbm, ⟨8, _⟩ => ⟨S2176x4096, .f32⟩
  | .hbm, ⟨9, _⟩ => ⟨S2176x4096, .f32⟩
  | .hbm, ⟨10, _⟩ => ⟨S2176x1024, .f32⟩
  | .hbm, ⟨11, _⟩ => ⟨S2176x1024, .f32⟩
  | .hbm, ⟨12, _⟩ => ⟨S2176x4096, .bf16⟩
  | .hbm, ⟨13, _⟩ => ⟨S2176x1024, .f32⟩
  | .hbm, ⟨14, _⟩ => ⟨S_, .f32⟩
  | .hbm, ⟨15, _⟩ => ⟨S2176, .f32⟩
  | .hbm, ⟨16, _⟩ => ⟨S2176x1, .f32⟩
  | .hbm, ⟨17, _⟩ => ⟨S_, .f32⟩
  | .hbm, ⟨18, _⟩ => ⟨S2176x1, .f32⟩
  | .hbm, ⟨19, _⟩ => ⟨S2176x1, .f32⟩
  | .hbm, ⟨20, _⟩ => ⟨S_, .f32⟩
  | .hbm, ⟨21, _⟩ => ⟨S2176x1, .f32⟩
  | .hbm, ⟨22, _⟩ => ⟨S2176x1, .f32⟩
  | .hbm, ⟨23, _⟩ => ⟨S2176x1, .f32⟩
  | .hbm, ⟨24, _⟩ => ⟨S2176x1024, .f32⟩
  | .hbm, ⟨25, _⟩ => ⟨S2176x1024, .f32⟩
  | .hbm, ⟨26, _⟩ => ⟨S1x1024, .f32⟩
  | .hbm, ⟨27, _⟩ => ⟨S2176x1024, .f32⟩
  | .hbm, ⟨28, _⟩ => ⟨S2176x1024, .f32⟩
  | .hbm, ⟨29, _⟩ => ⟨S2176x1024, .bf16⟩
  | _, _ => ⟨S2176x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_cst : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]
-- ==== Pieces.lean ====
abbrev S2176x1024 : Shape := ⟨2, ![2176, 1024]⟩
abbrev S2176x512 : Shape := ⟨2, ![2176, 512]⟩
abbrev S2176x128 : Shape := ⟨2, ![2176, 128]⟩
abbrev S512x1024 : Shape := ⟨2, ![512, 1024]⟩
abbrev S128x1024 : Shape := ⟨2, ![128, 1024]⟩
abbrev S512x512 : Shape := ⟨2, ![512, 512]⟩
abbrev S128x512 : Shape := ⟨2, ![128, 512]⟩

abbrev nBuf : Space → Nat
  | .hbm => 20
  | .vmem => 20
  | .smem => 0
  | _ => 0

abbrev bufTy : (tb : Table) → Fin (tcTables nBuf tb) → BufTy
  | .hbm, ⟨0, _⟩ => ⟨S2176x1024, .f32⟩
  | .hbm, ⟨1, _⟩ => ⟨S2176x512, .f32⟩
  | .hbm, ⟨2, _⟩ => ⟨S2176x512, .f32⟩
  | .hbm, ⟨3, _⟩ => ⟨S2176x512, .f32⟩
  | .hbm, ⟨4, _⟩ => ⟨S2176x512, .f32⟩
  | .hbm, ⟨5, _⟩ => ⟨S2176x512, .f32⟩
  | .hbm, ⟨6, _⟩ => ⟨S2176x128, .f32⟩
  | .hbm, ⟨7, _⟩ => ⟨S2176x512, .bf16⟩
  | .hbm, ⟨8, _⟩ => ⟨S2176x512, .bf16⟩
  | .hbm, ⟨9, _⟩ => ⟨S2176x512, .bf16⟩
  | .hbm, ⟨10, _⟩ => ⟨S2176x512, .bf16⟩
  | .hbm, ⟨11, _⟩ => ⟨S2176x512, .bf16⟩
  | .hbm, ⟨12, _⟩ => ⟨S2176x128, .bf16⟩
  | .hbm, ⟨13, _⟩ => ⟨S2176x1024, .bf16⟩
  | .hbm, ⟨14, _⟩ => ⟨S512x1024, .bf16⟩
  | .hbm, ⟨15, _⟩ => ⟨S512x1024, .bf16⟩
  | .hbm, ⟨16, _⟩ => ⟨S512x1024, .bf16⟩
  | .hbm, ⟨17, _⟩ => ⟨S512x1024, .bf16⟩
  | .hbm, ⟨18, _⟩ => ⟨S512x1024, .bf16⟩
  | .hbm, ⟨19, _⟩ => ⟨S128x1024, .bf16⟩
  | .local _ .vmem, ⟨0, _⟩ => ⟨S2176x512, .bf16⟩
  | .local _ .vmem, ⟨1, _⟩ => ⟨S2176x512, .bf16⟩
  | .local _ .vmem, ⟨2, _⟩ => ⟨S2176x512, .bf16⟩
  | .local _ .vmem, ⟨3, _⟩ => ⟨S2176x512, .bf16⟩
  | .local _ .vmem, ⟨4, _⟩ => ⟨S2176x512, .bf16⟩
  | .local _ .vmem, ⟨5, _⟩ => ⟨S2176x128, .bf16⟩
  | .local _ .vmem, ⟨6, _⟩ => ⟨S2176x512, .bf16⟩
  | .local _ .vmem, ⟨7, _⟩ => ⟨S2176x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S128x512, .bf16⟩
  | .local _ .vmem, ⟨19, _⟩ => ⟨S128x512, .bf16⟩
  | _, _ => ⟨S2176x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v7_3 : Ref sig .tc := ⟨.hbm, 17, rfl⟩
abbrev main_v7_4 : Ref sig .tc := ⟨.hbm, 18, rfl⟩
abbrev main_v7_5 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem6_1 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2176x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2176x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2176x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2176x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2176x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2176x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2176x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== PiecesReferenceIdeal.lean ====
abbrev S2176x1024 : Shape := ⟨2, ![2176, 1024]⟩
abbrev S2176x512 : Shape := ⟨2, ![2176, 512]⟩
abbrev S2176x128 : Shape := ⟨2, ![2176, 128]⟩
abbrev S512x1024 : Shape := ⟨2, ![512, 1024]⟩
abbrev S1024x512 : Shape := ⟨2, ![1024, 512]⟩
abbrev S128x1024 : Shape := ⟨2, ![128, 1024]⟩
abbrev S1024x128 : Shape := ⟨2, ![1024, 128]⟩

abbrev nBuf : Space → Nat
  | .hbm => 31
  | .vmem => 0
  | .smem => 0
  | _ => 0

abbrev bufTy : (tb : Table) → Fin (tcTables nBuf tb) → BufTy
  | .hbm, ⟨0, _⟩ => ⟨S2176x1024, .f32⟩
  | .hbm, ⟨1, _⟩ => ⟨S2176x512, .f32⟩
  | .hbm, ⟨2, _⟩ => ⟨S2176x512, .f32⟩
  | .hbm, ⟨3, _⟩ => ⟨S2176x512, .f32⟩
  | .hbm, ⟨4, _⟩ => ⟨S2176x512, .f32⟩
  | .hbm, ⟨5, _⟩ => ⟨S2176x512, .f32⟩
  | .hbm, ⟨6, _⟩ => ⟨S2176x128, .f32⟩
  | .hbm, ⟨7, _⟩ => ⟨S512x1024, .f32⟩
  | .hbm, ⟨8, _⟩ => ⟨S1024x512, .f32⟩
  | .hbm, ⟨9, _⟩ => ⟨S512x1024, .f32⟩
  | .hbm, ⟨10, _⟩ => ⟨S512x1024, .bf16⟩
  | .hbm, ⟨11, _⟩ => ⟨S512x1024, .f32⟩
  | .hbm, ⟨12, _⟩ => ⟨S1024x512, .f32⟩
  | .hbm, ⟨13, _⟩ => ⟨S512x1024, .f32⟩
  | .hbm, ⟨14, _⟩ => ⟨S512x1024, .bf16⟩
  | .hbm, ⟨15, _⟩ => ⟨S512x1024, .f32⟩
  | .hbm, ⟨16, _⟩ => ⟨S1024x512, .f32⟩
  | .hbm, ⟨17, _⟩ => ⟨S512x1024, .f32⟩
  | .hbm, ⟨18, _⟩ => ⟨S512x1024, .bf16⟩
  | .hbm, ⟨19, _⟩ => ⟨S512x1024, .f32⟩
  | .hbm, ⟨20, _⟩ => ⟨S1024x512, .f32⟩
  | .hbm, ⟨21, _⟩ => ⟨S512x1024, .f32⟩
  | .hbm, ⟨22, _⟩ => ⟨S512x1024, .bf16⟩
  | .hbm, ⟨23, _⟩ => ⟨S512x1024, .f32⟩
  | .hbm, ⟨24, _⟩ => ⟨S1024x512, .f32⟩
  | .hbm, ⟨25, _⟩ => ⟨S512x1024, .f32⟩
  | .hbm, ⟨26, _⟩ => ⟨S512x1024, .bf16⟩
  | .hbm, ⟨27, _⟩ => ⟨S128x1024, .f32⟩
  | .hbm, ⟨28, _⟩ => ⟨S1024x128, .f32⟩
  | .hbm, ⟨29, _⟩ => ⟨S128x1024, .f32⟩
  | .hbm, ⟨30, _⟩ => ⟨S128x1024, .bf16⟩
  | _, _ => ⟨S2176x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== Mixer.lean ====
abbrev S2176x512 : Shape := ⟨2, ![2176, 512]⟩
abbrev S512 : Shape := ⟨1, ![512]⟩
abbrev S1024x1024 : Shape := ⟨2, ![1024, 1024]⟩
abbrev S2176x1024 : Shape := ⟨2, ![2176, 1024]⟩
abbrev S1024 : Shape := ⟨1, ![1024]⟩
abbrev S4x256x1024 : Shape := ⟨3, ![4, 256, 1024]⟩
abbrev S1x512 : Shape := ⟨2, ![1, 512]⟩
abbrev S1x1024 : Shape := ⟨2, ![1, 1024]⟩
abbrev S544x512 : Shape := ⟨2, ![544, 512]⟩
abbrev S544x1024 : Shape := ⟨2, ![544, 1024]⟩
abbrev S544 : Shape := ⟨1, ![544]⟩
abbrev S544x1 : Shape := ⟨2, ![544, 1]⟩
abbrev S544x256 : Shape := ⟨2, ![544, 256]⟩
abbrev S1x256x1024 : Shape := ⟨3, ![1, 256, 1024]⟩
abbrev S256x1024 : Shape := ⟨2, ![256, 1024]⟩

abbrev nBuf : Space → Nat
  | .hbm => 15
  | .vmem => 16
  | .smem => 0
  | _ => 0

abbrev bufTy : (tb : Table) → Fin (tcTables nBuf tb) → BufTy
  | .hbm, ⟨0, _⟩ => ⟨S2176x512, .f32⟩
  | .hbm, ⟨1, _⟩ => ⟨S2176x512, .f32⟩
  | .hbm, ⟨2, _⟩ => ⟨S512, .f32⟩
  | .hbm, ⟨3, _⟩ => ⟨S512, .f32⟩
  | .hbm, ⟨4, _⟩ => ⟨S1024x1024, .f32⟩
  | .hbm, ⟨5, _⟩ => ⟨S2176x1024, .f32⟩
  | .hbm, ⟨6, _⟩ => ⟨S1024, .f32⟩
  | .hbm, ⟨7, _⟩ => ⟨S4x256x1024, .f32⟩
  | .hbm, ⟨8, _⟩ => ⟨S4x256x1024, .bf16⟩
  | .hbm, ⟨9, _⟩ => ⟨S1x512, .f32⟩
  | .hbm, ⟨10, _⟩ => ⟨S1x512, .f32⟩
  | .hbm, ⟨11, _⟩ => ⟨S1x1024, .f32⟩
  | .hbm, ⟨12, _⟩ => ⟨S2176x1024, .f32⟩
  | .hbm, ⟨13, _⟩ => ⟨S2176x1024, .bf16⟩
  | .hbm, ⟨14, _⟩ => ⟨S2176x1024, .bf16⟩
  | .local _ .vmem, ⟨0, _⟩ => ⟨S544x512, .f32⟩
  | .local _ .vmem, ⟨1, _⟩ => ⟨S544x512, .f32⟩
  | .local _ .vmem, ⟨2, _⟩ => ⟨S544x512, .f32⟩
  | .local _ .vmem, ⟨3, _⟩ => ⟨S544x512, .f32⟩
  | .local _ .vmem, ⟨4, _⟩ => ⟨S1x512, .f32⟩
  | .local _ .vmem, ⟨5, _⟩ => ⟨S1x512, .f32⟩
  | .local _ .vmem, ⟨6, _⟩ => ⟨S4x256x1024, .bf16⟩
  | .local _ .vmem, ⟨7, _⟩ => ⟨S544x1024, .f32⟩
  | .local _ .vmem, ⟨8, _⟩ => ⟨S544x1024, .f32⟩
  | .local _ .vmem, ⟨9, _⟩ => ⟨S1x1024, .f32⟩
  | .local _ .vmem, ⟨10, _⟩ => ⟨S544x1024, .f32⟩
  | .local _ .vmem, ⟨11, _⟩ => ⟨S544x1024, .f32⟩
  | .local _ .vmem, ⟨12, _⟩ => ⟨S544x1024, .bf16⟩
  | .local _ .vmem, ⟨13, _⟩ => ⟨S544x1024, .bf16⟩
  | .local _ .vmem, ⟨14, _⟩ => ⟨S544x1024, .bf16⟩
  | .local _ .vmem, ⟨15, _⟩ => ⟨S544x1024, .bf16⟩
  | _, _ => ⟨S2176x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S544x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S544x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S544x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S544x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S544x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S544x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MixerReferenceIdeal.lean ====
abbrev S2176x512 : Shape := ⟨2, ![2176, 512]⟩
abbrev S512 : Shape := ⟨1, ![512]⟩
abbrev S1024x1024 : Shape := ⟨2, ![1024, 1024]⟩
abbrev S2176x1024 : Shape := ⟨2, ![2176, 1024]⟩
abbrev S1024 : Shape := ⟨1, ![1024]⟩
abbrev S_ : Shape := ⟨0, ![]⟩
abbrev S2176 : Shape := ⟨1, ![2176]⟩
abbrev S2176x1 : Shape := ⟨2, ![2176, 1]⟩
abbrev S1x512 : Shape := ⟨2, ![1, 512]⟩
abbrev S1x1024 : Shape := ⟨2, ![1, 1024]⟩

abbrev nBuf : Space → Nat
  | .hbm => 60
  | .vmem => 0
  | .smem => 0
  | _ => 0

abbrev bufTy : (tb : Table) → Fin (tcTables nBuf tb) → BufTy
  | .hbm, ⟨0, _⟩ => ⟨S2176x512, .f32⟩
  | .hbm, ⟨1, _⟩ => ⟨S2176x512, .f32⟩
  | .hbm, ⟨2, _⟩ => ⟨S512, .f32⟩
  | .hbm, ⟨3, _⟩ => ⟨S512, .f32⟩
  | .hbm, ⟨4, _⟩ => ⟨S1024x1024, .f32⟩
  | .hbm, ⟨5, _⟩ => ⟨S2176x1024, .f32⟩
  | .hbm, ⟨6, _⟩ => ⟨S1024, .f32⟩
  | .hbm, ⟨7, _⟩ => ⟨S2176x512, .f32⟩
  | .hbm, ⟨8, _⟩ => ⟨S_, .f32⟩
  | .hbm, ⟨9, _⟩ => ⟨S2176, .f32⟩
  | .hbm, ⟨10, _⟩ => ⟨S2176x1, .f32⟩
  | .hbm, ⟨11, _⟩ => ⟨S_, .f32⟩
  | .hbm, ⟨12, _⟩ => ⟨S2176x1, .f32⟩
  | .hbm, ⟨13, _⟩ => ⟨S2176x1, .f32⟩
  | .hbm, ⟨14, _⟩ => ⟨S_, .f32⟩
  | .hbm, ⟨15, _⟩ => ⟨S2176x1, .f32⟩
  | .hbm, ⟨16, _⟩ => ⟨S2176x1, .f32⟩
  | .hbm, ⟨17, _⟩ => ⟨S2176x1, .f32⟩
  | .hbm, ⟨18, _⟩ => ⟨S2176x512, .f32⟩
  | .hbm, ⟨19, _⟩ => ⟨S2176x512, .f32⟩
  | .hbm, ⟨20, _⟩ => ⟨S1x512, .f32⟩
  | .hbm, ⟨21, _⟩ => ⟨S2176x512, .f32⟩
  | .hbm, ⟨22, _⟩ => ⟨S2176x512, .f32⟩
  | .hbm, ⟨23, _⟩ => ⟨S2176x512, .f32⟩
  | .hbm, ⟨24, _⟩ => ⟨S_, .f32⟩
  | .hbm, ⟨25, _⟩ => ⟨S2176, .f32⟩
  | .hbm, ⟨26, _⟩ => ⟨S2176x1, .f32⟩
  | .hbm, ⟨27, _⟩ => ⟨S_, .f32⟩
  | .hbm, ⟨28, _⟩ => ⟨S2176x1, .f32⟩
  | .hbm, ⟨29, _⟩ => ⟨S2176x1, .f32⟩
  | .hbm, ⟨30, _⟩ => ⟨S_, .f32⟩
  | .hbm, ⟨31, _⟩ => ⟨S2176x1, .f32⟩
  | .hbm, ⟨32, _⟩ => ⟨S2176x1, .f32⟩
  | .hbm, ⟨33, _⟩ => ⟨S2176x1, .f32⟩
  | .hbm, ⟨34, _⟩ => ⟨S2176x512, .f32⟩
  | .hbm, ⟨35, _⟩ => ⟨S2176x512, .f32⟩
  | .hbm, ⟨36, _⟩ => ⟨S1x512, .f32⟩
  | .hbm, ⟨37, _⟩ => ⟨S2176x512, .f32⟩
  | .hbm, ⟨38, _⟩ => ⟨S2176x512, .f32⟩
  | .hbm, ⟨39, _⟩ => ⟨S2176x1024, .f32⟩
  | .hbm, ⟨40, _⟩ => ⟨S2176x1024, .f32⟩
  | .hbm, ⟨41, _⟩ => ⟨S2176x1024, .f32⟩
  | .hbm, ⟨42, _⟩ => ⟨S2176x1024, .f32⟩
  | .hbm, ⟨43, _⟩ => ⟨S_, .f32⟩
  | .hbm, ⟨44, _⟩ => ⟨S2176, .f32⟩
  | .hbm, ⟨45, _⟩ => ⟨S2176x1, .f32⟩
  | .hbm, ⟨46, _⟩ => ⟨S_, .f32⟩
  | .hbm, ⟨47, _⟩ => ⟨S2176x1, .f32⟩
  | .hbm, ⟨48, _⟩ => ⟨S2176x1, .f32⟩
  | .hbm, ⟨49, _⟩ => ⟨S_, .f32⟩
  | .hbm, ⟨50, _⟩ => ⟨S2176x1, .f32⟩
  | .hbm, ⟨51, _⟩ => ⟨S2176x1, .f32⟩
  | .hbm, ⟨52, _⟩ => ⟨S2176x1, .f32⟩
  | .hbm, ⟨53, _⟩ => ⟨S2176x1024, .f32⟩
  | .hbm, ⟨54, _⟩ => ⟨S2176x1024, .f32⟩
  | .hbm, ⟨55, _⟩ => ⟨S1x1024, .f32⟩
  | .hbm, ⟨56, _⟩ => ⟨S2176x1024, .f32⟩
  | .hbm, ⟨57, _⟩ => ⟨S2176x1024, .f32⟩
  | .hbm, ⟨58, _⟩ => ⟨S2176x1024, .bf16⟩
  | .hbm, ⟨59, _⟩ => ⟨S2176x1024, .bf16⟩
  | _, _ => ⟨S2176x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩

abbrev nD : Nat := 1
abbrev τ : Topo := Topo.v7x

variable {F : FTy → Type} [FloatOps F]
-- ==== Proof.Reals.lean ====
/- Arrays of the ideal program whose entries are real numbers, and the value of each operation on them.

   `Is2 x f` says that the two-axis array `x` holds, at row `i` and column `j`, the real number `f i j`.
   The functions are indexed by natural numbers, so that a slice or a block is a shift of the index. -/
module

public import Idealize.ShloMosaic.Lib.Pointwise
public import Idealize.ShloMosaic.Lib.Pointwise.IndexVar
public import Idealize.ShloMosaic.Lib.ValueLayout
public import Idealize.ShloMosaic.Lib.Affine
public import Idealize.ShloMosaic.PureOps.Ideal

@[expose] public section

noncomputable section

namespace Cert.Reals

open Idealize.ShloMosaic

/-- The two-axis array `x` holds the real `f i j` at `(i, j)`. -/
def Is2 {a b : ℕ} {φ : FTy} (x : FVec Ideal ⟨2, ![a, b]⟩ φ) (f : ℕ → ℕ → ℝ) : Prop :=
  ∀ (i : Fin a) (j : Fin b), x (ix2 i j) = ((f i j : ℝ) : EReal)

/-- The three-axis array `x` holds the real `f i j k` at `(i, j, k)`. -/
def Is3 {a b c : ℕ} {φ : FTy} (x : FVec Ideal ⟨3, ![a, b, c]⟩ φ) (f : ℕ → ℕ → ℕ → ℝ) : Prop :=
  ∀ (i : Fin a) (j : Fin b) (k : Fin c), x (ix3 i j k) = ((f i j k : ℝ) : EReal)

/-- The one-axis array `x` holds the real `f i` at `i`. -/
def Is1 {a : ℕ} {φ : FTy} (x : FVec Ideal ⟨1, ![a]⟩ φ) (f : ℕ → ℝ) : Prop :=
  ∀ i : Fin a, x (ix1 i) = ((f i : ℝ) : EReal)

/-- The mask `m` is set exactly where `p` holds. -/
def Mask {a b : ℕ} (m : IVec ⟨2, ![a, b]⟩ 1) (p : ℕ → ℕ → Prop) : Prop :=
  ∀ (i : Fin a) (j : Fin b), m (ix2 i j) = 1 ↔ p i j

/-- The reals' finite sums, read in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert i s h ih => rw [Finset.sum_insert h, Finset.sum_insert h, EReal.coe_add, ih]

/-- A sum over an axis of reals is the sum over the numbers below its extent. -/
theorem sum_axis (n : ℕ) (f : ℕ → ℝ) : ∑ i : Fin n, ((f i : ℝ) : EReal) = ((∑ i ∈ Finset.range n, f i : ℝ) : EReal) := by
  rw [← coe_sum, ← Fin.sum_univ_eq_sum_range]

variable {a b c n : ℕ} {φ ψ : FTy} {f g : ℕ → ℕ → ℝ}

theorem Is2.congr {x : FVec Ideal ⟨2, ![a, b]⟩ φ} (h : Is2 x f) (e : ∀ i < a, ∀ j < b, f i j = g i j) : Is2 x g :=
  fun i j => by rw [h i j, e i i.isLt j j.isLt]

theorem Is2.add {x y : FVec Ideal ⟨2, ![a, b]⟩ φ} (hx : Is2 x f) (hy : Is2 y g) :
    Is2 (addf x y) fun i j => f i j + g i j := fun i j => by
  pointwise; rw [hx, hy]; norm_cast

theorem Is2.sub {x y : FVec Ideal ⟨2, ![a, b]⟩ φ} (hx : Is2 x f) (hy : Is2 y g) :
    Is2 (subf x y) fun i j => f i j - g i j := fun i j => by
  pointwise; rw [hx, hy]; norm_cast

theorem Is2.mul {x y : FVec Ideal ⟨2, ![a, b]⟩ φ} (hx : Is2 x f) (hy : Is2 y g) :
    Is2 (mulf x y) fun i j => f i j * g i j := fun i j => by
  pointwise; rw [hx, hy]; norm_cast

theorem Is2.ex {x : FVec Ideal ⟨2, ![a, b]⟩ φ} (hx : Is2 x f) : Is2 (exp x) fun i j => Real.exp (f i j) := fun i j => by
  pointwise; rw [hx]; simp

theorem Is2.trunc {x : FVec Ideal ⟨2, ![a, b]⟩ φ} (h : ψ.bits < φ.bits) (hx : Is2 x f) : Is2 (truncf ψ x h) f := fun i j => by
  pointwise; rw [hx]

theorem Is2.ext {x : FVec Ideal ⟨2, ![a, b]⟩ φ} (h : φ.bits < ψ.bits) (hx : Is2 x f) : Is2 (extf ψ x h) f := fun i j => by
  pointwise; rw [hx]

theorem Is2.zero {s : Ideal φ} (h : s = 0) : Is2 (broadcast ⟨2, ![a, b]⟩ s) fun _ _ => 0 := fun i j => by
  pointwise; rw [h]; rfl

theorem Is2.tr {x : FVec Ideal ⟨2, ![a, b]⟩ φ} (h) (hx : Is2 x f) :
    Is2 (transpose ⟨2, ![b, a]⟩ [1, 0] x h) fun i j => f j i := fun i j => by
  pointwise; rw [hx]

theorem Is2.slice {x : FVec Ideal ⟨2, ![a, b]⟩ φ} {a' b' : ℕ} {off : Fin 2 → ℕ} (h) (hx : Is2 x f) :
    Is2 (extractStridedSlice ⟨2, ![a', b']⟩ off x h) fun i j => f (off 0 + i) (off 1 + j) := fun i j => by
  pointwise; rw [hx]

theorem Is2.castSame {x : FVec Ideal ⟨2, ![a, b]⟩ φ} (h) (hx : Is2 x f) : Is2 (shapeCast ⟨2, ![a, b]⟩ x h) f := fun i j => by
  pointwise; exact hx i j

theorem Is2.row {x : FVec Ideal ⟨2, ![1, b]⟩ φ} (h) (hx : Is2 x f) : Is2 (broadcastTo ⟨2, ![a, b]⟩ x h) fun _ j => f 0 j := fun i j => by
  exact (ValueIdx.broadcastTo_1b_ab_apply x h i j).trans (hx 0 j)

theorem Is2.drop {f : ℕ → ℕ → ℕ → ℝ} {x : FVec Ideal ⟨3, ![1, a, b]⟩ φ} (h) (hx : Is3 x f) : Is2 (shapeCast ⟨2, ![a, b]⟩ x h) (f 0) := fun i j => by
  exact (ValueIdx.shapeCast_1ab_ab_apply x h i j).trans (hx 0 i j)

theorem Is3.lift {x : FVec Ideal ⟨2, ![a, b]⟩ φ} (h) (hx : Is2 x f) : Is3 (shapeCast ⟨3, ![1, a, b]⟩ x h) (fun _ => f) := fun i j k => by
  exact (ValueIdx.shapeCast_ab_1ab_apply x h i j k).trans (hx j k)

theorem Is2.sel {m : IVec ⟨2, ![a, b]⟩ 1} {p : ℕ → ℕ → Prop} [∀ i j, Decidable (p i j)] {x y : FVec Ideal ⟨2, ![a, b]⟩ φ} (hm : Mask m p) (hx : Is2 x f) (hy : Is2 y g) :
    Is2 (select m x y) fun i j => if p i j then f i j else g i j := fun i j => by
  pointwise
  unfold Scalar.select
  by_cases hp : p i j
  · rw [if_pos ((hm i j).2 hp), if_pos hp, hx]
  · rw [if_neg (mt (hm i j).1 hp), if_neg hp, hy]

theorem Is2.catCols {x y : FVec Ideal ⟨2, ![a, b]⟩ φ} (h) (hx : Is2 x f) (hy : Is2 y g) (hc : c = b + b) :
    Is2 (concatenate ⟨2, ![a, c]⟩ 1 [⟨_, x⟩, ⟨_, y⟩] h) fun i j => if j < b then f i j else g i (j - b) := fun i j => by
  pointwise
  split_ifs with h1
  · exact hx _ _
  all_goals exact hy _ _

theorem Is2.catRows {x y : FVec Ideal ⟨2, ![a, b]⟩ φ} (h) (hx : Is2 x f) (hy : Is2 y g) (hc : c = a + a) :
    Is2 (concatenate ⟨2, ![c, b]⟩ 0 [⟨_, x⟩, ⟨_, y⟩] h) fun i j => if i < a then f i j else g (i - a) j := fun i j => by
  pointwise
  split_ifs with h1
  · exact hx _ _
  all_goals exact hy _ _

theorem Is2.mm {d : DotDims ⟨2, ![a, b]⟩ ⟨2, ![b, c]⟩ ⟨2, ![a, c]⟩} {x : FVec Ideal ⟨2, ![a, b]⟩ φ} {y : FVec Ideal ⟨2, ![b, c]⟩ ψ}
    {z : FVec Ideal ⟨2, ![a, c]⟩ .f32} {u : ℕ → ℕ → ℝ} (hd : d = DotDims.plain a b c) (p)
    (hx : Is2 x f) (hy : Is2 y g) (hz : Is2 z u) :
    Is2 (matmul d p x y z) fun i j => u i j + ∑ k ∈ Finset.range b, f i k * g k j := fun i j => by
  subst hd
  pointwise
  refine (Ideal.matmul_apply₁_of (DotDims.plain a b c) (a := 1) rfl (K := b) rfl x y z (ix2 i j) (fun k => ix2 i k) (fun k => ix2 k j) ?_ ?_).trans ?_
  · intro k; funext e; refine Fin.ext ?_; fin_cases e <;> rfl
  · intro k; funext e; refine Fin.ext ?_; fin_cases e <;> rfl
  · rw [hz, EReal.coe_add, ← sum_axis]
    simp only [hx _ _, hy _ _, EReal.coe_mul]

theorem Is1.colSum {x : FVec Ideal ⟨2, ![a, b]⟩ φ} (w h1 h2 h3) (hx : Is2 x f) :
    Is1 (multiReduction .add [0] ⟨1, ![b]⟩ x w h1 h2 h3) fun j => ∑ i ∈ Finset.range a, f i j := fun j => by
  pointwise; simp only [hx _ _]; exact sum_axis a fun i => f i j

theorem Is1.rowSum {x : FVec Ideal ⟨2, ![a, b]⟩ φ} (w h1 h2 h3) (hx : Is2 x f) :
    Is1 (multiReduction .add [1] ⟨1, ![a]⟩ x w h1 h2 h3) fun i => ∑ j ∈ Finset.range b, f i j := fun j => by
  pointwise; simp only [hx _ _]; exact sum_axis b fun i => f j i

/-- A one-axis array laid out as one row. -/
theorem Is2.ofRow {f : ℕ → ℝ} {x : FVec Ideal ⟨1, ![b]⟩ φ} (h) (hx : Is1 x f) : Is2 (shapeCast ⟨2, ![1, b]⟩ x h) fun _ j => f j := fun i j =>
  (ValueIdx.shapeCast_a_1a_apply x h i j).trans (hx j)

/-- A one-axis array laid out as one column. -/
theorem Is2.ofCol {f : ℕ → ℝ} {x : FVec Ideal ⟨1, ![a]⟩ φ} (h) (hx : Is1 x f) : Is2 (shapeCast ⟨2, ![a, 1]⟩ x h) fun i _ => f i := fun i j => by
  refine (Idealize.ShloMosaic.shapeCast_apply x h _ (ix1 i) ?_).trans (hx i)
  rw [Shape.rowMajor_val_one, Shape.rowMajor_val_two]
  show i.val = i.val * 1 + j.val
  omega

theorem Is2.const {s : Ideal φ} {r : ℝ} (h : s = (r : EReal)) : Is2 (broadcast ⟨2, ![a, b]⟩ s) fun _ _ => r := fun i j => by
  pointwise; exact h

/-- The zero accumulator of a product. -/
theorem Is2.zeros : Is2 (constant (F := Ideal) ⟨2, ![a, b]⟩ .f32 0x00000000#32) fun _ _ => 0 := fun i j => by
  pointwise; simp

end Cert.Reals

end
-- ==== Proof.Tile.lean ====
/- One span of keys of the attention's backward block, as the kernel computes it for a pair of heads.

   Queries of two heads lie side by side in 128 lanes. The kernel spreads them block-diagonally, multiplies once, and
   cuts the two heads apart afterwards. Each lemma states what one such step holds, at any number of keys. -/
module

public import proofs.«01_k».proof.Proof.Reals

@[expose] public section

noncomputable section

namespace Cert.Reals

open Idealize.ShloMosaic

variable {a b c n w : ℕ} {φ ψ : FTy}

/-- Two heads' rows spread block-diagonally over 256 columns: column `c` is query `c % 128` of head `c / 128`. -/
def dcols (A : ℕ → ℕ → ℝ) (r c : ℕ) : ℝ :=
  if c < 128 then (if r < 64 then A c r else 0) else (if r < 64 then 0 else A (c - 128) r)

/-- The same over 256 rows. -/
def drows (A : ℕ → ℕ → ℝ) (r c : ℕ) : ℝ :=
  if r < 128 then (if c < 64 then A r c else 0) else (if c < 64 then 0 else A (r - 128) c)

/-- The product of a key's row and a query's row over the 64 lanes of head `e` of the pair. -/
def head (e : ℕ) (B A : ℕ → ℕ → ℝ) (k q : ℕ) : ℝ := ∑ l ∈ Finset.range 64, B k (64 * e + l) * A q (64 * e + l)

/-! ### Masks -/

/-- A word below half the range is the number it holds, as a signed integer. -/
theorem toInt_of_lt {x : BitVec 32} (h : x.toNat < 2 ^ 31) : x.toInt = x.toNat := by
  rw [BitVec.toInt_eq_toNat_of_lt]; omega

theorem add_toInt {x : BitVec 32} {i a : ℕ} (h : x.toNat + a < 2 ^ 31) (hi : i < a) :
    (IntOp.addi x (BitVec.ofNat 32 i)).toInt = ((x.toNat + i : ℕ) : ℤ) := by
  have e : (IntOp.addi x (BitVec.ofNat 32 i)).toNat = x.toNat + i := by
    show (x + BitVec.ofNat 32 i).toNat = _
    rw [BitVec.toNat_add, BitVec.toNat_ofNat]; omega
  rw [toInt_of_lt (by omega), e]

theorem lt64 {i : ℕ} (hi : i < 128) : IntOp.cmpi .slt (BitVec.ofNat 32 i) 64#32 = 1 ↔ i < 64 := by
  refine IntOp.cmpi_slt.trans ?_
  have e : (BitVec.ofNat 32 i).toNat = i := by rw [BitVec.toNat_ofNat]; omega
  rw [toInt_of_lt (by omega), toInt_of_lt (by decide), e]
  show (i : ℤ) < 64 ↔ _
  omega

theorem Mask.ltRow (h : (⟨2, ![128, 128]⟩ : Shape).Iotas .tc 32 [0]) :
    Mask (cmpi .slt (iota .tc ⟨2, ![128, 128]⟩ 32 [0] h) (broadcast ⟨2, ![128, 128]⟩ 64#32)) fun r _ => r < 64 := fun i j => by
  pointwise; exact lt64 i.isLt

theorem Mask.ltCol (h : (⟨2, ![128, 128]⟩ : Shape).Iotas .tc 32 [1]) :
    Mask (cmpi .slt (iota .tc ⟨2, ![128, 128]⟩ 32 [1] h) (broadcast ⟨2, ![128, 128]⟩ 64#32)) fun _ c => c < 64 := fun i j => by
  pointwise; exact lt64 j.isLt

theorem Mask.seen {k0 q0 : BitVec 32} (h h') (hk : k0.toNat + a < 2 ^ 31) (hq : q0.toNat + b < 2 ^ 31) :
    Mask (cmpi .sle (addi (broadcast ⟨2, ![a, b]⟩ k0) (iota .tc ⟨2, ![a, b]⟩ 32 [0] h)) (addi (broadcast ⟨2, ![a, b]⟩ q0) (iota .tc ⟨2, ![a, b]⟩ 32 [1] h')))
      fun k q => k0.toNat + k ≤ q0.toNat + q := fun i j => by
  pointwise
  refine IntOp.cmpi_sle.trans ?_
  rw [add_toInt hk i.isLt, add_toInt hq j.isLt]
  omega

/-! ### The block-diagonal operands -/

theorem Is2.diagCols {A : ℕ → ℕ → ℝ} {x : FVec Ideal ⟨2, ![128, 128]⟩ .bf16} {z z' : Ideal .bf16} {m} (h1 h2 h3 h4)
    (hm : Mask m fun r _ => r < 64) (hz : z = 0) (hz' : z' = 0) (hx : Is2 x A) :
    Is2 (concatenate ⟨2, ![128, 256]⟩ 1
      [⟨⟨2, ![128, 128]⟩, select m (truncf .bf16 (transpose ⟨2, ![128, 128]⟩ [1, 0] (extf .f32 x h1) h2) h3) (broadcast ⟨2, ![128, 128]⟩ z)⟩,
       ⟨⟨2, ![128, 128]⟩, select m (broadcast ⟨2, ![128, 128]⟩ z') (truncf .bf16 (transpose ⟨2, ![128, 128]⟩ [1, 0] (extf .f32 x h1) h2) h3)⟩] h4)
      (dcols A) :=
  Is2.catCols h4 (Is2.sel hm (((hx.ext h1).tr h2).trunc h3) (.zero hz)) (Is2.sel hm (.zero hz') (((hx.ext h1).tr h2).trunc h3)) rfl

theorem Is2.diagRows {A : ℕ → ℕ → ℝ} {x : FVec Ideal ⟨2, ![128, 128]⟩ .bf16} {z z' : Ideal .bf16} {m} (h)
    (hm : Mask m fun _ c => c < 64) (hz : z = 0) (hz' : z' = 0) (hx : Is2 x A) :
    Is2 (concatenate ⟨2, ![256, 128]⟩ 0
      [⟨⟨2, ![128, 128]⟩, select m x (broadcast ⟨2, ![128, 128]⟩ z)⟩,
       ⟨⟨2, ![128, 128]⟩, select m (broadcast ⟨2, ![128, 128]⟩ z') x⟩] h)
      (drows A) :=
  Is2.catRows h (Is2.sel hm hx (.zero hz)) (Is2.sel hm (.zero hz') hx) rfl

theorem sum_range_128 (F : ℕ → ℝ) : ∑ r ∈ Finset.range 128, F r = ∑ l ∈ Finset.range 64, F l + ∑ l ∈ Finset.range 64, F (64 + l) :=
  Finset.sum_range_add F 64 64

theorem sum_range_256 (F : ℕ → ℝ) : ∑ r ∈ Finset.range 256, F r = ∑ l ∈ Finset.range 128, F l + ∑ l ∈ Finset.range 128, F (128 + l) :=
  Finset.sum_range_add F 128 128

theorem sum_dcols_left (B A : ℕ → ℕ → ℝ) (k q : ℕ) (hq : q < 128) :
    ∑ r ∈ Finset.range 128, B k r * dcols A r (0 + q) = head 0 B A k q := by
  rw [sum_range_128, head, Finset.sum_eq_zero (s := Finset.range 64) (f := fun l => B k (64 + l) * dcols A (64 + l) (0 + q)), add_zero]
  · refine Finset.sum_congr rfl fun l hl => ?_
    have := Finset.mem_range.1 hl
    simp [dcols, hq, this]
  · intro l _
    simp [dcols, hq]

theorem sum_dcols_right (B A : ℕ → ℕ → ℝ) (k q : ℕ) :
    ∑ r ∈ Finset.range 128, B k r * dcols A r (128 + q) = head 1 B A k q := by
  rw [sum_range_128, head, Finset.sum_eq_zero (s := Finset.range 64) (f := fun l => B k l * dcols A l (128 + q)), zero_add]
  · refine Finset.sum_congr rfl fun l hl => ?_
    simp [dcols]
  · intro l hl
    have := Finset.mem_range.1 hl
    simp [dcols, this]

variable {A B : ℕ → ℕ → ℝ}

/-- The first head's columns of the product of keys and block-diagonal queries. -/
theorem Is2.scores0 {d : DotDims ⟨2, ![n, 128]⟩ ⟨2, ![128, 256]⟩ ⟨2, ![n, 256]⟩} {x : FVec Ideal ⟨2, ![n, 128]⟩ .bf16}
    {y : FVec Ideal ⟨2, ![128, 256]⟩ .bf16} {z : FVec Ideal ⟨2, ![n, 256]⟩ .f32} (hd : d = DotDims.plain n 128 256) (p h)
    (hz : Is2 z fun _ _ => 0) (hx : Is2 x B) (hy : Is2 y (dcols A)) :
    Is2 (extractStridedSlice ⟨2, ![n, 128]⟩ ![0, 0] (matmul d p x y z) h) (head 0 B A) :=
  ((Is2.mm hd p hx hy hz).slice h).congr fun i _ j hj => by
    show (0 : ℝ) + _ = _
    rw [zero_add, ← sum_dcols_left B A i j hj]
    simp

theorem Is2.scores1 {d : DotDims ⟨2, ![n, 128]⟩ ⟨2, ![128, 256]⟩ ⟨2, ![n, 256]⟩} {x : FVec Ideal ⟨2, ![n, 128]⟩ .bf16}
    {y : FVec Ideal ⟨2, ![128, 256]⟩ .bf16} {z : FVec Ideal ⟨2, ![n, 256]⟩ .f32} (hd : d = DotDims.plain n 128 256) (p h)
    (hz : Is2 z fun _ _ => 0) (hx : Is2 x B) (hy : Is2 y (dcols A)) :
    Is2 (extractStridedSlice ⟨2, ![n, 128]⟩ ![0, 128] (matmul d p x y z) h) (head 1 B A) :=
  ((Is2.mm hd p hx hy hz).slice h).congr fun i _ j hj => by
    show (0 : ℝ) + _ = _
    rw [zero_add, ← sum_dcols_right B A i j]
    simp

/-- The weights of a span whose keys no query of the block precedes. -/
theorem Is2.weights {s g c : ℕ → ℕ → ℝ} {x y : FVec Ideal ⟨2, ![n, 128]⟩ .f32} {r : FVec Ideal ⟨2, ![1, 128]⟩ .f32} (h)
    (hx : Is2 x s) (hy : Is2 y g) (hr : Is2 r c) :
    Is2 (exp (addf (subf x y) (broadcastTo ⟨2, ![n, 128]⟩ r h))) fun k q => Real.exp (s k q - g k q + c 0 q) :=
  ((hx.sub hy).add (hr.row h)).ex

/-- The weights of a masked span: the exponential of −∞ is zero. -/
theorem Is2.weightsMasked {s g c : ℕ → ℕ → ℝ} {m} {p : ℕ → ℕ → Prop} [∀ i j, Decidable (p i j)] {x y : FVec Ideal ⟨2, ![n, 128]⟩ .f32} {z : Ideal .f32}
    {r : FVec Ideal ⟨2, ![1, 128]⟩ .f32} (h) (hz : z = (⊥ : EReal)) (hm : Mask m p) (hx : Is2 x s) (hy : Is2 y g) (hr : Is2 r c) :
    Is2 (exp (addf (select m (subf x y) (broadcast ⟨2, ![n, 128]⟩ z)) (broadcastTo ⟨2, ![n, 128]⟩ r h)))
      fun k q => if p k q then Real.exp (s k q - g k q + c 0 q) else 0 := fun i j => by
  have hr' := hr.row h i j
  have hs := hx.sub hy i j
  pointwise
  unfold Scalar.select
  by_cases hp : p i j
  · rw [if_pos ((hm i j).2 hp), if_pos hp]
    rw [hx, hy, hr]
    simp [← EReal.coe_sub, ← EReal.coe_add]
  · rw [if_neg (mt (hm i j).1 hp), if_neg hp, hz]
    rw [hr, EReal.bot_add]
    simp

/-- Two heads' columns side by side times the block-diagonal rows: lane `l` takes the rows of head `l / 64`. -/
theorem Is2.mixRows {f g : ℕ → ℕ → ℝ} {d : DotDims ⟨2, ![n, 256]⟩ ⟨2, ![256, 128]⟩ ⟨2, ![n, 128]⟩} {x x' : FVec Ideal ⟨2, ![n, 128]⟩ .bf16}
    {y : FVec Ideal ⟨2, ![256, 128]⟩ .bf16} {z : FVec Ideal ⟨2, ![n, 128]⟩ .f32} (hd : d = DotDims.plain n 256 128) (p h)
    (hz : Is2 z fun _ _ => 0) (hx : Is2 x f) (hx' : Is2 x' g) (hy : Is2 y (drows A)) :
    Is2 (matmul d p (concatenate ⟨2, ![n, 256]⟩ 1 [⟨⟨2, ![n, 128]⟩, x⟩, ⟨⟨2, ![n, 128]⟩, x'⟩] h) y z)
      fun k l => ∑ q ∈ Finset.range 128, (if l < 64 then f k q else g k q) * A q l :=
  (Is2.mm hd p (Is2.catCols h hx hx' rfl) hy hz).congr fun k _ l _ => by
    rw [zero_add, sum_range_256, ← Finset.sum_add_distrib]
    refine Finset.sum_congr rfl fun q hq => ?_
    have := Finset.mem_range.1 hq
    by_cases hl : l < 64 <;> simp [drows, hl, this]

/-- Cutting the two heads' own rows and columns out of a 128 × 256 array, one above the other. -/
theorem Is2.joinHeads {f g : ℕ → ℕ → ℝ} {x : FVec Ideal ⟨2, ![128, 256]⟩ .f32} (h1 h2 h3)
    (hx : Is2 x fun r c => if c < 128 then f r c else g r (c - 128)) :
    Is2 (concatenate ⟨2, ![128, 128]⟩ 0 [⟨⟨2, ![64, 128]⟩, extractStridedSlice ⟨2, ![64, 128]⟩ ![0, 0] x h1⟩,
      ⟨⟨2, ![64, 128]⟩, extractStridedSlice ⟨2, ![64, 128]⟩ ![64, 128] x h2⟩] h3)
      fun r q => if r < 64 then f r q else g r q :=
  (Is2.catRows h3 (hx.slice h1) (hx.slice h2) rfl).congr fun r _ q hq => by
    by_cases hr : r < 64
    · simp [hr, hq]
    · simp [hr, Nat.add_sub_cancel' (not_lt.1 hr)]

end Cert.Reals

end
-- ==== Proof.Model.lean ====
/- The attention's backward pass in real numbers, the way both programs are compared with it.

   Rows are tokens, columns are the heads' lanes side by side, 64 to a head. `CT h q` is the forget gates' running sum of
   head `h` at token `q`, `LT h q` the logarithm of the sum of its weights. -/
module

public import Idealize.ShloMosaic.PureOps.Ideal

@[expose] public section

noncomputable section

namespace Cert.Model

/-- `G` seen from row `r` and column `c` on. -/
def win (G : ℕ → ℕ → ℝ) (r c i j : ℕ) : ℝ := G (r + i) (c + j)

/-- The real numbers one device works on: scaled queries, keys, values, the output's gradient, and the two rows of each head. -/
structure Data where
  Q : ℕ → ℕ → ℝ
  K : ℕ → ℕ → ℝ
  V : ℕ → ℕ → ℝ
  DO : ℕ → ℕ → ℝ
  CT : ℕ → ℕ → ℝ
  LT : ℕ → ℕ → ℝ

namespace Data

variable (d : Data)

/-- The weight of key `k` for query `q` in head `h`. -/
def P (h k q : ℕ) : ℝ :=
  if k ≤ q then Real.exp ((∑ l ∈ Finset.range 64, d.K k (64 * h + l) * d.Q q (64 * h + l)) - d.CT h k + (d.CT h q - d.LT h q)) else 0

/-- The gradient reaching the weight. -/
def dP (h k q : ℕ) : ℝ := ∑ l ∈ Finset.range 64, d.V k (64 * h + l) * d.DO q (64 * h + l)

/-- The part of that gradient the normalisation takes away. -/
def D (h q : ℕ) : ℝ := ∑ k ∈ Finset.range 2176, d.P h k q * d.dP h k q

/-- The gradient of the score. -/
def dS (h k q : ℕ) : ℝ := d.P h k q * (d.dP h k q - d.D h q)

theorem P_zero {h k q : ℕ} (hk : q < k) : d.P h k q = 0 := if_neg (by omega)

theorem dS_zero {h k q : ℕ} (hk : q < k) : d.dS h k q = 0 := by rw [dS, P_zero d hk, zero_mul]

/-- Keys after the query weigh nothing, so a sum over the keys may stop anywhere past it. -/
theorem sum_upto {n q : ℕ} (f : ℕ → ℝ) (hf : ∀ k, q < k → f k = 0) (hq : q < n) (hn : n ≤ 2176) :
    ∑ k ∈ Finset.range n, f k = ∑ k ∈ Finset.range 2176, f k := by
  refine Finset.sum_subset (Finset.range_mono hn) fun k _ hk => hf k ?_
  rw [Finset.mem_range] at hk
  omega

theorem D_upto {h n q : ℕ} (hq : q < n) (hn : n ≤ 2176) : ∑ k ∈ Finset.range n, d.P h k q * d.dP h k q = d.D h q :=
  sum_upto _ (fun k hk => by rw [P_zero d hk, zero_mul]) hq hn

/-! The gradients of one pair of windows `p` (four heads, 256 lanes), from the queries below `n`. -/

/-- Of the keys. -/
def dk (p n k l : ℕ) : ℝ := ∑ q ∈ Finset.range n, d.dS (4 * p + l / 64) k q * d.Q q (256 * p + l)

/-- Of the values. -/
def dv (p n k l : ℕ) : ℝ := ∑ q ∈ Finset.range n, d.P (4 * p + l / 64) k q * d.DO q (256 * p + l)

/-- Of the score, summed over the queries: the running sum's gradient up to its sign. -/
def dc (p n e k : ℕ) : ℝ := ∑ q ∈ Finset.range n, d.dS (4 * p + e) k q

/-- Of the queries. -/
def dq (p q l : ℕ) : ℝ := 1 / 8 * ∑ k ∈ Finset.range 2176, d.K k (256 * p + l) * d.dS (4 * p + l / 64) k q

theorem dk_add (p n k l : ℕ) : d.dk p (n + 128) k l
    = d.dk p n k l + ∑ q ∈ Finset.range 128, d.dS (4 * p + l / 64) k (n + q) * d.Q (n + q) (256 * p + l) :=
  Finset.sum_range_add _ n 128

theorem dv_add (p n k l : ℕ) : d.dv p (n + 128) k l
    = d.dv p n k l + ∑ q ∈ Finset.range 128, d.P (4 * p + l / 64) k (n + q) * d.DO (n + q) (256 * p + l) :=
  Finset.sum_range_add _ n 128

theorem dc_add (p n e k : ℕ) : d.dc p (n + 128) e k = d.dc p n e k + ∑ q ∈ Finset.range 128, d.dS (4 * p + e) k (n + q) :=
  Finset.sum_range_add _ n 128

/-- A key after all queries of a block gets nothing from them. -/
theorem dk_skip {p n k : ℕ} (hk : n + 128 ≤ k) (l : ℕ) : d.dk p (n + 128) k l = d.dk p n k l := by
  rw [dk_add, add_eq_left]
  refine Finset.sum_eq_zero fun q hq => ?_
  rw [Finset.mem_range] at hq
  rw [dS_zero d (by omega), zero_mul]

theorem dv_skip {p n k : ℕ} (hk : n + 128 ≤ k) (l : ℕ) : d.dv p (n + 128) k l = d.dv p n k l := by
  rw [dv_add, add_eq_left]
  refine Finset.sum_eq_zero fun q hq => ?_
  rw [Finset.mem_range] at hq
  rw [P_zero d (by omega), zero_mul]

theorem dc_skip {p n k : ℕ} (hk : n + 128 ≤ k) (e : ℕ) : d.dc p (n + 128) e k = d.dc p n e k := by
  rw [dc_add, add_eq_left]
  refine Finset.sum_eq_zero fun q hq => ?_
  rw [Finset.mem_range] at hq
  rw [dS_zero d (by omega)]

theorem dk_zero (p k l : ℕ) : d.dk p 0 k l = 0 := rfl
theorem dv_zero (p k l : ℕ) : d.dv p 0 k l = 0 := rfl
theorem dc_zero (p e k : ℕ) : d.dc p 0 e k = 0 := rfl

end Data

end Cert.Model

end
-- ==== Proof.Store.lean ====
/- What a buffer holds where it is known, and how a store and a load change and use that. -/
module

public import proofs.«01_k».proof.Proof.Reals
public import proofs.«01_k».proof.Proof.Model
public import Idealize.ShloMosaic.Lib.WritesUnit
public import Idealize.ShloMosaic.Lib.Pipeline.ValueKit

@[expose] public section

noncomputable section

namespace Cert.Reals

open Idealize.ShloMosaic Cert.Model

section On

variable {sig : RefSig} {κ : Kind} {sp : Space} {s : Shape} {e : EltTy} {Val : EltTy → Type}

/-- The contents `f`, read through the view `v`, are `G` at the indices of `P`. -/
def On (v : View sig κ sp s e) (f : v.ty.Contents Val) (G : s.Idx → Val e) (P : s.Idx → Prop) : Prop :=
  ∀ y, P y → v.read Val f y = G y

variable {v : View sig κ sp s e} {f : v.ty.Contents Val} {G : s.Idx → Val e} {P : s.Idx → Prop}

theorem On.nil (h : ∀ y, P y → v.read Val f y = G y) : On v (v.writes Val f []) G P := h

/-- A store of a block of `G`: what lies outside the block has to be `G` already. -/
theorem On.cons {off size : Fin s.rank → ℕ} {inb : ∀ a, off a + size a ≤ s.size a} {w : (Rect.unit off size inb).shape.Idx → Val e}
    {L : List (View.Piece Val s e)} (hw : ∀ x, w x = G ((Rect.unit off size inb).idx x))
    (hL : On v (v.writes Val f L) G fun y => P y ∧ ¬∀ a, off a ≤ (y a).val ∧ (y a).val < off a + size a) :
    On v (v.writes Val f (⟨Rect.unit off size inb, w⟩ :: L)) G P := fun y hy => by
  rw [View.read_writes_cons_unit v f inb w L y rfl]
  split_ifs with h
  · rw [hw]
    refine congrArg G (funext fun a => Fin.ext ?_)
    show off a + 1 * (Rect.unitLocal (s := s) (off := off) (size := size) y h a).val = (y a).val
    rw [Rect.unitLocal_val]
    have := h a
    omega
  · exact hL y ⟨hy, h⟩

theorem On.read (h : On v f G fun _ => True) : v.read Val f = G := funext fun y => h y trivial

theorem On.unread {m : Memref sig κ sp s e} (h : m.IsWhole) {x : s.Idx → Val e} (hx : ∀ y, x y = G y) : On m.view (h.unread x) G fun _ => True :=
  fun y _ => by rw [h.read_unread]; exact hx y

end On

/-- The array of the reals `F`. -/
def arr2 {a b : ℕ} (F : ℕ → ℕ → ℝ) (i : (⟨2, ![a, b]⟩ : Shape).Idx) : EReal := ((F (i 0).val (i 1).val : ℝ) : EReal)

def arr3 {a b c : ℕ} (F : ℕ → ℕ → ℕ → ℝ) (i : (⟨3, ![a, b, c]⟩ : Shape).Idx) : EReal := ((F (i 0).val (i 1).val (i 2).val : ℝ) : EReal)

variable {a b c n A B C : ℕ} {φ : FTy} {F : ℕ → ℕ → ℝ} {G : ℕ → ℕ → ℕ → ℝ}

theorem Is2.arr {x : FVec Ideal ⟨2, ![a, b]⟩ φ} (h : Is2 x F) (y) : x y = arr2 F y :=
  (congrArg x (eq_ix2 y)).trans (h (y 0) (y 1))

theorem Is2.of {x : FVec Ideal ⟨2, ![a, b]⟩ φ} (h : ∀ y, x y = arr2 F y) : Is2 x F := fun i j => h (ix2 i j)

theorem Is3.arr {x : FVec Ideal ⟨3, ![a, b, c]⟩ φ} (h : Is3 x G) (y) : x y = arr3 G y :=
  (congrArg x (eq_ix3 y)).trans (h (y 0) (y 1) (y 2))

theorem Is3.of {x : FVec Ideal ⟨3, ![a, b, c]⟩ φ} (h : ∀ y, x y = arr3 G y) : Is3 x G := fun i j k => h (ix3 i j k)

/-- A store of reals is a block of an array of reals. -/
theorem Is2.block {x : FVec Ideal ⟨2, ![a, b]⟩ φ} {r c : ℕ} {inb : ∀ k, (![r, c] : Fin 2 → ℕ) k + (![a, b] : Fin 2 → ℕ) k ≤ (⟨2, ![A, B]⟩ : Shape).size k}
    (h : Is2 x (win F r c)) (y : (⟨2, ![a, b]⟩ : Shape).Idx) : x y = arr2 F ((Rect.unit (s := ⟨2, ![A, B]⟩) ![r, c] ![a, b] inb).idx y) := by
  rw [h.arr]
  show _ = ((F (r + 1 * (y 0).val) (c + 1 * (y 1).val) : ℝ) : EReal)
  rw [one_mul, one_mul]; rfl

theorem Is3.block {x : FVec Ideal ⟨3, ![a, b, c]⟩ φ} {r s t : ℕ} {inb : ∀ k, (![r, s, t] : Fin 3 → ℕ) k + (![a, b, c] : Fin 3 → ℕ) k ≤ (⟨3, ![A, B, C]⟩ : Shape).size k}
    (h : Is3 x fun i j k => G (r + i) (s + j) (t + k)) (y : (⟨3, ![a, b, c]⟩ : Shape).Idx) :
    x y = arr3 G ((Rect.unit (s := ⟨3, ![A, B, C]⟩) ![r, s, t] ![a, b, c] inb).idx y) := by
  rw [h.arr]
  show _ = ((G (r + 1 * (y 0).val) (s + 1 * (y 1).val) (t + 1 * (y 2).val) : ℝ) : EReal)
  rw [one_mul, one_mul, one_mul]; rfl

section Load

variable {sig : RefSig} {κ : Kind} {sp : Space} {r c r' c' s s' : ℕ} {g : ℕ → ℕ → ℝ}

theorem arr2_win {inb} (i : Fin a) (j : Fin b) :
    arr2 (win g r' c') ((Rect.unit (s := ⟨2, ![A, B]⟩) ![r, c] ![a, b] inb).idx (ix2 i j)) = ((win g (r' + r) (c' + c) i j : ℝ) : EReal) := by
  show ((g (r' + (r + 1 * i.val)) (c' + (c + 1 * j.val)) : ℝ) : EReal) = ((g (r' + r + i.val) (c' + c + j.val) : ℝ) : EReal)
  rw [one_mul, one_mul, add_assoc, add_assoc]

/-- A load of a block of what the buffer holds, in either format. -/
theorem Is2.ofRead {v : View sig κ sp ⟨2, ![A, B]⟩ .f32} {f : v.ty.Contents (Elt Ideal)} {P : (⟨2, ![A, B]⟩ : Shape).Idx → Prop}
    (h : On (Val := Elt Ideal) v f (arr2 (win g r' c')) P) {inb} (hP : ∀ y, P ((Rect.unit (s := ⟨2, ![A, B]⟩) ![r, c] ![a, b] inb).idx y)) :
    Is2 (φ := .f32) (v.readAt (Elt Ideal) (Rect.unit (s := ⟨2, ![A, B]⟩) ![r, c] ![a, b] inb).toLoadRect f) (win g (r' + r) (c' + c)) :=
  fun i j => (h _ (hP (ix2 i j))).trans (arr2_win i j)

theorem Is2.ofRead16 {v : View sig κ sp ⟨2, ![A, B]⟩ .bf16} {f : v.ty.Contents (Elt Ideal)} {P : (⟨2, ![A, B]⟩ : Shape).Idx → Prop}
    (h : On (Val := Elt Ideal) v f (arr2 (win g r' c')) P) {inb} (hP : ∀ y, P ((Rect.unit (s := ⟨2, ![A, B]⟩) ![r, c] ![a, b] inb).idx y)) :
    Is2 (φ := .bf16) (v.readAt (Elt Ideal) (Rect.unit (s := ⟨2, ![A, B]⟩) ![r, c] ![a, b] inb).toLoadRect f) (win g (r' + r) (c' + c)) :=
  fun i j => (h _ (hP (ix2 i j))).trans (arr2_win i j)

theorem Is2.load {m : Memref sig κ sp ⟨2, ![A, B]⟩ .f32} {h : m.IsWhole} {x : Vec Ideal ⟨2, ![A, B]⟩ .f32} (hx : Is2 (φ := .f32) x (win g r' c')) {inb} :
    Is2 (φ := .f32) (m.view.readAt (Elt Ideal) (Rect.unit (s := ⟨2, ![A, B]⟩) ![r, c] ![a, b] inb).toLoadRect (h.unread x)) (win g (r' + r) (c' + c)) :=
  Is2.ofRead (On.unread h hx.arr) fun _ => trivial

theorem Is2.load16 {m : Memref sig κ sp ⟨2, ![A, B]⟩ .bf16} {h : m.IsWhole} {x : Vec Ideal ⟨2, ![A, B]⟩ .bf16} (hx : Is2 (φ := .bf16) x (win g r' c')) {inb} :
    Is2 (φ := .bf16) (m.view.readAt (Elt Ideal) (Rect.unit (s := ⟨2, ![A, B]⟩) ![r, c] ![a, b] inb).toLoadRect (h.unread x)) (win g (r' + r) (c' + c)) :=
  Is2.ofRead16 (On.unread h hx.arr) fun _ => trivial

theorem Is3.ofRead {v : View sig κ sp ⟨3, ![A, B, C]⟩ .f32} {f : v.ty.Contents (Elt Ideal)} {P : (⟨3, ![A, B, C]⟩ : Shape).Idx → Prop}
    (h : On (Val := Elt Ideal) v f (arr3 G) P) {inb} (hP : ∀ y, P ((Rect.unit (s := ⟨3, ![A, B, C]⟩) ![r, s, c] ![a, b, n] inb).idx y)) :
    Is3 (φ := .f32) (v.readAt (Elt Ideal) (Rect.unit (s := ⟨3, ![A, B, C]⟩) ![r, s, c] ![a, b, n] inb).toLoadRect f)
      fun i j k => G (r + i) (s + j) (c + k) := fun i j k => by
  refine (h _ (hP (ix3 i j k))).trans ?_
  show ((G (r + 1 * i.val) (s + 1 * j.val) (c + 1 * k.val) : ℝ) : EReal) = _
  rw [one_mul, one_mul, one_mul]

theorem Is3.load {m : Memref sig κ sp ⟨3, ![A, B, C]⟩ .f32} {h : m.IsWhole} {x : Vec Ideal ⟨3, ![A, B, C]⟩ .f32} (hx : Is3 (φ := .f32) x G) {inb} :
    Is3 (φ := .f32) (m.view.readAt (Elt Ideal) (Rect.unit (s := ⟨3, ![A, B, C]⟩) ![r, s, c] ![a, b, n] inb).toLoadRect (h.unread x))
      fun i j k => G (r + i) (s + j) (c + k) :=
  Is3.ofRead (On.unread h hx.arr) fun _ => trivial

end Load

end Cert.Reals

end
-- ==== Proof.Span.lean ====
/- One span of keys against one block of queries, for a pair of heads: what each of the kernel's products holds.

   `g` is the pair's first head, `e` the head in the pair, `k0` the span's first key, `q0` the block's first query. -/
module

public import proofs.«01_k».proof.Proof.Tile
public import proofs.«01_k».proof.Proof.Store

@[expose] public section

noncomputable section

namespace Cert.Reals

open Idealize.ShloMosaic Cert.Model

variable {d : Data} {g e k0 q0 n n' : ℕ}

theorem head_win (e : ℕ) (B A : ℕ → ℕ → ℝ) (k q : ℕ) :
    head e (win B k0 (64 * g)) (win A q0 (64 * g)) k q
      = ∑ l ∈ Finset.range 64, B (k0 + k) (64 * (g + e) + l) * A (q0 + q) (64 * (g + e) + l) := by
  refine Finset.sum_congr rfl fun l _ => ?_
  have : 64 * (g + e) + l = 64 * g + (64 * e + l) := by ring
  rw [this]; rfl

/-- The columns of head `e`. -/
theorem Is2.scores {d' : DotDims ⟨2, ![n, 128]⟩ ⟨2, ![128, 256]⟩ ⟨2, ![n, 256]⟩} {x : FVec Ideal ⟨2, ![n, 128]⟩ .bf16}
    {y : FVec Ideal ⟨2, ![128, 256]⟩ .bf16} {z : FVec Ideal ⟨2, ![n, 256]⟩ .f32} {A B : ℕ → ℕ → ℝ} {o : ℕ} {p h} (he : o = 0 ∧ e = 0 ∨ o = 128 ∧ e = 1)
    (hd : d' = DotDims.plain n 128 256) (hz : Is2 z fun _ _ => 0) (hx : Is2 x B) (hy : Is2 y (dcols A)) :
    Is2 (extractStridedSlice ⟨2, ![n, 128]⟩ ![0, o] (matmul d' p x y z) h) (head e B A) := by
  rcases he with ⟨rfl, rfl⟩ | ⟨rfl, rfl⟩
  · exact Is2.scores0 hd p h hz hx hy
  · exact Is2.scores1 hd p h hz hx hy

/-- The weights of a span that ends before the queries. -/
theorem Is2.wt {d' : DotDims ⟨2, ![n, 128]⟩ ⟨2, ![128, 256]⟩ ⟨2, ![n, 256]⟩} {k : FVec Ideal ⟨2, ![n, 128]⟩ .bf16}
    {qc : FVec Ideal ⟨2, ![128, 256]⟩ .bf16} {z : FVec Ideal ⟨2, ![n, 256]⟩ .f32} {ck : FVec Ideal ⟨2, ![n, 128]⟩ .f32}
    {r : FVec Ideal ⟨2, ![1, 128]⟩ .f32} {o : ℕ} {p h h'} (he : o = 0 ∧ e = 0 ∨ o = 128 ∧ e = 1) (hd : d' = DotDims.plain n 128 256)
    (hz : Is2 z fun _ _ => 0) (hk : Is2 k (win d.K k0 (64 * g))) (hq : Is2 qc (dcols (win d.Q q0 (64 * g))))
    (hc : Is2 ck fun i _ => d.CT (g + e) (k0 + i)) (hr : Is2 r fun _ j => d.CT (g + e) (q0 + j) - d.LT (g + e) (q0 + j)) (hn : k0 + n ≤ q0) :
    Is2 (exp (addf (subf (extractStridedSlice ⟨2, ![n, 128]⟩ ![0, o] (matmul d' p k qc z) h) ck) (broadcastTo ⟨2, ![n, 128]⟩ r h')))
      fun i j => d.P (g + e) (k0 + i) (q0 + j) :=
  (Is2.weights h' (Is2.scores he hd hz hk hq) hc hr).congr fun i hi j _ => by
    rw [Data.P, if_pos (by omega), head_win]

/-- The weights of a span the queries lie in. -/
theorem Is2.wtMasked {d' : DotDims ⟨2, ![n, 128]⟩ ⟨2, ![128, 256]⟩ ⟨2, ![n, 256]⟩} {k : FVec Ideal ⟨2, ![n, 128]⟩ .bf16}
    {qc : FVec Ideal ⟨2, ![128, 256]⟩ .bf16} {z : FVec Ideal ⟨2, ![n, 256]⟩ .f32} {ck : FVec Ideal ⟨2, ![n, 128]⟩ .f32}
    {r : FVec Ideal ⟨2, ![1, 128]⟩ .f32} {o : ℕ} {p h h'} {m : Ideal .f32} {kw qw : BitVec 32} {i0 i1}
    (he : o = 0 ∧ e = 0 ∨ o = 128 ∧ e = 1) (hd : d' = DotDims.plain n 128 256)
    (hm : m = (⊥ : EReal)) (hkw : kw.toNat = k0) (hqw : qw.toNat = q0) (hb : k0 + n < 2 ^ 31 ∧ q0 + 128 < 2 ^ 31)
    (hz : Is2 z fun _ _ => 0) (hk : Is2 k (win d.K k0 (64 * g))) (hq : Is2 qc (dcols (win d.Q q0 (64 * g))))
    (hc : Is2 ck fun i _ => d.CT (g + e) (k0 + i)) (hr : Is2 r fun _ j => d.CT (g + e) (q0 + j) - d.LT (g + e) (q0 + j)) :
    Is2 (exp (addf (select (cmpi .sle (addi (broadcast ⟨2, ![n, 128]⟩ kw) (iota .tc ⟨2, ![n, 128]⟩ 32 [0] i0))
        (addi (broadcast ⟨2, ![n, 128]⟩ qw) (iota .tc ⟨2, ![n, 128]⟩ 32 [1] i1)))
      (subf (extractStridedSlice ⟨2, ![n, 128]⟩ ![0, o] (matmul d' p k qc z) h) ck) (broadcast ⟨2, ![n, 128]⟩ m)) (broadcastTo ⟨2, ![n, 128]⟩ r h')))
      fun i j => d.P (g + e) (k0 + i) (q0 + j) :=
  (Is2.weightsMasked h' hm (Mask.seen i0 i1 (by omega) (by omega)) (Is2.scores he hd hz hk hq) hc hr).congr fun i hi j _ => by
    rw [Data.P, head_win, hkw, hqw]

/-- The gradient reaching the weights. -/
theorem Is2.dwt {d' : DotDims ⟨2, ![n, 128]⟩ ⟨2, ![128, 256]⟩ ⟨2, ![n, 256]⟩} {v : FVec Ideal ⟨2, ![n, 128]⟩ .bf16}
    {dc : FVec Ideal ⟨2, ![128, 256]⟩ .bf16} {z : FVec Ideal ⟨2, ![n, 256]⟩ .f32} {o : ℕ} {p h} (he : o = 0 ∧ e = 0 ∨ o = 128 ∧ e = 1)
    (hd : d' = DotDims.plain n 128 256)
    (hz : Is2 z fun _ _ => 0) (hv : Is2 v (win d.V k0 (64 * g))) (hq : Is2 dc (dcols (win d.DO q0 (64 * g)))) :
    Is2 (extractStridedSlice ⟨2, ![n, 128]⟩ ![0, o] (matmul d' p v dc z) h) fun i j => d.dP (g + e) (k0 + i) (q0 + j) :=
  (Is2.scores he hd hz hv hq).congr fun i hi j _ => by rw [Data.dP, head_win]

/-- The keys' sum over one span that holds every key up to the queries. -/
theorem Is2.keySum1 {w v : FVec Ideal ⟨2, ![n, 128]⟩ .f32} {z : Ideal .f32} {i1 h1 h2 h3 h4} (hz : z = 0)
    (hw : Is2 w fun i j => d.P (g + e) (0 + i) (q0 + j)) (hv : Is2 v fun i j => d.dP (g + e) (0 + i) (q0 + j)) (hq : q0 + 128 ≤ n) (hn : n ≤ 2176) :
    Is2 (addf (broadcast ⟨2, ![1, 128]⟩ z) (shapeCast ⟨2, ![1, 128]⟩ (multiReduction .add [0] ⟨1, ![128]⟩ (mulf w v) i1 h1 h2 h3) h4))
      fun _ j => d.D (g + e) (q0 + j) :=
  ((Is2.zero hz).add (Is2.ofRow h4 (Is1.colSum i1 h1 h2 h3 (hw.mul hv)))).congr fun i _ j hj => by
    rw [zero_add, ← d.D_upto (n := n) (by omega) hn]
    simp only [zero_add]

/-- The keys' sum over two spans. -/
theorem Is2.keySum2 {w v : FVec Ideal ⟨2, ![n, 128]⟩ .f32} {w' v' : FVec Ideal ⟨2, ![n', 128]⟩ .f32} {z : Ideal .f32} {i1 h1 h2 h3 h4 i1' h1' h2' h3' h4'} (hz : z = 0)
    (hw : Is2 w fun i j => d.P (g + e) (0 + i) (q0 + j)) (hv : Is2 v fun i j => d.dP (g + e) (0 + i) (q0 + j))
    (hw' : Is2 w' fun i j => d.P (g + e) (n + i) (q0 + j)) (hv' : Is2 v' fun i j => d.dP (g + e) (n + i) (q0 + j)) (hq : q0 + 128 ≤ n + n') (hn : n + n' ≤ 2176) :
    Is2 (addf (addf (broadcast ⟨2, ![1, 128]⟩ z) (shapeCast ⟨2, ![1, 128]⟩ (multiReduction .add [0] ⟨1, ![128]⟩ (mulf w v) i1 h1 h2 h3) h4))
        (shapeCast ⟨2, ![1, 128]⟩ (multiReduction .add [0] ⟨1, ![128]⟩ (mulf w' v') i1' h1' h2' h3') h4'))
      fun _ j => d.D (g + e) (q0 + j) :=
  (((Is2.zero hz).add (Is2.ofRow h4 (Is1.colSum i1 h1 h2 h3 (hw.mul hv)))).add (Is2.ofRow h4' (Is1.colSum i1' h1' h2' h3' (hw'.mul hv')))).congr fun i _ j hj => by
    rw [zero_add, ← d.D_upto (n := n + n') (by omega) hn, Finset.sum_range_add]
    simp only [zero_add]

/-- The gradient of the scores. -/
theorem Is2.ds {w v : FVec Ideal ⟨2, ![n, 128]⟩ .f32} {s : FVec Ideal ⟨2, ![1, 128]⟩ .f32} {h}
    (hw : Is2 w fun i j => d.P (g + e) (k0 + i) (q0 + j)) (hv : Is2 v fun i j => d.dP (g + e) (k0 + i) (q0 + j))
    (hs : Is2 s fun _ j => d.D (g + e) (q0 + j)) :
    Is2 (mulf w (subf v (broadcastTo ⟨2, ![n, 128]⟩ s h))) fun i j => d.dS (g + e) (k0 + i) (q0 + j) :=
  hw.mul (hv.sub (hs.row h))

/-- The keys' gradient, this block of queries added. -/
theorem Is2.dkAdd {d' : DotDims ⟨2, ![n, 256]⟩ ⟨2, ![256, 128]⟩ ⟨2, ![n, 128]⟩} {s0 s1 old : FVec Ideal ⟨2, ![n, 128]⟩ .f32}
    {qr : FVec Ideal ⟨2, ![256, 128]⟩ .bf16} {z : FVec Ideal ⟨2, ![n, 128]⟩ .f32} {p h h0 h1 h2} {w o : ℕ} (hd : d' = DotDims.plain n 256 128) (hg : g = 4 * w + o / 64)
    (ho : o % 64 = 0) (hz : Is2 z fun _ _ => 0) (hold : Is2 old (win (d.dk w q0) k0 o)) (hs0 : Is2 s0 fun i j => d.dS (g + 0) (k0 + i) (q0 + j))
    (hs1 : Is2 s1 fun i j => d.dS (g + 1) (k0 + i) (q0 + j)) (hq : Is2 qr (drows (win d.Q q0 (64 * g)))) :
    Is2 (shapeCast ⟨2, ![n, 128]⟩ (addf old (matmul d' p (concatenate ⟨2, ![n, 256]⟩ 1 [⟨⟨2, ![n, 128]⟩, truncf .bf16 s0 h0⟩,
      ⟨⟨2, ![n, 128]⟩, truncf .bf16 s1 h1⟩] h2) qr z)) h) (win (d.dk w (q0 + 128)) k0 o) :=
  (Is2.castSame h (hold.add (Is2.mixRows hd p h2 hz (hs0.trunc h0) (hs1.trunc h1) hq))).congr fun i _ l hl => by
    show d.dk w q0 (k0 + i) (o + l) + _ = d.dk w (q0 + 128) (k0 + i) (o + l)
    rw [d.dk_add]
    congr 1
    refine Finset.sum_congr rfl fun j _ => ?_
    subst hg
    have e1 : 64 * (4 * w + o / 64) + l = 256 * w + (o + l) := by omega
    by_cases h64 : l < 64
    · have e2 : (o + l) / 64 = o / 64 + 0 := by omega
      rw [if_pos h64, e2, ← add_assoc, win, e1]
    · have e2 : (o + l) / 64 = o / 64 + 1 := by omega
      rw [if_neg h64, e2, ← add_assoc, win, e1]

/-- The values' gradient, this block of queries added. -/
theorem Is2.dvAdd {d' : DotDims ⟨2, ![n, 256]⟩ ⟨2, ![256, 128]⟩ ⟨2, ![n, 128]⟩} {s0 s1 old : FVec Ideal ⟨2, ![n, 128]⟩ .f32}
    {qr : FVec Ideal ⟨2, ![256, 128]⟩ .bf16} {z : FVec Ideal ⟨2, ![n, 128]⟩ .f32} {p h h0 h1 h2} {w o : ℕ} (hd : d' = DotDims.plain n 256 128) (hg : g = 4 * w + o / 64)
    (ho : o % 64 = 0) (hz : Is2 z fun _ _ => 0) (hold : Is2 old (win (d.dv w q0) k0 o)) (hs0 : Is2 s0 fun i j => d.P (g + 0) (k0 + i) (q0 + j))
    (hs1 : Is2 s1 fun i j => d.P (g + 1) (k0 + i) (q0 + j)) (hq : Is2 qr (drows (win d.DO q0 (64 * g)))) :
    Is2 (shapeCast ⟨2, ![n, 128]⟩ (addf old (matmul d' p (concatenate ⟨2, ![n, 256]⟩ 1 [⟨⟨2, ![n, 128]⟩, truncf .bf16 s0 h0⟩,
      ⟨⟨2, ![n, 128]⟩, truncf .bf16 s1 h1⟩] h2) qr z)) h) (win (d.dv w (q0 + 128)) k0 o) :=
  (Is2.castSame h (hold.add (Is2.mixRows hd p h2 hz (hs0.trunc h0) (hs1.trunc h1) hq))).congr fun i _ l hl => by
    show d.dv w q0 (k0 + i) (o + l) + _ = d.dv w (q0 + 128) (k0 + i) (o + l)
    rw [d.dv_add]
    congr 1
    refine Finset.sum_congr rfl fun j _ => ?_
    subst hg
    have e1 : 64 * (4 * w + o / 64) + l = 256 * w + (o + l) := by omega
    by_cases h64 : l < 64
    · have e2 : (o + l) / 64 = o / 64 + 0 := by omega
      rw [if_pos h64, e2, ← add_assoc, win, e1]
    · have e2 : (o + l) / 64 = o / 64 + 1 := by omega
      rw [if_neg h64, e2, ← add_assoc, win, e1]

/-- The running sum's gradient, this block of queries added. -/
theorem Is3.dcAdd {s : FVec Ideal ⟨2, ![n, 128]⟩ .f32} {old : FVec Ideal ⟨3, ![1, n, 1]⟩ .f32} {i1 h1 h2 h3 h4 h5 h6} {w o : ℕ} (hg : g + e = 4 * w + o)
    (hold : Is3 old fun i j _ => d.dc w q0 (o + i) (k0 + j)) (hs : Is2 s fun i j => d.dS (g + e) (k0 + i) (q0 + j)) :
    Is3 (shapeCast ⟨3, ![1, n, 1]⟩ (addf (shapeCast ⟨2, ![n, 1]⟩ old h4) (shapeCast ⟨2, ![n, 1]⟩ (multiReduction .add [1] ⟨1, ![n]⟩ s i1 h1 h2 h3) h5)) h6)
      fun i j l => d.dc w (q0 + 128) (o + i) (k0 + j) := fun i j l => by
  obtain rfl : i = 0 := Subsingleton.elim _ _
  refine (Is3.lift h6 ((Is2.drop h4 hold).add (Is2.ofCol h5 (Is1.rowSum i1 h1 h2 h3 hs))) 0 j l).trans ?_
  congr 1
  show d.dc w q0 (o + 0) (k0 + j) + _ = d.dc w (q0 + 128) (o + 0) (k0 + j)
  rw [d.dc_add, hg]; rfl

end Cert.Reals

end
-- ==== Proof.Leaves.lean ====
/- What a grid point reads of its windows and scratch, in real numbers.

   `w` is the pair of windows (four heads, 256 lanes), `o` the lane in the window a pair of heads starts at, `g` that pair's first head. -/
module

public import proofs.«01_k».proof.Proof.Span

@[expose] public section

noncomputable section

namespace Cert.Reals

open Idealize.ShloMosaic Cert.Model

/-- What a point's input windows hold: block `q0` of the queries, the window's keys and values, the gates' sums and the
    logarithms of the weights' sums, and the output's gradient. -/
structure Ins (d : Data) (w q0 : ℕ) (x0 : Vec Ideal ⟨2, ![128, 256]⟩ .bf16) (x1 x2 : Vec Ideal ⟨2, ![2176, 256]⟩ .bf16)
    (x3 : Vec Ideal ⟨2, ![2176, 128]⟩ .f32) (x4 : Vec Ideal ⟨2, ![8, 128]⟩ .f32) (x5 : Vec Ideal ⟨3, ![1, 4, 128]⟩ .f32)
    (x6 : Vec Ideal ⟨2, ![128, 256]⟩ .f32) : Prop where
  lt : w < 2
  bound : q0 + 128 ≤ 2176
  q : Is2 (φ := .bf16) x0 (win d.Q q0 (256 * w))
  k : Is2 (φ := .bf16) x1 (win d.K 0 (256 * w))
  v : Is2 (φ := .bf16) x2 (win d.V 0 (256 * w))
  c : Is2 (φ := .f32) x3 fun k h => d.CT h k
  ct : Is2 (φ := .f32) x4 (win d.CT 0 q0)
  lse : Is3 (φ := .f32) x5 fun _ e j => d.LT (4 * w + e) (q0 + j)
  o : Is2 (φ := .f32) x6 (win d.DO q0 (256 * w))

/-- What the scratch buffers carry once the queries below `n` are done. -/
structure Scr (d : Data) (w n : ℕ) (s0 s1 : Vec Ideal ⟨2, ![2176, 256]⟩ .f32) (s2 : Vec Ideal ⟨3, ![4, 2176, 1]⟩ .f32)
    (s3 : Vec Ideal ⟨3, ![4, 2176, 128]⟩ .f32) (s4 : Vec Ideal ⟨2, ![256, 2176]⟩ .bf16) : Prop where
  dk : ∀ y, s0 y = arr2 (d.dk w n) y
  dv : ∀ y, s1 y = arr2 (d.dv w n) y
  dc : ∀ y, s2 y = arr3 (fun e k _ => d.dc w n e k) y
  ck : ∀ y, s3 y = arr3 (fun e k _ => d.CT (4 * w + e) k) y
  kt : ∀ y, s4 y = arr2 (fun l k => d.K k (256 * w + l)) y

variable {d : Data} {g e k0 q0 n w o : ℕ} {G : ℕ → ℕ → ℝ} {sig : RefSig} {κ : Kind} {sp : Space}

theorem ofBits_zero : (Scalar.ofBits (F := Ideal) .f32 0x00000000#32 : EReal) = 0 := by simp

theorem sitofp_zero : (Scalar.sitofp (F := Ideal) .bf16 0#32 : EReal) = 0 := by
  show (((0#32 : BitVec 32).toInt : ℝ) : EReal) = 0
  simp

theorem Is2.at {a b : ℕ} {φ : FTy} {x : FVec Ideal ⟨2, ![a, b]⟩ φ} {r c r' c' : ℕ} (h : Is2 x (win G r c)) (hr : r = r') (hc : c = c') : Is2 x (win G r' c') := by
  subst hr hc; exact h

section Operands

variable {A B : ℕ} {m : Memref sig κ sp ⟨2, ![128, 256]⟩ .bf16} {h : m.IsWhole} {x : Vec Ideal ⟨2, ![128, 256]⟩ .bf16}
  {m' : Memref sig κ sp ⟨2, ![128, 256]⟩ .f32} {h' : m'.IsWhole} {x' : Vec Ideal ⟨2, ![128, 256]⟩ .f32}

theorem qBlock (hx : Is2 (φ := .bf16) x (win G q0 (256 * w))) (hg : g = 4 * w + o / 64) (ho : o % 64 = 0) {inb hc} :
    Is2 (φ := .bf16) (shapeCast ⟨2, ![128, 128]⟩ (m.view.readAt (Elt Ideal) (Rect.unit (s := ⟨2, ![128, 256]⟩) ![0, o] ![128, 128] inb).toLoadRect (h.unread x)) hc)
      (win G q0 (64 * g)) :=
  Is2.castSame hc ((Is2.load16 hx).at (by omega) (by omega))

theorem oBlock (hx : Is2 (φ := .f32) x' (win G q0 (256 * w))) (hg : g = 4 * w + o / 64) (ho : o % 64 = 0) {inb hc} :
    Is2 (φ := .bf16) (truncf (φ := .f32) .bf16 (m'.view.readAt (Elt Ideal) (Rect.unit (s := ⟨2, ![128, 256]⟩) ![0, o] ![128, 128] inb).toLoadRect (h'.unread x')) hc)
      (win G q0 (64 * g)) :=
  Is2.trunc hc ((Is2.load hx).at (by omega) (by omega))

theorem cols {x : FVec Ideal ⟨2, ![128, 128]⟩ .bf16} {A : ℕ → ℕ → ℝ} (hx : Is2 x A) {i h1 h2 h3 h4} :
    Is2 (concatenate ⟨2, ![128, 256]⟩ 1
      [⟨⟨2, ![128, 128]⟩, select (cmpi .slt (iota .tc ⟨2, ![128, 128]⟩ 32 [0] i) (broadcast ⟨2, ![128, 128]⟩ 64#32))
          (truncf .bf16 (transpose ⟨2, ![128, 128]⟩ [1, 0] (extf .f32 x h1) h2) h3) (broadcast ⟨2, ![128, 128]⟩ (Scalar.sitofp .bf16 0#32))⟩,
       ⟨⟨2, ![128, 128]⟩, select (cmpi .slt (iota .tc ⟨2, ![128, 128]⟩ 32 [0] i) (broadcast ⟨2, ![128, 128]⟩ 64#32))
          (broadcast ⟨2, ![128, 128]⟩ (Scalar.sitofp .bf16 0#32)) (truncf .bf16 (transpose ⟨2, ![128, 128]⟩ [1, 0] (extf .f32 x h1) h2) h3)⟩] h4)
      (dcols A) :=
  Is2.diagCols h1 h2 h3 h4 (Mask.ltRow i) sitofp_zero sitofp_zero hx

theorem rows {x : FVec Ideal ⟨2, ![128, 128]⟩ .bf16} {A : ℕ → ℕ → ℝ} (hx : Is2 x A) {i h4} :
    Is2 (concatenate ⟨2, ![256, 128]⟩ 0
      [⟨⟨2, ![128, 128]⟩, select (cmpi .slt (iota .tc ⟨2, ![128, 128]⟩ 32 [1] i) (broadcast ⟨2, ![128, 128]⟩ 64#32))
          x (broadcast ⟨2, ![128, 128]⟩ (Scalar.sitofp .bf16 0#32))⟩,
       ⟨⟨2, ![128, 128]⟩, select (cmpi .slt (iota .tc ⟨2, ![128, 128]⟩ 32 [1] i) (broadcast ⟨2, ![128, 128]⟩ 64#32))
          (broadcast ⟨2, ![128, 128]⟩ (Scalar.sitofp .bf16 0#32)) x⟩] h4)
      (drows A) :=
  Is2.diagRows h4 (Mask.ltCol i) sitofp_zero sitofp_zero hx

end Operands

/-- A span of keys or values. -/
theorem spanLoad {m : Memref sig κ sp ⟨2, ![2176, 256]⟩ .bf16} {h : m.IsWhole} {x : Vec Ideal ⟨2, ![2176, 256]⟩ .bf16}
    (hx : Is2 (φ := .bf16) x (win G 0 (256 * w))) (hg : g = 4 * w + o / 64) (ho : o % 64 = 0) {inb hc} :
    Is2 (φ := .bf16) (shapeCast ⟨2, ![n, 128]⟩ (m.view.readAt (Elt Ideal) (Rect.unit (s := ⟨2, ![2176, 256]⟩) ![k0, o] ![n, 128] inb).toLoadRect (h.unread x)) hc)
      (win G k0 (64 * g)) :=
  Is2.castSame hc ((Is2.load16 hx).at (by omega) (by omega))

/-- A span of one head's gate sums, one key to a row. -/
theorem ckLoad {v : View sig κ sp ⟨3, ![4, 2176, 128]⟩ .f32} {f : v.ty.Contents (Elt Ideal)}
    (h : On (Val := Elt Ideal) v f (arr3 fun e k _ => d.CT (4 * w + e) k) fun _ => True) (hg : g + e = 4 * w + o) {inb hc} :
    Is2 (φ := .f32) (shapeCast ⟨2, ![n, 128]⟩ (v.readAt (Elt Ideal) (Rect.unit (s := ⟨3, ![4, 2176, 128]⟩) ![o, k0, 0] ![1, n, 128] inb).toLoadRect f) hc)
      fun i _ => d.CT (g + e) (k0 + i) :=
  (Is2.drop hc (Is3.ofRead h fun _ => trivial)).congr fun i _ j _ => by show d.CT (4 * w + (o + 0)) _ = _; rw [add_zero, hg]

/-- The block's row of one head: the gate sums less the logarithms of the weights' sums. -/
theorem rowLoad {m : Memref sig κ sp ⟨2, ![8, 128]⟩ .f32} {h : m.IsWhole} {x : Vec Ideal ⟨2, ![8, 128]⟩ .f32}
    {m' : Memref sig κ sp ⟨3, ![1, 4, 128]⟩ .f32} {h' : m'.IsWhole} {x' : Vec Ideal ⟨3, ![1, 4, 128]⟩ .f32} {off : Fin 2 → ℕ}
    (hoff : off = ![4 * w + o, 0]) (hx : Is2 (φ := .f32) x (win d.CT 0 q0))
    (hx' : Is3 (φ := .f32) x' fun _ e j => d.LT (4 * w + e) (q0 + j)) (hg : g + e = 4 * w + o) {inb inb' hc hc'} :
    Is2 (φ := .f32) (subf
      (shapeCast ⟨2, ![1, 128]⟩ (m.view.readAt (Elt Ideal) (Rect.unit (s := ⟨2, ![8, 128]⟩) off ![1, 128] inb).toLoadRect (h.unread x)) hc)
      (shapeCast ⟨2, ![1, 128]⟩ (m'.view.readAt (Elt Ideal) (Rect.unit (s := ⟨3, ![1, 4, 128]⟩) ![0, o, 0] ![1, 1, 128] inb').toLoadRect (h'.unread x')) hc'))
      fun _ j => d.CT (g + e) (q0 + j) - d.LT (g + e) (q0 + j) := by
  subst hoff
  refine ((Is2.castSame hc (Is2.load hx)).sub (Is2.drop hc' (Is3.load hx'))).congr fun i hi j _ => ?_
  obtain rfl : i = 0 := by omega
  show d.CT (0 + (4 * w + o) + 0) (q0 + 0 + j) - d.LT (4 * w + (o + 0)) (q0 + (0 + j)) = _
  rw [hg]; simp only [zero_add, add_zero]

/-- The first token of a block of queries, as the program computes it. -/
theorem blockStart {n : ℕ} (h : n < 17) : (Scalar.muli (BitVec.ofNat 32 n) 128#32).toNat = 128 * n := by
  show (BitVec.ofNat 32 n * 128#32).toNat = _
  rw [BitVec.toNat_mul, BitVec.toNat_ofNat]
  show n % 2 ^ 32 * 128 % 2 ^ 32 = _
  omega

section Scratch

variable {A B C a b r c : ℕ}

/-- A load from a buffer known everywhere. -/
theorem loadAll {v : View sig κ sp ⟨2, ![A, B]⟩ .f32} {f : v.ty.Contents (Elt Ideal)} (h : On (Val := Elt Ideal) v f (arr2 G) fun _ => True) {inb} :
    Is2 (φ := .f32) (v.readAt (Elt Ideal) (Rect.unit (s := ⟨2, ![A, B]⟩) ![r, c] ![a, b] inb).toLoadRect f) (win G r c) := fun i j => by
  refine (h _ trivial).trans ?_
  show ((G (r + 1 * i.val) (c + 1 * j.val) : ℝ) : EReal) = _
  rw [one_mul, one_mul]; rfl

theorem loadAll16 {v : View sig κ sp ⟨2, ![A, B]⟩ .bf16} {f : v.ty.Contents (Elt Ideal)} (h : On (Val := Elt Ideal) v f (arr2 G) fun _ => True) {inb} :
    Is2 (φ := .bf16) (v.readAt (Elt Ideal) (Rect.unit (s := ⟨2, ![A, B]⟩) ![r, c] ![a, b] inb).toLoadRect f) (win G r c) := fun i j => by
  refine (h _ trivial).trans ?_
  show ((G (r + 1 * i.val) (c + 1 * j.val) : ℝ) : EReal) = _
  rw [one_mul, one_mul]; rfl

theorem loadAll3 {v : View sig κ sp ⟨3, ![A, B, C]⟩ .f32} {f : v.ty.Contents (Elt Ideal)} {G : ℕ → ℕ → ℝ}
    (h : On (Val := Elt Ideal) v f (arr3 fun e k _ => G e k) fun _ => True) {inb} :
    Is3 (φ := .f32) (v.readAt (Elt Ideal) (Rect.unit (s := ⟨3, ![A, B, C]⟩) ![r, c, 0] ![a, b, n] inb).toLoadRect f) fun i j _ => G (r + i) (c + j) :=
  Is3.ofRead h fun _ => trivial

end Scratch

end Cert.Reals

end
-- ==== Proof.Heads.lean ====
/- One head at one block of queries: all its keys in one span, or in a span before the block and a span around it. -/
module

public import proofs.«01_k».proof.Proof.Leaves

@[expose] public section

noncomputable section

namespace Cert.Reals

open Idealize.ShloMosaic Cert.Model

variable {d : Data} {g e q0 n n' w o : ℕ} {qc dc : FVec Ideal ⟨2, ![128, 256]⟩ .bf16} {r : FVec Ideal ⟨2, ![1, 128]⟩ .f32}
  {m : Ideal .f32} {kw qw : BitVec 32}

/-- The operands common to all spans of one head. -/
structure Row (d : Data) (g e q0 : ℕ) (qc dc : FVec Ideal ⟨2, ![128, 256]⟩ .bf16) (r : FVec Ideal ⟨2, ![1, 128]⟩ .f32) (m : Ideal .f32) (qw : BitVec 32) : Prop where
  qc : Is2 qc (dcols (win d.Q q0 (64 * g)))
  dc : Is2 dc (dcols (win d.DO q0 (64 * g)))
  r : Is2 r fun _ j => d.CT (g + e) (q0 + j) - d.LT (g + e) (q0 + j)
  m : m = (⊥ : EReal)
  qw : qw.toNat = q0

/-- The operands of the keys from `k0` on. -/
structure Keys (d : Data) (g e k0 : ℕ) (k v : FVec Ideal ⟨2, ![n, 128]⟩ .bf16) (ck : FVec Ideal ⟨2, ![n, 128]⟩ .f32) : Prop where
  k : Is2 k (win d.K k0 (64 * g))
  v : Is2 v (win d.V k0 (64 * g))
  ck : Is2 ck fun i _ => d.CT (g + e) (k0 + i)

/-- Two spans, the second one masked. -/
structure Two (d : Data) (g e q0 : ℕ) (k v : FVec Ideal ⟨2, ![n, 128]⟩ .bf16) (ck : FVec Ideal ⟨2, ![n, 128]⟩ .f32)
    (k' v' : FVec Ideal ⟨2, ![n', 128]⟩ .bf16) (ck' : FVec Ideal ⟨2, ![n', 128]⟩ .f32)
    (qc dc : FVec Ideal ⟨2, ![128, 256]⟩ .bf16) (r : FVec Ideal ⟨2, ![1, 128]⟩ .f32) (m : Ideal .f32) (kw qw : BitVec 32) : Prop where
  row : Row d g e q0 qc dc r m qw
  a : Keys d g e 0 k v ck
  b : Keys d g e n k' v' ck'
  kw : kw.toNat = n
  le : n ≤ q0
  lt : q0 + 128 ≤ n + n'
  bound : n + n' ≤ 2176

/-- One masked span. -/
structure One (d : Data) (g e q0 : ℕ) (k v : FVec Ideal ⟨2, ![n, 128]⟩ .bf16) (ck : FVec Ideal ⟨2, ![n, 128]⟩ .f32)
    (qc dc : FVec Ideal ⟨2, ![128, 256]⟩ .bf16) (r : FVec Ideal ⟨2, ![1, 128]⟩ .f32) (m : Ideal .f32) (kw qw : BitVec 32) : Prop where
  row : Row d g e q0 qc dc r m qw
  a : Keys d g e 0 k v ck
  kw : kw.toNat = 0
  lt : q0 + 128 ≤ n
  bound : n ≤ 2176

section

variable {k v : FVec Ideal ⟨2, ![n, 128]⟩ .bf16} {ck : FVec Ideal ⟨2, ![n, 128]⟩ .f32}
  {k' v' : FVec Ideal ⟨2, ![n', 128]⟩ .bf16} {ck' : FVec Ideal ⟨2, ![n', 128]⟩ .f32} {oc : ℕ}

/-- One head's columns of a product with the block-diagonal operand. -/
abbrev cut (x : FVec Ideal ⟨2, ![n, 128]⟩ .bf16) (y : FVec Ideal ⟨2, ![128, 256]⟩ .bf16) (oc : ℕ) (p) (h) :=
  extractStridedSlice ⟨2, ![n, 128]⟩ ![0, oc] (matmul (DotDims.plain n 128 256) p x y (constant ⟨2, ![n, 256]⟩ .f32 0x00000000#32)) h

abbrev free (k : FVec Ideal ⟨2, ![n, 128]⟩ .bf16) (qc : FVec Ideal ⟨2, ![128, 256]⟩ .bf16) (ck : FVec Ideal ⟨2, ![n, 128]⟩ .f32) (r : FVec Ideal ⟨2, ![1, 128]⟩ .f32) (oc : ℕ) (p) (h) (h') :=
  exp (addf (subf (cut k qc oc p h) ck) (broadcastTo ⟨2, ![n, 128]⟩ r h'))

abbrev masked (k : FVec Ideal ⟨2, ![n, 128]⟩ .bf16) (qc : FVec Ideal ⟨2, ![128, 256]⟩ .bf16) (ck : FVec Ideal ⟨2, ![n, 128]⟩ .f32) (r : FVec Ideal ⟨2, ![1, 128]⟩ .f32) (oc : ℕ)
    (m : Ideal .f32) (kw qw : BitVec 32) (i0) (i1) (p) (h) (h') :=
  exp (addf (select (cmpi .sle (addi (broadcast ⟨2, ![n, 128]⟩ kw) (iota .tc ⟨2, ![n, 128]⟩ 32 [0] i0))
      (addi (broadcast ⟨2, ![n, 128]⟩ qw) (iota .tc ⟨2, ![n, 128]⟩ 32 [1] i1)))
    (subf (cut k qc oc p h) ck) (broadcast ⟨2, ![n, 128]⟩ m)) (broadcastTo ⟨2, ![n, 128]⟩ r h'))

abbrev total (w v : FVec Ideal ⟨2, ![n, 128]⟩ .f32) (i1) (h1) (h2) (h3) (h4) :=
  shapeCast ⟨2, ![1, 128]⟩ (multiReduction .add [0] ⟨1, ![128]⟩ (mulf w v) i1 h1 h2 h3) h4

abbrev grad (w v : FVec Ideal ⟨2, ![n, 128]⟩ .f32) (s : FVec Ideal ⟨2, ![1, 128]⟩ .f32) (h) :=
  mulf w (subf v (broadcastTo ⟨2, ![n, 128]⟩ s h))

theorem One.wt (L : One d g e q0 k v ck qc dc r m kw qw) (he : oc = 0 ∧ e = 0 ∨ oc = 128 ∧ e = 1) {i0 i1 p h h'} :
    Is2 (masked k qc ck r oc m kw qw i0 i1 p h h') fun i j => d.P (g + e) (0 + i) (q0 + j) :=
  Is2.wtMasked he rfl L.row.m L.kw L.row.qw (by have := L.lt; have := L.bound; omega) Is2.zeros L.a.k L.row.qc L.a.ck L.row.r

theorem One.dw (L : One d g e q0 k v ck qc dc r m kw qw) (he : oc = 0 ∧ e = 0 ∨ oc = 128 ∧ e = 1) {p} (h : (⟨2, ![n, 256]⟩ : Shape).Slices ![0, oc] ⟨2, ![n, 128]⟩ := by decide) :
    Is2 (cut v dc oc p h) fun i j => d.dP (g + e) (0 + i) (q0 + j) :=
  Is2.dwt he rfl Is2.zeros L.a.v L.row.dc

theorem One.ds (L : One d g e q0 k v ck qc dc r m kw qw) (he : oc = 0 ∧ e = 0 ∨ oc = 128 ∧ e = 1)
    {i0 i1 p h h' p2 i0' i1' p' h3 h3' p2' a1 a2 a3 a4 a5 a6}
    (h2 : (⟨2, ![n, 256]⟩ : Shape).Slices ![0, oc] ⟨2, ![n, 128]⟩ := by decide)
    (h4 : (⟨2, ![n, 256]⟩ : Shape).Slices ![0, oc] ⟨2, ![n, 128]⟩ := by decide) :
    Is2 (grad (masked k qc ck r oc m kw qw i0 i1 p h h') (cut v dc oc p2 h2)
      (addf (broadcast ⟨2, ![1, 128]⟩ (Scalar.ofBits .f32 0x00000000#32))
        (total (masked k qc ck r oc m kw qw i0' i1' p' h3 h3') (cut v dc oc p2' h4) a1 a2 a3 a4 a5)) a6) fun i j => d.dS (g + e) (0 + i) (q0 + j) :=
  Is2.ds (L.wt he) (L.dw he _) (Is2.keySum1 ofBits_zero (L.wt he) (L.dw he _) L.lt L.bound)

theorem Two.wt (L : Two d g e q0 k v ck k' v' ck' qc dc r m kw qw) (he : oc = 0 ∧ e = 0 ∨ oc = 128 ∧ e = 1) {p h h'} :
    Is2 (free k qc ck r oc p h h') fun i j => d.P (g + e) (0 + i) (q0 + j) :=
  Is2.wt he rfl Is2.zeros L.a.k L.row.qc L.a.ck L.row.r (by have := L.le; omega)

theorem Two.dw (L : Two d g e q0 k v ck k' v' ck' qc dc r m kw qw) (he : oc = 0 ∧ e = 0 ∨ oc = 128 ∧ e = 1) {p} (h : (⟨2, ![n, 256]⟩ : Shape).Slices ![0, oc] ⟨2, ![n, 128]⟩ := by decide) :
    Is2 (cut v dc oc p h) fun i j => d.dP (g + e) (0 + i) (q0 + j) :=
  Is2.dwt he rfl Is2.zeros L.a.v L.row.dc

theorem Two.wt' (L : Two d g e q0 k v ck k' v' ck' qc dc r m kw qw) (he : oc = 0 ∧ e = 0 ∨ oc = 128 ∧ e = 1) {i0 i1 p h h'} :
    Is2 (masked k' qc ck' r oc m kw qw i0 i1 p h h') fun i j => d.P (g + e) (n + i) (q0 + j) :=
  Is2.wtMasked he rfl L.row.m L.kw L.row.qw (by have := L.lt; have := L.bound; have := L.le; omega) Is2.zeros L.b.k L.row.qc L.b.ck L.row.r

theorem Two.dw' (L : Two d g e q0 k v ck k' v' ck' qc dc r m kw qw) (he : oc = 0 ∧ e = 0 ∨ oc = 128 ∧ e = 1) {p} (h : (⟨2, ![n', 256]⟩ : Shape).Slices ![0, oc] ⟨2, ![n', 128]⟩ := by decide) :
    Is2 (cut v' dc oc p h) fun i j => d.dP (g + e) (n + i) (q0 + j) :=
  Is2.dwt he rfl Is2.zeros L.b.v L.row.dc

theorem Two.sum (L : Two d g e q0 k v ck k' v' ck' qc dc r m kw qw) (he : oc = 0 ∧ e = 0 ∨ oc = 128 ∧ e = 1)
    {i0 i1 p h h' p2 p3 h3 h3' p4 a1 a2 a3 a4 a5 b1 b2 b3 b4 b5}
    (h2 : (⟨2, ![n, 256]⟩ : Shape).Slices ![0, oc] ⟨2, ![n, 128]⟩ := by decide)
    (h4 : (⟨2, ![n', 256]⟩ : Shape).Slices ![0, oc] ⟨2, ![n', 128]⟩ := by decide) :
    Is2 (addf (addf (broadcast ⟨2, ![1, 128]⟩ (Scalar.ofBits .f32 0x00000000#32))
        (total (free k qc ck r oc p h h') (cut v dc oc p2 h2) a1 a2 a3 a4 a5))
        (total (masked k' qc ck' r oc m kw qw i0 i1 p3 h3 h3') (cut v' dc oc p4 h4) b1 b2 b3 b4 b5)) fun _ j => d.D (g + e) (q0 + j) :=
  Is2.keySum2 ofBits_zero (L.wt he) (L.dw he _) (L.wt' he) (L.dw' he _) L.lt L.bound

theorem Two.ds (L : Two d g e q0 k v ck k' v' ck' qc dc r m kw qw) (he : oc = 0 ∧ e = 0 ∨ oc = 128 ∧ e = 1)
    {i0 i1 p h h' p2 p3 h3 h3' p4 p5 h5 h5' p6 a1 a2 a3 a4 a5 b1 b2 b3 b4 b5 a6}
    (h2 : (⟨2, ![n, 256]⟩ : Shape).Slices ![0, oc] ⟨2, ![n, 128]⟩ := by decide)
    (h4 : (⟨2, ![n', 256]⟩ : Shape).Slices ![0, oc] ⟨2, ![n', 128]⟩ := by decide)
    (h6 : (⟨2, ![n, 256]⟩ : Shape).Slices ![0, oc] ⟨2, ![n, 128]⟩ := by decide) :
    Is2 (grad (free k qc ck r oc p5 h5 h5') (cut v dc oc p6 h6)
      (addf (addf (broadcast ⟨2, ![1, 128]⟩ (Scalar.ofBits .f32 0x00000000#32))
        (total (free k qc ck r oc p h h') (cut v dc oc p2 h2) a1 a2 a3 a4 a5))
        (total (masked k' qc ck' r oc m kw qw i0 i1 p3 h3 h3') (cut v' dc oc p4 h4) b1 b2 b3 b4 b5)) a6) fun i j => d.dS (g + e) (0 + i) (q0 + j) :=
  Is2.ds (L.wt he) (L.dw he _) (L.sum he _ _)

theorem Two.ds' (L : Two d g e q0 k v ck k' v' ck' qc dc r m kw qw) (he : oc = 0 ∧ e = 0 ∨ oc = 128 ∧ e = 1)
    {i0 i1 p h h' p2 p3 h3 h3' p4 i0' i1' p5 h5 h5' p6 a1 a2 a3 a4 a5 b1 b2 b3 b4 b5 a6}
    (h2 : (⟨2, ![n, 256]⟩ : Shape).Slices ![0, oc] ⟨2, ![n, 128]⟩ := by decide)
    (h4 : (⟨2, ![n', 256]⟩ : Shape).Slices ![0, oc] ⟨2, ![n', 128]⟩ := by decide)
    (h6 : (⟨2, ![n', 256]⟩ : Shape).Slices ![0, oc] ⟨2, ![n', 128]⟩ := by decide) :
    Is2 (grad (masked k' qc ck' r oc m kw qw i0' i1' p5 h5 h5') (cut v' dc oc p6 h6)
      (addf (addf (broadcast ⟨2, ![1, 128]⟩ (Scalar.ofBits .f32 0x00000000#32))
        (total (free k qc ck r oc p h h') (cut v dc oc p2 h2) a1 a2 a3 a4 a5))
        (total (masked k' qc ck' r oc m kw qw i0 i1 p3 h3 h3') (cut v' dc oc p4 h4) b1 b2 b3 b4 b5)) a6) fun i j => d.dS (g + e) (n + i) (q0 + j) :=
  Is2.ds (L.wt' he) (L.dw' he _) (L.sum he _ _)

end

end Cert.Reals

end
-- ==== Proof.Query.lean ====
/- The queries' gradient of one block: each pair of heads sums its spans of keys, and the two pairs lie one above the other. -/
module

public import proofs.«01_k».proof.Proof.Leaves

@[expose] public section

noncomputable section

namespace Cert.Reals

open Idealize.ShloMosaic Cert.Model

variable {d : Data} {g e q0 k0 n n' w o : ℕ}

/-- The part of query `q0 + c`'s gradient in lane `r` of head `e` that the keys from `k0` on give. -/
def part (d : Data) (g e q0 k0 n r c : ℕ) : ℝ := ∑ k ∈ Finset.range n, d.K (k0 + k) (64 * g + r) * d.dS (g + e) (k0 + k) (q0 + c)

/-- The keys of one span times the gradient of their scores, two heads' queries side by side. -/
theorem Is2.keyTerm {kt : FVec Ideal ⟨2, ![128, n]⟩ .bf16} {s0 s1 : FVec Ideal ⟨2, ![n, 128]⟩ .f32} {p h0 h1} {h2 : Shape.Concatenates [⟨2, ![n, 128]⟩, ⟨2, ![n, 128]⟩] ⟨2, ![n, 256]⟩ 1}
    (hk : Is2 kt fun l k => d.K (k0 + k) (64 * g + l)) (hs0 : Is2 s0 fun i j => d.dS (g + 0) (k0 + i) (q0 + j))
    (hs1 : Is2 s1 fun i j => d.dS (g + 1) (k0 + i) (q0 + j)) :
    Is2 (matmul (DotDims.plain 128 n 256) p kt (concatenate ⟨2, ![n, 256]⟩ 1 [⟨⟨2, ![n, 128]⟩, truncf .bf16 s0 h0⟩,
      ⟨⟨2, ![n, 128]⟩, truncf .bf16 s1 h1⟩] h2) (constant ⟨2, ![128, 256]⟩ .f32 0x00000000#32))
      fun r c => if c < 128 then part d g 0 q0 k0 n r c else part d g 1 q0 k0 n r (c - 128) :=
  (Is2.mm rfl p hk (Is2.catCols h2 (hs0.trunc h0) (hs1.trunc h1) rfl) Is2.zeros).congr fun r _ c _ => by
    rw [zero_add]
    split_ifs with hc <;> simp only [part, hc, if_true, if_false]

/-- One pair of heads, its lanes one above the other. -/
theorem Is2.keyPair1 {t : FVec Ideal ⟨2, ![128, 256]⟩ .f32} {h1 h2} {h3 : Shape.Concatenates [⟨2, ![64, 128]⟩, ⟨2, ![64, 128]⟩] ⟨2, ![128, 128]⟩ 0} {z : Ideal .f32} (hz : z = 0)
    (ht : Is2 t fun r c => if c < 128 then part d g 0 q0 0 n r c else part d g 1 q0 0 n r (c - 128)) (hq : q0 + 128 ≤ n) (hn : n ≤ 2176) :
    Is2 (concatenate ⟨2, ![128, 128]⟩ 0
      [⟨⟨2, ![64, 128]⟩, extractStridedSlice ⟨2, ![64, 128]⟩ ![0, 0] (addf (broadcast ⟨2, ![128, 256]⟩ z) t) h1⟩,
       ⟨⟨2, ![64, 128]⟩, extractStridedSlice ⟨2, ![64, 128]⟩ ![64, 128] (addf (broadcast ⟨2, ![128, 256]⟩ z) t) h2⟩] h3)
      fun r q => part d g (r / 64) q0 0 2176 r q := by
  refine (Is2.joinHeads (f := fun r c => part d g 0 q0 0 n r c) (g := fun r c => part d g 1 q0 0 n r c) h1 h2 h3
    (((Is2.zero hz).add ht).congr fun r _ c _ => by rw [zero_add])).congr fun r hr q hq' => ?_
  have full : ∀ e, part d g e q0 0 n r q = part d g e q0 0 2176 r q := fun e =>
    Data.sum_upto (q := q0 + q) (fun k => d.K (0 + k) (64 * g + r) * d.dS (g + e) (0 + k) (q0 + q))
      (fun k hk => by rw [d.dS_zero (by omega), mul_zero]) (by omega) hn
  split_ifs with h
  · rw [full, Nat.div_eq_of_lt h]
  · rw [full, show r / 64 = 1 by omega]

theorem Is2.keyPair2 {t t' : FVec Ideal ⟨2, ![128, 256]⟩ .f32} {h1 h2} {h3 : Shape.Concatenates [⟨2, ![64, 128]⟩, ⟨2, ![64, 128]⟩] ⟨2, ![128, 128]⟩ 0} {z : Ideal .f32} (hz : z = 0)
    (ht : Is2 t fun r c => if c < 128 then part d g 0 q0 0 n r c else part d g 1 q0 0 n r (c - 128))
    (ht' : Is2 t' fun r c => if c < 128 then part d g 0 q0 n n' r c else part d g 1 q0 n n' r (c - 128)) (hq : q0 + 128 ≤ n + n') (hn : n + n' ≤ 2176) :
    Is2 (concatenate ⟨2, ![128, 128]⟩ 0
      [⟨⟨2, ![64, 128]⟩, extractStridedSlice ⟨2, ![64, 128]⟩ ![0, 0] (addf (addf (broadcast ⟨2, ![128, 256]⟩ z) t) t') h1⟩,
       ⟨⟨2, ![64, 128]⟩, extractStridedSlice ⟨2, ![64, 128]⟩ ![64, 128] (addf (addf (broadcast ⟨2, ![128, 256]⟩ z) t) t') h2⟩] h3)
      fun r q => part d g (r / 64) q0 0 2176 r q := by
  have two : ∀ e r q, part d g e q0 0 n r q + part d g e q0 n n' r q = part d g e q0 0 (n + n') r q := fun e r q => by
    unfold part; rw [Finset.sum_range_add]; simp only [zero_add]
  refine (Is2.joinHeads (f := fun r c => part d g 0 q0 0 (n + n') r c) (g := fun r c => part d g 1 q0 0 (n + n') r c) h1 h2 h3
    ((((Is2.zero hz).add ht).add ht').congr fun r _ c _ => by rw [zero_add]; split_ifs <;> exact two _ _ _)).congr fun r hr q hq' => ?_
  have full : ∀ e, part d g e q0 0 (n + n') r q = part d g e q0 0 2176 r q := fun e =>
    Data.sum_upto (q := q0 + q) (fun k => d.K (0 + k) (64 * g + r) * d.dS (g + e) (0 + k) (q0 + q))
      (fun k hk => by rw [d.dS_zero (by omega), mul_zero]) (by omega) hn
  split_ifs with h
  · rw [full, Nat.div_eq_of_lt h]
  · rw [full, show r / 64 = 1 by omega]

theorem eighth : (Scalar.ofBits (F := Ideal) .f32 0x3E000000#32 : EReal) = ((1 / 8 : ℝ) : EReal) := by
  show Ideal.ofBits .f32 0x3E000000#32 = _
  simp [Ideal.ofBits, Ideal.ieee, -EReal.coe_mul]; norm_num

/-- The block of the queries' gradient. -/
theorem Is2.queries {x y : FVec Ideal ⟨2, ![128, 128]⟩ .f32} {h : Shape.Concatenates [⟨2, ![128, 128]⟩, ⟨2, ![128, 128]⟩] ⟨2, ![256, 128]⟩ 0} {h1 h2 h3}
    (hx : Is2 x fun r q => part d (4 * w) (r / 64) q0 0 2176 r q) (hy : Is2 y fun r q => part d (4 * w + 2) (r / 64) q0 0 2176 r q) :
    Is2 (shapeCast ⟨2, ![128, 256]⟩ (truncf .bf16 (transpose ⟨2, ![128, 256]⟩ [1, 0] (mulf (concatenate ⟨2, ![256, 128]⟩ 0 [⟨⟨2, ![128, 128]⟩, x⟩, ⟨⟨2, ![128, 128]⟩, y⟩] h)
      (broadcast ⟨2, ![256, 128]⟩ (Scalar.ofBits .f32 0x3E000000#32))) h1) h2) h3) (win (fun q l => d.dq w (q0 + q) l) 0 0) :=
  (Is2.castSame h3 ((((Is2.catRows h hx hy rfl).mul (Is2.const eighth)).tr h1).trunc h2)).congr fun q _ l hl => by
    show _ = d.dq w (q0 + (0 + q)) (0 + l)
    rw [Data.dq, mul_comm, zero_add, zero_add]
    congr 1
    split_ifs with h128
    · refine Finset.sum_congr rfl fun k _ => ?_
      rw [zero_add, show 64 * (4 * w) + l = 256 * w + l by ring]
    · refine Finset.sum_congr rfl fun k _ => ?_
      rw [zero_add, show 64 * (4 * w + 2) + (l - 128) = 256 * w + l by omega, show 4 * w + 2 + (l - 128) / 64 = 4 * w + l / 64 by omega]

/-- A span of the keys, a lane to a row. -/
theorem ktLoad {sig : RefSig} {κ : Kind} {sp : Space} {v : View sig κ sp ⟨2, ![256, 2176]⟩ .bf16} {f : v.ty.Contents (Elt Ideal)}
    (h : On (Val := Elt Ideal) v f (arr2 fun l k => d.K k (256 * w + l)) fun _ => True) (hg : g = 4 * w + o / 64) (ho : o % 64 = 0) {inb} :
    Is2 (φ := .bf16) (v.readAt (Elt Ideal) (Rect.unit (s := ⟨2, ![256, 2176]⟩) ![o, k0] ![128, n] inb).toLoadRect f) fun l k => d.K (k0 + k) (64 * g + l) :=
  (loadAll16 h).congr fun l _ k _ => by
    show d.K (k0 + k) (256 * w + (o + l)) = _
    rw [show 256 * w + (o + l) = 64 * g + l by omega]

end Cert.Reals

end
-- ==== Proof.Fill.lean ====
/- The stores of one point into an accumulator: together they hold the rows below some row, and the rows past it stay. -/
module

public import proofs.«01_k».proof.Proof.Store

@[expose] public section

noncomputable section

namespace Cert.Reals

open Idealize.ShloMosaic Cert.Model

variable {sig : RefSig} {κ : Kind} {sp : Space}

theorem outside2 {A B r c a b : ℕ} {y : (⟨2, ![A, B]⟩ : Shape).Idx}
    (h : ¬∀ k : Fin 2, (![r, c] : Fin 2 → ℕ) k ≤ (y k).val ∧ (y k).val < (![r, c] : Fin 2 → ℕ) k + (![a, b] : Fin 2 → ℕ) k) :
    ¬(r ≤ (y 0).val ∧ (y 0).val < r + a ∧ c ≤ (y 1).val ∧ (y 1).val < c + b) :=
  fun ⟨h0, h1, h2, h3⟩ => h fun k => match k with
    | 0 => ⟨h0, h1⟩
    | 1 => ⟨h2, h3⟩

theorem outside3 {A B C r s t a b c : ℕ} {y : (⟨3, ![A, B, C]⟩ : Shape).Idx}
    (h : ¬∀ k : Fin 3, (![r, s, t] : Fin 3 → ℕ) k ≤ (y k).val ∧ (y k).val < (![r, s, t] : Fin 3 → ℕ) k + (![a, b, c] : Fin 3 → ℕ) k) :
    ¬(r ≤ (y 0).val ∧ (y 0).val < r + a ∧ s ≤ (y 1).val ∧ (y 1).val < s + b ∧ t ≤ (y 2).val ∧ (y 2).val < t + c) :=
  fun ⟨h0, h1, h2, h3, h4, h5⟩ => h fun k => match k with
    | 0 => ⟨h0, h1⟩
    | 1 => ⟨h2, h3⟩
    | 2 => ⟨h4, h5⟩

/-- A store of the whole array. -/
theorem fillAll {A B : ℕ} {v : View sig κ sp ⟨2, ![A, B]⟩ .bf16} {f : v.ty.Contents (Elt Ideal)} {L : List (View.Piece (Elt Ideal) ⟨2, ![A, B]⟩ .bf16)}
    {G : ℕ → ℕ → ℝ} {inb} {p : FVec Ideal ⟨2, ![A, B]⟩ .bf16} (h : Is2 p (win G 0 0)) :
    On (Val := Elt Ideal) v (v.writes (Elt Ideal) f (⟨Rect.unit (s := ⟨2, ![A, B]⟩) ![0, 0] ![A, B] inb, p⟩ :: L)) (arr2 G) fun _ => True := by
  refine On.cons (fun y => Is2.block h y) fun y hy => ?_
  have e := outside2 hy.2
  have e0 : (y 0).val < A := (y 0).isLt
  have e1 : (y 1).val < B := (y 1).isLt
  omega

theorem fillAllF {A B : ℕ} {v : View sig κ sp ⟨2, ![A, B]⟩ .f32} {f : v.ty.Contents (Elt Ideal)} {L : List (View.Piece (Elt Ideal) ⟨2, ![A, B]⟩ .f32)}
    {G : ℕ → ℕ → ℝ} {inb} {p : FVec Ideal ⟨2, ![A, B]⟩ .f32} (h : Is2 p (win G 0 0)) :
    On (Val := Elt Ideal) v (v.writes (Elt Ideal) f (⟨Rect.unit (s := ⟨2, ![A, B]⟩) ![0, 0] ![A, B] inb, p⟩ :: L)) (arr2 G) fun _ => True := by
  refine On.cons (fun y => Is2.block h y) fun y hy => ?_
  have e := outside2 hy.2
  have e0 : (y 0).val < A := (y 0).isLt
  have e1 : (y 1).val < B := (y 1).isLt
  omega

section Lanes

variable {v : View sig κ sp ⟨2, ![2176, 256]⟩ .f32} {f : v.ty.Contents (Elt Ideal)} {L : List (View.Piece (Elt Ideal) ⟨2, ![2176, 256]⟩ .f32)}
  {F G : ℕ → ℕ → ℝ} {n n' : ℕ}

/-- One span, two pairs of heads. -/
theorem fill2 {i1 i2} {p1 p2 : FVec Ideal ⟨2, ![n, 128]⟩ .f32} (hL : On (Val := Elt Ideal) v (v.writes (Elt Ideal) f L) (arr2 F) fun _ => True)
    (keep : ∀ k l, n ≤ k → G k l = F k l) (h1 : Is2 p1 (win G 0 128)) (h2 : Is2 p2 (win G 0 0)) :
    On (Val := Elt Ideal) v (v.writes (Elt Ideal) f (⟨Rect.unit (s := ⟨2, ![2176, 256]⟩) ![0, 128] ![n, 128] i1, p1⟩ ::
      ⟨Rect.unit (s := ⟨2, ![2176, 256]⟩) ![0, 0] ![n, 128] i2, p2⟩ :: L)) (arr2 G) fun _ => True := by
  refine On.cons (fun y => Is2.block h1 y) (On.cons (fun y => Is2.block h2 y) fun y hy => (hL y trivial).trans ?_)
  have e1 := outside2 hy.1.2
  have e2 := outside2 hy.2
  have e3 : (y 1).val < 256 := (y 1).isLt
  exact congrArg Real.toEReal (keep _ _ (by omega)).symm

/-- Two spans, two pairs of heads: the rows below their end. -/
theorem spans4 {i1 i2 i3 i4} {p1 p3 : FVec Ideal ⟨2, ![n', 128]⟩ .f32} {p2 p4 : FVec Ideal ⟨2, ![n, 128]⟩ .f32}
    (rest : On (Val := Elt Ideal) v (v.writes (Elt Ideal) f L) (arr2 G) fun y => n + n' ≤ (y 0).val)
    (h1 : Is2 p1 (win G n 128)) (h2 : Is2 p2 (win G 0 128)) (h3 : Is2 p3 (win G n 0)) (h4 : Is2 p4 (win G 0 0)) :
    On (Val := Elt Ideal) v (v.writes (Elt Ideal) f (⟨Rect.unit (s := ⟨2, ![2176, 256]⟩) ![n, 128] ![n', 128] i1, p1⟩ ::
      ⟨Rect.unit (s := ⟨2, ![2176, 256]⟩) ![0, 128] ![n, 128] i2, p2⟩ :: ⟨Rect.unit (s := ⟨2, ![2176, 256]⟩) ![n, 0] ![n', 128] i3, p3⟩ ::
      ⟨Rect.unit (s := ⟨2, ![2176, 256]⟩) ![0, 0] ![n, 128] i4, p4⟩ :: L)) (arr2 G) fun _ => True := by
  refine On.cons (fun y => Is2.block h1 y) (On.cons (fun y => Is2.block h2 y) (On.cons (fun y => Is2.block h3 y)
    (On.cons (fun y => Is2.block h4 y) fun y hy => rest y ?_)))
  have e1 := outside2 hy.1.1.1.2
  have e2 := outside2 hy.1.1.2
  have e3 := outside2 hy.1.2
  have e4 := outside2 hy.2
  have e5 : (y 1).val < 256 := (y 1).isLt
  omega

/-- Two spans, two pairs of heads, and rows past them that stay. -/
theorem fill4 {i1 i2 i3 i4} {p1 p3 : FVec Ideal ⟨2, ![n', 128]⟩ .f32} {p2 p4 : FVec Ideal ⟨2, ![n, 128]⟩ .f32}
    (hL : On (Val := Elt Ideal) v (v.writes (Elt Ideal) f L) (arr2 F) fun _ => True) (keep : ∀ k l, n + n' ≤ k → G k l = F k l)
    (h1 : Is2 p1 (win G n 128)) (h2 : Is2 p2 (win G 0 128)) (h3 : Is2 p3 (win G n 0)) (h4 : Is2 p4 (win G 0 0)) :
    On (Val := Elt Ideal) v (v.writes (Elt Ideal) f (⟨Rect.unit (s := ⟨2, ![2176, 256]⟩) ![n, 128] ![n', 128] i1, p1⟩ ::
      ⟨Rect.unit (s := ⟨2, ![2176, 256]⟩) ![0, 128] ![n, 128] i2, p2⟩ :: ⟨Rect.unit (s := ⟨2, ![2176, 256]⟩) ![n, 0] ![n', 128] i3, p3⟩ ::
      ⟨Rect.unit (s := ⟨2, ![2176, 256]⟩) ![0, 0] ![n, 128] i4, p4⟩ :: L)) (arr2 G) fun _ => True :=
  spans4 (fun y hy => (hL y trivial).trans (congrArg Real.toEReal (keep _ _ hy).symm)) h1 h2 h3 h4

/-- Two spans that are all the rows. -/
theorem cover4 {i1 i2 i3 i4} {p1 p3 : FVec Ideal ⟨2, ![n', 128]⟩ .f32} {p2 p4 : FVec Ideal ⟨2, ![n, 128]⟩ .f32} (hn : 2176 ≤ n + n')
    (h1 : Is2 p1 (win G n 128)) (h2 : Is2 p2 (win G 0 128)) (h3 : Is2 p3 (win G n 0)) (h4 : Is2 p4 (win G 0 0)) :
    On (Val := Elt Ideal) v (v.writes (Elt Ideal) f (⟨Rect.unit (s := ⟨2, ![2176, 256]⟩) ![n, 128] ![n', 128] i1, p1⟩ ::
      ⟨Rect.unit (s := ⟨2, ![2176, 256]⟩) ![0, 128] ![n, 128] i2, p2⟩ :: ⟨Rect.unit (s := ⟨2, ![2176, 256]⟩) ![n, 0] ![n', 128] i3, p3⟩ ::
      ⟨Rect.unit (s := ⟨2, ![2176, 256]⟩) ![0, 0] ![n, 128] i4, p4⟩ :: L)) (arr2 G) fun _ => True :=
  spans4 (fun y hy => absurd (show (y 0).val < 2176 from (y 0).isLt) (by omega)) h1 h2 h3 h4

end Lanes

section Heads

variable {v : View sig κ sp ⟨3, ![4, 2176, 1]⟩ .f32} {f : v.ty.Contents (Elt Ideal)} {L : List (View.Piece (Elt Ideal) ⟨3, ![4, 2176, 1]⟩ .f32)}
  {F G : ℕ → ℕ → ℝ} {n n' : ℕ}

theorem Is3.col {p : FVec Ideal ⟨3, ![1, n, 1]⟩ .f32} {o k0 : ℕ} {inb} (h : Is3 p fun i j _ => G (o + i) (k0 + j)) (y : (⟨3, ![1, n, 1]⟩ : Shape).Idx) :
    p y = arr3 (fun e k _ => G e k) ((Rect.unit (s := ⟨3, ![4, 2176, 1]⟩) ![o, k0, 0] ![1, n, 1] inb).idx y) :=
  Is3.block (G := fun e k _ => G e k) h y

/-- One span of four heads. -/
theorem fill4h {i1 i2 i3 i4} {p1 p2 p3 p4 : FVec Ideal ⟨3, ![1, n, 1]⟩ .f32}
    (hL : On (Val := Elt Ideal) v (v.writes (Elt Ideal) f L) (arr3 fun e k _ => F e k) fun _ => True) (keep : ∀ e k, n ≤ k → G e k = F e k)
    (h1 : Is3 p1 fun i j _ => G (3 + i) (0 + j)) (h2 : Is3 p2 fun i j _ => G (2 + i) (0 + j)) (h3 : Is3 p3 fun i j _ => G (1 + i) (0 + j))
    (h4 : Is3 p4 fun i j _ => G (0 + i) (0 + j)) :
    On (Val := Elt Ideal) v (v.writes (Elt Ideal) f (⟨Rect.unit (s := ⟨3, ![4, 2176, 1]⟩) ![3, 0, 0] ![1, n, 1] i1, p1⟩ ::
      ⟨Rect.unit (s := ⟨3, ![4, 2176, 1]⟩) ![2, 0, 0] ![1, n, 1] i2, p2⟩ :: ⟨Rect.unit (s := ⟨3, ![4, 2176, 1]⟩) ![1, 0, 0] ![1, n, 1] i3, p3⟩ ::
      ⟨Rect.unit (s := ⟨3, ![4, 2176, 1]⟩) ![0, 0, 0] ![1, n, 1] i4, p4⟩ :: L)) (arr3 fun e k _ => G e k) fun _ => True := by
  refine On.cons h1.col (On.cons h2.col (On.cons h3.col (On.cons h4.col fun y hy => (hL y trivial).trans ?_)))
  have e1 := outside3 hy.1.1.1.2
  have e2 := outside3 hy.1.1.2
  have e3 := outside3 hy.1.2
  have e4 := outside3 hy.2
  have e5 : (y 0).val < 4 := (y 0).isLt
  have e6 : (y 2).val < 1 := (y 2).isLt
  exact congrArg Real.toEReal (keep _ _ (by omega)).symm

/-- Two spans of four heads: the rows below their end. -/
theorem spans8h {i1 i2 i3 i4 i5 i6 i7 i8} {p1 p2 p5 p6 : FVec Ideal ⟨3, ![1, n', 1]⟩ .f32} {p3 p4 p7 p8 : FVec Ideal ⟨3, ![1, n, 1]⟩ .f32}
    (rest : On (Val := Elt Ideal) v (v.writes (Elt Ideal) f L) (arr3 fun e k _ => G e k) fun y => n + n' ≤ (y 1).val)
    (h1 : Is3 p1 fun i j _ => G (3 + i) (n + j)) (h2 : Is3 p2 fun i j _ => G (2 + i) (n + j))
    (h3 : Is3 p3 fun i j _ => G (3 + i) (0 + j)) (h4 : Is3 p4 fun i j _ => G (2 + i) (0 + j))
    (h5 : Is3 p5 fun i j _ => G (1 + i) (n + j)) (h6 : Is3 p6 fun i j _ => G (0 + i) (n + j))
    (h7 : Is3 p7 fun i j _ => G (1 + i) (0 + j)) (h8 : Is3 p8 fun i j _ => G (0 + i) (0 + j)) :
    On (Val := Elt Ideal) v (v.writes (Elt Ideal) f (⟨Rect.unit (s := ⟨3, ![4, 2176, 1]⟩) ![3, n, 0] ![1, n', 1] i1, p1⟩ ::
      ⟨Rect.unit (s := ⟨3, ![4, 2176, 1]⟩) ![2, n, 0] ![1, n', 1] i2, p2⟩ :: ⟨Rect.unit (s := ⟨3, ![4, 2176, 1]⟩) ![3, 0, 0] ![1, n, 1] i3, p3⟩ ::
      ⟨Rect.unit (s := ⟨3, ![4, 2176, 1]⟩) ![2, 0, 0] ![1, n, 1] i4, p4⟩ :: ⟨Rect.unit (s := ⟨3, ![4, 2176, 1]⟩) ![1, n, 0] ![1, n', 1] i5, p5⟩ ::
      ⟨Rect.unit (s := ⟨3, ![4, 2176, 1]⟩) ![0, n, 0] ![1, n', 1] i6, p6⟩ :: ⟨Rect.unit (s := ⟨3, ![4, 2176, 1]⟩) ![1, 0, 0] ![1, n, 1] i7, p7⟩ ::
      ⟨Rect.unit (s := ⟨3, ![4, 2176, 1]⟩) ![0, 0, 0] ![1, n, 1] i8, p8⟩ :: L)) (arr3 fun e k _ => G e k) fun _ => True := by
  refine On.cons h1.col (On.cons h2.col (On.cons h3.col (On.cons h4.col (On.cons h5.col (On.cons h6.col (On.cons h7.col (On.cons h8.col
    fun y hy => rest y ?_)))))))
  have e1 := outside3 hy.1.1.1.1.1.1.1.2
  have e2 := outside3 hy.1.1.1.1.1.1.2
  have e3 := outside3 hy.1.1.1.1.1.2
  have e4 := outside3 hy.1.1.1.1.2
  have e5 := outside3 hy.1.1.1.2
  have e6 := outside3 hy.1.1.2
  have e7 := outside3 hy.1.2
  have e8 := outside3 hy.2
  have e9 : (y 0).val < 4 := (y 0).isLt
  have e0 : (y 2).val < 1 := (y 2).isLt
  omega

/-- Two spans of four heads, and rows past them that stay. -/
theorem fill8h {i1 i2 i3 i4 i5 i6 i7 i8} {p1 p2 p5 p6 : FVec Ideal ⟨3, ![1, n', 1]⟩ .f32} {p3 p4 p7 p8 : FVec Ideal ⟨3, ![1, n, 1]⟩ .f32}
    (hL : On (Val := Elt Ideal) v (v.writes (Elt Ideal) f L) (arr3 fun e k _ => F e k) fun _ => True) (keep : ∀ e k, n + n' ≤ k → G e k = F e k)
    (h1 : Is3 p1 fun i j _ => G (3 + i) (n + j)) (h2 : Is3 p2 fun i j _ => G (2 + i) (n + j))
    (h3 : Is3 p3 fun i j _ => G (3 + i) (0 + j)) (h4 : Is3 p4 fun i j _ => G (2 + i) (0 + j))
    (h5 : Is3 p5 fun i j _ => G (1 + i) (n + j)) (h6 : Is3 p6 fun i j _ => G (0 + i) (n + j))
    (h7 : Is3 p7 fun i j _ => G (1 + i) (0 + j)) (h8 : Is3 p8 fun i j _ => G (0 + i) (0 + j)) :
    On (Val := Elt Ideal) v (v.writes (Elt Ideal) f (⟨Rect.unit (s := ⟨3, ![4, 2176, 1]⟩) ![3, n, 0] ![1, n', 1] i1, p1⟩ ::
      ⟨Rect.unit (s := ⟨3, ![4, 2176, 1]⟩) ![2, n, 0] ![1, n', 1] i2, p2⟩ :: ⟨Rect.unit (s := ⟨3, ![4, 2176, 1]⟩) ![3, 0, 0] ![1, n, 1] i3, p3⟩ ::
      ⟨Rect.unit (s := ⟨3, ![4, 2176, 1]⟩) ![2, 0, 0] ![1, n, 1] i4, p4⟩ :: ⟨Rect.unit (s := ⟨3, ![4, 2176, 1]⟩) ![1, n, 0] ![1, n', 1] i5, p5⟩ ::
      ⟨Rect.unit (s := ⟨3, ![4, 2176, 1]⟩) ![0, n, 0] ![1, n', 1] i6, p6⟩ :: ⟨Rect.unit (s := ⟨3, ![4, 2176, 1]⟩) ![1, 0, 0] ![1, n, 1] i7, p7⟩ ::
      ⟨Rect.unit (s := ⟨3, ![4, 2176, 1]⟩) ![0, 0, 0] ![1, n, 1] i8, p8⟩ :: L)) (arr3 fun e k _ => G e k) fun _ => True :=
  spans8h (fun y hy => (hL y trivial).trans (congrArg Real.toEReal (keep _ _ hy).symm)) h1 h2 h3 h4 h5 h6 h7 h8

/-- Two spans that are all the rows, of four heads. -/
theorem cover8h {i1 i2 i3 i4 i5 i6 i7 i8} {p1 p2 p5 p6 : FVec Ideal ⟨3, ![1, n', 1]⟩ .f32} {p3 p4 p7 p8 : FVec Ideal ⟨3, ![1, n, 1]⟩ .f32} (hn : 2176 ≤ n + n')
    (h1 : Is3 p1 fun i j _ => G (3 + i) (n + j)) (h2 : Is3 p2 fun i j _ => G (2 + i) (n + j))
    (h3 : Is3 p3 fun i j _ => G (3 + i) (0 + j)) (h4 : Is3 p4 fun i j _ => G (2 + i) (0 + j))
    (h5 : Is3 p5 fun i j _ => G (1 + i) (n + j)) (h6 : Is3 p6 fun i j _ => G (0 + i) (n + j))
    (h7 : Is3 p7 fun i j _ => G (1 + i) (0 + j)) (h8 : Is3 p8 fun i j _ => G (0 + i) (0 + j)) :
    On (Val := Elt Ideal) v (v.writes (Elt Ideal) f (⟨Rect.unit (s := ⟨3, ![4, 2176, 1]⟩) ![3, n, 0] ![1, n', 1] i1, p1⟩ ::
      ⟨Rect.unit (s := ⟨3, ![4, 2176, 1]⟩) ![2, n, 0] ![1, n', 1] i2, p2⟩ :: ⟨Rect.unit (s := ⟨3, ![4, 2176, 1]⟩) ![3, 0, 0] ![1, n, 1] i3, p3⟩ ::
      ⟨Rect.unit (s := ⟨3, ![4, 2176, 1]⟩) ![2, 0, 0] ![1, n, 1] i4, p4⟩ :: ⟨Rect.unit (s := ⟨3, ![4, 2176, 1]⟩) ![1, n, 0] ![1, n', 1] i5, p5⟩ ::
      ⟨Rect.unit (s := ⟨3, ![4, 2176, 1]⟩) ![0, n, 0] ![1, n', 1] i6, p6⟩ :: ⟨Rect.unit (s := ⟨3, ![4, 2176, 1]⟩) ![1, 0, 0] ![1, n, 1] i7, p7⟩ ::
      ⟨Rect.unit (s := ⟨3, ![4, 2176, 1]⟩) ![0, 0, 0] ![1, n, 1] i8, p8⟩ :: L)) (arr3 fun e k _ => G e k) fun _ => True :=
  spans8h (fun y hy => absurd (show (y 1).val < 2176 from (y 1).isLt) (by omega)) h1 h2 h3 h4 h5 h6 h7 h8

end Heads

end Cert.Reals

end
-- ==== Proof.Lanes.lean ====
/- The gates' sums lie one head to a lane: taking one head out to a column, and putting four heads' columns into their lanes. -/
module

public import proofs.«01_k».proof.Proof.Fill
public import proofs.«01_k».proof.Proof.Leaves

@[expose] public section

noncomputable section

namespace Cert.Reals

open Idealize.ShloMosaic Cert.Model

variable {a b e w n r : ℕ} {f : ℕ → ℕ → ℝ} {φ : FTy}

/-- The word of head `e`'s lane. -/
theorem laneWord (hw : w < 2) (he : e < 4) : (Scalar.addi (Scalar.muli 4#32 (BitVec.ofNat 32 w)) (BitVec.ofNat 32 e)).toNat = 4 * w + e := by
  show (4#32 * BitVec.ofNat 32 w + BitVec.ofNat 32 e).toNat = _
  rw [BitVec.toNat_add, BitVec.toNat_mul, BitVec.toNat_ofNat, BitVec.toNat_ofNat]
  show (4 * (w % 2 ^ 32) % 2 ^ 32 + e % 2 ^ 32) % 2 ^ 32 = _
  omega

theorem Mask.lane {x : BitVec 32} (hx : x.toNat = r) (h) : Mask (cmpi .eq (iota .tc ⟨2, ![a, 128]⟩ 32 [1] h) (broadcast ⟨2, ![a, 128]⟩ x)) fun _ j => j = r := fun i j => by
  pointwise
  refine IntOp.cmpi_eq.trans ⟨fun e => ?_, fun e => BitVec.eq_of_toNat_eq ?_⟩
  · rw [← hx, ← e, BitVec.toNat_ofNat]
    have := j.isLt
    omega
  · rw [hx, ← e, BitVec.toNat_ofNat]
    have := j.isLt
    omega

theorem Is2.column {x : FVec Ideal ⟨2, ![a, 1]⟩ φ} (h) (hx : Is2 x f) : Is2 (broadcastTo ⟨2, ![a, b]⟩ x h) fun i _ => f i 0 := fun i j => by
  pointwise
  by_cases h1 : a = 1
  · subst h1
    obtain rfl : i = 0 := Subsingleton.elim _ _
    exact hx 0 0
  · simpa [h1] using hx i 0

/-- One head's lane of the gates' sums, in every lane. -/
theorem Is3.gate {x : FVec Ideal ⟨2, ![n, 128]⟩ .f32} {z : Ideal .f32} {k : BitVec 32} {i i1 h1 h2 h3 h4 h5 h6 h7} (hk : k.toNat = r) (hr : r < 128) (hz : z = 0) (hx : Is2 x fun i l => f l i) :
    Is3 (shapeCast ⟨3, ![1, n, 128]⟩ (broadcastTo ⟨2, ![n, 128]⟩ (shapeCast ⟨2, ![n, 1]⟩ (shapeCast ⟨2, ![n, 1]⟩
      (multiReduction .add [1] ⟨1, ![n]⟩ (select (cmpi .eq (iota .tc ⟨2, ![n, 128]⟩ 32 [1] i) (broadcast ⟨2, ![n, 128]⟩ k)) x (broadcast ⟨2, ![n, 128]⟩ z)) i1 h1 h2 h3) h4) h5) h6) h7)
      fun _ i _ => f r i :=
  Is3.lift h7 ((Is2.column h6 (Is2.castSame h5 (Is2.ofCol h4 (Is1.rowSum i1 h1 h2 h3 (Is2.sel (Mask.lane hk i) hx (Is2.zero hz)))))).congr fun i _ j _ => by
    simp [hr])

/-- A head's column put into its lane, with the other sign. -/
theorem Is2.putLane {x : FVec Ideal ⟨3, ![1, n, 1]⟩ .f32} {y : FVec Ideal ⟨2, ![n, 128]⟩ .f32} {z : Ideal .f32} {k : BitVec 32} {g : ℕ → ℝ} {i h4 h5 h6}
    (hk : k.toNat = r) (hz : z = 0) (hx : Is3 x fun _ i _ => g i) (hy : Is2 y f) :
    Is2 (select (cmpi .eq (iota .tc ⟨2, ![n, 128]⟩ 32 [1] i) (broadcast ⟨2, ![n, 128]⟩ k))
      (broadcastTo ⟨2, ![n, 128]⟩ (shapeCast ⟨2, ![n, 1]⟩ (subf (broadcast ⟨2, ![n, 1]⟩ z) (shapeCast ⟨2, ![n, 1]⟩ x h4)) h5) h6) y)
      fun i l => if l = r then - g i else f i l :=
  (Is2.sel (Mask.lane hk i) (Is2.column h6 (Is2.castSame h5 ((Is2.zero hz).sub (Is2.drop h4 hx)))) hy).congr fun i _ l _ => by
    simp

/-- The gates' gradient after one window of heads: its four lanes are new. -/
def gates (d : Data) (w : ℕ) (f : ℕ → ℕ → ℝ) (k l : ℕ) : ℝ := if l / 4 = w then - d.dc w 2176 (l % 4) k else f k l

theorem gates_lanes (d : Data) (w : ℕ) (f : ℕ → ℕ → ℝ) (k l : ℕ) :
    (if l = 4 * w + 3 then - d.dc w 2176 3 k else if l = 4 * w + 2 then - d.dc w 2176 2 k else if l = 4 * w + 1 then - d.dc w 2176 1 k else
      if l = 4 * w + 0 then - d.dc w 2176 0 k else f k l) = gates d w f k l := by
  unfold gates
  by_cases h : l / 4 = w
  · rw [if_pos h]
    obtain h' | h' | h' | h' : l % 4 = 0 ∨ l % 4 = 1 ∨ l % 4 = 2 ∨ l % 4 = 3 := by omega
    all_goals
      rw [h']
      split_ifs <;> first | rfl | (exfalso; omega)
  · rw [if_neg h, if_neg (by omega), if_neg (by omega), if_neg (by omega), if_neg (by omega)]

section Out

variable {sig : RefSig} {κ : Kind} {sp : Space}

/-- One head's column of the scratch. -/
theorem loadCol {d : Data} {v : View sig κ sp ⟨3, ![4, 2176, 1]⟩ .f32} {f : v.ty.Contents (Elt Ideal)} {q : ℕ}
    (h : On (Val := Elt Ideal) v f (arr3 fun e k _ => d.dc w q e k) fun _ => True) (hq : q = 2176) {inb} :
    Is3 (φ := .f32) (v.readAt (Elt Ideal) (Rect.unit (s := ⟨3, ![4, 2176, 1]⟩) ![e, 0, 0] ![1, 2176, 1] inb).toLoadRect f) fun _ k _ => d.dc w 2176 e k := fun i j l => by
  obtain rfl : i = 0 := Subsingleton.elim _ _
  subst hq
  refine (loadAll3 (G := d.dc w 2176) h 0 j l).trans ?_
  show ((d.dc w 2176 (e + 0) (0 + j) : ℝ) : EReal) = _
  rw [zero_add, add_zero]

end Out

end Cert.Reals

end
-- ==== Proof.State.lean ====
/- What the kernel's buffers hold after a grid point, in real numbers. -/
module

public import proofs.«01_k».proof.Proof.Lanes
public import proofs.«01_k».proof.Proof.Gen.KernelIdeal.Frame

@[expose] public section

noncomputable section

namespace Cert.Cases

open Idealize.ShloMosaic Idealize.SL Cert.KernelIdeal Cert.KernelIdeal.Gen Cert.Reals Cert.Model

/-- The buffers after a point: four results and five scratch buffers. -/
abbrev Bufs := Vec Ideal S128x256 .bf16 × Vec Ideal S2176x256 .bf16 × Vec Ideal S2176x256 .bf16 × Vec Ideal S2176x128 .f32 ×
  Vec Ideal S2176x256 .f32 × Vec Ideal S2176x256 .f32 × Vec Ideal S4x2176x1 .f32 × Vec Ideal S4x2176x128 .f32 × Vec Ideal S256x2176 .bf16

/-- The scratch once the queries below `n` are done. -/
abbrev Scratch (d : Data) (w n : ℕ) (s : Bufs) : Prop :=
  Scr d w n s.2.2.2.2.1 s.2.2.2.2.2.1 s.2.2.2.2.2.2.1 s.2.2.2.2.2.2.2.1 s.2.2.2.2.2.2.2.2

/-- The block of the queries' gradient. -/
abbrev Queries (d : Data) (w q0 : ℕ) (s : Bufs) : Prop := ∀ y, s.1 y = arr2 (fun q l => d.dq w (q0 + q) l) y

/-- A window's results after its last block of queries; `f` is what the gates' gradient was before. -/
abbrev Last (d : Data) (w : ℕ) (f : ℕ → ℕ → ℝ) (s : Bufs) : Prop :=
  (∀ y, s.2.1 y = arr2 (d.dk w 2176) y) ∧ (∀ y, s.2.2.1 y = arr2 (d.dv w 2176) y) ∧ ∀ y, s.2.2.2.1 y = arr2 (gates d w f) y

theorem coord0 : ∀ t : Fin cfg0.N, (grid0.coords t 0).val = t.val / 17 := by decide +kernel

theorem coord1 : ∀ t : Fin cfg0.N, (grid0.coords t 1).val = t.val % 17 := by decide +kernel

variable (m : (ℓ : Loc nD τ sig) → Buf (Elt Ideal) ℓ) (c : Dev nD) (t : Fin cfg0.N) (d : Data)

/-- The point's windows hold the reals of `d`. -/
abbrev Windows : Prop := Ins d (grid0.coords t 0).val (128 * (grid0.coords t 1).val) (iblk m c 0 t) (iblk m c 1 t) (iblk m c 2 t) (iblk m c 3 t)
  (iblk m c 4 t) (iblk m c 5 t) (iblk m c 6 t)

/-- The buffers after the point, and after the one before. -/
abbrev now : Bufs := outsAt0 m c t.val t.isLt

abbrev prior : Bufs := outsAt0 m c (t.val - 1) (Nat.lt_of_le_of_lt (Nat.sub_le _ _) t.isLt)

end Cert.Cases

end
-- ==== Proof.Start.lean ====
/- A window's first block of queries: the accumulators are filled with zeros first, and each head's gate sums and the keys'
   transpose are laid out for the blocks to come. -/
module

public import proofs.«01_k».proof.Proof.Lanes
public import proofs.«01_k».proof.Proof.Query

@[expose] public section

noncomputable section

namespace Cert.Reals

open Idealize.ShloMosaic Cert.Model

variable {sig : RefSig} {κ : Kind} {sp : Space}

/-- A store that misses the indices asked for. -/
theorem On.skip {s : Shape} {e : EltTy} {Val : EltTy → Type} {v : View sig κ sp s e} {f : v.ty.Contents Val} {G : s.Idx → Val e} {P Q : s.Idx → Prop}
    {off size : Fin s.rank → ℕ} {inb : ∀ a, off a + size a ≤ s.size a} {w : (Rect.unit off size inb).shape.Idx → Val e} {L : List (View.Piece Val s e)}
    (hL : On v (v.writes Val f L) G Q) (hQ : ∀ y, P y → Q y) (hP : ∀ y, P y → ¬∀ a, off a ≤ (y a).val ∧ (y a).val < off a + size a) :
    On v (v.writes Val f (⟨Rect.unit off size inb, w⟩ :: L)) G P := fun y hy => by
  rw [View.read_writes_cons_unit v f inb w L y rfl, dif_neg (hP y hy)]
  exact hL y (hQ y hy)

section Lanes

variable {v : View sig κ sp ⟨2, ![2176, 256]⟩ .f32} {f : v.ty.Contents (Elt Ideal)} {G : ℕ → ℕ → ℝ} {n n' : ℕ}

/-- The accumulator filled with zeros. -/
theorem zeros2 {z : Ideal .f32} {inb h} (hz : z = 0) (hG : ∀ k l, G k l = 0) :
    On (Val := Elt Ideal) v (v.writes (Elt Ideal) f [⟨Rect.unit (s := ⟨2, ![2176, 256]⟩) ![0, 0] ![2176, 256] inb,
      shapeCast (α := Ideal .f32) ⟨2, ![2176, 256]⟩ (broadcast ⟨2, ![2176, 256]⟩ z) h⟩]) (arr2 G) fun _ => True :=
  fillAllF ((Is2.castSame h (Is2.zero hz)).congr fun _ _ _ _ => (hG _ _).symm)

/-- The second pair of heads is read before its store. -/
theorem loadSecond {L : List (View.Piece (Elt Ideal) ⟨2, ![2176, 256]⟩ .f32)} (hL : On (Val := Elt Ideal) v (v.writes (Elt Ideal) f L) (arr2 G) fun _ => True)
    {i1 inb} {p : FVec Ideal ⟨2, ![n, 128]⟩ .f32} :
    Is2 (φ := .f32) (v.readAt (Elt Ideal) (Rect.unit (s := ⟨2, ![2176, 256]⟩) ![0, 128] ![n', 128] inb).toLoadRect
      (v.writes (Elt Ideal) f (⟨Rect.unit (s := ⟨2, ![2176, 256]⟩) ![0, 0] ![n, 128] i1, p⟩ :: L))) (win G 0 128) := fun i j => by
  have hP : On (Val := Elt Ideal) v (v.writes (Elt Ideal) f (⟨Rect.unit (s := ⟨2, ![2176, 256]⟩) ![0, 0] ![n, 128] i1, p⟩ :: L)) (arr2 G) fun y => 128 ≤ (y 1).val :=
    On.skip hL (fun _ _ => trivial) fun y hy h => by
      have h1 : (y 1).val < 0 + 128 := (h 1).2
      omega
  refine (hP _ ?_).trans ?_
  · show 128 ≤ 128 + 1 * j.val
    omega
  · show ((G (0 + 1 * i.val) (128 + 1 * j.val) : ℝ) : EReal) = _
    rw [one_mul, one_mul]; rfl

end Lanes

section Heads

variable {v : View sig κ sp ⟨3, ![4, 2176, 1]⟩ .f32} {f : v.ty.Contents (Elt Ideal)} {G : ℕ → ℕ → ℝ} {n e : ℕ}

theorem zeros3 {z : Ideal .f32} {inb h} (hz : z = 0) (hG : ∀ k l, G k l = 0) :
    On (Val := Elt Ideal) v (v.writes (Elt Ideal) f [⟨Rect.unit (s := ⟨3, ![4, 2176, 1]⟩) ![0, 0, 0] ![4, 2176, 1] inb,
      shapeCast (α := Ideal .f32) ⟨3, ![4, 2176, 1]⟩ (broadcast ⟨3, ![4, 2176, 1]⟩ z) h⟩]) (arr3 fun e k _ => G e k) fun _ => True := by
  refine On.cons (fun y => ?_) fun y hy => ?_
  · show z = ((G _ _ : ℝ) : EReal)
    rw [hz, hG]; rfl
  · have h1 := outside3 hy.2
    have e0 : (y 0).val < 4 := (y 0).isLt
    have e1 : (y 1).val < 2176 := (y 1).isLt
    have e2 : (y 2).val < 1 := (y 2).isLt
    omega

/-- From head `e` on the buffer is not stored to yet. -/
def From (v : View sig κ sp ⟨3, ![4, 2176, 1]⟩ .f32) (f : v.ty.Contents (Elt Ideal)) (G : ℕ → ℕ → ℝ) (e : ℕ) : Prop :=
  On (Val := Elt Ideal) v f (arr3 fun e k _ => G e k) fun y => e ≤ (y 0).val

theorem From.all (h : On (Val := Elt Ideal) v f (arr3 fun e k _ => G e k) fun _ => True) : From v f G 0 := fun y _ => h y trivial

theorem From.next {L : List (View.Piece (Elt Ideal) ⟨3, ![4, 2176, 1]⟩ .f32)} (h : From v (v.writes (Elt Ideal) f L) G e) {i1} {p : FVec Ideal ⟨3, ![1, n, 1]⟩ .f32} :
    From v (v.writes (Elt Ideal) f (⟨Rect.unit (s := ⟨3, ![4, 2176, 1]⟩) ![e, 0, 0] ![1, n, 1] i1, p⟩ :: L)) G (e + 1) :=
  On.skip h (fun _ hy => by omega) fun y hy h => by
    have h1 : (y 0).val < e + 1 := (h 0).2
    omega

theorem From.load (h : From v f G e) {a b c inb} :
    Is3 (φ := .f32) (v.readAt (Elt Ideal) (Rect.unit (s := ⟨3, ![4, 2176, 1]⟩) ![e, c, 0] ![a, b, 1] inb).toLoadRect f) fun i j _ => G (e + i) (c + j) :=
  Is3.ofRead h fun y => by
    show e ≤ e + 1 * (y 0).val
    omega

end Heads

/-- The four heads' gate sums, each in every lane. -/
theorem gatesLaid {d : Data} {w : ℕ} {v : View sig κ sp ⟨3, ![4, 2176, 128]⟩ .f32} {f : v.ty.Contents (Elt Ideal)} {i0 i1 i2 i3}
    {p0 p1 p2 p3 : FVec Ideal ⟨3, ![1, 2176, 128]⟩ .f32} (h3 : Is3 p3 fun _ k _ => d.CT (4 * w + 3) k) (h2 : Is3 p2 fun _ k _ => d.CT (4 * w + 2) k)
    (h1 : Is3 p1 fun _ k _ => d.CT (4 * w + 1) k) (h0 : Is3 p0 fun _ k _ => d.CT (4 * w + 0) k) :
    On (Val := Elt Ideal) v (v.writes (Elt Ideal) f [⟨Rect.unit (s := ⟨3, ![4, 2176, 128]⟩) ![3, 0, 0] ![1, 2176, 128] i3, p3⟩,
      ⟨Rect.unit (s := ⟨3, ![4, 2176, 128]⟩) ![2, 0, 0] ![1, 2176, 128] i2, p2⟩, ⟨Rect.unit (s := ⟨3, ![4, 2176, 128]⟩) ![1, 0, 0] ![1, 2176, 128] i1, p1⟩,
      ⟨Rect.unit (s := ⟨3, ![4, 2176, 128]⟩) ![0, 0, 0] ![1, 2176, 128] i0, p0⟩]) (arr3 fun e k _ => d.CT (4 * w + e) k) fun _ => True := by
  have one : ∀ {o : ℕ} {p : FVec Ideal ⟨3, ![1, 2176, 128]⟩ .f32}, Is3 p (fun _ k _ => d.CT (4 * w + o) k) →
      Is3 p fun i j _ => d.CT (4 * w + (o + i)) (0 + j) := fun {o} _ h i j k => by
    obtain rfl : i = 0 := Subsingleton.elim _ _
    refine (h 0 j k).trans ?_
    show _ = ((d.CT (4 * w + (o + 0)) (0 + j.val) : ℝ) : EReal)
    rw [zero_add, add_zero]
  refine On.cons (Is3.block (G := fun e k _ => d.CT (4 * w + e) k) (one h3)) (On.cons (Is3.block (G := fun e k _ => d.CT (4 * w + e) k) (one h2))
    (On.cons (Is3.block (G := fun e k _ => d.CT (4 * w + e) k) (one h1)) (On.cons (Is3.block (G := fun e k _ => d.CT (4 * w + e) k) (one h0)) fun y hy => ?_)))
  have e1 := outside3 hy.1.1.1.2
  have e2 := outside3 hy.1.1.2
  have e3 := outside3 hy.1.2
  have e4 := outside3 hy.2
  have e5 : (y 0).val < 4 := (y 0).isLt
  have e6 : (y 1).val < 2176 := (y 1).isLt
  have e7 : (y 2).val < 128 := (y 2).isLt
  omega

/-- One head's gate sums in every lane, as the program lays them out. -/
abbrev laid (w e : ℕ) (x : FVec Ideal ⟨2, ![2176, 128]⟩ .f32) (i i1 h1 h2 h3 h4 h5 h6 h7) :=
  shapeCast ⟨3, ![1, 2176, 128]⟩ (broadcastTo ⟨2, ![2176, 128]⟩ (shapeCast ⟨2, ![2176, 1]⟩ (shapeCast ⟨2, ![2176, 1]⟩
    (multiReduction .add [1] ⟨1, ![2176]⟩ (select (cmpi .eq (iota .tc ⟨2, ![2176, 128]⟩ 32 [1] i)
      (broadcast ⟨2, ![2176, 128]⟩ (Scalar.addi (Scalar.muli 4#32 (BitVec.ofNat 32 w)) (BitVec.ofNat 32 e)))) x
      (broadcast ⟨2, ![2176, 128]⟩ (Scalar.ofBits .f32 0x00000000#32))) i1 h1 h2 h3) h4) h5) h6) h7

theorem gatesHeld {d : Data} {w : ℕ} (hw : w < 2) {v : View sig κ sp ⟨3, ![4, 2176, 128]⟩ .f32} {f : v.ty.Contents (Elt Ideal)} {i0 i1 i2 i3}
    {x : FVec Ideal ⟨2, ![2176, 128]⟩ .f32} (hx : Is2 x fun k h => d.CT h k) {a0 a1 a2 a3 a4 a5 a6 a7 a8 b0 b1 b2 b3 b4 b5 b6 b7 b8 c0 c1 c2 c3 c4 c5 c6 c7 c8 e0 e1 e2 e3 e4 e5 e6 e7 e8} :
    On (Val := Elt Ideal) v (v.writes (Elt Ideal) f [⟨Rect.unit (s := ⟨3, ![4, 2176, 128]⟩) ![3, 0, 0] ![1, 2176, 128] i3, laid w 3 x a0 a1 a2 a3 a4 a5 a6 a7 a8⟩,
      ⟨Rect.unit (s := ⟨3, ![4, 2176, 128]⟩) ![2, 0, 0] ![1, 2176, 128] i2, laid w 2 x b0 b1 b2 b3 b4 b5 b6 b7 b8⟩,
      ⟨Rect.unit (s := ⟨3, ![4, 2176, 128]⟩) ![1, 0, 0] ![1, 2176, 128] i1, laid w 1 x c0 c1 c2 c3 c4 c5 c6 c7 c8⟩,
      ⟨Rect.unit (s := ⟨3, ![4, 2176, 128]⟩) ![0, 0, 0] ![1, 2176, 128] i0, laid w 0 x e0 e1 e2 e3 e4 e5 e6 e7 e8⟩]) (arr3 fun e k _ => d.CT (4 * w + e) k) fun _ => True :=
  gatesLaid (Is3.gate (laneWord hw (by decide)) (by omega) ofBits_zero hx) (Is3.gate (laneWord hw (by decide)) (by omega) ofBits_zero hx)
    (Is3.gate (laneWord hw (by decide)) (by omega) ofBits_zero hx) (Is3.gate (laneWord hw (by decide)) (by omega) ofBits_zero hx)

/-- The whole of a window. -/
theorem loadWhole {a b : ℕ} {g : ℕ → ℕ → ℝ} {m : Memref sig κ sp ⟨2, ![a, b]⟩ .f32} {h : m.IsWhole} {x : Vec Ideal ⟨2, ![a, b]⟩ .f32} (hx : Is2 (φ := .f32) x g) {inb hc} :
    Is2 (φ := .f32) (shapeCast ⟨2, ![a, b]⟩ (m.view.readAt (Elt Ideal) (Rect.unit (s := ⟨2, ![a, b]⟩) ![0, 0] ![a, b] inb).toLoadRect (h.unread x)) hc) g :=
  (Is2.castSame hc (loadAll (On.unread h hx.arr))).congr fun i _ j _ => by simp only [win, zero_add]

/-- The keys' transpose. -/
theorem keysLaid {d : Data} {w : ℕ} {v : View sig κ sp ⟨2, ![256, 2176]⟩ .bf16} {f : v.ty.Contents (Elt Ideal)} {m : Memref sig κ sp ⟨2, ![2176, 256]⟩ .bf16} {h : m.IsWhole}
    {x : Vec Ideal ⟨2, ![2176, 256]⟩ .bf16} (hx : Is2 (φ := .bf16) x (win d.K 0 (256 * w))) {i1 inb h1 h2 h3 h4 h5} :
    On (Val := Elt Ideal) v (v.writes (Elt Ideal) f [⟨Rect.unit (s := ⟨2, ![256, 2176]⟩) ![0, 0] ![256, 2176] i1,
      shapeCast ⟨2, ![256, 2176]⟩ (truncf (F := Ideal) .bf16 (transpose ⟨2, ![256, 2176]⟩ [1, 0] (extf (F := Ideal) (φ := .bf16) .f32 (shapeCast ⟨2, ![2176, 256]⟩
        (m.view.readAt (Elt Ideal) (Rect.unit (s := ⟨2, ![2176, 256]⟩) ![0, 0] ![2176, 256] inb).toLoadRect (h.unread x)) h1) h2) h3) h4) h5⟩])
      (arr2 fun l k => d.K k (256 * w + l)) fun _ => True :=
  fillAll ((Is2.castSame h5 (Is2.trunc h4 (Is2.tr h3 (Is2.ext h2 (Is2.castSame h1 (Is2.load16 hx)))))).congr fun l _ k _ => by
    simp only [win, zero_add, add_zero])

end Cert.Reals

end
-- ==== Proof.CaseA.lean ====
/- The first block of the queries of all: the scratch is laid out anew, and the block sees the first 256 keys at most. -/
module

public import proofs.«01_k».proof.Proof.Heads
public import proofs.«01_k».proof.Proof.Query
public import proofs.«01_k».proof.Proof.Fill
public import proofs.«01_k».proof.Proof.State
public import proofs.«01_k».proof.Proof.Start

@[expose] public section

noncomputable section

namespace Cert.Cases

open Idealize.ShloMosaic Idealize.SL Cert.KernelIdeal Cert.KernelIdeal.Gen Cert.Reals Cert.Model

-- what the words of the run stand for is met by unfolding the words, not the operations
seal concatenate truncf mulf transpose multiReduction shapeCast broadcastTo addf subf extractStridedSlice

variable {d : Data} {c : Dev nD} {i : grid0.Coords} {arg2 : Memref sig .tc .vmem S128x256 .bf16} {harg2 : arg2.IsWhole} {arg3 : Memref sig .tc .vmem S2176x256 .bf16} {harg3 : arg3.IsWhole} {arg4 : Memref sig .tc .vmem S2176x256 .bf16} {harg4 : arg4.IsWhole} {arg5 : Memref sig .tc .vmem S2176x128 .f32} {harg5 : arg5.IsWhole} {arg6 : Memref sig .tc .vmem S8x128 .f32} {harg6 : arg6.IsWhole} {arg7 : Memref sig .tc .vmem S1x4x128 .f32} {harg7 : arg7.IsWhole} {arg8 : Memref sig .tc .vmem S128x256 .f32} {harg8 : arg8.IsWhole} {arg9 : Memref sig .tc .vmem S128x256 .bf16} {harg9 : arg9.IsWhole} {arg10 : Memref sig .tc .vmem S2176x256 .bf16} {harg10 : arg10.IsWhole} {arg11 : Memref sig .tc .vmem S2176x256 .bf16} {harg11 : arg11.IsWhole} {arg12 : Memref sig .tc .vmem S2176x128 .f32} {harg12 : arg12.IsWhole} {arg13 : Memref sig .tc .vmem S2176x256 .f32} {harg13 : arg13.IsWhole} {arg14 : Memref sig .tc .vmem S2176x256 .f32} {harg14 : arg14.IsWhole} {arg15 : Memref sig .tc .vmem S4x2176x1 .f32} {harg15 : arg15.IsWhole} {arg16 : Memref sig .tc .vmem S4x2176x128 .f32} {harg16 : arg16.IsWhole} {arg17 : Memref sig .tc .vmem S256x2176 .bf16} {harg17 : arg17.IsWhole}
  {hc0 : cond0_0 i} {hc1 : cond0_1 i} {hc2 : cond0_2 i} {hc3 : ¬cond0_3 i} {hc4 : ¬cond0_4 i} {hc5 : ¬cond0_5 i} {hc6 : ¬cond0_6 i} {hc7 : ¬cond0_7 i} {hc8 : ¬cond0_8 i} {hc9 : ¬cond0_9 i} {hc10 : ¬cond0_10 i} {hc11 : ¬cond0_11 i}
  {x0 : Vec Ideal S128x256 .bf16} {x1 : Vec Ideal S2176x256 .bf16} {x2 : Vec Ideal S2176x256 .bf16} {x3 : Vec Ideal S2176x128 .f32} {x4 : Vec Ideal S8x128 .f32} {x5 : Vec Ideal S1x4x128 .f32} {x6 : Vec Ideal S128x256 .f32}

theorem dkA (H : Ins d (i 0).val (128 * (i 1).val) x0 x1 x2 x3 x4 x5 x6)
    (hi : (i 1).val = 0) :
    ∀ y, sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 hc7 hc8 hc9 hc10 hc11 x0 x1 x2 x3 x4 x5 x6 y = arr2 (d.dk (i 0).val (128 * (i 1).val + 128)) y := by
  have h2 : 128 * (i 1).val + 128 ≤ 256 := by omega
  have h3 : 256 ≤ 2176 := by omega
  have hw := blockStart (n := (i 1).val) (by omega)
  have hoff : ∀ o < 4, k0_off1 i (BitVec.ofNat 32 o) = ![4 * (i 0).val + o, 0] := fun o ho => k0_off1_eq i ⟨o, ho⟩
  have hz : ∀ k l, d.dk (i 0).val (128 * (i 1).val) k l = 0 := fun k l => by rw [hi]; rfl
  unfold sout0_A_0 kernelRun0_A
  dsimp only
  refine fun y => fill2 (F := d.dk (i 0).val (128 * (i 1).val)) (G := d.dk (i 0).val (128 * (i 1).val + 128)) (zeros2 ofBits_zero hz) (fun k l hk => d.dk_skip (by omega) l)
    (Is2.dkAdd rfl rfl rfl Is2.zeros (loadSecond (zeros2 ofBits_zero hz)) (One.ds ?_ (.inl ⟨rfl, rfl⟩)) (One.ds ?_ (.inr ⟨rfl, rfl⟩)) (rows (qBlock H.q rfl rfl)))
    (Is2.dkAdd rfl rfl rfl Is2.zeros (loadAll (zeros2 ofBits_zero hz)) (One.ds ?_ (.inl ⟨rfl, rfl⟩)) (One.ds ?_ (.inr ⟨rfl, rfl⟩)) (rows (qBlock H.q rfl rfl))) y trivial
  all_goals exact ⟨⟨cols (qBlock H.q rfl rfl), cols (oBlock H.o rfl rfl), rowLoad (hoff _ (by decide)) H.ct H.lse rfl, rfl, hw⟩,
    ⟨spanLoad H.k rfl rfl, spanLoad H.v rfl rfl, ckLoad (gatesHeld H.lt (loadWhole H.c)) rfl⟩, rfl, h2, h3⟩

theorem dvA (H : Ins d (i 0).val (128 * (i 1).val) x0 x1 x2 x3 x4 x5 x6)
    (hi : (i 1).val = 0) :
    ∀ y, sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 hc7 hc8 hc9 hc10 hc11 x0 x1 x2 x3 x4 x5 x6 y = arr2 (d.dv (i 0).val (128 * (i 1).val + 128)) y := by
  have h2 : 128 * (i 1).val + 128 ≤ 256 := by omega
  have h3 : 256 ≤ 2176 := by omega
  have h4 : 0 + 256 < 2 ^ 31 ∧ 128 * (i 1).val + 128 < 2 ^ 31 := by omega
  have hw := blockStart (n := (i 1).val) (by omega)
  have hoff : ∀ o < 4, k0_off1 i (BitVec.ofNat 32 o) = ![4 * (i 0).val + o, 0] := fun o ho => k0_off1_eq i ⟨o, ho⟩
  have hz : ∀ k l, d.dv (i 0).val (128 * (i 1).val) k l = 0 := fun k l => by rw [hi]; rfl
  unfold sout0_A_1 kernelRun0_A
  dsimp only
  refine fun y => fill2 (F := d.dv (i 0).val (128 * (i 1).val)) (G := d.dv (i 0).val (128 * (i 1).val + 128)) (zeros2 ofBits_zero hz) (fun k l hk => d.dv_skip (by omega) l) ?_ ?_ y trivial
  · refine Is2.dvAdd rfl rfl rfl Is2.zeros (loadSecond (zeros2 ofBits_zero hz)) (Is2.wtMasked (.inl ⟨rfl, rfl⟩) rfl rfl rfl hw h4 Is2.zeros (spanLoad H.k rfl rfl) (cols (qBlock H.q rfl rfl)) (ckLoad (gatesHeld H.lt (loadWhole H.c)) rfl) (rowLoad (hoff _ (by decide)) H.ct H.lse rfl)) (Is2.wtMasked (.inr ⟨rfl, rfl⟩) rfl rfl rfl hw h4 Is2.zeros (spanLoad H.k rfl rfl) (cols (qBlock H.q rfl rfl)) (ckLoad (gatesHeld H.lt (loadWhole H.c)) rfl) (rowLoad (hoff _ (by decide)) H.ct H.lse rfl)) (rows (oBlock H.o rfl rfl))
  · refine Is2.dvAdd rfl rfl rfl Is2.zeros (loadAll (zeros2 ofBits_zero hz)) (Is2.wtMasked (.inl ⟨rfl, rfl⟩) rfl rfl rfl hw h4 Is2.zeros (spanLoad H.k rfl rfl) (cols (qBlock H.q rfl rfl)) (ckLoad (gatesHeld H.lt (loadWhole H.c)) rfl) (rowLoad (hoff _ (by decide)) H.ct H.lse rfl)) (Is2.wtMasked (.inr ⟨rfl, rfl⟩) rfl rfl rfl hw h4 Is2.zeros (spanLoad H.k rfl rfl) (cols (qBlock H.q rfl rfl)) (ckLoad (gatesHeld H.lt (loadWhole H.c)) rfl) (rowLoad (hoff _ (by decide)) H.ct H.lse rfl)) (rows (oBlock H.o rfl rfl))

theorem dcA (H : Ins d (i 0).val (128 * (i 1).val) x0 x1 x2 x3 x4 x5 x6)
    (hi : (i 1).val = 0) :
    ∀ y, sout0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 hc7 hc8 hc9 hc10 hc11 x0 x1 x2 x3 x4 x5 x6 y = arr3 (fun e k _ => d.dc (i 0).val (128 * (i 1).val + 128) e k) y := by
  have h2 : 128 * (i 1).val + 128 ≤ 256 := by omega
  have h3 : 256 ≤ 2176 := by omega
  have hw := blockStart (n := (i 1).val) (by omega)
  have hoff : ∀ o < 4, k0_off1 i (BitVec.ofNat 32 o) = ![4 * (i 0).val + o, 0] := fun o ho => k0_off1_eq i ⟨o, ho⟩
  have hz : ∀ k l, d.dc (i 0).val (128 * (i 1).val) k l = 0 := fun k l => by rw [hi]; rfl
  unfold sout0_A_2 kernelRun0_A
  dsimp only
  refine fun y => fill4h (F := d.dc (i 0).val (128 * (i 1).val)) (G := d.dc (i 0).val (128 * (i 1).val + 128)) (zeros3 ofBits_zero hz) (fun e k hk => d.dc_skip (by omega) e)
    (Is3.dcAdd (g := 4 * (i 0).val + 2) rfl (From.load (e := 3) (From.next (From.next (From.next (From.all (zeros3 ofBits_zero hz)))))) (One.ds ?_ (.inr ⟨rfl, rfl⟩)))
    (Is3.dcAdd (g := 4 * (i 0).val + 2) rfl (From.load (e := 2) (From.next (From.next (From.all (zeros3 ofBits_zero hz))))) (One.ds ?_ (.inl ⟨rfl, rfl⟩)))
    (Is3.dcAdd (g := 4 * (i 0).val + 0) rfl (From.load (e := 1) (From.next (From.all (zeros3 ofBits_zero hz)))) (One.ds ?_ (.inr ⟨rfl, rfl⟩)))
    (Is3.dcAdd (g := 4 * (i 0).val + 0) rfl (From.load (e := 0) (From.all (zeros3 ofBits_zero hz))) (One.ds ?_ (.inl ⟨rfl, rfl⟩))) y trivial
  all_goals exact ⟨⟨cols (qBlock H.q rfl rfl), cols (oBlock H.o rfl rfl), rowLoad (hoff _ (by decide)) H.ct H.lse rfl, rfl, hw⟩,
    ⟨spanLoad H.k rfl rfl, spanLoad H.v rfl rfl, ckLoad (gatesHeld H.lt (loadWhole H.c)) rfl⟩, rfl, h2, h3⟩

theorem dqA (H : Ins d (i 0).val (128 * (i 1).val) x0 x1 x2 x3 x4 x5 x6)
    (hi : (i 1).val = 0) :
    ∀ y, out0_A_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 hc7 hc8 hc9 hc10 hc11 x0 x1 x2 x3 x4 x5 x6 y = arr2 (fun q l => d.dq (i 0).val (128 * (i 1).val + q) l) y := by
  have h2 : 128 * (i 1).val + 128 ≤ 256 := by omega
  have h3 : 256 ≤ 2176 := by omega
  have hw := blockStart (n := (i 1).val) (by omega)
  have hoff : ∀ o < 4, k0_off1 i (BitVec.ofNat 32 o) = ![4 * (i 0).val + o, 0] := fun o ho => k0_off1_eq i ⟨o, ho⟩
  unfold out0_A_7 kernelRun0_A
  dsimp only
  refine fun y => fillAll (G := fun q l => d.dq (i 0).val (128 * (i 1).val + q) l) (Is2.queries
    (Is2.keyPair1 ofBits_zero
      (Is2.keyTerm (ktLoad (keysLaid H.k) rfl rfl) (One.ds ?_ (.inl ⟨rfl, rfl⟩)) (One.ds ?_ (.inr ⟨rfl, rfl⟩))) h2 h3)
    (Is2.keyPair1 ofBits_zero
      (Is2.keyTerm (ktLoad (keysLaid H.k) rfl rfl) (One.ds ?_ (.inl ⟨rfl, rfl⟩)) (One.ds ?_ (.inr ⟨rfl, rfl⟩))) h2 h3)) y trivial
  all_goals exact ⟨⟨cols (qBlock H.q rfl rfl), cols (oBlock H.o rfl rfl), rowLoad (hoff _ (by decide)) H.ct H.lse rfl, rfl, hw⟩,
    ⟨spanLoad H.k rfl rfl, spanLoad H.v rfl rfl, ckLoad (gatesHeld H.lt (loadWhole H.c)) rfl⟩, rfl, h2, h3⟩

theorem ckA (H : Ins d (i 0).val (128 * (i 1).val) x0 x1 x2 x3 x4 x5 x6)
    (hi : (i 1).val = 0) :
    ∀ y, sout0_A_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 hc7 hc8 hc9 hc10 hc11 x0 x1 x2 x3 x4 x5 x6 y = arr3 (fun e k _ => d.CT (4 * (i 0).val + e) k) y := by
  unfold sout0_A_3 kernelRun0_A
  dsimp only
  exact fun y => gatesHeld H.lt (loadWhole H.c) y trivial

theorem ktA (H : Ins d (i 0).val (128 * (i 1).val) x0 x1 x2 x3 x4 x5 x6)
    (hi : (i 1).val = 0) :
    ∀ y, sout0_A_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 hc7 hc8 hc9 hc10 hc11 x0 x1 x2 x3 x4 x5 x6 y = arr2 (fun l k => d.K k (256 * (i 0).val + l)) y := by
  unfold sout0_A_4 kernelRun0_A
  dsimp only
  exact fun y => keysLaid H.k y trivial

theorem dcOutA (H : Ins d (i 0).val (128 * (i 1).val) x0 x1 x2 x3 x4 x5 x6)
    (hi : (i 1).val = 0) :
    ∀ y, out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 hc7 hc8 hc9 hc10 hc11 x0 x1 x2 x3 x4 x5 x6 y = arr2 (fun _ _ => 0) y := by
  unfold out0_A_10 kernelRun0_A
  dsimp only
  exact fun y => fillAllF (Is2.castSame _ (Is2.zero ofBits_zero)) y trivial

theorem pointA {m : (ℓ : Loc nD τ sig) → Buf (Elt Ideal) ℓ} {t : Fin cfg0.N} (hi : t.val = 0) (H : Windows m c t d) :
    Scratch d (grid0.coords t 0).val (128 * (grid0.coords t 1).val + 128) (now m c t) ∧
      Queries d (grid0.coords t 0).val (128 * (grid0.coords t 1).val) (now m c t) ∧ ∀ y, (now m c t).2.2.2.1 y = arr2 (fun _ _ => 0) y := by
  have hi' : (grid0.coords t 1).val = 0 := by rw [coord1]; omega
  rw [Scratch, Queries, now, outsAt0_A m c t (by omega) (by omega) (by omega) (by omega) (by omega) (by omega) (by omega) (by omega) (by omega) (by omega) (by omega) (by omega)]
  dsimp only
  exact ⟨⟨dkA H hi', dvA H hi', dcA H hi', ckA H hi', ktA H hi'⟩, dqA H hi', dcOutA H hi'⟩

end Cert.Cases

end
-- ==== Proof.CaseB.lean ====
/- Block 1 of the queries: the span of the first 256 keys is all it sees. -/
module

public import proofs.«01_k».proof.Proof.Heads
public import proofs.«01_k».proof.Proof.Query
public import proofs.«01_k».proof.Proof.Fill
public import proofs.«01_k».proof.Proof.State

@[expose] public section

noncomputable section

namespace Cert.Cases

open Idealize.ShloMosaic Idealize.SL Cert.KernelIdeal Cert.KernelIdeal.Gen Cert.Reals Cert.Model

-- what the words of the run stand for is met by unfolding the words, not the operations
seal concatenate truncf mulf transpose multiReduction shapeCast broadcastTo addf subf extractStridedSlice

variable {d : Data} {c : Dev nD} {i : grid0.Coords} {arg2 : Memref sig .tc .vmem S128x256 .bf16} {harg2 : arg2.IsWhole} {arg3 : Memref sig .tc .vmem S2176x256 .bf16} {harg3 : arg3.IsWhole} {arg4 : Memref sig .tc .vmem S2176x256 .bf16} {harg4 : arg4.IsWhole} {arg5 : Memref sig .tc .vmem S2176x128 .f32} {harg5 : arg5.IsWhole} {arg6 : Memref sig .tc .vmem S8x128 .f32} {harg6 : arg6.IsWhole} {arg7 : Memref sig .tc .vmem S1x4x128 .f32} {harg7 : arg7.IsWhole} {arg8 : Memref sig .tc .vmem S128x256 .f32} {harg8 : arg8.IsWhole} {arg9 : Memref sig .tc .vmem S128x256 .bf16} {harg9 : arg9.IsWhole} {arg10 : Memref sig .tc .vmem S2176x256 .bf16} {harg10 : arg10.IsWhole} {arg11 : Memref sig .tc .vmem S2176x256 .bf16} {harg11 : arg11.IsWhole} {arg12 : Memref sig .tc .vmem S2176x128 .f32} {harg12 : arg12.IsWhole} {arg13 : Memref sig .tc .vmem S2176x256 .f32} {harg13 : arg13.IsWhole} {arg14 : Memref sig .tc .vmem S2176x256 .f32} {harg14 : arg14.IsWhole} {arg15 : Memref sig .tc .vmem S4x2176x1 .f32} {harg15 : arg15.IsWhole} {arg16 : Memref sig .tc .vmem S4x2176x128 .f32} {harg16 : arg16.IsWhole} {arg17 : Memref sig .tc .vmem S256x2176 .bf16} {harg17 : arg17.IsWhole}
  {hc0 : ¬cond0_0 i} {hc1 : ¬cond0_1 i} {hc2 : cond0_2 i} {hc3 : ¬cond0_3 i} {hc4 : ¬cond0_4 i} {hc5 : ¬cond0_5 i} {hc6 : ¬cond0_6 i} {hc7 : ¬cond0_7 i} {hc8 : ¬cond0_8 i} {hc9 : ¬cond0_9 i} {hc10 : ¬cond0_10 i} {hc11 : ¬cond0_11 i}
  {x0 : Vec Ideal S128x256 .bf16} {x1 : Vec Ideal S2176x256 .bf16} {x2 : Vec Ideal S2176x256 .bf16} {x3 : Vec Ideal S2176x128 .f32} {x4 : Vec Ideal S8x128 .f32} {x5 : Vec Ideal S1x4x128 .f32} {x6 : Vec Ideal S128x256 .f32} {xs0 : Vec Ideal S2176x256 .f32} {xs1 : Vec Ideal S2176x256 .f32} {xs2 : Vec Ideal S4x2176x1 .f32} {xs3 : Vec Ideal S4x2176x128 .f32} {xs4 : Vec Ideal S256x2176 .bf16}

theorem dkB (H : Ins d (i 0).val (128 * (i 1).val) x0 x1 x2 x3 x4 x5 x6) (S : Scr d (i 0).val (128 * (i 1).val) xs0 xs1 xs2 xs3 xs4)
    (hi : (i 1).val = 1) :
    ∀ y, sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 hc7 hc8 hc9 hc10 hc11 x0 x1 x2 x3 x4 x5 x6 xs0 xs1 xs2 xs3 xs4 y = arr2 (d.dk (i 0).val (128 * (i 1).val + 128)) y := by
  have h2 : 128 * (i 1).val + 128 ≤ 256 := by omega
  have h3 : 256 ≤ 2176 := by omega
  have hw := blockStart (n := (i 1).val) (by omega)
  have hoff : ∀ o < 4, k0_off1 i (BitVec.ofNat 32 o) = ![4 * (i 0).val + o, 0] := fun o ho => k0_off1_eq i ⟨o, ho⟩
  unfold sout0_B_0 kernelRun0_B
  dsimp only
  refine fun y => fill2 (G := d.dk (i 0).val (128 * (i 1).val + 128)) (On.unread harg13 S.dk) (fun k l hk => d.dk_skip (by omega) l)
    (Is2.dkAdd rfl rfl rfl Is2.zeros (loadAll (On.unread harg13 S.dk)) (One.ds ?_ (.inl ⟨rfl, rfl⟩)) (One.ds ?_ (.inr ⟨rfl, rfl⟩)) (rows (qBlock H.q rfl rfl)))
    (Is2.dkAdd rfl rfl rfl Is2.zeros (loadAll (On.unread harg13 S.dk)) (One.ds ?_ (.inl ⟨rfl, rfl⟩)) (One.ds ?_ (.inr ⟨rfl, rfl⟩)) (rows (qBlock H.q rfl rfl))) y trivial
  all_goals exact ⟨⟨cols (qBlock H.q rfl rfl), cols (oBlock H.o rfl rfl), rowLoad (hoff _ (by decide)) H.ct H.lse rfl, rfl, hw⟩,
    ⟨spanLoad H.k rfl rfl, spanLoad H.v rfl rfl, ckLoad (On.unread harg16 S.ck) rfl⟩, rfl, h2, h3⟩

theorem dvB (H : Ins d (i 0).val (128 * (i 1).val) x0 x1 x2 x3 x4 x5 x6) (S : Scr d (i 0).val (128 * (i 1).val) xs0 xs1 xs2 xs3 xs4)
    (hi : (i 1).val = 1) :
    ∀ y, sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 hc7 hc8 hc9 hc10 hc11 x0 x1 x2 x3 x4 x5 x6 xs0 xs1 xs2 xs3 xs4 y = arr2 (d.dv (i 0).val (128 * (i 1).val + 128)) y := by
  have h2 : 128 * (i 1).val + 128 ≤ 256 := by omega
  have h3 : 256 ≤ 2176 := by omega
  have h4 : 0 + 256 < 2 ^ 31 ∧ 128 * (i 1).val + 128 < 2 ^ 31 := by omega
  have hw := blockStart (n := (i 1).val) (by omega)
  have hoff : ∀ o < 4, k0_off1 i (BitVec.ofNat 32 o) = ![4 * (i 0).val + o, 0] := fun o ho => k0_off1_eq i ⟨o, ho⟩
  unfold sout0_B_1 kernelRun0_B
  dsimp only
  refine fun y => fill2 (G := d.dv (i 0).val (128 * (i 1).val + 128)) (On.unread harg14 S.dv) (fun k l hk => d.dv_skip (by omega) l) ?_ ?_ y trivial
  · refine Is2.dvAdd rfl rfl rfl Is2.zeros (loadAll (On.unread harg14 S.dv)) (Is2.wtMasked (.inl ⟨rfl, rfl⟩) rfl rfl rfl hw h4 Is2.zeros (spanLoad H.k rfl rfl) (cols (qBlock H.q rfl rfl)) (ckLoad (On.unread harg16 S.ck) rfl) (rowLoad (hoff _ (by decide)) H.ct H.lse rfl)) (Is2.wtMasked (.inr ⟨rfl, rfl⟩) rfl rfl rfl hw h4 Is2.zeros (spanLoad H.k rfl rfl) (cols (qBlock H.q rfl rfl)) (ckLoad (On.unread harg16 S.ck) rfl) (rowLoad (hoff _ (by decide)) H.ct H.lse rfl)) (rows (oBlock H.o rfl rfl))
  · refine Is2.dvAdd rfl rfl rfl Is2.zeros (loadAll (On.unread harg14 S.dv)) (Is2.wtMasked (.inl ⟨rfl, rfl⟩) rfl rfl rfl hw h4 Is2.zeros (spanLoad H.k rfl rfl) (cols (qBlock H.q rfl rfl)) (ckLoad (On.unread harg16 S.ck) rfl) (rowLoad (hoff _ (by decide)) H.ct H.lse rfl)) (Is2.wtMasked (.inr ⟨rfl, rfl⟩) rfl rfl rfl hw h4 Is2.zeros (spanLoad H.k rfl rfl) (cols (qBlock H.q rfl rfl)) (ckLoad (On.unread harg16 S.ck) rfl) (rowLoad (hoff _ (by decide)) H.ct H.lse rfl)) (rows (oBlock H.o rfl rfl))

theorem dcB (H : Ins d (i 0).val (128 * (i 1).val) x0 x1 x2 x3 x4 x5 x6) (S : Scr d (i 0).val (128 * (i 1).val) xs0 xs1 xs2 xs3 xs4)
    (hi : (i 1).val = 1) :
    ∀ y, sout0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 hc7 hc8 hc9 hc10 hc11 x0 x1 x2 x3 x4 x5 x6 xs0 xs1 xs2 xs3 xs4 y = arr3 (fun e k _ => d.dc (i 0).val (128 * (i 1).val + 128) e k) y := by
  have h2 : 128 * (i 1).val + 128 ≤ 256 := by omega
  have h3 : 256 ≤ 2176 := by omega
  have hw := blockStart (n := (i 1).val) (by omega)
  have hoff : ∀ o < 4, k0_off1 i (BitVec.ofNat 32 o) = ![4 * (i 0).val + o, 0] := fun o ho => k0_off1_eq i ⟨o, ho⟩
  unfold sout0_B_2 kernelRun0_B
  dsimp only
  refine fun y => fill4h (G := d.dc (i 0).val (128 * (i 1).val + 128)) (On.unread harg15 S.dc) (fun e k hk => d.dc_skip (by omega) e)
    (Is3.dcAdd (g := 4 * (i 0).val + 2) rfl (loadAll3 (On.unread harg15 S.dc)) (One.ds ?_ (.inr ⟨rfl, rfl⟩)))
    (Is3.dcAdd (g := 4 * (i 0).val + 2) rfl (loadAll3 (On.unread harg15 S.dc)) (One.ds ?_ (.inl ⟨rfl, rfl⟩)))
    (Is3.dcAdd (g := 4 * (i 0).val + 0) rfl (loadAll3 (On.unread harg15 S.dc)) (One.ds ?_ (.inr ⟨rfl, rfl⟩)))
    (Is3.dcAdd (g := 4 * (i 0).val + 0) rfl (loadAll3 (On.unread harg15 S.dc)) (One.ds ?_ (.inl ⟨rfl, rfl⟩))) y trivial
  all_goals exact ⟨⟨cols (qBlock H.q rfl rfl), cols (oBlock H.o rfl rfl), rowLoad (hoff _ (by decide)) H.ct H.lse rfl, rfl, hw⟩,
    ⟨spanLoad H.k rfl rfl, spanLoad H.v rfl rfl, ckLoad (On.unread harg16 S.ck) rfl⟩, rfl, h2, h3⟩

theorem dqB (H : Ins d (i 0).val (128 * (i 1).val) x0 x1 x2 x3 x4 x5 x6) (S : Scr d (i 0).val (128 * (i 1).val) xs0 xs1 xs2 xs3 xs4)
    (hi : (i 1).val = 1) :
    ∀ y, out0_B_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 hc7 hc8 hc9 hc10 hc11 x0 x1 x2 x3 x4 x5 x6 xs0 xs1 xs2 xs3 xs4 y = arr2 (fun q l => d.dq (i 0).val (128 * (i 1).val + q) l) y := by
  have h2 : 128 * (i 1).val + 128 ≤ 256 := by omega
  have h3 : 256 ≤ 2176 := by omega
  have hw := blockStart (n := (i 1).val) (by omega)
  have hoff : ∀ o < 4, k0_off1 i (BitVec.ofNat 32 o) = ![4 * (i 0).val + o, 0] := fun o ho => k0_off1_eq i ⟨o, ho⟩
  unfold out0_B_7 kernelRun0_B
  dsimp only
  refine fun y => fillAll (G := fun q l => d.dq (i 0).val (128 * (i 1).val + q) l) (Is2.queries
    (Is2.keyPair1 ofBits_zero
      (Is2.keyTerm (ktLoad (On.unread harg17 S.kt) rfl rfl) (One.ds ?_ (.inl ⟨rfl, rfl⟩)) (One.ds ?_ (.inr ⟨rfl, rfl⟩))) h2 h3)
    (Is2.keyPair1 ofBits_zero
      (Is2.keyTerm (ktLoad (On.unread harg17 S.kt) rfl rfl) (One.ds ?_ (.inl ⟨rfl, rfl⟩)) (One.ds ?_ (.inr ⟨rfl, rfl⟩))) h2 h3)) y trivial
  all_goals exact ⟨⟨cols (qBlock H.q rfl rfl), cols (oBlock H.o rfl rfl), rowLoad (hoff _ (by decide)) H.ct H.lse rfl, rfl, hw⟩,
    ⟨spanLoad H.k rfl rfl, spanLoad H.v rfl rfl, ckLoad (On.unread harg16 S.ck) rfl⟩, rfl, h2, h3⟩

theorem pointB {m : (ℓ : Loc nD τ sig) → Buf (Elt Ideal) ℓ} {t : Fin cfg0.N} (hi : t.val % 17 = 1) (H : Windows m c t d)
    (S : Scratch d (grid0.coords t 0).val (128 * (grid0.coords t 1).val) (prior m c t)) :
    Scratch d (grid0.coords t 0).val (128 * (grid0.coords t 1).val + 128) (now m c t) ∧
      Queries d (grid0.coords t 0).val (128 * (grid0.coords t 1).val) (now m c t) ∧ (now m c t).2.2.2.1 = (prior m c t).2.2.2.1 := by
  have hi' := hi
  rw [← coord1] at hi'
  rw [Scratch, Queries, now, outsAt0_B m c t (by omega) (by omega) (by omega) (by omega) (by omega) (by omega) (by omega) (by omega) (by omega) (by omega) (by omega) (by omega)]
  dsimp only
  exact ⟨⟨dkB H S hi', dvB H S hi', dcB H S hi', S.ck, S.kt⟩, dqB H S hi', rfl⟩

end Cert.Cases

end
-- ==== Proof.CaseC.lean ====
/- Blocks 2 and 3 of the queries: a span of 256 keys before them and one of 256 around them. -/
module

public import proofs.«01_k».proof.Proof.Heads
public import proofs.«01_k».proof.Proof.Query
public import proofs.«01_k».proof.Proof.Fill
public import proofs.«01_k».proof.Proof.State

@[expose] public section

noncomputable section

namespace Cert.Cases

open Idealize.ShloMosaic Idealize.SL Cert.KernelIdeal Cert.KernelIdeal.Gen Cert.Reals Cert.Model

-- what the words of the run stand for is met by unfolding the words, not the operations
seal concatenate truncf mulf transpose multiReduction shapeCast broadcastTo addf subf extractStridedSlice

variable {d : Data} {c : Dev nD} {i : grid0.Coords} {arg2 : Memref sig .tc .vmem S128x256 .bf16} {harg2 : arg2.IsWhole} {arg3 : Memref sig .tc .vmem S2176x256 .bf16} {harg3 : arg3.IsWhole} {arg4 : Memref sig .tc .vmem S2176x256 .bf16} {harg4 : arg4.IsWhole} {arg5 : Memref sig .tc .vmem S2176x128 .f32} {harg5 : arg5.IsWhole} {arg6 : Memref sig .tc .vmem S8x128 .f32} {harg6 : arg6.IsWhole} {arg7 : Memref sig .tc .vmem S1x4x128 .f32} {harg7 : arg7.IsWhole} {arg8 : Memref sig .tc .vmem S128x256 .f32} {harg8 : arg8.IsWhole} {arg9 : Memref sig .tc .vmem S128x256 .bf16} {harg9 : arg9.IsWhole} {arg10 : Memref sig .tc .vmem S2176x256 .bf16} {harg10 : arg10.IsWhole} {arg11 : Memref sig .tc .vmem S2176x256 .bf16} {harg11 : arg11.IsWhole} {arg12 : Memref sig .tc .vmem S2176x128 .f32} {harg12 : arg12.IsWhole} {arg13 : Memref sig .tc .vmem S2176x256 .f32} {harg13 : arg13.IsWhole} {arg14 : Memref sig .tc .vmem S2176x256 .f32} {harg14 : arg14.IsWhole} {arg15 : Memref sig .tc .vmem S4x2176x1 .f32} {harg15 : arg15.IsWhole} {arg16 : Memref sig .tc .vmem S4x2176x128 .f32} {harg16 : arg16.IsWhole} {arg17 : Memref sig .tc .vmem S256x2176 .bf16} {harg17 : arg17.IsWhole}
  {hc0 : ¬cond0_0 i} {hc1 : ¬cond0_1 i} {hc2 : ¬cond0_2 i} {hc3 : cond0_3 i} {hc4 : ¬cond0_4 i} {hc5 : ¬cond0_5 i} {hc6 : ¬cond0_6 i} {hc7 : ¬cond0_7 i} {hc8 : ¬cond0_8 i} {hc9 : ¬cond0_9 i} {hc10 : ¬cond0_10 i} {hc11 : ¬cond0_11 i}
  {x0 : Vec Ideal S128x256 .bf16} {x1 : Vec Ideal S2176x256 .bf16} {x2 : Vec Ideal S2176x256 .bf16} {x3 : Vec Ideal S2176x128 .f32} {x4 : Vec Ideal S8x128 .f32} {x5 : Vec Ideal S1x4x128 .f32} {x6 : Vec Ideal S128x256 .f32} {xs0 : Vec Ideal S2176x256 .f32} {xs1 : Vec Ideal S2176x256 .f32} {xs2 : Vec Ideal S4x2176x1 .f32} {xs3 : Vec Ideal S4x2176x128 .f32} {xs4 : Vec Ideal S256x2176 .bf16}

theorem dkC (H : Ins d (i 0).val (128 * (i 1).val) x0 x1 x2 x3 x4 x5 x6) (S : Scr d (i 0).val (128 * (i 1).val) xs0 xs1 xs2 xs3 xs4)
    (hi : 2 ≤ (i 1).val ∧ (i 1).val ≤ 3) :
    ∀ y, sout0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 hc7 hc8 hc9 hc10 hc11 x0 x1 x2 x3 x4 x5 x6 xs0 xs1 xs2 xs3 xs4 y = arr2 (d.dk (i 0).val (128 * (i 1).val + 128)) y := by
  have h1 : 256 ≤ 128 * (i 1).val := by omega
  have h2 : 128 * (i 1).val + 128 ≤ 256 + 256 := by omega
  have h3 : 256 + 256 ≤ 2176 := by omega
  have hw := blockStart (n := (i 1).val) (by omega)
  have hoff : ∀ o < 4, k0_off2 i (BitVec.ofNat 32 o) = ![4 * (i 0).val + o, 0] := fun o ho => k0_off2_eq i ⟨o, ho⟩
  unfold sout0_C_0 kernelRun0_C
  dsimp only
  refine fun y => fill4 (G := d.dk (i 0).val (128 * (i 1).val + 128)) (On.unread harg13 S.dk) (fun k l hk => d.dk_skip (by omega) l)
    (Is2.dkAdd rfl rfl rfl Is2.zeros (loadAll (On.unread harg13 S.dk)) (Two.ds' ?_ (.inl ⟨rfl, rfl⟩)) (Two.ds' ?_ (.inr ⟨rfl, rfl⟩)) (rows (qBlock H.q rfl rfl)))
    (Is2.dkAdd rfl rfl rfl Is2.zeros (loadAll (On.unread harg13 S.dk)) (Two.ds ?_ (.inl ⟨rfl, rfl⟩)) (Two.ds ?_ (.inr ⟨rfl, rfl⟩)) (rows (qBlock H.q rfl rfl)))
    (Is2.dkAdd rfl rfl rfl Is2.zeros (loadAll (On.unread harg13 S.dk)) (Two.ds' ?_ (.inl ⟨rfl, rfl⟩)) (Two.ds' ?_ (.inr ⟨rfl, rfl⟩)) (rows (qBlock H.q rfl rfl)))
    (Is2.dkAdd rfl rfl rfl Is2.zeros (loadAll (On.unread harg13 S.dk)) (Two.ds ?_ (.inl ⟨rfl, rfl⟩)) (Two.ds ?_ (.inr ⟨rfl, rfl⟩)) (rows (qBlock H.q rfl rfl))) y trivial
  all_goals exact ⟨⟨cols (qBlock H.q rfl rfl), cols (oBlock H.o rfl rfl), rowLoad (hoff _ (by decide)) H.ct H.lse rfl, rfl, hw⟩,
    ⟨spanLoad H.k rfl rfl, spanLoad H.v rfl rfl, ckLoad (On.unread harg16 S.ck) rfl⟩,
    ⟨spanLoad H.k rfl rfl, spanLoad H.v rfl rfl, ckLoad (On.unread harg16 S.ck) rfl⟩, rfl, h1, h2, h3⟩

theorem dvC (H : Ins d (i 0).val (128 * (i 1).val) x0 x1 x2 x3 x4 x5 x6) (S : Scr d (i 0).val (128 * (i 1).val) xs0 xs1 xs2 xs3 xs4)
    (hi : 2 ≤ (i 1).val ∧ (i 1).val ≤ 3) :
    ∀ y, sout0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 hc7 hc8 hc9 hc10 hc11 x0 x1 x2 x3 x4 x5 x6 xs0 xs1 xs2 xs3 xs4 y = arr2 (d.dv (i 0).val (128 * (i 1).val + 128)) y := by
  have h1 : 256 ≤ 128 * (i 1).val := by omega
  have h2 : 128 * (i 1).val + 128 ≤ 256 + 256 := by omega
  have h3 : 256 + 256 ≤ 2176 := by omega
  have h4 : 256 + 256 < 2 ^ 31 ∧ 128 * (i 1).val + 128 < 2 ^ 31 := by omega
  have hw := blockStart (n := (i 1).val) (by omega)
  have hoff : ∀ o < 4, k0_off2 i (BitVec.ofNat 32 o) = ![4 * (i 0).val + o, 0] := fun o ho => k0_off2_eq i ⟨o, ho⟩
  unfold sout0_C_1 kernelRun0_C
  dsimp only
  refine fun y => fill4 (G := d.dv (i 0).val (128 * (i 1).val + 128)) (On.unread harg14 S.dv) (fun k l hk => d.dv_skip (by omega) l) ?_ ?_ ?_ ?_ y trivial
  · refine Is2.dvAdd rfl rfl rfl Is2.zeros (loadAll (On.unread harg14 S.dv)) (Is2.wtMasked (.inl ⟨rfl, rfl⟩) rfl rfl rfl hw h4 Is2.zeros (spanLoad H.k rfl rfl) (cols (qBlock H.q rfl rfl)) (ckLoad (On.unread harg16 S.ck) rfl) (rowLoad (hoff _ (by decide)) H.ct H.lse rfl)) (Is2.wtMasked (.inr ⟨rfl, rfl⟩) rfl rfl rfl hw h4 Is2.zeros (spanLoad H.k rfl rfl) (cols (qBlock H.q rfl rfl)) (ckLoad (On.unread harg16 S.ck) rfl) (rowLoad (hoff _ (by decide)) H.ct H.lse rfl)) (rows (oBlock H.o rfl rfl))
  · refine Is2.dvAdd rfl rfl rfl Is2.zeros (loadAll (On.unread harg14 S.dv)) (Is2.wt (.inl ⟨rfl, rfl⟩) rfl Is2.zeros (spanLoad H.k rfl rfl) (cols (qBlock H.q rfl rfl)) (ckLoad (On.unread harg16 S.ck) rfl) (rowLoad (hoff _ (by decide)) H.ct H.lse rfl) h1) (Is2.wt (.inr ⟨rfl, rfl⟩) rfl Is2.zeros (spanLoad H.k rfl rfl) (cols (qBlock H.q rfl rfl)) (ckLoad (On.unread harg16 S.ck) rfl) (rowLoad (hoff _ (by decide)) H.ct H.lse rfl) h1) (rows (oBlock H.o rfl rfl))
  · refine Is2.dvAdd rfl rfl rfl Is2.zeros (loadAll (On.unread harg14 S.dv)) (Is2.wtMasked (.inl ⟨rfl, rfl⟩) rfl rfl rfl hw h4 Is2.zeros (spanLoad H.k rfl rfl) (cols (qBlock H.q rfl rfl)) (ckLoad (On.unread harg16 S.ck) rfl) (rowLoad (hoff _ (by decide)) H.ct H.lse rfl)) (Is2.wtMasked (.inr ⟨rfl, rfl⟩) rfl rfl rfl hw h4 Is2.zeros (spanLoad H.k rfl rfl) (cols (qBlock H.q rfl rfl)) (ckLoad (On.unread harg16 S.ck) rfl) (rowLoad (hoff _ (by decide)) H.ct H.lse rfl)) (rows (oBlock H.o rfl rfl))
  · refine Is2.dvAdd rfl rfl rfl Is2.zeros (loadAll (On.unread harg14 S.dv)) (Is2.wt (.inl ⟨rfl, rfl⟩) rfl Is2.zeros (spanLoad H.k rfl rfl) (cols (qBlock H.q rfl rfl)) (ckLoad (On.unread harg16 S.ck) rfl) (rowLoad (hoff _ (by decide)) H.ct H.lse rfl) h1) (Is2.wt (.inr ⟨rfl, rfl⟩) rfl Is2.zeros (spanLoad H.k rfl rfl) (cols (qBlock H.q rfl rfl)) (ckLoad (On.unread harg16 S.ck) rfl) (rowLoad (hoff _ (by decide)) H.ct H.lse rfl) h1) (rows (oBlock H.o rfl rfl))

theorem dcC (H : Ins d (i 0).val (128 * (i 1).val) x0 x1 x2 x3 x4 x5 x6) (S : Scr d (i 0).val (128 * (i 1).val) xs0 xs1 xs2 xs3 xs4)
    (hi : 2 ≤ (i 1).val ∧ (i 1).val ≤ 3) :
    ∀ y, sout0_C_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 hc7 hc8 hc9 hc10 hc11 x0 x1 x2 x3 x4 x5 x6 xs0 xs1 xs2 xs3 xs4 y = arr3 (fun e k _ => d.dc (i 0).val (128 * (i 1).val + 128) e k) y := by
  have h1 : 256 ≤ 128 * (i 1).val := by omega
  have h2 : 128 * (i 1).val + 128 ≤ 256 + 256 := by omega
  have h3 : 256 + 256 ≤ 2176 := by omega
  have hw := blockStart (n := (i 1).val) (by omega)
  have hoff : ∀ o < 4, k0_off2 i (BitVec.ofNat 32 o) = ![4 * (i 0).val + o, 0] := fun o ho => k0_off2_eq i ⟨o, ho⟩
  unfold sout0_C_2 kernelRun0_C
  dsimp only
  refine fun y => fill8h (G := d.dc (i 0).val (128 * (i 1).val + 128)) (On.unread harg15 S.dc) (fun e k hk => d.dc_skip (by omega) e)
    (Is3.dcAdd (g := 4 * (i 0).val + 2) rfl (loadAll3 (On.unread harg15 S.dc)) (Two.ds' ?_ (.inr ⟨rfl, rfl⟩)))
    (Is3.dcAdd (g := 4 * (i 0).val + 2) rfl (loadAll3 (On.unread harg15 S.dc)) (Two.ds' ?_ (.inl ⟨rfl, rfl⟩)))
    (Is3.dcAdd (g := 4 * (i 0).val + 2) rfl (loadAll3 (On.unread harg15 S.dc)) (Two.ds ?_ (.inr ⟨rfl, rfl⟩)))
    (Is3.dcAdd (g := 4 * (i 0).val + 2) rfl (loadAll3 (On.unread harg15 S.dc)) (Two.ds ?_ (.inl ⟨rfl, rfl⟩)))
    (Is3.dcAdd (g := 4 * (i 0).val + 0) rfl (loadAll3 (On.unread harg15 S.dc)) (Two.ds' ?_ (.inr ⟨rfl, rfl⟩)))
    (Is3.dcAdd (g := 4 * (i 0).val + 0) rfl (loadAll3 (On.unread harg15 S.dc)) (Two.ds' ?_ (.inl ⟨rfl, rfl⟩)))
    (Is3.dcAdd (g := 4 * (i 0).val + 0) rfl (loadAll3 (On.unread harg15 S.dc)) (Two.ds ?_ (.inr ⟨rfl, rfl⟩)))
    (Is3.dcAdd (g := 4 * (i 0).val + 0) rfl (loadAll3 (On.unread harg15 S.dc)) (Two.ds ?_ (.inl ⟨rfl, rfl⟩))) y trivial
  all_goals exact ⟨⟨cols (qBlock H.q rfl rfl), cols (oBlock H.o rfl rfl), rowLoad (hoff _ (by decide)) H.ct H.lse rfl, rfl, hw⟩,
    ⟨spanLoad H.k rfl rfl, spanLoad H.v rfl rfl, ckLoad (On.unread harg16 S.ck) rfl⟩,
    ⟨spanLoad H.k rfl rfl, spanLoad H.v rfl rfl, ckLoad (On.unread harg16 S.ck) rfl⟩, rfl, h1, h2, h3⟩

theorem dqC (H : Ins d (i 0).val (128 * (i 1).val) x0 x1 x2 x3 x4 x5 x6) (S : Scr d (i 0).val (128 * (i 1).val) xs0 xs1 xs2 xs3 xs4)
    (hi : 2 ≤ (i 1).val ∧ (i 1).val ≤ 3) :
    ∀ y, out0_C_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 hc7 hc8 hc9 hc10 hc11 x0 x1 x2 x3 x4 x5 x6 xs0 xs1 xs2 xs3 xs4 y = arr2 (fun q l => d.dq (i 0).val (128 * (i 1).val + q) l) y := by
  have h1 : 256 ≤ 128 * (i 1).val := by omega
  have h2 : 128 * (i 1).val + 128 ≤ 256 + 256 := by omega
  have h3 : 256 + 256 ≤ 2176 := by omega
  have hw := blockStart (n := (i 1).val) (by omega)
  have hoff : ∀ o < 4, k0_off2 i (BitVec.ofNat 32 o) = ![4 * (i 0).val + o, 0] := fun o ho => k0_off2_eq i ⟨o, ho⟩
  unfold out0_C_7 kernelRun0_C
  dsimp only
  refine fun y => fillAll (G := fun q l => d.dq (i 0).val (128 * (i 1).val + q) l) (Is2.queries
    (Is2.keyPair2 ofBits_zero
      (Is2.keyTerm (ktLoad (On.unread harg17 S.kt) rfl rfl) (Two.ds ?_ (.inl ⟨rfl, rfl⟩)) (Two.ds ?_ (.inr ⟨rfl, rfl⟩)))
      (Is2.keyTerm (ktLoad (On.unread harg17 S.kt) rfl rfl) (Two.ds' ?_ (.inl ⟨rfl, rfl⟩)) (Two.ds' ?_ (.inr ⟨rfl, rfl⟩))) h2 h3)
    (Is2.keyPair2 ofBits_zero
      (Is2.keyTerm (ktLoad (On.unread harg17 S.kt) rfl rfl) (Two.ds ?_ (.inl ⟨rfl, rfl⟩)) (Two.ds ?_ (.inr ⟨rfl, rfl⟩)))
      (Is2.keyTerm (ktLoad (On.unread harg17 S.kt) rfl rfl) (Two.ds' ?_ (.inl ⟨rfl, rfl⟩)) (Two.ds' ?_ (.inr ⟨rfl, rfl⟩))) h2 h3)) y trivial
  all_goals exact ⟨⟨cols (qBlock H.q rfl rfl), cols (oBlock H.o rfl rfl), rowLoad (hoff _ (by decide)) H.ct H.lse rfl, rfl, hw⟩,
    ⟨spanLoad H.k rfl rfl, spanLoad H.v rfl rfl, ckLoad (On.unread harg16 S.ck) rfl⟩,
    ⟨spanLoad H.k rfl rfl, spanLoad H.v rfl rfl, ckLoad (On.unread harg16 S.ck) rfl⟩, rfl, h1, h2, h3⟩

theorem pointC {m : (ℓ : Loc nD τ sig) → Buf (Elt Ideal) ℓ} {t : Fin cfg0.N} (hi : 2 ≤ t.val % 17 ∧ t.val % 17 ≤ 3) (H : Windows m c t d)
    (S : Scratch d (grid0.coords t 0).val (128 * (grid0.coords t 1).val) (prior m c t)) :
    Scratch d (grid0.coords t 0).val (128 * (grid0.coords t 1).val + 128) (now m c t) ∧
      Queries d (grid0.coords t 0).val (128 * (grid0.coords t 1).val) (now m c t) ∧ (now m c t).2.2.2.1 = (prior m c t).2.2.2.1 := by
  have hi' := hi
  rw [← coord1] at hi'
  rw [Scratch, Queries, now, outsAt0_C m c t (by omega) (by omega) (by omega) hi (by omega) (by omega) (by omega) (by omega) (by omega) (by omega) (by omega) (by omega)]
  dsimp only
  exact ⟨⟨dkC H S hi', dvC H S hi', dcC H S hi', S.ck, S.kt⟩, dqC H S hi', rfl⟩

end Cert.Cases

end
-- ==== Proof.CaseD.lean ====
/- Blocks 4 and 5 of the queries: a span of 512 keys before them and one of 256 around them. -/
module

public import proofs.«01_k».proof.Proof.Heads
public import proofs.«01_k».proof.Proof.Query
public import proofs.«01_k».proof.Proof.Fill
public import proofs.«01_k».proof.Proof.State

@[expose] public section

noncomputable section

namespace Cert.Cases

open Idealize.ShloMosaic Idealize.SL Cert.KernelIdeal Cert.KernelIdeal.Gen Cert.Reals Cert.Model

-- what the words of the run stand for is met by unfolding the words, not the operations
seal concatenate truncf mulf transpose multiReduction shapeCast broadcastTo addf subf extractStridedSlice

variable {d : Data} {c : Dev nD} {i : grid0.Coords} {arg2 : Memref sig .tc .vmem S128x256 .bf16} {harg2 : arg2.IsWhole} {arg3 : Memref sig .tc .vmem S2176x256 .bf16} {harg3 : arg3.IsWhole} {arg4 : Memref sig .tc .vmem S2176x256 .bf16} {harg4 : arg4.IsWhole} {arg5 : Memref sig .tc .vmem S2176x128 .f32} {harg5 : arg5.IsWhole} {arg6 : Memref sig .tc .vmem S8x128 .f32} {harg6 : arg6.IsWhole} {arg7 : Memref sig .tc .vmem S1x4x128 .f32} {harg7 : arg7.IsWhole} {arg8 : Memref sig .tc .vmem S128x256 .f32} {harg8 : arg8.IsWhole} {arg9 : Memref sig .tc .vmem S128x256 .bf16} {harg9 : arg9.IsWhole} {arg10 : Memref sig .tc .vmem S2176x256 .bf16} {harg10 : arg10.IsWhole} {arg11 : Memref sig .tc .vmem S2176x256 .bf16} {harg11 : arg11.IsWhole} {arg12 : Memref sig .tc .vmem S2176x128 .f32} {harg12 : arg12.IsWhole} {arg13 : Memref sig .tc .vmem S2176x256 .f32} {harg13 : arg13.IsWhole} {arg14 : Memref sig .tc .vmem S2176x256 .f32} {harg14 : arg14.IsWhole} {arg15 : Memref sig .tc .vmem S4x2176x1 .f32} {harg15 : arg15.IsWhole} {arg16 : Memref sig .tc .vmem S4x2176x128 .f32} {harg16 : arg16.IsWhole} {arg17 : Memref sig .tc .vmem S256x2176 .bf16} {harg17 : arg17.IsWhole}
  {hc0 : ¬cond0_0 i} {hc1 : ¬cond0_1 i} {hc2 : ¬cond0_2 i} {hc3 : ¬cond0_3 i} {hc4 : cond0_4 i} {hc5 : ¬cond0_5 i} {hc6 : ¬cond0_6 i} {hc7 : ¬cond0_7 i} {hc8 : ¬cond0_8 i} {hc9 : ¬cond0_9 i} {hc10 : ¬cond0_10 i} {hc11 : ¬cond0_11 i}
  {x0 : Vec Ideal S128x256 .bf16} {x1 : Vec Ideal S2176x256 .bf16} {x2 : Vec Ideal S2176x256 .bf16} {x3 : Vec Ideal S2176x128 .f32} {x4 : Vec Ideal S8x128 .f32} {x5 : Vec Ideal S1x4x128 .f32} {x6 : Vec Ideal S128x256 .f32} {xs0 : Vec Ideal S2176x256 .f32} {xs1 : Vec Ideal S2176x256 .f32} {xs2 : Vec Ideal S4x2176x1 .f32} {xs3 : Vec Ideal S4x2176x128 .f32} {xs4 : Vec Ideal S256x2176 .bf16}

theorem dkD (H : Ins d (i 0).val (128 * (i 1).val) x0 x1 x2 x3 x4 x5 x6) (S : Scr d (i 0).val (128 * (i 1).val) xs0 xs1 xs2 xs3 xs4)
    (hi : 4 ≤ (i 1).val ∧ (i 1).val ≤ 5) :
    ∀ y, sout0_D_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 hc7 hc8 hc9 hc10 hc11 x0 x1 x2 x3 x4 x5 x6 xs0 xs1 xs2 xs3 xs4 y = arr2 (d.dk (i 0).val (128 * (i 1).val + 128)) y := by
  have h1 : 512 ≤ 128 * (i 1).val := by omega
  have h2 : 128 * (i 1).val + 128 ≤ 512 + 256 := by omega
  have h3 : 512 + 256 ≤ 2176 := by omega
  have hw := blockStart (n := (i 1).val) (by omega)
  have hoff : ∀ o < 4, k0_off3 i (BitVec.ofNat 32 o) = ![4 * (i 0).val + o, 0] := fun o ho => k0_off3_eq i ⟨o, ho⟩
  unfold sout0_D_0 kernelRun0_D
  dsimp only
  refine fun y => fill4 (G := d.dk (i 0).val (128 * (i 1).val + 128)) (On.unread harg13 S.dk) (fun k l hk => d.dk_skip (by omega) l)
    (Is2.dkAdd rfl rfl rfl Is2.zeros (loadAll (On.unread harg13 S.dk)) (Two.ds' ?_ (.inl ⟨rfl, rfl⟩)) (Two.ds' ?_ (.inr ⟨rfl, rfl⟩)) (rows (qBlock H.q rfl rfl)))
    (Is2.dkAdd rfl rfl rfl Is2.zeros (loadAll (On.unread harg13 S.dk)) (Two.ds ?_ (.inl ⟨rfl, rfl⟩)) (Two.ds ?_ (.inr ⟨rfl, rfl⟩)) (rows (qBlock H.q rfl rfl)))
    (Is2.dkAdd rfl rfl rfl Is2.zeros (loadAll (On.unread harg13 S.dk)) (Two.ds' ?_ (.inl ⟨rfl, rfl⟩)) (Two.ds' ?_ (.inr ⟨rfl, rfl⟩)) (rows (qBlock H.q rfl rfl)))
    (Is2.dkAdd rfl rfl rfl Is2.zeros (loadAll (On.unread harg13 S.dk)) (Two.ds ?_ (.inl ⟨rfl, rfl⟩)) (Two.ds ?_ (.inr ⟨rfl, rfl⟩)) (rows (qBlock H.q rfl rfl))) y trivial
  all_goals exact ⟨⟨cols (qBlock H.q rfl rfl), cols (oBlock H.o rfl rfl), rowLoad (hoff _ (by decide)) H.ct H.lse rfl, rfl, hw⟩,
    ⟨spanLoad H.k rfl rfl, spanLoad H.v rfl rfl, ckLoad (On.unread harg16 S.ck) rfl⟩,
    ⟨spanLoad H.k rfl rfl, spanLoad H.v rfl rfl, ckLoad (On.unread harg16 S.ck) rfl⟩, rfl, h1, h2, h3⟩

theorem dvD (H : Ins d (i 0).val (128 * (i 1).val) x0 x1 x2 x3 x4 x5 x6) (S : Scr d (i 0).val (128 * (i 1).val) xs0 xs1 xs2 xs3 xs4)
    (hi : 4 ≤ (i 1).val ∧ (i 1).val ≤ 5) :
    ∀ y, sout0_D_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 hc7 hc8 hc9 hc10 hc11 x0 x1 x2 x3 x4 x5 x6 xs0 xs1 xs2 xs3 xs4 y = arr2 (d.dv (i 0).val (128 * (i 1).val + 128)) y := by
  have h1 : 512 ≤ 128 * (i 1).val := by omega
  have h2 : 128 * (i 1).val + 128 ≤ 512 + 256 := by omega
  have h3 : 512 + 256 ≤ 2176 := by omega
  have h4 : 512 + 256 < 2 ^ 31 ∧ 128 * (i 1).val + 128 < 2 ^ 31 := by omega
  have hw := blockStart (n := (i 1).val) (by omega)
  have hoff : ∀ o < 4, k0_off3 i (BitVec.ofNat 32 o) = ![4 * (i 0).val + o, 0] := fun o ho => k0_off3_eq i ⟨o, ho⟩
  unfold sout0_D_1 kernelRun0_D
  dsimp only
  refine fun y => fill4 (G := d.dv (i 0).val (128 * (i 1).val + 128)) (On.unread harg14 S.dv) (fun k l hk => d.dv_skip (by omega) l) ?_ ?_ ?_ ?_ y trivial
  · refine Is2.dvAdd rfl rfl rfl Is2.zeros (loadAll (On.unread harg14 S.dv)) (Is2.wtMasked (.inl ⟨rfl, rfl⟩) rfl rfl rfl hw h4 Is2.zeros (spanLoad H.k rfl rfl) (cols (qBlock H.q rfl rfl)) (ckLoad (On.unread harg16 S.ck) rfl) (rowLoad (hoff _ (by decide)) H.ct H.lse rfl)) (Is2.wtMasked (.inr ⟨rfl, rfl⟩) rfl rfl rfl hw h4 Is2.zeros (spanLoad H.k rfl rfl) (cols (qBlock H.q rfl rfl)) (ckLoad (On.unread harg16 S.ck) rfl) (rowLoad (hoff _ (by decide)) H.ct H.lse rfl)) (rows (oBlock H.o rfl rfl))
  · refine Is2.dvAdd rfl rfl rfl Is2.zeros (loadAll (On.unread harg14 S.dv)) (Is2.wt (.inl ⟨rfl, rfl⟩) rfl Is2.zeros (spanLoad H.k rfl rfl) (cols (qBlock H.q rfl rfl)) (ckLoad (On.unread harg16 S.ck) rfl) (rowLoad (hoff _ (by decide)) H.ct H.lse rfl) h1) (Is2.wt (.inr ⟨rfl, rfl⟩) rfl Is2.zeros (spanLoad H.k rfl rfl) (cols (qBlock H.q rfl rfl)) (ckLoad (On.unread harg16 S.ck) rfl) (rowLoad (hoff _ (by decide)) H.ct H.lse rfl) h1) (rows (oBlock H.o rfl rfl))
  · refine Is2.dvAdd rfl rfl rfl Is2.zeros (loadAll (On.unread harg14 S.dv)) (Is2.wtMasked (.inl ⟨rfl, rfl⟩) rfl rfl rfl hw h4 Is2.zeros (spanLoad H.k rfl rfl) (cols (qBlock H.q rfl rfl)) (ckLoad (On.unread harg16 S.ck) rfl) (rowLoad (hoff _ (by decide)) H.ct H.lse rfl)) (Is2.wtMasked (.inr ⟨rfl, rfl⟩) rfl rfl rfl hw h4 Is2.zeros (spanLoad H.k rfl rfl) (cols (qBlock H.q rfl rfl)) (ckLoad (On.unread harg16 S.ck) rfl) (rowLoad (hoff _ (by decide)) H.ct H.lse rfl)) (rows (oBlock H.o rfl rfl))
  · refine Is2.dvAdd rfl rfl rfl Is2.zeros (loadAll (On.unread harg14 S.dv)) (Is2.wt (.inl ⟨rfl, rfl⟩) rfl Is2.zeros (spanLoad H.k rfl rfl) (cols (qBlock H.q rfl rfl)) (ckLoad (On.unread harg16 S.ck) rfl) (rowLoad (hoff _ (by decide)) H.ct H.lse rfl) h1) (Is2.wt (.inr ⟨rfl, rfl⟩) rfl Is2.zeros (spanLoad H.k rfl rfl) (cols (qBlock H.q rfl rfl)) (ckLoad (On.unread harg16 S.ck) rfl) (rowLoad (hoff _ (by decide)) H.ct H.lse rfl) h1) (rows (oBlock H.o rfl rfl))

theorem dcD (H : Ins d (i 0).val (128 * (i 1).val) x0 x1 x2 x3 x4 x5 x6) (S : Scr d (i 0).val (128 * (i 1).val) xs0 xs1 xs2 xs3 xs4)
    (hi : 4 ≤ (i 1).val ∧ (i 1).val ≤ 5) :
    ∀ y, sout0_D_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 hc7 hc8 hc9 hc10 hc11 x0 x1 x2 x3 x4 x5 x6 xs0 xs1 xs2 xs3 xs4 y = arr3 (fun e k _ => d.dc (i 0).val (128 * (i 1).val + 128) e k) y := by
  have h1 : 512 ≤ 128 * (i 1).val := by omega
  have h2 : 128 * (i 1).val + 128 ≤ 512 + 256 := by omega
  have h3 : 512 + 256 ≤ 2176 := by omega
  have hw := blockStart (n := (i 1).val) (by omega)
  have hoff : ∀ o < 4, k0_off3 i (BitVec.ofNat 32 o) = ![4 * (i 0).val + o, 0] := fun o ho => k0_off3_eq i ⟨o, ho⟩
  unfold sout0_D_2 kernelRun0_D
  dsimp only
  refine fun y => fill8h (G := d.dc (i 0).val (128 * (i 1).val + 128)) (On.unread harg15 S.dc) (fun e k hk => d.dc_skip (by omega) e)
    (Is3.dcAdd (g := 4 * (i 0).val + 2) rfl (loadAll3 (On.unread harg15 S.dc)) (Two.ds' ?_ (.inr ⟨rfl, rfl⟩)))
    (Is3.dcAdd (g := 4 * (i 0).val + 2) rfl (loadAll3 (On.unread harg15 S.dc)) (Two.ds' ?_ (.inl ⟨rfl, rfl⟩)))
    (Is3.dcAdd (g := 4 * (i 0).val + 2) rfl (loadAll3 (On.unread harg15 S.dc)) (Two.ds ?_ (.inr ⟨rfl, rfl⟩)))
    (Is3.dcAdd (g := 4 * (i 0).val + 2) rfl (loadAll3 (On.unread harg15 S.dc)) (Two.ds ?_ (.inl ⟨rfl, rfl⟩)))
    (Is3.dcAdd (g := 4 * (i 0).val + 0) rfl (loadAll3 (On.unread harg15 S.dc)) (Two.ds' ?_ (.inr ⟨rfl, rfl⟩)))
    (Is3.dcAdd (g := 4 * (i 0).val + 0) rfl (loadAll3 (On.unread harg15 S.dc)) (Two.ds' ?_ (.inl ⟨rfl, rfl⟩)))
    (Is3.dcAdd (g := 4 * (i 0).val + 0) rfl (loadAll3 (On.unread harg15 S.dc)) (Two.ds ?_ (.inr ⟨rfl, rfl⟩)))
    (Is3.dcAdd (g := 4 * (i 0).val + 0) rfl (loadAll3 (On.unread harg15 S.dc)) (Two.ds ?_ (.inl ⟨rfl, rfl⟩))) y trivial
  all_goals exact ⟨⟨cols (qBlock H.q rfl rfl), cols (oBlock H.o rfl rfl), rowLoad (hoff _ (by decide)) H.ct H.lse rfl, rfl, hw⟩,
    ⟨spanLoad H.k rfl rfl, spanLoad H.v rfl rfl, ckLoad (On.unread harg16 S.ck) rfl⟩,
    ⟨spanLoad H.k rfl rfl, spanLoad H.v rfl rfl, ckLoad (On.unread harg16 S.ck) rfl⟩, rfl, h1, h2, h3⟩

theorem dqD (H : Ins d (i 0).val (128 * (i 1).val) x0 x1 x2 x3 x4 x5 x6) (S : Scr d (i 0).val (128 * (i 1).val) xs0 xs1 xs2 xs3 xs4)
    (hi : 4 ≤ (i 1).val ∧ (i 1).val ≤ 5) :
    ∀ y, out0_D_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 hc7 hc8 hc9 hc10 hc11 x0 x1 x2 x3 x4 x5 x6 xs0 xs1 xs2 xs3 xs4 y = arr2 (fun q l => d.dq (i 0).val (128 * (i 1).val + q) l) y := by
  have h1 : 512 ≤ 128 * (i 1).val := by omega
  have h2 : 128 * (i 1).val + 128 ≤ 512 + 256 := by omega
  have h3 : 512 + 256 ≤ 2176 := by omega
  have hw := blockStart (n := (i 1).val) (by omega)
  have hoff : ∀ o < 4, k0_off3 i (BitVec.ofNat 32 o) = ![4 * (i 0).val + o, 0] := fun o ho => k0_off3_eq i ⟨o, ho⟩
  unfold out0_D_7 kernelRun0_D
  dsimp only
  refine fun y => fillAll (G := fun q l => d.dq (i 0).val (128 * (i 1).val + q) l) (Is2.queries
    (Is2.keyPair2 ofBits_zero
      (Is2.keyTerm (ktLoad (On.unread harg17 S.kt) rfl rfl) (Two.ds ?_ (.inl ⟨rfl, rfl⟩)) (Two.ds ?_ (.inr ⟨rfl, rfl⟩)))
      (Is2.keyTerm (ktLoad (On.unread harg17 S.kt) rfl rfl) (Two.ds' ?_ (.inl ⟨rfl, rfl⟩)) (Two.ds' ?_ (.inr ⟨rfl, rfl⟩))) h2 h3)
    (Is2.keyPair2 ofBits_zero
      (Is2.keyTerm (ktLoad (On.unread harg17 S.kt) rfl rfl) (Two.ds ?_ (.inl ⟨rfl, rfl⟩)) (Two.ds ?_ (.inr ⟨rfl, rfl⟩)))
      (Is2.keyTerm (ktLoad (On.unread harg17 S.kt) rfl rfl) (Two.ds' ?_ (.inl ⟨rfl, rfl⟩)) (Two.ds' ?_ (.inr ⟨rfl, rfl⟩))) h2 h3)) y trivial
  all_goals exact ⟨⟨cols (qBlock H.q rfl rfl), cols (oBlock H.o rfl rfl), rowLoad (hoff _ (by decide)) H.ct H.lse rfl, rfl, hw⟩,
    ⟨spanLoad H.k rfl rfl, spanLoad H.v rfl rfl, ckLoad (On.unread harg16 S.ck) rfl⟩,
    ⟨spanLoad H.k rfl rfl, spanLoad H.v rfl rfl, ckLoad (On.unread harg16 S.ck) rfl⟩, rfl, h1, h2, h3⟩

theorem pointD {m : (ℓ : Loc nD τ sig) → Buf (Elt Ideal) ℓ} {t : Fin cfg0.N} (hi : 4 ≤ t.val % 17 ∧ t.val % 17 ≤ 5) (H : Windows m c t d)
    (S : Scratch d (grid0.coords t 0).val (128 * (grid0.coords t 1).val) (prior m c t)) :
    Scratch d (grid0.coords t 0).val (128 * (grid0.coords t 1).val + 128) (now m c t) ∧
      Queries d (grid0.coords t 0).val (128 * (grid0.coords t 1).val) (now m c t) ∧ (now m c t).2.2.2.1 = (prior m c t).2.2.2.1 := by
  have hi' := hi
  rw [← coord1] at hi'
  rw [Scratch, Queries, now, outsAt0_D m c t (by omega) (by omega) (by omega) (by omega) hi (by omega) (by omega) (by omega) (by omega) (by omega) (by omega) (by omega)]
  dsimp only
  exact ⟨⟨dkD H S hi', dvD H S hi', dcD H S hi', S.ck, S.kt⟩, dqD H S hi', rfl⟩

end Cert.Cases

end
-- ==== Proof.CaseE.lean ====
/- Blocks 6 and 7 of the queries: a span of 768 keys before them and one of 256 around them. -/
module

public import proofs.«01_k».proof.Proof.Heads
public import proofs.«01_k».proof.Proof.Query
public import proofs.«01_k».proof.Proof.Fill
public import proofs.«01_k».proof.Proof.State

@[expose] public section

noncomputable section

namespace Cert.Cases

open Idealize.ShloMosaic Idealize.SL Cert.KernelIdeal Cert.KernelIdeal.Gen Cert.Reals Cert.Model

-- what the words of the run stand for is met by unfolding the words, not the operations
seal concatenate truncf mulf transpose multiReduction shapeCast broadcastTo addf subf extractStridedSlice

variable {d : Data} {c : Dev nD} {i : grid0.Coords} {arg2 : Memref sig .tc .vmem S128x256 .bf16} {harg2 : arg2.IsWhole} {arg3 : Memref sig .tc .vmem S2176x256 .bf16} {harg3 : arg3.IsWhole} {arg4 : Memref sig .tc .vmem S2176x256 .bf16} {harg4 : arg4.IsWhole} {arg5 : Memref sig .tc .vmem S2176x128 .f32} {harg5 : arg5.IsWhole} {arg6 : Memref sig .tc .vmem S8x128 .f32} {harg6 : arg6.IsWhole} {arg7 : Memref sig .tc .vmem S1x4x128 .f32} {harg7 : arg7.IsWhole} {arg8 : Memref sig .tc .vmem S128x256 .f32} {harg8 : arg8.IsWhole} {arg9 : Memref sig .tc .vmem S128x256 .bf16} {harg9 : arg9.IsWhole} {arg10 : Memref sig .tc .vmem S2176x256 .bf16} {harg10 : arg10.IsWhole} {arg11 : Memref sig .tc .vmem S2176x256 .bf16} {harg11 : arg11.IsWhole} {arg12 : Memref sig .tc .vmem S2176x128 .f32} {harg12 : arg12.IsWhole} {arg13 : Memref sig .tc .vmem S2176x256 .f32} {harg13 : arg13.IsWhole} {arg14 : Memref sig .tc .vmem S2176x256 .f32} {harg14 : arg14.IsWhole} {arg15 : Memref sig .tc .vmem S4x2176x1 .f32} {harg15 : arg15.IsWhole} {arg16 : Memref sig .tc .vmem S4x2176x128 .f32} {harg16 : arg16.IsWhole} {arg17 : Memref sig .tc .vmem S256x2176 .bf16} {harg17 : arg17.IsWhole}
  {hc0 : ¬cond0_0 i} {hc1 : ¬cond0_1 i} {hc2 : ¬cond0_2 i} {hc3 : ¬cond0_3 i} {hc4 : ¬cond0_4 i} {hc5 : cond0_5 i} {hc6 : ¬cond0_6 i} {hc7 : ¬cond0_7 i} {hc8 : ¬cond0_8 i} {hc9 : ¬cond0_9 i} {hc10 : ¬cond0_10 i} {hc11 : ¬cond0_11 i}
  {x0 : Vec Ideal S128x256 .bf16} {x1 : Vec Ideal S2176x256 .bf16} {x2 : Vec Ideal S2176x256 .bf16} {x3 : Vec Ideal S2176x128 .f32} {x4 : Vec Ideal S8x128 .f32} {x5 : Vec Ideal S1x4x128 .f32} {x6 : Vec Ideal S128x256 .f32} {xs0 : Vec Ideal S2176x256 .f32} {xs1 : Vec Ideal S2176x256 .f32} {xs2 : Vec Ideal S4x2176x1 .f32} {xs3 : Vec Ideal S4x2176x128 .f32} {xs4 : Vec Ideal S256x2176 .bf16}

theorem dkE (H : Ins d (i 0).val (128 * (i 1).val) x0 x1 x2 x3 x4 x5 x6) (S : Scr d (i 0).val (128 * (i 1).val) xs0 xs1 xs2 xs3 xs4)
    (hi : 6 ≤ (i 1).val ∧ (i 1).val ≤ 7) :
    ∀ y, sout0_E_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 hc7 hc8 hc9 hc10 hc11 x0 x1 x2 x3 x4 x5 x6 xs0 xs1 xs2 xs3 xs4 y = arr2 (d.dk (i 0).val (128 * (i 1).val + 128)) y := by
  have h1 : 768 ≤ 128 * (i 1).val := by omega
  have h2 : 128 * (i 1).val + 128 ≤ 768 + 256 := by omega
  have h3 : 768 + 256 ≤ 2176 := by omega
  have hw := blockStart (n := (i 1).val) (by omega)
  have hoff : ∀ o < 4, k0_off4 i (BitVec.ofNat 32 o) = ![4 * (i 0).val + o, 0] := fun o ho => k0_off4_eq i ⟨o, ho⟩
  unfold sout0_E_0 kernelRun0_E
  dsimp only
  refine fun y => fill4 (G := d.dk (i 0).val (128 * (i 1).val + 128)) (On.unread harg13 S.dk) (fun k l hk => d.dk_skip (by omega) l)
    (Is2.dkAdd rfl rfl rfl Is2.zeros (loadAll (On.unread harg13 S.dk)) (Two.ds' ?_ (.inl ⟨rfl, rfl⟩)) (Two.ds' ?_ (.inr ⟨rfl, rfl⟩)) (rows (qBlock H.q rfl rfl)))
    (Is2.dkAdd rfl rfl rfl Is2.zeros (loadAll (On.unread harg13 S.dk)) (Two.ds ?_ (.inl ⟨rfl, rfl⟩)) (Two.ds ?_ (.inr ⟨rfl, rfl⟩)) (rows (qBlock H.q rfl rfl)))
    (Is2.dkAdd rfl rfl rfl Is2.zeros (loadAll (On.unread harg13 S.dk)) (Two.ds' ?_ (.inl ⟨rfl, rfl⟩)) (Two.ds' ?_ (.inr ⟨rfl, rfl⟩)) (rows (qBlock H.q rfl rfl)))
    (Is2.dkAdd rfl rfl rfl Is2.zeros (loadAll (On.unread harg13 S.dk)) (Two.ds ?_ (.inl ⟨rfl, rfl⟩)) (Two.ds ?_ (.inr ⟨rfl, rfl⟩)) (rows (qBlock H.q rfl rfl))) y trivial
  all_goals exact ⟨⟨cols (qBlock H.q rfl rfl), cols (oBlock H.o rfl rfl), rowLoad (hoff _ (by decide)) H.ct H.lse rfl, rfl, hw⟩,
    ⟨spanLoad H.k rfl rfl, spanLoad H.v rfl rfl, ckLoad (On.unread harg16 S.ck) rfl⟩,
    ⟨spanLoad H.k rfl rfl, spanLoad H.v rfl rfl, ckLoad (On.unread harg16 S.ck) rfl⟩, rfl, h1, h2, h3⟩

theorem dvE (H : Ins d (i 0).val (128 * (i 1).val) x0 x1 x2 x3 x4 x5 x6) (S : Scr d (i 0).val (128 * (i 1).val) xs0 xs1 xs2 xs3 xs4)
    (hi : 6 ≤ (i 1).val ∧ (i 1).val ≤ 7) :
    ∀ y, sout0_E_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 hc7 hc8 hc9 hc10 hc11 x0 x1 x2 x3 x4 x5 x6 xs0 xs1 xs2 xs3 xs4 y = arr2 (d.dv (i 0).val (128 * (i 1).val + 128)) y := by
  have h1 : 768 ≤ 128 * (i 1).val := by omega
  have h2 : 128 * (i 1).val + 128 ≤ 768 + 256 := by omega
  have h3 : 768 + 256 ≤ 2176 := by omega
  have h4 : 768 + 256 < 2 ^ 31 ∧ 128 * (i 1).val + 128 < 2 ^ 31 := by omega
  have hw := blockStart (n := (i 1).val) (by omega)
  have hoff : ∀ o < 4, k0_off4 i (BitVec.ofNat 32 o) = ![4 * (i 0).val + o, 0] := fun o ho => k0_off4_eq i ⟨o, ho⟩
  unfold sout0_E_1 kernelRun0_E
  dsimp only
  refine fun y => fill4 (G := d.dv (i 0).val (128 * (i 1).val + 128)) (On.unread harg14 S.dv) (fun k l hk => d.dv_skip (by omega) l) ?_ ?_ ?_ ?_ y trivial
  · refine Is2.dvAdd rfl rfl rfl Is2.zeros (loadAll (On.unread harg14 S.dv)) (Is2.wtMasked (.inl ⟨rfl, rfl⟩) rfl rfl rfl hw h4 Is2.zeros (spanLoad H.k rfl rfl) (cols (qBlock H.q rfl rfl)) (ckLoad (On.unread harg16 S.ck) rfl) (rowLoad (hoff _ (by decide)) H.ct H.lse rfl)) (Is2.wtMasked (.inr ⟨rfl, rfl⟩) rfl rfl rfl hw h4 Is2.zeros (spanLoad H.k rfl rfl) (cols (qBlock H.q rfl rfl)) (ckLoad (On.unread harg16 S.ck) rfl) (rowLoad (hoff _ (by decide)) H.ct H.lse rfl)) (rows (oBlock H.o rfl rfl))
  · refine Is2.dvAdd rfl rfl rfl Is2.zeros (loadAll (On.unread harg14 S.dv)) (Is2.wt (.inl ⟨rfl, rfl⟩) rfl Is2.zeros (spanLoad H.k rfl rfl) (cols (qBlock H.q rfl rfl)) (ckLoad (On.unread harg16 S.ck) rfl) (rowLoad (hoff _ (by decide)) H.ct H.lse rfl) h1) (Is2.wt (.inr ⟨rfl, rfl⟩) rfl Is2.zeros (spanLoad H.k rfl rfl) (cols (qBlock H.q rfl rfl)) (ckLoad (On.unread harg16 S.ck) rfl) (rowLoad (hoff _ (by decide)) H.ct H.lse rfl) h1) (rows (oBlock H.o rfl rfl))
  · refine Is2.dvAdd rfl rfl rfl Is2.zeros (loadAll (On.unread harg14 S.dv)) (Is2.wtMasked (.inl ⟨rfl, rfl⟩) rfl rfl rfl hw h4 Is2.zeros (spanLoad H.k rfl rfl) (cols (qBlock H.q rfl rfl)) (ckLoad (On.unread harg16 S.ck) rfl) (rowLoad (hoff _ (by decide)) H.ct H.lse rfl)) (Is2.wtMasked (.inr ⟨rfl, rfl⟩) rfl rfl rfl hw h4 Is2.zeros (spanLoad H.k rfl rfl) (cols (qBlock H.q rfl rfl)) (ckLoad (On.unread harg16 S.ck) rfl) (rowLoad (hoff _ (by decide)) H.ct H.lse rfl)) (rows (oBlock H.o rfl rfl))
  · refine Is2.dvAdd rfl rfl rfl Is2.zeros (loadAll (On.unread harg14 S.dv)) (Is2.wt (.inl ⟨rfl, rfl⟩) rfl Is2.zeros (spanLoad H.k rfl rfl) (cols (qBlock H.q rfl rfl)) (ckLoad (On.unread harg16 S.ck) rfl) (rowLoad (hoff _ (by decide)) H.ct H.lse rfl) h1) (Is2.wt (.inr ⟨rfl, rfl⟩) rfl Is2.zeros (spanLoad H.k rfl rfl) (cols (qBlock H.q rfl rfl)) (ckLoad (On.unread harg16 S.ck) rfl) (rowLoad (hoff _ (by decide)) H.ct H.lse rfl) h1) (rows (oBlock H.o rfl rfl))

theorem dcE (H : Ins d (i 0).val (128 * (i 1).val) x0 x1 x2 x3 x4 x5 x6) (S : Scr d (i 0).val (128 * (i 1).val) xs0 xs1 xs2 xs3 xs4)
    (hi : 6 ≤ (i 1).val ∧ (i 1).val ≤ 7) :
    ∀ y, sout0_E_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 hc7 hc8 hc9 hc10 hc11 x0 x1 x2 x3 x4 x5 x6 xs0 xs1 xs2 xs3 xs4 y = arr3 (fun e k _ => d.dc (i 0).val (128 * (i 1).val + 128) e k) y := by
  have h1 : 768 ≤ 128 * (i 1).val := by omega
  have h2 : 128 * (i 1).val + 128 ≤ 768 + 256 := by omega
  have h3 : 768 + 256 ≤ 2176 := by omega
  have hw := blockStart (n := (i 1).val) (by omega)
  have hoff : ∀ o < 4, k0_off4 i (BitVec.ofNat 32 o) = ![4 * (i 0).val + o, 0] := fun o ho => k0_off4_eq i ⟨o, ho⟩
  unfold sout0_E_2 kernelRun0_E
  dsimp only
  refine fun y => fill8h (G := d.dc (i 0).val (128 * (i 1).val + 128)) (On.unread harg15 S.dc) (fun e k hk => d.dc_skip (by omega) e)
    (Is3.dcAdd (g := 4 * (i 0).val + 2) rfl (loadAll3 (On.unread harg15 S.dc)) (Two.ds' ?_ (.inr ⟨rfl, rfl⟩)))
    (Is3.dcAdd (g := 4 * (i 0).val + 2) rfl (loadAll3 (On.unread harg15 S.dc)) (Two.ds' ?_ (.inl ⟨rfl, rfl⟩)))
    (Is3.dcAdd (g := 4 * (i 0).val + 2) rfl (loadAll3 (On.unread harg15 S.dc)) (Two.ds ?_ (.inr ⟨rfl, rfl⟩)))
    (Is3.dcAdd (g := 4 * (i 0).val + 2) rfl (loadAll3 (On.unread harg15 S.dc)) (Two.ds ?_ (.inl ⟨rfl, rfl⟩)))
    (Is3.dcAdd (g := 4 * (i 0).val + 0) rfl (loadAll3 (On.unread harg15 S.dc)) (Two.ds' ?_ (.inr ⟨rfl, rfl⟩)))
    (Is3.dcAdd (g := 4 * (i 0).val + 0) rfl (loadAll3 (On.unread harg15 S.dc)) (Two.ds' ?_ (.inl ⟨rfl, rfl⟩)))
    (Is3.dcAdd (g := 4 * (i 0).val + 0) rfl (loadAll3 (On.unread harg15 S.dc)) (Two.ds ?_ (.inr ⟨rfl, rfl⟩)))
    (Is3.dcAdd (g := 4 * (i 0).val + 0) rfl (loadAll3 (On.unread harg15 S.dc)) (Two.ds ?_ (.inl ⟨rfl, rfl⟩))) y trivial
  all_goals exact ⟨⟨cols (qBlock H.q rfl rfl), cols (oBlock H.o rfl rfl), rowLoad (hoff _ (by decide)) H.ct H.lse rfl, rfl, hw⟩,
    ⟨spanLoad H.k rfl rfl, spanLoad H.v rfl rfl, ckLoad (On.unread harg16 S.ck) rfl⟩,
    ⟨spanLoad H.k rfl rfl, spanLoad H.v rfl rfl, ckLoad (On.unread harg16 S.ck) rfl⟩, rfl, h1, h2, h3⟩

theorem dqE (H : Ins d (i 0).val (128 * (i 1).val) x0 x1 x2 x3 x4 x5 x6) (S : Scr d (i 0).val (128 * (i 1).val) xs0 xs1 xs2 xs3 xs4)
    (hi : 6 ≤ (i 1).val ∧ (i 1).val ≤ 7) :
    ∀ y, out0_E_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 hc7 hc8 hc9 hc10 hc11 x0 x1 x2 x3 x4 x5 x6 xs0 xs1 xs2 xs3 xs4 y = arr2 (fun q l => d.dq (i 0).val (128 * (i 1).val + q) l) y := by
  have h1 : 768 ≤ 128 * (i 1).val := by omega
  have h2 : 128 * (i 1).val + 128 ≤ 768 + 256 := by omega
  have h3 : 768 + 256 ≤ 2176 := by omega
  have hw := blockStart (n := (i 1).val) (by omega)
  have hoff : ∀ o < 4, k0_off4 i (BitVec.ofNat 32 o) = ![4 * (i 0).val + o, 0] := fun o ho => k0_off4_eq i ⟨o, ho⟩
  unfold out0_E_7 kernelRun0_E
  dsimp only
  refine fun y => fillAll (G := fun q l => d.dq (i 0).val (128 * (i 1).val + q) l) (Is2.queries
    (Is2.keyPair2 ofBits_zero
      (Is2.keyTerm (ktLoad (On.unread harg17 S.kt) rfl rfl) (Two.ds ?_ (.inl ⟨rfl, rfl⟩)) (Two.ds ?_ (.inr ⟨rfl, rfl⟩)))
      (Is2.keyTerm (ktLoad (On.unread harg17 S.kt) rfl rfl) (Two.ds' ?_ (.inl ⟨rfl, rfl⟩)) (Two.ds' ?_ (.inr ⟨rfl, rfl⟩))) h2 h3)
    (Is2.keyPair2 ofBits_zero
      (Is2.keyTerm (ktLoad (On.unread harg17 S.kt) rfl rfl) (Two.ds ?_ (.inl ⟨rfl, rfl⟩)) (Two.ds ?_ (.inr ⟨rfl, rfl⟩)))
      (Is2.keyTerm (ktLoad (On.unread harg17 S.kt) rfl rfl) (Two.ds' ?_ (.inl ⟨rfl, rfl⟩)) (Two.ds' ?_ (.inr ⟨rfl, rfl⟩))) h2 h3)) y trivial
  all_goals exact ⟨⟨cols (qBlock H.q rfl rfl), cols (oBlock H.o rfl rfl), rowLoad (hoff _ (by decide)) H.ct H.lse rfl, rfl, hw⟩,
    ⟨spanLoad H.k rfl rfl, spanLoad H.v rfl rfl, ckLoad (On.unread harg16 S.ck) rfl⟩,
    ⟨spanLoad H.k rfl rfl, spanLoad H.v rfl rfl, ckLoad (On.unread harg16 S.ck) rfl⟩, rfl, h1, h2, h3⟩

theorem pointE {m : (ℓ : Loc nD τ sig) → Buf (Elt Ideal) ℓ} {t : Fin cfg0.N} (hi : 6 ≤ t.val % 17 ∧ t.val % 17 ≤ 7) (H : Windows m c t d)
    (S : Scratch d (grid0.coords t 0).val (128 * (grid0.coords t 1).val) (prior m c t)) :
    Scratch d (grid0.coords t 0).val (128 * (grid0.coords t 1).val + 128) (now m c t) ∧
      Queries d (grid0.coords t 0).val (128 * (grid0.coords t 1).val) (now m c t) ∧ (now m c t).2.2.2.1 = (prior m c t).2.2.2.1 := by
  have hi' := hi
  rw [← coord1] at hi'
  rw [Scratch, Queries, now, outsAt0_E m c t (by omega) (by omega) (by omega) (by omega) (by omega) hi (by omega) (by omega) (by omega) (by omega) (by omega) (by omega)]
  dsimp only
  exact ⟨⟨dkE H S hi', dvE H S hi', dcE H S hi', S.ck, S.kt⟩, dqE H S hi', rfl⟩

end Cert.Cases

end
-- ==== Proof.CaseF.lean ====
/- Blocks 8 and 9 of the queries: a span of 1024 keys before them and one of 256 around them. -/
module

public import proofs.«01_k».proof.Proof.Heads
public import proofs.«01_k».proof.Proof.Query
public import proofs.«01_k».proof.Proof.Fill
public import proofs.«01_k».proof.Proof.State

@[expose] public section

noncomputable section

namespace Cert.Cases

open Idealize.ShloMosaic Idealize.SL Cert.KernelIdeal Cert.KernelIdeal.Gen Cert.Reals Cert.Model

-- what the words of the run stand for is met by unfolding the words, not the operations
seal concatenate truncf mulf transpose multiReduction shapeCast broadcastTo addf subf extractStridedSlice

variable {d : Data} {c : Dev nD} {i : grid0.Coords} {arg2 : Memref sig .tc .vmem S128x256 .bf16} {harg2 : arg2.IsWhole} {arg3 : Memref sig .tc .vmem S2176x256 .bf16} {harg3 : arg3.IsWhole} {arg4 : Memref sig .tc .vmem S2176x256 .bf16} {harg4 : arg4.IsWhole} {arg5 : Memref sig .tc .vmem S2176x128 .f32} {harg5 : arg5.IsWhole} {arg6 : Memref sig .tc .vmem S8x128 .f32} {harg6 : arg6.IsWhole} {arg7 : Memref sig .tc .vmem S1x4x128 .f32} {harg7 : arg7.IsWhole} {arg8 : Memref sig .tc .vmem S128x256 .f32} {harg8 : arg8.IsWhole} {arg9 : Memref sig .tc .vmem S128x256 .bf16} {harg9 : arg9.IsWhole} {arg10 : Memref sig .tc .vmem S2176x256 .bf16} {harg10 : arg10.IsWhole} {arg11 : Memref sig .tc .vmem S2176x256 .bf16} {harg11 : arg11.IsWhole} {arg12 : Memref sig .tc .vmem S2176x128 .f32} {harg12 : arg12.IsWhole} {arg13 : Memref sig .tc .vmem S2176x256 .f32} {harg13 : arg13.IsWhole} {arg14 : Memref sig .tc .vmem S2176x256 .f32} {harg14 : arg14.IsWhole} {arg15 : Memref sig .tc .vmem S4x2176x1 .f32} {harg15 : arg15.IsWhole} {arg16 : Memref sig .tc .vmem S4x2176x128 .f32} {harg16 : arg16.IsWhole} {arg17 : Memref sig .tc .vmem S256x2176 .bf16} {harg17 : arg17.IsWhole}
  {hc0 : ¬cond0_0 i} {hc1 : ¬cond0_1 i} {hc2 : ¬cond0_2 i} {hc3 : ¬cond0_3 i} {hc4 : ¬cond0_4 i} {hc5 : ¬cond0_5 i} {hc6 : cond0_6 i} {hc7 : ¬cond0_7 i} {hc8 : ¬cond0_8 i} {hc9 : ¬cond0_9 i} {hc10 : ¬cond0_10 i} {hc11 : ¬cond0_11 i}
  {x0 : Vec Ideal S128x256 .bf16} {x1 : Vec Ideal S2176x256 .bf16} {x2 : Vec Ideal S2176x256 .bf16} {x3 : Vec Ideal S2176x128 .f32} {x4 : Vec Ideal S8x128 .f32} {x5 : Vec Ideal S1x4x128 .f32} {x6 : Vec Ideal S128x256 .f32} {xs0 : Vec Ideal S2176x256 .f32} {xs1 : Vec Ideal S2176x256 .f32} {xs2 : Vec Ideal S4x2176x1 .f32} {xs3 : Vec Ideal S4x2176x128 .f32} {xs4 : Vec Ideal S256x2176 .bf16}

theorem dkF (H : Ins d (i 0).val (128 * (i 1).val) x0 x1 x2 x3 x4 x5 x6) (S : Scr d (i 0).val (128 * (i 1).val) xs0 xs1 xs2 xs3 xs4)
    (hi : 8 ≤ (i 1).val ∧ (i 1).val ≤ 9) :
    ∀ y, sout0_F_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 hc7 hc8 hc9 hc10 hc11 x0 x1 x2 x3 x4 x5 x6 xs0 xs1 xs2 xs3 xs4 y = arr2 (d.dk (i 0).val (128 * (i 1).val + 128)) y := by
  have h1 : 1024 ≤ 128 * (i 1).val := by omega
  have h2 : 128 * (i 1).val + 128 ≤ 1024 + 256 := by omega
  have h3 : 1024 + 256 ≤ 2176 := by omega
  have hw := blockStart (n := (i 1).val) (by omega)
  have hoff : ∀ o < 4, k0_off5 i (BitVec.ofNat 32 o) = ![4 * (i 0).val + o, 0] := fun o ho => k0_off5_eq i ⟨o, ho⟩
  unfold sout0_F_0 kernelRun0_F
  dsimp only
  refine fun y => fill4 (G := d.dk (i 0).val (128 * (i 1).val + 128)) (On.unread harg13 S.dk) (fun k l hk => d.dk_skip (by omega) l)
    (Is2.dkAdd rfl rfl rfl Is2.zeros (loadAll (On.unread harg13 S.dk)) (Two.ds' ?_ (.inl ⟨rfl, rfl⟩)) (Two.ds' ?_ (.inr ⟨rfl, rfl⟩)) (rows (qBlock H.q rfl rfl)))
    (Is2.dkAdd rfl rfl rfl Is2.zeros (loadAll (On.unread harg13 S.dk)) (Two.ds ?_ (.inl ⟨rfl, rfl⟩)) (Two.ds ?_ (.inr ⟨rfl, rfl⟩)) (rows (qBlock H.q rfl rfl)))
    (Is2.dkAdd rfl rfl rfl Is2.zeros (loadAll (On.unread harg13 S.dk)) (Two.ds' ?_ (.inl ⟨rfl, rfl⟩)) (Two.ds' ?_ (.inr ⟨rfl, rfl⟩)) (rows (qBlock H.q rfl rfl)))
    (Is2.dkAdd rfl rfl rfl Is2.zeros (loadAll (On.unread harg13 S.dk)) (Two.ds ?_ (.inl ⟨rfl, rfl⟩)) (Two.ds ?_ (.inr ⟨rfl, rfl⟩)) (rows (qBlock H.q rfl rfl))) y trivial
  all_goals exact ⟨⟨cols (qBlock H.q rfl rfl), cols (oBlock H.o rfl rfl), rowLoad (hoff _ (by decide)) H.ct H.lse rfl, rfl, hw⟩,
    ⟨spanLoad H.k rfl rfl, spanLoad H.v rfl rfl, ckLoad (On.unread harg16 S.ck) rfl⟩,
    ⟨spanLoad H.k rfl rfl, spanLoad H.v rfl rfl, ckLoad (On.unread harg16 S.ck) rfl⟩, rfl, h1, h2, h3⟩

theorem dvF (H : Ins d (i 0).val (128 * (i 1).val) x0 x1 x2 x3 x4 x5 x6) (S : Scr d (i 0).val (128 * (i 1).val) xs0 xs1 xs2 xs3 xs4)
    (hi : 8 ≤ (i 1).val ∧ (i 1).val ≤ 9) :
    ∀ y, sout0_F_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 hc7 hc8 hc9 hc10 hc11 x0 x1 x2 x3 x4 x5 x6 xs0 xs1 xs2 xs3 xs4 y = arr2 (d.dv (i 0).val (128 * (i 1).val + 128)) y := by
  have h1 : 1024 ≤ 128 * (i 1).val := by omega
  have h2 : 128 * (i 1).val + 128 ≤ 1024 + 256 := by omega
  have h3 : 1024 + 256 ≤ 2176 := by omega
  have h4 : 1024 + 256 < 2 ^ 31 ∧ 128 * (i 1).val + 128 < 2 ^ 31 := by omega
  have hw := blockStart (n := (i 1).val) (by omega)
  have hoff : ∀ o < 4, k0_off5 i (BitVec.ofNat 32 o) = ![4 * (i 0).val + o, 0] := fun o ho => k0_off5_eq i ⟨o, ho⟩
  unfold sout0_F_1 kernelRun0_F
  dsimp only
  refine fun y => fill4 (G := d.dv (i 0).val (128 * (i 1).val + 128)) (On.unread harg14 S.dv) (fun k l hk => d.dv_skip (by omega) l) ?_ ?_ ?_ ?_ y trivial
  · refine Is2.dvAdd rfl rfl rfl Is2.zeros (loadAll (On.unread harg14 S.dv)) (Is2.wtMasked (.inl ⟨rfl, rfl⟩) rfl rfl rfl hw h4 Is2.zeros (spanLoad H.k rfl rfl) (cols (qBlock H.q rfl rfl)) (ckLoad (On.unread harg16 S.ck) rfl) (rowLoad (hoff _ (by decide)) H.ct H.lse rfl)) (Is2.wtMasked (.inr ⟨rfl, rfl⟩) rfl rfl rfl hw h4 Is2.zeros (spanLoad H.k rfl rfl) (cols (qBlock H.q rfl rfl)) (ckLoad (On.unread harg16 S.ck) rfl) (rowLoad (hoff _ (by decide)) H.ct H.lse rfl)) (rows (oBlock H.o rfl rfl))
  · refine Is2.dvAdd rfl rfl rfl Is2.zeros (loadAll (On.unread harg14 S.dv)) (Is2.wt (.inl ⟨rfl, rfl⟩) rfl Is2.zeros (spanLoad H.k rfl rfl) (cols (qBlock H.q rfl rfl)) (ckLoad (On.unread harg16 S.ck) rfl) (rowLoad (hoff _ (by decide)) H.ct H.lse rfl) h1) (Is2.wt (.inr ⟨rfl, rfl⟩) rfl Is2.zeros (spanLoad H.k rfl rfl) (cols (qBlock H.q rfl rfl)) (ckLoad (On.unread harg16 S.ck) rfl) (rowLoad (hoff _ (by decide)) H.ct H.lse rfl) h1) (rows (oBlock H.o rfl rfl))
  · refine Is2.dvAdd rfl rfl rfl Is2.zeros (loadAll (On.unread harg14 S.dv)) (Is2.wtMasked (.inl ⟨rfl, rfl⟩) rfl rfl rfl hw h4 Is2.zeros (spanLoad H.k rfl rfl) (cols (qBlock H.q rfl rfl)) (ckLoad (On.unread harg16 S.ck) rfl) (rowLoad (hoff _ (by decide)) H.ct H.lse rfl)) (Is2.wtMasked (.inr ⟨rfl, rfl⟩) rfl rfl rfl hw h4 Is2.zeros (spanLoad H.k rfl rfl) (cols (qBlock H.q rfl rfl)) (ckLoad (On.unread harg16 S.ck) rfl) (rowLoad (hoff _ (by decide)) H.ct H.lse rfl)) (rows (oBlock H.o rfl rfl))
  · refine Is2.dvAdd rfl rfl rfl Is2.zeros (loadAll (On.unread harg14 S.dv)) (Is2.wt (.inl ⟨rfl, rfl⟩) rfl Is2.zeros (spanLoad H.k rfl rfl) (cols (qBlock H.q rfl rfl)) (ckLoad (On.unread harg16 S.ck) rfl) (rowLoad (hoff _ (by decide)) H.ct H.lse rfl) h1) (Is2.wt (.inr ⟨rfl, rfl⟩) rfl Is2.zeros (spanLoad H.k rfl rfl) (cols (qBlock H.q rfl rfl)) (ckLoad (On.unread harg16 S.ck) rfl) (rowLoad (hoff _ (by decide)) H.ct H.lse rfl) h1) (rows (oBlock H.o rfl rfl))

theorem dcF (H : Ins d (i 0).val (128 * (i 1).val) x0 x1 x2 x3 x4 x5 x6) (S : Scr d (i 0).val (128 * (i 1).val) xs0 xs1 xs2 xs3 xs4)
    (hi : 8 ≤ (i 1).val ∧ (i 1).val ≤ 9) :
    ∀ y, sout0_F_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 hc7 hc8 hc9 hc10 hc11 x0 x1 x2 x3 x4 x5 x6 xs0 xs1 xs2 xs3 xs4 y = arr3 (fun e k _ => d.dc (i 0).val (128 * (i 1).val + 128) e k) y := by
  have h1 : 1024 ≤ 128 * (i 1).val := by omega
  have h2 : 128 * (i 1).val + 128 ≤ 1024 + 256 := by omega
  have h3 : 1024 + 256 ≤ 2176 := by omega
  have hw := blockStart (n := (i 1).val) (by omega)
  have hoff : ∀ o < 4, k0_off5 i (BitVec.ofNat 32 o) = ![4 * (i 0).val + o, 0] := fun o ho => k0_off5_eq i ⟨o, ho⟩
  unfold sout0_F_2 kernelRun0_F
  dsimp only
  refine fun y => fill8h (G := d.dc (i 0).val (128 * (i 1).val + 128)) (On.unread harg15 S.dc) (fun e k hk => d.dc_skip (by omega) e)
    (Is3.dcAdd (g := 4 * (i 0).val + 2) rfl (loadAll3 (On.unread harg15 S.dc)) (Two.ds' ?_ (.inr ⟨rfl, rfl⟩)))
    (Is3.dcAdd (g := 4 * (i 0).val + 2) rfl (loadAll3 (On.unread harg15 S.dc)) (Two.ds' ?_ (.inl ⟨rfl, rfl⟩)))
    (Is3.dcAdd (g := 4 * (i 0).val + 2) rfl (loadAll3 (On.unread harg15 S.dc)) (Two.ds ?_ (.inr ⟨rfl, rfl⟩)))
    (Is3.dcAdd (g := 4 * (i 0).val + 2) rfl (loadAll3 (On.unread harg15 S.dc)) (Two.ds ?_ (.inl ⟨rfl, rfl⟩)))
    (Is3.dcAdd (g := 4 * (i 0).val + 0) rfl (loadAll3 (On.unread harg15 S.dc)) (Two.ds' ?_ (.inr ⟨rfl, rfl⟩)))
    (Is3.dcAdd (g := 4 * (i 0).val + 0) rfl (loadAll3 (On.unread harg15 S.dc)) (Two.ds' ?_ (.inl ⟨rfl, rfl⟩)))
    (Is3.dcAdd (g := 4 * (i 0).val + 0) rfl (loadAll3 (On.unread harg15 S.dc)) (Two.ds ?_ (.inr ⟨rfl, rfl⟩)))
    (Is3.dcAdd (g := 4 * (i 0).val + 0) rfl (loadAll3 (On.unread harg15 S.dc)) (Two.ds ?_ (.inl ⟨rfl, rfl⟩))) y trivial
  all_goals exact ⟨⟨cols (qBlock H.q rfl rfl), cols (oBlock H.o rfl rfl), rowLoad (hoff _ (by decide)) H.ct H.lse rfl, rfl, hw⟩,
    ⟨spanLoad H.k rfl rfl, spanLoad H.v rfl rfl, ckLoad (On.unread harg16 S.ck) rfl⟩,
    ⟨spanLoad H.k rfl rfl, spanLoad H.v rfl rfl, ckLoad (On.unread harg16 S.ck) rfl⟩, rfl, h1, h2, h3⟩

theorem dqF (H : Ins d (i 0).val (128 * (i 1).val) x0 x1 x2 x3 x4 x5 x6) (S : Scr d (i 0).val (128 * (i 1).val) xs0 xs1 xs2 xs3 xs4)
    (hi : 8 ≤ (i 1).val ∧ (i 1).val ≤ 9) :
    ∀ y, out0_F_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 hc7 hc8 hc9 hc10 hc11 x0 x1 x2 x3 x4 x5 x6 xs0 xs1 xs2 xs3 xs4 y = arr2 (fun q l => d.dq (i 0).val (128 * (i 1).val + q) l) y := by
  have h1 : 1024 ≤ 128 * (i 1).val := by omega
  have h2 : 128 * (i 1).val + 128 ≤ 1024 + 256 := by omega
  have h3 : 1024 + 256 ≤ 2176 := by omega
  have hw := blockStart (n := (i 1).val) (by omega)
  have hoff : ∀ o < 4, k0_off5 i (BitVec.ofNat 32 o) = ![4 * (i 0).val + o, 0] := fun o ho => k0_off5_eq i ⟨o, ho⟩
  unfold out0_F_7 kernelRun0_F
  dsimp only
  refine fun y => fillAll (G := fun q l => d.dq (i 0).val (128 * (i 1).val + q) l) (Is2.queries
    (Is2.keyPair2 ofBits_zero
      (Is2.keyTerm (ktLoad (On.unread harg17 S.kt) rfl rfl) (Two.ds ?_ (.inl ⟨rfl, rfl⟩)) (Two.ds ?_ (.inr ⟨rfl, rfl⟩)))
      (Is2.keyTerm (ktLoad (On.unread harg17 S.kt) rfl rfl) (Two.ds' ?_ (.inl ⟨rfl, rfl⟩)) (Two.ds' ?_ (.inr ⟨rfl, rfl⟩))) h2 h3)
    (Is2.keyPair2 ofBits_zero
      (Is2.keyTerm (ktLoad (On.unread harg17 S.kt) rfl rfl) (Two.ds ?_ (.inl ⟨rfl, rfl⟩)) (Two.ds ?_ (.inr ⟨rfl, rfl⟩)))
      (Is2.keyTerm (ktLoad (On.unread harg17 S.kt) rfl rfl) (Two.ds' ?_ (.inl ⟨rfl, rfl⟩)) (Two.ds' ?_ (.inr ⟨rfl, rfl⟩))) h2 h3)) y trivial
  all_goals exact ⟨⟨cols (qBlock H.q rfl rfl), cols (oBlock H.o rfl rfl), rowLoad (hoff _ (by decide)) H.ct H.lse rfl, rfl, hw⟩,
    ⟨spanLoad H.k rfl rfl, spanLoad H.v rfl rfl, ckLoad (On.unread harg16 S.ck) rfl⟩,
    ⟨spanLoad H.k rfl rfl, spanLoad H.v rfl rfl, ckLoad (On.unread harg16 S.ck) rfl⟩, rfl, h1, h2, h3⟩

theorem pointF {m : (ℓ : Loc nD τ sig) → Buf (Elt Ideal) ℓ} {t : Fin cfg0.N} (hi : 8 ≤ t.val % 17 ∧ t.val % 17 ≤ 9) (H : Windows m c t d)
    (S : Scratch d (grid0.coords t 0).val (128 * (grid0.coords t 1).val) (prior m c t)) :
    Scratch d (grid0.coords t 0).val (128 * (grid0.coords t 1).val + 128) (now m c t) ∧
      Queries d (grid0.coords t 0).val (128 * (grid0.coords t 1).val) (now m c t) ∧ (now m c t).2.2.2.1 = (prior m c t).2.2.2.1 := by
  have hi' := hi
  rw [← coord1] at hi'
  rw [Scratch, Queries, now, outsAt0_F m c t (by omega) (by omega) (by omega) (by omega) (by omega) (by omega) hi (by omega) (by omega) (by omega) (by omega) (by omega)]
  dsimp only
  exact ⟨⟨dkF H S hi', dvF H S hi', dcF H S hi', S.ck, S.kt⟩, dqF H S hi', rfl⟩

end Cert.Cases

end
-- ==== Proof.CaseG.lean ====
/- Blocks 10 and 11 of the queries: a span of 1280 keys before them and one of 256 around them. -/
module

public import proofs.«01_k».proof.Proof.Heads
public import proofs.«01_k».proof.Proof.Query
public import proofs.«01_k».proof.Proof.Fill
public import proofs.«01_k».proof.Proof.State

@[expose] public section

noncomputable section

namespace Cert.Cases

open Idealize.ShloMosaic Idealize.SL Cert.KernelIdeal Cert.KernelIdeal.Gen Cert.Reals Cert.Model

-- what the words of the run stand for is met by unfolding the words, not the operations
seal concatenate truncf mulf transpose multiReduction shapeCast broadcastTo addf subf extractStridedSlice

variable {d : Data} {c : Dev nD} {i : grid0.Coords} {arg2 : Memref sig .tc .vmem S128x256 .bf16} {harg2 : arg2.IsWhole} {arg3 : Memref sig .tc .vmem S2176x256 .bf16} {harg3 : arg3.IsWhole} {arg4 : Memref sig .tc .vmem S2176x256 .bf16} {harg4 : arg4.IsWhole} {arg5 : Memref sig .tc .vmem S2176x128 .f32} {harg5 : arg5.IsWhole} {arg6 : Memref sig .tc .vmem S8x128 .f32} {harg6 : arg6.IsWhole} {arg7 : Memref sig .tc .vmem S1x4x128 .f32} {harg7 : arg7.IsWhole} {arg8 : Memref sig .tc .vmem S128x256 .f32} {harg8 : arg8.IsWhole} {arg9 : Memref sig .tc .vmem S128x256 .bf16} {harg9 : arg9.IsWhole} {arg10 : Memref sig .tc .vmem S2176x256 .bf16} {harg10 : arg10.IsWhole} {arg11 : Memref sig .tc .vmem S2176x256 .bf16} {harg11 : arg11.IsWhole} {arg12 : Memref sig .tc .vmem S2176x128 .f32} {harg12 : arg12.IsWhole} {arg13 : Memref sig .tc .vmem S2176x256 .f32} {harg13 : arg13.IsWhole} {arg14 : Memref sig .tc .vmem S2176x256 .f32} {harg14 : arg14.IsWhole} {arg15 : Memref sig .tc .vmem S4x2176x1 .f32} {harg15 : arg15.IsWhole} {arg16 : Memref sig .tc .vmem S4x2176x128 .f32} {harg16 : arg16.IsWhole} {arg17 : Memref sig .tc .vmem S256x2176 .bf16} {harg17 : arg17.IsWhole}
  {hc0 : ¬cond0_0 i} {hc1 : ¬cond0_1 i} {hc2 : ¬cond0_2 i} {hc3 : ¬cond0_3 i} {hc4 : ¬cond0_4 i} {hc5 : ¬cond0_5 i} {hc6 : ¬cond0_6 i} {hc7 : cond0_7 i} {hc8 : ¬cond0_8 i} {hc9 : ¬cond0_9 i} {hc10 : ¬cond0_10 i} {hc11 : ¬cond0_11 i}
  {x0 : Vec Ideal S128x256 .bf16} {x1 : Vec Ideal S2176x256 .bf16} {x2 : Vec Ideal S2176x256 .bf16} {x3 : Vec Ideal S2176x128 .f32} {x4 : Vec Ideal S8x128 .f32} {x5 : Vec Ideal S1x4x128 .f32} {x6 : Vec Ideal S128x256 .f32} {xs0 : Vec Ideal S2176x256 .f32} {xs1 : Vec Ideal S2176x256 .f32} {xs2 : Vec Ideal S4x2176x1 .f32} {xs3 : Vec Ideal S4x2176x128 .f32} {xs4 : Vec Ideal S256x2176 .bf16}

theorem dkG (H : Ins d (i 0).val (128 * (i 1).val) x0 x1 x2 x3 x4 x5 x6) (S : Scr d (i 0).val (128 * (i 1).val) xs0 xs1 xs2 xs3 xs4)
    (hi : 10 ≤ (i 1).val ∧ (i 1).val ≤ 11) :
    ∀ y, sout0_G_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 hc7 hc8 hc9 hc10 hc11 x0 x1 x2 x3 x4 x5 x6 xs0 xs1 xs2 xs3 xs4 y = arr2 (d.dk (i 0).val (128 * (i 1).val + 128)) y := by
  have h1 : 1280 ≤ 128 * (i 1).val := by omega
  have h2 : 128 * (i 1).val + 128 ≤ 1280 + 256 := by omega
  have h3 : 1280 + 256 ≤ 2176 := by omega
  have hw := blockStart (n := (i 1).val) (by omega)
  have hoff : ∀ o < 4, k0_off6 i (BitVec.ofNat 32 o) = ![4 * (i 0).val + o, 0] := fun o ho => k0_off6_eq i ⟨o, ho⟩
  unfold sout0_G_0 kernelRun0_G
  dsimp only
  refine fun y => fill4 (G := d.dk (i 0).val (128 * (i 1).val + 128)) (On.unread harg13 S.dk) (fun k l hk => d.dk_skip (by omega) l)
    (Is2.dkAdd rfl rfl rfl Is2.zeros (loadAll (On.unread harg13 S.dk)) (Two.ds' ?_ (.inl ⟨rfl, rfl⟩)) (Two.ds' ?_ (.inr ⟨rfl, rfl⟩)) (rows (qBlock H.q rfl rfl)))
    (Is2.dkAdd rfl rfl rfl Is2.zeros (loadAll (On.unread harg13 S.dk)) (Two.ds ?_ (.inl ⟨rfl, rfl⟩)) (Two.ds ?_ (.inr ⟨rfl, rfl⟩)) (rows (qBlock H.q rfl rfl)))
    (Is2.dkAdd rfl rfl rfl Is2.zeros (loadAll (On.unread harg13 S.dk)) (Two.ds' ?_ (.inl ⟨rfl, rfl⟩)) (Two.ds' ?_ (.inr ⟨rfl, rfl⟩)) (rows (qBlock H.q rfl rfl)))
    (Is2.dkAdd rfl rfl rfl Is2.zeros (loadAll (On.unread harg13 S.dk)) (Two.ds ?_ (.inl ⟨rfl, rfl⟩)) (Two.ds ?_ (.inr ⟨rfl, rfl⟩)) (rows (qBlock H.q rfl rfl))) y trivial
  all_goals exact ⟨⟨cols (qBlock H.q rfl rfl), cols (oBlock H.o rfl rfl), rowLoad (hoff _ (by decide)) H.ct H.lse rfl, rfl, hw⟩,
    ⟨spanLoad H.k rfl rfl, spanLoad H.v rfl rfl, ckLoad (On.unread harg16 S.ck) rfl⟩,
    ⟨spanLoad H.k rfl rfl, spanLoad H.v rfl rfl, ckLoad (On.unread harg16 S.ck) rfl⟩, rfl, h1, h2, h3⟩

theorem dvG (H : Ins d (i 0).val (128 * (i 1).val) x0 x1 x2 x3 x4 x5 x6) (S : Scr d (i 0).val (128 * (i 1).val) xs0 xs1 xs2 xs3 xs4)
    (hi : 10 ≤ (i 1).val ∧ (i 1).val ≤ 11) :
    ∀ y, sout0_G_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 hc7 hc8 hc9 hc10 hc11 x0 x1 x2 x3 x4 x5 x6 xs0 xs1 xs2 xs3 xs4 y = arr2 (d.dv (i 0).val (128 * (i 1).val + 128)) y := by
  have h1 : 1280 ≤ 128 * (i 1).val := by omega
  have h2 : 128 * (i 1).val + 128 ≤ 1280 + 256 := by omega
  have h3 : 1280 + 256 ≤ 2176 := by omega
  have h4 : 1280 + 256 < 2 ^ 31 ∧ 128 * (i 1).val + 128 < 2 ^ 31 := by omega
  have hw := blockStart (n := (i 1).val) (by omega)
  have hoff : ∀ o < 4, k0_off6 i (BitVec.ofNat 32 o) = ![4 * (i 0).val + o, 0] := fun o ho => k0_off6_eq i ⟨o, ho⟩
  unfold sout0_G_1 kernelRun0_G
  dsimp only
  refine fun y => fill4 (G := d.dv (i 0).val (128 * (i 1).val + 128)) (On.unread harg14 S.dv) (fun k l hk => d.dv_skip (by omega) l) ?_ ?_ ?_ ?_ y trivial
  · refine Is2.dvAdd rfl rfl rfl Is2.zeros (loadAll (On.unread harg14 S.dv)) (Is2.wtMasked (.inl ⟨rfl, rfl⟩) rfl rfl rfl hw h4 Is2.zeros (spanLoad H.k rfl rfl) (cols (qBlock H.q rfl rfl)) (ckLoad (On.unread harg16 S.ck) rfl) (rowLoad (hoff _ (by decide)) H.ct H.lse rfl)) (Is2.wtMasked (.inr ⟨rfl, rfl⟩) rfl rfl rfl hw h4 Is2.zeros (spanLoad H.k rfl rfl) (cols (qBlock H.q rfl rfl)) (ckLoad (On.unread harg16 S.ck) rfl) (rowLoad (hoff _ (by decide)) H.ct H.lse rfl)) (rows (oBlock H.o rfl rfl))
  · refine Is2.dvAdd rfl rfl rfl Is2.zeros (loadAll (On.unread harg14 S.dv)) (Is2.wt (.inl ⟨rfl, rfl⟩) rfl Is2.zeros (spanLoad H.k rfl rfl) (cols (qBlock H.q rfl rfl)) (ckLoad (On.unread harg16 S.ck) rfl) (rowLoad (hoff _ (by decide)) H.ct H.lse rfl) h1) (Is2.wt (.inr ⟨rfl, rfl⟩) rfl Is2.zeros (spanLoad H.k rfl rfl) (cols (qBlock H.q rfl rfl)) (ckLoad (On.unread harg16 S.ck) rfl) (rowLoad (hoff _ (by decide)) H.ct H.lse rfl) h1) (rows (oBlock H.o rfl rfl))
  · refine Is2.dvAdd rfl rfl rfl Is2.zeros (loadAll (On.unread harg14 S.dv)) (Is2.wtMasked (.inl ⟨rfl, rfl⟩) rfl rfl rfl hw h4 Is2.zeros (spanLoad H.k rfl rfl) (cols (qBlock H.q rfl rfl)) (ckLoad (On.unread harg16 S.ck) rfl) (rowLoad (hoff _ (by decide)) H.ct H.lse rfl)) (Is2.wtMasked (.inr ⟨rfl, rfl⟩) rfl rfl rfl hw h4 Is2.zeros (spanLoad H.k rfl rfl) (cols (qBlock H.q rfl rfl)) (ckLoad (On.unread harg16 S.ck) rfl) (rowLoad (hoff _ (by decide)) H.ct H.lse rfl)) (rows (oBlock H.o rfl rfl))
  · refine Is2.dvAdd rfl rfl rfl Is2.zeros (loadAll (On.unread harg14 S.dv)) (Is2.wt (.inl ⟨rfl, rfl⟩) rfl Is2.zeros (spanLoad H.k rfl rfl) (cols (qBlock H.q rfl rfl)) (ckLoad (On.unread harg16 S.ck) rfl) (rowLoad (hoff _ (by decide)) H.ct H.lse rfl) h1) (Is2.wt (.inr ⟨rfl, rfl⟩) rfl Is2.zeros (spanLoad H.k rfl rfl) (cols (qBlock H.q rfl rfl)) (ckLoad (On.unread harg16 S.ck) rfl) (rowLoad (hoff _ (by decide)) H.ct H.lse rfl) h1) (rows (oBlock H.o rfl rfl))

theorem dcG (H : Ins d (i 0).val (128 * (i 1).val) x0 x1 x2 x3 x4 x5 x6) (S : Scr d (i 0).val (128 * (i 1).val) xs0 xs1 xs2 xs3 xs4)
    (hi : 10 ≤ (i 1).val ∧ (i 1).val ≤ 11) :
    ∀ y, sout0_G_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 hc7 hc8 hc9 hc10 hc11 x0 x1 x2 x3 x4 x5 x6 xs0 xs1 xs2 xs3 xs4 y = arr3 (fun e k _ => d.dc (i 0).val (128 * (i 1).val + 128) e k) y := by
  have h1 : 1280 ≤ 128 * (i 1).val := by omega
  have h2 : 128 * (i 1).val + 128 ≤ 1280 + 256 := by omega
  have h3 : 1280 + 256 ≤ 2176 := by omega
  have hw := blockStart (n := (i 1).val) (by omega)
  have hoff : ∀ o < 4, k0_off6 i (BitVec.ofNat 32 o) = ![4 * (i 0).val + o, 0] := fun o ho => k0_off6_eq i ⟨o, ho⟩
  unfold sout0_G_2 kernelRun0_G
  dsimp only
  refine fun y => fill8h (G := d.dc (i 0).val (128 * (i 1).val + 128)) (On.unread harg15 S.dc) (fun e k hk => d.dc_skip (by omega) e)
    (Is3.dcAdd (g := 4 * (i 0).val + 2) rfl (loadAll3 (On.unread harg15 S.dc)) (Two.ds' ?_ (.inr ⟨rfl, rfl⟩)))
    (Is3.dcAdd (g := 4 * (i 0).val + 2) rfl (loadAll3 (On.unread harg15 S.dc)) (Two.ds' ?_ (.inl ⟨rfl, rfl⟩)))
    (Is3.dcAdd (g := 4 * (i 0).val + 2) rfl (loadAll3 (On.unread harg15 S.dc)) (Two.ds ?_ (.inr ⟨rfl, rfl⟩)))
    (Is3.dcAdd (g := 4 * (i 0).val + 2) rfl (loadAll3 (On.unread harg15 S.dc)) (Two.ds ?_ (.inl ⟨rfl, rfl⟩)))
    (Is3.dcAdd (g := 4 * (i 0).val + 0) rfl (loadAll3 (On.unread harg15 S.dc)) (Two.ds' ?_ (.inr ⟨rfl, rfl⟩)))
    (Is3.dcAdd (g := 4 * (i 0).val + 0) rfl (loadAll3 (On.unread harg15 S.dc)) (Two.ds' ?_ (.inl ⟨rfl, rfl⟩)))
    (Is3.dcAdd (g := 4 * (i 0).val + 0) rfl (loadAll3 (On.unread harg15 S.dc)) (Two.ds ?_ (.inr ⟨rfl, rfl⟩)))
    (Is3.dcAdd (g := 4 * (i 0).val + 0) rfl (loadAll3 (On.unread harg15 S.dc)) (Two.ds ?_ (.inl ⟨rfl, rfl⟩))) y trivial
  all_goals exact ⟨⟨cols (qBlock H.q rfl rfl), cols (oBlock H.o rfl rfl), rowLoad (hoff _ (by decide)) H.ct H.lse rfl, rfl, hw⟩,
    ⟨spanLoad H.k rfl rfl, spanLoad H.v rfl rfl, ckLoad (On.unread harg16 S.ck) rfl⟩,
    ⟨spanLoad H.k rfl rfl, spanLoad H.v rfl rfl, ckLoad (On.unread harg16 S.ck) rfl⟩, rfl, h1, h2, h3⟩

theorem dqG (H : Ins d (i 0).val (128 * (i 1).val) x0 x1 x2 x3 x4 x5 x6) (S : Scr d (i 0).val (128 * (i 1).val) xs0 xs1 xs2 xs3 xs4)
    (hi : 10 ≤ (i 1).val ∧ (i 1).val ≤ 11) :
    ∀ y, out0_G_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 hc7 hc8 hc9 hc10 hc11 x0 x1 x2 x3 x4 x5 x6 xs0 xs1 xs2 xs3 xs4 y = arr2 (fun q l => d.dq (i 0).val (128 * (i 1).val + q) l) y := by
  have h1 : 1280 ≤ 128 * (i 1).val := by omega
  have h2 : 128 * (i 1).val + 128 ≤ 1280 + 256 := by omega
  have h3 : 1280 + 256 ≤ 2176 := by omega
  have hw := blockStart (n := (i 1).val) (by omega)
  have hoff : ∀ o < 4, k0_off6 i (BitVec.ofNat 32 o) = ![4 * (i 0).val + o, 0] := fun o ho => k0_off6_eq i ⟨o, ho⟩
  unfold out0_G_7 kernelRun0_G
  dsimp only
  refine fun y => fillAll (G := fun q l => d.dq (i 0).val (128 * (i 1).val + q) l) (Is2.queries
    (Is2.keyPair2 ofBits_zero
      (Is2.keyTerm (ktLoad (On.unread harg17 S.kt) rfl rfl) (Two.ds ?_ (.inl ⟨rfl, rfl⟩)) (Two.ds ?_ (.inr ⟨rfl, rfl⟩)))
      (Is2.keyTerm (ktLoad (On.unread harg17 S.kt) rfl rfl) (Two.ds' ?_ (.inl ⟨rfl, rfl⟩)) (Two.ds' ?_ (.inr ⟨rfl, rfl⟩))) h2 h3)
    (Is2.keyPair2 ofBits_zero
      (Is2.keyTerm (ktLoad (On.unread harg17 S.kt) rfl rfl) (Two.ds ?_ (.inl ⟨rfl, rfl⟩)) (Two.ds ?_ (.inr ⟨rfl, rfl⟩)))
      (Is2.keyTerm (ktLoad (On.unread harg17 S.kt) rfl rfl) (Two.ds' ?_ (.inl ⟨rfl, rfl⟩)) (Two.ds' ?_ (.inr ⟨rfl, rfl⟩))) h2 h3)) y trivial
  all_goals exact ⟨⟨cols (qBlock H.q rfl rfl), cols (oBlock H.o rfl rfl), rowLoad (hoff _ (by decide)) H.ct H.lse rfl, rfl, hw⟩,
    ⟨spanLoad H.k rfl rfl, spanLoad H.v rfl rfl, ckLoad (On.unread harg16 S.ck) rfl⟩,
    ⟨spanLoad H.k rfl rfl, spanLoad H.v rfl rfl, ckLoad (On.unread harg16 S.ck) rfl⟩, rfl, h1, h2, h3⟩

theorem pointG {m : (ℓ : Loc nD τ sig) → Buf (Elt Ideal) ℓ} {t : Fin cfg0.N} (hi : 10 ≤ t.val % 17 ∧ t.val % 17 ≤ 11) (H : Windows m c t d)
    (S : Scratch d (grid0.coords t 0).val (128 * (grid0.coords t 1).val) (prior m c t)) :
    Scratch d (grid0.coords t 0).val (128 * (grid0.coords t 1).val + 128) (now m c t) ∧
      Queries d (grid0.coords t 0).val (128 * (grid0.coords t 1).val) (now m c t) ∧ (now m c t).2.2.2.1 = (prior m c t).2.2.2.1 := by
  have hi' := hi
  rw [← coord1] at hi'
  rw [Scratch, Queries, now, outsAt0_G m c t (by omega) (by omega) (by omega) (by omega) (by omega) (by omega) (by omega) hi (by omega) (by omega) (by omega) (by omega)]
  dsimp only
  exact ⟨⟨dkG H S hi', dvG H S hi', dcG H S hi', S.ck, S.kt⟩, dqG H S hi', rfl⟩

end Cert.Cases

end
-- ==== Proof.CaseH.lean ====
/- Blocks 12 and 13 of the queries: a span of 1536 keys before them and one of 256 around them. -/
module

public import proofs.«01_k».proof.Proof.Heads
public import proofs.«01_k».proof.Proof.Query
public import proofs.«01_k».proof.Proof.Fill
public import proofs.«01_k».proof.Proof.State

@[expose] public section

noncomputable section

namespace Cert.Cases

open Idealize.ShloMosaic Idealize.SL Cert.KernelIdeal Cert.KernelIdeal.Gen Cert.Reals Cert.Model

-- what the words of the run stand for is met by unfolding the words, not the operations
seal concatenate truncf mulf transpose multiReduction shapeCast broadcastTo addf subf extractStridedSlice

variable {d : Data} {c : Dev nD} {i : grid0.Coords} {arg2 : Memref sig .tc .vmem S128x256 .bf16} {harg2 : arg2.IsWhole} {arg3 : Memref sig .tc .vmem S2176x256 .bf16} {harg3 : arg3.IsWhole} {arg4 : Memref sig .tc .vmem S2176x256 .bf16} {harg4 : arg4.IsWhole} {arg5 : Memref sig .tc .vmem S2176x128 .f32} {harg5 : arg5.IsWhole} {arg6 : Memref sig .tc .vmem S8x128 .f32} {harg6 : arg6.IsWhole} {arg7 : Memref sig .tc .vmem S1x4x128 .f32} {harg7 : arg7.IsWhole} {arg8 : Memref sig .tc .vmem S128x256 .f32} {harg8 : arg8.IsWhole} {arg9 : Memref sig .tc .vmem S128x256 .bf16} {harg9 : arg9.IsWhole} {arg10 : Memref sig .tc .vmem S2176x256 .bf16} {harg10 : arg10.IsWhole} {arg11 : Memref sig .tc .vmem S2176x256 .bf16} {harg11 : arg11.IsWhole} {arg12 : Memref sig .tc .vmem S2176x128 .f32} {harg12 : arg12.IsWhole} {arg13 : Memref sig .tc .vmem S2176x256 .f32} {harg13 : arg13.IsWhole} {arg14 : Memref sig .tc .vmem S2176x256 .f32} {harg14 : arg14.IsWhole} {arg15 : Memref sig .tc .vmem S4x2176x1 .f32} {harg15 : arg15.IsWhole} {arg16 : Memref sig .tc .vmem S4x2176x128 .f32} {harg16 : arg16.IsWhole} {arg17 : Memref sig .tc .vmem S256x2176 .bf16} {harg17 : arg17.IsWhole}
  {hc0 : ¬cond0_0 i} {hc1 : ¬cond0_1 i} {hc2 : ¬cond0_2 i} {hc3 : ¬cond0_3 i} {hc4 : ¬cond0_4 i} {hc5 : ¬cond0_5 i} {hc6 : ¬cond0_6 i} {hc7 : ¬cond0_7 i} {hc8 : cond0_8 i} {hc9 : ¬cond0_9 i} {hc10 : ¬cond0_10 i} {hc11 : ¬cond0_11 i}
  {x0 : Vec Ideal S128x256 .bf16} {x1 : Vec Ideal S2176x256 .bf16} {x2 : Vec Ideal S2176x256 .bf16} {x3 : Vec Ideal S2176x128 .f32} {x4 : Vec Ideal S8x128 .f32} {x5 : Vec Ideal S1x4x128 .f32} {x6 : Vec Ideal S128x256 .f32} {xs0 : Vec Ideal S2176x256 .f32} {xs1 : Vec Ideal S2176x256 .f32} {xs2 : Vec Ideal S4x2176x1 .f32} {xs3 : Vec Ideal S4x2176x128 .f32} {xs4 : Vec Ideal S256x2176 .bf16}

theorem dkH (H : Ins d (i 0).val (128 * (i 1).val) x0 x1 x2 x3 x4 x5 x6) (S : Scr d (i 0).val (128 * (i 1).val) xs0 xs1 xs2 xs3 xs4)
    (hi : 12 ≤ (i 1).val ∧ (i 1).val ≤ 13) :
    ∀ y, sout0_H_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 hc7 hc8 hc9 hc10 hc11 x0 x1 x2 x3 x4 x5 x6 xs0 xs1 xs2 xs3 xs4 y = arr2 (d.dk (i 0).val (128 * (i 1).val + 128)) y := by
  have h1 : 1536 ≤ 128 * (i 1).val := by omega
  have h2 : 128 * (i 1).val + 128 ≤ 1536 + 256 := by omega
  have h3 : 1536 + 256 ≤ 2176 := by omega
  have hw := blockStart (n := (i 1).val) (by omega)
  have hoff : ∀ o < 4, k0_off7 i (BitVec.ofNat 32 o) = ![4 * (i 0).val + o, 0] := fun o ho => k0_off7_eq i ⟨o, ho⟩
  unfold sout0_H_0 kernelRun0_H
  dsimp only
  refine fun y => fill4 (G := d.dk (i 0).val (128 * (i 1).val + 128)) (On.unread harg13 S.dk) (fun k l hk => d.dk_skip (by omega) l)
    (Is2.dkAdd rfl rfl rfl Is2.zeros (loadAll (On.unread harg13 S.dk)) (Two.ds' ?_ (.inl ⟨rfl, rfl⟩)) (Two.ds' ?_ (.inr ⟨rfl, rfl⟩)) (rows (qBlock H.q rfl rfl)))
    (Is2.dkAdd rfl rfl rfl Is2.zeros (loadAll (On.unread harg13 S.dk)) (Two.ds ?_ (.inl ⟨rfl, rfl⟩)) (Two.ds ?_ (.inr ⟨rfl, rfl⟩)) (rows (qBlock H.q rfl rfl)))
    (Is2.dkAdd rfl rfl rfl Is2.zeros (loadAll (On.unread harg13 S.dk)) (Two.ds' ?_ (.inl ⟨rfl, rfl⟩)) (Two.ds' ?_ (.inr ⟨rfl, rfl⟩)) (rows (qBlock H.q rfl rfl)))
    (Is2.dkAdd rfl rfl rfl Is2.zeros (loadAll (On.unread harg13 S.dk)) (Two.ds ?_ (.inl ⟨rfl, rfl⟩)) (Two.ds ?_ (.inr ⟨rfl, rfl⟩)) (rows (qBlock H.q rfl rfl))) y trivial
  all_goals exact ⟨⟨cols (qBlock H.q rfl rfl), cols (oBlock H.o rfl rfl), rowLoad (hoff _ (by decide)) H.ct H.lse rfl, rfl, hw⟩,
    ⟨spanLoad H.k rfl rfl, spanLoad H.v rfl rfl, ckLoad (On.unread harg16 S.ck) rfl⟩,
    ⟨spanLoad H.k rfl rfl, spanLoad H.v rfl rfl, ckLoad (On.unread harg16 S.ck) rfl⟩, rfl, h1, h2, h3⟩

theorem dvH (H : Ins d (i 0).val (128 * (i 1).val) x0 x1 x2 x3 x4 x5 x6) (S : Scr d (i 0).val (128 * (i 1).val) xs0 xs1 xs2 xs3 xs4)
    (hi : 12 ≤ (i 1).val ∧ (i 1).val ≤ 13) :
    ∀ y, sout0_H_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 hc7 hc8 hc9 hc10 hc11 x0 x1 x2 x3 x4 x5 x6 xs0 xs1 xs2 xs3 xs4 y = arr2 (d.dv (i 0).val (128 * (i 1).val + 128)) y := by
  have h1 : 1536 ≤ 128 * (i 1).val := by omega
  have h2 : 128 * (i 1).val + 128 ≤ 1536 + 256 := by omega
  have h3 : 1536 + 256 ≤ 2176 := by omega
  have h4 : 1536 + 256 < 2 ^ 31 ∧ 128 * (i 1).val + 128 < 2 ^ 31 := by omega
  have hw := blockStart (n := (i 1).val) (by omega)
  have hoff : ∀ o < 4, k0_off7 i (BitVec.ofNat 32 o) = ![4 * (i 0).val + o, 0] := fun o ho => k0_off7_eq i ⟨o, ho⟩
  unfold sout0_H_1 kernelRun0_H
  dsimp only
  refine fun y => fill4 (G := d.dv (i 0).val (128 * (i 1).val + 128)) (On.unread harg14 S.dv) (fun k l hk => d.dv_skip (by omega) l) ?_ ?_ ?_ ?_ y trivial
  · refine Is2.dvAdd rfl rfl rfl Is2.zeros (loadAll (On.unread harg14 S.dv)) (Is2.wtMasked (.inl ⟨rfl, rfl⟩) rfl rfl rfl hw h4 Is2.zeros (spanLoad H.k rfl rfl) (cols (qBlock H.q rfl rfl)) (ckLoad (On.unread harg16 S.ck) rfl) (rowLoad (hoff _ (by decide)) H.ct H.lse rfl)) (Is2.wtMasked (.inr ⟨rfl, rfl⟩) rfl rfl rfl hw h4 Is2.zeros (spanLoad H.k rfl rfl) (cols (qBlock H.q rfl rfl)) (ckLoad (On.unread harg16 S.ck) rfl) (rowLoad (hoff _ (by decide)) H.ct H.lse rfl)) (rows (oBlock H.o rfl rfl))
  · refine Is2.dvAdd rfl rfl rfl Is2.zeros (loadAll (On.unread harg14 S.dv)) (Is2.wt (.inl ⟨rfl, rfl⟩) rfl Is2.zeros (spanLoad H.k rfl rfl) (cols (qBlock H.q rfl rfl)) (ckLoad (On.unread harg16 S.ck) rfl) (rowLoad (hoff _ (by decide)) H.ct H.lse rfl) h1) (Is2.wt (.inr ⟨rfl, rfl⟩) rfl Is2.zeros (spanLoad H.k rfl rfl) (cols (qBlock H.q rfl rfl)) (ckLoad (On.unread harg16 S.ck) rfl) (rowLoad (hoff _ (by decide)) H.ct H.lse rfl) h1) (rows (oBlock H.o rfl rfl))
  · refine Is2.dvAdd rfl rfl rfl Is2.zeros (loadAll (On.unread harg14 S.dv)) (Is2.wtMasked (.inl ⟨rfl, rfl⟩) rfl rfl rfl hw h4 Is2.zeros (spanLoad H.k rfl rfl) (cols (qBlock H.q rfl rfl)) (ckLoad (On.unread harg16 S.ck) rfl) (rowLoad (hoff _ (by decide)) H.ct H.lse rfl)) (Is2.wtMasked (.inr ⟨rfl, rfl⟩) rfl rfl rfl hw h4 Is2.zeros (spanLoad H.k rfl rfl) (cols (qBlock H.q rfl rfl)) (ckLoad (On.unread harg16 S.ck) rfl) (rowLoad (hoff _ (by decide)) H.ct H.lse rfl)) (rows (oBlock H.o rfl rfl))
  · refine Is2.dvAdd rfl rfl rfl Is2.zeros (loadAll (On.unread harg14 S.dv)) (Is2.wt (.inl ⟨rfl, rfl⟩) rfl Is2.zeros (spanLoad H.k rfl rfl) (cols (qBlock H.q rfl rfl)) (ckLoad (On.unread harg16 S.ck) rfl) (rowLoad (hoff _ (by decide)) H.ct H.lse rfl) h1) (Is2.wt (.inr ⟨rfl, rfl⟩) rfl Is2.zeros (spanLoad H.k rfl rfl) (cols (qBlock H.q rfl rfl)) (ckLoad (On.unread harg16 S.ck) rfl) (rowLoad (hoff _ (by decide)) H.ct H.lse rfl) h1) (rows (oBlock H.o rfl rfl))

theorem dcH (H : Ins d (i 0).val (128 * (i 1).val) x0 x1 x2 x3 x4 x5 x6) (S : Scr d (i 0).val (128 * (i 1).val) xs0 xs1 xs2 xs3 xs4)
    (hi : 12 ≤ (i 1).val ∧ (i 1).val ≤ 13) :
    ∀ y, sout0_H_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 hc7 hc8 hc9 hc10 hc11 x0 x1 x2 x3 x4 x5 x6 xs0 xs1 xs2 xs3 xs4 y = arr3 (fun e k _ => d.dc (i 0).val (128 * (i 1).val + 128) e k) y := by
  have h1 : 1536 ≤ 128 * (i 1).val := by omega
  have h2 : 128 * (i 1).val + 128 ≤ 1536 + 256 := by omega
  have h3 : 1536 + 256 ≤ 2176 := by omega
  have hw := blockStart (n := (i 1).val) (by omega)
  have hoff : ∀ o < 4, k0_off7 i (BitVec.ofNat 32 o) = ![4 * (i 0).val + o, 0] := fun o ho => k0_off7_eq i ⟨o, ho⟩
  unfold sout0_H_2 kernelRun0_H
  dsimp only
  refine fun y => fill8h (G := d.dc (i 0).val (128 * (i 1).val + 128)) (On.unread harg15 S.dc) (fun e k hk => d.dc_skip (by omega) e)
    (Is3.dcAdd (g := 4 * (i 0).val + 2) rfl (loadAll3 (On.unread harg15 S.dc)) (Two.ds' ?_ (.inr ⟨rfl, rfl⟩)))
    (Is3.dcAdd (g := 4 * (i 0).val + 2) rfl (loadAll3 (On.unread harg15 S.dc)) (Two.ds' ?_ (.inl ⟨rfl, rfl⟩)))
    (Is3.dcAdd (g := 4 * (i 0).val + 2) rfl (loadAll3 (On.unread harg15 S.dc)) (Two.ds ?_ (.inr ⟨rfl, rfl⟩)))
    (Is3.dcAdd (g := 4 * (i 0).val + 2) rfl (loadAll3 (On.unread harg15 S.dc)) (Two.ds ?_ (.inl ⟨rfl, rfl⟩)))
    (Is3.dcAdd (g := 4 * (i 0).val + 0) rfl (loadAll3 (On.unread harg15 S.dc)) (Two.ds' ?_ (.inr ⟨rfl, rfl⟩)))
    (Is3.dcAdd (g := 4 * (i 0).val + 0) rfl (loadAll3 (On.unread harg15 S.dc)) (Two.ds' ?_ (.inl ⟨rfl, rfl⟩)))
    (Is3.dcAdd (g := 4 * (i 0).val + 0) rfl (loadAll3 (On.unread harg15 S.dc)) (Two.ds ?_ (.inr ⟨rfl, rfl⟩)))
    (Is3.dcAdd (g := 4 * (i 0).val + 0) rfl (loadAll3 (On.unread harg15 S.dc)) (Two.ds ?_ (.inl ⟨rfl, rfl⟩))) y trivial
  all_goals exact ⟨⟨cols (qBlock H.q rfl rfl), cols (oBlock H.o rfl rfl), rowLoad (hoff _ (by decide)) H.ct H.lse rfl, rfl, hw⟩,
    ⟨spanLoad H.k rfl rfl, spanLoad H.v rfl rfl, ckLoad (On.unread harg16 S.ck) rfl⟩,
    ⟨spanLoad H.k rfl rfl, spanLoad H.v rfl rfl, ckLoad (On.unread harg16 S.ck) rfl⟩, rfl, h1, h2, h3⟩

theorem dqH (H : Ins d (i 0).val (128 * (i 1).val) x0 x1 x2 x3 x4 x5 x6) (S : Scr d (i 0).val (128 * (i 1).val) xs0 xs1 xs2 xs3 xs4)
    (hi : 12 ≤ (i 1).val ∧ (i 1).val ≤ 13) :
    ∀ y, out0_H_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 hc7 hc8 hc9 hc10 hc11 x0 x1 x2 x3 x4 x5 x6 xs0 xs1 xs2 xs3 xs4 y = arr2 (fun q l => d.dq (i 0).val (128 * (i 1).val + q) l) y := by
  have h1 : 1536 ≤ 128 * (i 1).val := by omega
  have h2 : 128 * (i 1).val + 128 ≤ 1536 + 256 := by omega
  have h3 : 1536 + 256 ≤ 2176 := by omega
  have hw := blockStart (n := (i 1).val) (by omega)
  have hoff : ∀ o < 4, k0_off7 i (BitVec.ofNat 32 o) = ![4 * (i 0).val + o, 0] := fun o ho => k0_off7_eq i ⟨o, ho⟩
  unfold out0_H_7 kernelRun0_H
  dsimp only
  refine fun y => fillAll (G := fun q l => d.dq (i 0).val (128 * (i 1).val + q) l) (Is2.queries
    (Is2.keyPair2 ofBits_zero
      (Is2.keyTerm (ktLoad (On.unread harg17 S.kt) rfl rfl) (Two.ds ?_ (.inl ⟨rfl, rfl⟩)) (Two.ds ?_ (.inr ⟨rfl, rfl⟩)))
      (Is2.keyTerm (ktLoad (On.unread harg17 S.kt) rfl rfl) (Two.ds' ?_ (.inl ⟨rfl, rfl⟩)) (Two.ds' ?_ (.inr ⟨rfl, rfl⟩))) h2 h3)
    (Is2.keyPair2 ofBits_zero
      (Is2.keyTerm (ktLoad (On.unread harg17 S.kt) rfl rfl) (Two.ds ?_ (.inl ⟨rfl, rfl⟩)) (Two.ds ?_ (.inr ⟨rfl, rfl⟩)))
      (Is2.keyTerm (ktLoad (On.unread harg17 S.kt) rfl rfl) (Two.ds' ?_ (.inl ⟨rfl, rfl⟩)) (Two.ds' ?_ (.inr ⟨rfl, rfl⟩))) h2 h3)) y trivial
  all_goals exact ⟨⟨cols (qBlock H.q rfl rfl), cols (oBlock H.o rfl rfl), rowLoad (hoff _ (by decide)) H.ct H.lse rfl, rfl, hw⟩,
    ⟨spanLoad H.k rfl rfl, spanLoad H.v rfl rfl, ckLoad (On.unread harg16 S.ck) rfl⟩,
    ⟨spanLoad H.k rfl rfl, spanLoad H.v rfl rfl, ckLoad (On.unread harg16 S.ck) rfl⟩, rfl, h1, h2, h3⟩

theorem pointH {m : (ℓ : Loc nD τ sig) → Buf (Elt Ideal) ℓ} {t : Fin cfg0.N} (hi : 12 ≤ t.val % 17 ∧ t.val % 17 ≤ 13) (H : Windows m c t d)
    (S : Scratch d (grid0.coords t 0).val (128 * (grid0.coords t 1).val) (prior m c t)) :
    Scratch d (grid0.coords t 0).val (128 * (grid0.coords t 1).val + 128) (now m c t) ∧
      Queries d (grid0.coords t 0).val (128 * (grid0.coords t 1).val) (now m c t) ∧ (now m c t).2.2.2.1 = (prior m c t).2.2.2.1 := by
  have hi' := hi
  rw [← coord1] at hi'
  rw [Scratch, Queries, now, outsAt0_H m c t (by omega) (by omega) (by omega) (by omega) (by omega) (by omega) (by omega) (by omega) hi (by omega) (by omega) (by omega)]
  dsimp only
  exact ⟨⟨dkH H S hi', dvH H S hi', dcH H S hi', S.ck, S.kt⟩, dqH H S hi', rfl⟩

end Cert.Cases

end
-- ==== Proof.CaseI.lean ====
/- Blocks 14 and 15 of the queries: a span of 1792 keys before them and one of 256 around them. -/
module

public import proofs.«01_k».proof.Proof.Heads
public import proofs.«01_k».proof.Proof.Query
public import proofs.«01_k».proof.Proof.Fill
public import proofs.«01_k».proof.Proof.State

@[expose] public section

noncomputable section

namespace Cert.Cases

open Idealize.ShloMosaic Idealize.SL Cert.KernelIdeal Cert.KernelIdeal.Gen Cert.Reals Cert.Model

-- what the words of the run stand for is met by unfolding the words, not the operations
seal concatenate truncf mulf transpose multiReduction shapeCast broadcastTo addf subf extractStridedSlice

variable {d : Data} {c : Dev nD} {i : grid0.Coords} {arg2 : Memref sig .tc .vmem S128x256 .bf16} {harg2 : arg2.IsWhole} {arg3 : Memref sig .tc .vmem S2176x256 .bf16} {harg3 : arg3.IsWhole} {arg4 : Memref sig .tc .vmem S2176x256 .bf16} {harg4 : arg4.IsWhole} {arg5 : Memref sig .tc .vmem S2176x128 .f32} {harg5 : arg5.IsWhole} {arg6 : Memref sig .tc .vmem S8x128 .f32} {harg6 : arg6.IsWhole} {arg7 : Memref sig .tc .vmem S1x4x128 .f32} {harg7 : arg7.IsWhole} {arg8 : Memref sig .tc .vmem S128x256 .f32} {harg8 : arg8.IsWhole} {arg9 : Memref sig .tc .vmem S128x256 .bf16} {harg9 : arg9.IsWhole} {arg10 : Memref sig .tc .vmem S2176x256 .bf16} {harg10 : arg10.IsWhole} {arg11 : Memref sig .tc .vmem S2176x256 .bf16} {harg11 : arg11.IsWhole} {arg12 : Memref sig .tc .vmem S2176x128 .f32} {harg12 : arg12.IsWhole} {arg13 : Memref sig .tc .vmem S2176x256 .f32} {harg13 : arg13.IsWhole} {arg14 : Memref sig .tc .vmem S2176x256 .f32} {harg14 : arg14.IsWhole} {arg15 : Memref sig .tc .vmem S4x2176x1 .f32} {harg15 : arg15.IsWhole} {arg16 : Memref sig .tc .vmem S4x2176x128 .f32} {harg16 : arg16.IsWhole} {arg17 : Memref sig .tc .vmem S256x2176 .bf16} {harg17 : arg17.IsWhole}
  {hc0 : ¬cond0_0 i} {hc1 : ¬cond0_1 i} {hc2 : ¬cond0_2 i} {hc3 : ¬cond0_3 i} {hc4 : ¬cond0_4 i} {hc5 : ¬cond0_5 i} {hc6 : ¬cond0_6 i} {hc7 : ¬cond0_7 i} {hc8 : ¬cond0_8 i} {hc9 : cond0_9 i} {hc10 : ¬cond0_10 i} {hc11 : ¬cond0_11 i}
  {x0 : Vec Ideal S128x256 .bf16} {x1 : Vec Ideal S2176x256 .bf16} {x2 : Vec Ideal S2176x256 .bf16} {x3 : Vec Ideal S2176x128 .f32} {x4 : Vec Ideal S8x128 .f32} {x5 : Vec Ideal S1x4x128 .f32} {x6 : Vec Ideal S128x256 .f32} {xs0 : Vec Ideal S2176x256 .f32} {xs1 : Vec Ideal S2176x256 .f32} {xs2 : Vec Ideal S4x2176x1 .f32} {xs3 : Vec Ideal S4x2176x128 .f32} {xs4 : Vec Ideal S256x2176 .bf16}

theorem dkI (H : Ins d (i 0).val (128 * (i 1).val) x0 x1 x2 x3 x4 x5 x6) (S : Scr d (i 0).val (128 * (i 1).val) xs0 xs1 xs2 xs3 xs4)
    (hi : 14 ≤ (i 1).val ∧ (i 1).val ≤ 15) :
    ∀ y, sout0_I_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 hc7 hc8 hc9 hc10 hc11 x0 x1 x2 x3 x4 x5 x6 xs0 xs1 xs2 xs3 xs4 y = arr2 (d.dk (i 0).val (128 * (i 1).val + 128)) y := by
  have h1 : 1792 ≤ 128 * (i 1).val := by omega
  have h2 : 128 * (i 1).val + 128 ≤ 1792 + 256 := by omega
  have h3 : 1792 + 256 ≤ 2176 := by omega
  have hw := blockStart (n := (i 1).val) (by omega)
  have hoff : ∀ o < 4, k0_off8 i (BitVec.ofNat 32 o) = ![4 * (i 0).val + o, 0] := fun o ho => k0_off8_eq i ⟨o, ho⟩
  unfold sout0_I_0 kernelRun0_I
  dsimp only
  refine fun y => fill4 (G := d.dk (i 0).val (128 * (i 1).val + 128)) (On.unread harg13 S.dk) (fun k l hk => d.dk_skip (by omega) l)
    (Is2.dkAdd rfl rfl rfl Is2.zeros (loadAll (On.unread harg13 S.dk)) (Two.ds' ?_ (.inl ⟨rfl, rfl⟩)) (Two.ds' ?_ (.inr ⟨rfl, rfl⟩)) (rows (qBlock H.q rfl rfl)))
    (Is2.dkAdd rfl rfl rfl Is2.zeros (loadAll (On.unread harg13 S.dk)) (Two.ds ?_ (.inl ⟨rfl, rfl⟩)) (Two.ds ?_ (.inr ⟨rfl, rfl⟩)) (rows (qBlock H.q rfl rfl)))
    (Is2.dkAdd rfl rfl rfl Is2.zeros (loadAll (On.unread harg13 S.dk)) (Two.ds' ?_ (.inl ⟨rfl, rfl⟩)) (Two.ds' ?_ (.inr ⟨rfl, rfl⟩)) (rows (qBlock H.q rfl rfl)))
    (Is2.dkAdd rfl rfl rfl Is2.zeros (loadAll (On.unread harg13 S.dk)) (Two.ds ?_ (.inl ⟨rfl, rfl⟩)) (Two.ds ?_ (.inr ⟨rfl, rfl⟩)) (rows (qBlock H.q rfl rfl))) y trivial
  all_goals exact ⟨⟨cols (qBlock H.q rfl rfl), cols (oBlock H.o rfl rfl), rowLoad (hoff _ (by decide)) H.ct H.lse rfl, rfl, hw⟩,
    ⟨spanLoad H.k rfl rfl, spanLoad H.v rfl rfl, ckLoad (On.unread harg16 S.ck) rfl⟩,
    ⟨spanLoad H.k rfl rfl, spanLoad H.v rfl rfl, ckLoad (On.unread harg16 S.ck) rfl⟩, rfl, h1, h2, h3⟩

theorem dvI (H : Ins d (i 0).val (128 * (i 1).val) x0 x1 x2 x3 x4 x5 x6) (S : Scr d (i 0).val (128 * (i 1).val) xs0 xs1 xs2 xs3 xs4)
    (hi : 14 ≤ (i 1).val ∧ (i 1).val ≤ 15) :
    ∀ y, sout0_I_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 hc7 hc8 hc9 hc10 hc11 x0 x1 x2 x3 x4 x5 x6 xs0 xs1 xs2 xs3 xs4 y = arr2 (d.dv (i 0).val (128 * (i 1).val + 128)) y := by
  have h1 : 1792 ≤ 128 * (i 1).val := by omega
  have h2 : 128 * (i 1).val + 128 ≤ 1792 + 256 := by omega
  have h3 : 1792 + 256 ≤ 2176 := by omega
  have h4 : 1792 + 256 < 2 ^ 31 ∧ 128 * (i 1).val + 128 < 2 ^ 31 := by omega
  have hw := blockStart (n := (i 1).val) (by omega)
  have hoff : ∀ o < 4, k0_off8 i (BitVec.ofNat 32 o) = ![4 * (i 0).val + o, 0] := fun o ho => k0_off8_eq i ⟨o, ho⟩
  unfold sout0_I_1 kernelRun0_I
  dsimp only
  refine fun y => fill4 (G := d.dv (i 0).val (128 * (i 1).val + 128)) (On.unread harg14 S.dv) (fun k l hk => d.dv_skip (by omega) l) ?_ ?_ ?_ ?_ y trivial
  · refine Is2.dvAdd rfl rfl rfl Is2.zeros (loadAll (On.unread harg14 S.dv)) (Is2.wtMasked (.inl ⟨rfl, rfl⟩) rfl rfl rfl hw h4 Is2.zeros (spanLoad H.k rfl rfl) (cols (qBlock H.q rfl rfl)) (ckLoad (On.unread harg16 S.ck) rfl) (rowLoad (hoff _ (by decide)) H.ct H.lse rfl)) (Is2.wtMasked (.inr ⟨rfl, rfl⟩) rfl rfl rfl hw h4 Is2.zeros (spanLoad H.k rfl rfl) (cols (qBlock H.q rfl rfl)) (ckLoad (On.unread harg16 S.ck) rfl) (rowLoad (hoff _ (by decide)) H.ct H.lse rfl)) (rows (oBlock H.o rfl rfl))
  · refine Is2.dvAdd rfl rfl rfl Is2.zeros (loadAll (On.unread harg14 S.dv)) (Is2.wt (.inl ⟨rfl, rfl⟩) rfl Is2.zeros (spanLoad H.k rfl rfl) (cols (qBlock H.q rfl rfl)) (ckLoad (On.unread harg16 S.ck) rfl) (rowLoad (hoff _ (by decide)) H.ct H.lse rfl) h1) (Is2.wt (.inr ⟨rfl, rfl⟩) rfl Is2.zeros (spanLoad H.k rfl rfl) (cols (qBlock H.q rfl rfl)) (ckLoad (On.unread harg16 S.ck) rfl) (rowLoad (hoff _ (by decide)) H.ct H.lse rfl) h1) (rows (oBlock H.o rfl rfl))
  · refine Is2.dvAdd rfl rfl rfl Is2.zeros (loadAll (On.unread harg14 S.dv)) (Is2.wtMasked (.inl ⟨rfl, rfl⟩) rfl rfl rfl hw h4 Is2.zeros (spanLoad H.k rfl rfl) (cols (qBlock H.q rfl rfl)) (ckLoad (On.unread harg16 S.ck) rfl) (rowLoad (hoff _ (by decide)) H.ct H.lse rfl)) (Is2.wtMasked (.inr ⟨rfl, rfl⟩) rfl rfl rfl hw h4 Is2.zeros (spanLoad H.k rfl rfl) (cols (qBlock H.q rfl rfl)) (ckLoad (On.unread harg16 S.ck) rfl) (rowLoad (hoff _ (by decide)) H.ct H.lse rfl)) (rows (oBlock H.o rfl rfl))
  · refine Is2.dvAdd rfl rfl rfl Is2.zeros (loadAll (On.unread harg14 S.dv)) (Is2.wt (.inl ⟨rfl, rfl⟩) rfl Is2.zeros (spanLoad H.k rfl rfl) (cols (qBlock H.q rfl rfl)) (ckLoad (On.unread harg16 S.ck) rfl) (rowLoad (hoff _ (by decide)) H.ct H.lse rfl) h1) (Is2.wt (.inr ⟨rfl, rfl⟩) rfl Is2.zeros (spanLoad H.k rfl rfl) (cols (qBlock H.q rfl rfl)) (ckLoad (On.unread harg16 S.ck) rfl) (rowLoad (hoff _ (by decide)) H.ct H.lse rfl) h1) (rows (oBlock H.o rfl rfl))

theorem dcI (H : Ins d (i 0).val (128 * (i 1).val) x0 x1 x2 x3 x4 x5 x6) (S : Scr d (i 0).val (128 * (i 1).val) xs0 xs1 xs2 xs3 xs4)
    (hi : 14 ≤ (i 1).val ∧ (i 1).val ≤ 15) :
    ∀ y, sout0_I_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 hc7 hc8 hc9 hc10 hc11 x0 x1 x2 x3 x4 x5 x6 xs0 xs1 xs2 xs3 xs4 y = arr3 (fun e k _ => d.dc (i 0).val (128 * (i 1).val + 128) e k) y := by
  have h1 : 1792 ≤ 128 * (i 1).val := by omega
  have h2 : 128 * (i 1).val + 128 ≤ 1792 + 256 := by omega
  have h3 : 1792 + 256 ≤ 2176 := by omega
  have hw := blockStart (n := (i 1).val) (by omega)
  have hoff : ∀ o < 4, k0_off8 i (BitVec.ofNat 32 o) = ![4 * (i 0).val + o, 0] := fun o ho => k0_off8_eq i ⟨o, ho⟩
  unfold sout0_I_2 kernelRun0_I
  dsimp only
  refine fun y => fill8h (G := d.dc (i 0).val (128 * (i 1).val + 128)) (On.unread harg15 S.dc) (fun e k hk => d.dc_skip (by omega) e)
    (Is3.dcAdd (g := 4 * (i 0).val + 2) rfl (loadAll3 (On.unread harg15 S.dc)) (Two.ds' ?_ (.inr ⟨rfl, rfl⟩)))
    (Is3.dcAdd (g := 4 * (i 0).val + 2) rfl (loadAll3 (On.unread harg15 S.dc)) (Two.ds' ?_ (.inl ⟨rfl, rfl⟩)))
    (Is3.dcAdd (g := 4 * (i 0).val + 2) rfl (loadAll3 (On.unread harg15 S.dc)) (Two.ds ?_ (.inr ⟨rfl, rfl⟩)))
    (Is3.dcAdd (g := 4 * (i 0).val + 2) rfl (loadAll3 (On.unread harg15 S.dc)) (Two.ds ?_ (.inl ⟨rfl, rfl⟩)))
    (Is3.dcAdd (g := 4 * (i 0).val + 0) rfl (loadAll3 (On.unread harg15 S.dc)) (Two.ds' ?_ (.inr ⟨rfl, rfl⟩)))
    (Is3.dcAdd (g := 4 * (i 0).val + 0) rfl (loadAll3 (On.unread harg15 S.dc)) (Two.ds' ?_ (.inl ⟨rfl, rfl⟩)))
    (Is3.dcAdd (g := 4 * (i 0).val + 0) rfl (loadAll3 (On.unread harg15 S.dc)) (Two.ds ?_ (.inr ⟨rfl, rfl⟩)))
    (Is3.dcAdd (g := 4 * (i 0).val + 0) rfl (loadAll3 (On.unread harg15 S.dc)) (Two.ds ?_ (.inl ⟨rfl, rfl⟩))) y trivial
  all_goals exact ⟨⟨cols (qBlock H.q rfl rfl), cols (oBlock H.o rfl rfl), rowLoad (hoff _ (by decide)) H.ct H.lse rfl, rfl, hw⟩,
    ⟨spanLoad H.k rfl rfl, spanLoad H.v rfl rfl, ckLoad (On.unread harg16 S.ck) rfl⟩,
    ⟨spanLoad H.k rfl rfl, spanLoad H.v rfl rfl, ckLoad (On.unread harg16 S.ck) rfl⟩, rfl, h1, h2, h3⟩

theorem dqI (H : Ins d (i 0).val (128 * (i 1).val) x0 x1 x2 x3 x4 x5 x6) (S : Scr d (i 0).val (128 * (i 1).val) xs0 xs1 xs2 xs3 xs4)
    (hi : 14 ≤ (i 1).val ∧ (i 1).val ≤ 15) :
    ∀ y, out0_I_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 hc7 hc8 hc9 hc10 hc11 x0 x1 x2 x3 x4 x5 x6 xs0 xs1 xs2 xs3 xs4 y = arr2 (fun q l => d.dq (i 0).val (128 * (i 1).val + q) l) y := by
  have h1 : 1792 ≤ 128 * (i 1).val := by omega
  have h2 : 128 * (i 1).val + 128 ≤ 1792 + 256 := by omega
  have h3 : 1792 + 256 ≤ 2176 := by omega
  have hw := blockStart (n := (i 1).val) (by omega)
  have hoff : ∀ o < 4, k0_off8 i (BitVec.ofNat 32 o) = ![4 * (i 0).val + o, 0] := fun o ho => k0_off8_eq i ⟨o, ho⟩
  unfold out0_I_7 kernelRun0_I
  dsimp only
  refine fun y => fillAll (G := fun q l => d.dq (i 0).val (128 * (i 1).val + q) l) (Is2.queries
    (Is2.keyPair2 ofBits_zero
      (Is2.keyTerm (ktLoad (On.unread harg17 S.kt) rfl rfl) (Two.ds ?_ (.inl ⟨rfl, rfl⟩)) (Two.ds ?_ (.inr ⟨rfl, rfl⟩)))
      (Is2.keyTerm (ktLoad (On.unread harg17 S.kt) rfl rfl) (Two.ds' ?_ (.inl ⟨rfl, rfl⟩)) (Two.ds' ?_ (.inr ⟨rfl, rfl⟩))) h2 h3)
    (Is2.keyPair2 ofBits_zero
      (Is2.keyTerm (ktLoad (On.unread harg17 S.kt) rfl rfl) (Two.ds ?_ (.inl ⟨rfl, rfl⟩)) (Two.ds ?_ (.inr ⟨rfl, rfl⟩)))
      (Is2.keyTerm (ktLoad (On.unread harg17 S.kt) rfl rfl) (Two.ds' ?_ (.inl ⟨rfl, rfl⟩)) (Two.ds' ?_ (.inr ⟨rfl, rfl⟩))) h2 h3)) y trivial
  all_goals exact ⟨⟨cols (qBlock H.q rfl rfl), cols (oBlock H.o rfl rfl), rowLoad (hoff _ (by decide)) H.ct H.lse rfl, rfl, hw⟩,
    ⟨spanLoad H.k rfl rfl, spanLoad H.v rfl rfl, ckLoad (On.unread harg16 S.ck) rfl⟩,
    ⟨spanLoad H.k rfl rfl, spanLoad H.v rfl rfl, ckLoad (On.unread harg16 S.ck) rfl⟩, rfl, h1, h2, h3⟩

theorem pointI {m : (ℓ : Loc nD τ sig) → Buf (Elt Ideal) ℓ} {t : Fin cfg0.N} (hi : 14 ≤ t.val % 17 ∧ t.val % 17 ≤ 15) (H : Windows m c t d)
    (S : Scratch d (grid0.coords t 0).val (128 * (grid0.coords t 1).val) (prior m c t)) :
    Scratch d (grid0.coords t 0).val (128 * (grid0.coords t 1).val + 128) (now m c t) ∧
      Queries d (grid0.coords t 0).val (128 * (grid0.coords t 1).val) (now m c t) ∧ (now m c t).2.2.2.1 = (prior m c t).2.2.2.1 := by
  have hi' := hi
  rw [← coord1] at hi'
  rw [Scratch, Queries, now, outsAt0_I m c t (by omega) (by omega) (by omega) (by omega) (by omega) (by omega) (by omega) (by omega) (by omega) hi (by omega) (by omega)]
  dsimp only
  exact ⟨⟨dkI H S hi', dvI H S hi', dcI H S hi', S.ck, S.kt⟩, dqI H S hi', rfl⟩

end Cert.Cases

end
-- ==== Proof.CaseJ.lean ====
/- The last block of the queries: a span of 2048 keys before it and the block itself. -/
module

public import proofs.«01_k».proof.Proof.Heads
public import proofs.«01_k».proof.Proof.Query
public import proofs.«01_k».proof.Proof.Fill
public import proofs.«01_k».proof.Proof.State
public import proofs.«01_k».proof.Proof.Lanes

@[expose] public section

noncomputable section

namespace Cert.Cases

open Idealize.ShloMosaic Idealize.SL Cert.KernelIdeal Cert.KernelIdeal.Gen Cert.Reals Cert.Model

-- what the words of the run stand for is met by unfolding the words, not the operations
seal concatenate truncf mulf transpose multiReduction shapeCast broadcastTo addf subf extractStridedSlice

variable {d : Data} {c : Dev nD} {i : grid0.Coords} {arg2 : Memref sig .tc .vmem S128x256 .bf16} {harg2 : arg2.IsWhole} {arg3 : Memref sig .tc .vmem S2176x256 .bf16} {harg3 : arg3.IsWhole} {arg4 : Memref sig .tc .vmem S2176x256 .bf16} {harg4 : arg4.IsWhole} {arg5 : Memref sig .tc .vmem S2176x128 .f32} {harg5 : arg5.IsWhole} {arg6 : Memref sig .tc .vmem S8x128 .f32} {harg6 : arg6.IsWhole} {arg7 : Memref sig .tc .vmem S1x4x128 .f32} {harg7 : arg7.IsWhole} {arg8 : Memref sig .tc .vmem S128x256 .f32} {harg8 : arg8.IsWhole} {arg9 : Memref sig .tc .vmem S128x256 .bf16} {harg9 : arg9.IsWhole} {arg10 : Memref sig .tc .vmem S2176x256 .bf16} {harg10 : arg10.IsWhole} {arg11 : Memref sig .tc .vmem S2176x256 .bf16} {harg11 : arg11.IsWhole} {arg12 : Memref sig .tc .vmem S2176x128 .f32} {harg12 : arg12.IsWhole} {arg13 : Memref sig .tc .vmem S2176x256 .f32} {harg13 : arg13.IsWhole} {arg14 : Memref sig .tc .vmem S2176x256 .f32} {harg14 : arg14.IsWhole} {arg15 : Memref sig .tc .vmem S4x2176x1 .f32} {harg15 : arg15.IsWhole} {arg16 : Memref sig .tc .vmem S4x2176x128 .f32} {harg16 : arg16.IsWhole} {arg17 : Memref sig .tc .vmem S256x2176 .bf16} {harg17 : arg17.IsWhole}
  {hc0 : ¬cond0_0 i} {hc1 : ¬cond0_1 i} {hc2 : ¬cond0_2 i} {hc3 : ¬cond0_3 i} {hc4 : ¬cond0_4 i} {hc5 : ¬cond0_5 i} {hc6 : ¬cond0_6 i} {hc7 : ¬cond0_7 i} {hc8 : ¬cond0_8 i} {hc9 : ¬cond0_9 i} {hc10 : cond0_10 i} {hc11 : cond0_11 i}
  {x0 : Vec Ideal S128x256 .bf16} {x1 : Vec Ideal S2176x256 .bf16} {x2 : Vec Ideal S2176x256 .bf16} {x3 : Vec Ideal S2176x128 .f32} {x4 : Vec Ideal S8x128 .f32} {x5 : Vec Ideal S1x4x128 .f32} {x6 : Vec Ideal S128x256 .f32} {xo10 : Vec Ideal S2176x128 .f32} {xs0 : Vec Ideal S2176x256 .f32} {xs1 : Vec Ideal S2176x256 .f32} {xs2 : Vec Ideal S4x2176x1 .f32} {xs3 : Vec Ideal S4x2176x128 .f32} {xs4 : Vec Ideal S256x2176 .bf16}

theorem keysJ (H : Ins d (i 0).val (128 * (i 1).val) x0 x1 x2 x3 x4 x5 x6) (S : Scr d (i 0).val (128 * (i 1).val) xs0 xs1 xs2 xs3 xs4)
    (hi : (i 1).val = 16) :
    (∀ y, sout0_J_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 hc7 hc8 hc9 hc10 hc11 x0 x1 x2 x3 x4 x5 x6 xo10 xs0 xs1 xs2 xs3 xs4 y = arr2 (d.dk (i 0).val (128 * (i 1).val + 128)) y) ∧
      ∀ y, out0_J_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 hc7 hc8 hc9 hc10 hc11 x0 x1 x2 x3 x4 x5 x6 xo10 xs0 xs1 xs2 xs3 xs4 y = arr2 (d.dk (i 0).val (128 * (i 1).val + 128)) y := by
  have h1 : 2048 ≤ 128 * (i 1).val := by omega
  have h2 : 128 * (i 1).val + 128 ≤ 2048 + 128 := by omega
  have h3 : 2048 + 128 ≤ 2176 := by omega
  have hw := blockStart (n := (i 1).val) (by omega)
  have hoff : ∀ o < 4, k0_off9 i (BitVec.ofNat 32 o) = ![4 * (i 0).val + o, 0] := fun o ho => k0_off9_eq i ⟨o, ho⟩
  unfold sout0_J_0 out0_J_8 kernelRun0_J
  dsimp only
  suffices D : ∀ (v : View sig .tc .vmem S2176x256 .f32) (f : v.ty.Contents (Elt Ideal)), On (Val := Elt Ideal) v (v.writes (Elt Ideal) f _) (arr2 (d.dk (i 0).val (128 * (i 1).val + 128))) fun _ => True from
    ⟨fun y => D _ _ y trivial, fun y => fillAll (Is2.castSame _ (Is2.trunc _ (loadAll (D _ _)))) y trivial⟩
  intro v f
  refine cover4 (G := d.dk (i 0).val (128 * (i 1).val + 128)) (Nat.le_refl 2176)
    (Is2.dkAdd rfl rfl rfl Is2.zeros (loadAll (On.unread harg13 S.dk)) (Two.ds' ?_ (.inl ⟨rfl, rfl⟩)) (Two.ds' ?_ (.inr ⟨rfl, rfl⟩)) (rows (qBlock H.q rfl rfl)))
    (Is2.dkAdd rfl rfl rfl Is2.zeros (loadAll (On.unread harg13 S.dk)) (Two.ds ?_ (.inl ⟨rfl, rfl⟩)) (Two.ds ?_ (.inr ⟨rfl, rfl⟩)) (rows (qBlock H.q rfl rfl)))
    (Is2.dkAdd rfl rfl rfl Is2.zeros (loadAll (On.unread harg13 S.dk)) (Two.ds' ?_ (.inl ⟨rfl, rfl⟩)) (Two.ds' ?_ (.inr ⟨rfl, rfl⟩)) (rows (qBlock H.q rfl rfl)))
    (Is2.dkAdd rfl rfl rfl Is2.zeros (loadAll (On.unread harg13 S.dk)) (Two.ds ?_ (.inl ⟨rfl, rfl⟩)) (Two.ds ?_ (.inr ⟨rfl, rfl⟩)) (rows (qBlock H.q rfl rfl)))
  all_goals exact ⟨⟨cols (qBlock H.q rfl rfl), cols (oBlock H.o rfl rfl), rowLoad (hoff _ (by decide)) H.ct H.lse rfl, rfl, hw⟩,
    ⟨spanLoad H.k rfl rfl, spanLoad H.v rfl rfl, ckLoad (On.unread harg16 S.ck) rfl⟩,
    ⟨spanLoad H.k rfl rfl, spanLoad H.v rfl rfl, ckLoad (On.unread harg16 S.ck) rfl⟩, rfl, h1, h2, h3⟩

theorem valuesJ (H : Ins d (i 0).val (128 * (i 1).val) x0 x1 x2 x3 x4 x5 x6) (S : Scr d (i 0).val (128 * (i 1).val) xs0 xs1 xs2 xs3 xs4)
    (hi : (i 1).val = 16) :
    (∀ y, sout0_J_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 hc7 hc8 hc9 hc10 hc11 x0 x1 x2 x3 x4 x5 x6 xo10 xs0 xs1 xs2 xs3 xs4 y = arr2 (d.dv (i 0).val (128 * (i 1).val + 128)) y) ∧
      ∀ y, out0_J_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 hc7 hc8 hc9 hc10 hc11 x0 x1 x2 x3 x4 x5 x6 xo10 xs0 xs1 xs2 xs3 xs4 y = arr2 (d.dv (i 0).val (128 * (i 1).val + 128)) y := by
  have h1 : 2048 ≤ 128 * (i 1).val := by omega
  have h2 : 128 * (i 1).val + 128 ≤ 2048 + 128 := by omega
  have h3 : 2048 + 128 ≤ 2176 := by omega
  have h4 : 2048 + 128 < 2 ^ 31 ∧ 128 * (i 1).val + 128 < 2 ^ 31 := by omega
  have hw := blockStart (n := (i 1).val) (by omega)
  have hoff : ∀ o < 4, k0_off9 i (BitVec.ofNat 32 o) = ![4 * (i 0).val + o, 0] := fun o ho => k0_off9_eq i ⟨o, ho⟩
  unfold sout0_J_1 out0_J_9 kernelRun0_J
  dsimp only
  suffices D : ∀ (v : View sig .tc .vmem S2176x256 .f32) (f : v.ty.Contents (Elt Ideal)), On (Val := Elt Ideal) v (v.writes (Elt Ideal) f _) (arr2 (d.dv (i 0).val (128 * (i 1).val + 128))) fun _ => True from
    ⟨fun y => D _ _ y trivial, fun y => fillAll (Is2.castSame _ (Is2.trunc _ (loadAll (D _ _)))) y trivial⟩
  intro v f
  refine cover4 (G := d.dv (i 0).val (128 * (i 1).val + 128)) (Nat.le_refl 2176) ?_ ?_ ?_ ?_
  · refine Is2.dvAdd rfl rfl rfl Is2.zeros (loadAll (On.unread harg14 S.dv)) (Is2.wtMasked (.inl ⟨rfl, rfl⟩) rfl rfl rfl hw h4 Is2.zeros (spanLoad H.k rfl rfl) (cols (qBlock H.q rfl rfl)) (ckLoad (On.unread harg16 S.ck) rfl) (rowLoad (hoff _ (by decide)) H.ct H.lse rfl)) (Is2.wtMasked (.inr ⟨rfl, rfl⟩) rfl rfl rfl hw h4 Is2.zeros (spanLoad H.k rfl rfl) (cols (qBlock H.q rfl rfl)) (ckLoad (On.unread harg16 S.ck) rfl) (rowLoad (hoff _ (by decide)) H.ct H.lse rfl)) (rows (oBlock H.o rfl rfl))
  · refine Is2.dvAdd rfl rfl rfl Is2.zeros (loadAll (On.unread harg14 S.dv)) (Is2.wt (.inl ⟨rfl, rfl⟩) rfl Is2.zeros (spanLoad H.k rfl rfl) (cols (qBlock H.q rfl rfl)) (ckLoad (On.unread harg16 S.ck) rfl) (rowLoad (hoff _ (by decide)) H.ct H.lse rfl) h1) (Is2.wt (.inr ⟨rfl, rfl⟩) rfl Is2.zeros (spanLoad H.k rfl rfl) (cols (qBlock H.q rfl rfl)) (ckLoad (On.unread harg16 S.ck) rfl) (rowLoad (hoff _ (by decide)) H.ct H.lse rfl) h1) (rows (oBlock H.o rfl rfl))
  · refine Is2.dvAdd rfl rfl rfl Is2.zeros (loadAll (On.unread harg14 S.dv)) (Is2.wtMasked (.inl ⟨rfl, rfl⟩) rfl rfl rfl hw h4 Is2.zeros (spanLoad H.k rfl rfl) (cols (qBlock H.q rfl rfl)) (ckLoad (On.unread harg16 S.ck) rfl) (rowLoad (hoff _ (by decide)) H.ct H.lse rfl)) (Is2.wtMasked (.inr ⟨rfl, rfl⟩) rfl rfl rfl hw h4 Is2.zeros (spanLoad H.k rfl rfl) (cols (qBlock H.q rfl rfl)) (ckLoad (On.unread harg16 S.ck) rfl) (rowLoad (hoff _ (by decide)) H.ct H.lse rfl)) (rows (oBlock H.o rfl rfl))
  · refine Is2.dvAdd rfl rfl rfl Is2.zeros (loadAll (On.unread harg14 S.dv)) (Is2.wt (.inl ⟨rfl, rfl⟩) rfl Is2.zeros (spanLoad H.k rfl rfl) (cols (qBlock H.q rfl rfl)) (ckLoad (On.unread harg16 S.ck) rfl) (rowLoad (hoff _ (by decide)) H.ct H.lse rfl) h1) (Is2.wt (.inr ⟨rfl, rfl⟩) rfl Is2.zeros (spanLoad H.k rfl rfl) (cols (qBlock H.q rfl rfl)) (ckLoad (On.unread harg16 S.ck) rfl) (rowLoad (hoff _ (by decide)) H.ct H.lse rfl) h1) (rows (oBlock H.o rfl rfl))

theorem gatesJ (H : Ins d (i 0).val (128 * (i 1).val) x0 x1 x2 x3 x4 x5 x6) (S : Scr d (i 0).val (128 * (i 1).val) xs0 xs1 xs2 xs3 xs4)
    (hi : (i 1).val = 16) {f : ℕ → ℕ → ℝ} (hf : Is2 (φ := .f32) xo10 f) :
    (∀ y, sout0_J_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 hc7 hc8 hc9 hc10 hc11 x0 x1 x2 x3 x4 x5 x6 xo10 xs0 xs1 xs2 xs3 xs4 y = arr3 (fun e k _ => d.dc (i 0).val (128 * (i 1).val + 128) e k) y) ∧
      ∀ y, out0_J_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 hc7 hc8 hc9 hc10 hc11 x0 x1 x2 x3 x4 x5 x6 xo10 xs0 xs1 xs2 xs3 xs4 y = arr2 (gates d (i 0).val f) y := by
  have h1 : 2048 ≤ 128 * (i 1).val := by omega
  have h2 : 128 * (i 1).val + 128 ≤ 2048 + 128 := by omega
  have h3 : 2048 + 128 ≤ 2176 := by omega
  have hw := blockStart (n := (i 1).val) (by omega)
  have hoff : ∀ o < 4, k0_off9 i (BitVec.ofNat 32 o) = ![4 * (i 0).val + o, 0] := fun o ho => k0_off9_eq i ⟨o, ho⟩
  have h0 : 128 * (i 1).val + 128 = 2176 := by omega
  unfold sout0_J_2 out0_J_10 kernelRun0_J
  dsimp only
  suffices D : ∀ (v : View sig .tc .vmem S4x2176x1 .f32) (f : v.ty.Contents (Elt Ideal)), On (Val := Elt Ideal) v (v.writes (Elt Ideal) f _) (arr3 fun e k _ => d.dc (i 0).val (128 * (i 1).val + 128) e k) fun _ => True from
    ⟨fun y => D _ _ y trivial, by
      refine fun y => fillAllF (G := gates d (i 0).val f) ?_ y trivial
      refine Is2.congr (f := fun k l => if l = 4 * (i 0).val + 3 then - d.dc (i 0).val 2176 3 k else if l = 4 * (i 0).val + 2 then - d.dc (i 0).val 2176 2 k
        else if l = 4 * (i 0).val + 1 then - d.dc (i 0).val 2176 1 k else if l = 4 * (i 0).val + 0 then - d.dc (i 0).val 2176 0 k else f k l) ?_ fun k _ l _ => by
          simp only [win, zero_add]; exact gates_lanes d (i 0).val f k l
      refine Is2.castSame _ ?_
      refine Is2.putLane (laneWord (e := 3) H.lt (by decide)) ofBits_zero ?_ ?_
      · exact loadCol (D _ _) h0
      refine Is2.putLane (laneWord (e := 2) H.lt (by decide)) ofBits_zero ?_ ?_
      · exact loadCol (D _ _) h0
      refine Is2.putLane (laneWord (e := 1) H.lt (by decide)) ofBits_zero ?_ ?_
      · exact loadCol (D _ _) h0
      refine Is2.putLane (laneWord (e := 0) H.lt (by decide)) ofBits_zero ?_ ?_
      · exact loadCol (D _ _) h0
      exact (loadAll (On.unread harg12 hf.arr)).congr fun k _ l _ => by simp only [win, zero_add]⟩
  intro v f
  refine cover8h (G := d.dc (i 0).val (128 * (i 1).val + 128)) (Nat.le_refl 2176)
    (Is3.dcAdd (g := 4 * (i 0).val + 2) rfl (loadAll3 (On.unread harg15 S.dc)) (Two.ds' ?_ (.inr ⟨rfl, rfl⟩)))
    (Is3.dcAdd (g := 4 * (i 0).val + 2) rfl (loadAll3 (On.unread harg15 S.dc)) (Two.ds' ?_ (.inl ⟨rfl, rfl⟩)))
    (Is3.dcAdd (g := 4 * (i 0).val + 2) rfl (loadAll3 (On.unread harg15 S.dc)) (Two.ds ?_ (.inr ⟨rfl, rfl⟩)))
    (Is3.dcAdd (g := 4 * (i 0).val + 2) rfl (loadAll3 (On.unread harg15 S.dc)) (Two.ds ?_ (.inl ⟨rfl, rfl⟩)))
    (Is3.dcAdd (g := 4 * (i 0).val + 0) rfl (loadAll3 (On.unread harg15 S.dc)) (Two.ds' ?_ (.inr ⟨rfl, rfl⟩)))
    (Is3.dcAdd (g := 4 * (i 0).val + 0) rfl (loadAll3 (On.unread harg15 S.dc)) (Two.ds' ?_ (.inl ⟨rfl, rfl⟩)))
    (Is3.dcAdd (g := 4 * (i 0).val + 0) rfl (loadAll3 (On.unread harg15 S.dc)) (Two.ds ?_ (.inr ⟨rfl, rfl⟩)))
    (Is3.dcAdd (g := 4 * (i 0).val + 0) rfl (loadAll3 (On.unread harg15 S.dc)) (Two.ds ?_ (.inl ⟨rfl, rfl⟩)))
  all_goals exact ⟨⟨cols (qBlock H.q rfl rfl), cols (oBlock H.o rfl rfl), rowLoad (hoff _ (by decide)) H.ct H.lse rfl, rfl, hw⟩,
    ⟨spanLoad H.k rfl rfl, spanLoad H.v rfl rfl, ckLoad (On.unread harg16 S.ck) rfl⟩,
    ⟨spanLoad H.k rfl rfl, spanLoad H.v rfl rfl, ckLoad (On.unread harg16 S.ck) rfl⟩, rfl, h1, h2, h3⟩

theorem dqJ (H : Ins d (i 0).val (128 * (i 1).val) x0 x1 x2 x3 x4 x5 x6) (S : Scr d (i 0).val (128 * (i 1).val) xs0 xs1 xs2 xs3 xs4)
    (hi : (i 1).val = 16) :
    ∀ y, out0_J_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 hc7 hc8 hc9 hc10 hc11 x0 x1 x2 x3 x4 x5 x6 xo10 xs0 xs1 xs2 xs3 xs4 y = arr2 (fun q l => d.dq (i 0).val (128 * (i 1).val + q) l) y := by
  have h1 : 2048 ≤ 128 * (i 1).val := by omega
  have h2 : 128 * (i 1).val + 128 ≤ 2048 + 128 := by omega
  have h3 : 2048 + 128 ≤ 2176 := by omega
  have hw := blockStart (n := (i 1).val) (by omega)
  have hoff : ∀ o < 4, k0_off9 i (BitVec.ofNat 32 o) = ![4 * (i 0).val + o, 0] := fun o ho => k0_off9_eq i ⟨o, ho⟩
  unfold out0_J_7 kernelRun0_J
  dsimp only
  refine fun y => fillAll (G := fun q l => d.dq (i 0).val (128 * (i 1).val + q) l) (Is2.queries
    (Is2.keyPair2 ofBits_zero
      (Is2.keyTerm (ktLoad (On.unread harg17 S.kt) rfl rfl) (Two.ds ?_ (.inl ⟨rfl, rfl⟩)) (Two.ds ?_ (.inr ⟨rfl, rfl⟩)))
      (Is2.keyTerm (ktLoad (On.unread harg17 S.kt) rfl rfl) (Two.ds' ?_ (.inl ⟨rfl, rfl⟩)) (Two.ds' ?_ (.inr ⟨rfl, rfl⟩))) h2 h3)
    (Is2.keyPair2 ofBits_zero
      (Is2.keyTerm (ktLoad (On.unread harg17 S.kt) rfl rfl) (Two.ds ?_ (.inl ⟨rfl, rfl⟩)) (Two.ds ?_ (.inr ⟨rfl, rfl⟩)))
      (Is2.keyTerm (ktLoad (On.unread harg17 S.kt) rfl rfl) (Two.ds' ?_ (.inl ⟨rfl, rfl⟩)) (Two.ds' ?_ (.inr ⟨rfl, rfl⟩))) h2 h3)) y trivial
  all_goals exact ⟨⟨cols (qBlock H.q rfl rfl), cols (oBlock H.o rfl rfl), rowLoad (hoff _ (by decide)) H.ct H.lse rfl, rfl, hw⟩,
    ⟨spanLoad H.k rfl rfl, spanLoad H.v rfl rfl, ckLoad (On.unread harg16 S.ck) rfl⟩,
    ⟨spanLoad H.k rfl rfl, spanLoad H.v rfl rfl, ckLoad (On.unread harg16 S.ck) rfl⟩, rfl, h1, h2, h3⟩

theorem pointJ {m : (ℓ : Loc nD τ sig) → Buf (Elt Ideal) ℓ} {t : Fin cfg0.N} (hi : t.val % 17 = 16) (H : Windows m c t d)
    (S : Scratch d (grid0.coords t 0).val (128 * (grid0.coords t 1).val) (prior m c t)) {f : ℕ → ℕ → ℝ} (hf : Is2 (φ := .f32) (prior m c t).2.2.2.1 f) :
    Queries d (grid0.coords t 0).val (128 * (grid0.coords t 1).val) (now m c t) ∧ Last d (grid0.coords t 0).val f (now m c t) := by
  have hi' := hi
  rw [← coord1] at hi'
  have e : 128 * (grid0.coords t 1).val + 128 = 2176 := by omega
  rw [Queries, Last, now, outsAt0_J m c t (by omega) (by omega) (by omega) (by omega) (by omega) (by omega) (by omega) (by omega) (by omega) (by omega) hi hi]
  dsimp only
  exact ⟨dqJ H S hi', fun y => ((keysJ H S hi').2 y).trans (congrArg (fun n => arr2 (d.dk (grid0.coords t 0).val n) y) e),
    fun y => ((valuesJ H S hi').2 y).trans (congrArg (fun n => arr2 (d.dv (grid0.coords t 0).val n) y) e), (gatesJ H S hi' hf).2⟩

end Cert.Cases

end
-- ==== Proof.CaseK.lean ====
/- The first block of the queries of the second window of heads: the scratch is laid out anew, and the block sees the first 256 keys at most. -/
module

public import proofs.«01_k».proof.Proof.Heads
public import proofs.«01_k».proof.Proof.Query
public import proofs.«01_k».proof.Proof.Fill
public import proofs.«01_k».proof.Proof.State
public import proofs.«01_k».proof.Proof.Start

@[expose] public section

noncomputable section

namespace Cert.Cases

open Idealize.ShloMosaic Idealize.SL Cert.KernelIdeal Cert.KernelIdeal.Gen Cert.Reals Cert.Model

-- what the words of the run stand for is met by unfolding the words, not the operations
seal concatenate truncf mulf transpose multiReduction shapeCast broadcastTo addf subf extractStridedSlice

variable {d : Data} {c : Dev nD} {i : grid0.Coords} {arg2 : Memref sig .tc .vmem S128x256 .bf16} {harg2 : arg2.IsWhole} {arg3 : Memref sig .tc .vmem S2176x256 .bf16} {harg3 : arg3.IsWhole} {arg4 : Memref sig .tc .vmem S2176x256 .bf16} {harg4 : arg4.IsWhole} {arg5 : Memref sig .tc .vmem S2176x128 .f32} {harg5 : arg5.IsWhole} {arg6 : Memref sig .tc .vmem S8x128 .f32} {harg6 : arg6.IsWhole} {arg7 : Memref sig .tc .vmem S1x4x128 .f32} {harg7 : arg7.IsWhole} {arg8 : Memref sig .tc .vmem S128x256 .f32} {harg8 : arg8.IsWhole} {arg9 : Memref sig .tc .vmem S128x256 .bf16} {harg9 : arg9.IsWhole} {arg10 : Memref sig .tc .vmem S2176x256 .bf16} {harg10 : arg10.IsWhole} {arg11 : Memref sig .tc .vmem S2176x256 .bf16} {harg11 : arg11.IsWhole} {arg12 : Memref sig .tc .vmem S2176x128 .f32} {harg12 : arg12.IsWhole} {arg13 : Memref sig .tc .vmem S2176x256 .f32} {harg13 : arg13.IsWhole} {arg14 : Memref sig .tc .vmem S2176x256 .f32} {harg14 : arg14.IsWhole} {arg15 : Memref sig .tc .vmem S4x2176x1 .f32} {harg15 : arg15.IsWhole} {arg16 : Memref sig .tc .vmem S4x2176x128 .f32} {harg16 : arg16.IsWhole} {arg17 : Memref sig .tc .vmem S256x2176 .bf16} {harg17 : arg17.IsWhole}
  {hc0 : cond0_0 i} {hc1 : ¬cond0_1 i} {hc2 : cond0_2 i} {hc3 : ¬cond0_3 i} {hc4 : ¬cond0_4 i} {hc5 : ¬cond0_5 i} {hc6 : ¬cond0_6 i} {hc7 : ¬cond0_7 i} {hc8 : ¬cond0_8 i} {hc9 : ¬cond0_9 i} {hc10 : ¬cond0_10 i} {hc11 : ¬cond0_11 i}
  {x0 : Vec Ideal S128x256 .bf16} {x1 : Vec Ideal S2176x256 .bf16} {x2 : Vec Ideal S2176x256 .bf16} {x3 : Vec Ideal S2176x128 .f32} {x4 : Vec Ideal S8x128 .f32} {x5 : Vec Ideal S1x4x128 .f32} {x6 : Vec Ideal S128x256 .f32}

theorem dkK (H : Ins d (i 0).val (128 * (i 1).val) x0 x1 x2 x3 x4 x5 x6)
    (hi : (i 1).val = 0) :
    ∀ y, sout0_K_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 hc7 hc8 hc9 hc10 hc11 x0 x1 x2 x3 x4 x5 x6 y = arr2 (d.dk (i 0).val (128 * (i 1).val + 128)) y := by
  have h2 : 128 * (i 1).val + 128 ≤ 256 := by omega
  have h3 : 256 ≤ 2176 := by omega
  have hw := blockStart (n := (i 1).val) (by omega)
  have hoff : ∀ o < 4, k0_off1 i (BitVec.ofNat 32 o) = ![4 * (i 0).val + o, 0] := fun o ho => k0_off1_eq i ⟨o, ho⟩
  have hz : ∀ k l, d.dk (i 0).val (128 * (i 1).val) k l = 0 := fun k l => by rw [hi]; rfl
  unfold sout0_K_0 kernelRun0_K
  dsimp only
  refine fun y => fill2 (F := d.dk (i 0).val (128 * (i 1).val)) (G := d.dk (i 0).val (128 * (i 1).val + 128)) (zeros2 ofBits_zero hz) (fun k l hk => d.dk_skip (by omega) l)
    (Is2.dkAdd rfl rfl rfl Is2.zeros (loadSecond (zeros2 ofBits_zero hz)) (One.ds ?_ (.inl ⟨rfl, rfl⟩)) (One.ds ?_ (.inr ⟨rfl, rfl⟩)) (rows (qBlock H.q rfl rfl)))
    (Is2.dkAdd rfl rfl rfl Is2.zeros (loadAll (zeros2 ofBits_zero hz)) (One.ds ?_ (.inl ⟨rfl, rfl⟩)) (One.ds ?_ (.inr ⟨rfl, rfl⟩)) (rows (qBlock H.q rfl rfl))) y trivial
  all_goals exact ⟨⟨cols (qBlock H.q rfl rfl), cols (oBlock H.o rfl rfl), rowLoad (hoff _ (by decide)) H.ct H.lse rfl, rfl, hw⟩,
    ⟨spanLoad H.k rfl rfl, spanLoad H.v rfl rfl, ckLoad (gatesHeld H.lt (loadWhole H.c)) rfl⟩, rfl, h2, h3⟩

theorem dvK (H : Ins d (i 0).val (128 * (i 1).val) x0 x1 x2 x3 x4 x5 x6)
    (hi : (i 1).val = 0) :
    ∀ y, sout0_K_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 hc7 hc8 hc9 hc10 hc11 x0 x1 x2 x3 x4 x5 x6 y = arr2 (d.dv (i 0).val (128 * (i 1).val + 128)) y := by
  have h2 : 128 * (i 1).val + 128 ≤ 256 := by omega
  have h3 : 256 ≤ 2176 := by omega
  have h4 : 0 + 256 < 2 ^ 31 ∧ 128 * (i 1).val + 128 < 2 ^ 31 := by omega
  have hw := blockStart (n := (i 1).val) (by omega)
  have hoff : ∀ o < 4, k0_off1 i (BitVec.ofNat 32 o) = ![4 * (i 0).val + o, 0] := fun o ho => k0_off1_eq i ⟨o, ho⟩
  have hz : ∀ k l, d.dv (i 0).val (128 * (i 1).val) k l = 0 := fun k l => by rw [hi]; rfl
  unfold sout0_K_1 kernelRun0_K
  dsimp only
  refine fun y => fill2 (F := d.dv (i 0).val (128 * (i 1).val)) (G := d.dv (i 0).val (128 * (i 1).val + 128)) (zeros2 ofBits_zero hz) (fun k l hk => d.dv_skip (by omega) l) ?_ ?_ y trivial
  · refine Is2.dvAdd rfl rfl rfl Is2.zeros (loadSecond (zeros2 ofBits_zero hz)) (Is2.wtMasked (.inl ⟨rfl, rfl⟩) rfl rfl rfl hw h4 Is2.zeros (spanLoad H.k rfl rfl) (cols (qBlock H.q rfl rfl)) (ckLoad (gatesHeld H.lt (loadWhole H.c)) rfl) (rowLoad (hoff _ (by decide)) H.ct H.lse rfl)) (Is2.wtMasked (.inr ⟨rfl, rfl⟩) rfl rfl rfl hw h4 Is2.zeros (spanLoad H.k rfl rfl) (cols (qBlock H.q rfl rfl)) (ckLoad (gatesHeld H.lt (loadWhole H.c)) rfl) (rowLoad (hoff _ (by decide)) H.ct H.lse rfl)) (rows (oBlock H.o rfl rfl))
  · refine Is2.dvAdd rfl rfl rfl Is2.zeros (loadAll (zeros2 ofBits_zero hz)) (Is2.wtMasked (.inl ⟨rfl, rfl⟩) rfl rfl rfl hw h4 Is2.zeros (spanLoad H.k rfl rfl) (cols (qBlock H.q rfl rfl)) (ckLoad (gatesHeld H.lt (loadWhole H.c)) rfl) (rowLoad (hoff _ (by decide)) H.ct H.lse rfl)) (Is2.wtMasked (.inr ⟨rfl, rfl⟩) rfl rfl rfl hw h4 Is2.zeros (spanLoad H.k rfl rfl) (cols (qBlock H.q rfl rfl)) (ckLoad (gatesHeld H.lt (loadWhole H.c)) rfl) (rowLoad (hoff _ (by decide)) H.ct H.lse rfl)) (rows (oBlock H.o rfl rfl))

theorem dcK (H : Ins d (i 0).val (128 * (i 1).val) x0 x1 x2 x3 x4 x5 x6)
    (hi : (i 1).val = 0) :
    ∀ y, sout0_K_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 hc7 hc8 hc9 hc10 hc11 x0 x1 x2 x3 x4 x5 x6 y = arr3 (fun e k _ => d.dc (i 0).val (128 * (i 1).val + 128) e k) y := by
  have h2 : 128 * (i 1).val + 128 ≤ 256 := by omega
  have h3 : 256 ≤ 2176 := by omega
  have hw := blockStart (n := (i 1).val) (by omega)
  have hoff : ∀ o < 4, k0_off1 i (BitVec.ofNat 32 o) = ![4 * (i 0).val + o, 0] := fun o ho => k0_off1_eq i ⟨o, ho⟩
  have hz : ∀ k l, d.dc (i 0).val (128 * (i 1).val) k l = 0 := fun k l => by rw [hi]; rfl
  unfold sout0_K_2 kernelRun0_K
  dsimp only
  refine fun y => fill4h (F := d.dc (i 0).val (128 * (i 1).val)) (G := d.dc (i 0).val (128 * (i 1).val + 128)) (zeros3 ofBits_zero hz) (fun e k hk => d.dc_skip (by omega) e)
    (Is3.dcAdd (g := 4 * (i 0).val + 2) rfl (From.load (e := 3) (From.next (From.next (From.next (From.all (zeros3 ofBits_zero hz)))))) (One.ds ?_ (.inr ⟨rfl, rfl⟩)))
    (Is3.dcAdd (g := 4 * (i 0).val + 2) rfl (From.load (e := 2) (From.next (From.next (From.all (zeros3 ofBits_zero hz))))) (One.ds ?_ (.inl ⟨rfl, rfl⟩)))
    (Is3.dcAdd (g := 4 * (i 0).val + 0) rfl (From.load (e := 1) (From.next (From.all (zeros3 ofBits_zero hz)))) (One.ds ?_ (.inr ⟨rfl, rfl⟩)))
    (Is3.dcAdd (g := 4 * (i 0).val + 0) rfl (From.load (e := 0) (From.all (zeros3 ofBits_zero hz))) (One.ds ?_ (.inl ⟨rfl, rfl⟩))) y trivial
  all_goals exact ⟨⟨cols (qBlock H.q rfl rfl), cols (oBlock H.o rfl rfl), rowLoad (hoff _ (by decide)) H.ct H.lse rfl, rfl, hw⟩,
    ⟨spanLoad H.k rfl rfl, spanLoad H.v rfl rfl, ckLoad (gatesHeld H.lt (loadWhole H.c)) rfl⟩, rfl, h2, h3⟩

theorem dqK (H : Ins d (i 0).val (128 * (i 1).val) x0 x1 x2 x3 x4 x5 x6)
    (hi : (i 1).val = 0) :
    ∀ y, out0_K_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 hc7 hc8 hc9 hc10 hc11 x0 x1 x2 x3 x4 x5 x6 y = arr2 (fun q l => d.dq (i 0).val (128 * (i 1).val + q) l) y := by
  have h2 : 128 * (i 1).val + 128 ≤ 256 := by omega
  have h3 : 256 ≤ 2176 := by omega
  have hw := blockStart (n := (i 1).val) (by omega)
  have hoff : ∀ o < 4, k0_off1 i (BitVec.ofNat 32 o) = ![4 * (i 0).val + o, 0] := fun o ho => k0_off1_eq i ⟨o, ho⟩
  unfold out0_K_7 kernelRun0_K
  dsimp only
  refine fun y => fillAll (G := fun q l => d.dq (i 0).val (128 * (i 1).val + q) l) (Is2.queries
    (Is2.keyPair1 ofBits_zero
      (Is2.keyTerm (ktLoad (keysLaid H.k) rfl rfl) (One.ds ?_ (.inl ⟨rfl, rfl⟩)) (One.ds ?_ (.inr ⟨rfl, rfl⟩))) h2 h3)
    (Is2.keyPair1 ofBits_zero
      (Is2.keyTerm (ktLoad (keysLaid H.k) rfl rfl) (One.ds ?_ (.inl ⟨rfl, rfl⟩)) (One.ds ?_ (.inr ⟨rfl, rfl⟩))) h2 h3)) y trivial
  all_goals exact ⟨⟨cols (qBlock H.q rfl rfl), cols (oBlock H.o rfl rfl), rowLoad (hoff _ (by decide)) H.ct H.lse rfl, rfl, hw⟩,
    ⟨spanLoad H.k rfl rfl, spanLoad H.v rfl rfl, ckLoad (gatesHeld H.lt (loadWhole H.c)) rfl⟩, rfl, h2, h3⟩

theorem ckK (H : Ins d (i 0).val (128 * (i 1).val) x0 x1 x2 x3 x4 x5 x6)
    (hi : (i 1).val = 0) :
    ∀ y, sout0_K_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 hc7 hc8 hc9 hc10 hc11 x0 x1 x2 x3 x4 x5 x6 y = arr3 (fun e k _ => d.CT (4 * (i 0).val + e) k) y := by
  unfold sout0_K_3 kernelRun0_K
  dsimp only
  exact fun y => gatesHeld H.lt (loadWhole H.c) y trivial

theorem ktK (H : Ins d (i 0).val (128 * (i 1).val) x0 x1 x2 x3 x4 x5 x6)
    (hi : (i 1).val = 0) :
    ∀ y, sout0_K_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 hc7 hc8 hc9 hc10 hc11 x0 x1 x2 x3 x4 x5 x6 y = arr2 (fun l k => d.K k (256 * (i 0).val + l)) y := by
  unfold sout0_K_4 kernelRun0_K
  dsimp only
  exact fun y => keysLaid H.k y trivial

theorem pointK {m : (ℓ : Loc nD τ sig) → Buf (Elt Ideal) ℓ} {t : Fin cfg0.N} (hi : t.val = 17) (H : Windows m c t d) :
    Scratch d (grid0.coords t 0).val (128 * (grid0.coords t 1).val + 128) (now m c t) ∧
      Queries d (grid0.coords t 0).val (128 * (grid0.coords t 1).val) (now m c t) ∧ (now m c t).2.2.2.1 = (prior m c t).2.2.2.1 := by
  have hi' : (grid0.coords t 1).val = 0 := by rw [coord1]; omega
  rw [Scratch, Queries, now, outsAt0_K m c t (by omega) (by omega) (by omega) (by omega) (by omega) (by omega) (by omega) (by omega) (by omega) (by omega) (by omega) (by omega)]
  dsimp only
  exact ⟨⟨dkK H hi', dvK H hi', dcK H hi', ckK H hi', ktK H hi'⟩, dqK H hi', rfl⟩

end Cert.Cases

end
-- ==== Proof.Chain.lean ====
/- All grid points in a row: what the buffers hold after each of them. -/
module

public import proofs.«01_k».proof.Proof.CaseA
public import proofs.«01_k».proof.Proof.CaseB
public import proofs.«01_k».proof.Proof.CaseC
public import proofs.«01_k».proof.Proof.CaseD
public import proofs.«01_k».proof.Proof.CaseE
public import proofs.«01_k».proof.Proof.CaseF
public import proofs.«01_k».proof.Proof.CaseG
public import proofs.«01_k».proof.Proof.CaseH
public import proofs.«01_k».proof.Proof.CaseI
public import proofs.«01_k».proof.Proof.CaseJ
public import proofs.«01_k».proof.Proof.CaseK

@[expose] public section

noncomputable section

namespace Cert.Cases

open Idealize.ShloMosaic Idealize.SL Cert.KernelIdeal Cert.KernelIdeal.Gen Cert.Reals Cert.Model

variable {m : (ℓ : Loc nD τ sig) → Buf (Elt Ideal) ℓ} {c : Dev nD} {t : Fin cfg0.N} {d : Data}

/-- The point's block of queries is neither a window's first nor its last. -/
theorem pointMid (h1 : 1 ≤ t.val % 17) (h2 : t.val % 17 ≤ 15) (H : Windows m c t d)
    (S : Scratch d (grid0.coords t 0).val (128 * (grid0.coords t 1).val) (prior m c t)) :
    Scratch d (grid0.coords t 0).val (128 * (grid0.coords t 1).val + 128) (now m c t) ∧
      Queries d (grid0.coords t 0).val (128 * (grid0.coords t 1).val) (now m c t) ∧ (now m c t).2.2.2.1 = (prior m c t).2.2.2.1 := by
  rcases Nat.lt_or_ge (t.val % 17) 2 with h | h
  · exact pointB (by omega) H S
  rcases Nat.lt_or_ge (t.val % 17) 4 with h | h
  · exact pointC (by omega) H S
  rcases Nat.lt_or_ge (t.val % 17) 6 with h | h
  · exact pointD (by omega) H S
  rcases Nat.lt_or_ge (t.val % 17) 8 with h | h
  · exact pointE (by omega) H S
  rcases Nat.lt_or_ge (t.val % 17) 10 with h | h
  · exact pointF (by omega) H S
  rcases Nat.lt_or_ge (t.val % 17) 12 with h | h
  · exact pointG (by omega) H S
  rcases Nat.lt_or_ge (t.val % 17) 14 with h | h
  · exact pointH (by omega) H S
  · exact pointI (by omega) H S

/-- The gates' gradient when the points of window `w` begin. -/
def earlier (d : Data) (w : ℕ) : ℕ → ℕ → ℝ := if w = 0 then fun _ _ => 0 else gates d 0 fun _ _ => 0

/-- What the buffers hold after block `j` of window `w`. -/
structure After (d : Data) (w j : ℕ) (s : Bufs) : Prop where
  queries : Queries d w (128 * j) s
  carried : j < 16 → Scratch d w (128 * j + 128) s ∧ ∀ y, s.2.2.2.1 y = arr2 (earlier d w) y
  last : j = 16 → Last d w (earlier d w) s

theorem after_point (H : ∀ t, Windows m c t d) (n : ℕ) (h : n < cfg0.N) : After d (n / 17) (n % 17) (outsAt0 m c n h) := by
  have hN : cfg0.N = 34 := N_0
  induction n with
  | zero =>
    obtain ⟨S, Q, G⟩ := pointA (t := ⟨0, h⟩) rfl (H _)
    rw [coord0, coord1] at S Q
    exact ⟨Q, fun _ => ⟨S, G⟩, fun e => absurd e (by decide)⟩
  | succ n ih =>
    have P := ih (by omega)
    have hp : prior m c ⟨n + 1, h⟩ = outsAt0 m c n (by omega) := rfl
    by_cases hk : n = 16
    · obtain ⟨S, Q, G⟩ := pointK (t := ⟨n + 1, h⟩) (show n + 1 = 17 by omega) (H _)
      rw [coord0, coord1] at S Q
      refine ⟨Q, fun _ => ⟨S, fun y => ?_⟩, fun e => absurd e (by omega)⟩
      rw [hp] at G
      refine (congrFun G y).trans (((P.last (by omega)).2.2 y).trans ?_)
      rw [show n / 17 = 0 by omega, show (n + 1) / 17 = 1 by omega]
      rfl
    have e0 : (n + 1) / 17 = n / 17 := by omega
    have e1 : (n + 1) % 17 = n % 17 + 1 := by omega
    obtain ⟨S, G⟩ := P.carried (by omega)
    rw [← hp] at S G
    have S' : Scratch d (grid0.coords ⟨n + 1, h⟩ 0).val (128 * (grid0.coords ⟨n + 1, h⟩ 1).val) (prior m c ⟨n + 1, h⟩) := by
      rw [coord0, coord1]
      dsimp only
      rw [e0, e1]
      exact S
    by_cases hj : n % 17 = 15
    · obtain ⟨Q, L⟩ := pointJ (t := ⟨n + 1, h⟩) (show (n + 1) % 17 = 16 by omega) (H _) S' (Is2.of G)
      rw [coord0, coord1] at Q
      rw [coord0] at L
      refine ⟨Q, fun hlt => absurd hlt (by omega), fun _ => ?_⟩
      rw [← e0] at L
      exact L
    · obtain ⟨S2, Q, G2⟩ := pointMid (t := ⟨n + 1, h⟩) (show 1 ≤ (n + 1) % 17 by omega) (show (n + 1) % 17 ≤ 15 by omega) (H _) S'
      rw [coord0, coord1] at S2 Q
      refine ⟨Q, fun _ => ⟨S2, fun y => (congrFun G2 y).trans ((G y).trans ?_)⟩, fun e => absurd e (by omega)⟩
      rw [e0]

end Cert.Cases

end
-- ==== Proof.Totals.lean ====
/- The gradients in full, over all queries and all lanes. -/
module

public import proofs.«01_k».proof.Proof.Model

@[expose] public section

noncomputable section

namespace Cert.Model.Data

variable (d : Data)

/-- The gradient of the queries before their scaling, at token `q` and lane `j`. -/
def gradQ (q j : ℕ) : ℝ := 1 / 8 * ∑ k ∈ Finset.range 2176, d.K k j * d.dS (j / 64) k q

/-- The gradient of the keys. -/
def gradK (k j : ℕ) : ℝ := ∑ q ∈ Finset.range 2176, d.dS (j / 64) k q * d.Q q j

/-- The gradient of the values. -/
def gradV (k j : ℕ) : ℝ := ∑ q ∈ Finset.range 2176, d.P (j / 64) k q * d.DO q j

/-- The gradient of the gates' running sum, eight lanes of an array padded with zeros. -/
def gradC (k l : ℕ) : ℝ := if l < 8 then - ∑ q ∈ Finset.range 2176, d.dS l k q else 0

theorem dq_eq (w q l : ℕ) : d.dq w q l = d.gradQ q (256 * w + l) := by
  rw [dq, gradQ, show 4 * w + l / 64 = (256 * w + l) / 64 by omega]

theorem dk_eq (w k l : ℕ) : d.dk w 2176 k l = d.gradK k (256 * w + l) := by
  rw [dk, gradK, show 4 * w + l / 64 = (256 * w + l) / 64 by omega]

theorem dv_eq (w k l : ℕ) : d.dv w 2176 k l = d.gradV k (256 * w + l) := by
  rw [dv, gradV, show 4 * w + l / 64 = (256 * w + l) / 64 by omega]

end Cert.Model.Data

end
-- ==== Proof.Arrays.lean ====
/- The four result arrays after the whole grid, in real numbers. -/
module

public import proofs.«01_k».proof.Proof.Chain
public import proofs.«01_k».proof.Proof.Totals
public import Idealize.ShloMosaic.Lib.Pipeline.Value

@[expose] public section

noncomputable section

namespace Cert.Cases

open Idealize.ShloMosaic Idealize.SL Cert.KernelIdeal Cert.KernelIdeal.Gen Cert.Reals Cert.Model

variable {m : (ℓ : Loc nD τ sig) → Buf (Elt Ideal) ℓ} {c : Dev nD} {d : Data}

theorem gates_both (d : Data) : gates d 1 (earlier d 1) = d.gradC := by
  funext k l
  unfold gates earlier gates Data.gradC Data.dc
  rcases Nat.lt_or_ge l 4 with h | h
  · rw [if_neg (by omega), if_neg (by decide), if_pos (by omega), if_pos (by omega), show 4 * 0 + l % 4 = l by omega]
  rcases Nat.lt_or_ge l 8 with h8 | h8
  · rw [if_pos (by omega), if_pos h8, show 4 * 1 + l % 4 = l by omega]
  · rw [if_neg (by omega), if_neg (by decide), if_neg (by omega), if_neg (by omega)]

theorem index7 : ∀ t : Fin cfg0.N, win0_7.index t (0 : Fin 2) = t.val % 17 ∧ win0_7.index t (1 : Fin 2) = t.val / 17 :=
  (by decide +kernel : ∀ t : Fin grid0.N, _)

theorem index8 : ∀ t : Fin cfg0.N, win0_8.index t (0 : Fin 2) = 0 ∧ win0_8.index t (1 : Fin 2) = t.val / 17 :=
  (by decide +kernel : ∀ t : Fin grid0.N, _)

theorem index9 : ∀ t : Fin cfg0.N, win0_9.index t (0 : Fin 2) = 0 ∧ win0_9.index t (1 : Fin 2) = t.val / 17 :=
  (by decide +kernel : ∀ t : Fin grid0.N, _)

theorem index10 : ∀ t : Fin cfg0.N, win0_10.index t (0 : Fin 2) = 0 ∧ win0_10.index t (1 : Fin 2) = 0 :=
  (by decide +kernel : ∀ t : Fin grid0.N, _)

/-! Where an entry lies in a point's block. -/

theorem mem7 (t : Fin cfg0.N) (i : S2176x512.Idx) : i ∈ ((cfg0.win 7).blk t).view.set
    ↔ ∀ a : Fin 2, win0_7.index t a * ((![128, 256] : Fin 2 → ℕ) a) ≤ (i a).val ∧ (i a).val < win0_7.index t a * ((![128, 256] : Fin 2 → ℕ) a) + (![128, 256] : Fin 2 → ℕ) a := by
  show i ∈ ((View.whole main_v35_0).slice (win0_7.rect t)).set ↔ _
  rw [View.set_slice_whole, Rect.mem_set_unit]
  exact Iff.rfl

theorem mem8 (t : Fin cfg0.N) (i : S2176x512.Idx) : i ∈ ((cfg0.win 8).blk t).view.set
    ↔ ∀ a : Fin 2, win0_8.index t a * ((![2176, 256] : Fin 2 → ℕ) a) ≤ (i a).val ∧ (i a).val < win0_8.index t a * ((![2176, 256] : Fin 2 → ℕ) a) + (![2176, 256] : Fin 2 → ℕ) a := by
  show i ∈ ((View.whole main_v35_1).slice (win0_8.rect t)).set ↔ _
  rw [View.set_slice_whole, Rect.mem_set_unit]
  exact Iff.rfl

theorem mem9 (t : Fin cfg0.N) (i : S2176x512.Idx) : i ∈ ((cfg0.win 9).blk t).view.set
    ↔ ∀ a : Fin 2, win0_9.index t a * ((![2176, 256] : Fin 2 → ℕ) a) ≤ (i a).val ∧ (i a).val < win0_9.index t a * ((![2176, 256] : Fin 2 → ℕ) a) + (![2176, 256] : Fin 2 → ℕ) a := by
  show i ∈ ((View.whole main_v35_2).slice (win0_9.rect t)).set ↔ _
  rw [View.set_slice_whole, Rect.mem_set_unit]
  exact Iff.rfl

theorem mem10 (t : Fin cfg0.N) (i : S2176x128.Idx) : i ∈ ((cfg0.win 10).blk t).view.set
    ↔ ∀ a : Fin 2, win0_10.index t a * ((![2176, 128] : Fin 2 → ℕ) a) ≤ (i a).val ∧ (i a).val < win0_10.index t a * ((![2176, 128] : Fin 2 → ℕ) a) + (![2176, 128] : Fin 2 → ℕ) a := by
  show i ∈ ((View.whole main_v35_3).slice (win0_10.rect t)).set ↔ _
  rw [View.set_slice_whole, Rect.mem_set_unit]
  exact Iff.rfl

/-- Every point's block of the queries' gradient goes to its place. -/
theorem final7 (H : ∀ t, Windows m c t d) : (dats m 0 c).arrAt 7 cfg0.N = arr2 (a := 2176) (b := 512) d.gradQ := by
  refine (dats m 0 c).arrAt_eq_of_cover 7 (arr2 (a := 2176) (b := 512) d.gradQ) (fun t _ => ?_) fun i => ?_
  · obtain ⟨e0, e1⟩ := index7 t
    show (cfg0.win 7).cut (grid0.coords t) ((dats m 0 c).after 7 t) = _
    rw [after0_7]
    funext y
    have b0 : (((cfg0.win 7).blk t).view.emb y 0).val = win0_7.index t (0 : Fin 2) * 128 + 1 * (y 0).val := rfl
    have b1 : (((cfg0.win 7).blk t).view.emb y 1).val = win0_7.index t (1 : Fin 2) * 256 + 1 * (y 1).val := rfl
    refine ((after_point H t.val t.isLt).queries ((cfg0.win 7).xinj (grid0.coords t) y)).trans ?_
    show ((d.dq (t.val / 17) (128 * (t.val % 17) + (y 0).val) (y 1).val : ℝ) : EReal) = ((d.gradQ _ _ : ℝ) : EReal)
    rw [b0, b1, e0, e1, Data.dq_eq, mul_comm 128, mul_comm 256, one_mul, one_mul]
  · have h0 : (i 0).val < 2176 := (i 0).isLt
    have h1 : (i 1).val < 512 := (i 1).isLt
    have hN : cfg0.N = 34 := N_0
    have ht : 17 * ((i 1).val / 256) + (i 0).val / 128 < cfg0.N := by omega
    refine ⟨⟨_, ht⟩, flush0_7 _, ?_⟩
    obtain ⟨e0, e1⟩ := index7 ⟨_, ht⟩
    refine (mem7 _ i).2 ?_
    refine fun a => match a with
    | ⟨0, _⟩ => ?_
    | ⟨1, _⟩ => ?_
    · show win0_7.index ⟨_, ht⟩ (0 : Fin 2) * 128 ≤ (i 0).val ∧ (i 0).val < win0_7.index ⟨_, ht⟩ (0 : Fin 2) * 128 + 128
      rw [e0]; dsimp only; omega
    · show win0_7.index ⟨_, ht⟩ (1 : Fin 2) * 256 ≤ (i 1).val ∧ (i 1).val < win0_7.index ⟨_, ht⟩ (1 : Fin 2) * 256 + 256
      rw [e1]; dsimp only; omega

/-- The last point of each window writes its keys' gradient. -/
theorem final8 (H : ∀ t, Windows m c t d) : (dats m 0 c).arrAt 8 cfg0.N = arr2 (a := 2176) (b := 512) d.gradK := by
  refine (dats m 0 c).arrAt_eq_of_cover 8 (arr2 (a := 2176) (b := 512) d.gradK) (fun t hf => ?_) fun i => ?_
  · obtain ⟨e0, e1⟩ := index8 t
    show (cfg0.win 8).cut (grid0.coords t) ((dats m 0 c).after 8 t) = _
    rw [after0_8]
    funext y
    have b0 : (((cfg0.win 8).blk t).view.emb y 0).val = win0_8.index t (0 : Fin 2) * 2176 + 1 * (y 0).val := rfl
    have b1 : (((cfg0.win 8).blk t).view.emb y 1).val = win0_8.index t (1 : Fin 2) * 256 + 1 * (y 1).val := rfl
    refine (((after_point H t.val t.isLt).last ((flush0_8 t).1 hf)).1 ((cfg0.win 8).xinj (grid0.coords t) y)).trans ?_
    show ((d.dk (t.val / 17) 2176 (y 0).val (y 1).val : ℝ) : EReal) = ((d.gradK _ _ : ℝ) : EReal)
    rw [b0, b1, e0, e1, Data.dk_eq, mul_comm 256, one_mul, one_mul, zero_mul, zero_add]
  · have h0 : (i 0).val < 2176 := (i 0).isLt
    have h1 : (i 1).val < 512 := (i 1).isLt
    have hN : cfg0.N = 34 := N_0
    have ht : 17 * ((i 1).val / 256) + 16 < cfg0.N := by omega
    refine ⟨⟨_, ht⟩, (flush0_8 _).2 (show (17 * ((i 1).val / 256) + 16) % 17 = 16 by omega), ?_⟩
    obtain ⟨e0, e1⟩ := index8 ⟨_, ht⟩
    refine (mem8 _ i).2 ?_
    refine fun a => match a with
    | ⟨0, _⟩ => ?_
    | ⟨1, _⟩ => ?_
    · show win0_8.index ⟨_, ht⟩ (0 : Fin 2) * 2176 ≤ (i 0).val ∧ (i 0).val < win0_8.index ⟨_, ht⟩ (0 : Fin 2) * 2176 + 2176
      rw [e0]; omega
    · show win0_8.index ⟨_, ht⟩ (1 : Fin 2) * 256 ≤ (i 1).val ∧ (i 1).val < win0_8.index ⟨_, ht⟩ (1 : Fin 2) * 256 + 256
      rw [e1]; dsimp only; omega

/-- … and its values'. -/
theorem final9 (H : ∀ t, Windows m c t d) : (dats m 0 c).arrAt 9 cfg0.N = arr2 (a := 2176) (b := 512) d.gradV := by
  refine (dats m 0 c).arrAt_eq_of_cover 9 (arr2 (a := 2176) (b := 512) d.gradV) (fun t hf => ?_) fun i => ?_
  · obtain ⟨e0, e1⟩ := index9 t
    show (cfg0.win 9).cut (grid0.coords t) ((dats m 0 c).after 9 t) = _
    rw [after0_9]
    funext y
    have b0 : (((cfg0.win 9).blk t).view.emb y 0).val = win0_9.index t (0 : Fin 2) * 2176 + 1 * (y 0).val := rfl
    have b1 : (((cfg0.win 9).blk t).view.emb y 1).val = win0_9.index t (1 : Fin 2) * 256 + 1 * (y 1).val := rfl
    refine (((after_point H t.val t.isLt).last ((flush0_9 t).1 hf)).2.1 ((cfg0.win 9).xinj (grid0.coords t) y)).trans ?_
    show ((d.dv (t.val / 17) 2176 (y 0).val (y 1).val : ℝ) : EReal) = ((d.gradV _ _ : ℝ) : EReal)
    rw [b0, b1, e0, e1, Data.dv_eq, mul_comm 256, one_mul, one_mul, zero_mul, zero_add]
  · have h0 : (i 0).val < 2176 := (i 0).isLt
    have h1 : (i 1).val < 512 := (i 1).isLt
    have hN : cfg0.N = 34 := N_0
    have ht : 17 * ((i 1).val / 256) + 16 < cfg0.N := by omega
    refine ⟨⟨_, ht⟩, (flush0_9 _).2 (show (17 * ((i 1).val / 256) + 16) % 17 = 16 by omega), ?_⟩
    obtain ⟨e0, e1⟩ := index9 ⟨_, ht⟩
    refine (mem9 _ i).2 ?_
    refine fun a => match a with
    | ⟨0, _⟩ => ?_
    | ⟨1, _⟩ => ?_
    · show win0_9.index ⟨_, ht⟩ (0 : Fin 2) * 2176 ≤ (i 0).val ∧ (i 0).val < win0_9.index ⟨_, ht⟩ (0 : Fin 2) * 2176 + 2176
      rw [e0]; omega
    · show win0_9.index ⟨_, ht⟩ (1 : Fin 2) * 256 ≤ (i 1).val ∧ (i 1).val < win0_9.index ⟨_, ht⟩ (1 : Fin 2) * 256 + 256
      rw [e1]; dsimp only; omega

/-- The very last point writes the gates' gradient, both windows' lanes. -/
theorem final10 (H : ∀ t, Windows m c t d) : (dats m 0 c).arrAt 10 cfg0.N = arr2 (a := 2176) (b := 128) d.gradC := by
  have hN : cfg0.N = 34 := N_0
  refine (dats m 0 c).arrAt_eq_of_cover 10 (arr2 (a := 2176) (b := 128) d.gradC) (fun t hf => ?_) fun i => ?_
  · obtain ⟨e0, e1⟩ := index10 t
    have ht : t.val = 33 := by have := (flush0_10 t).1 hf; have := t.isLt; omega
    show (cfg0.win 10).cut (grid0.coords t) ((dats m 0 c).after 10 t) = _
    rw [after0_10]
    funext y
    have b0 : (((cfg0.win 10).blk t).view.emb y 0).val = win0_10.index t (0 : Fin 2) * 2176 + 1 * (y 0).val := rfl
    have b1 : (((cfg0.win 10).blk t).view.emb y 1).val = win0_10.index t (1 : Fin 2) * 128 + 1 * (y 1).val := rfl
    refine (((after_point H t.val t.isLt).last (by omega)).2.2 ((cfg0.win 10).xinj (grid0.coords t) y)).trans ?_
    rw [show t.val / 17 = 1 by omega, gates_both]
    show ((d.gradC (y 0).val (y 1).val : ℝ) : EReal) = ((d.gradC _ _ : ℝ) : EReal)
    rw [b0, b1, e0, e1, one_mul, one_mul, zero_mul, zero_mul, zero_add, zero_add]
  · have h0 : (i 0).val < 2176 := (i 0).isLt
    have h1 : (i 1).val < 128 := (i 1).isLt
    have ht : 33 < cfg0.N := by omega
    refine ⟨⟨_, ht⟩, (flush0_10 _).2 rfl, ?_⟩
    obtain ⟨e0, e1⟩ := index10 ⟨_, ht⟩
    refine (mem10 _ i).2 ?_
    refine fun a => match a with
    | ⟨0, _⟩ => ?_
    | ⟨1, _⟩ => ?_
    · show win0_10.index ⟨_, ht⟩ (0 : Fin 2) * 2176 ≤ (i 0).val ∧ (i 0).val < win0_10.index ⟨_, ht⟩ (0 : Fin 2) * 2176 + 2176
      rw [e0]; omega
    · show win0_10.index ⟨_, ht⟩ (1 : Fin 2) * 128 ≤ (i 1).val ∧ (i 1).val < win0_10.index ⟨_, ht⟩ (1 : Fin 2) * 128 + 128
      rw [e1]; omega

end Cert.Cases

end
-- ==== Proof.Soft.lean ====
/- The attention with forgetting gates and its gradients in real numbers, from the arguments both programs are given.

   The weights of one query are the exponentials of its scores less their largest, over their sum. Here the largest is any
   real `M h i`: the weights do not depend on it. -/
module

public import proofs.«01_k».proof.Proof.Model

@[expose] public section

noncomputable section

namespace Cert.Model

/-- The arguments: queries, keys, values, the output's gradient (token, lane), the gates' running sums (token, head). -/
structure Input where
  q : ℕ → ℕ → ℝ
  k : ℕ → ℕ → ℝ
  v : ℕ → ℕ → ℝ
  o : ℕ → ℕ → ℝ
  C : ℕ → ℕ → ℝ

namespace Input

variable (e : Input) (M : ℕ → ℕ → ℝ)

/-- The score of key `j` for query `i` in head `h`. -/
def score (h i j : ℕ) : ℝ := (∑ l ∈ Finset.range 64, e.q i (64 * h + l) * e.k j (64 * h + l)) * (1 / 8) + (e.C i h - e.C j h)

/-- Its weight before the normalisation. -/
def weight (h i j : ℕ) : ℝ := if j ≤ i then Real.exp (e.score h i j - M h i) else 0

/-- The sum of a query's weights. -/
def total (h i : ℕ) : ℝ := ∑ j ∈ Finset.range 2176, e.weight M h i j

/-- The gradient reaching a weight. -/
def dP (h i j : ℕ) : ℝ := ∑ l ∈ Finset.range 64, e.o i (64 * h + l) * e.v j (64 * h + l)

theorem weight_nonneg (h i j : ℕ) : 0 ≤ e.weight M h i j := by
  unfold weight
  split_ifs
  · exact (Real.exp_pos _).le
  · exact le_rfl

theorem total_pos (h : ℕ) {i : ℕ} (hi : i < 2176) : 0 < e.total M h i :=
  Finset.sum_pos' (fun j _ => e.weight_nonneg M h i j) ⟨0, Finset.mem_range.2 (by omega), by
    unfold weight; rw [if_pos (Nat.zero_le i)]; exact Real.exp_pos _⟩

/-- What the kernel works on: scaled queries, the logarithm of the sum of the weights. -/
def data : Data where
  Q := fun i l => e.q i l * (1 / 8)
  K := e.k
  V := e.v
  DO := e.o
  CT := fun h i => if h < 8 then e.C i h else 0
  LT := fun h i => M h i + Real.log (e.total M h i)

variable {h i j : ℕ}

theorem data_P (hh : h < 8) (hi : i < 2176) : (e.data M).P h j i = e.weight M h i j / e.total M h i := by
  have hz := e.total_pos M h hi
  unfold Data.P weight
  split_ifs with hj
  · simp only [data, if_pos hh]
    have hs : ∑ l ∈ Finset.range 64, e.k j (64 * h + l) * (e.q i (64 * h + l) * (1 / 8))
        = (∑ l ∈ Finset.range 64, e.q i (64 * h + l) * e.k j (64 * h + l)) * (1 / 8) := by
      rw [Finset.sum_mul]
      exact Finset.sum_congr rfl fun l _ => by ring
    rw [hs, show (∑ l ∈ Finset.range 64, e.q i (64 * h + l) * e.k j (64 * h + l)) * (1 / 8) - e.C j h
        + (e.C i h - (M h i + Real.log (e.total M h i))) = e.score h i j - M h i - Real.log (e.total M h i) by unfold score; ring,
      Real.exp_sub, Real.exp_log hz]
  · rw [zero_div]

theorem data_dP : (e.data M).dP h j i = e.dP h i j :=
  Finset.sum_congr rfl fun l _ => mul_comm _ _

theorem sum_P (hh : h < 8) (hi : i < 2176) : ∑ j ∈ Finset.range 2176, (e.data M).P h j i = 1 := by
  simp only [e.data_P M hh hi]
  rw [← Finset.sum_div]
  exact div_self (e.total_pos M h hi).ne'

/-- The gradient of a query's scores sums to zero: a shift of all of them changes no weight. -/
theorem sum_dS (hh : h < 8) (hi : i < 2176) : ∑ j ∈ Finset.range 2176, (e.data M).dS h j i = 0 := by
  simp only [Data.dS, mul_sub]
  rw [Finset.sum_sub_distrib, ← Finset.sum_mul, e.sum_P M hh hi, one_mul]
  exact sub_self _

/-- The gradient of a score as the quotient's derivative gives it. -/
theorem dS_eq (hh : h < 8) (hi : i < 2176) :
    (e.data M).dS h j i = (e.dP h i j / e.total M h i
      + -∑ j' ∈ Finset.range 2176, e.dP h i j' * (1 / (e.total M h i * e.total M h i)) * e.weight M h i j') * e.weight M h i j := by
  have hz := (e.total_pos M h hi).ne'
  have hD : (e.data M).D h i = e.total M h i * ∑ j' ∈ Finset.range 2176, e.dP h i j' * (1 / (e.total M h i * e.total M h i)) * e.weight M h i j' := by
    unfold Data.D
    rw [Finset.mul_sum]
    refine Finset.sum_congr rfl fun j' _ => ?_
    rw [e.data_P M hh hi, e.data_dP M]
    field_simp
  rw [Data.dS, hD, e.data_P M hh hi, e.data_dP M]
  field_simp
  ring

end Input

end Cert.Model

end
-- ==== Proof.Scores.lean ====
/- What the plain program computes on the way forward, in real numbers: the scores, their masks, the largest one of each
   query, the weights and their sum. -/
module

public import proofs.«01_k».proof.Proof.Soft
public import proofs.«01_k».proof.Proof.Store
public import proofs.«01_k».proof.Proof.Gen.ReferenceIdeal.Read
public import Idealize.ShloMosaic.Lib.WordCmp

@[expose] public section

noncomputable section

namespace Cert.Plain

open Idealize.ShloMosaic Cert.Reals Cert.Model Cert.ReferenceIdeal Cert.ReferenceIdeal.Gen Cert.ReferenceIdeal.Read

/-! Single values. -/

theorem ofBits_zero : (FloatOps.ofBits (F := Ideal) .f32 0x00000000#32 : EReal) = 0 := by
  show Ideal.ofBits .f32 0x00000000#32 = _
  simp

theorem ofBits_one : (FloatOps.ofBits (F := Ideal) .f32 0x3F800000#32 : EReal) = ((1 : ℝ) : EReal) := by
  show Ideal.ofBits .f32 0x3F800000#32 = _
  simp [Ideal.ofBits, Ideal.ieee, -EReal.coe_mul]; norm_num

theorem ofBits_bot : (FloatOps.ofBits (F := Ideal) .f32 0xFF800000#32 : EReal) = ⊥ := by
  show Ideal.ofBits .f32 0xFF800000#32 = _
  simp [Ideal.ofBits, Ideal.ieee]

theorem ofBits_eighth : (FloatOps.ofBits (F := Ideal) .f32 0x3E000000#32 : EReal) = ((1 / 8 : ℝ) : EReal) := by
  show Ideal.ofBits .f32 0x3E000000#32 = _
  simp [Ideal.ofBits, Ideal.ieee, -EReal.coe_mul]; norm_num

/-- The arguments of the plain program are the reals of `e`. -/
structure Holds (e : Input) (x0 x1 x2 : Vec Ideal S2176x512 .f32) (x3 : Vec Ideal S2176x8 .f32) (x4 : Vec Ideal S2176x512 .f32) : Prop where
  q : ∀ y, x0 y = arr2 e.q y
  k : ∀ y, x1 y = arr2 e.k y
  v : ∀ y, x2 y = arr2 e.v y
  C : ∀ y, x3 y = arr2 e.C y
  o : ∀ y, x4 y = arr2 e.o y

variable {e : Input} {x0 x1 x2 x4 : Vec Ideal S2176x512 .f32} {x3 : Vec Ideal S2176x8 .f32}

/-- Lane `64 h + l` of token `t` is lane `l` of head `h`. -/
theorem headLane {t h l : ℕ} (hh : h < 8) (hl : l < 64) :
    ((t * 8 + h) * 64 + l) / 512 = t ∧ ((t * 8 + h) * 64 + l) % 512 = 64 * h + l := by omega

theorem v0 (hx : ∀ y, x0 y = arr2 e.q y) (i : S2176x8x64.Idx) :
    val_main_v0 (F := Ideal) x0 i = arr3 (fun t h l => e.q t (64 * h + l)) i := by
  obtain ⟨a, b⟩ := headLane (t := (i 0).val) (h := (i 1).val) (l := (i 2).val) (i 1).isLt (i 2).isLt
  rw [val_main_v0_apply, hx]
  show ((e.q ((((i 0).val * 8 + (i 1).val) * 64 + (i 2).val) / 512) ((((i 0).val * 8 + (i 1).val) * 64 + (i 2).val) % 512) : ℝ) : EReal) = _
  rw [a, b]
  rfl

theorem v1 (hx : ∀ y, x1 y = arr2 e.k y) (i : S2176x8x64.Idx) :
    val_main_v1 (F := Ideal) x1 i = arr3 (fun t h l => e.k t (64 * h + l)) i :=
  v0 (e := ⟨e.k, e.k, e.k, e.k, e.k⟩) hx i

theorem v2 (hx : ∀ y, x2 y = arr2 e.v y) (i : S2176x8x64.Idx) :
    val_main_v2 (F := Ideal) x2 i = arr3 (fun t h l => e.v t (64 * h + l)) i :=
  v0 (e := ⟨e.v, e.k, e.k, e.k, e.k⟩) hx i

theorem v5 (H : Holds e x0 x1 x2 x3 x4) (i : S8x2176x2176.Idx) :
    val_main_v5 (F := Ideal) x0 x1 i = arr3 (fun h i j => ∑ l ∈ Finset.range 64, e.q i (64 * h + l) * e.k j (64 * h + l)) i := by
  rw [val_main_v5_apply]
  simp only [v0 H.q, v1 H.k]
  refine (Finset.sum_congr rfl fun l _ => ?_).trans
    (sum_axis 64 fun l => e.q (i 1).val (64 * (i 0).val + l) * e.k (i 2).val (64 * (i 0).val + l))
  exact (EReal.coe_mul _ _).symm

theorem v7 (H : Holds e x0 x1 x2 x3 x4) (i : S8x2176x2176.Idx) :
    val_main_v7 (F := Ideal) x0 x1 i
      = arr3 (fun h i j => (∑ l ∈ Finset.range 64, e.q i (64 * h + l) * e.k j (64 * h + l)) * (1 / 8)) i := by
  rw [val_main_v7_apply, v5 H, val_main_v6_apply]
  refine (congrArg (fun z : EReal => arr3 _ i * z) ofBits_eighth).trans ?_
  exact (EReal.coe_mul _ _).symm

theorem v3 (H : Holds e x0 x1 x2 x3 x4) (i : S8x2176.Idx) : val_main_v3 (F := Ideal) x3 i = arr2 (fun h i => e.C i h) i := by
  rw [val_main_v3_apply, H.C]
  rfl

theorem v12 (H : Holds e x0 x1 x2 x3 x4) (i : S8x2176x2176.Idx) :
    val_main_v12 (F := Ideal) x3 i = arr3 (fun h i j => e.C i h - e.C j h) i := by
  rw [val_main_v12_apply, val_main_v10_apply, val_main_v11_apply, val_main_v8_apply, val_main_v9_apply, v3 H, v3 H]
  exact (EReal.coe_sub _ _).symm

theorem v19 (H : Holds e x0 x1 x2 x3 x4) (i : S8x2176x2176.Idx) : val_main_v19 (F := Ideal) x0 x1 x3 i = arr3 e.score i := by
  rw [val_main_v19_apply, v7 H, v12 H]
  exact (EReal.coe_add _ _).symm

/-- The mask lets the keys up to the query through. -/
theorem v20_1 (i : S8x2176x2176.Idx) : val_main_v20_1 (F := Ideal) i = 1 ↔ (i 2).val ≤ (i 1).val := by
  rw [val_main_v20_1_apply, val_main_v18_apply, val_main_v17_apply, val_main_v15_apply, val_main_v16_apply, val_main_v13_apply, val_main_v14_apply,
    val_main_v4_apply, val_main_v4_apply]
  have h1 : (i 1).val < 2176 := (i 1).isLt
  have h2 : (i 2).val < 2176 := (i 2).isLt
  show IntOp.cmpi .sge (BitVec.ofNat 32 (i 1).val) (BitVec.ofNat 32 (i 2).val) = 1 ↔ _
  have t1 : (BitVec.ofNat 32 (i 1).val).toInt = ((i 1).val : ℤ) := by
    rw [BitVec.toInt_eq_toNat_of_lt] <;> rw [BitVec.toNat_ofNat] <;> omega
  have t2 : (BitVec.ofNat 32 (i 2).val).toInt = ((i 2).val : ℤ) := by
    rw [BitVec.toInt_eq_toNat_of_lt] <;> rw [BitVec.toNat_ofNat] <;> omega
  show BitVec.ofBool (decide ((BitVec.ofNat 32 (i 2).val).toInt ≤ (BitVec.ofNat 32 (i 1).val).toInt)) = 1 ↔ _
  rw [t1, t2]
  by_cases h : (i 2).val ≤ (i 1).val
  · simp [h]
  · simp [h]

theorem v20_0 (H : Holds e x0 x1 x2 x3 x4) (i : S8x2176x2176.Idx) :
    val_main_v20_0 (F := Ideal) x0 x1 x3 i = if (i 2).val ≤ (i 1).val then arr3 e.score i else (⊥ : EReal) := by
  rw [val_main_v20_0_apply, v19 H]
  unfold Scalar.select
  by_cases h : (i 2).val ≤ (i 1).val
  · rw [if_pos ((v20_1 i).2 h), if_pos h]
  · rw [if_neg (mt (v20_1 i).1 h), if_neg h]
    exact ofBits_bot

/-- The largest of several values below +∞, one of them above −∞, is a real number. -/
theorem fold_real {n : ℕ} {r : EReal} (f : Fin n → EReal) (h : r = (Finset.univ : Finset (Fin n)).fold max ⊥ f) (ht : ∀ k, f k < ⊤) (k : Fin n)
    (hk : ⊥ < f k) : ∃ x : ℝ, r = x := by
  have top : r < ⊤ := by rw [h, Finset.fold_max_lt]; exact ⟨bot_lt_top, fun k _ => ht k⟩
  have bot : ⊥ < r := by rw [h, Finset.lt_fold_max]; exact Or.inr ⟨k, Finset.mem_univ _, hk⟩
  exact ⟨_, (EReal.coe_toReal top.ne bot.ne').symm⟩

/-- The largest score of a query is a real number: every one is real or −∞, and that of the query's own key is real. -/
theorem v21 (H : Holds e x0 x1 x2 x3 x4) :
    ∃ M : ℕ → ℕ → ℝ, ∀ i : S8x2176.Idx, val_main_v21 (F := Ideal) x0 x1 x3 i = arr2 M i := by
  have key : ∀ i : S8x2176.Idx, ∃ r : ℝ, (val_main_v21 (F := Ideal) x0 x1 x3 i : EReal) = r := fun i => by
    have hr : S8x2176x2176.Reduces [2] S8x2176 := by decide
    have hf : (val_main_v21 (F := Ideal) x0 x1 x3 i : EReal)
        = (Finset.univ : Finset (Fin 2176)).fold max (⊥ : EReal) fun k => val_main_v20_0 (F := Ideal) x0 x1 x3 (hr.lift i k) := by
      unfold val_main_v21
      haveI : Std.Commutative (FloatOps.maximumf (F := Ideal) (φ := .f32)) := ⟨fun a b => max_comm (α := EReal) a b⟩
      haveI : Std.Associative (FloatOps.maximumf (F := Ideal) (φ := .f32)) := ⟨fun a b c => max_assoc (α := EReal) a b c⟩
      refine (Host.reduce_eq_fold_single (FloatOps.maximumf (F := Ideal) (φ := .f32)) (val_main_v20_0 (F := Ideal) x0 x1 x3) _ reducesTo_S8x2176x2176_S8x2176_d2 hr h_S_ i).trans ?_
      rw [show (val_main_cst_1 (F := Ideal)) (Shape.Idx.first h_S_) = (⊥ : EReal) from ofBits_bot]
      rfl
    refine fold_real _ hf (fun k => ?_) (0 : Fin 2176) ?_
    · rw [v20_0 H]
      split_ifs
      · exact EReal.coe_lt_top _
      · exact bot_lt_top
    · rw [v20_0 H, if_pos (show ((hr.lift i (0 : Fin 2176)) 2).val ≤ ((hr.lift i (0 : Fin 2176)) 1).val from Nat.zero_le _)]
      exact EReal.bot_lt_coe _
  choose r hr using key
  refine ⟨fun h t => if hh : h < 8 ∧ t < 2176 then r (ix2 ⟨h, hh.1⟩ ⟨t, hh.2⟩) else 0, fun i => ?_⟩
  rw [hr i]
  unfold arr2
  dsimp only
  rw [dif_pos (show (i 0).val < 8 ∧ (i 1).val < 2176 from ⟨(i 0).isLt, (i 1).isLt⟩)]
  exact congrArg (fun y => ((r y : ℝ) : EReal)) (ValueIdx.eq_ix2 i)

variable {M : ℕ → ℕ → ℝ}

/-- The exponential of a masked score less a real. -/
theorem exp_masked (p : Prop) [Decidable p] (s r : ℝ) :
    Ideal.exp ((if p then (s : EReal) else (⊥ : EReal)) - (r : EReal)) = (((if p then Real.exp (s - r) else 0 : ℝ)) : EReal) := by
  split_ifs
  · rw [← EReal.coe_sub, Ideal.exp_coe]
  · rw [EReal.bot_sub]
    rfl

theorem v28 (hM : ∀ i : S8x2176.Idx, val_main_v21 (F := Ideal) x0 x1 x3 i = arr2 M i) (i : S8x2176.Idx) :
    val_main_v28 (F := Ideal) x0 x1 x3 i = arr2 M i := by
  rw [val_main_v28_apply, hM, val_main_v27_apply]
  refine (congrArg (fun z : EReal => max z (arr2 M i)) ofBits_bot).trans ?_
  exact max_eq_right bot_le

theorem v41 (H : Holds e x0 x1 x2 x3 x4) (hM : ∀ i : S8x2176.Idx, val_main_v21 (F := Ideal) x0 x1 x3 i = arr2 M i) (i : S8x2176x2176.Idx) :
    val_main_v41 (F := Ideal) x0 x1 x3 i = arr3 (e.weight M) i := by
  rw [val_main_v41_apply, val_main_v40_apply, val_main_v39_apply, val_main_v38_apply, v28 hM, v20_0 H]
  exact exp_masked _ _ _

theorem v42 (H : Holds e x0 x1 x2 x3 x4) (hM : ∀ i : S8x2176.Idx, val_main_v21 (F := Ideal) x0 x1 x3 i = arr2 M i) (i : S8x2176.Idx) :
    val_main_v42 (F := Ideal) x0 x1 x3 i = arr2 (e.total M) i := by
  rw [val_main_v42_apply]
  simp only [v41 H hM]
  refine (congrArg₂ (fun a b : EReal => a + b) ofBits_zero (sum_axis 2176 fun j => e.weight M (i 0).val (i 1).val j)).trans ?_
  exact zero_add _

end Cert.Plain

end
-- ==== Proof.Grads.lean ====
/- What the plain program computes on the way back, in real numbers: the gradients of the queries, keys, values and of the
   gates' running sums. -/
module

public import proofs.«01_k».proof.Proof.Scores
public import proofs.«01_k».proof.Proof.Totals

@[expose] public section

noncomputable section

namespace Cert.Plain

open Idealize.ShloMosaic Cert.Reals Cert.Model Cert.ReferenceIdeal Cert.ReferenceIdeal.Gen Cert.ReferenceIdeal.Read

variable {e : Input} {x0 x1 x2 x4 : Vec Ideal S2176x512 .f32} {x3 : Vec Ideal S2176x8 .f32} {M : ℕ → ℕ → ℝ}

/-- A quotient of reals. -/
theorem div_real (a : ℝ) {b : ℝ} (hb : b ≠ 0) : Ideal.div (a : EReal) (b : EReal) = ((a / b : ℝ) : EReal) := by
  rw [Ideal.div_coe hb, ← EReal.coe_mul, div_eq_mul_one_div a b]

/-- The maximum of `M` and everything else the weights are computed from. -/
structure Weights (e : Input) (M : ℕ → ℕ → ℝ) (x0 x1 x2 : Vec Ideal S2176x512 .f32) (x3 : Vec Ideal S2176x8 .f32) (x4 : Vec Ideal S2176x512 .f32) : Prop
    extends Holds e x0 x1 x2 x3 x4 where
  largest : ∀ i : S8x2176.Idx, val_main_v21 (F := Ideal) x0 x1 x3 i = arr2 M i

variable (H : Weights e M x0 x1 x2 x3 x4)
include H

theorem pos (i : S8x2176.Idx) : e.total M (i 0).val (i 1).val ≠ 0 := (e.total_pos M _ (i 1).isLt).ne'

theorem v43 (i : S8x2176x1.Idx) : val_main_v43 (F := Ideal) x0 x1 x3 i = arr3 (fun h t _ => e.total M h t) i := by
  rw [val_main_v43_apply, v42 H.toHolds H.largest]
  rfl

theorem v45 (i : S8x2176x2176.Idx) : val_main_v45 (F := Ideal) x0 x1 x3 i = arr3 (fun h t j => (e.data M).P h j t) i := by
  rw [val_main_v45_apply, v41 H.toHolds H.largest, val_main_v44_apply, v43 H]
  refine (div_real _ (pos H (ix2 (i 0) (i 1)))).trans ?_
  exact congrArg _ (e.data_P M (i 0).isLt (i 1).isLt).symm

theorem v48 (i : S8x2176x1.Idx) :
    val_main_v48 (F := Ideal) x0 x1 x3 i = arr3 (fun h t _ => 1 / (e.total M h t * e.total M h t)) i := by
  rw [val_main_v48_apply, val_main_v47_apply, val_main_v46_apply, v43 H]
  have hz := pos H (ix2 (i 0) (i 1))
  refine (congrArg₂ Ideal.div ofBits_one (EReal.coe_mul _ _).symm).trans ?_
  exact div_real 1 (mul_ne_zero hz hz)

theorem v53 (i : S8x64x2176.Idx) : val_main_v53 (F := Ideal) x4 i = arr3 (fun h l t => e.o t (64 * h + l)) i := by
  rw [val_main_v53_apply]
  exact (v0 (e := ⟨e.o, e.k, e.k, e.k, e.k⟩) H.o (idx_main_v53 i))

theorem v54 (i : S8x2176x2176.Idx) : val_main_v54 (F := Ideal) x2 x4 i = arr3 e.dP i := by
  rw [val_main_v54_apply]
  simp only [v53 H, v2 H.v]
  refine (Finset.sum_congr rfl fun l _ => ?_).trans
    (sum_axis 64 fun l => e.o (i 1).val (64 * (i 0).val + l) * e.v (i 2).val (64 * (i 0).val + l))
  exact (EReal.coe_mul _ _).symm

theorem v59 (i : S8x2176x2176.Idx) : val_main_v59 (F := Ideal) x0 x1 x2 x3 x4 i
    = arr3 (fun h t j => e.dP h t j * (1 / (e.total M h t * e.total M h t)) * e.weight M h t j) i := by
  rw [val_main_v59_apply, val_main_v58_apply, val_main_v57_apply, v54 H, v48 H, v41 H.toHolds H.largest]
  exact (congrArg (fun z : EReal => z * _) (EReal.coe_mul _ _).symm).trans (EReal.coe_mul _ _).symm

theorem v60 (i : S8x2176.Idx) : val_main_v60 (F := Ideal) x0 x1 x2 x3 x4 i
    = arr2 (fun h t => ∑ j ∈ Finset.range 2176, e.dP h t j * (1 / (e.total M h t * e.total M h t)) * e.weight M h t j) i := by
  rw [val_main_v60_apply]
  simp only [v59 H]
  refine (congrArg₂ (fun a b : EReal => a + b) ofBits_zero (sum_axis 2176 fun j => e.dP (i 0).val (i 1).val j
    * (1 / (e.total M (i 0).val (i 1).val * e.total M (i 0).val (i 1).val)) * e.weight M (i 0).val (i 1).val j)).trans ?_
  exact zero_add _

/-- A query's place, laid out with an axis of length one at the end. -/
theorem place {h t l : ℕ} (ht : t < 2176) (hl : l < 1) : ((h * 2176 + t) * 1 + l) / 2176 = h ∧ ((h * 2176 + t) * 1 + l) % 2176 = t := by omega

theorem v62 (i : S8x2176x1.Idx) : val_main_v62 (F := Ideal) x0 x1 x2 x3 x4 i
    = arr3 (fun h t _ => -∑ j ∈ Finset.range 2176, e.dP h t j * (1 / (e.total M h t * e.total M h t)) * e.weight M h t j) i := by
  obtain ⟨a, b⟩ := place H (h := (i 0).val) (t := (i 1).val) (l := (i 2).val) (i 1).isLt (i 2).isLt
  rw [val_main_v62_apply, val_main_v61_apply, v60 H]
  have hi : (idx_main_v61 i : S8x2176.Idx) = ix2 (i 0) (i 1) := funext fun k => Fin.ext (by
    match k with
    | ⟨0, _⟩ => exact a
    | ⟨1, _⟩ => exact b)
  rw [hi]
  exact (EReal.coe_neg _).symm

theorem v66 (i : S8x2176x2176.Idx) : val_main_v66 (F := Ideal) x0 x1 x2 x3 x4 i
    = arr3 (fun h t _ => -∑ j ∈ Finset.range 2176, e.dP h t j * (1 / (e.total M h t * e.total M h t)) * e.weight M h t j) i := by
  rw [val_main_v66_apply, val_main_v65_apply]
  simp only [v62 H, Fin.sum_univ_one]
  exact (congrArg (fun a : EReal => a + _) ofBits_zero).trans (zero_add _)

/-- The gradient of the scores. -/
theorem v69 (i : S8x2176x2176.Idx) : val_main_v69 (F := Ideal) x0 x1 x2 x3 x4 i = arr3 (fun h t j => (e.data M).dS h j t) i := by
  have h68 : val_main_v68 (F := Ideal) x0 x1 x2 x3 x4 i = arr3 (fun h t j => (e.data M).dS h j t) i := by
    rw [val_main_v68_apply, val_main_v67_apply, val_main_v64_apply, val_main_v63_apply, v54 H, v43 H, v66 H, v41 H.toHolds H.largest]
    refine (congrArg (fun z : EReal => (z + _) * _) (div_real _ (pos H (ix2 (i 0) (i 1))))).trans ?_
    refine (congrArg (fun z : EReal => z * _) (EReal.coe_add _ _).symm).trans ((EReal.coe_mul _ _).symm.trans ?_)
    exact congrArg _ (e.dS_eq M (i 0).isLt (i 1).isLt).symm
  rw [val_main_v69_apply, h68]
  unfold Scalar.select
  by_cases h : (i 2).val ≤ (i 1).val
  · rw [if_pos ((v20_1 i).2 h)]
  · rw [if_neg (mt (v20_1 i).1 h), val_main_call1_v0_apply]
    refine (show (_ : EReal) = 0 from ofBits_zero).trans ?_
    show (0 : EReal) = (((e.data M).dS (i 0).val (i 2).val (i 1).val : ℝ) : EReal)
    rw [Data.dS_zero _ (by omega)]
    rfl

/-- … scaled for the queries and the keys. -/
theorem v79 (i : S8x2176x2176.Idx) : val_main_v79 (F := Ideal) x0 x1 x2 x3 x4 i = arr3 (fun h t j => (e.data M).dS h j t * (1 / 8)) i := by
  rw [val_main_v79_apply, v69 H, val_main_v78_apply]
  refine (congrArg (fun z : EReal => arr3 _ i * z) ofBits_eighth).trans ?_
  exact (EReal.coe_mul _ _).symm

/-- Lane `j` is lane `j % 64` of head `j / 64`. -/
theorem lane {t j : ℕ} (hj : j < 512) : (t * 512 + j) / 512 = t ∧ (t * 512 + j) / 64 % 8 = j / 64 ∧ (t * 512 + j) % 64 = j % 64 := by omega

theorem v82 (i : S8x2176x64.Idx) : val_main_v82 (F := Ideal) x0 x1 x2 x3 x4 i
    = arr3 (fun h t l => ∑ j ∈ Finset.range 2176, (e.data M).dS h j t * (1 / 8) * e.k j (64 * h + l)) i := by
  rw [val_main_v82_apply]
  simp only [v79 H, v1 H.k]
  refine (Finset.sum_congr rfl fun l _ => ?_).trans
    (sum_axis 2176 fun j => (e.data M).dS (i 0).val j (i 1).val * (1 / 8) * e.k j (64 * (i 0).val + (i 2).val))
  exact (EReal.coe_mul _ _).symm

theorem v80 (i : S8x2176x64.Idx) : val_main_v80 (F := Ideal) x0 x1 x2 x3 x4 i
    = arr3 (fun h j l => ∑ t ∈ Finset.range 2176, (e.data M).dS h j t * (1 / 8) * e.q t (64 * h + l)) i := by
  rw [val_main_v80_apply]
  simp only [v79 H, v0 H.q]
  refine (Finset.sum_congr rfl fun l _ => ?_).trans
    (sum_axis 2176 fun t => (e.data M).dS (i 0).val (i 1).val t * (1 / 8) * e.q t (64 * (i 0).val + (i 2).val))
  exact (EReal.coe_mul _ _).symm

theorem v55 (i : S8x64x2176.Idx) : val_main_v55 (F := Ideal) x0 x1 x3 x4 i
    = arr3 (fun h l j => ∑ t ∈ Finset.range 2176, e.o t (64 * h + l) * (e.data M).P h j t) i := by
  rw [val_main_v55_apply]
  simp only [v53 H, v45 H]
  refine (Finset.sum_congr rfl fun l _ => ?_).trans
    (sum_axis 2176 fun t => e.o t (64 * (i 0).val + (i 1).val) * (e.data M).P (i 0).val (i 2).val t)
  exact (EReal.coe_mul _ _).symm

/-- An array of heads side by side, read at a lane. -/
theorem flat {G : ℕ → ℕ → ℕ → ℝ} {g : ℕ → ℕ → ℝ} (hG : ∀ t j, G t (j / 64) (j % 64) = g t j) (i : S2176x512.Idx) (y : S2176x8x64.Idx)
    (h0 : (y 0).val = ((i 0).val * 512 + (i 1).val) / 512) (h1 : (y 1).val = ((i 0).val * 512 + (i 1).val) / 64 % 8)
    (h2 : (y 2).val = ((i 0).val * 512 + (i 1).val) % 64) : arr3 G y = arr2 g i := by
  obtain ⟨a, b, c⟩ := lane H (t := (i 0).val) (j := (i 1).val) (i 1).isLt
  unfold arr3 arr2
  rw [h0, h1, h2, a, b, c, hG]

theorem dq (i : S2176x512.Idx) : val_main_v88 (F := Ideal) x0 x1 x2 x3 x4 i = arr2 (e.data M).gradQ i := by
  rw [val_main_v88_apply, val_main_v87_apply, val_main_v83_apply, v82 H]
  refine flat H (G := fun t h l => ∑ j ∈ Finset.range 2176, (e.data M).dS h j t * (1 / 8) * e.k j (64 * h + l)) (fun t j => ?_) i (idx_main_v87 i) rfl rfl rfl
  rw [Nat.div_add_mod, Data.gradQ, Finset.mul_sum]
  exact Finset.sum_congr rfl fun k _ => by simp only [Input.data]; ring

theorem dk (i : S2176x512.Idx) : val_main_v89 (F := Ideal) x0 x1 x2 x3 x4 i = arr2 (e.data M).gradK i := by
  rw [val_main_v89_apply, val_main_v86_apply, val_main_v81_apply, v80 H]
  refine flat H (G := fun j h l => ∑ t ∈ Finset.range 2176, (e.data M).dS h j t * (1 / 8) * e.q t (64 * h + l)) (fun t j => ?_) i (idx_main_v86 i) rfl rfl rfl
  rw [Nat.div_add_mod, Data.gradK]
  exact Finset.sum_congr rfl fun k _ => by simp only [Input.data]; ring

theorem dv (i : S2176x512.Idx) : val_main_v90 (F := Ideal) x0 x1 x3 x4 i = arr2 (e.data M).gradV i := by
  rw [val_main_v90_apply, val_main_v85_apply, val_main_v56_apply, v55 H]
  refine flat H (G := fun j h l => ∑ t ∈ Finset.range 2176, e.o t (64 * h + l) * (e.data M).P h j t) (fun t j => ?_) i (idx_main_v85 i) rfl rfl rfl
  rw [Nat.div_add_mod, Data.gradV]
  exact Finset.sum_congr rfl fun k _ => mul_comm _ _

theorem v70 (i : S8x2176.Idx) : val_main_v70 (F := Ideal) x0 x1 x2 x3 x4 i = (0 : EReal) := by
  rw [val_main_v70_apply]
  simp only [v69 H]
  refine (congrArg₂ (fun a b : EReal => a + b) ofBits_zero (sum_axis 2176 fun j => (e.data M).dS (i 0).val j (i 1).val)).trans ?_
  rw [e.sum_dS M (i 0).isLt (i 1).isLt, zero_add]
  rfl

theorem v73 (i : S8x2176.Idx) : val_main_v73 (F := Ideal) x0 x1 x2 x3 x4 i = arr2 (fun h j => -∑ t ∈ Finset.range 2176, (e.data M).dS h j t) i := by
  rw [val_main_v73_apply]
  simp only [val_main_v72_apply, v69 H]
  refine (congrArg₂ (fun a b : EReal => a + b) ofBits_zero ((Finset.sum_congr rfl fun t _ => (EReal.coe_neg _).symm).trans
    (sum_axis 2176 fun t => -(e.data M).dS (i 0).val (i 1).val t))).trans ?_
  rw [zero_add, Finset.sum_neg_distrib]
  rfl

theorem v77 (i : S8x2176.Idx) : val_main_v77 (F := Ideal) x0 x1 x2 x3 x4 i = arr2 (fun h j => -∑ t ∈ Finset.range 2176, (e.data M).dS h j t) i := by
  have hi : (idx_main_v74 (idx_main_v75 i 0) : S8x2176.Idx) = i := funext fun k => Fin.ext (by
    have h1 : (i 1).val < 2176 := (i 1).isLt
    match k with
    | ⟨0, _⟩ => show (((i 0).val * 1 + 0) * 2176 + (i 1).val) / 2176 = (i 0).val; omega
    | ⟨1, _⟩ => show (((i 0).val * 1 + 0) * 2176 + (i 1).val) % 2176 = (i 1).val; omega)
  rw [val_main_v77_apply, val_main_v75_apply, val_main_v76_apply]
  simp only [Fin.sum_univ_one, val_main_v71_apply, v70 H, val_main_v74_apply, hi, v73 H]
  refine (congrArg₂ (fun a b : EReal => a + _ + (b + 0)) ofBits_zero ofBits_zero).trans ?_
  rw [zero_add, add_zero, add_zero]

theorem dc (i : S2176x128.Idx) : val_main_v92 (F := Ideal) x0 x1 x2 x3 x4 i = arr2 (e.data M).gradC i := by
  have h84 : ∀ y, val_main_v84 (F := Ideal) x0 x1 x2 x3 x4 y = arr2 (fun j h => -∑ t ∈ Finset.range 2176, (e.data M).dS h j t) y := fun y => by
    rw [val_main_v84_apply, v77 H]
    rfl
  have h91 : ∀ y, val_main_v91 (F := Ideal) y = (0 : EReal) := fun y => by
    rw [val_main_v91_apply]
    exact ofBits_zero
  unfold val_main_v92
  generalize val_main_v84 (F := Ideal) x0 x1 x2 x3 x4 = y at h84
  generalize val_main_v91 (F := Ideal) = z at h91
  rw [eq_ix2 i]
  pointwise
  split_ifs with h
  all_goals first | rw [h84] | rw [h91]
  all_goals
    show _ = ((if (i 1).val < 8 then _ else _ : ℝ) : EReal)
    first | rw [if_pos h] | rw [if_neg h]
    rfl

end Cert.Plain

end
-- ==== Proof.Host.lean ====
/- The arrays the kernel's host code hands to the grid, in real numbers, and the blocks of them each grid point sees. -/
module

public import proofs.«01_k».proof.Proof.State
public import proofs.«01_k».proof.Proof.Grads
public import Idealize.ShloMosaic.Lib.StableHlo.Run

@[expose] public section

noncomputable section

namespace Cert.Cases

open Idealize.ShloMosaic Idealize.SL Cert.KernelIdeal Cert.KernelIdeal.Gen Idealize.ShloMosaic.StableHlo Cert.ReferenceIdeal.Read
  Cert.Reals Cert.Model Cert.Plain

variable (m : (ℓ : Loc nD τ sig) → Buf (Elt Ideal) ℓ) (c : Dev nD)

/-! The arguments. -/

abbrev a0 : Vec Ideal S2176x512 .f32 := m ((c.tc : Thread nD τ).loc main_arg0)
abbrev a1 : Vec Ideal S2176x512 .f32 := m ((c.tc : Thread nD τ).loc main_arg1)
abbrev a2 : Vec Ideal S2176x512 .f32 := m ((c.tc : Thread nD τ).loc main_arg2)
abbrev a3 : Vec Ideal S2176x8 .f32 := m ((c.tc : Thread nD τ).loc main_arg3)

abbrev a4 : Vec Ideal S2176x512 .f32 := m ((c.tc : Thread nD τ).loc main_arg4)

/-! The arrays the host code makes of them. -/

theorem V_c_t : V m c main_v9 = transpose S8x2176 [1, 0] (a3 m c) transposes_S2176x8_S8x2176_1_0 := by
  simp only [V, hostOps0, hostOps0_1, hostOps0_2, List.flatten_cons, List.flatten_nil, List.append_nil, List.cons_append, List.nil_append]
  simp only [TRef.nullary, TRef.ternary, TRef.unary, TRef.toBuf, TRef.ofBuf, cast_eq]
  after_results_simp <;> rfl

/-- The queries scaled by 1/8, the keys and the values, side by side. -/
def qkv (x0 x1 x2 : FVec Ideal S2176x512 .f32) : FVec Ideal S2176x1536 .bf16 :=
  truncf .bf16 (concatenate S2176x1536 1 [⟨S2176x512, mulf x0 (broadcastInDim S2176x512 ![] bcast_S_S2176x512 (constant (F := Ideal) S_ .f32 0x3E000000#32))⟩,
    ⟨S2176x512, x1⟩, ⟨S2176x512, x2⟩] concatenates_S2176x512_S2176x512_S2176x512_S2176x1536_d1) bitsLt_bf16_f32

/-- The gates' sums padded to 128 lanes. -/
def cPad (x3 : FVec Ideal S2176x8 .f32) : FVec Ideal S2176x128 .f32 :=
  concatenate S2176x128 1 [⟨S2176x8, x3⟩, ⟨S2176x120, broadcastInDim S2176x120 ![] bcast_S_S2176x120 (constant (F := Ideal) S_ .f32 0x00000000#32)⟩]
    concatenates_S2176x8_S2176x120_S2176x128_d1

/-- The logarithm of the sum of the weights, from the scores `s` and their row maximum `v`. -/
def lse (s : FVec Ideal S8x2176x2176 .f32) (v : FVec Ideal S8x2176 .f32) : FVec Ideal S8x2176 .f32 :=
  addf v (Host.log (Host.reduceAdd (Host.exp (subf s (broadcastInDim S8x2176x2176 ![0, 1, 2] bcast_S8x2176x1_S8x2176x2176_0_1_2
    (broadcastInDim S8x2176x1 ![0, 1] bcast_S8x2176_S8x2176x1_0_1 v)))) (constant (F := Ideal) S_ .f32 0x00000000#32) reducesTo_S8x2176x2176_S8x2176_d2 h_S_))

theorem V_qkv : V m c main_v3 = qkv (a0 m c) (a1 m c) (a2 m c) := by
  simp only [V, hostOps0, hostOps0_1, hostOps0_2, List.flatten_cons, List.flatten_nil, List.append_nil, List.cons_append, List.nil_append]
  simp only [TRef.nullary, TRef.ternary, TRef.unary, TRef.toBuf, TRef.ofBuf, cast_eq]
  after_results_simp <;> rfl

theorem V_c_pad : V m c main_v34 = cPad (a3 m c) := by
  simp only [V, hostOps0, hostOps0_1, hostOps0_2, List.flatten_cons, List.flatten_nil, List.append_nil, List.cons_append, List.nil_append]
  simp only [TRef.nullary, TRef.ternary, TRef.unary, TRef.toBuf, TRef.ofBuf, cast_eq]
  after_results_simp <;> rfl

theorem V_lse : V m c main_v32 = shapeCast S2x4x2176 (lse (val_main_v20_0 (F := Ideal) (a0 m c) (a1 m c) (a3 m c)) (val_main_v21 (F := Ideal) (a0 m c) (a1 m c) (a3 m c))) shapeCasts_S8x2176_S2x4x2176 := by
  simp only [V, hostOps0, hostOps0_1, hostOps0_2, List.flatten_cons, List.flatten_nil, List.append_nil, List.cons_append, List.nil_append]
  simp only [TRef.nullary, TRef.ternary, TRef.unary, TRef.toBuf, TRef.ofBuf, cast_eq]
  after_results_simp <;> rfl

/-! The same in real numbers. -/

variable {e : Input} {M : ℕ → ℕ → ℝ} {x0 x1 x2 x4 : Vec Ideal S2176x512 .f32} {x3 : Vec Ideal S2176x8 .f32}

/-- Scaled queries, keys and values side by side. -/
def sideBySide (e : Input) (t j : ℕ) : ℝ := if j < 512 then e.q t j * (1 / 8) else if j < 1024 then e.k t (j - 512) else e.v t (j - 1024)

theorem qkv_real (H : Holds e x0 x1 x2 x3 x4) (y) : qkv x0 x1 x2 y = arr2 (a := 2176) (b := 1536) (sideBySide e) y := by
  have h0 : ∀ y, mulf x0 (broadcastInDim S2176x512 ![] bcast_S_S2176x512 (constant (F := Ideal) S_ .f32 0x3E000000#32)) y
      = arr2 (fun t j => e.q t j * (1 / 8)) y := fun y => by
    show (x0 y : EReal) * FloatOps.ofBits (F := Ideal) .f32 0x3E000000#32 = _
    rw [H.q, ofBits_eighth]
    exact (EReal.coe_mul _ _).symm
  unfold qkv
  generalize mulf x0 (broadcastInDim S2176x512 ![] bcast_S_S2176x512 (constant (F := Ideal) S_ .f32 0x3E000000#32)) = z at h0
  rw [eq_ix2 y]
  pointwise
  show _ = ((sideBySide e (y 0).val (y 1).val : ℝ) : EReal)
  unfold sideBySide
  by_cases h1 : (y 1).val < 512
  · rw [dif_pos h1, if_pos h1]
    exact h0 _
  by_cases h2 : (y 1).val < 1024
  · have h3 : (y 1).val - 512 < 512 := by omega
    rw [dif_neg h1, if_neg h1, dif_pos h3, if_pos h2]
    exact H.k _
  · have h3 : ¬(y 1).val - 512 < 512 := by omega
    rw [dif_neg h1, if_neg h1, dif_neg h3, if_neg h2]
    refine (H.v _).trans ?_
    show ((e.v (y 0).val ((y 1).val - 512 - 512) : ℝ) : EReal) = _
    rw [Nat.sub_sub]

theorem cPad_real (H : Holds e x0 x1 x2 x3 x4) (y) : cPad x3 y = arr2 (a := 2176) (b := 128) (fun t l => (e.data M).CT l t) y := by
  unfold cPad
  rw [eq_ix2 y]
  pointwise
  show _ = (((if (y 1).val < 8 then e.C (y 0).val (y 1).val else 0 : ℝ)) : EReal)
  split_ifs
  · exact H.C _
  · rfl

theorem add_log {a b : FVec Ideal S8x2176 .f32} {y : S8x2176.Idx} {r z : ℝ} (ha : a y = (r : EReal)) (hb : b y = (z : EReal)) (hz : 0 < z) :
    addf a (Host.log b) y = ((r + Real.log z : ℝ) : EReal) := by
  show (a y : EReal) + Ideal.log (b y) = _
  rw [ha, hb, Ideal.log_coe, if_neg (not_le.2 hz)]
  exact (EReal.coe_add _ _).symm

/-- The kernel's logarithm of the sum is the plain program's largest score and sum put together. -/
theorem lse_eq (H : Weights e M x0 x1 x2 x3 x4) :
    lse (val_main_v20_0 (F := Ideal) x0 x1 x3) (val_main_v21 (F := Ideal) x0 x1 x3)
      = addf (val_main_v28 (F := Ideal) x0 x1 x3) (Host.log (val_main_v42 (F := Ideal) x0 x1 x3)) := by
  rw [show val_main_v21 (F := Ideal) x0 x1 x3 = val_main_v28 (F := Ideal) x0 x1 x3 from
    funext fun i => (H.largest i).trans (v28 H.largest i).symm]
  unfold lse val_main_v42 val_main_v41 val_main_v40 val_main_v39 val_main_v38 val_main_cst_9
  rfl

theorem lse_real (H : Weights e M x0 x1 x2 x3 x4) (y : S8x2176.Idx) :
    lse (val_main_v20_0 (F := Ideal) x0 x1 x3) (val_main_v21 (F := Ideal) x0 x1 x3) y = arr2 (a := 8) (b := 2176) (fun h t => (e.data M).LT h t) y :=
  (congrFun (lse_eq H) y).trans (add_log (v28 H.largest y) (v42 H.toHolds H.largest y) (e.total_pos M _ (y 1).isLt))

theorem c_t_real (H : Holds e x0 x1 x2 x3 x4) (y) :
    transpose S8x2176 [1, 0] x3 transposes_S2176x8_S8x2176_1_0 y = arr2 (a := 8) (b := 2176) (fun h t => (e.data M).CT h t) y := by
  have h3 : transpose S8x2176 [1, 0] x3 transposes_S2176x8_S8x2176_1_0 = val_main_v3 (F := Ideal) x3 := by
    unfold val_main_v3
    rfl
  rw [h3, Plain.v3 H]
  show ((e.C (y 1).val (y 0).val : ℝ) : EReal) = (((if (y 0).val < 8 then e.C (y 1).val (y 0).val else 0 : ℝ)) : EReal)
  rw [if_pos (show (y 0).val < 8 from (y 0).isLt)]

end Cert.Cases

end
-- ==== Proof.Blocks.lean ====
/- The blocks of the kernel's arrays each grid point sees, in real numbers. -/
module

public import proofs.«01_k».proof.Proof.Host

@[expose] public section

noncomputable section

namespace Cert.Cases

open Idealize.ShloMosaic Idealize.SL Cert.KernelIdeal Cert.KernelIdeal.Gen Cert.ReferenceIdeal.Read Cert.Reals Cert.Model Cert.Plain

variable (m : (ℓ : Loc nD τ sig) → Buf (Elt Ideal) ℓ) (c : Dev nD) {e : Input} {M : ℕ → ℕ → ℝ}

/-- Eight heads' rows, laid out as two groups of four. -/
theorem groups {z : FVec Ideal S8x2176 .f32} {G : ℕ → ℕ → ℝ} (hz : ∀ y, z y = arr2 (a := 8) (b := 2176) G y) (y : S2x4x2176.Idx) :
    shapeCast S2x4x2176 z shapeCasts_S8x2176_S2x4x2176 y = arr3 (a := 2) (b := 4) (c := 2176) (fun w k t => G (4 * w + k) t) y := by
  have h0 : (y 0).val < 2 := (y 0).isLt
  have h1 : (y 1).val < 4 := (y 1).isLt
  have h2 : (y 2).val < 2176 := (y 2).isLt
  have hk : 4 * (y 0).val + (y 1).val < 8 := by omega
  refine (Idealize.ShloMosaic.shapeCast_apply z shapeCasts_S8x2176_S2x4x2176 y (ix2 ⟨_, hk⟩ ⟨_, h2⟩) ?_).trans (hz _)
  rw [Shape.rowMajor_val_two, Shape.rowMajor_val_three]
  show (4 * (y 0).val + (y 1).val) * 2176 + (y 2).val = ((y 0).val * 4 + (y 1).val) * 2176 + (y 2).val
  rw [mul_comm 4]

theorem V_lse_real (H : Weights e M (a0 m c) (a1 m c) (a2 m c) (a3 m c) (a4 m c)) (y : S2x4x2176.Idx) :
    (V m c main_v32 : FVec Ideal S2x4x2176 .f32) y = arr3 (a := 2) (b := 4) (c := 2176) (fun w k t => (e.data M).LT (4 * w + k) t) y := by
  rw [V_lse]
  exact groups (lse_real H) y

theorem index0 : ∀ t : Fin cfg0.N, win0_0.index t (0 : Fin 2) = (grid0.coords t 1).val ∧ win0_0.index t (1 : Fin 2) = (grid0.coords t 0).val :=
  (by decide +kernel : ∀ t : Fin grid0.N, _)

theorem index1 : ∀ t : Fin cfg0.N, win0_1.index t (0 : Fin 2) = 0 ∧ win0_1.index t (1 : Fin 2) = 2 + (grid0.coords t 0).val :=
  (by decide +kernel : ∀ t : Fin grid0.N, _)

theorem index2 : ∀ t : Fin cfg0.N, win0_2.index t (0 : Fin 2) = 0 ∧ win0_2.index t (1 : Fin 2) = 4 + (grid0.coords t 0).val :=
  (by decide +kernel : ∀ t : Fin grid0.N, _)

theorem index3 : ∀ t : Fin cfg0.N, win0_3.index t (0 : Fin 2) = 0 ∧ win0_3.index t (1 : Fin 2) = 0 :=
  (by decide +kernel : ∀ t : Fin grid0.N, _)

theorem index4 : ∀ t : Fin cfg0.N, win0_4.index t (0 : Fin 2) = 0 ∧ win0_4.index t (1 : Fin 2) = (grid0.coords t 1).val :=
  (by decide +kernel : ∀ t : Fin grid0.N, _)

theorem index5 : ∀ t : Fin cfg0.N, win0_5.index t (0 : Fin 3) = (grid0.coords t 0).val ∧ win0_5.index t (1 : Fin 3) = 0
    ∧ win0_5.index t (2 : Fin 3) = (grid0.coords t 1).val :=
  (by decide +kernel : ∀ t : Fin grid0.N, _)

theorem index6 : ∀ t : Fin cfg0.N, win0_6.index t (0 : Fin 2) = (grid0.coords t 1).val ∧ win0_6.index t (1 : Fin 2) = (grid0.coords t 0).val :=
  (by decide +kernel : ∀ t : Fin grid0.N, _)

theorem block_q (H : Weights e M (a0 m c) (a1 m c) (a2 m c) (a3 m c) (a4 m c)) (t : Fin cfg0.N) :
    Is2 (φ := .bf16) (show Vec Ideal ⟨2, ![128, 256]⟩ .bf16 from iblk m c 0 t) (win (e.data M).Q (128 * (grid0.coords t 1).val) (256 * (grid0.coords t 0).val)) := fun i j => by
  have hw : (grid0.coords t 0).val < 2 := (grid0.coords t 0).isLt
  have hq : (grid0.coords t 1).val < 17 := (grid0.coords t 1).isLt
  obtain ⟨e0, e1⟩ := index0 t
  have b0 : (((cfg0.win 0).blk t).view.emb (ix2 i j) 0).val = win0_0.index t (0 : Fin 2) * 128 + 1 * i.val := rfl
  have b1 : (((cfg0.win 0).blk t).view.emb (ix2 i j) 1).val = win0_0.index t (1 : Fin 2) * 256 + 1 * j.val := rfl
  refine (congrFun (V_qkv m c) (((cfg0.win 0).blk t).view.emb (ix2 i j))).trans ((qkv_real H.toHolds _).trans ?_)
  show ((sideBySide e (((cfg0.win 0).blk t).view.emb (ix2 i j) 0).val (((cfg0.win 0).blk t).view.emb (ix2 i j) 1).val : ℝ) : EReal) = _
  rw [b0, b1, e0, e1]
  unfold sideBySide
  rw [if_pos (by omega), one_mul, one_mul, mul_comm _ 128, mul_comm _ 256]
  rfl

theorem block_k (H : Weights e M (a0 m c) (a1 m c) (a2 m c) (a3 m c) (a4 m c)) (t : Fin cfg0.N) :
    Is2 (φ := .bf16) (show Vec Ideal ⟨2, ![2176, 256]⟩ .bf16 from iblk m c 1 t) (win (e.data M).K 0 (256 * (grid0.coords t 0).val)) := fun i j => by
  have hw : (grid0.coords t 0).val < 2 := (grid0.coords t 0).isLt
  have hq : (grid0.coords t 1).val < 17 := (grid0.coords t 1).isLt
  obtain ⟨e0, e1⟩ := index1 t
  have b0 : (((cfg0.win 1).blk t).view.emb (ix2 i j) 0).val = win0_1.index t (0 : Fin 2) * 2176 + 1 * i.val := rfl
  have b1 : (((cfg0.win 1).blk t).view.emb (ix2 i j) 1).val = win0_1.index t (1 : Fin 2) * 256 + 1 * j.val := rfl
  refine (congrFun (V_qkv m c) (((cfg0.win 1).blk t).view.emb (ix2 i j))).trans ((qkv_real H.toHolds _).trans ?_)
  show ((sideBySide e (((cfg0.win 1).blk t).view.emb (ix2 i j) 0).val (((cfg0.win 1).blk t).view.emb (ix2 i j) 1).val : ℝ) : EReal) = _
  rw [b0, b1, e0, e1]
  unfold sideBySide
  rw [if_neg (by omega), if_pos (by omega), show (2 + (grid0.coords t 0).val) * 256 + 1 * j.val - 512 = 256 * (grid0.coords t 0).val + j.val by omega,
    show 0 * 2176 + 1 * i.val = 0 + i.val by omega]
  rfl

theorem block_v (H : Weights e M (a0 m c) (a1 m c) (a2 m c) (a3 m c) (a4 m c)) (t : Fin cfg0.N) :
    Is2 (φ := .bf16) (show Vec Ideal ⟨2, ![2176, 256]⟩ .bf16 from iblk m c 2 t) (win (e.data M).V 0 (256 * (grid0.coords t 0).val)) := fun i j => by
  have hw : (grid0.coords t 0).val < 2 := (grid0.coords t 0).isLt
  have hq : (grid0.coords t 1).val < 17 := (grid0.coords t 1).isLt
  obtain ⟨e0, e1⟩ := index2 t
  have b0 : (((cfg0.win 2).blk t).view.emb (ix2 i j) 0).val = win0_2.index t (0 : Fin 2) * 2176 + 1 * i.val := rfl
  have b1 : (((cfg0.win 2).blk t).view.emb (ix2 i j) 1).val = win0_2.index t (1 : Fin 2) * 256 + 1 * j.val := rfl
  refine (congrFun (V_qkv m c) (((cfg0.win 2).blk t).view.emb (ix2 i j))).trans ((qkv_real H.toHolds _).trans ?_)
  show ((sideBySide e (((cfg0.win 2).blk t).view.emb (ix2 i j) 0).val (((cfg0.win 2).blk t).view.emb (ix2 i j) 1).val : ℝ) : EReal) = _
  rw [b0, b1, e0, e1]
  unfold sideBySide
  rw [if_neg (by omega), if_neg (by omega), show (4 + (grid0.coords t 0).val) * 256 + 1 * j.val - 1024 = 256 * (grid0.coords t 0).val + j.val by omega,
    show 0 * 2176 + 1 * i.val = 0 + i.val by omega]
  rfl

theorem block_c (H : Weights e M (a0 m c) (a1 m c) (a2 m c) (a3 m c) (a4 m c)) (t : Fin cfg0.N) :
    Is2 (φ := .f32) (show Vec Ideal ⟨2, ![2176, 128]⟩ .f32 from iblk m c 3 t) (fun k h => (e.data M).CT h k) := fun i j => by
  have hw : (grid0.coords t 0).val < 2 := (grid0.coords t 0).isLt
  have hq : (grid0.coords t 1).val < 17 := (grid0.coords t 1).isLt
  obtain ⟨e0, e1⟩ := index3 t
  have b0 : (((cfg0.win 3).blk t).view.emb (ix2 i j) 0).val = win0_3.index t (0 : Fin 2) * 2176 + 1 * i.val := rfl
  have b1 : (((cfg0.win 3).blk t).view.emb (ix2 i j) 1).val = win0_3.index t (1 : Fin 2) * 128 + 1 * j.val := rfl
  refine (congrFun (V_c_pad m c) (((cfg0.win 3).blk t).view.emb (ix2 i j))).trans ((cPad_real (M := M) H.toHolds _).trans ?_)
  show (((e.data M).CT (((cfg0.win 3).blk t).view.emb (ix2 i j) 1).val (((cfg0.win 3).blk t).view.emb (ix2 i j) 0).val : ℝ) : EReal) = _
  rw [b0, b1, e0, e1, zero_mul, zero_mul, zero_add, zero_add, one_mul, one_mul]

theorem block_ct (H : Weights e M (a0 m c) (a1 m c) (a2 m c) (a3 m c) (a4 m c)) (t : Fin cfg0.N) :
    Is2 (φ := .f32) (show Vec Ideal ⟨2, ![8, 128]⟩ .f32 from iblk m c 4 t) (win (e.data M).CT 0 (128 * (grid0.coords t 1).val)) := fun i j => by
  have hw : (grid0.coords t 0).val < 2 := (grid0.coords t 0).isLt
  have hq : (grid0.coords t 1).val < 17 := (grid0.coords t 1).isLt
  obtain ⟨e0, e1⟩ := index4 t
  have b0 : (((cfg0.win 4).blk t).view.emb (ix2 i j) 0).val = win0_4.index t (0 : Fin 2) * 8 + 1 * i.val := rfl
  have b1 : (((cfg0.win 4).blk t).view.emb (ix2 i j) 1).val = win0_4.index t (1 : Fin 2) * 128 + 1 * j.val := rfl
  refine (congrFun (V_c_t m c) (((cfg0.win 4).blk t).view.emb (ix2 i j))).trans ((c_t_real (M := M) H.toHolds _).trans ?_)
  show (((e.data M).CT (((cfg0.win 4).blk t).view.emb (ix2 i j) 0).val (((cfg0.win 4).blk t).view.emb (ix2 i j) 1).val : ℝ) : EReal) = _
  rw [b0, b1, e0, e1, one_mul, one_mul, mul_comm _ 128, zero_mul]
  rfl

/-- A block of any array of log-sums: 128 tokens of the four heads of one half. -/
theorem read_lse (c : Dev nD) (A : Buf (Elt Ideal) ((c.tc : Thread nD τ).loc (Pipeline.arrRef spec0 5))) (f : ℕ → ℕ → ℕ → ℝ)
    (hA : ∀ y : S2x4x2176.Idx, (A : FVec Ideal S2x4x2176 .f32) y = ((f (y 0).val (y 1).val (y 2).val : ℝ) : EReal)) (t : Fin cfg0.N) :
    Is3 (φ := .f32) (show Vec Ideal ⟨3, ![1, 4, 128]⟩ .f32 from ((cfg0.win 5).blk t).view.read (Elt Ideal) A) (fun _ k j => f (grid0.coords t 0).val k (128 * (grid0.coords t 1).val + j)) := fun i k j => by
  have hw : (grid0.coords t 0).val < 2 := (grid0.coords t 0).isLt
  have hq : (grid0.coords t 1).val < 17 := (grid0.coords t 1).isLt
  obtain ⟨e0, e1, e2⟩ := index5 t
  have b0 : (((cfg0.win 5).blk t).view.emb (ix3 i k j) 0).val = win0_5.index t (0 : Fin 3) * 1 + 1 * i.val := rfl
  have b1 : (((cfg0.win 5).blk t).view.emb (ix3 i k j) 1).val = win0_5.index t (1 : Fin 3) * 4 + 1 * k.val := rfl
  have b2 : (((cfg0.win 5).blk t).view.emb (ix3 i k j) 2).val = win0_5.index t (2 : Fin 3) * 128 + 1 * j.val := rfl
  have hi : i.val = 0 := by omega
  refine (hA (((cfg0.win 5).blk t).view.emb (ix3 i k j))).trans ?_
  rw [b0, b1, b2, e0, e1, e2, hi, mul_zero, add_zero, mul_one, zero_mul, zero_add, one_mul, one_mul, mul_comm _ 128]

theorem block_lse (H : Weights e M (a0 m c) (a1 m c) (a2 m c) (a3 m c) (a4 m c)) (t : Fin cfg0.N) :
    Is3 (φ := .f32) (show Vec Ideal ⟨3, ![1, 4, 128]⟩ .f32 from iblk m c 5 t) (fun _ k j => (e.data M).LT (4 * (grid0.coords t 0).val + k) (128 * (grid0.coords t 1).val + j)) :=
  read_lse c (V m c main_v32) (fun w k t => (e.data M).LT (4 * w + k) t) (V_lse_real m c H) t

theorem block_o (H : Weights e M (a0 m c) (a1 m c) (a2 m c) (a3 m c) (a4 m c)) (t : Fin cfg0.N) :
    Is2 (φ := .f32) (show Vec Ideal ⟨2, ![128, 256]⟩ .f32 from iblk m c 6 t) (win (e.data M).DO (128 * (grid0.coords t 1).val) (256 * (grid0.coords t 0).val)) := fun i j => by
  have hw : (grid0.coords t 0).val < 2 := (grid0.coords t 0).isLt
  have hq : (grid0.coords t 1).val < 17 := (grid0.coords t 1).isLt
  obtain ⟨e0, e1⟩ := index6 t
  have b0 : (((cfg0.win 6).blk t).view.emb (ix2 i j) 0).val = win0_6.index t (0 : Fin 2) * 128 + 1 * i.val := rfl
  have b1 : (((cfg0.win 6).blk t).view.emb (ix2 i j) 1).val = win0_6.index t (1 : Fin 2) * 256 + 1 * j.val := rfl
  refine (congrFun (V_main_arg4 m c) (((cfg0.win 6).blk t).view.emb (ix2 i j))).trans ((H.o _).trans ?_)
  show ((e.o (((cfg0.win 6).blk t).view.emb (ix2 i j) 0).val (((cfg0.win 6).blk t).view.emb (ix2 i j) 1).val : ℝ) : EReal) = _
  rw [b0, b1, e0, e1, one_mul, one_mul, mul_comm _ 128, mul_comm _ 256]
  rfl

/-- Every grid point's windows hold the reals of the arguments. -/
theorem windows (H : Weights e M (a0 m c) (a1 m c) (a2 m c) (a3 m c) (a4 m c)) (t : Fin cfg0.N) : Windows m c t (e.data M) :=
  have hq : (grid0.coords t 1).val < 17 := (grid0.coords t 1).isLt
  ⟨(grid0.coords t 0).isLt, by omega, block_q m c H t, block_k m c H t, block_v m c H t, block_c m c H t, block_ct m c H t, block_lse m c H t,
    block_o m c H t⟩

end Cert.Cases

end
-- ==== Proof.Finite.lean ====
/- What the precondition says: every entry of every argument is a real number. -/
module

public import proofs.«01_k».proof.Pre_finite
public import proofs.«01_k».proof.Proof.Scores

@[expose] public section

noncomputable section

namespace Cert.Pre_finite

open Idealize.ShloMosaic Cert.Reals Cert.Model

theorem facts : Facts := ⟨by decide, by decide, by decide⟩

/-- Where five masks side by side hold everywhere, each of them does. -/
theorem pieces {z0 z1 z2 z4 : IVec S2176x512 1} {z3 : IVec S2176x8 1} {p}
    (h : concatenate S2176x2056 1 [⟨S2176x512, z0⟩, ⟨S2176x512, z1⟩, ⟨S2176x512, z2⟩, ⟨S2176x8, z3⟩, ⟨S2176x512, z4⟩] p = fun _ => 1#1) :
    (∀ i j, z0 (ix2 i j) = 1#1) ∧ (∀ i j, z1 (ix2 i j) = 1#1) ∧ (∀ i j, z2 (ix2 i j) = 1#1) ∧ (∀ i j, z3 (ix2 i j) = 1#1)
      ∧ ∀ i j, z4 (ix2 i j) = 1#1 := by
  have key : ∀ (i : Fin 2176) (j : Fin 2056), concatenate S2176x2056 1
      [⟨S2176x512, z0⟩, ⟨S2176x512, z1⟩, ⟨S2176x512, z2⟩, ⟨S2176x8, z3⟩, ⟨S2176x512, z4⟩] p (ix2 i j) = 1#1 := fun i j => congrFun h (ix2 i j)
  refine ⟨fun i j => ?_, fun i j => ?_, fun i j => ?_, fun i j => ?_, fun i j => ?_⟩
  · have hj := j.isLt
    have g := key i ⟨j.val, by omega⟩
    revert g
    pointwise
    exact id
  · have hj := j.isLt
    have g := key i ⟨j.val + 512, by omega⟩
    revert g
    pointwise
    rw [dif_neg (by omega), dif_pos (by omega)]
    exact (congrArg (fun l => z1 (ix2 i l)) (Fin.ext (by show j.val + 512 - 512 = j.val; omega))).symm.trans
  · have hj := j.isLt
    have g := key i ⟨j.val + 1024, by omega⟩
    revert g
    pointwise
    rw [dif_neg (by omega), dif_neg (by omega), dif_pos (by omega)]
    exact (congrArg (fun l => z2 (ix2 i l)) (Fin.ext (by show j.val + 1024 - 512 - 512 = j.val; omega))).symm.trans
  · have hj := j.isLt
    have g := key i ⟨j.val + 1536, by omega⟩
    revert g
    pointwise
    rw [dif_neg (by omega), dif_neg (by omega), dif_neg (by omega), dif_pos (by omega)]
    exact (congrArg (fun l => z3 (ix2 i l)) (Fin.ext (by show j.val + 1536 - 512 - 512 - 512 = j.val; omega))).symm.trans
  · have hj := j.isLt
    have g := key i ⟨j.val + 1544, by omega⟩
    revert g
    pointwise
    rw [dif_neg (by omega), dif_neg (by omega), dif_neg (by omega), dif_neg (by omega)]
    exact (congrArg (fun l => z4 (ix2 i l)) (Fin.ext (by show j.val + 1544 - 512 - 512 - 512 - 8 = j.val; omega))).symm.trans

/-- A number whose absolute value is below +∞ is real. -/
theorem real_of_lt {x : EReal} (h : Ideal.cmp .olt (max x (-x)) (FloatOps.ofBits (F := Ideal) .f32 0x7F800000#32) = 1#1) : ∃ r : ℝ, x = r := by
  have e : (FloatOps.ofBits (F := Ideal) .f32 0x7F800000#32 : EReal) = ⊤ := by
    show Ideal.ofBits .f32 0x7F800000#32 = ⊤
    simp [Ideal.ofBits, Ideal.ieee]
  rw [e] at h
  have h' : max x (-x) < ⊤ := by
    by_contra hc
    unfold Ideal.cmp at h
    simp only [decide_eq_false hc] at h
    exact absurd h (by decide)
  induction x using EReal.rec with
  | bot => simp at h'
  | coe r => exact ⟨r, rfl⟩
  | top => simp at h'

/-- An array of real numbers, read as reals. -/
theorem reals {a b : ℕ} {x : Vec Ideal ⟨2, ![a, b]⟩ .f32} (h : ∀ i j, ∃ r : ℝ, (x (ix2 i j) : EReal) = r) :
    ∃ f : ℕ → ℕ → ℝ, ∀ y, x y = arr2 f y := by
  choose r hr using h
  refine ⟨fun t l => if ht : t < a ∧ l < b then r ⟨t, ht.1⟩ ⟨l, ht.2⟩ else 0, fun y => ?_⟩
  refine (congrArg x (ValueIdx.eq_ix2 y)).trans ((hr (y 0) (y 1)).trans ?_)
  unfold arr2
  dsimp only
  rw [dif_pos (show (y 0).val < a ∧ (y 1).val < b from ⟨(y 0).isLt, (y 1).isLt⟩)]
  rfl

theorem holds [Facts] {x0 x1 x2 x4 : Vec Ideal S2176x512 .f32} {x3 : Vec Ideal S2176x8 .f32}
    (h : fn (F := Ideal) x0 x1 x2 x3 x4 = fun _ => 1#1) : ∃ e : Input, Plain.Holds e x0 x1 x2 x3 x4 := by
  unfold fn at h
  obtain ⟨h0, h1, h2, h3, h4⟩ := pieces h
  obtain ⟨q, hq⟩ := reals fun i j => real_of_lt (h0 i j)
  obtain ⟨k, hk⟩ := reals fun i j => real_of_lt (h1 i j)
  obtain ⟨v, hv⟩ := reals fun i j => real_of_lt (h2 i j)
  obtain ⟨C, hC⟩ := reals fun i j => real_of_lt (h3 i j)
  obtain ⟨o, ho⟩ := reals fun i j => real_of_lt (h4 i j)
  exact ⟨⟨q, k, v, o, C⟩, ⟨hq, hk, hv, hC, ho⟩⟩

end Cert.Pre_finite

end
-- ==== Proof.MlpModel.lean ====
/- The gradients of the MLP over the extended reals, and the values the kernel's body computes from its blocks.

   `Of2 x f` says that the two-axis array `x` holds, at row `i` and column `j`, the value `f i j`.
   The functions are indexed by natural numbers, so that a block is a shift of the index. -/
module

public import proofs.«01_k».proof.Proof.Gen.MlpIdeal.Value
public import proofs.«01_k».proof.Proof.Reals

@[expose] public section

noncomputable section

namespace Cert.Hidden

open Idealize.ShloMosaic

/-- The two-axis array `x` holds `f i j` at `(i, j)`. -/
def Of2 {a b : ℕ} {φ : FTy} (x : FVec Ideal ⟨2, ![a, b]⟩ φ) (f : ℕ → ℕ → EReal) : Prop :=
  ∀ (i : Fin a) (j : Fin b), x (ix2 i j) = f i j

/-- The three-axis array `x` holds `f i j k` at `(i, j, k)`. -/
def Of3 {a b c : ℕ} {φ : FTy} (x : FVec Ideal ⟨3, ![a, b, c]⟩ φ) (f : ℕ → ℕ → ℕ → EReal) : Prop :=
  ∀ (i : Fin a) (j : Fin b) (k : Fin c), x (ix3 i j k) = f i j k

/-- The entries of an array, as a function of natural numbers. -/
def entries {a b : ℕ} (x : (⟨2, ![a, b]⟩ : Shape).Idx → EReal) (i j : ℕ) : EReal :=
  if h : i < a ∧ j < b then x (ix2 ⟨i, h.1⟩ ⟨j, h.2⟩) else 0

theorem entries_of {a b : ℕ} {φ : FTy} (x : FVec Ideal ⟨2, ![a, b]⟩ φ) : Of2 x (entries x) := fun i j => by
  unfold entries
  rw [dif_pos ⟨i.isLt, j.isLt⟩]

/-- The layer before the activation: `z · w_up`. -/
def up (Z U : ℕ → ℕ → EReal) (t f : ℕ) : EReal := ∑ k : Fin 1024, Z t k * U k f

/-- The gradient of the layer after the activation: `dh · w_downᵀ`. -/
def back (H W : ℕ → ℕ → EReal) (t f : ℕ) : EReal := ∑ k : Fin 1024, H t k * W f k

/-- The gradient of the layer before the squared activation. -/
def gradUp (P H W : ℕ → ℕ → EReal) (t f : ℕ) : EReal := back H W t f * (2 * max (P t f) 0)

/-- The gradient of `w_down`. -/
def gradDown (P H : ℕ → ℕ → EReal) (f d : ℕ) : EReal := ∑ t : Fin 2176, max (P t f) 0 * max (P t f) 0 * H t d

/-- The gradient of `w_up`. -/
def gradIn (P H W Z : ℕ → ℕ → EReal) (d f : ℕ) : EReal := ∑ t : Fin 2176, Z t d * gradUp P H W t f

theorem two : (FloatOps.ofBits (F := Ideal) .f32 0x40000000#32 : EReal) = 2 := by
  show Ideal.ofBits .f32 0x40000000#32 = 2
  simp only [Ideal.ofBits, Ideal.ieee]
  norm_num [show BitVec.extractLsb' 31 1 1073741824#32 ≠ 1#1 by decide, show (1073741824 >>> 23 : ℕ) = 128 by decide]
  rfl

theorem zero : (FloatOps.ofBits (F := Ideal) .f32 0x00000000#32 : EReal) = 0 := Ideal.ofBits_zero_f32

section Body

open Cert.MlpIdeal Cert.MlpIdeal.Gen

variable {a b c : ℕ} {φ : FTy} {f : ℕ → ℕ → EReal}

theorem Of2.castSame {x : FVec Ideal ⟨2, ![a, b]⟩ φ} (h) (hx : Of2 x f) : Of2 (shapeCast ⟨2, ![a, b]⟩ x h) f := fun i j => by
  pointwise; exact hx i j

theorem Of2.drop {f : ℕ → ℕ → ℕ → EReal} {x : FVec Ideal ⟨3, ![1, a, b]⟩ φ} (h) (hx : Of3 x f) : Of2 (shapeCast ⟨2, ![a, b]⟩ x h) (f 0) :=
  fun i j => (ValueIdx.shapeCast_1ab_ab_apply x h i j).trans (hx 0 i j)

theorem Of3.lift {x : FVec Ideal ⟨2, ![a, b]⟩ φ} (h) (hx : Of2 x f) : Of3 (shapeCast ⟨3, ![1, a, b]⟩ x h) (fun _ => f) :=
  fun i j k => (ValueIdx.shapeCast_ab_1ab_apply x h i j k).trans (hx j k)

variable {x0 x1 : Vec Ideal S2176x1024 .bf16} {x2 : Vec Ideal S1x512x1024 .bf16} {x3 : Vec Ideal S2176x512 .bf16}
  {P H W Z : ℕ → ℕ → EReal} {w : ℕ → ℕ → ℕ → EReal}

theorem pay1 (h : Of2 (a := 2176) (b := 1024) (φ := .bf16) x0 H) : Of2 (a := 2176) (b := 1024) (φ := .bf16) (k0_pay1 x0) H := h.castSame _

theorem pay2 (h : Of2 (a := 2176) (b := 512) (φ := .bf16) x3 P) :
    Of2 (a := 2176) (b := 512) (φ := .f32) (k0_pay2 x3) fun t f => max (P t f) 0 := fun i j =>
  congrArg₂ max ((h.castSame shapeCasts_S2176x512_S2176x512) i j) zero

/-- Rows against rows. -/
theorem mm_rows {x : FVec Ideal S2176x1024 .bf16} {y : FVec Ideal S512x1024 .bf16} (hx : Of2 (a := 2176) (b := 1024) (φ := .bf16) x H)
    (hy : Of2 (a := 512) (b := 1024) (φ := .bf16) y W) :
    Of2 (a := 2176) (b := 512) (φ := .f32) (matmul dot_S2176x1024_S512x1024_S2176x512_1_1_0_0_n_n none x y (constant S2176x512 .f32 0x00000000#32)) (back H W) := fun i j => by
  refine (Ideal.matmul_apply₁_of dot_S2176x1024_S512x1024_S2176x512_1_1_0_0_n_n (a := 1) rfl (K := 1024) rfl x y _ (ix2 i j) (fun k => ix2 i k) (fun k => ix2 j k) ?_ ?_).trans ?_
  · intro k; funext e; refine Fin.ext ?_; fin_cases e <;> rfl
  · intro k; funext e; refine Fin.ext ?_; fin_cases e <;> rfl
  · refine (congrArg₂ (· + ·) zero (Finset.sum_congr rfl fun k _ => congrArg₂ (· * ·) (hx i k) (hy j k))).trans (zero_add _)

/-- Columns against columns. -/
theorem mm_cols5 {x : FVec Ideal S2176x512 .bf16} {y : FVec Ideal S2176x1024 .bf16} {f g : ℕ → ℕ → EReal} (hx : Of2 (a := 2176) (b := 512) (φ := .bf16) x f)
    (hy : Of2 (a := 2176) (b := 1024) (φ := .bf16) y g) :
    Of2 (a := 512) (b := 1024) (φ := .f32) (matmul dot_S2176x512_S2176x1024_S512x1024_0_0_1_1_n_n none x y (constant S512x1024 .f32 0x00000000#32))
      fun i j => ∑ t : Fin 2176, f t i * g t j := fun i j => by
  refine (Ideal.matmul_apply₁_of dot_S2176x512_S2176x1024_S512x1024_0_0_1_1_n_n (a := 0) rfl (K := 2176) rfl x y _ (ix2 i j) (fun k => ix2 k i) (fun k => ix2 k j) ?_ ?_).trans ?_
  · intro k; funext e; refine Fin.ext ?_; fin_cases e <;> rfl
  · intro k; funext e; refine Fin.ext ?_; fin_cases e <;> rfl
  · refine (congrArg₂ (· + ·) zero (Finset.sum_congr rfl fun k _ => congrArg₂ (· * ·) (hx k i) (hy k j))).trans (zero_add _)

theorem mm_cols6 {x : FVec Ideal S2176x1024 .bf16} {y : FVec Ideal S2176x512 .bf16} {f g : ℕ → ℕ → EReal} (hx : Of2 (a := 2176) (b := 1024) (φ := .bf16) x f)
    (hy : Of2 (a := 2176) (b := 512) (φ := .bf16) y g) :
    Of2 (a := 1024) (b := 512) (φ := .f32) (matmul dot_S2176x1024_S2176x512_S1024x512_0_0_1_1_n_n none x y (constant S1024x512 .f32 0x00000000#32))
      fun i j => ∑ t : Fin 2176, f t i * g t j := fun i j => by
  refine (Ideal.matmul_apply₁_of dot_S2176x1024_S2176x512_S1024x512_0_0_1_1_n_n (a := 0) rfl (K := 2176) rfl x y _ (ix2 i j) (fun k => ix2 k i) (fun k => ix2 k j) ?_ ?_).trans ?_
  · intro k; funext e; refine Fin.ext ?_; fin_cases e <;> rfl
  · intro k; funext e; refine Fin.ext ?_; fin_cases e <;> rfl
  · refine (congrArg₂ (· + ·) zero (Finset.sum_congr rfl fun k _ => congrArg₂ (· * ·) (hx k i) (hy k j))).trans (zero_add _)

theorem pay3 (h0 : Of2 (a := 2176) (b := 1024) (φ := .bf16) x0 H) (h3 : Of2 (a := 2176) (b := 512) (φ := .bf16) x3 P)
    (h2 : Of3 (a := 1) (b := 512) (c := 1024) (φ := .bf16) x2 w) : Of2 (a := 2176) (b := 512) (φ := .bf16) (k0_pay3 x0 x3 x2) (gradUp P H (w 0)) := fun i j =>
  congrArg₂ (· * ·) (mm_rows (pay1 h0) (Of2.drop shapeCasts_S1x512x1024_S512x1024 h2) i j) (congrArg₂ (· * ·) two (pay2 h3 i j))

theorem pay4 (h0 : Of2 (a := 2176) (b := 1024) (φ := .bf16) x0 H) (h3 : Of2 (a := 2176) (b := 512) (φ := .bf16) x3 P)
    (h2 : Of3 (a := 1) (b := 512) (c := 1024) (φ := .bf16) x2 w) : Of2 (a := 2176) (b := 512) (φ := .bf16) (k0_pay4 x0 x3 x2) (gradUp P H (w 0)) :=
  (pay3 h0 h3 h2).castSame _

theorem pay5 (h0 : Of2 (a := 2176) (b := 1024) (φ := .bf16) x0 H) (h3 : Of2 (a := 2176) (b := 512) (φ := .bf16) x3 P) :
    Of2 (a := 512) (b := 1024) (φ := .bf16) (k0_pay5 x0 x3) (gradDown P H) := by
  have hs : Of2 (a := 2176) (b := 512) (φ := .bf16) (truncf .bf16 (mulf (k0_pay2 x3) (k0_pay2 x3)) bitsLt_bf16_f32) fun t f => max (P t f) 0 * max (P t f) 0 :=
    fun i j => congrArg₂ (· * ·) (pay2 h3 i j) (pay2 h3 i j)
  have hm : Of2 (a := 512) (b := 1024) (φ := .bf16) (truncf .bf16 (matmul dot_S2176x512_S2176x1024_S512x1024_0_0_1_1_n_n none
      (truncf .bf16 (mulf (k0_pay2 x3) (k0_pay2 x3)) bitsLt_bf16_f32) (k0_pay1 x0) (constant S512x1024 .f32 0x00000000#32)) bitsLt_bf16_f32) (gradDown P H) :=
    mm_cols5 hs (pay1 h0)
  exact hm.castSame _

theorem pay6 (h0 : Of2 (a := 2176) (b := 1024) (φ := .bf16) x0 H) (h3 : Of2 (a := 2176) (b := 512) (φ := .bf16) x3 P)
    (h2 : Of3 (a := 1) (b := 512) (c := 1024) (φ := .bf16) x2 w) (h1 : Of2 (a := 2176) (b := 1024) (φ := .bf16) x1 Z) :
    Of3 (a := 1) (b := 1024) (c := 512) (φ := .bf16) (k0_pay6 x0 x3 x2 x1) fun _ => gradIn P H (w 0) Z := by
  have hm : Of2 (a := 1024) (b := 512) (φ := .bf16) (truncf .bf16 (matmul dot_S2176x1024_S2176x512_S1024x512_0_0_1_1_n_n none
      (shapeCast S2176x1024 x1 shapeCasts_S2176x1024_S2176x1024) (k0_pay3 x0 x3 x2) (constant S1024x512 .f32 0x00000000#32)) bitsLt_bf16_f32) (gradIn P H (w 0) Z) :=
    mm_cols6 (h1.castSame _) (pay3 h0 h3 h2)
  exact Of3.lift _ hm

/-! What a point leaves in its three output blocks. -/

theorem hz2 : (![0, 0] : Fin 2 → ℕ) = fun _ => 0 := by funext a; fin_cases a <;> rfl
theorem hz3 : (![0, 0, 0] : Fin 3 → ℕ) = fun _ => 0 := by funext a; fin_cases a <;> rfl

theorem ld0 (x : Vec Ideal S2176x1024 .bf16) : View.ld x r0_0 = x := View.ld_unit_zero hz2 inb_S2176x1024_S2176x1024_0_0 x
theorem ld1 (x : Vec Ideal S2176x512 .bf16) : View.ld x r0_1 = x := View.ld_unit_zero hz2 inb_S2176x512_S2176x512_0_0 x
theorem ld2 (x : Vec Ideal S1x512x1024 .bf16) : View.ld x r0_2 = x := View.ld_unit_zero hz3 inb_S1x512x1024_S1x512x1024_0_0_0 x

theorem out4 : out0_4 x0 x1 x2 x3 = k0_pay4 x0 x3 x2 := by
  unfold out0_4
  rw [ld0, ld1, ld2]
  exact View.canon_cons_unit_zero hz2 inb_S2176x512_S2176x512_0_0 _ _

theorem out5 : out0_5 x0 x1 x2 x3 = k0_pay5 x0 x3 := by
  unfold out0_5
  rw [ld0, ld1]
  exact View.canon_cons_unit_zero hz2 inb_S512x1024_S512x1024_0_0 _ _

theorem out6 : out0_6 x0 x1 x2 x3 = k0_pay6 x0 x3 x2 x1 := by
  unfold out0_6
  rw [ld0, ld1, ld2, ld0]
  exact View.canon_cons_unit_zero hz3 inb_S1x1024x512_S1x1024x512_0_0_0 _ _

end Body

end Cert.Hidden

end
-- ==== Proof.MlpArrays.lean ====
/- The arrays of the MLP's kernel: what its host code hands to the grid, the blocks each point sees, and the three result arrays. -/
module

public import proofs.«01_k».proof.Proof.MlpModel
public import proofs.«01_k».proof.Proof.Gen.MlpReferenceIdeal.Read
public import Idealize.ShloMosaic.Lib.StableHlo.Run
public import Idealize.ShloMosaic.Lib.Pipeline.Value

@[expose] public section

noncomputable section

namespace Cert.Hidden

open Idealize.ShloMosaic Idealize.SL Cert.MlpIdeal Cert.MlpIdeal.Gen Idealize.ShloMosaic.StableHlo

variable (m : (ℓ : Loc nD τ sig) → Buf (Elt Ideal) ℓ) (c : Dev nD)

/-! The arguments, and their entries. -/

abbrev a0 : Vec Ideal S2176x1024 .f32 := m ((c.tc : Thread nD τ).loc main_arg0)
abbrev a1 : Vec Ideal S1024x4096 .f32 := m ((c.tc : Thread nD τ).loc main_arg1)
abbrev a2 : Vec Ideal S4096x1024 .f32 := m ((c.tc : Thread nD τ).loc main_arg2)
abbrev a3 : Vec Ideal S2176x1024 .f32 := m ((c.tc : Thread nD τ).loc main_arg3)

abbrev eZ : ℕ → ℕ → EReal := entries (a := 2176) (b := 1024) (a0 m c)
abbrev eU : ℕ → ℕ → EReal := entries (a := 1024) (b := 4096) (a1 m c)
abbrev eW : ℕ → ℕ → EReal := entries (a := 4096) (b := 1024) (a2 m c)
abbrev eH : ℕ → ℕ → EReal := entries (a := 2176) (b := 1024) (a3 m c)
abbrev eP : ℕ → ℕ → EReal := up (eZ m c) (eU m c)

/-! The arrays the host code makes of them. -/

theorem V_up : V m c main_v1 = (show FVec Ideal S2176x4096 .bf16 from truncf .bf16 (Host.dotGeneral dot_S2176x1024_S1024x4096_S2176x4096_1_0_0_1_n_n none (show FVec Ideal S2176x1024 .f32 from a0 m c) (show FVec Ideal S1024x4096 .f32 from a1 m c)) bitsLt_bf16_f32) := by
  simp only [V, hostOps0]
  after_results_simp <;> rfl

theorem V_dh : V m c main_v2 = (show FVec Ideal S2176x1024 .bf16 from truncf .bf16 (show FVec Ideal S2176x1024 .f32 from a3 m c) bitsLt_bf16_f32) := by
  simp only [V, hostOps0]
  after_results_simp <;> rfl

theorem V_w : V m c main_v4 = (show FVec Ideal S4x1024x1024 .bf16 from truncf .bf16 (shapeCast S4x1024x1024 (show FVec Ideal S4096x1024 .f32 from a2 m c) shapeCasts_S4096x1024_S4x1024x1024) bitsLt_bf16_f32) := by
  simp only [V, hostOps0]
  after_results_simp <;> rfl

theorem V_z : V m c main_v5 = (show FVec Ideal S2176x1024 .bf16 from truncf .bf16 (show FVec Ideal S2176x1024 .f32 from a0 m c) bitsLt_bf16_f32) := by
  simp only [V, hostOps0]
  after_results_simp <;> rfl

/-- A product of two arrays, entry by entry. -/
theorem up_of {x0 : FVec Ideal S2176x1024 .f32} {x1 : FVec Ideal S1024x4096 .f32} {Z U : ℕ → ℕ → EReal} (h0 : Of2 (a := 2176) (b := 1024) (φ := .f32) x0 Z)
    (h1 : Of2 (a := 1024) (b := 4096) (φ := .f32) x1 U) (y : S2176x4096.Idx) :
    Cert.MlpReferenceIdeal.Read.val_main_v0 (F := Ideal) x0 x1 y = up Z U (y 0).val (y 1).val :=
  (Cert.MlpReferenceIdeal.Read.val_main_v0_apply x0 x1 y).trans (Finset.sum_congr rfl fun k _ => congrArg₂ (· * ·)
    ((congrArg x0 (ValueIdx.eq_ix2 _)).trans (h0 _ _)) ((congrArg x1 (ValueIdx.eq_ix2 _)).trans (h1 _ _)))

theorem V_up_at (y : S2176x4096.Idx) : (V m c main_v1 : FVec Ideal S2176x4096 .bf16) y = eP m c (y 0).val (y 1).val :=
  (congrFun (V_up m c) y).trans (up_of (entries_of (a := 2176) (b := 1024) (φ := .f32) (a0 m c)) (entries_of (a := 1024) (b := 4096) (φ := .f32) (a1 m c)) y)

theorem V_dh_at (y : S2176x1024.Idx) : (V m c main_v2 : FVec Ideal S2176x1024 .bf16) y = eH m c (y 0).val (y 1).val :=
  (congrFun (V_dh m c) y).trans ((congrArg (a3 m c) (ValueIdx.eq_ix2 y)).trans (entries_of (a := 2176) (b := 1024) (φ := .f32) (a3 m c) _ _))

theorem V_z_at (y : S2176x1024.Idx) : (V m c main_v5 : FVec Ideal S2176x1024 .bf16) y = eZ m c (y 0).val (y 1).val :=
  (congrFun (V_z m c) y).trans ((congrArg (a0 m c) (ValueIdx.eq_ix2 y)).trans (entries_of (a := 2176) (b := 1024) (φ := .f32) (a0 m c) _ _))

/-- The rows laid out as four slabs. -/
theorem slabs {x : FVec Ideal S4096x1024 .f32} {W : ℕ → ℕ → EReal} (h : Of2 (a := 4096) (b := 1024) (φ := .f32) x W) (y : S4x1024x1024.Idx) :
    shapeCast S4x1024x1024 x shapeCasts_S4096x1024_S4x1024x1024 y = W (1024 * (y 0).val + (y 1).val) (y 2).val := by
  have h0 : (y 0).val < 4 := (y 0).isLt
  have h1 : (y 1).val < 1024 := (y 1).isLt
  have h2 : (y 2).val < 1024 := (y 2).isLt
  have hr : 1024 * (y 0).val + (y 1).val < 4096 := by omega
  refine (shapeCast_apply x shapeCasts_S4096x1024_S4x1024x1024 y (ix2 (show Fin 4096 from ⟨_, hr⟩) (show Fin 1024 from ⟨_, h2⟩)) ?_).trans (h _ _)
  rw [Shape.rowMajor_val_two, Shape.rowMajor_val_three]
  show (1024 * (y 0).val + (y 1).val) * 1024 + (y 2).val = ((y 0).val * 1024 + (y 1).val) * 1024 + (y 2).val
  omega

theorem V_w_at (y : S4x1024x1024.Idx) : (V m c main_v4 : FVec Ideal S4x1024x1024 .bf16) y = eW m c (1024 * (y 0).val + (y 1).val) (y 2).val :=
  (congrFun (V_w m c) y).trans (slabs (entries_of (a := 4096) (b := 1024) (φ := .f32) (a2 m c)) y)

/-! The blocks. -/

theorem index0 : ∀ t : Fin cfg0.N, win0_0.index t (0 : Fin 2) = 0 ∧ win0_0.index t (1 : Fin 2) = 0 :=
  (by decide +kernel : ∀ t : Fin grid0.N, _)

theorem index1 : ∀ t : Fin cfg0.N, win0_1.index t (0 : Fin 2) = 0 ∧ win0_1.index t (1 : Fin 2) = 0 :=
  (by decide +kernel : ∀ t : Fin grid0.N, _)

theorem index2 : ∀ t : Fin cfg0.N, win0_2.index t (0 : Fin 3) = t.val / 2 ∧ win0_2.index t (1 : Fin 3) = t.val % 2 ∧ win0_2.index t (2 : Fin 3) = 0 :=
  (by decide +kernel : ∀ t : Fin grid0.N, _)

theorem index3 : ∀ t : Fin cfg0.N, win0_3.index t (0 : Fin 2) = 0 ∧ win0_3.index t (1 : Fin 2) = t.val :=
  (by decide +kernel : ∀ t : Fin grid0.N, _)

theorem index4 : ∀ t : Fin cfg0.N, win0_4.index t (0 : Fin 2) = 0 ∧ win0_4.index t (1 : Fin 2) = t.val :=
  (by decide +kernel : ∀ t : Fin grid0.N, _)

theorem index5 : ∀ t : Fin cfg0.N, win0_5.index t (0 : Fin 2) = t.val ∧ win0_5.index t (1 : Fin 2) = 0 :=
  (by decide +kernel : ∀ t : Fin grid0.N, _)

theorem index6 : ∀ t : Fin cfg0.N, win0_6.index t (0 : Fin 3) = t.val / 2 ∧ win0_6.index t (1 : Fin 3) = 0 ∧ win0_6.index t (2 : Fin 3) = t.val % 2 :=
  (by decide +kernel : ∀ t : Fin grid0.N, _)

theorem read0 (A : Buf (Elt Ideal) ((c.tc : Thread nD τ).loc (Pipeline.arrRef spec0 0))) (f : ℕ → ℕ → EReal)
    (hA : ∀ y : S2176x1024.Idx, (A : FVec Ideal S2176x1024 .bf16) y = f (y 0).val (y 1).val) (t : Fin cfg0.N) :
    Of2 (a := 2176) (b := 1024) (φ := .bf16) (show Vec Ideal S2176x1024 .bf16 from ((cfg0.win 0).blk t).view.read (Elt Ideal) A) f := fun i j => by
  obtain ⟨e0, e1⟩ := index0 t
  have b0 : (((cfg0.win 0).blk t).view.emb (ix2 i j) 0).val = win0_0.index t (0 : Fin 2) * 2176 + 1 * i.val := rfl
  have b1 : (((cfg0.win 0).blk t).view.emb (ix2 i j) 1).val = win0_0.index t (1 : Fin 2) * 1024 + 1 * j.val := rfl
  refine (hA (((cfg0.win 0).blk t).view.emb (ix2 i j))).trans ?_
  rw [b0, b1, e0, e1, zero_mul, zero_mul, zero_add, zero_add, one_mul, one_mul]

theorem read1 (A : Buf (Elt Ideal) ((c.tc : Thread nD τ).loc (Pipeline.arrRef spec0 1))) (f : ℕ → ℕ → EReal)
    (hA : ∀ y : S2176x1024.Idx, (A : FVec Ideal S2176x1024 .bf16) y = f (y 0).val (y 1).val) (t : Fin cfg0.N) :
    Of2 (a := 2176) (b := 1024) (φ := .bf16) (show Vec Ideal S2176x1024 .bf16 from ((cfg0.win 1).blk t).view.read (Elt Ideal) A) f := fun i j => by
  obtain ⟨e0, e1⟩ := index1 t
  have b0 : (((cfg0.win 1).blk t).view.emb (ix2 i j) 0).val = win0_1.index t (0 : Fin 2) * 2176 + 1 * i.val := rfl
  have b1 : (((cfg0.win 1).blk t).view.emb (ix2 i j) 1).val = win0_1.index t (1 : Fin 2) * 1024 + 1 * j.val := rfl
  refine (hA (((cfg0.win 1).blk t).view.emb (ix2 i j))).trans ?_
  rw [b0, b1, e0, e1, zero_mul, zero_mul, zero_add, zero_add, one_mul, one_mul]

theorem read2 (A : Buf (Elt Ideal) ((c.tc : Thread nD τ).loc (Pipeline.arrRef spec0 2))) (f : ℕ → ℕ → EReal)
    (hA : ∀ y : S4x1024x1024.Idx, (A : FVec Ideal S4x1024x1024 .bf16) y = f (1024 * (y 0).val + (y 1).val) (y 2).val) (t : Fin cfg0.N) :
    Of3 (a := 1) (b := 512) (c := 1024) (φ := .bf16) (show Vec Ideal S1x512x1024 .bf16 from ((cfg0.win 2).blk t).view.read (Elt Ideal) A)
      (fun _ j k => f (512 * t.val + j) k) := fun i j k => by
  obtain ⟨e0, e1, e2⟩ := index2 t
  have b0 : (((cfg0.win 2).blk t).view.emb (ix3 i j k) 0).val = win0_2.index t (0 : Fin 3) * 1 + 1 * i.val := rfl
  have b1 : (((cfg0.win 2).blk t).view.emb (ix3 i j k) 1).val = win0_2.index t (1 : Fin 3) * 512 + 1 * j.val := rfl
  have b2 : (((cfg0.win 2).blk t).view.emb (ix3 i j k) 2).val = win0_2.index t (2 : Fin 3) * 1024 + 1 * k.val := rfl
  have hi : i.val = 0 := by omega
  refine (hA (((cfg0.win 2).blk t).view.emb (ix3 i j k))).trans ?_
  rw [b0, b1, b2, e0, e1, e2, hi]
  exact congrArg₂ f (by omega) (by omega)

theorem read3 (A : Buf (Elt Ideal) ((c.tc : Thread nD τ).loc (Pipeline.arrRef spec0 3))) (f : ℕ → ℕ → EReal)
    (hA : ∀ y : S2176x4096.Idx, (A : FVec Ideal S2176x4096 .bf16) y = f (y 0).val (y 1).val) (t : Fin cfg0.N) :
    Of2 (a := 2176) (b := 512) (φ := .bf16) (show Vec Ideal S2176x512 .bf16 from ((cfg0.win 3).blk t).view.read (Elt Ideal) A)
      (fun i j => f i (512 * t.val + j)) := fun i j => by
  obtain ⟨e0, e1⟩ := index3 t
  have b0 : (((cfg0.win 3).blk t).view.emb (ix2 i j) 0).val = win0_3.index t (0 : Fin 2) * 2176 + 1 * i.val := rfl
  have b1 : (((cfg0.win 3).blk t).view.emb (ix2 i j) 1).val = win0_3.index t (1 : Fin 2) * 512 + 1 * j.val := rfl
  refine (hA (((cfg0.win 3).blk t).view.emb (ix2 i j))).trans ?_
  rw [b0, b1, e0, e1]
  exact congrArg₂ f (by omega) (by omega)

theorem block0 (t : Fin cfg0.N) : Of2 (a := 2176) (b := 1024) (φ := .bf16) (show Vec Ideal S2176x1024 .bf16 from iblk m c 0 t) (eH m c) :=
  read0 c (V m c main_v2) (eH m c) (V_dh_at m c) t

theorem block1 (t : Fin cfg0.N) : Of2 (a := 2176) (b := 1024) (φ := .bf16) (show Vec Ideal S2176x1024 .bf16 from iblk m c 1 t) (eZ m c) :=
  read1 c (V m c main_v5) (eZ m c) (V_z_at m c) t

theorem block2 (t : Fin cfg0.N) : Of3 (a := 1) (b := 512) (c := 1024) (φ := .bf16) (show Vec Ideal S1x512x1024 .bf16 from iblk m c 2 t)
    (fun _ j k => eW m c (512 * t.val + j) k) :=
  read2 c (V m c main_v4) (eW m c) (V_w_at m c) t

theorem block3 (t : Fin cfg0.N) : Of2 (a := 2176) (b := 512) (φ := .bf16) (show Vec Ideal S2176x512 .bf16 from iblk m c 3 t)
    (fun i j => eP m c i (512 * t.val + j)) :=
  read3 c (V m c main_v1) (eP m c) (V_up_at m c) t

/-! Where an entry lies in a point's block. -/

theorem mem4 (t : Fin cfg0.N) (i : S2176x4096.Idx) : i ∈ ((cfg0.win 4).blk t).view.set
    ↔ ∀ a : Fin 2, win0_4.index t a * ((![2176, 512] : Fin 2 → ℕ) a) ≤ (i a).val ∧ (i a).val < win0_4.index t a * ((![2176, 512] : Fin 2 → ℕ) a) + (![2176, 512] : Fin 2 → ℕ) a := by
  show i ∈ ((View.whole main_v6_0).slice (win0_4.rect t)).set ↔ _
  rw [View.set_slice_whole, Rect.mem_set_unit]
  exact Iff.rfl

theorem mem5 (t : Fin cfg0.N) (i : S4096x1024.Idx) : i ∈ ((cfg0.win 5).blk t).view.set
    ↔ ∀ a : Fin 2, win0_5.index t a * ((![512, 1024] : Fin 2 → ℕ) a) ≤ (i a).val ∧ (i a).val < win0_5.index t a * ((![512, 1024] : Fin 2 → ℕ) a) + (![512, 1024] : Fin 2 → ℕ) a := by
  show i ∈ ((View.whole main_v6_1).slice (win0_5.rect t)).set ↔ _
  rw [View.set_slice_whole, Rect.mem_set_unit]
  exact Iff.rfl

theorem mem6 (t : Fin cfg0.N) (i : S4x1024x1024.Idx) : i ∈ ((cfg0.win 6).blk t).view.set
    ↔ ∀ a : Fin 3, win0_6.index t a * ((![1, 1024, 512] : Fin 3 → ℕ) a) ≤ (i a).val ∧ (i a).val < win0_6.index t a * ((![1, 1024, 512] : Fin 3 → ℕ) a) + (![1, 1024, 512] : Fin 3 → ℕ) a := by
  show i ∈ ((View.whole main_v6_2).slice (win0_6.rect t)).set ↔ _
  rw [View.set_slice_whole, Rect.mem_set_unit]
  exact Iff.rfl

/-- An array of two axes from its entries. -/
def grid2 {a b : ℕ} (f : ℕ → ℕ → EReal) : (⟨2, ![a, b]⟩ : Shape).Idx → EReal := fun y => f (y 0).val (y 1).val

/-- The gradient of `w_up` in slabs of 1024 columns. -/
def slabs3 (f : ℕ → ℕ → EReal) : S4x1024x1024.Idx → EReal := fun y => f (y 1).val (1024 * (y 0).val + (y 2).val)

theorem at_ix2 {a b : ℕ} {φ : FTy} {x : FVec Ideal ⟨2, ![a, b]⟩ φ} {f : ℕ → ℕ → EReal} (h : Of2 x f) (y : (⟨2, ![a, b]⟩ : Shape).Idx) : x y = f (y 0).val (y 1).val :=
  (congrArg x (ValueIdx.eq_ix2 y)).trans (h _ _)

theorem at_ix3 {a b c : ℕ} {φ : FTy} {x : FVec Ideal ⟨3, ![a, b, c]⟩ φ} {f : ℕ → ℕ → ℕ → EReal} (h : Of3 x f) (y : (⟨3, ![a, b, c]⟩ : Shape).Idx) :
    x y = f (y 0).val (y 1).val (y 2).val :=
  (congrArg x (ValueIdx.eq_ix3 y)).trans (h _ _ _)

/-- The gradient before the squared activation. -/
theorem final4 : (dats m 0 c).arrAt 4 cfg0.N = grid2 (a := 2176) (b := 4096) (gradUp (eP m c) (eH m c) (eW m c)) := by
  refine (dats m 0 c).arrAt_eq_of_cover 4 (grid2 (a := 2176) (b := 4096) (gradUp (eP m c) (eH m c) (eW m c))) (fun t _ => ?_) fun i => ?_
  · obtain ⟨e0, e1⟩ := index4 t
    show (cfg0.win 4).cut (grid0.coords t) ((dats m 0 c).after 4 t) = _
    rw [after0_4, out4]
    funext y
    have b0 : (((cfg0.win 4).blk t).view.emb y 0).val = win0_4.index t (0 : Fin 2) * 2176 + 1 * (y 0).val := rfl
    have b1 : (((cfg0.win 4).blk t).view.emb y 1).val = win0_4.index t (1 : Fin 2) * 512 + 1 * (y 1).val := rfl
    refine (at_ix2 (pay4 (block0 m c t) (block3 m c t) (block2 m c t)) ((cfg0.win 4).xinj (grid0.coords t) y)).trans ?_
    show gradUp (eP m c) (eH m c) (eW m c) (y 0).val (512 * t.val + (y 1).val)
      = gradUp (eP m c) (eH m c) (eW m c) (((cfg0.win 4).blk t).view.emb y 0).val (((cfg0.win 4).blk t).view.emb y 1).val
    rw [b0, b1, e0, e1, mul_comm 512, one_mul, one_mul, zero_mul, zero_add]
  · have h0 : (i 0).val < 2176 := (i 0).isLt
    have h1 : (i 1).val < 4096 := (i 1).isLt
    have hN : cfg0.N = 8 := N_0
    have ht : (i 1).val / 512 < cfg0.N := by omega
    refine ⟨⟨_, ht⟩, flush0_4 _, ?_⟩
    obtain ⟨e0, e1⟩ := index4 ⟨_, ht⟩
    refine (mem4 _ i).2 ?_
    refine fun a => match a with
    | ⟨0, _⟩ => ?_
    | ⟨1, _⟩ => ?_
    · show win0_4.index ⟨_, ht⟩ (0 : Fin 2) * 2176 ≤ (i 0).val ∧ (i 0).val < win0_4.index ⟨_, ht⟩ (0 : Fin 2) * 2176 + 2176
      rw [e0]; omega
    · show win0_4.index ⟨_, ht⟩ (1 : Fin 2) * 512 ≤ (i 1).val ∧ (i 1).val < win0_4.index ⟨_, ht⟩ (1 : Fin 2) * 512 + 512
      rw [e1]; dsimp only; omega

/-- The gradient of `w_down`. -/
theorem final5 : (dats m 0 c).arrAt 5 cfg0.N = grid2 (a := 4096) (b := 1024) (gradDown (eP m c) (eH m c)) := by
  refine (dats m 0 c).arrAt_eq_of_cover 5 (grid2 (a := 4096) (b := 1024) (gradDown (eP m c) (eH m c))) (fun t _ => ?_) fun i => ?_
  · obtain ⟨e0, e1⟩ := index5 t
    show (cfg0.win 5).cut (grid0.coords t) ((dats m 0 c).after 5 t) = _
    rw [after0_5, out5]
    funext y
    have b0 : (((cfg0.win 5).blk t).view.emb y 0).val = win0_5.index t (0 : Fin 2) * 512 + 1 * (y 0).val := rfl
    have b1 : (((cfg0.win 5).blk t).view.emb y 1).val = win0_5.index t (1 : Fin 2) * 1024 + 1 * (y 1).val := rfl
    refine (at_ix2 (pay5 (block0 m c t) (block3 m c t)) ((cfg0.win 5).xinj (grid0.coords t) y)).trans ?_
    show gradDown (eP m c) (eH m c) (512 * t.val + (y 0).val) (y 1).val
      = gradDown (eP m c) (eH m c) (((cfg0.win 5).blk t).view.emb y 0).val (((cfg0.win 5).blk t).view.emb y 1).val
    rw [b0, b1, e0, e1, mul_comm 512, one_mul, one_mul, zero_mul, zero_add]
  · have h0 : (i 0).val < 4096 := (i 0).isLt
    have h1 : (i 1).val < 1024 := (i 1).isLt
    have hN : cfg0.N = 8 := N_0
    have ht : (i 0).val / 512 < cfg0.N := by omega
    refine ⟨⟨_, ht⟩, flush0_5 _, ?_⟩
    obtain ⟨e0, e1⟩ := index5 ⟨_, ht⟩
    refine (mem5 _ i).2 ?_
    refine fun a => match a with
    | ⟨0, _⟩ => ?_
    | ⟨1, _⟩ => ?_
    · show win0_5.index ⟨_, ht⟩ (0 : Fin 2) * 512 ≤ (i 0).val ∧ (i 0).val < win0_5.index ⟨_, ht⟩ (0 : Fin 2) * 512 + 512
      rw [e0]; dsimp only; omega
    · show win0_5.index ⟨_, ht⟩ (1 : Fin 2) * 1024 ≤ (i 1).val ∧ (i 1).val < win0_5.index ⟨_, ht⟩ (1 : Fin 2) * 1024 + 1024
      rw [e1]; omega

/-- The gradient of `w_up`. -/
theorem final6 : (dats m 0 c).arrAt 6 cfg0.N = slabs3 (gradIn (eP m c) (eH m c) (eW m c) (eZ m c)) := by
  refine (dats m 0 c).arrAt_eq_of_cover 6 (slabs3 (gradIn (eP m c) (eH m c) (eW m c) (eZ m c))) (fun t _ => ?_) fun i => ?_
  · obtain ⟨e0, e1, e2⟩ := index6 t
    show (cfg0.win 6).cut (grid0.coords t) ((dats m 0 c).after 6 t) = _
    rw [after0_6, out6]
    funext y
    have hy : (y 0).val < 1 := (y 0).isLt
    have b0 : (((cfg0.win 6).blk t).view.emb y 0).val = win0_6.index t (0 : Fin 3) * 1 + 1 * (y 0).val := rfl
    have b1 : (((cfg0.win 6).blk t).view.emb y 1).val = win0_6.index t (1 : Fin 3) * 1024 + 1 * (y 1).val := rfl
    have b2 : (((cfg0.win 6).blk t).view.emb y 2).val = win0_6.index t (2 : Fin 3) * 512 + 1 * (y 2).val := rfl
    refine (at_ix3 (pay6 (block0 m c t) (block3 m c t) (block2 m c t) (block1 m c t)) ((cfg0.win 6).xinj (grid0.coords t) y)).trans ?_
    show gradIn (eP m c) (eH m c) (eW m c) (eZ m c) (y 1).val (512 * t.val + (y 2).val)
      = gradIn (eP m c) (eH m c) (eW m c) (eZ m c) (((cfg0.win 6).blk t).view.emb y 1).val
        (1024 * (((cfg0.win 6).blk t).view.emb y 0).val + (((cfg0.win 6).blk t).view.emb y 2).val)
    rw [b0, b1, b2, e0, e1, e2]
    exact congrArg₂ (gradIn (eP m c) (eH m c) (eW m c) (eZ m c)) (by omega) (by omega)
  · have h0 : (i 0).val < 4 := (i 0).isLt
    have h1 : (i 1).val < 1024 := (i 1).isLt
    have h2 : (i 2).val < 1024 := (i 2).isLt
    have hN : cfg0.N = 8 := N_0
    have ht : 2 * (i 0).val + (i 2).val / 512 < cfg0.N := by omega
    refine ⟨⟨_, ht⟩, flush0_6 _, ?_⟩
    obtain ⟨e0, e1, e2⟩ := index6 ⟨_, ht⟩
    refine (mem6 _ i).2 ?_
    refine fun a => match a with
    | ⟨0, _⟩ => ?_
    | ⟨1, _⟩ => ?_
    | ⟨2, _⟩ => ?_
    · show win0_6.index ⟨_, ht⟩ (0 : Fin 3) * 1 ≤ (i 0).val ∧ (i 0).val < win0_6.index ⟨_, ht⟩ (0 : Fin 3) * 1 + 1
      rw [e0]; dsimp only; omega
    · show win0_6.index ⟨_, ht⟩ (1 : Fin 3) * 1024 ≤ (i 1).val ∧ (i 1).val < win0_6.index ⟨_, ht⟩ (1 : Fin 3) * 1024 + 1024
      rw [e1]; omega
    · show win0_6.index ⟨_, ht⟩ (2 : Fin 3) * 512 ≤ (i 2).val ∧ (i 2).val < win0_6.index ⟨_, ht⟩ (2 : Fin 3) * 512 + 512
      rw [e2]; dsimp only; omega

end Cert.Hidden

end
-- ==== Proof.MlpPlain.lean ====
/- The MLP's plain program over the extended reals: its three results are the gradients the kernel computes. -/
module

public import proofs.«01_k».proof.Proof.MlpModel
public import proofs.«01_k».proof.Proof.Gen.MlpReferenceIdeal.Read

@[expose] public section

noncomputable section

namespace Cert.Hidden

open Idealize.ShloMosaic Cert.MlpReferenceIdeal Cert.MlpReferenceIdeal.Read

/-- The derivative of the squared activation: twice the activation where it is positive, and zero elsewhere. -/
theorem square_back (p g : EReal) : (if 0 < p then max p 0 * g + g * max p 0 else 0) = g * (2 * max p 0) := by
  by_cases h : 0 < p
  · rw [if_pos h, mul_comm (max p 0) g, mul_left_comm, ← one_add_one_eq_two, EReal.right_distrib_of_nonneg zero_le_one zero_le_one, one_mul]
  · rw [if_neg h, max_eq_right (not_lt.1 h), mul_zero, mul_zero]

theorem select_pos {p z a b : EReal} (hz : z = 0) : Scalar.select (FloatOps.cmpf (F := Ideal) (φ := .f32) .ogt p z) a b = if 0 < p then a else b := by
  subst hz
  rw [Ideal.cmpf_def]
  unfold Scalar.select Ideal.cmp
  by_cases h : 0 < p
  · simp [h]
  · simp [h]

variable {x0 x3 : FVec Ideal S2176x1024 .f32} {x1 : FVec Ideal S1024x4096 .f32} {x2 : FVec Ideal S4096x1024 .f32} {Z U W H : ℕ → ℕ → EReal}
  (h0 : Of2 (a := 2176) (b := 1024) (φ := .f32) x0 Z) (h1 : Of2 (a := 1024) (b := 4096) (φ := .f32) x1 U)
  (h2 : Of2 (a := 4096) (b := 1024) (φ := .f32) x2 W) (h3 : Of2 (a := 2176) (b := 1024) (φ := .f32) x3 H)

include h0 h1

theorem plain_up (y : S2176x4096.Idx) : val_main_v0 (F := Ideal) x0 x1 y = up Z U (y 0).val (y 1).val :=
  (val_main_v0_apply x0 x1 y).trans (Finset.sum_congr rfl fun k _ => congrArg₂ (· * ·)
    ((congrArg x0 (ValueIdx.eq_ix2 _)).trans (h0 _ _)) ((congrArg x1 (ValueIdx.eq_ix2 _)).trans (h1 _ _)))

theorem plain_relu (y : S2176x4096.Idx) : val_main_v1 (F := Ideal) x0 x1 y = max (up Z U (y 0).val (y 1).val) 0 := by
  have hz : val_main_call0_v0 (F := Ideal) y = (0 : EReal) := (val_main_call0_v0_apply y).trans zero
  rw [val_main_v1_apply, hz, plain_up h0 h1 y]
  rfl

theorem plain_square (y : S2176x4096.Idx) : val_main_v5 (F := Ideal) x0 x1 y = max (up Z U (y 0).val (y 1).val) 0 * max (up Z U (y 0).val (y 1).val) 0 := by
  rw [val_main_v5_apply, plain_relu h0 h1 y]
  rfl

include h3

/-- The plain program's gradient of `w_down`. -/
theorem plain_gradDown (y : S4096x1024.Idx) : val_main_v21 (F := Ideal) x0 x1 x3 y = gradDown (up Z U) H (y 0).val (y 1).val := by
  rw [val_main_v21_apply, val_main_v8_apply, val_main_v7_apply]
  refine Finset.sum_congr rfl fun t _ => ?_
  rw [plain_square h0 h1, mul_comm]
  exact congrArg (_ * ·) ((congrArg x3 (ValueIdx.eq_ix2 _)).trans (h3 _ _))

include h2

omit h0 h1 in
theorem plain_back (y : S2176x4096.Idx) : val_main_v9 (F := Ideal) x2 x3 y = back H W (y 0).val (y 1).val :=
  (val_main_v9_apply x2 x3 y).trans (Finset.sum_congr rfl fun k _ => congrArg₂ (· * ·)
    ((congrArg x3 (ValueIdx.eq_ix2 _)).trans (h3 _ _)) ((congrArg x2 (ValueIdx.eq_ix2 _)).trans (h2 _ _)))

/-- The plain program's gradient of the layer before the activation. -/
theorem plain_gradUp (y : S2176x4096.Idx) : val_main_v14 (F := Ideal) x0 x1 x2 x3 y = gradUp (up Z U) H W (y 0).val (y 1).val := by
  have hr := plain_relu h0 h1 y
  have hb := plain_back h2 h3 y
  have h12 : val_main_v12 (F := Ideal) x0 x1 x2 x3 y = max (up Z U (y 0).val (y 1).val) 0 * back H W (y 0).val (y 1).val
      + back H W (y 0).val (y 1).val * max (up Z U (y 0).val (y 1).val) 0 :=
    by rw [val_main_v12_apply, val_main_v10_apply, val_main_v11_apply, hr, hb]; rfl
  have h13 : val_main_v13 (F := Ideal) y = (0 : EReal) := (val_main_v13_apply y).trans zero
  have h2' : val_main_v2 (F := Ideal) y = (0 : EReal) := (val_main_v2_apply y).trans zero
  rw [val_main_v14_apply, val_main_v3_apply, select_pos h2', h12, h13, plain_up h0 h1 y]
  exact square_back _ _

/-- The plain program's gradient of `w_up`, in slabs of 1024 columns. -/
theorem plain_gradIn (y : S4x1024x1024.Idx) :
    val_main_v22 (F := Ideal) x0 x1 x2 x3 y = gradIn (up Z U) H W Z (y 1).val (1024 * (y 0).val + (y 2).val) := by
  have b0 : (y 0).val < 4 := (y 0).isLt
  have b1 : (y 1).val < 1024 := (y 1).isLt
  have b2 : (y 2).val < 1024 := (y 2).isLt
  rw [val_main_v22_apply, val_main_v19_apply, val_main_v18_apply, val_main_v16_apply, val_main_v15_apply]
  refine Finset.sum_congr rfl fun t _ => ?_
  rw [plain_gradUp h0 h1 h2 h3, mul_comm]
  refine congrArg₂ (· * ·) (((congrArg x0 (ValueIdx.eq_ix2 _)).trans (h0 _ _)).trans (congrArg₂ Z rfl ?_)) (congrArg₂ (gradUp (up Z U) H W) rfl ?_)
  · show (((y 1).val * 4 + (y 0).val) * 1024 + (y 2).val) / 4096 = (y 1).val
    omega
  · show (((y 1).val * 4 + (y 0).val) * 1024 + (y 2).val) % 4096 = 1024 * (y 0).val + (y 2).val
    omega

end Cert.Hidden

end
-- ==== Proof.ForwardModel.lean ====
/- The MLP's forward pass over the extended reals, and the values the kernel's body computes from its blocks.

   The hidden layer is split into four slabs of 1024 columns: `U j` and `W j` are the slabs `j` of the two weights. -/
module

public import proofs.«01_k».proof.Proof.Gen.MlpForwardIdeal.Value
public import proofs.«01_k».proof.Proof.MlpArrays

@[expose] public section

noncomputable section

namespace Cert.Forward

open Idealize.ShloMosaic Cert.Hidden

/-- The activation: the square of the positive part of `z · w_up`. -/
def act (Z U : ℕ → ℕ → EReal) (t f : ℕ) : EReal := max (up Z U t f) 0 * max (up Z U t f) 0

/-- The layer's result: `h` plus the activation times `w_down`. -/
def layer (Z U W H : ℕ → ℕ → EReal) (t d : ℕ) : EReal := H t d + ∑ f : Fin 4096, act Z U t f * W f d

/-- The layer's result from the four slabs, in the kernel's order. -/
def slabLayer (Z : ℕ → ℕ → EReal) (U W : ℕ → ℕ → ℕ → EReal) (H : ℕ → ℕ → EReal) (t d : ℕ) : EReal :=
  H t d + up (act Z (U 0)) (W 0) t d + up (act Z (U 1)) (W 1) t d + up (act Z (U 2)) (W 2) t d + up (act Z (U 3)) (W 3) t d

/-- The reciprocal of a row's root mean square. -/
def scale (X : ℕ → ℕ → EReal) (t : ℕ) : EReal :=
  FloatOps.rsqrt (F := Ideal) (φ := .f32) (FloatOps.addf (F := Ideal) (φ := .f32) (FloatOps.divf (F := Ideal) (φ := .f32)
    (∑ k : Fin 1024, X t k * X t k : EReal) (FloatOps.ofBits .f32 0x44800000#32)) (FloatOps.ofBits .f32 0x358637BD#32))

/-- The normalised rows, times the gain `g`. -/
def norm (X g : ℕ → ℕ → EReal) (t d : ℕ) : EReal := X t d * scale X t * g 0 d

/-- A sum over 4096 columns is the sum over the four slabs. -/
theorem four (F : ℕ → EReal) : ∑ f : Fin 4096, F f = (∑ l : Fin 1024, F (1024 * 0 + l)) + (∑ l : Fin 1024, F (1024 * 1 + l))
    + (∑ l : Fin 1024, F (1024 * 2 + l)) + ∑ l : Fin 1024, F (1024 * 3 + l) := by
  rw [Fin.sum_univ_add (a := 3072) (b := 1024) fun f : Fin (3072 + 1024) => F f,
    Fin.sum_univ_add (a := 2048) (b := 1024) fun f : Fin (2048 + 1024) => F (Fin.castAdd 1024 f),
    Fin.sum_univ_add (a := 1024) (b := 1024) fun f : Fin (1024 + 1024) => F (Fin.castAdd 1024 (Fin.castAdd 1024 f))]
  refine congrArg₂ (· + ·) (congrArg₂ (· + ·) (congrArg₂ (· + ·) ?_ ?_) ?_) ?_ <;> refine Finset.sum_congr rfl fun l _ => congrArg F ?_
  · show l.val = 1024 * 0 + l.val
    omega
  · rfl
  · rfl
  · rfl

theorem slabLayer_eq (Z U W H : ℕ → ℕ → EReal) (t d : ℕ) :
    slabLayer Z (fun j k l => U k (1024 * j + l)) (fun j l d => W (1024 * j + l) d) H t d = layer Z U W H t d := by
  unfold layer slabLayer
  rw [four fun f => act Z U t f * W f d, ← add_assoc, ← add_assoc, ← add_assoc]
  rfl

section Body

open Cert.MlpForwardIdeal Cert.MlpForwardIdeal.Gen

variable {Z H G : ℕ → ℕ → EReal} {U W : ℕ → ℕ → ℕ → EReal}

theorem mm {x : FVec Ideal S544x1024 .bf16} {y : FVec Ideal S1024x1024 .bf16} {f g : ℕ → ℕ → EReal} (hx : Of2 (a := 544) (b := 1024) (φ := .bf16) x f)
    (hy : Of2 (a := 1024) (b := 1024) (φ := .bf16) y g) :
    Of2 (a := 544) (b := 1024) (φ := .f32) (matmul dot_S544x1024_S1024x1024_S544x1024_1_0_0_1_n_n none x y (constant S544x1024 .f32 0x00000000#32)) (up f g) := fun i j => by
  refine (Ideal.matmul_apply₁_of dot_S544x1024_S1024x1024_S544x1024_1_0_0_1_n_n (a := 1) rfl (K := 1024) rfl x y _ (ix2 i j) (fun k => ix2 i k) (fun k => ix2 k j) ?_ ?_).trans ?_
  · intro k; funext e; refine Fin.ext ?_; fin_cases e <;> rfl
  · intro k; funext e; refine Fin.ext ?_; fin_cases e <;> rfl
  · refine (congrArg₂ (· + ·) zero (Finset.sum_congr rfl fun k _ => congrArg₂ (· * ·) (hx i k) (hy k j))).trans (zero_add _)

variable {z : Vec Ideal S544x1024 .bf16} {h : Vec Ideal S544x1024 .f32} {g : Vec Ideal S1x1024 .f32} {u v w w' : Vec Ideal S1x1024x1024 .bf16} {p q r r' : ℕ → ℕ → ℕ → EReal}
  {X : ℕ → ℕ → EReal} {s : FVec Ideal S544x1024 .f32} {a : FVec Ideal S544x1024 .bf16} {A : ℕ → ℕ → EReal}

/-- One slab of `z · w_up`. -/
theorem before (hz : Of2 (a := 544) (b := 1024) (φ := .bf16) z Z) (hu : Of3 (a := 1) (b := 1024) (c := 1024) (φ := .bf16) u p) :
    Of2 (a := 544) (b := 1024) (φ := .f32) (k0_pay4 z u) (up Z (p 0)) := mm (hz.castSame _) (Of2.drop shapeCasts_S1x1024x1024_S1024x1024 hu)

theorem before_stored (hz : Of2 (a := 544) (b := 1024) (φ := .bf16) z Z) (hu : Of3 (a := 1) (b := 1024) (c := 1024) (φ := .bf16) u p) :
    Of2 (a := 544) (b := 1024) (φ := .bf16) (k0_pay5 z u) (up Z (p 0)) := by
  have hm : Of2 (a := 544) (b := 1024) (φ := .bf16) (truncf .bf16 (k0_pay4 z u) bitsLt_bf16_f32) (up Z (p 0)) := before hz hu
  exact hm.castSame _

theorem after (hz : Of2 (a := 544) (b := 1024) (φ := .bf16) z Z) (hu : Of3 (a := 1) (b := 1024) (c := 1024) (φ := .bf16) u p) :
    Of2 (a := 544) (b := 1024) (φ := .bf16) (k0_pay9 z u) (act Z (p 0)) := fun i j =>
  congrArg₂ (· * ·) (congrArg₂ max (before hz hu i j) zero) (congrArg₂ max (before hz hu i j) zero)

theorem pay1 (hs : Of2 (a := 544) (b := 1024) (φ := .f32) s X) (ha : Of2 (a := 544) (b := 1024) (φ := .bf16) a A)
    (hw : Of3 (a := 1) (b := 1024) (c := 1024) (φ := .bf16) w q) :
    Of2 (a := 544) (b := 1024) (φ := .f32) (k0_pay1 s a w) fun t d => X t d + up A (q 0) t d := fun i j =>
  congrArg₂ (· + ·) (hs i j) (mm ha (Of2.drop shapeCasts_S1x1024x1024_S1024x1024 hw) i j)

theorem pay2 (hs : Of2 (a := 544) (b := 1024) (φ := .f32) s X) (ha : Of2 (a := 544) (b := 1024) (φ := .bf16) a A)
    (hw : Of3 (a := 1) (b := 1024) (c := 1024) (φ := .bf16) w q) :
    Of2 (a := 544) (b := 1024) (φ := .f32) (k0_pay2 s a w) fun t d => X t d + up A (q 0) t d := (pay1 hs ha hw).castSame _

theorem pay6 (hh : Of2 (a := 544) (b := 1024) (φ := .f32) h H) (hz : Of2 (a := 544) (b := 1024) (φ := .bf16) z Z)
    (hu : Of3 (a := 1) (b := 1024) (c := 1024) (φ := .bf16) u p) (hw : Of3 (a := 1) (b := 1024) (c := 1024) (φ := .bf16) w q) :
    Of2 (a := 544) (b := 1024) (φ := .f32) (k0_pay6 h z u w) fun t d => H t d + up (act Z (p 0)) (q 0) t d := fun i j =>
  congrArg₂ (· + ·) (hh i j) (mm (after hz hu) (Of2.drop shapeCasts_S1x1024x1024_S1024x1024 hw) i j)

theorem pay12 (hs : Of2 (a := 544) (b := 1024) (φ := .f32) s X) (ha : Of2 (a := 544) (b := 1024) (φ := .bf16) a A)
    (hw : Of3 (a := 1) (b := 1024) (c := 1024) (φ := .bf16) w q) (hz : Of2 (a := 544) (b := 1024) (φ := .bf16) z Z)
    (hu : Of3 (a := 1) (b := 1024) (c := 1024) (φ := .bf16) u p) (hw' : Of3 (a := 1) (b := 1024) (c := 1024) (φ := .bf16) w' r') :
    Of2 (a := 544) (b := 1024) (φ := .f32) (k0_pay12 s a w z u w') fun t d => X t d + up A (q 0) t d + up (act Z (p 0)) (r' 0) t d := fun i j =>
  congrArg₂ (· + ·) (congrArg₂ (· + ·) (hs i j) (mm ha (Of2.drop shapeCasts_S1x1024x1024_S1024x1024 hw) i j))
    (mm (after hz hu) (Of2.drop shapeCasts_S1x1024x1024_S1024x1024 hw') i j)

/-- The normalisation of the rows of a block. -/
theorem normalised {x : FVec Ideal S544x1024 .f32} (hx : Of2 (a := 544) (b := 1024) (φ := .f32) x X) (hg : Of2 (a := 1) (b := 1024) (φ := .f32) g G) :
    Of2 (a := 544) (b := 1024) (φ := .f32) (mulf (mulf x (broadcastTo S544x1024 (rsqrt (addf (divf (shapeCast S544x1
        (multiReduction .add [1] S544 (mulf x x) 0x00000000#32 reduces_S544x1024_S544 (.inl rfl) rfl) shapeCasts_S544_S544x1)
        (broadcast S544x1 (Scalar.ofBits .f32 0x44800000#32))) (broadcast S544x1 (Scalar.ofBits .f32 0x358637BD#32)))) broadcasts_S544x1_S544x1024))
        (broadcastTo S544x1024 (shapeCast S1x1024 g shapeCasts_S1x1024_S1x1024) broadcasts_S1x1024_S544x1024)) (norm X G) := fun i j => by
  have hsum : multiReduction .add [1] S544 (mulf x x) 0x00000000#32 reduces_S544x1024_S544 (.inl rfl) rfl (ix1 i) = (∑ k : Fin 1024, X i k * X i k : EReal) := by
    refine (Ideal.multiReduction_add_single (mulf x x) 0x00000000#32 reduces_S544x1024_S544 (.inl rfl) rfl (ix1 i)).trans (Finset.sum_congr rfl fun k _ => ?_)
    have hk : reduces_S544x1024_S544.lift (ix1 i) k = ix2 i k := by
      funext e; refine Fin.ext ?_; fin_cases e <;> rfl
    rw [hk]
    exact congrArg₂ (· * ·) (hx i k) (hx i k)
  have hrow : ∀ v : FVec Ideal S544x1 .f32, broadcastTo S544x1024 v broadcasts_S544x1_S544x1024 (ix2 i j) = v (ix2 i (0 : Fin 1)) := fun v =>
    broadcastTo_apply v broadcasts_S544x1_S544x1024 (ix2 i j) (ix2 i (0 : Fin 1)) fun e => match e with | ⟨0, _⟩ => rfl | ⟨1, _⟩ => rfl
  have hgain : broadcastTo S544x1024 (shapeCast S1x1024 g shapeCasts_S1x1024_S1x1024) broadcasts_S1x1024_S544x1024 (ix2 i j) = G 0 j :=
    (ValueIdx.broadcastTo_1b_ab_apply _ broadcasts_S1x1024_S544x1024 i j).trans (hg.castSame shapeCasts_S1x1024_S1x1024 (0 : Fin 1) j)
  have hcast : shapeCast S544x1 (multiReduction .add [1] S544 (mulf x x) 0x00000000#32 reduces_S544x1024_S544 (.inl rfl) rfl) shapeCasts_S544_S544x1 (ix2 i (0 : Fin 1))
      = (∑ k : Fin 1024, X i k * X i k : EReal) := by
    refine (shapeCast_apply _ shapeCasts_S544_S544x1 (ix2 i (0 : Fin 1)) (ix1 i) ?_).trans hsum
    rw [Shape.rowMajor_val_two, Shape.rowMajor_val_one]
    show i.val = i.val * 1 + 0
    omega
  refine congrArg₂ (· * ·) (congrArg₂ (· * ·) (hx i j) ((hrow _).trans ?_)) hgain
  exact congrArg (fun e : EReal => FloatOps.rsqrt (F := Ideal) (φ := .f32) (FloatOps.addf (F := Ideal) (φ := .f32) (FloatOps.divf (F := Ideal) (φ := .f32)
    e (FloatOps.ofBits .f32 0x44800000#32)) (FloatOps.ofBits .f32 0x358637BD#32))) hcast

theorem pay3 (hs : Of2 (a := 544) (b := 1024) (φ := .f32) s X) (ha : Of2 (a := 544) (b := 1024) (φ := .bf16) a A)
    (hw : Of3 (a := 1) (b := 1024) (c := 1024) (φ := .bf16) w q) (hg : Of2 (a := 1) (b := 1024) (φ := .f32) g G) :
    Of2 (a := 544) (b := 1024) (φ := .bf16) (k0_pay3 s a w g) (norm (fun t d => X t d + up A (q 0) t d) G) := by
  have hm := normalised (pay1 hs ha hw) hg
  exact Of2.castSame (φ := .bf16) shapeCasts_S544x1024_S544x1024 hm

/-! What a point leaves in its three output blocks. -/

theorem ldz (x : Vec Ideal S544x1024 .bf16) : View.ld x r0_0 = x := View.ld_unit_zero hz2 inb_S544x1024_S544x1024_0_0 x
theorem ldh (x : Vec Ideal S544x1024 .f32) : View.ld x r0_0 = x := View.ld_unit_zero hz2 inb_S544x1024_S544x1024_0_0 x
theorem ldg (x : Vec Ideal S1x1024 .f32) : View.ld x r0_9 = x := View.ld_unit_zero hz2 inb_S1x1024_S1x1024_0_0 x

variable {x0 : Vec Ideal S544x1024 .bf16} {x1 x2 : Vec Ideal S4x1024x1024 .bf16} {x3 : Vec Ideal S544x1024 .f32} {x4 : Vec Ideal S1x1024 .f32}

theorem slab0 {x : Vec Ideal S4x1024x1024 .bf16} (hx : Of3 (a := 4) (b := 1024) (c := 1024) (φ := .bf16) x U) :
    Of3 (a := 1) (b := 1024) (c := 1024) (φ := .bf16) (View.ld x r0_1) (fun _ => U 0) := fun i k l => by
  refine (at_ix3 (a := 4) (b := 1024) (c := 1024) (φ := .bf16) hx (r0_1.idx (ix3 i k l))).trans ?_
  show U (0 + 1 * i.val) (0 + 1 * k.val) (0 + 1 * l.val) = U 0 k.val l.val
  have hi : i.val = 0 := by omega
  simp only [hi, zero_add, one_mul, mul_zero, add_zero]

theorem slab1 {x : Vec Ideal S4x1024x1024 .bf16} (hx : Of3 (a := 4) (b := 1024) (c := 1024) (φ := .bf16) x U) :
    Of3 (a := 1) (b := 1024) (c := 1024) (φ := .bf16) (View.ld x r0_3) (fun _ => U 1) := fun i k l => by
  refine (at_ix3 (a := 4) (b := 1024) (c := 1024) (φ := .bf16) hx (r0_3.idx (ix3 i k l))).trans ?_
  show U (1 + 1 * i.val) (0 + 1 * k.val) (0 + 1 * l.val) = U 1 k.val l.val
  have hi : i.val = 0 := by omega
  simp only [hi, zero_add, one_mul, mul_zero, add_zero]

theorem slab2 {x : Vec Ideal S4x1024x1024 .bf16} (hx : Of3 (a := 4) (b := 1024) (c := 1024) (φ := .bf16) x U) :
    Of3 (a := 1) (b := 1024) (c := 1024) (φ := .bf16) (View.ld x r0_5) (fun _ => U 2) := fun i k l => by
  refine (at_ix3 (a := 4) (b := 1024) (c := 1024) (φ := .bf16) hx (r0_5.idx (ix3 i k l))).trans ?_
  show U (2 + 1 * i.val) (0 + 1 * k.val) (0 + 1 * l.val) = U 2 k.val l.val
  have hi : i.val = 0 := by omega
  simp only [hi, zero_add, one_mul, mul_zero, add_zero]

theorem slab3 {x : Vec Ideal S4x1024x1024 .bf16} (hx : Of3 (a := 4) (b := 1024) (c := 1024) (φ := .bf16) x U) :
    Of3 (a := 1) (b := 1024) (c := 1024) (φ := .bf16) (View.ld x r0_7) (fun _ => U 3) := fun i k l => by
  refine (at_ix3 (a := 4) (b := 1024) (c := 1024) (φ := .bf16) hx (r0_7.idx (ix3 i k l))).trans ?_
  show U (3 + 1 * i.val) (0 + 1 * k.val) (0 + 1 * l.val) = U 3 k.val l.val
  have hi : i.val = 0 := by omega
  simp only [hi, zero_add, one_mul, mul_zero, add_zero]

/-- A block of `z · w_up`: its column `f` is column `f % 1024` of slab `f / 1024`. -/
def wide (Z : ℕ → ℕ → EReal) (U : ℕ → ℕ → ℕ → EReal) (t f : ℕ) : EReal := up Z (U (f / 1024)) t (f % 1024)

/-- The same as an array. -/
def wideGrid (Z : ℕ → ℕ → EReal) (U : ℕ → ℕ → ℕ → EReal) : FVec Ideal S544x4096 .bf16 := fun y => wide Z U (y 0).val (y 1).val

theorem out5 (h0 : Of2 (a := 544) (b := 1024) (φ := .bf16) x0 Z) (h1 : Of3 (a := 4) (b := 1024) (c := 1024) (φ := .bf16) x1 U) (y : S544x4096.Idx) :
    out0_5 x0 x1 x2 x3 x4 y = wide Z U (y 0).val (y 1).val := by
  unfold out0_5
  rw [ldz x0]
  refine View.canon_apply_of_pieces (Val := Elt Ideal) (wideGrid Z U) _ ?_ y (cover0_5 _ _ _ _ y)
  intro pc hpc
  rcases List.mem_cons.mp hpc with rfl | hpc
  · intro x
    have hx : (x 1).val < 1024 := (x 1).isLt
    refine (at_ix2 (a := 544) (b := 1024) (φ := .bf16) (before_stored h0 (slab3 h1)) x).trans ?_
    show up Z (U 3) (x 0).val (x 1).val = up Z (U ((3072 + 1 * (x 1).val) / 1024)) (0 + 1 * (x 0).val) ((3072 + 1 * (x 1).val) % 1024)
    rw [show (3072 + 1 * (x 1).val) / 1024 = 3 by omega, show (3072 + 1 * (x 1).val) % 1024 = (x 1).val by omega, zero_add, one_mul]
  rcases List.mem_cons.mp hpc with rfl | hpc
  · intro x
    have hx : (x 1).val < 1024 := (x 1).isLt
    refine (at_ix2 (a := 544) (b := 1024) (φ := .bf16) (before_stored h0 (slab2 h1)) x).trans ?_
    show up Z (U 2) (x 0).val (x 1).val = up Z (U ((2048 + 1 * (x 1).val) / 1024)) (0 + 1 * (x 0).val) ((2048 + 1 * (x 1).val) % 1024)
    rw [show (2048 + 1 * (x 1).val) / 1024 = 2 by omega, show (2048 + 1 * (x 1).val) % 1024 = (x 1).val by omega, zero_add, one_mul]
  rcases List.mem_cons.mp hpc with rfl | hpc
  · intro x
    have hx : (x 1).val < 1024 := (x 1).isLt
    refine (at_ix2 (a := 544) (b := 1024) (φ := .bf16) (before_stored h0 (slab1 h1)) x).trans ?_
    show up Z (U 1) (x 0).val (x 1).val = up Z (U ((1024 + 1 * (x 1).val) / 1024)) (0 + 1 * (x 0).val) ((1024 + 1 * (x 1).val) % 1024)
    rw [show (1024 + 1 * (x 1).val) / 1024 = 1 by omega, show (1024 + 1 * (x 1).val) % 1024 = (x 1).val by omega, zero_add, one_mul]
  rcases List.mem_cons.mp hpc with rfl | hpc
  · intro x
    have hx : (x 1).val < 1024 := (x 1).isLt
    refine (at_ix2 (a := 544) (b := 1024) (φ := .bf16) (before_stored h0 (slab0 h1)) x).trans ?_
    show up Z (U 0) (x 0).val (x 1).val = up Z (U ((0 + 1 * (x 1).val) / 1024)) (0 + 1 * (x 0).val) ((0 + 1 * (x 1).val) % 1024)
    rw [show (0 + 1 * (x 1).val) / 1024 = 0 by omega, show (0 + 1 * (x 1).val) % 1024 = (x 1).val by omega, zero_add, one_mul]
  nomatch hpc

theorem summed (h0 : Of2 (a := 544) (b := 1024) (φ := .bf16) x0 Z) (h1 : Of3 (a := 4) (b := 1024) (c := 1024) (φ := .bf16) x1 U)
    (h2 : Of3 (a := 4) (b := 1024) (c := 1024) (φ := .bf16) x2 W) (h3 : Of2 (a := 544) (b := 1024) (φ := .f32) x3 H) :
    Of2 (a := 544) (b := 1024) (φ := .f32) (k0_pay16 x0 x1 x2 x3 x4)
      fun t d => H t d + up (act Z (U 0)) (W 0) t d + up (act Z (U 1)) (W 1) t d + up (act Z (U 2)) (W 2) t d := by
  have hz : Of2 (a := 544) (b := 1024) (φ := .bf16) (View.ld x0 r0_0) Z := by rw [ldz x0]; exact h0
  have hh : Of2 (a := 544) (b := 1024) (φ := .f32) (View.ld x3 r0_0) H := by rw [ldh x3]; exact h3
  have hm := pay12 (pay6 hh hz (slab0 h1) (slab0 h2)) (after hz (slab1 h1)) (slab1 h2) hz (slab2 h1) (slab2 h2)
  unfold k0_pay16
  exact hm

theorem last (h0 : Of2 (a := 544) (b := 1024) (φ := .bf16) x0 Z) (h1 : Of3 (a := 4) (b := 1024) (c := 1024) (φ := .bf16) x1 U) :
    Of2 (a := 544) (b := 1024) (φ := .bf16) (k0_pay17 x0 x1 x2 x3 x4) (act Z (U 3)) := by
  unfold k0_pay17
  rw [ldz x0]
  exact after h0 (slab3 h1)

theorem out6 (h0 : Of2 (a := 544) (b := 1024) (φ := .bf16) x0 Z) (h1 : Of3 (a := 4) (b := 1024) (c := 1024) (φ := .bf16) x1 U)
    (h2 : Of3 (a := 4) (b := 1024) (c := 1024) (φ := .bf16) x2 W) (h3 : Of2 (a := 544) (b := 1024) (φ := .f32) x3 H) :
    Of2 (a := 544) (b := 1024) (φ := .f32) (out0_6 x0 x1 x2 x3 x4) (slabLayer Z U W H) := by
  have e : out0_6 x0 x1 x2 x3 x4 = k0_pay2 (k0_pay16 x0 x1 x2 x3 x4) (k0_pay17 x0 x1 x2 x3 x4) (View.ld x2 r0_7) := by
    unfold out0_6
    exact View.canon_cons_unit_zero hz2 inb_S544x1024_S544x1024_0_0 _ _
  rw [e]
  exact pay2 (summed h0 h1 h2 h3) (last h0 h1) (slab3 h2)

theorem out7 (h0 : Of2 (a := 544) (b := 1024) (φ := .bf16) x0 Z) (h1 : Of3 (a := 4) (b := 1024) (c := 1024) (φ := .bf16) x1 U)
    (h2 : Of3 (a := 4) (b := 1024) (c := 1024) (φ := .bf16) x2 W) (h3 : Of2 (a := 544) (b := 1024) (φ := .f32) x3 H)
    (h4 : Of2 (a := 1) (b := 1024) (φ := .f32) x4 G) :
    Of2 (a := 544) (b := 1024) (φ := .bf16) (out0_7 x0 x1 x2 x3 x4) (norm (slabLayer Z U W H) G) := by
  have e : out0_7 x0 x1 x2 x3 x4 = k0_pay3 (k0_pay16 x0 x1 x2 x3 x4) (k0_pay17 x0 x1 x2 x3 x4) (View.ld x2 r0_7) x4 := by
    unfold out0_7
    rw [ldg x4]
    exact View.canon_cons_unit_zero hz2 inb_S544x1024_S544x1024_0_0 _ _
  have hm := pay3 (summed (x4 := x4) h0 h1 h2 h3) (last (x2 := x2) (x3 := x3) (x4 := x4) h0 h1) (slab3 h2) h4
  rw [e]
  exact hm

end Body

end Cert.Forward

end
-- ==== Proof.ForwardArrays.lean ====
/- The arrays of the MLP's forward kernel: what its host code hands to the grid, the blocks each point sees, and the three result arrays. -/
module

public import proofs.«01_k».proof.Proof.ForwardModel

@[expose] public section

noncomputable section

namespace Cert.Forward

open Idealize.ShloMosaic Idealize.SL Cert.MlpForwardIdeal Cert.MlpForwardIdeal.Gen Idealize.ShloMosaic.StableHlo Cert.Hidden

variable (m : (ℓ : Loc nD τ sig) → Buf (Elt Ideal) ℓ) (c : Dev nD)

/-! The arguments, and their entries. -/

abbrev a0 : Vec Ideal S2176x1024 .f32 := m ((c.tc : Thread nD τ).loc main_arg0)
abbrev a1 : Vec Ideal S1024x4096 .f32 := m ((c.tc : Thread nD τ).loc main_arg1)
abbrev a2 : Vec Ideal S4096x1024 .f32 := m ((c.tc : Thread nD τ).loc main_arg2)
abbrev a3 : Vec Ideal S2176x1024 .f32 := m ((c.tc : Thread nD τ).loc main_arg3)
abbrev a4 : Vec Ideal S1024 .f32 := m ((c.tc : Thread nD τ).loc main_arg4)

/-- The entries of a vector, as those of a single row. -/
def entriesRow {b : ℕ} (x : (⟨1, ![b]⟩ : Shape).Idx → EReal) (_ j : ℕ) : EReal := if h : j < b then x (ix1 ⟨j, h⟩) else 0

/-- The vector `x` holds `f 0 j` at `j`. -/
def Of1 {b : ℕ} {φ : FTy} (x : FVec Ideal ⟨1, ![b]⟩ φ) (f : ℕ → ℕ → EReal) : Prop := ∀ j : Fin b, x (ix1 j) = f 0 j

theorem entriesRow_of {b : ℕ} {φ : FTy} (x : FVec Ideal ⟨1, ![b]⟩ φ) : Of1 x (entriesRow x) := fun j => by
  unfold entriesRow
  rw [dif_pos j.isLt]

abbrev eZ : ℕ → ℕ → EReal := entries (a := 2176) (b := 1024) (a0 m c)
abbrev eU : ℕ → ℕ → EReal := entries (a := 1024) (b := 4096) (a1 m c)
abbrev eW : ℕ → ℕ → EReal := entries (a := 4096) (b := 1024) (a2 m c)
abbrev eH : ℕ → ℕ → EReal := entries (a := 2176) (b := 1024) (a3 m c)
abbrev eG : ℕ → ℕ → EReal := entriesRow (b := 1024) (a4 m c)

/-! The arrays the host code makes of them. -/

theorem V_u : V m c main_v2 = (show FVec Ideal S4x1024x1024 .bf16 from truncf .bf16 (transpose S4x1024x1024 [1, 0, 2]
    (shapeCast S1024x4x1024 (show FVec Ideal S1024x4096 .f32 from a1 m c) shapeCasts_S1024x4096_S1024x4x1024) transposes_S1024x4x1024_S4x1024x1024_1_0_2) bitsLt_bf16_f32) := by
  simp only [V, hostOps0]
  after_results_simp <;> rfl

theorem V_z : V m c main_v3 = (show FVec Ideal S2176x1024 .bf16 from truncf .bf16 (show FVec Ideal S2176x1024 .f32 from a0 m c) bitsLt_bf16_f32) := by
  simp only [V, hostOps0]
  after_results_simp <;> rfl

theorem V_w : V m c main_v5 = (show FVec Ideal S4x1024x1024 .bf16 from truncf .bf16 (shapeCast S4x1024x1024 (show FVec Ideal S4096x1024 .f32 from a2 m c) shapeCasts_S4096x1024_S4x1024x1024) bitsLt_bf16_f32) := by
  simp only [V, hostOps0]
  after_results_simp <;> rfl

theorem V_g : V m c main_v6 = (show FVec Ideal S1x1024 .f32 from shapeCast S1x1024 (show FVec Ideal S1024 .f32 from a4 m c) shapeCasts_S1024_S1x1024) := by
  simp only [V, hostOps0]
  after_results_simp <;> rfl

theorem V_h : V m c main_arg3 = (show FVec Ideal S2176x1024 .f32 from a3 m c) := by
  simp only [V, hostOps0]
  after_results_simp <;> rfl

/-- The columns laid out as four slabs. -/
theorem columnSlabs {x : FVec Ideal S1024x4096 .f32} {U : ℕ → ℕ → EReal} (h : Of2 (a := 1024) (b := 4096) (φ := .f32) x U) (y : S4x1024x1024.Idx) :
    transpose S4x1024x1024 [1, 0, 2] (shapeCast S1024x4x1024 x shapeCasts_S1024x4096_S1024x4x1024) transposes_S1024x4x1024_S4x1024x1024_1_0_2 y
      = U (y 1).val (1024 * (y 0).val + (y 2).val) := by
  have h0 : (y 0).val < 4 := (y 0).isLt
  have h1 : (y 1).val < 1024 := (y 1).isLt
  have h2 : (y 2).val < 1024 := (y 2).isLt
  have hr : 1024 * (y 0).val + (y 2).val < 4096 := by omega
  refine (transpose_apply _ _ transposes_S1024x4x1024_S4x1024x1024_1_0_2 y
    (ix3 (show Fin 1024 from ⟨_, h1⟩) (show Fin 4 from ⟨_, h0⟩) (show Fin 1024 from ⟨_, h2⟩)) fun b => match b with | ⟨0, _⟩ => rfl | ⟨1, _⟩ => rfl | ⟨2, _⟩ => rfl).trans ?_
  refine (shapeCast_apply x shapeCasts_S1024x4096_S1024x4x1024 _ (ix2 (show Fin 1024 from ⟨_, h1⟩) (show Fin 4096 from ⟨_, hr⟩)) ?_).trans (h _ _)
  rw [Shape.rowMajor_val_two, Shape.rowMajor_val_three]
  show (y 1).val * 4096 + (1024 * (y 0).val + (y 2).val) = ((y 1).val * 4 + (y 0).val) * 1024 + (y 2).val
  omega

theorem V_u_at (y : S4x1024x1024.Idx) : (V m c main_v2 : FVec Ideal S4x1024x1024 .bf16) y = eU m c (y 1).val (1024 * (y 0).val + (y 2).val) :=
  (congrFun (V_u m c) y).trans (columnSlabs (entries_of (a := 1024) (b := 4096) (φ := .f32) (a1 m c)) y)

theorem V_z_at (y : S2176x1024.Idx) : (V m c main_v3 : FVec Ideal S2176x1024 .bf16) y = eZ m c (y 0).val (y 1).val :=
  (congrFun (V_z m c) y).trans ((congrArg (a0 m c) (ValueIdx.eq_ix2 y)).trans (entries_of (a := 2176) (b := 1024) (φ := .f32) (a0 m c) _ _))

theorem V_h_at (y : S2176x1024.Idx) : (V m c main_arg3 : FVec Ideal S2176x1024 .f32) y = eH m c (y 0).val (y 1).val :=
  (congrFun (V_h m c) y).trans ((congrArg (a3 m c) (ValueIdx.eq_ix2 y)).trans (entries_of (a := 2176) (b := 1024) (φ := .f32) (a3 m c) _ _))

theorem V_w_at (y : S4x1024x1024.Idx) : (V m c main_v5 : FVec Ideal S4x1024x1024 .bf16) y = eW m c (1024 * (y 0).val + (y 1).val) (y 2).val :=
  (congrFun (V_w m c) y).trans (slabs (entries_of (a := 4096) (b := 1024) (φ := .f32) (a2 m c)) y)

theorem V_g_of : Of2 (a := 1) (b := 1024) (φ := .f32) (V m c main_v6 : FVec Ideal S1x1024 .f32) (eG m c) := fun i j => by
  refine (congrFun (V_g m c) (ix2 i j)).trans ((ValueIdx.shapeCast_a_1a_apply _ shapeCasts_S1024_S1x1024 i j).trans ((entriesRow_of (φ := .f32) (a4 m c) j).trans ?_))
  rfl

/-! The blocks. -/

theorem index0 : ∀ t : Fin cfg0.N, win0_0.index t (0 : Fin 2) = t.val ∧ win0_0.index t (1 : Fin 2) = 0 :=
  (by decide +kernel : ∀ t : Fin grid0.N, _)

theorem index1 : ∀ t : Fin cfg0.N, win0_1.index t (0 : Fin 3) = 0 ∧ win0_1.index t (1 : Fin 3) = 0 ∧ win0_1.index t (2 : Fin 3) = 0 :=
  (by decide +kernel : ∀ t : Fin grid0.N, _)

theorem index2 : ∀ t : Fin cfg0.N, win0_2.index t (0 : Fin 3) = 0 ∧ win0_2.index t (1 : Fin 3) = 0 ∧ win0_2.index t (2 : Fin 3) = 0 :=
  (by decide +kernel : ∀ t : Fin grid0.N, _)

theorem index3 : ∀ t : Fin cfg0.N, win0_3.index t (0 : Fin 2) = t.val ∧ win0_3.index t (1 : Fin 2) = 0 :=
  (by decide +kernel : ∀ t : Fin grid0.N, _)

theorem index4 : ∀ t : Fin cfg0.N, win0_4.index t (0 : Fin 2) = 0 ∧ win0_4.index t (1 : Fin 2) = 0 :=
  (by decide +kernel : ∀ t : Fin grid0.N, _)

theorem index5 : ∀ t : Fin cfg0.N, win0_5.index t (0 : Fin 2) = t.val ∧ win0_5.index t (1 : Fin 2) = 0 :=
  (by decide +kernel : ∀ t : Fin grid0.N, _)

theorem index6 : ∀ t : Fin cfg0.N, win0_6.index t (0 : Fin 2) = t.val ∧ win0_6.index t (1 : Fin 2) = 0 :=
  (by decide +kernel : ∀ t : Fin grid0.N, _)

theorem index7 : ∀ t : Fin cfg0.N, win0_7.index t (0 : Fin 2) = t.val ∧ win0_7.index t (1 : Fin 2) = 0 :=
  (by decide +kernel : ∀ t : Fin grid0.N, _)

theorem read0 (A : Buf (Elt Ideal) ((c.tc : Thread nD τ).loc (Pipeline.arrRef spec0 0))) (f : ℕ → ℕ → EReal)
    (hA : ∀ y : S2176x1024.Idx, (A : FVec Ideal S2176x1024 .bf16) y = f (y 0).val (y 1).val) (t : Fin cfg0.N) :
    Of2 (a := 544) (b := 1024) (φ := .bf16) (show Vec Ideal S544x1024 .bf16 from ((cfg0.win 0).blk t).view.read (Elt Ideal) A) (fun i j => f (544 * t.val + i) j) := fun i j => by
  obtain ⟨e0, e1⟩ := index0 t
  have b0 : (((cfg0.win 0).blk t).view.emb (ix2 i j) 0).val = win0_0.index t (0 : Fin 2) * 544 + 1 * i.val := rfl
  have b1 : (((cfg0.win 0).blk t).view.emb (ix2 i j) 1).val = win0_0.index t (1 : Fin 2) * 1024 + 1 * j.val := rfl
  refine (hA (((cfg0.win 0).blk t).view.emb (ix2 i j))).trans ?_
  rw [b0, b1, e0, e1]
  exact congrArg₂ f (by omega) (by omega)

theorem read1 (A : Buf (Elt Ideal) ((c.tc : Thread nD τ).loc (Pipeline.arrRef spec0 1))) (f : ℕ → ℕ → ℕ → EReal)
    (hA : ∀ y : S4x1024x1024.Idx, (A : FVec Ideal S4x1024x1024 .bf16) y = f (y 0).val (y 1).val (y 2).val) (t : Fin cfg0.N) :
    Of3 (a := 4) (b := 1024) (c := 1024) (φ := .bf16) (show Vec Ideal S4x1024x1024 .bf16 from ((cfg0.win 1).blk t).view.read (Elt Ideal) A) f := fun i j k => by
  obtain ⟨e0, e1, e2⟩ := index1 t
  have b0 : (((cfg0.win 1).blk t).view.emb (ix3 i j k) 0).val = win0_1.index t (0 : Fin 3) * 4 + 1 * i.val := rfl
  have b1 : (((cfg0.win 1).blk t).view.emb (ix3 i j k) 1).val = win0_1.index t (1 : Fin 3) * 1024 + 1 * j.val := rfl
  have b2 : (((cfg0.win 1).blk t).view.emb (ix3 i j k) 2).val = win0_1.index t (2 : Fin 3) * 1024 + 1 * k.val := rfl
  refine (hA (((cfg0.win 1).blk t).view.emb (ix3 i j k))).trans ?_
  rw [b0, b1, b2, e0, e1, e2]
  simp only [zero_mul, zero_add, one_mul]

theorem read2 (A : Buf (Elt Ideal) ((c.tc : Thread nD τ).loc (Pipeline.arrRef spec0 2))) (f : ℕ → ℕ → ℕ → EReal)
    (hA : ∀ y : S4x1024x1024.Idx, (A : FVec Ideal S4x1024x1024 .bf16) y = f (y 0).val (y 1).val (y 2).val) (t : Fin cfg0.N) :
    Of3 (a := 4) (b := 1024) (c := 1024) (φ := .bf16) (show Vec Ideal S4x1024x1024 .bf16 from ((cfg0.win 2).blk t).view.read (Elt Ideal) A) f := fun i j k => by
  obtain ⟨e0, e1, e2⟩ := index2 t
  have b0 : (((cfg0.win 2).blk t).view.emb (ix3 i j k) 0).val = win0_2.index t (0 : Fin 3) * 4 + 1 * i.val := rfl
  have b1 : (((cfg0.win 2).blk t).view.emb (ix3 i j k) 1).val = win0_2.index t (1 : Fin 3) * 1024 + 1 * j.val := rfl
  have b2 : (((cfg0.win 2).blk t).view.emb (ix3 i j k) 2).val = win0_2.index t (2 : Fin 3) * 1024 + 1 * k.val := rfl
  refine (hA (((cfg0.win 2).blk t).view.emb (ix3 i j k))).trans ?_
  rw [b0, b1, b2, e0, e1, e2]
  simp only [zero_mul, zero_add, one_mul]

theorem read3 (A : Buf (Elt Ideal) ((c.tc : Thread nD τ).loc (Pipeline.arrRef spec0 3))) (f : ℕ → ℕ → EReal)
    (hA : ∀ y : S2176x1024.Idx, (A : FVec Ideal S2176x1024 .f32) y = f (y 0).val (y 1).val) (t : Fin cfg0.N) :
    Of2 (a := 544) (b := 1024) (φ := .f32) (show Vec Ideal S544x1024 .f32 from ((cfg0.win 3).blk t).view.read (Elt Ideal) A) (fun i j => f (544 * t.val + i) j) := fun i j => by
  obtain ⟨e0, e1⟩ := index3 t
  have b0 : (((cfg0.win 3).blk t).view.emb (ix2 i j) 0).val = win0_3.index t (0 : Fin 2) * 544 + 1 * i.val := rfl
  have b1 : (((cfg0.win 3).blk t).view.emb (ix2 i j) 1).val = win0_3.index t (1 : Fin 2) * 1024 + 1 * j.val := rfl
  refine (hA (((cfg0.win 3).blk t).view.emb (ix2 i j))).trans ?_
  rw [b0, b1, e0, e1]
  exact congrArg₂ f (by omega) (by omega)

theorem read4 (A : Buf (Elt Ideal) ((c.tc : Thread nD τ).loc (Pipeline.arrRef spec0 4))) (f : ℕ → ℕ → EReal)
    (hA : ∀ y : S1x1024.Idx, (A : FVec Ideal S1x1024 .f32) y = f (y 0).val (y 1).val) (t : Fin cfg0.N) :
    Of2 (a := 1) (b := 1024) (φ := .f32) (show Vec Ideal S1x1024 .f32 from ((cfg0.win 4).blk t).view.read (Elt Ideal) A) f := fun i j => by
  obtain ⟨e0, e1⟩ := index4 t
  have b0 : (((cfg0.win 4).blk t).view.emb (ix2 i j) 0).val = win0_4.index t (0 : Fin 2) * 1 + 1 * i.val := rfl
  have b1 : (((cfg0.win 4).blk t).view.emb (ix2 i j) 1).val = win0_4.index t (1 : Fin 2) * 1024 + 1 * j.val := rfl
  refine (hA (((cfg0.win 4).blk t).view.emb (ix2 i j))).trans ?_
  rw [b0, b1, e0, e1]
  exact congrArg₂ f (by omega) (by omega)

/-- The rows a point works on. -/
abbrev from_ (f : ℕ → ℕ → EReal) (s : ℕ) : ℕ → ℕ → EReal := fun i j => f (s + i) j

/-- Slabs of columns. -/
abbrev colSlab (f : ℕ → ℕ → EReal) : ℕ → ℕ → ℕ → EReal := fun j k l => f k (1024 * j + l)

/-- Slabs of rows. -/
abbrev rowSlab (f : ℕ → ℕ → EReal) : ℕ → ℕ → ℕ → EReal := fun j l d => f (1024 * j + l) d

theorem block0 (t : Fin cfg0.N) : Of2 (a := 544) (b := 1024) (φ := .bf16) (show Vec Ideal S544x1024 .bf16 from iblk m c 0 t) (from_ (eZ m c) (544 * t.val)) :=
  read0 c (V m c main_v3) (eZ m c) (V_z_at m c) t

theorem block1 (t : Fin cfg0.N) : Of3 (a := 4) (b := 1024) (c := 1024) (φ := .bf16) (show Vec Ideal S4x1024x1024 .bf16 from iblk m c 1 t) (colSlab (eU m c)) :=
  read1 c (V m c main_v2) (colSlab (eU m c)) (V_u_at m c) t

theorem block2 (t : Fin cfg0.N) : Of3 (a := 4) (b := 1024) (c := 1024) (φ := .bf16) (show Vec Ideal S4x1024x1024 .bf16 from iblk m c 2 t) (rowSlab (eW m c)) :=
  read2 c (V m c main_v5) (rowSlab (eW m c)) (V_w_at m c) t

theorem block3 (t : Fin cfg0.N) : Of2 (a := 544) (b := 1024) (φ := .f32) (show Vec Ideal S544x1024 .f32 from iblk m c 3 t) (from_ (eH m c) (544 * t.val)) :=
  read3 c (V m c main_arg3) (eH m c) (V_h_at m c) t

theorem block4 (t : Fin cfg0.N) : Of2 (a := 1) (b := 1024) (φ := .f32) (show Vec Ideal S1x1024 .f32 from iblk m c 4 t) (eG m c) :=
  read4 c (V m c main_v6) (eG m c) (at_ix2 (V_g_of m c)) t

/-! Where an entry lies in a point's block. -/

theorem mem5 (t : Fin cfg0.N) (i : S2176x4096.Idx) : i ∈ ((cfg0.win 5).blk t).view.set
    ↔ ∀ a : Fin 2, win0_5.index t a * ((![544, 4096] : Fin 2 → ℕ) a) ≤ (i a).val ∧ (i a).val < win0_5.index t a * ((![544, 4096] : Fin 2 → ℕ) a) + (![544, 4096] : Fin 2 → ℕ) a := by
  show i ∈ ((View.whole main_v7_0).slice (win0_5.rect t)).set ↔ _
  rw [View.set_slice_whole, Rect.mem_set_unit]
  exact Iff.rfl

theorem mem6 (t : Fin cfg0.N) (i : S2176x1024.Idx) : i ∈ ((cfg0.win 6).blk t).view.set
    ↔ ∀ a : Fin 2, win0_6.index t a * ((![544, 1024] : Fin 2 → ℕ) a) ≤ (i a).val ∧ (i a).val < win0_6.index t a * ((![544, 1024] : Fin 2 → ℕ) a) + (![544, 1024] : Fin 2 → ℕ) a := by
  show i ∈ ((View.whole main_v7_1).slice (win0_6.rect t)).set ↔ _
  rw [View.set_slice_whole, Rect.mem_set_unit]
  exact Iff.rfl

theorem mem7 (t : Fin cfg0.N) (i : S2176x1024.Idx) : i ∈ ((cfg0.win 7).blk t).view.set
    ↔ ∀ a : Fin 2, win0_7.index t a * ((![544, 1024] : Fin 2 → ℕ) a) ≤ (i a).val ∧ (i a).val < win0_7.index t a * ((![544, 1024] : Fin 2 → ℕ) a) + (![544, 1024] : Fin 2 → ℕ) a := by
  show i ∈ ((View.whole main_v7_2).slice (win0_7.rect t)).set ↔ _
  rw [View.set_slice_whole, Rect.mem_set_unit]
  exact Iff.rfl

/-- A point's rows of the layer. -/
theorem rows (Z U W H : ℕ → ℕ → EReal) (s : ℕ) : slabLayer (from_ Z s) (colSlab U) (rowSlab W) (from_ H s) = from_ (layer Z U W H) s :=
  funext fun t => funext fun d => (slabLayer_eq (from_ Z s) U W (from_ H s) t d).trans rfl

/-- A point's rows of `z · w_up`. -/
theorem wide_rows (Z U : ℕ → ℕ → EReal) (s t f : ℕ) : wide (from_ Z s) (colSlab U) t f = up Z U (s + t) f := by
  show up (from_ Z s) (fun k l => U k (1024 * (f / 1024) + l)) t (f % 1024) = _
  unfold up
  exact Finset.sum_congr rfl fun k _ => congrArg (Z (s + t) k * ·) (congrArg (U k) (by omega))

/-- The layer before the activation. -/
theorem final5 : (dats m 0 c).arrAt 5 cfg0.N = grid2 (a := 2176) (b := 4096) (up (eZ m c) (eU m c)) := by
  refine (dats m 0 c).arrAt_eq_of_cover 5 (grid2 (a := 2176) (b := 4096) (up (eZ m c) (eU m c))) (fun t _ => ?_) fun i => ?_
  · obtain ⟨e0, e1⟩ := index5 t
    show (cfg0.win 5).cut (grid0.coords t) ((dats m 0 c).after 5 t) = _
    rw [after0_5]
    funext y
    have b0 : (((cfg0.win 5).blk t).view.emb y 0).val = win0_5.index t (0 : Fin 2) * 544 + 1 * (y 0).val := rfl
    have b1 : (((cfg0.win 5).blk t).view.emb y 1).val = win0_5.index t (1 : Fin 2) * 4096 + 1 * (y 1).val := rfl
    refine (out5 (block0 m c t) (block1 m c t) ((cfg0.win 5).xinj (grid0.coords t) y)).trans ((wide_rows _ _ _ _ _).trans ?_)
    show up (eZ m c) (eU m c) (544 * t.val + (y 0).val) (y 1).val
      = up (eZ m c) (eU m c) (((cfg0.win 5).blk t).view.emb y 0).val (((cfg0.win 5).blk t).view.emb y 1).val
    rw [b0, b1, e0, e1, mul_comm 544, one_mul, one_mul, zero_mul, zero_add]
  · have h0 : (i 0).val < 2176 := (i 0).isLt
    have h1 : (i 1).val < 4096 := (i 1).isLt
    have hN : cfg0.N = 4 := N_0
    have ht : (i 0).val / 544 < cfg0.N := by omega
    refine ⟨⟨_, ht⟩, flush0_5 _, ?_⟩
    obtain ⟨e0, e1⟩ := index5 ⟨_, ht⟩
    refine (mem5 _ i).2 ?_
    refine fun a => match a with
    | ⟨0, _⟩ => ?_
    | ⟨1, _⟩ => ?_
    · show win0_5.index ⟨_, ht⟩ (0 : Fin 2) * 544 ≤ (i 0).val ∧ (i 0).val < win0_5.index ⟨_, ht⟩ (0 : Fin 2) * 544 + 544
      rw [e0]; dsimp only; omega
    · show win0_5.index ⟨_, ht⟩ (1 : Fin 2) * 4096 ≤ (i 1).val ∧ (i 1).val < win0_5.index ⟨_, ht⟩ (1 : Fin 2) * 4096 + 4096
      rw [e1]; omega

abbrev eX : ℕ → ℕ → EReal := layer (eZ m c) (eU m c) (eW m c) (eH m c)

/-- The layer's result. -/
theorem final6 : (dats m 0 c).arrAt 6 cfg0.N = grid2 (a := 2176) (b := 1024) (eX m c) := by
  refine (dats m 0 c).arrAt_eq_of_cover 6 (grid2 (a := 2176) (b := 1024) (eX m c)) (fun t _ => ?_) fun i => ?_
  · obtain ⟨e0, e1⟩ := index6 t
    show (cfg0.win 6).cut (grid0.coords t) ((dats m 0 c).after 6 t) = _
    rw [after0_6]
    funext y
    have b0 : (((cfg0.win 6).blk t).view.emb y 0).val = win0_6.index t (0 : Fin 2) * 544 + 1 * (y 0).val := rfl
    have b1 : (((cfg0.win 6).blk t).view.emb y 1).val = win0_6.index t (1 : Fin 2) * 1024 + 1 * (y 1).val := rfl
    have hx := out6 (x4 := iblk m c 4 t) (block0 m c t) (block1 m c t) (block2 m c t) (block3 m c t)
    rw [rows] at hx
    refine (at_ix2 hx ((cfg0.win 6).xinj (grid0.coords t) y)).trans ?_
    show eX m c (544 * t.val + (y 0).val) (y 1).val
      = eX m c (((cfg0.win 6).blk t).view.emb y 0).val (((cfg0.win 6).blk t).view.emb y 1).val
    rw [b0, b1, e0, e1, mul_comm 544, one_mul, one_mul, zero_mul, zero_add]
  · have h0 : (i 0).val < 2176 := (i 0).isLt
    have h1 : (i 1).val < 1024 := (i 1).isLt
    have hN : cfg0.N = 4 := N_0
    have ht : (i 0).val / 544 < cfg0.N := by omega
    refine ⟨⟨_, ht⟩, flush0_6 _, ?_⟩
    obtain ⟨e0, e1⟩ := index6 ⟨_, ht⟩
    refine (mem6 _ i).2 ?_
    refine fun a => match a with
    | ⟨0, _⟩ => ?_
    | ⟨1, _⟩ => ?_
    · show win0_6.index ⟨_, ht⟩ (0 : Fin 2) * 544 ≤ (i 0).val ∧ (i 0).val < win0_6.index ⟨_, ht⟩ (0 : Fin 2) * 544 + 544
      rw [e0]; dsimp only; omega
    · show win0_6.index ⟨_, ht⟩ (1 : Fin 2) * 1024 ≤ (i 1).val ∧ (i 1).val < win0_6.index ⟨_, ht⟩ (1 : Fin 2) * 1024 + 1024
      rw [e1]; omega

/-- The normalised rows. -/
theorem final7 : (dats m 0 c).arrAt 7 cfg0.N = grid2 (a := 2176) (b := 1024) (norm (eX m c) (eG m c)) := by
  refine (dats m 0 c).arrAt_eq_of_cover 7 (grid2 (a := 2176) (b := 1024) (norm (eX m c) (eG m c))) (fun t _ => ?_) fun i => ?_
  · obtain ⟨e0, e1⟩ := index7 t
    show (cfg0.win 7).cut (grid0.coords t) ((dats m 0 c).after 7 t) = _
    rw [after0_7]
    funext y
    have b0 : (((cfg0.win 7).blk t).view.emb y 0).val = win0_7.index t (0 : Fin 2) * 544 + 1 * (y 0).val := rfl
    have b1 : (((cfg0.win 7).blk t).view.emb y 1).val = win0_7.index t (1 : Fin 2) * 1024 + 1 * (y 1).val := rfl
    have hx := out7 (block0 m c t) (block1 m c t) (block2 m c t) (block3 m c t) (block4 m c t)
    rw [rows] at hx
    refine (at_ix2 hx ((cfg0.win 7).xinj (grid0.coords t) y)).trans ?_
    show norm (eX m c) (eG m c) (544 * t.val + (y 0).val) (y 1).val
      = norm (eX m c) (eG m c) (((cfg0.win 7).blk t).view.emb y 0).val (((cfg0.win 7).blk t).view.emb y 1).val
    rw [b0, b1, e0, e1, mul_comm 544, one_mul, one_mul, zero_mul, zero_add]
  · have h0 : (i 0).val < 2176 := (i 0).isLt
    have h1 : (i 1).val < 1024 := (i 1).isLt
    have hN : cfg0.N = 4 := N_0
    have ht : (i 0).val / 544 < cfg0.N := by omega
    refine ⟨⟨_, ht⟩, flush0_7 _, ?_⟩
    obtain ⟨e0, e1⟩ := index7 ⟨_, ht⟩
    refine (mem7 _ i).2 ?_
    refine fun a => match a with
    | ⟨0, _⟩ => ?_
    | ⟨1, _⟩ => ?_
    · show win0_7.index ⟨_, ht⟩ (0 : Fin 2) * 544 ≤ (i 0).val ∧ (i 0).val < win0_7.index ⟨_, ht⟩ (0 : Fin 2) * 544 + 544
      rw [e0]; dsimp only; omega
    · show win0_7.index ⟨_, ht⟩ (1 : Fin 2) * 1024 ≤ (i 1).val ∧ (i 1).val < win0_7.index ⟨_, ht⟩ (1 : Fin 2) * 1024 + 1024
      rw [e1]; omega

end Cert.Forward

end
-- ==== Proof.ForwardPlain.lean ====
/- The MLP's plain forward program over the extended reals: its three results are those of the kernel. -/
module

public import proofs.«01_k».proof.Proof.ForwardArrays
public import proofs.«01_k».proof.Proof.Gen.MlpForwardReferenceIdeal.Read

@[expose] public section

noncomputable section

namespace Cert.Forward

open Idealize.ShloMosaic Cert.MlpForwardReferenceIdeal Cert.MlpForwardReferenceIdeal.Read Cert.Hidden

variable {x0 x3 : FVec Ideal S2176x1024 .f32} {x1 : FVec Ideal S1024x4096 .f32} {x2 : FVec Ideal S4096x1024 .f32} {x4 : FVec Ideal S1024 .f32}
  {Z U W H G : ℕ → ℕ → EReal}
  (h0 : Of2 (a := 2176) (b := 1024) (φ := .f32) x0 Z) (h1 : Of2 (a := 1024) (b := 4096) (φ := .f32) x1 U)
  (h2 : Of2 (a := 4096) (b := 1024) (φ := .f32) x2 W) (h3 : Of2 (a := 2176) (b := 1024) (φ := .f32) x3 H)
  (h4 : Of1 (b := 1024) (φ := .f32) x4 G)

include h0 h1

theorem plain_up (y : S2176x4096.Idx) : val_main_v0 (F := Ideal) x0 x1 y = up Z U (y 0).val (y 1).val :=
  (val_main_v0_apply x0 x1 y).trans (Finset.sum_congr rfl fun k _ => congrArg₂ (· * ·)
    ((congrArg x0 (ValueIdx.eq_ix2 _)).trans (h0 _ _)) ((congrArg x1 (ValueIdx.eq_ix2 _)).trans (h1 _ _)))

/-- The plain program's layer before the activation. -/
theorem plain_before (y : S2176x4096.Idx) : val_main_v5 (F := Ideal) x0 x1 y = up Z U (y 0).val (y 1).val := by
  rw [val_main_v5_apply, plain_up h0 h1 y]
  rfl

theorem plain_act (y : S2176x4096.Idx) : val_main_v2 (F := Ideal) x0 x1 y = act Z U (y 0).val (y 1).val := by
  have hz : val_main_call0_v0 (F := Ideal) y = (0 : EReal) := (val_main_call0_v0_apply y).trans zero
  rw [val_main_v2_apply, val_main_v1_apply, hz, plain_up h0 h1 y]
  rfl

include h2 h3

/-- The plain program's layer. -/
theorem plain_layer (y : S2176x1024.Idx) : val_main_v4 (F := Ideal) x0 x1 x2 x3 y = layer Z U W H (y 0).val (y 1).val := by
  rw [val_main_v4_apply, val_main_v3_apply]
  refine congrArg₂ (· + ·) ((congrArg x3 (ValueIdx.eq_ix2 y)).trans (h3 _ _)) (Finset.sum_congr rfl fun k _ => ?_)
  rw [plain_act h0 h1]
  exact congrArg (_ * ·) ((congrArg x2 (ValueIdx.eq_ix2 _)).trans (h2 _ _))

theorem plain_sum (y : S2176.Idx) : val_main_v7 (F := Ideal) x0 x1 x2 x3 y
    = (∑ k : Fin 1024, layer Z U W H (y 0).val k * layer Z U W H (y 0).val k : EReal) := by
  rw [val_main_v7_apply, val_main_cst_apply]
  refine (congrArg₂ (· + ·) zero (Finset.sum_congr rfl fun k _ => ?_)).trans (zero_add _)
  rw [val_main_v6_apply, plain_layer h0 h1 h2 h3]
  rfl

theorem plain_scale (y : S2176x1.Idx) : val_main_v13 (F := Ideal) x0 x1 x2 x3 y = scale (layer Z U W H) (y 0).val := by
  rw [val_main_v13_apply, val_main_v12_apply, val_main_v10_apply, val_main_v8_apply, val_main_v9_apply, val_main_v11_apply,
    val_main_cst_0_apply, val_main_cst_1_apply, plain_sum h0 h1 h2 h3]
  rfl

include h4

/-- The plain program's normalised rows. -/
theorem plain_norm (y : S2176x1024.Idx) : val_main_v19 (F := Ideal) x0 x1 x2 x3 x4 y = norm (layer Z U W H) G (y 0).val (y 1).val := by
  rw [val_main_v19_apply, val_main_v18_apply, val_main_v15_apply, val_main_v14_apply, val_main_v17_apply, val_main_v16_apply,
    plain_layer h0 h1 h2 h3, plain_scale h0 h1 h2 h3]
  have hg : x4 (idx_main_v16 (idx_main_v17 y)) = G 0 (y 1).val := (congrArg x4 (ValueIdx.eq_ix1 _)).trans (h4 _)
  rw [hg]
  rfl

end Cert.Forward

end
-- ==== Proof.PiecesArrays.lean ====
/- The weight gradients of the projections over the extended reals: what the kernel's body computes from its blocks, what its host code hands to
   the grid, and the six result arrays. -/
module

public import proofs.«01_k».proof.Proof.Gen.PiecesIdeal.Value
public import proofs.«01_k».proof.Proof.MlpArrays

@[expose] public section

noncomputable section

namespace Cert.Pieces

open Idealize.ShloMosaic Idealize.SL Cert.PiecesIdeal Cert.PiecesIdeal.Gen Idealize.ShloMosaic.StableHlo Cert.Hidden

/-- The gradient of a projection's weights, a row for each output feature. -/
def grad (P Z : ℕ → ℕ → EReal) (i j : ℕ) : EReal := ∑ t : Fin 2176, P t i * Z t j

section Body

variable {P Z : ℕ → ℕ → EReal} {x z : Vec Ideal S2176x512 .bf16} {n : Vec Ideal S2176x128 .bf16}

theorem mm {x : FVec Ideal S2176x512 .bf16} {y : FVec Ideal S2176x512 .bf16} (hx : Of2 (a := 2176) (b := 512) (φ := .bf16) x P)
    (hy : Of2 (a := 2176) (b := 512) (φ := .bf16) y Z) :
    Of2 (a := 512) (b := 512) (φ := .f32) (matmul dot_S2176x512_S2176x512_S512x512_0_0_1_1_n_n none x y (constant S512x512 .f32 0x00000000#32)) (grad P Z) := fun i j => by
  refine (Ideal.matmul_apply₁_of dot_S2176x512_S2176x512_S512x512_0_0_1_1_n_n (a := 0) rfl (K := 2176) rfl x y _ (ix2 i j) (fun k => ix2 k i) (fun k => ix2 k j) ?_ ?_).trans ?_
  · intro k; funext e; refine Fin.ext ?_; fin_cases e <;> rfl
  · intro k; funext e; refine Fin.ext ?_; fin_cases e <;> rfl
  · refine (congrArg₂ (· + ·) zero (Finset.sum_congr rfl fun k _ => congrArg₂ (· * ·) (hx k i) (hy k j))).trans (zero_add _)

theorem mm' {x : FVec Ideal S2176x128 .bf16} {y : FVec Ideal S2176x512 .bf16} (hx : Of2 (a := 2176) (b := 128) (φ := .bf16) x P)
    (hy : Of2 (a := 2176) (b := 512) (φ := .bf16) y Z) :
    Of2 (a := 128) (b := 512) (φ := .f32) (matmul dot_S2176x128_S2176x512_S128x512_0_0_1_1_n_n none x y (constant S128x512 .f32 0x00000000#32)) (grad P Z) := fun i j => by
  refine (Ideal.matmul_apply₁_of dot_S2176x128_S2176x512_S128x512_0_0_1_1_n_n (a := 0) rfl (K := 2176) rfl x y _ (ix2 i j) (fun k => ix2 k i) (fun k => ix2 k j) ?_ ?_).trans ?_
  · intro k; funext e; refine Fin.ext ?_; fin_cases e <;> rfl
  · intro k; funext e; refine Fin.ext ?_; fin_cases e <;> rfl
  · refine (congrArg₂ (· + ·) zero (Finset.sum_congr rfl fun k _ => congrArg₂ (· * ·) (hx k i) (hy k j))).trans (zero_add _)

theorem pay4 (hx : Of2 (a := 2176) (b := 512) (φ := .bf16) x P) (hz : Of2 (a := 2176) (b := 512) (φ := .bf16) z Z) :
    Of2 (a := 512) (b := 512) (φ := .bf16) (k0_pay4 x z) (grad P Z) := by
  have hm := mm (hx.castSame shapeCasts_S2176x512_S2176x512) (hz.castSame shapeCasts_S2176x512_S2176x512)
  exact Of2.castSame (φ := .bf16) shapeCasts_S512x512_S512x512 hm

theorem pay3 (hx : Of2 (a := 2176) (b := 128) (φ := .bf16) n P) (hz : Of2 (a := 2176) (b := 512) (φ := .bf16) z Z) :
    Of2 (a := 128) (b := 512) (φ := .bf16) (k0_pay3 n z) (grad P Z) := by
  have hm := mm' (hx.castSame shapeCasts_S2176x128_S2176x128) (hz.castSame shapeCasts_S2176x512_S2176x512)
  exact Of2.castSame (φ := .bf16) shapeCasts_S128x512_S128x512 hm

theorem ldw (x : Vec Ideal S2176x512 .bf16) : View.ld x r0_0 = x := View.ld_unit_zero hz2 inb_S2176x512_S2176x512_0_0 x
theorem ldn (x : Vec Ideal S2176x128 .bf16) : View.ld x r0_2 = x := View.ld_unit_zero hz2 inb_S2176x128_S2176x128_0_0 x

variable {x0 x1 x2 x3 x4 x6 : Vec Ideal S2176x512 .bf16} {x5 : Vec Ideal S2176x128 .bf16}

theorem out7 (hx : Of2 (a := 2176) (b := 512) (φ := .bf16) x0 P) (hz : Of2 (a := 2176) (b := 512) (φ := .bf16) x6 Z) :
    Of2 (a := 512) (b := 512) (φ := .bf16) (out0_7 x0 x1 x2 x3 x4 x5 x6) (grad P Z) := by
  have e : out0_7 x0 x1 x2 x3 x4 x5 x6 = k0_pay4 x0 x6 := by
    unfold out0_7
    rw [ldw x0, ldw x6]
    exact View.canon_cons_unit_zero hz2 inb_S512x512_S512x512_0_0 _ _
  rw [e]
  exact pay4 hx hz

theorem out8 (hx : Of2 (a := 2176) (b := 512) (φ := .bf16) x1 P) (hz : Of2 (a := 2176) (b := 512) (φ := .bf16) x6 Z) :
    Of2 (a := 512) (b := 512) (φ := .bf16) (out0_8 x0 x1 x2 x3 x4 x5 x6) (grad P Z) := by
  have e : out0_8 x0 x1 x2 x3 x4 x5 x6 = k0_pay5 x1 x6 := by
    unfold out0_8
    rw [ldw x1, ldw x6]
    exact View.canon_cons_unit_zero hz2 inb_S512x512_S512x512_0_0 _ _
  rw [e]
  exact pay4 hx hz

theorem out9 (hx : Of2 (a := 2176) (b := 512) (φ := .bf16) x2 P) (hz : Of2 (a := 2176) (b := 512) (φ := .bf16) x6 Z) :
    Of2 (a := 512) (b := 512) (φ := .bf16) (out0_9 x0 x1 x2 x3 x4 x5 x6) (grad P Z) := by
  have e : out0_9 x0 x1 x2 x3 x4 x5 x6 = k0_pay6 x2 x6 := by
    unfold out0_9
    rw [ldw x2, ldw x6]
    exact View.canon_cons_unit_zero hz2 inb_S512x512_S512x512_0_0 _ _
  rw [e]
  exact pay4 hx hz

theorem out10 (hx : Of2 (a := 2176) (b := 512) (φ := .bf16) x3 P) (hz : Of2 (a := 2176) (b := 512) (φ := .bf16) x6 Z) :
    Of2 (a := 512) (b := 512) (φ := .bf16) (out0_10 x0 x1 x2 x3 x4 x5 x6) (grad P Z) := by
  have e : out0_10 x0 x1 x2 x3 x4 x5 x6 = k0_pay1 (k0_pay7 x3) (k0_pay8 x6) := by
    unfold out0_10
    rw [ldw x3, ldw x6]
    exact View.canon_cons_unit_zero hz2 inb_S512x512_S512x512_0_0 _ _
  rw [e]
  exact pay4 hx hz

theorem out11 (hx : Of2 (a := 2176) (b := 512) (φ := .bf16) x4 P) (hz : Of2 (a := 2176) (b := 512) (φ := .bf16) x6 Z) :
    Of2 (a := 512) (b := 512) (φ := .bf16) (out0_11 x0 x1 x2 x3 x4 x5 x6) (grad P Z) := by
  have e : out0_11 x0 x1 x2 x3 x4 x5 x6 = k0_pay2 x4 x6 := by
    unfold out0_11
    rw [ldw x4, ldw x6]
    exact View.canon_cons_unit_zero hz2 inb_S512x512_S512x512_0_0 _ _
  rw [e]
  exact pay4 hx hz

theorem out12 (hx : Of2 (a := 2176) (b := 128) (φ := .bf16) x5 P) (hz : Of2 (a := 2176) (b := 512) (φ := .bf16) x6 Z) :
    Of2 (a := 128) (b := 512) (φ := .bf16) (out0_12 x0 x1 x2 x3 x4 x5 x6) (grad P Z) := by
  have e : out0_12 x0 x1 x2 x3 x4 x5 x6 = k0_pay3 x5 x6 := by
    unfold out0_12
    rw [ldn x5, ldw x6]
    exact View.canon_cons_unit_zero hz2 inb_S128x512_S128x512_0_0 _ _
  rw [e]
  exact pay3 hx hz

end Body

variable (m : (ℓ : Loc nD τ sig) → Buf (Elt Ideal) ℓ) (c : Dev nD)

/-! The arguments and their entries. -/

abbrev a0 : Vec Ideal S2176x1024 .f32 := m ((c.tc : Thread nD τ).loc main_arg0)
abbrev a1 : Vec Ideal S2176x512 .f32 := m ((c.tc : Thread nD τ).loc main_arg1)
abbrev a2 : Vec Ideal S2176x512 .f32 := m ((c.tc : Thread nD τ).loc main_arg2)
abbrev a3 : Vec Ideal S2176x512 .f32 := m ((c.tc : Thread nD τ).loc main_arg3)
abbrev a4 : Vec Ideal S2176x512 .f32 := m ((c.tc : Thread nD τ).loc main_arg4)
abbrev a5 : Vec Ideal S2176x512 .f32 := m ((c.tc : Thread nD τ).loc main_arg5)
abbrev a6 : Vec Ideal S2176x128 .f32 := m ((c.tc : Thread nD τ).loc main_arg6)
abbrev eZ : ℕ → ℕ → EReal := entries (a := 2176) (b := 1024) (a0 m c)
abbrev g1 : ℕ → ℕ → EReal := entries (a := 2176) (b := 512) (a1 m c)
abbrev g2 : ℕ → ℕ → EReal := entries (a := 2176) (b := 512) (a2 m c)
abbrev g3 : ℕ → ℕ → EReal := entries (a := 2176) (b := 512) (a3 m c)
abbrev g4 : ℕ → ℕ → EReal := entries (a := 2176) (b := 512) (a4 m c)
abbrev g5 : ℕ → ℕ → EReal := entries (a := 2176) (b := 512) (a5 m c)
abbrev g6 : ℕ → ℕ → EReal := entries (a := 2176) (b := 128) (a6 m c)
/-! The arrays the host code makes of them: each argument, rounded to a format whose values are the same extended reals. -/

theorem V6 : V m c main_v6 = (show FVec Ideal S2176x1024 .bf16 from truncf .bf16 (show FVec Ideal S2176x1024 .f32 from a0 m c) bitsLt_bf16_f32) := by
  simp only [V, hostOps0]
  after_results_simp <;> rfl

theorem V6_at (y : S2176x1024.Idx) : (V m c main_v6 : FVec Ideal S2176x1024 .bf16) y = eZ m c (y 0).val (y 1).val :=
  (congrFun (V6 m c) y).trans ((congrArg (a0 m c) (ValueIdx.eq_ix2 y)).trans (entries_of (a := 2176) (b := 1024) (φ := .f32) (a0 m c) _ _))

theorem V0 : V m c main_v0 = (show FVec Ideal S2176x512 .bf16 from truncf .bf16 (show FVec Ideal S2176x512 .f32 from a1 m c) bitsLt_bf16_f32) := by
  simp only [V, hostOps0]
  after_results_simp <;> rfl

theorem V0_at (y : S2176x512.Idx) : (V m c main_v0 : FVec Ideal S2176x512 .bf16) y = g1 m c (y 0).val (y 1).val :=
  (congrFun (V0 m c) y).trans ((congrArg (a1 m c) (ValueIdx.eq_ix2 y)).trans (entries_of (a := 2176) (b := 512) (φ := .f32) (a1 m c) _ _))

theorem V1 : V m c main_v1 = (show FVec Ideal S2176x512 .bf16 from truncf .bf16 (show FVec Ideal S2176x512 .f32 from a2 m c) bitsLt_bf16_f32) := by
  simp only [V, hostOps0]
  after_results_simp <;> rfl

theorem V1_at (y : S2176x512.Idx) : (V m c main_v1 : FVec Ideal S2176x512 .bf16) y = g2 m c (y 0).val (y 1).val :=
  (congrFun (V1 m c) y).trans ((congrArg (a2 m c) (ValueIdx.eq_ix2 y)).trans (entries_of (a := 2176) (b := 512) (φ := .f32) (a2 m c) _ _))

theorem V2 : V m c main_v2 = (show FVec Ideal S2176x512 .bf16 from truncf .bf16 (show FVec Ideal S2176x512 .f32 from a3 m c) bitsLt_bf16_f32) := by
  simp only [V, hostOps0]
  after_results_simp <;> rfl

theorem V2_at (y : S2176x512.Idx) : (V m c main_v2 : FVec Ideal S2176x512 .bf16) y = g3 m c (y 0).val (y 1).val :=
  (congrFun (V2 m c) y).trans ((congrArg (a3 m c) (ValueIdx.eq_ix2 y)).trans (entries_of (a := 2176) (b := 512) (φ := .f32) (a3 m c) _ _))

theorem V3 : V m c main_v3 = (show FVec Ideal S2176x512 .bf16 from truncf .bf16 (show FVec Ideal S2176x512 .f32 from a4 m c) bitsLt_bf16_f32) := by
  simp only [V, hostOps0]
  after_results_simp <;> rfl

theorem V3_at (y : S2176x512.Idx) : (V m c main_v3 : FVec Ideal S2176x512 .bf16) y = g4 m c (y 0).val (y 1).val :=
  (congrFun (V3 m c) y).trans ((congrArg (a4 m c) (ValueIdx.eq_ix2 y)).trans (entries_of (a := 2176) (b := 512) (φ := .f32) (a4 m c) _ _))

theorem V4 : V m c main_v4 = (show FVec Ideal S2176x512 .bf16 from truncf .bf16 (show FVec Ideal S2176x512 .f32 from a5 m c) bitsLt_bf16_f32) := by
  simp only [V, hostOps0]
  after_results_simp <;> rfl

theorem V4_at (y : S2176x512.Idx) : (V m c main_v4 : FVec Ideal S2176x512 .bf16) y = g5 m c (y 0).val (y 1).val :=
  (congrFun (V4 m c) y).trans ((congrArg (a5 m c) (ValueIdx.eq_ix2 y)).trans (entries_of (a := 2176) (b := 512) (φ := .f32) (a5 m c) _ _))

theorem V5 : V m c main_v5 = (show FVec Ideal S2176x128 .bf16 from truncf .bf16 (show FVec Ideal S2176x128 .f32 from a6 m c) bitsLt_bf16_f32) := by
  simp only [V, hostOps0]
  after_results_simp <;> rfl

theorem V5_at (y : S2176x128.Idx) : (V m c main_v5 : FVec Ideal S2176x128 .bf16) y = g6 m c (y 0).val (y 1).val :=
  (congrFun (V5 m c) y).trans ((congrArg (a6 m c) (ValueIdx.eq_ix2 y)).trans (entries_of (a := 2176) (b := 128) (φ := .f32) (a6 m c) _ _))

/-! The blocks. -/

theorem index0 : ∀ t : Fin cfg0.N, win0_0.index t (0 : Fin 2) = 0 ∧ win0_0.index t (1 : Fin 2) = 0 :=
  (by decide +kernel : ∀ t : Fin grid0.N, _)

theorem index1 : ∀ t : Fin cfg0.N, win0_1.index t (0 : Fin 2) = 0 ∧ win0_1.index t (1 : Fin 2) = 0 :=
  (by decide +kernel : ∀ t : Fin grid0.N, _)

theorem index2 : ∀ t : Fin cfg0.N, win0_2.index t (0 : Fin 2) = 0 ∧ win0_2.index t (1 : Fin 2) = 0 :=
  (by decide +kernel : ∀ t : Fin grid0.N, _)

theorem index3 : ∀ t : Fin cfg0.N, win0_3.index t (0 : Fin 2) = 0 ∧ win0_3.index t (1 : Fin 2) = 0 :=
  (by decide +kernel : ∀ t : Fin grid0.N, _)

theorem index4 : ∀ t : Fin cfg0.N, win0_4.index t (0 : Fin 2) = 0 ∧ win0_4.index t (1 : Fin 2) = 0 :=
  (by decide +kernel : ∀ t : Fin grid0.N, _)

theorem index5 : ∀ t : Fin cfg0.N, win0_5.index t (0 : Fin 2) = 0 ∧ win0_5.index t (1 : Fin 2) = 0 :=
  (by decide +kernel : ∀ t : Fin grid0.N, _)

theorem index6 : ∀ t : Fin cfg0.N, win0_6.index t (0 : Fin 2) = 0 ∧ win0_6.index t (1 : Fin 2) = t.val :=
  (by decide +kernel : ∀ t : Fin grid0.N, _)

theorem index7 : ∀ t : Fin cfg0.N, win0_7.index t (0 : Fin 2) = 0 ∧ win0_7.index t (1 : Fin 2) = t.val :=
  (by decide +kernel : ∀ t : Fin grid0.N, _)

theorem index8 : ∀ t : Fin cfg0.N, win0_8.index t (0 : Fin 2) = 0 ∧ win0_8.index t (1 : Fin 2) = t.val :=
  (by decide +kernel : ∀ t : Fin grid0.N, _)

theorem index9 : ∀ t : Fin cfg0.N, win0_9.index t (0 : Fin 2) = 0 ∧ win0_9.index t (1 : Fin 2) = t.val :=
  (by decide +kernel : ∀ t : Fin grid0.N, _)

theorem index10 : ∀ t : Fin cfg0.N, win0_10.index t (0 : Fin 2) = 0 ∧ win0_10.index t (1 : Fin 2) = t.val :=
  (by decide +kernel : ∀ t : Fin grid0.N, _)

theorem index11 : ∀ t : Fin cfg0.N, win0_11.index t (0 : Fin 2) = 0 ∧ win0_11.index t (1 : Fin 2) = t.val :=
  (by decide +kernel : ∀ t : Fin grid0.N, _)

theorem index12 : ∀ t : Fin cfg0.N, win0_12.index t (0 : Fin 2) = 0 ∧ win0_12.index t (1 : Fin 2) = t.val :=
  (by decide +kernel : ∀ t : Fin grid0.N, _)

theorem read0 (A : Buf (Elt Ideal) ((c.tc : Thread nD τ).loc (Pipeline.arrRef spec0 0))) (f : ℕ → ℕ → EReal)
    (hA : ∀ y : S2176x512.Idx, (A : FVec Ideal S2176x512 .bf16) y = f (y 0).val (y 1).val) (t : Fin cfg0.N) :
    Of2 (a := 2176) (b := 512) (φ := .bf16) (show Vec Ideal S2176x512 .bf16 from ((cfg0.win 0).blk t).view.read (Elt Ideal) A) f := fun i j => by
  obtain ⟨e0, e1⟩ := index0 t
  have b0 : (((cfg0.win 0).blk t).view.emb (ix2 i j) 0).val = win0_0.index t (0 : Fin 2) * 2176 + 1 * i.val := rfl
  have b1 : (((cfg0.win 0).blk t).view.emb (ix2 i j) 1).val = win0_0.index t (1 : Fin 2) * 512 + 1 * j.val := rfl
  refine (hA (((cfg0.win 0).blk t).view.emb (ix2 i j))).trans ?_
  rw [b0, b1, e0, e1]
  exact congrArg₂ f (by omega) (by omega)

theorem block0 (t : Fin cfg0.N) : Of2 (a := 2176) (b := 512) (φ := .bf16) (show Vec Ideal S2176x512 .bf16 from iblk m c 0 t) (g1 m c) :=
  read0 c (V m c main_v0) (g1 m c) (V0_at m c) t

theorem read1 (A : Buf (Elt Ideal) ((c.tc : Thread nD τ).loc (Pipeline.arrRef spec0 1))) (f : ℕ → ℕ → EReal)
    (hA : ∀ y : S2176x512.Idx, (A : FVec Ideal S2176x512 .bf16) y = f (y 0).val (y 1).val) (t : Fin cfg0.N) :
    Of2 (a := 2176) (b := 512) (φ := .bf16) (show Vec Ideal S2176x512 .bf16 from ((cfg0.win 1).blk t).view.read (Elt Ideal) A) f := fun i j => by
  obtain ⟨e0, e1⟩ := index1 t
  have b0 : (((cfg0.win 1).blk t).view.emb (ix2 i j) 0).val = win0_1.index t (0 : Fin 2) * 2176 + 1 * i.val := rfl
  have b1 : (((cfg0.win 1).blk t).view.emb (ix2 i j) 1).val = win0_1.index t (1 : Fin 2) * 512 + 1 * j.val := rfl
  refine (hA (((cfg0.win 1).blk t).view.emb (ix2 i j))).trans ?_
  rw [b0, b1, e0, e1]
  exact congrArg₂ f (by omega) (by omega)

theorem block1 (t : Fin cfg0.N) : Of2 (a := 2176) (b := 512) (φ := .bf16) (show Vec Ideal S2176x512 .bf16 from iblk m c 1 t) (g2 m c) :=
  read1 c (V m c main_v1) (g2 m c) (V1_at m c) t

theorem read2 (A : Buf (Elt Ideal) ((c.tc : Thread nD τ).loc (Pipeline.arrRef spec0 2))) (f : ℕ → ℕ → EReal)
    (hA : ∀ y : S2176x512.Idx, (A : FVec Ideal S2176x512 .bf16) y = f (y 0).val (y 1).val) (t : Fin cfg0.N) :
    Of2 (a := 2176) (b := 512) (φ := .bf16) (show Vec Ideal S2176x512 .bf16 from ((cfg0.win 2).blk t).view.read (Elt Ideal) A) f := fun i j => by
  obtain ⟨e0, e1⟩ := index2 t
  have b0 : (((cfg0.win 2).blk t).view.emb (ix2 i j) 0).val = win0_2.index t (0 : Fin 2) * 2176 + 1 * i.val := rfl
  have b1 : (((cfg0.win 2).blk t).view.emb (ix2 i j) 1).val = win0_2.index t (1 : Fin 2) * 512 + 1 * j.val := rfl
  refine (hA (((cfg0.win 2).blk t).view.emb (ix2 i j))).trans ?_
  rw [b0, b1, e0, e1]
  exact congrArg₂ f (by omega) (by omega)

theorem block2 (t : Fin cfg0.N) : Of2 (a := 2176) (b := 512) (φ := .bf16) (show Vec Ideal S2176x512 .bf16 from iblk m c 2 t) (g3 m c) :=
  read2 c (V m c main_v2) (g3 m c) (V2_at m c) t

theorem read3 (A : Buf (Elt Ideal) ((c.tc : Thread nD τ).loc (Pipeline.arrRef spec0 3))) (f : ℕ → ℕ → EReal)
    (hA : ∀ y : S2176x512.Idx, (A : FVec Ideal S2176x512 .bf16) y = f (y 0).val (y 1).val) (t : Fin cfg0.N) :
    Of2 (a := 2176) (b := 512) (φ := .bf16) (show Vec Ideal S2176x512 .bf16 from ((cfg0.win 3).blk t).view.read (Elt Ideal) A) f := fun i j => by
  obtain ⟨e0, e1⟩ := index3 t
  have b0 : (((cfg0.win 3).blk t).view.emb (ix2 i j) 0).val = win0_3.index t (0 : Fin 2) * 2176 + 1 * i.val := rfl
  have b1 : (((cfg0.win 3).blk t).view.emb (ix2 i j) 1).val = win0_3.index t (1 : Fin 2) * 512 + 1 * j.val := rfl
  refine (hA (((cfg0.win 3).blk t).view.emb (ix2 i j))).trans ?_
  rw [b0, b1, e0, e1]
  exact congrArg₂ f (by omega) (by omega)

theorem block3 (t : Fin cfg0.N) : Of2 (a := 2176) (b := 512) (φ := .bf16) (show Vec Ideal S2176x512 .bf16 from iblk m c 3 t) (g4 m c) :=
  read3 c (V m c main_v3) (g4 m c) (V3_at m c) t

theorem read4 (A : Buf (Elt Ideal) ((c.tc : Thread nD τ).loc (Pipeline.arrRef spec0 4))) (f : ℕ → ℕ → EReal)
    (hA : ∀ y : S2176x512.Idx, (A : FVec Ideal S2176x512 .bf16) y = f (y 0).val (y 1).val) (t : Fin cfg0.N) :
    Of2 (a := 2176) (b := 512) (φ := .bf16) (show Vec Ideal S2176x512 .bf16 from ((cfg0.win 4).blk t).view.read (Elt Ideal) A) f := fun i j => by
  obtain ⟨e0, e1⟩ := index4 t
  have b0 : (((cfg0.win 4).blk t).view.emb (ix2 i j) 0).val = win0_4.index t (0 : Fin 2) * 2176 + 1 * i.val := rfl
  have b1 : (((cfg0.win 4).blk t).view.emb (ix2 i j) 1).val = win0_4.index t (1 : Fin 2) * 512 + 1 * j.val := rfl
  refine (hA (((cfg0.win 4).blk t).view.emb (ix2 i j))).trans ?_
  rw [b0, b1, e0, e1]
  exact congrArg₂ f (by omega) (by omega)

theorem block4 (t : Fin cfg0.N) : Of2 (a := 2176) (b := 512) (φ := .bf16) (show Vec Ideal S2176x512 .bf16 from iblk m c 4 t) (g5 m c) :=
  read4 c (V m c main_v4) (g5 m c) (V4_at m c) t

theorem read5 (A : Buf (Elt Ideal) ((c.tc : Thread nD τ).loc (Pipeline.arrRef spec0 5))) (f : ℕ → ℕ → EReal)
    (hA : ∀ y : S2176x128.Idx, (A : FVec Ideal S2176x128 .bf16) y = f (y 0).val (y 1).val) (t : Fin cfg0.N) :
    Of2 (a := 2176) (b := 128) (φ := .bf16) (show Vec Ideal S2176x128 .bf16 from ((cfg0.win 5).blk t).view.read (Elt Ideal) A) f := fun i j => by
  obtain ⟨e0, e1⟩ := index5 t
  have b0 : (((cfg0.win 5).blk t).view.emb (ix2 i j) 0).val = win0_5.index t (0 : Fin 2) * 2176 + 1 * i.val := rfl
  have b1 : (((cfg0.win 5).blk t).view.emb (ix2 i j) 1).val = win0_5.index t (1 : Fin 2) * 128 + 1 * j.val := rfl
  refine (hA (((cfg0.win 5).blk t).view.emb (ix2 i j))).trans ?_
  rw [b0, b1, e0, e1]
  exact congrArg₂ f (by omega) (by omega)

theorem block5 (t : Fin cfg0.N) : Of2 (a := 2176) (b := 128) (φ := .bf16) (show Vec Ideal S2176x128 .bf16 from iblk m c 5 t) (g6 m c) :=
  read5 c (V m c main_v5) (g6 m c) (V5_at m c) t

theorem read6 (A : Buf (Elt Ideal) ((c.tc : Thread nD τ).loc (Pipeline.arrRef spec0 6))) (f : ℕ → ℕ → EReal)
    (hA : ∀ y : S2176x1024.Idx, (A : FVec Ideal S2176x1024 .bf16) y = f (y 0).val (y 1).val) (t : Fin cfg0.N) :
    Of2 (a := 2176) (b := 512) (φ := .bf16) (show Vec Ideal S2176x512 .bf16 from ((cfg0.win 6).blk t).view.read (Elt Ideal) A) (fun i j => f i (512 * t.val + j)) := fun i j => by
  obtain ⟨e0, e1⟩ := index6 t
  have b0 : (((cfg0.win 6).blk t).view.emb (ix2 i j) 0).val = win0_6.index t (0 : Fin 2) * 2176 + 1 * i.val := rfl
  have b1 : (((cfg0.win 6).blk t).view.emb (ix2 i j) 1).val = win0_6.index t (1 : Fin 2) * 512 + 1 * j.val := rfl
  refine (hA (((cfg0.win 6).blk t).view.emb (ix2 i j))).trans ?_
  rw [b0, b1, e0, e1]
  exact congrArg₂ f (by omega) (by omega)

theorem block6 (t : Fin cfg0.N) : Of2 (a := 2176) (b := 512) (φ := .bf16) (show Vec Ideal S2176x512 .bf16 from iblk m c 6 t) (fun i j => eZ m c i (512 * t.val + j)) :=
  read6 c (V m c main_v6) (eZ m c) (V6_at m c) t

/-! The results. -/

theorem mem7 (t : Fin cfg0.N) (i : S512x1024.Idx) : i ∈ ((cfg0.win 7).blk t).view.set
    ↔ ∀ a : Fin 2, win0_7.index t a * ((![512, 512] : Fin 2 → ℕ) a) ≤ (i a).val ∧ (i a).val < win0_7.index t a * ((![512, 512] : Fin 2 → ℕ) a) + (![512, 512] : Fin 2 → ℕ) a := by
  show i ∈ ((View.whole main_v7_0).slice (win0_7.rect t)).set ↔ _
  rw [View.set_slice_whole, Rect.mem_set_unit]
  exact Iff.rfl

theorem final7 : (dats m 0 c).arrAt 7 cfg0.N = grid2 (a := 512) (b := 1024) (grad (g1 m c) (eZ m c)) := by
  refine (dats m 0 c).arrAt_eq_of_cover 7 (grid2 (a := 512) (b := 1024) (grad (g1 m c) (eZ m c))) (fun t _ => ?_) fun i => ?_
  · obtain ⟨e0, e1⟩ := index7 t
    show (cfg0.win 7).cut (grid0.coords t) ((dats m 0 c).after 7 t) = _
    rw [after0_7]
    funext y
    have b0 : (((cfg0.win 7).blk t).view.emb y 0).val = win0_7.index t (0 : Fin 2) * 512 + 1 * (y 0).val := rfl
    have b1 : (((cfg0.win 7).blk t).view.emb y 1).val = win0_7.index t (1 : Fin 2) * 512 + 1 * (y 1).val := rfl
    refine (at_ix2 (out7 (block0 m c t) (block6 m c t)) ((cfg0.win 7).xinj (grid0.coords t) y)).trans ?_
    show grad (g1 m c) (eZ m c) (y 0).val (512 * t.val + (y 1).val)
      = grad (g1 m c) (eZ m c) (((cfg0.win 7).blk t).view.emb y 0).val (((cfg0.win 7).blk t).view.emb y 1).val
    rw [b0, b1, e0, e1, mul_comm 512, one_mul, one_mul, zero_mul, zero_add]
  · have h0 : (i 0).val < 512 := (i 0).isLt
    have h1 : (i 1).val < 1024 := (i 1).isLt
    have hN : cfg0.N = 2 := N_0
    have ht : (i 1).val / 512 < cfg0.N := by omega
    refine ⟨⟨_, ht⟩, flush0_7 _, ?_⟩
    obtain ⟨e0, e1⟩ := index7 ⟨_, ht⟩
    refine (mem7 _ i).2 ?_
    refine fun a => match a with
    | ⟨0, _⟩ => ?_
    | ⟨1, _⟩ => ?_
    · show win0_7.index ⟨_, ht⟩ (0 : Fin 2) * 512 ≤ (i 0).val ∧ (i 0).val < win0_7.index ⟨_, ht⟩ (0 : Fin 2) * 512 + 512
      rw [e0]; omega
    · show win0_7.index ⟨_, ht⟩ (1 : Fin 2) * 512 ≤ (i 1).val ∧ (i 1).val < win0_7.index ⟨_, ht⟩ (1 : Fin 2) * 512 + 512
      rw [e1]; dsimp only; omega

theorem mem8 (t : Fin cfg0.N) (i : S512x1024.Idx) : i ∈ ((cfg0.win 8).blk t).view.set
    ↔ ∀ a : Fin 2, win0_8.index t a * ((![512, 512] : Fin 2 → ℕ) a) ≤ (i a).val ∧ (i a).val < win0_8.index t a * ((![512, 512] : Fin 2 → ℕ) a) + (![512, 512] : Fin 2 → ℕ) a := by
  show i ∈ ((View.whole main_v7_1).slice (win0_8.rect t)).set ↔ _
  rw [View.set_slice_whole, Rect.mem_set_unit]
  exact Iff.rfl

theorem final8 : (dats m 0 c).arrAt 8 cfg0.N = grid2 (a := 512) (b := 1024) (grad (g2 m c) (eZ m c)) := by
  refine (dats m 0 c).arrAt_eq_of_cover 8 (grid2 (a := 512) (b := 1024) (grad (g2 m c) (eZ m c))) (fun t _ => ?_) fun i => ?_
  · obtain ⟨e0, e1⟩ := index8 t
    show (cfg0.win 8).cut (grid0.coords t) ((dats m 0 c).after 8 t) = _
    rw [after0_8]
    funext y
    have b0 : (((cfg0.win 8).blk t).view.emb y 0).val = win0_8.index t (0 : Fin 2) * 512 + 1 * (y 0).val := rfl
    have b1 : (((cfg0.win 8).blk t).view.emb y 1).val = win0_8.index t (1 : Fin 2) * 512 + 1 * (y 1).val := rfl
    refine (at_ix2 (out8 (block1 m c t) (block6 m c t)) ((cfg0.win 8).xinj (grid0.coords t) y)).trans ?_
    show grad (g2 m c) (eZ m c) (y 0).val (512 * t.val + (y 1).val)
      = grad (g2 m c) (eZ m c) (((cfg0.win 8).blk t).view.emb y 0).val (((cfg0.win 8).blk t).view.emb y 1).val
    rw [b0, b1, e0, e1, mul_comm 512, one_mul, one_mul, zero_mul, zero_add]
  · have h0 : (i 0).val < 512 := (i 0).isLt
    have h1 : (i 1).val < 1024 := (i 1).isLt
    have hN : cfg0.N = 2 := N_0
    have ht : (i 1).val / 512 < cfg0.N := by omega
    refine ⟨⟨_, ht⟩, flush0_8 _, ?_⟩
    obtain ⟨e0, e1⟩ := index8 ⟨_, ht⟩
    refine (mem8 _ i).2 ?_
    refine fun a => match a with
    | ⟨0, _⟩ => ?_
    | ⟨1, _⟩ => ?_
    · show win0_8.index ⟨_, ht⟩ (0 : Fin 2) * 512 ≤ (i 0).val ∧ (i 0).val < win0_8.index ⟨_, ht⟩ (0 : Fin 2) * 512 + 512
      rw [e0]; omega
    · show win0_8.index ⟨_, ht⟩ (1 : Fin 2) * 512 ≤ (i 1).val ∧ (i 1).val < win0_8.index ⟨_, ht⟩ (1 : Fin 2) * 512 + 512
      rw [e1]; dsimp only; omega

theorem mem9 (t : Fin cfg0.N) (i : S512x1024.Idx) : i ∈ ((cfg0.win 9).blk t).view.set
    ↔ ∀ a : Fin 2, win0_9.index t a * ((![512, 512] : Fin 2 → ℕ) a) ≤ (i a).val ∧ (i a).val < win0_9.index t a * ((![512, 512] : Fin 2 → ℕ) a) + (![512, 512] : Fin 2 → ℕ) a := by
  show i ∈ ((View.whole main_v7_2).slice (win0_9.rect t)).set ↔ _
  rw [View.set_slice_whole, Rect.mem_set_unit]
  exact Iff.rfl

theorem final9 : (dats m 0 c).arrAt 9 cfg0.N = grid2 (a := 512) (b := 1024) (grad (g3 m c) (eZ m c)) := by
  refine (dats m 0 c).arrAt_eq_of_cover 9 (grid2 (a := 512) (b := 1024) (grad (g3 m c) (eZ m c))) (fun t _ => ?_) fun i => ?_
  · obtain ⟨e0, e1⟩ := index9 t
    show (cfg0.win 9).cut (grid0.coords t) ((dats m 0 c).after 9 t) = _
    rw [after0_9]
    funext y
    have b0 : (((cfg0.win 9).blk t).view.emb y 0).val = win0_9.index t (0 : Fin 2) * 512 + 1 * (y 0).val := rfl
    have b1 : (((cfg0.win 9).blk t).view.emb y 1).val = win0_9.index t (1 : Fin 2) * 512 + 1 * (y 1).val := rfl
    refine (at_ix2 (out9 (block2 m c t) (block6 m c t)) ((cfg0.win 9).xinj (grid0.coords t) y)).trans ?_
    show grad (g3 m c) (eZ m c) (y 0).val (512 * t.val + (y 1).val)
      = grad (g3 m c) (eZ m c) (((cfg0.win 9).blk t).view.emb y 0).val (((cfg0.win 9).blk t).view.emb y 1).val
    rw [b0, b1, e0, e1, mul_comm 512, one_mul, one_mul, zero_mul, zero_add]
  · have h0 : (i 0).val < 512 := (i 0).isLt
    have h1 : (i 1).val < 1024 := (i 1).isLt
    have hN : cfg0.N = 2 := N_0
    have ht : (i 1).val / 512 < cfg0.N := by omega
    refine ⟨⟨_, ht⟩, flush0_9 _, ?_⟩
    obtain ⟨e0, e1⟩ := index9 ⟨_, ht⟩
    refine (mem9 _ i).2 ?_
    refine fun a => match a with
    | ⟨0, _⟩ => ?_
    | ⟨1, _⟩ => ?_
    · show win0_9.index ⟨_, ht⟩ (0 : Fin 2) * 512 ≤ (i 0).val ∧ (i 0).val < win0_9.index ⟨_, ht⟩ (0 : Fin 2) * 512 + 512
      rw [e0]; omega
    · show win0_9.index ⟨_, ht⟩ (1 : Fin 2) * 512 ≤ (i 1).val ∧ (i 1).val < win0_9.index ⟨_, ht⟩ (1 : Fin 2) * 512 + 512
      rw [e1]; dsimp only; omega

theorem mem10 (t : Fin cfg0.N) (i : S512x1024.Idx) : i ∈ ((cfg0.win 10).blk t).view.set
    ↔ ∀ a : Fin 2, win0_10.index t a * ((![512, 512] : Fin 2 → ℕ) a) ≤ (i a).val ∧ (i a).val < win0_10.index t a * ((![512, 512] : Fin 2 → ℕ) a) + (![512, 512] : Fin 2 → ℕ) a := by
  show i ∈ ((View.whole main_v7_3).slice (win0_10.rect t)).set ↔ _
  rw [View.set_slice_whole, Rect.mem_set_unit]
  exact Iff.rfl

theorem final10 : (dats m 0 c).arrAt 10 cfg0.N = grid2 (a := 512) (b := 1024) (grad (g4 m c) (eZ m c)) := by
  refine (dats m 0 c).arrAt_eq_of_cover 10 (grid2 (a := 512) (b := 1024) (grad (g4 m c) (eZ m c))) (fun t _ => ?_) fun i => ?_
  · obtain ⟨e0, e1⟩ := index10 t
    show (cfg0.win 10).cut (grid0.coords t) ((dats m 0 c).after 10 t) = _
    rw [after0_10]
    funext y
    have b0 : (((cfg0.win 10).blk t).view.emb y 0).val = win0_10.index t (0 : Fin 2) * 512 + 1 * (y 0).val := rfl
    have b1 : (((cfg0.win 10).blk t).view.emb y 1).val = win0_10.index t (1 : Fin 2) * 512 + 1 * (y 1).val := rfl
    refine (at_ix2 (out10 (block3 m c t) (block6 m c t)) ((cfg0.win 10).xinj (grid0.coords t) y)).trans ?_
    show grad (g4 m c) (eZ m c) (y 0).val (512 * t.val + (y 1).val)
      = grad (g4 m c) (eZ m c) (((cfg0.win 10).blk t).view.emb y 0).val (((cfg0.win 10).blk t).view.emb y 1).val
    rw [b0, b1, e0, e1, mul_comm 512, one_mul, one_mul, zero_mul, zero_add]
  · have h0 : (i 0).val < 512 := (i 0).isLt
    have h1 : (i 1).val < 1024 := (i 1).isLt
    have hN : cfg0.N = 2 := N_0
    have ht : (i 1).val / 512 < cfg0.N := by omega
    refine ⟨⟨_, ht⟩, flush0_10 _, ?_⟩
    obtain ⟨e0, e1⟩ := index10 ⟨_, ht⟩
    refine (mem10 _ i).2 ?_
    refine fun a => match a with
    | ⟨0, _⟩ => ?_
    | ⟨1, _⟩ => ?_
    · show win0_10.index ⟨_, ht⟩ (0 : Fin 2) * 512 ≤ (i 0).val ∧ (i 0).val < win0_10.index ⟨_, ht⟩ (0 : Fin 2) * 512 + 512
      rw [e0]; omega
    · show win0_10.index ⟨_, ht⟩ (1 : Fin 2) * 512 ≤ (i 1).val ∧ (i 1).val < win0_10.index ⟨_, ht⟩ (1 : Fin 2) * 512 + 512
      rw [e1]; dsimp only; omega

theorem mem11 (t : Fin cfg0.N) (i : S512x1024.Idx) : i ∈ ((cfg0.win 11).blk t).view.set
    ↔ ∀ a : Fin 2, win0_11.index t a * ((![512, 512] : Fin 2 → ℕ) a) ≤ (i a).val ∧ (i a).val < win0_11.index t a * ((![512, 512] : Fin 2 → ℕ) a) + (![512, 512] : Fin 2 → ℕ) a := by
  show i ∈ ((View.whole main_v7_4).slice (win0_11.rect t)).set ↔ _
  rw [View.set_slice_whole, Rect.mem_set_unit]
  exact Iff.rfl

theorem final11 : (dats m 0 c).arrAt 11 cfg0.N = grid2 (a := 512) (b := 1024) (grad (g5 m c) (eZ m c)) := by
  refine (dats m 0 c).arrAt_eq_of_cover 11 (grid2 (a := 512) (b := 1024) (grad (g5 m c) (eZ m c))) (fun t _ => ?_) fun i => ?_
  · obtain ⟨e0, e1⟩ := index11 t
    show (cfg0.win 11).cut (grid0.coords t) ((dats m 0 c).after 11 t) = _
    rw [after0_11]
    funext y
    have b0 : (((cfg0.win 11).blk t).view.emb y 0).val = win0_11.index t (0 : Fin 2) * 512 + 1 * (y 0).val := rfl
    have b1 : (((cfg0.win 11).blk t).view.emb y 1).val = win0_11.index t (1 : Fin 2) * 512 + 1 * (y 1).val := rfl
    refine (at_ix2 (out11 (block4 m c t) (block6 m c t)) ((cfg0.win 11).xinj (grid0.coords t) y)).trans ?_
    show grad (g5 m c) (eZ m c) (y 0).val (512 * t.val + (y 1).val)
      = grad (g5 m c) (eZ m c) (((cfg0.win 11).blk t).view.emb y 0).val (((cfg0.win 11).blk t).view.emb y 1).val
    rw [b0, b1, e0, e1, mul_comm 512, one_mul, one_mul, zero_mul, zero_add]
  · have h0 : (i 0).val < 512 := (i 0).isLt
    have h1 : (i 1).val < 1024 := (i 1).isLt
    have hN : cfg0.N = 2 := N_0
    have ht : (i 1).val / 512 < cfg0.N := by omega
    refine ⟨⟨_, ht⟩, flush0_11 _, ?_⟩
    obtain ⟨e0, e1⟩ := index11 ⟨_, ht⟩
    refine (mem11 _ i).2 ?_
    refine fun a => match a with
    | ⟨0, _⟩ => ?_
    | ⟨1, _⟩ => ?_
    · show win0_11.index ⟨_, ht⟩ (0 : Fin 2) * 512 ≤ (i 0).val ∧ (i 0).val < win0_11.index ⟨_, ht⟩ (0 : Fin 2) * 512 + 512
      rw [e0]; omega
    · show win0_11.index ⟨_, ht⟩ (1 : Fin 2) * 512 ≤ (i 1).val ∧ (i 1).val < win0_11.index ⟨_, ht⟩ (1 : Fin 2) * 512 + 512
      rw [e1]; dsimp only; omega

theorem mem12 (t : Fin cfg0.N) (i : S128x1024.Idx) : i ∈ ((cfg0.win 12).blk t).view.set
    ↔ ∀ a : Fin 2, win0_12.index t a * ((![128, 512] : Fin 2 → ℕ) a) ≤ (i a).val ∧ (i a).val < win0_12.index t a * ((![128, 512] : Fin 2 → ℕ) a) + (![128, 512] : Fin 2 → ℕ) a := by
  show i ∈ ((View.whole main_v7_5).slice (win0_12.rect t)).set ↔ _
  rw [View.set_slice_whole, Rect.mem_set_unit]
  exact Iff.rfl

theorem final12 : (dats m 0 c).arrAt 12 cfg0.N = grid2 (a := 128) (b := 1024) (grad (g6 m c) (eZ m c)) := by
  refine (dats m 0 c).arrAt_eq_of_cover 12 (grid2 (a := 128) (b := 1024) (grad (g6 m c) (eZ m c))) (fun t _ => ?_) fun i => ?_
  · obtain ⟨e0, e1⟩ := index12 t
    show (cfg0.win 12).cut (grid0.coords t) ((dats m 0 c).after 12 t) = _
    rw [after0_12]
    funext y
    have b0 : (((cfg0.win 12).blk t).view.emb y 0).val = win0_12.index t (0 : Fin 2) * 128 + 1 * (y 0).val := rfl
    have b1 : (((cfg0.win 12).blk t).view.emb y 1).val = win0_12.index t (1 : Fin 2) * 512 + 1 * (y 1).val := rfl
    refine (at_ix2 (out12 (block5 m c t) (block6 m c t)) ((cfg0.win 12).xinj (grid0.coords t) y)).trans ?_
    show grad (g6 m c) (eZ m c) (y 0).val (512 * t.val + (y 1).val)
      = grad (g6 m c) (eZ m c) (((cfg0.win 12).blk t).view.emb y 0).val (((cfg0.win 12).blk t).view.emb y 1).val
    rw [b0, b1, e0, e1, mul_comm 512, one_mul, one_mul, zero_mul, zero_add]
  · have h0 : (i 0).val < 128 := (i 0).isLt
    have h1 : (i 1).val < 1024 := (i 1).isLt
    have hN : cfg0.N = 2 := N_0
    have ht : (i 1).val / 512 < cfg0.N := by omega
    refine ⟨⟨_, ht⟩, flush0_12 _, ?_⟩
    obtain ⟨e0, e1⟩ := index12 ⟨_, ht⟩
    refine (mem12 _ i).2 ?_
    refine fun a => match a with
    | ⟨0, _⟩ => ?_
    | ⟨1, _⟩ => ?_
    · show win0_12.index ⟨_, ht⟩ (0 : Fin 2) * 128 ≤ (i 0).val ∧ (i 0).val < win0_12.index ⟨_, ht⟩ (0 : Fin 2) * 128 + 128
      rw [e0]; omega
    · show win0_12.index ⟨_, ht⟩ (1 : Fin 2) * 512 ≤ (i 1).val ∧ (i 1).val < win0_12.index ⟨_, ht⟩ (1 : Fin 2) * 512 + 512
      rw [e1]; dsimp only; omega

end Cert.Pieces

end
-- ==== Proof.PiecesPlain.lean ====
/- The plain program of the projections' weight gradients over the extended reals: its six results are those of the kernel. -/
module

public import proofs.«01_k».proof.Proof.PiecesArrays
public import proofs.«01_k».proof.Proof.Gen.PiecesReferenceIdeal.Read

@[expose] public section

noncomputable section

namespace Cert.Pieces

open Idealize.ShloMosaic Cert.PiecesReferenceIdeal Cert.PiecesReferenceIdeal.Read Cert.Hidden

variable {x0 : FVec Ideal S2176x1024 .f32} {Z P : ℕ → ℕ → EReal} (h0 : Of2 (a := 2176) (b := 1024) (φ := .f32) x0 Z)

include h0

theorem plain1 {x : FVec Ideal S2176x512 .f32} (h : Of2 (a := 2176) (b := 512) (φ := .f32) x P) (y : S512x1024.Idx) :
    val_main_v3 (F := Ideal) x0 x y = grad P Z (y 0).val (y 1).val := by
  rw [val_main_v3_apply, val_main_v2_apply, val_main_v1_apply, val_main_v0_apply]
  exact Finset.sum_congr rfl fun t _ => congrArg₂ (· * ·) ((congrArg x (ValueIdx.eq_ix2 _)).trans (h _ _)) ((congrArg x0 (ValueIdx.eq_ix2 _)).trans (h0 _ _))

theorem plain2 {x : FVec Ideal S2176x512 .f32} (h : Of2 (a := 2176) (b := 512) (φ := .f32) x P) (y : S512x1024.Idx) :
    val_main_v7 (F := Ideal) x0 x y = grad P Z (y 0).val (y 1).val := by
  rw [val_main_v7_apply, val_main_v6_apply, val_main_v5_apply, val_main_v4_apply]
  exact Finset.sum_congr rfl fun t _ => congrArg₂ (· * ·) ((congrArg x (ValueIdx.eq_ix2 _)).trans (h _ _)) ((congrArg x0 (ValueIdx.eq_ix2 _)).trans (h0 _ _))

theorem plain3 {x : FVec Ideal S2176x512 .f32} (h : Of2 (a := 2176) (b := 512) (φ := .f32) x P) (y : S512x1024.Idx) :
    val_main_v11 (F := Ideal) x0 x y = grad P Z (y 0).val (y 1).val := by
  rw [val_main_v11_apply, val_main_v10_apply, val_main_v9_apply, val_main_v8_apply]
  exact Finset.sum_congr rfl fun t _ => congrArg₂ (· * ·) ((congrArg x (ValueIdx.eq_ix2 _)).trans (h _ _)) ((congrArg x0 (ValueIdx.eq_ix2 _)).trans (h0 _ _))

theorem plain4 {x : FVec Ideal S2176x512 .f32} (h : Of2 (a := 2176) (b := 512) (φ := .f32) x P) (y : S512x1024.Idx) :
    val_main_v15 (F := Ideal) x0 x y = grad P Z (y 0).val (y 1).val := by
  rw [val_main_v15_apply, val_main_v14_apply, val_main_v13_apply, val_main_v12_apply]
  exact Finset.sum_congr rfl fun t _ => congrArg₂ (· * ·) ((congrArg x (ValueIdx.eq_ix2 _)).trans (h _ _)) ((congrArg x0 (ValueIdx.eq_ix2 _)).trans (h0 _ _))

theorem plain5 {x : FVec Ideal S2176x512 .f32} (h : Of2 (a := 2176) (b := 512) (φ := .f32) x P) (y : S512x1024.Idx) :
    val_main_v19 (F := Ideal) x0 x y = grad P Z (y 0).val (y 1).val := by
  rw [val_main_v19_apply, val_main_v18_apply, val_main_v17_apply, val_main_v16_apply]
  exact Finset.sum_congr rfl fun t _ => congrArg₂ (· * ·) ((congrArg x (ValueIdx.eq_ix2 _)).trans (h _ _)) ((congrArg x0 (ValueIdx.eq_ix2 _)).trans (h0 _ _))

theorem plain6 {x : FVec Ideal S2176x128 .f32} (h : Of2 (a := 2176) (b := 128) (φ := .f32) x P) (y : S128x1024.Idx) :
    val_main_v23 (F := Ideal) x0 x y = grad P Z (y 0).val (y 1).val := by
  rw [val_main_v23_apply, val_main_v22_apply, val_main_v21_apply, val_main_v20_apply]
  exact Finset.sum_congr rfl fun t _ => congrArg₂ (· * ·) ((congrArg x (ValueIdx.eq_ix2 _)).trans (h _ _)) ((congrArg x0 (ValueIdx.eq_ix2 _)).trans (h0 _ _))

end Cert.Pieces

end
-- ==== Proof.MixerModel.lean ====
/- The output of the mixer over the extended reals, and the values the kernel's body computes from its blocks.

   The attention's and the recurrence's rows are normalised, put side by side, multiplied by `w_out` and added to the stream `h`. -/
module

public import proofs.«01_k».proof.Proof.Gen.MixerIdeal.Value
public import proofs.«01_k».proof.Proof.ForwardArrays

@[expose] public section

noncomputable section

namespace Cert.MixerOut

open Idealize.ShloMosaic Cert.Hidden Cert.Forward

/-- The reciprocal of the root mean square of a row of 512. -/
def halfScale (X : ℕ → ℕ → EReal) (t : ℕ) : EReal :=
  FloatOps.rsqrt (F := Ideal) (φ := .f32) (FloatOps.addf (F := Ideal) (φ := .f32) (FloatOps.divf (F := Ideal) (φ := .f32)
    (∑ k : Fin 512, X t k * X t k : EReal) (FloatOps.ofBits .f32 0x44000000#32)) (FloatOps.ofBits .f32 0x358637BD#32))

/-- The normalised rows of 512, times the gain `g`. -/
def halfNorm (X g : ℕ → ℕ → EReal) (t d : ℕ) : EReal := X t d * halfScale X t * g 0 d

/-- The two normalised halves side by side. -/
def mix (A R ga gr : ℕ → ℕ → EReal) (t d : ℕ) : EReal := if d < 512 then halfNorm A ga t d else halfNorm R gr t (d - 512)

/-- `h` plus the rows `M` times `w_out`. -/
def added (M W H : ℕ → ℕ → EReal) (t d : ℕ) : EReal := H t d + ∑ k : Fin 1024, M t k * W k d

/-- The part of the product in the columns from `o` to `o + 256`. -/
def part (M W : ℕ → ℕ → EReal) (o t d : ℕ) : EReal := ∑ l : Fin 256, M t (o + l) * W (o + l) d

/-- A sum over 1024 columns is the sum over four quarters. -/
theorem quarters (F : ℕ → EReal) : ∑ f : Fin 1024, F f = (∑ l : Fin 256, F (0 + l)) + (∑ l : Fin 256, F (256 + l))
    + (∑ l : Fin 256, F (512 + l)) + ∑ l : Fin 256, F (768 + l) := by
  rw [Fin.sum_univ_add (a := 768) (b := 256) fun f : Fin (768 + 256) => F f,
    Fin.sum_univ_add (a := 512) (b := 256) fun f : Fin (512 + 256) => F (Fin.castAdd 256 f),
    Fin.sum_univ_add (a := 256) (b := 256) fun f : Fin (256 + 256) => F (Fin.castAdd 256 (Fin.castAdd 256 f))]
  refine congrArg₂ (· + ·) (congrArg₂ (· + ·) (congrArg₂ (· + ·) ?_ ?_) ?_) ?_ <;> refine Finset.sum_congr rfl fun l _ => congrArg F ?_
  · exact (zero_add l.val).symm
  · rfl
  · rfl
  · rfl

theorem added_eq (M W H : ℕ → ℕ → EReal) (t d : ℕ) :
    H t d + part M W 0 t d + part M W 256 t d + part M W 512 t d + part M W 768 t d = added M W H t d := by
  unfold added
  rw [quarters fun k => M t k * W k d, ← add_assoc, ← add_assoc, ← add_assoc]
  rfl

section Body

open Cert.MixerIdeal Cert.MixerIdeal.Gen

variable {A R X H W M G ga gr : ℕ → ℕ → EReal}

theorem mm {x : FVec Ideal S544x256 .bf16} {y : FVec Ideal S256x1024 .bf16} {f g : ℕ → ℕ → EReal} (hx : Of2 (a := 544) (b := 256) (φ := .bf16) x f)
    (hy : Of2 (a := 256) (b := 1024) (φ := .bf16) y g) :
    Of2 (a := 544) (b := 1024) (φ := .f32) (matmul dot_S544x256_S256x1024_S544x1024_1_0_0_1_n_n none x y (constant S544x1024 .f32 0x00000000#32))
      (fun t d => ∑ k : Fin 256, f t k * g k d) := fun i j => by
  refine (Ideal.matmul_apply₁_of dot_S544x256_S256x1024_S544x1024_1_0_0_1_n_n (a := 1) rfl (K := 256) rfl x y _ (ix2 i j) (fun k => ix2 i k) (fun k => ix2 k j) ?_ ?_).trans ?_
  · intro k; funext e; refine Fin.ext ?_; fin_cases e <;> rfl
  · intro k; funext e; refine Fin.ext ?_; fin_cases e <;> rfl
  · refine (congrArg₂ (· + ·) zero (Finset.sum_congr rfl fun k _ => congrArg₂ (· * ·) (hx i k) (hy k j))).trans (zero_add _)

/-- The normalisation of the rows of a block of one half. -/
theorem half {x : FVec Ideal S544x512 .f32} {g : Vec Ideal S1x512 .f32} (hx : Of2 (a := 544) (b := 512) (φ := .f32) x X) (hg : Of2 (a := 1) (b := 512) (φ := .f32) g G) :
    Of2 (a := 544) (b := 512) (φ := .f32) (mulf (mulf x (broadcastTo S544x512 (rsqrt (addf (divf (shapeCast S544x1
        (multiReduction .add [1] S544 (mulf x x) 0x00000000#32 reduces_S544x512_S544 (.inl rfl) rfl) shapeCasts_S544_S544x1)
        (broadcast S544x1 (Scalar.ofBits .f32 0x44000000#32))) (broadcast S544x1 (Scalar.ofBits .f32 0x358637BD#32)))) broadcasts_S544x1_S544x512))
        (broadcastTo S544x512 (shapeCast S1x512 g shapeCasts_S1x512_S1x512) broadcasts_S1x512_S544x512)) (halfNorm X G) := fun i j => by
  have hsum : multiReduction .add [1] S544 (mulf x x) 0x00000000#32 reduces_S544x512_S544 (.inl rfl) rfl (ix1 i) = (∑ k : Fin 512, X i k * X i k : EReal) := by
    refine (Ideal.multiReduction_add_single (mulf x x) 0x00000000#32 reduces_S544x512_S544 (.inl rfl) rfl (ix1 i)).trans (Finset.sum_congr rfl fun k _ => ?_)
    have hk : reduces_S544x512_S544.lift (ix1 i) k = ix2 i k := by
      funext e; refine Fin.ext ?_; fin_cases e <;> rfl
    rw [hk]
    exact congrArg₂ (· * ·) (hx i k) (hx i k)
  have hrow : ∀ v : FVec Ideal S544x1 .f32, broadcastTo S544x512 v broadcasts_S544x1_S544x512 (ix2 i j) = v (ix2 i (0 : Fin 1)) := fun v =>
    broadcastTo_apply v broadcasts_S544x1_S544x512 (ix2 i j) (ix2 i (0 : Fin 1)) fun e => match e with | ⟨0, _⟩ => rfl | ⟨1, _⟩ => rfl
  have hgain : broadcastTo S544x512 (shapeCast S1x512 g shapeCasts_S1x512_S1x512) broadcasts_S1x512_S544x512 (ix2 i j) = G 0 j :=
    (ValueIdx.broadcastTo_1b_ab_apply _ broadcasts_S1x512_S544x512 i j).trans (hg.castSame shapeCasts_S1x512_S1x512 (0 : Fin 1) j)
  have hcast : shapeCast S544x1 (multiReduction .add [1] S544 (mulf x x) 0x00000000#32 reduces_S544x512_S544 (.inl rfl) rfl) shapeCasts_S544_S544x1 (ix2 i (0 : Fin 1))
      = (∑ k : Fin 512, X i k * X i k : EReal) := by
    refine (shapeCast_apply _ shapeCasts_S544_S544x1 (ix2 i (0 : Fin 1)) (ix1 i) ?_).trans hsum
    rw [Shape.rowMajor_val_two, Shape.rowMajor_val_one]
    show i.val = i.val * 1 + 0
    omega
  refine congrArg₂ (· * ·) (congrArg₂ (· * ·) (hx i j) ((hrow _).trans ?_)) hgain
  exact congrArg (fun e : EReal => FloatOps.rsqrt (F := Ideal) (φ := .f32) (FloatOps.addf (F := Ideal) (φ := .f32) (FloatOps.divf (F := Ideal) (φ := .f32)
    e (FloatOps.ofBits .f32 0x44000000#32)) (FloatOps.ofBits .f32 0x358637BD#32))) hcast

/-- Two halves side by side. -/
theorem beside {x y : FVec Ideal S544x512 .f32} {f g : ℕ → ℕ → EReal} (hx : Of2 (a := 544) (b := 512) (φ := .f32) x f) (hy : Of2 (a := 544) (b := 512) (φ := .f32) y g) :
    Of2 (a := 544) (b := 1024) (φ := .f32) (concatenate S544x1024 1 [⟨S544x512, x⟩, ⟨S544x512, y⟩] concatenates_S544x512_S544x512_S544x1024_d1)
      (fun t d => if d < 512 then f t d else g t (d - 512)) := fun i j => by
  have hj : j.val < 1024 := j.isLt
  by_cases h : j.val < 512
  · refine ((concatenate_pair_apply_left (1 : Fin S544x1024.rank) x y concatenates_S544x512_S544x512_S544x1024_d1 (ix2 i j) rfl (ix2 i (show Fin 512 from ⟨j.val, h⟩)) ?_).trans (hx _ _)).trans (if_pos h).symm
    exact fun e => match e with | ⟨0, _⟩ => rfl | ⟨1, _⟩ => rfl
  · have h' : j.val - 512 < 512 := by omega
    refine ((concatenate_pair_apply_right (1 : Fin S544x1024.rank) x y concatenates_S544x512_S544x512_S544x1024_d1 (ix2 i j) rfl rfl (ix2 i (show Fin 512 from ⟨j.val - 512, h'⟩)) ?_ ?_).trans (hy _ _)).trans (if_neg h).symm
    · exact fun e => match e with | ⟨0, _⟩ => fun _ => rfl | ⟨1, _⟩ => fun ne => absurd rfl ne
    · show j.val - 512 + 512 = j.val
      omega

variable {x0 x1 : Vec Ideal S544x512 .f32} {x2 x3 : Vec Ideal S1x512 .f32} {x4 : Vec Ideal S4x256x1024 .bf16} {x5 : Vec Ideal S544x1024 .f32} {x6 : Vec Ideal S1x1024 .f32}

/-- The two normalised halves of a block. -/
theorem mixed (h0 : Of2 (a := 544) (b := 512) (φ := .f32) x0 A) (h1 : Of2 (a := 544) (b := 512) (φ := .f32) x1 R)
    (h2 : Of2 (a := 1) (b := 512) (φ := .f32) x2 ga) (h3 : Of2 (a := 1) (b := 512) (φ := .f32) x3 gr) :
    Of2 (a := 544) (b := 1024) (φ := .bf16) (k0_pay2 x0 x1 x2 x3) (mix A R ga gr) := by
  have hm := beside (half h0 h2) (half h1 h3)
  exact hm

theorem mixed_stored (h0 : Of2 (a := 544) (b := 512) (φ := .f32) x0 A) (h1 : Of2 (a := 544) (b := 512) (φ := .f32) x1 R)
    (h2 : Of2 (a := 1) (b := 512) (φ := .f32) x2 ga) (h3 : Of2 (a := 1) (b := 512) (φ := .f32) x3 gr) :
    Of2 (a := 544) (b := 1024) (φ := .bf16) (k0_pay3 x0 x1 x2 x3) (mix A R ga gr) := by
  have hm := mixed h0 h1 h2 h3
  exact hm.castSame _

/-- 256 columns of a block. -/
theorem columns {x : FVec Ideal S544x1024 .bf16} (hx : Of2 (a := 544) (b := 1024) (φ := .bf16) x M) (o : ℕ) (ho : o + 256 ≤ 1024) (h : S544x1024.Slices ![0, o] S544x256) :
    Of2 (a := 544) (b := 256) (φ := .bf16) (extractStridedSlice S544x256 ![0, o] x h) (fun t l => M t (o + l)) := fun i j => by
  have hj : j.val < 256 := j.isLt
  refine (extractStridedSlice_apply ![0, o] x h (ix2 i j) (ix2 i (show Fin 1024 from ⟨o + j.val, by omega⟩)) ?_).trans (hx _ _)
  exact fun e => match e with | ⟨0, _⟩ => (zero_add i.val).symm | ⟨1, _⟩ => rfl

variable {m : FVec Ideal S544x1024 .bf16} {h : Vec Ideal S544x1024 .f32} {q : FVec Ideal S544x256 .bf16} {w0 w1 w2 w3 : Vec Ideal S1x256x1024 .bf16} {g : Vec Ideal S1x1024 .f32}

/-- The stream after the mixer, from the four quarters of the product. -/
theorem pay5 (hm : Of2 (a := 544) (b := 1024) (φ := .bf16) m M) (hh : Of2 (a := 544) (b := 1024) (φ := .f32) h H) (hq : Of2 (a := 544) (b := 256) (φ := .bf16) q fun t l => M t (0 + l))
    (k0 : Of3 (a := 1) (b := 256) (c := 1024) (φ := .bf16) w0 fun _ k d => W (0 + k) d) (k1 : Of3 (a := 1) (b := 256) (c := 1024) (φ := .bf16) w1 fun _ k d => W (256 + k) d)
    (k2 : Of3 (a := 1) (b := 256) (c := 1024) (φ := .bf16) w2 fun _ k d => W (512 + k) d) (k3 : Of3 (a := 1) (b := 256) (c := 1024) (φ := .bf16) w3 fun _ k d => W (768 + k) d) :
    Of2 (a := 544) (b := 1024) (φ := .f32) (k0_pay5 m h q w0 w1 w2 w3) (added M W H) := fun i j => by
  refine Eq.trans ?_ (added_eq M W H i j)
  exact congrArg₂ (· + ·) (congrArg₂ (· + ·) (congrArg₂ (· + ·) (congrArg₂ (· + ·) (hh i j)
    (mm hq (Of2.drop shapeCasts_S1x256x1024_S256x1024 k0) i j))
    (mm (columns hm 256 (by decide) slices_S544x1024_o0_256_S544x256) (Of2.drop shapeCasts_S1x256x1024_S256x1024 k1) i j))
    (mm (columns hm 512 (by decide) slices_S544x1024_o0_512_S544x256) (Of2.drop shapeCasts_S1x256x1024_S256x1024 k2) i j))
    (mm (columns hm 768 (by decide) slices_S544x1024_o0_768_S544x256) (Of2.drop shapeCasts_S1x256x1024_S256x1024 k3) i j)

theorem pay7 (hs : Of2 (a := 544) (b := 1024) (φ := .f32) (k0_pay5 m h q w0 w1 w2 w3) X) (hg : Of2 (a := 1) (b := 1024) (φ := .f32) g G) :
    Of2 (a := 544) (b := 1024) (φ := .bf16) (k0_pay7 m h q w0 w1 w2 w3 g) (norm X G) := by
  have hm := Forward.normalised hs hg
  unfold k0_pay7
  exact hm

/-! What a point leaves in its three output blocks. -/

theorem ldx (x : Vec Ideal S544x512 .f32) : View.ld x r0_0 = x := View.ld_unit_zero hz2 inb_S544x512_S544x512_0_0 x
theorem ldg (x : Vec Ideal S1x512 .f32) : View.ld x r0_1 = x := View.ld_unit_zero hz2 inb_S1x512_S1x512_0_0 x
theorem ldh (x : Vec Ideal S544x1024 .f32) : View.ld x r0_2 = x := View.ld_unit_zero hz2 inb_S544x1024_S544x1024_0_0 x
theorem ldn (x : Vec Ideal S1x1024 .f32) : View.ld x r0_7 = x := View.ld_unit_zero hz2 inb_S1x1024_S1x1024_0_0 x

theorem slab0 {x : Vec Ideal S4x256x1024 .bf16} (hx : Of3 (a := 4) (b := 256) (c := 1024) (φ := .bf16) x fun j k d => W (256 * j + k) d) :
    Of3 (a := 1) (b := 256) (c := 1024) (φ := .bf16) (View.ld x r0_3) (fun _ k d => W (0 + k) d) := fun i k l => by
  refine (at_ix3 (a := 4) (b := 256) (c := 1024) (φ := .bf16) hx (r0_3.idx (ix3 i k l))).trans ?_
  show W (256 * (0 + 1 * i.val) + (0 + 1 * k.val)) (0 + 1 * l.val) = W (0 + k.val) l.val
  exact congrArg₂ W (by omega) (by omega)

theorem slab1 {x : Vec Ideal S4x256x1024 .bf16} (hx : Of3 (a := 4) (b := 256) (c := 1024) (φ := .bf16) x fun j k d => W (256 * j + k) d) :
    Of3 (a := 1) (b := 256) (c := 1024) (φ := .bf16) (View.ld x r0_4) (fun _ k d => W (256 + k) d) := fun i k l => by
  refine (at_ix3 (a := 4) (b := 256) (c := 1024) (φ := .bf16) hx (r0_4.idx (ix3 i k l))).trans ?_
  show W (256 * (1 + 1 * i.val) + (0 + 1 * k.val)) (0 + 1 * l.val) = W (256 + k.val) l.val
  exact congrArg₂ W (by omega) (by omega)

theorem slab2 {x : Vec Ideal S4x256x1024 .bf16} (hx : Of3 (a := 4) (b := 256) (c := 1024) (φ := .bf16) x fun j k d => W (256 * j + k) d) :
    Of3 (a := 1) (b := 256) (c := 1024) (φ := .bf16) (View.ld x r0_5) (fun _ k d => W (512 + k) d) := fun i k l => by
  refine (at_ix3 (a := 4) (b := 256) (c := 1024) (φ := .bf16) hx (r0_5.idx (ix3 i k l))).trans ?_
  show W (256 * (2 + 1 * i.val) + (0 + 1 * k.val)) (0 + 1 * l.val) = W (512 + k.val) l.val
  exact congrArg₂ W (by omega) (by omega)

theorem slab3 {x : Vec Ideal S4x256x1024 .bf16} (hx : Of3 (a := 4) (b := 256) (c := 1024) (φ := .bf16) x fun j k d => W (256 * j + k) d) :
    Of3 (a := 1) (b := 256) (c := 1024) (φ := .bf16) (View.ld x r0_6) (fun _ k d => W (768 + k) d) := fun i k l => by
  refine (at_ix3 (a := 4) (b := 256) (c := 1024) (φ := .bf16) hx (r0_6.idx (ix3 i k l))).trans ?_
  show W (256 * (3 + 1 * i.val) + (0 + 1 * k.val)) (0 + 1 * l.val) = W (768 + k.val) l.val
  exact congrArg₂ W (by omega) (by omega)

theorem stream (h0 : Of2 (a := 544) (b := 512) (φ := .f32) x0 A) (h1 : Of2 (a := 544) (b := 512) (φ := .f32) x1 R)
    (h2 : Of2 (a := 1) (b := 512) (φ := .f32) x2 ga) (h3 : Of2 (a := 1) (b := 512) (φ := .f32) x3 gr)
    (h4 : Of3 (a := 4) (b := 256) (c := 1024) (φ := .bf16) x4 fun j k d => W (256 * j + k) d) (h5 : Of2 (a := 544) (b := 1024) (φ := .f32) x5 H) :
    Of2 (a := 544) (b := 1024) (φ := .f32) (k0_pay5 (k0_pay8 x0 x1 x2 x3 x4 x5 x6) x5 (k0_pay9 x0 x1 x2 x3 x4 x5 x6)
      (View.ld x4 r0_3) (View.ld x4 r0_4) (View.ld x4 r0_5) (View.ld x4 r0_6)) (added (mix A R ga gr) W H) := by
  have e8 : k0_pay8 x0 x1 x2 x3 x4 x5 x6 = k0_pay2 x0 x1 x2 x3 := by
    unfold k0_pay8
    rw [ldx x0, ldx x1, ldg x2, ldg x3]
  have e9 : k0_pay9 x0 x1 x2 x3 x4 x5 x6 = k0_pay4 x0 x1 x2 x3 := by
    unfold k0_pay9
    rw [ldx x0, ldx x1, ldg x2, ldg x3]
  have hm := mixed h0 h1 h2 h3
  have hq := columns hm 0 (by decide) slices_S544x1024_o0_0_S544x256
  rw [e8, e9]
  exact pay5 hm h5 hq (slab0 h4) (slab1 h4) (slab2 h4) (slab3 h4)

theorem out7 (h0 : Of2 (a := 544) (b := 512) (φ := .f32) x0 A) (h1 : Of2 (a := 544) (b := 512) (φ := .f32) x1 R)
    (h2 : Of2 (a := 1) (b := 512) (φ := .f32) x2 ga) (h3 : Of2 (a := 1) (b := 512) (φ := .f32) x3 gr)
    (h4 : Of3 (a := 4) (b := 256) (c := 1024) (φ := .bf16) x4 fun j k d => W (256 * j + k) d) (h5 : Of2 (a := 544) (b := 1024) (φ := .f32) x5 H) :
    Of2 (a := 544) (b := 1024) (φ := .f32) (out0_7 x0 x1 x2 x3 x4 x5 x6) (added (mix A R ga gr) W H) := by
  have e : out0_7 x0 x1 x2 x3 x4 x5 x6 = k0_pay6 (k0_pay8 x0 x1 x2 x3 x4 x5 x6) x5 (k0_pay9 x0 x1 x2 x3 x4 x5 x6)
      (View.ld x4 r0_3) (View.ld x4 r0_4) (View.ld x4 r0_5) (View.ld x4 r0_6) := by
    unfold out0_7
    rw [ldh x5]
    exact View.canon_cons_unit_zero hz2 inb_S544x1024_S544x1024_0_0 _ _
  have hm := stream (x6 := x6) h0 h1 h2 h3 h4 h5
  rw [e]
  exact hm.castSame _

theorem out8 (h0 : Of2 (a := 544) (b := 512) (φ := .f32) x0 A) (h1 : Of2 (a := 544) (b := 512) (φ := .f32) x1 R)
    (h2 : Of2 (a := 1) (b := 512) (φ := .f32) x2 ga) (h3 : Of2 (a := 1) (b := 512) (φ := .f32) x3 gr)
    (h4 : Of3 (a := 4) (b := 256) (c := 1024) (φ := .bf16) x4 fun j k d => W (256 * j + k) d) (h5 : Of2 (a := 544) (b := 1024) (φ := .f32) x5 H)
    (h6 : Of2 (a := 1) (b := 1024) (φ := .f32) x6 G) :
    Of2 (a := 544) (b := 1024) (φ := .bf16) (out0_8 x0 x1 x2 x3 x4 x5 x6) (norm (added (mix A R ga gr) W H) G) := by
  have e : out0_8 x0 x1 x2 x3 x4 x5 x6 = k0_pay1 (k0_pay7 (k0_pay8 x0 x1 x2 x3 x4 x5 x6) x5 (k0_pay9 x0 x1 x2 x3 x4 x5 x6)
      (View.ld x4 r0_3) (View.ld x4 r0_4) (View.ld x4 r0_5) (View.ld x4 r0_6) x6) := by
    unfold out0_8
    rw [ldh x5, ldn x6]
    exact View.canon_cons_unit_zero hz2 inb_S544x1024_S544x1024_0_0 _ _
  have hm := pay7 (stream (x6 := x6) h0 h1 h2 h3 h4 h5) h6
  rw [e]
  exact hm.castSame _

theorem out9 (h0 : Of2 (a := 544) (b := 512) (φ := .f32) x0 A) (h1 : Of2 (a := 544) (b := 512) (φ := .f32) x1 R)
    (h2 : Of2 (a := 1) (b := 512) (φ := .f32) x2 ga) (h3 : Of2 (a := 1) (b := 512) (φ := .f32) x3 gr) :
    Of2 (a := 544) (b := 1024) (φ := .bf16) (out0_9 x0 x1 x2 x3 x4 x5 x6) (mix A R ga gr) := by
  have e : out0_9 x0 x1 x2 x3 x4 x5 x6 = k0_pay3 x0 x1 x2 x3 := by
    unfold out0_9
    rw [ldx x0, ldx x1, ldg x2, ldg x3]
    exact View.canon_cons_unit_zero hz2 inb_S544x1024_S544x1024_0_0 _ _
  rw [e]
  exact mixed_stored h0 h1 h2 h3

end Body

end Cert.MixerOut

end
-- ==== Proof.MixerArrays.lean ====
/- The arrays of the mixer's output kernel: what its host code hands to the grid, the blocks each point sees, and the three result arrays. -/
module

public import proofs.«01_k».proof.Proof.MixerModel

@[expose] public section

noncomputable section

namespace Cert.MixerOut

open Idealize.ShloMosaic Idealize.SL Cert.MixerIdeal Cert.MixerIdeal.Gen Idealize.ShloMosaic.StableHlo Cert.Hidden Cert.Forward

variable (m : (ℓ : Loc nD τ sig) → Buf (Elt Ideal) ℓ) (c : Dev nD)

/-! The arguments, and their entries. -/

abbrev b0 : Vec Ideal S2176x512 .f32 := m ((c.tc : Thread nD τ).loc main_arg0)
abbrev b1 : Vec Ideal S2176x512 .f32 := m ((c.tc : Thread nD τ).loc main_arg1)
abbrev b2 : Vec Ideal S512 .f32 := m ((c.tc : Thread nD τ).loc main_arg2)
abbrev b3 : Vec Ideal S512 .f32 := m ((c.tc : Thread nD τ).loc main_arg3)
abbrev b4 : Vec Ideal S1024x1024 .f32 := m ((c.tc : Thread nD τ).loc main_arg4)
abbrev b5 : Vec Ideal S2176x1024 .f32 := m ((c.tc : Thread nD τ).loc main_arg5)
abbrev b6 : Vec Ideal S1024 .f32 := m ((c.tc : Thread nD τ).loc main_arg6)

abbrev eA : ℕ → ℕ → EReal := entries (a := 2176) (b := 512) (b0 m c)
abbrev eR : ℕ → ℕ → EReal := entries (a := 2176) (b := 512) (b1 m c)
abbrev eGa : ℕ → ℕ → EReal := entriesRow (b := 512) (b2 m c)
abbrev eGr : ℕ → ℕ → EReal := entriesRow (b := 512) (b3 m c)
abbrev eWo : ℕ → ℕ → EReal := entries (a := 1024) (b := 1024) (b4 m c)
abbrev eHm : ℕ → ℕ → EReal := entries (a := 2176) (b := 1024) (b5 m c)
abbrev eGn : ℕ → ℕ → EReal := entriesRow (b := 1024) (b6 m c)

/-! The arrays the host code makes of them. -/

theorem V_a : V m c main_arg0 = (show FVec Ideal S2176x512 .f32 from b0 m c) := by
  simp only [V, hostOps0]
  after_results_simp <;> rfl

theorem V_r : V m c main_arg1 = (show FVec Ideal S2176x512 .f32 from b1 m c) := by
  simp only [V, hostOps0]
  after_results_simp <;> rfl

theorem V_ga : V m c main_v2 = (show FVec Ideal S1x512 .f32 from shapeCast S1x512 (show FVec Ideal S512 .f32 from b2 m c) shapeCasts_S512_S1x512) := by
  simp only [V, hostOps0]
  after_results_simp <;> rfl

theorem V_gr : V m c main_v3 = (show FVec Ideal S1x512 .f32 from shapeCast S1x512 (show FVec Ideal S512 .f32 from b3 m c) shapeCasts_S512_S1x512) := by
  simp only [V, hostOps0]
  after_results_simp <;> rfl

theorem V_w : V m c main_v1 = (show FVec Ideal S4x256x1024 .bf16 from truncf .bf16 (shapeCast S4x256x1024 (show FVec Ideal S1024x1024 .f32 from b4 m c) shapeCasts_S1024x1024_S4x256x1024) bitsLt_bf16_f32) := by
  simp only [V, hostOps0]
  after_results_simp <;> rfl

theorem V_h : V m c main_arg5 = (show FVec Ideal S2176x1024 .f32 from b5 m c) := by
  simp only [V, hostOps0]
  after_results_simp <;> rfl

theorem V_gn : V m c main_v4 = (show FVec Ideal S1x1024 .f32 from shapeCast S1x1024 (show FVec Ideal S1024 .f32 from b6 m c) shapeCasts_S1024_S1x1024) := by
  simp only [V, hostOps0]
  after_results_simp <;> rfl

/-- The rows laid out as four slabs of 256. -/
theorem rowSlabs {x : FVec Ideal S1024x1024 .f32} {W : ℕ → ℕ → EReal} (h : Of2 (a := 1024) (b := 1024) (φ := .f32) x W) (y : S4x256x1024.Idx) :
    shapeCast S4x256x1024 x shapeCasts_S1024x1024_S4x256x1024 y = W (256 * (y 0).val + (y 1).val) (y 2).val := by
  have h0 : (y 0).val < 4 := (y 0).isLt
  have h1 : (y 1).val < 256 := (y 1).isLt
  have h2 : (y 2).val < 1024 := (y 2).isLt
  have hr : 256 * (y 0).val + (y 1).val < 1024 := by omega
  refine (shapeCast_apply x shapeCasts_S1024x1024_S4x256x1024 _ (ix2 (show Fin 1024 from ⟨_, hr⟩) (show Fin 1024 from ⟨_, h2⟩)) ?_).trans (h _ _)
  rw [Shape.rowMajor_val_two, Shape.rowMajor_val_three]
  show (256 * (y 0).val + (y 1).val) * 1024 + (y 2).val = ((y 0).val * 256 + (y 1).val) * 1024 + (y 2).val
  omega

theorem V_w_at (y : S4x256x1024.Idx) : (V m c main_v1 : FVec Ideal S4x256x1024 .bf16) y = eWo m c (256 * (y 0).val + (y 1).val) (y 2).val :=
  (congrFun (V_w m c) y).trans (rowSlabs (entries_of (a := 1024) (b := 1024) (φ := .f32) (b4 m c)) y)

theorem V_a_at (y : S2176x512.Idx) : (V m c main_arg0 : FVec Ideal S2176x512 .f32) y = eA m c (y 0).val (y 1).val :=
  (congrFun (V_a m c) y).trans ((congrArg (b0 m c) (ValueIdx.eq_ix2 y)).trans (entries_of (a := 2176) (b := 512) (φ := .f32) (b0 m c) _ _))

theorem V_r_at (y : S2176x512.Idx) : (V m c main_arg1 : FVec Ideal S2176x512 .f32) y = eR m c (y 0).val (y 1).val :=
  (congrFun (V_r m c) y).trans ((congrArg (b1 m c) (ValueIdx.eq_ix2 y)).trans (entries_of (a := 2176) (b := 512) (φ := .f32) (b1 m c) _ _))

theorem V_h_at (y : S2176x1024.Idx) : (V m c main_arg5 : FVec Ideal S2176x1024 .f32) y = eHm m c (y 0).val (y 1).val :=
  (congrFun (V_h m c) y).trans ((congrArg (b5 m c) (ValueIdx.eq_ix2 y)).trans (entries_of (a := 2176) (b := 1024) (φ := .f32) (b5 m c) _ _))

theorem V_ga_of : Of2 (a := 1) (b := 512) (φ := .f32) (V m c main_v2 : FVec Ideal S1x512 .f32) (eGa m c) := fun i j => by
  refine (congrFun (V_ga m c) (ix2 i j)).trans ((ValueIdx.shapeCast_a_1a_apply _ shapeCasts_S512_S1x512 i j).trans ((entriesRow_of (φ := .f32) (b2 m c) j).trans ?_))
  rfl

theorem V_gr_of : Of2 (a := 1) (b := 512) (φ := .f32) (V m c main_v3 : FVec Ideal S1x512 .f32) (eGr m c) := fun i j => by
  refine (congrFun (V_gr m c) (ix2 i j)).trans ((ValueIdx.shapeCast_a_1a_apply _ shapeCasts_S512_S1x512 i j).trans ((entriesRow_of (φ := .f32) (b3 m c) j).trans ?_))
  rfl

theorem V_gn_of : Of2 (a := 1) (b := 1024) (φ := .f32) (V m c main_v4 : FVec Ideal S1x1024 .f32) (eGn m c) := fun i j => by
  refine (congrFun (V_gn m c) (ix2 i j)).trans ((ValueIdx.shapeCast_a_1a_apply _ shapeCasts_S1024_S1x1024 i j).trans ((entriesRow_of (φ := .f32) (b6 m c) j).trans ?_))
  rfl

/-! The blocks. -/

theorem index0 : ∀ t : Fin cfg0.N, win0_0.index t (0 : Fin 2) = t.val ∧ win0_0.index t (1 : Fin 2) = 0 :=
  (by decide +kernel : ∀ t : Fin grid0.N, _)

theorem index1 : ∀ t : Fin cfg0.N, win0_1.index t (0 : Fin 2) = t.val ∧ win0_1.index t (1 : Fin 2) = 0 :=
  (by decide +kernel : ∀ t : Fin grid0.N, _)

theorem index5 : ∀ t : Fin cfg0.N, win0_5.index t (0 : Fin 2) = t.val ∧ win0_5.index t (1 : Fin 2) = 0 :=
  (by decide +kernel : ∀ t : Fin grid0.N, _)

theorem index7 : ∀ t : Fin cfg0.N, win0_7.index t (0 : Fin 2) = t.val ∧ win0_7.index t (1 : Fin 2) = 0 :=
  (by decide +kernel : ∀ t : Fin grid0.N, _)

theorem index8 : ∀ t : Fin cfg0.N, win0_8.index t (0 : Fin 2) = t.val ∧ win0_8.index t (1 : Fin 2) = 0 :=
  (by decide +kernel : ∀ t : Fin grid0.N, _)

theorem index9 : ∀ t : Fin cfg0.N, win0_9.index t (0 : Fin 2) = t.val ∧ win0_9.index t (1 : Fin 2) = 0 :=
  (by decide +kernel : ∀ t : Fin grid0.N, _)

theorem index2 : ∀ t : Fin cfg0.N, win0_2.index t (0 : Fin 2) = 0 ∧ win0_2.index t (1 : Fin 2) = 0 :=
  (by decide +kernel : ∀ t : Fin grid0.N, _)

theorem index3 : ∀ t : Fin cfg0.N, win0_3.index t (0 : Fin 2) = 0 ∧ win0_3.index t (1 : Fin 2) = 0 :=
  (by decide +kernel : ∀ t : Fin grid0.N, _)

theorem index6 : ∀ t : Fin cfg0.N, win0_6.index t (0 : Fin 2) = 0 ∧ win0_6.index t (1 : Fin 2) = 0 :=
  (by decide +kernel : ∀ t : Fin grid0.N, _)

theorem index4 : ∀ t : Fin cfg0.N, win0_4.index t (0 : Fin 3) = 0 ∧ win0_4.index t (1 : Fin 3) = 0 ∧ win0_4.index t (2 : Fin 3) = 0 :=
  (by decide +kernel : ∀ t : Fin grid0.N, _)

theorem read0 (A : Buf (Elt Ideal) ((c.tc : Thread nD τ).loc (Pipeline.arrRef spec0 0))) (f : ℕ → ℕ → EReal)
    (hA : ∀ y : S2176x512.Idx, (A : FVec Ideal S2176x512 .f32) y = f (y 0).val (y 1).val) (t : Fin cfg0.N) :
    Of2 (a := 544) (b := 512) (φ := .f32) (show Vec Ideal S544x512 .f32 from ((cfg0.win 0).blk t).view.read (Elt Ideal) A) (from_ f (544 * t.val)) := fun i j => by
  obtain ⟨e0, e1⟩ := index0 t
  have b0 : (((cfg0.win 0).blk t).view.emb (ix2 i j) 0).val = win0_0.index t (0 : Fin 2) * 544 + 1 * i.val := rfl
  have b1 : (((cfg0.win 0).blk t).view.emb (ix2 i j) 1).val = win0_0.index t (1 : Fin 2) * 512 + 1 * j.val := rfl
  refine (hA (((cfg0.win 0).blk t).view.emb (ix2 i j))).trans ?_
  rw [b0, b1, e0, e1]
  exact congrArg₂ f (by omega) (by omega)

theorem read1 (A : Buf (Elt Ideal) ((c.tc : Thread nD τ).loc (Pipeline.arrRef spec0 1))) (f : ℕ → ℕ → EReal)
    (hA : ∀ y : S2176x512.Idx, (A : FVec Ideal S2176x512 .f32) y = f (y 0).val (y 1).val) (t : Fin cfg0.N) :
    Of2 (a := 544) (b := 512) (φ := .f32) (show Vec Ideal S544x512 .f32 from ((cfg0.win 1).blk t).view.read (Elt Ideal) A) (from_ f (544 * t.val)) := fun i j => by
  obtain ⟨e0, e1⟩ := index1 t
  have b0 : (((cfg0.win 1).blk t).view.emb (ix2 i j) 0).val = win0_1.index t (0 : Fin 2) * 544 + 1 * i.val := rfl
  have b1 : (((cfg0.win 1).blk t).view.emb (ix2 i j) 1).val = win0_1.index t (1 : Fin 2) * 512 + 1 * j.val := rfl
  refine (hA (((cfg0.win 1).blk t).view.emb (ix2 i j))).trans ?_
  rw [b0, b1, e0, e1]
  exact congrArg₂ f (by omega) (by omega)

theorem read5 (A : Buf (Elt Ideal) ((c.tc : Thread nD τ).loc (Pipeline.arrRef spec0 5))) (f : ℕ → ℕ → EReal)
    (hA : ∀ y : S2176x1024.Idx, (A : FVec Ideal S2176x1024 .f32) y = f (y 0).val (y 1).val) (t : Fin cfg0.N) :
    Of2 (a := 544) (b := 1024) (φ := .f32) (show Vec Ideal S544x1024 .f32 from ((cfg0.win 5).blk t).view.read (Elt Ideal) A) (from_ f (544 * t.val)) := fun i j => by
  obtain ⟨e0, e1⟩ := index5 t
  have b0 : (((cfg0.win 5).blk t).view.emb (ix2 i j) 0).val = win0_5.index t (0 : Fin 2) * 544 + 1 * i.val := rfl
  have b1 : (((cfg0.win 5).blk t).view.emb (ix2 i j) 1).val = win0_5.index t (1 : Fin 2) * 1024 + 1 * j.val := rfl
  refine (hA (((cfg0.win 5).blk t).view.emb (ix2 i j))).trans ?_
  rw [b0, b1, e0, e1]
  exact congrArg₂ f (by omega) (by omega)

theorem read2 (A : Buf (Elt Ideal) ((c.tc : Thread nD τ).loc (Pipeline.arrRef spec0 2))) (f : ℕ → ℕ → EReal)
    (hA : ∀ y : S1x512.Idx, (A : FVec Ideal S1x512 .f32) y = f (y 0).val (y 1).val) (t : Fin cfg0.N) :
    Of2 (a := 1) (b := 512) (φ := .f32) (show Vec Ideal S1x512 .f32 from ((cfg0.win 2).blk t).view.read (Elt Ideal) A) f := fun i j => by
  obtain ⟨e0, e1⟩ := index2 t
  have b0 : (((cfg0.win 2).blk t).view.emb (ix2 i j) 0).val = win0_2.index t (0 : Fin 2) * 1 + 1 * i.val := rfl
  have b1 : (((cfg0.win 2).blk t).view.emb (ix2 i j) 1).val = win0_2.index t (1 : Fin 2) * 512 + 1 * j.val := rfl
  refine (hA (((cfg0.win 2).blk t).view.emb (ix2 i j))).trans ?_
  rw [b0, b1, e0, e1]
  exact congrArg₂ f (by omega) (by omega)

theorem read3 (A : Buf (Elt Ideal) ((c.tc : Thread nD τ).loc (Pipeline.arrRef spec0 3))) (f : ℕ → ℕ → EReal)
    (hA : ∀ y : S1x512.Idx, (A : FVec Ideal S1x512 .f32) y = f (y 0).val (y 1).val) (t : Fin cfg0.N) :
    Of2 (a := 1) (b := 512) (φ := .f32) (show Vec Ideal S1x512 .f32 from ((cfg0.win 3).blk t).view.read (Elt Ideal) A) f := fun i j => by
  obtain ⟨e0, e1⟩ := index3 t
  have b0 : (((cfg0.win 3).blk t).view.emb (ix2 i j) 0).val = win0_3.index t (0 : Fin 2) * 1 + 1 * i.val := rfl
  have b1 : (((cfg0.win 3).blk t).view.emb (ix2 i j) 1).val = win0_3.index t (1 : Fin 2) * 512 + 1 * j.val := rfl
  refine (hA (((cfg0.win 3).blk t).view.emb (ix2 i j))).trans ?_
  rw [b0, b1, e0, e1]
  exact congrArg₂ f (by omega) (by omega)

theorem read6 (A : Buf (Elt Ideal) ((c.tc : Thread nD τ).loc (Pipeline.arrRef spec0 6))) (f : ℕ → ℕ → EReal)
    (hA : ∀ y : S1x1024.Idx, (A : FVec Ideal S1x1024 .f32) y = f (y 0).val (y 1).val) (t : Fin cfg0.N) :
    Of2 (a := 1) (b := 1024) (φ := .f32) (show Vec Ideal S1x1024 .f32 from ((cfg0.win 6).blk t).view.read (Elt Ideal) A) f := fun i j => by
  obtain ⟨e0, e1⟩ := index6 t
  have b0 : (((cfg0.win 6).blk t).view.emb (ix2 i j) 0).val = win0_6.index t (0 : Fin 2) * 1 + 1 * i.val := rfl
  have b1 : (((cfg0.win 6).blk t).view.emb (ix2 i j) 1).val = win0_6.index t (1 : Fin 2) * 1024 + 1 * j.val := rfl
  refine (hA (((cfg0.win 6).blk t).view.emb (ix2 i j))).trans ?_
  rw [b0, b1, e0, e1]
  exact congrArg₂ f (by omega) (by omega)

/-- Slabs of 256 rows. -/
abbrev quarterSlab (f : ℕ → ℕ → EReal) : ℕ → ℕ → ℕ → EReal := fun j l d => f (256 * j + l) d

theorem read4 (A : Buf (Elt Ideal) ((c.tc : Thread nD τ).loc (Pipeline.arrRef spec0 4))) (f : ℕ → ℕ → ℕ → EReal)
    (hA : ∀ y : S4x256x1024.Idx, (A : FVec Ideal S4x256x1024 .bf16) y = f (y 0).val (y 1).val (y 2).val) (t : Fin cfg0.N) :
    Of3 (a := 4) (b := 256) (c := 1024) (φ := .bf16) (show Vec Ideal S4x256x1024 .bf16 from ((cfg0.win 4).blk t).view.read (Elt Ideal) A) f := fun i j k => by
  obtain ⟨e0, e1, e2⟩ := index4 t
  have b0 : (((cfg0.win 4).blk t).view.emb (ix3 i j k) 0).val = win0_4.index t (0 : Fin 3) * 4 + 1 * i.val := rfl
  have b1 : (((cfg0.win 4).blk t).view.emb (ix3 i j k) 1).val = win0_4.index t (1 : Fin 3) * 256 + 1 * j.val := rfl
  have b2 : (((cfg0.win 4).blk t).view.emb (ix3 i j k) 2).val = win0_4.index t (2 : Fin 3) * 1024 + 1 * k.val := rfl
  refine (hA (((cfg0.win 4).blk t).view.emb (ix3 i j k))).trans ?_
  rw [b0, b1, b2, e0, e1, e2]
  simp only [zero_mul, zero_add, one_mul]

theorem block0 (t : Fin cfg0.N) : Of2 (a := 544) (b := 512) (φ := .f32) (show Vec Ideal S544x512 .f32 from iblk m c 0 t) (from_ (eA m c) (544 * t.val)) :=
  read0 c (V m c main_arg0) (eA m c) (V_a_at m c) t

theorem block1 (t : Fin cfg0.N) : Of2 (a := 544) (b := 512) (φ := .f32) (show Vec Ideal S544x512 .f32 from iblk m c 1 t) (from_ (eR m c) (544 * t.val)) :=
  read1 c (V m c main_arg1) (eR m c) (V_r_at m c) t

theorem block5 (t : Fin cfg0.N) : Of2 (a := 544) (b := 1024) (φ := .f32) (show Vec Ideal S544x1024 .f32 from iblk m c 5 t) (from_ (eHm m c) (544 * t.val)) :=
  read5 c (V m c main_arg5) (eHm m c) (V_h_at m c) t

theorem block2 (t : Fin cfg0.N) : Of2 (a := 1) (b := 512) (φ := .f32) (show Vec Ideal S1x512 .f32 from iblk m c 2 t) (eGa m c) :=
  read2 c (V m c main_v2) (eGa m c) (at_ix2 (V_ga_of m c)) t

theorem block3 (t : Fin cfg0.N) : Of2 (a := 1) (b := 512) (φ := .f32) (show Vec Ideal S1x512 .f32 from iblk m c 3 t) (eGr m c) :=
  read3 c (V m c main_v3) (eGr m c) (at_ix2 (V_gr_of m c)) t

theorem block6 (t : Fin cfg0.N) : Of2 (a := 1) (b := 1024) (φ := .f32) (show Vec Ideal S1x1024 .f32 from iblk m c 6 t) (eGn m c) :=
  read6 c (V m c main_v4) (eGn m c) (at_ix2 (V_gn_of m c)) t

theorem block4 (t : Fin cfg0.N) : Of3 (a := 4) (b := 256) (c := 1024) (φ := .bf16) (show Vec Ideal S4x256x1024 .bf16 from iblk m c 4 t) (quarterSlab (eWo m c)) :=
  read4 c (V m c main_v1) (quarterSlab (eWo m c)) (V_w_at m c) t

/-! Where an entry lies in a point's block. -/

theorem mem7 (t : Fin cfg0.N) (i : S2176x1024.Idx) : i ∈ ((cfg0.win 7).blk t).view.set
    ↔ ∀ a : Fin 2, win0_7.index t a * ((![544, 1024] : Fin 2 → ℕ) a) ≤ (i a).val ∧ (i a).val < win0_7.index t a * ((![544, 1024] : Fin 2 → ℕ) a) + (![544, 1024] : Fin 2 → ℕ) a := by
  show i ∈ ((View.whole main_v5_0).slice (win0_7.rect t)).set ↔ _
  rw [View.set_slice_whole, Rect.mem_set_unit]
  exact Iff.rfl

theorem mem8 (t : Fin cfg0.N) (i : S2176x1024.Idx) : i ∈ ((cfg0.win 8).blk t).view.set
    ↔ ∀ a : Fin 2, win0_8.index t a * ((![544, 1024] : Fin 2 → ℕ) a) ≤ (i a).val ∧ (i a).val < win0_8.index t a * ((![544, 1024] : Fin 2 → ℕ) a) + (![544, 1024] : Fin 2 → ℕ) a := by
  show i ∈ ((View.whole main_v5_1).slice (win0_8.rect t)).set ↔ _
  rw [View.set_slice_whole, Rect.mem_set_unit]
  exact Iff.rfl

theorem mem9 (t : Fin cfg0.N) (i : S2176x1024.Idx) : i ∈ ((cfg0.win 9).blk t).view.set
    ↔ ∀ a : Fin 2, win0_9.index t a * ((![544, 1024] : Fin 2 → ℕ) a) ≤ (i a).val ∧ (i a).val < win0_9.index t a * ((![544, 1024] : Fin 2 → ℕ) a) + (![544, 1024] : Fin 2 → ℕ) a := by
  show i ∈ ((View.whole main_v5_2).slice (win0_9.rect t)).set ↔ _
  rw [View.set_slice_whole, Rect.mem_set_unit]
  exact Iff.rfl

abbrev eMix : ℕ → ℕ → EReal := mix (eA m c) (eR m c) (eGa m c) (eGr m c)

abbrev eAdd : ℕ → ℕ → EReal := added (eMix m c) (eWo m c) (eHm m c)

/-- The stream after the mixer. -/
theorem final7 : (dats m 0 c).arrAt 7 cfg0.N = grid2 (a := 2176) (b := 1024) (eAdd m c) := by
  refine (dats m 0 c).arrAt_eq_of_cover 7 (grid2 (a := 2176) (b := 1024) (eAdd m c)) (fun t _ => ?_) fun i => ?_
  · obtain ⟨e0, e1⟩ := index7 t
    show (cfg0.win 7).cut (grid0.coords t) ((dats m 0 c).after 7 t) = _
    rw [after0_7]
    funext y
    have b0 : (((cfg0.win 7).blk t).view.emb y 0).val = win0_7.index t (0 : Fin 2) * 544 + 1 * (y 0).val := rfl
    have b1 : (((cfg0.win 7).blk t).view.emb y 1).val = win0_7.index t (1 : Fin 2) * 1024 + 1 * (y 1).val := rfl
    have hx := out7 (x6 := iblk m c 6 t) (block0 m c t) (block1 m c t) (block2 m c t) (block3 m c t) (block4 m c t) (block5 m c t)
    refine (at_ix2 hx ((cfg0.win 7).xinj (grid0.coords t) y)).trans ?_
    show eAdd m c (544 * t.val + (y 0).val) (y 1).val
      = eAdd m c (((cfg0.win 7).blk t).view.emb y 0).val (((cfg0.win 7).blk t).view.emb y 1).val
    rw [b0, b1, e0, e1, mul_comm 544, one_mul, one_mul, zero_mul, zero_add]
  · have h0 : (i 0).val < 2176 := (i 0).isLt
    have h1 : (i 1).val < 1024 := (i 1).isLt
    have hN : cfg0.N = 4 := N_0
    have ht : (i 0).val / 544 < cfg0.N := by omega
    refine ⟨⟨_, ht⟩, flush0_7 _, ?_⟩
    obtain ⟨e0, e1⟩ := index7 ⟨_, ht⟩
    refine (mem7 _ i).2 ?_
    refine fun a => match a with
    | ⟨0, _⟩ => ?_
    | ⟨1, _⟩ => ?_
    · show win0_7.index ⟨_, ht⟩ (0 : Fin 2) * 544 ≤ (i 0).val ∧ (i 0).val < win0_7.index ⟨_, ht⟩ (0 : Fin 2) * 544 + 544
      rw [e0]; dsimp only; omega
    · show win0_7.index ⟨_, ht⟩ (1 : Fin 2) * 1024 ≤ (i 1).val ∧ (i 1).val < win0_7.index ⟨_, ht⟩ (1 : Fin 2) * 1024 + 1024
      rw [e1]; omega

/-- Its normalised rows. -/
theorem final8 : (dats m 0 c).arrAt 8 cfg0.N = grid2 (a := 2176) (b := 1024) (norm (eAdd m c) (eGn m c)) := by
  refine (dats m 0 c).arrAt_eq_of_cover 8 (grid2 (a := 2176) (b := 1024) (norm (eAdd m c) (eGn m c))) (fun t _ => ?_) fun i => ?_
  · obtain ⟨e0, e1⟩ := index8 t
    show (cfg0.win 8).cut (grid0.coords t) ((dats m 0 c).after 8 t) = _
    rw [after0_8]
    funext y
    have b0 : (((cfg0.win 8).blk t).view.emb y 0).val = win0_8.index t (0 : Fin 2) * 544 + 1 * (y 0).val := rfl
    have b1 : (((cfg0.win 8).blk t).view.emb y 1).val = win0_8.index t (1 : Fin 2) * 1024 + 1 * (y 1).val := rfl
    have hx := out8 (block0 m c t) (block1 m c t) (block2 m c t) (block3 m c t) (block4 m c t) (block5 m c t) (block6 m c t)
    refine (at_ix2 hx ((cfg0.win 8).xinj (grid0.coords t) y)).trans ?_
    show norm (eAdd m c) (eGn m c) (544 * t.val + (y 0).val) (y 1).val
      = norm (eAdd m c) (eGn m c) (((cfg0.win 8).blk t).view.emb y 0).val (((cfg0.win 8).blk t).view.emb y 1).val
    rw [b0, b1, e0, e1, mul_comm 544, one_mul, one_mul, zero_mul, zero_add]
  · have h0 : (i 0).val < 2176 := (i 0).isLt
    have h1 : (i 1).val < 1024 := (i 1).isLt
    have hN : cfg0.N = 4 := N_0
    have ht : (i 0).val / 544 < cfg0.N := by omega
    refine ⟨⟨_, ht⟩, flush0_8 _, ?_⟩
    obtain ⟨e0, e1⟩ := index8 ⟨_, ht⟩
    refine (mem8 _ i).2 ?_
    refine fun a => match a with
    | ⟨0, _⟩ => ?_
    | ⟨1, _⟩ => ?_
    · show win0_8.index ⟨_, ht⟩ (0 : Fin 2) * 544 ≤ (i 0).val ∧ (i 0).val < win0_8.index ⟨_, ht⟩ (0 : Fin 2) * 544 + 544
      rw [e0]; dsimp only; omega
    · show win0_8.index ⟨_, ht⟩ (1 : Fin 2) * 1024 ≤ (i 1).val ∧ (i 1).val < win0_8.index ⟨_, ht⟩ (1 : Fin 2) * 1024 + 1024
      rw [e1]; omega

/-- The two normalised halves. -/
theorem final9 : (dats m 0 c).arrAt 9 cfg0.N = grid2 (a := 2176) (b := 1024) (eMix m c) := by
  refine (dats m 0 c).arrAt_eq_of_cover 9 (grid2 (a := 2176) (b := 1024) (eMix m c)) (fun t _ => ?_) fun i => ?_
  · obtain ⟨e0, e1⟩ := index9 t
    show (cfg0.win 9).cut (grid0.coords t) ((dats m 0 c).after 9 t) = _
    rw [after0_9]
    funext y
    have b0 : (((cfg0.win 9).blk t).view.emb y 0).val = win0_9.index t (0 : Fin 2) * 544 + 1 * (y 0).val := rfl
    have b1 : (((cfg0.win 9).blk t).view.emb y 1).val = win0_9.index t (1 : Fin 2) * 1024 + 1 * (y 1).val := rfl
    have hx := out9 (x4 := iblk m c 4 t) (x5 := iblk m c 5 t) (x6 := iblk m c 6 t) (block0 m c t) (block1 m c t) (block2 m c t) (block3 m c t)
    refine (at_ix2 hx ((cfg0.win 9).xinj (grid0.coords t) y)).trans ?_
    show eMix m c (544 * t.val + (y 0).val) (y 1).val
      = eMix m c (((cfg0.win 9).blk t).view.emb y 0).val (((cfg0.win 9).blk t).view.emb y 1).val
    rw [b0, b1, e0, e1, mul_comm 544, one_mul, one_mul, zero_mul, zero_add]
  · have h0 : (i 0).val < 2176 := (i 0).isLt
    have h1 : (i 1).val < 1024 := (i 1).isLt
    have hN : cfg0.N = 4 := N_0
    have ht : (i 0).val / 544 < cfg0.N := by omega
    refine ⟨⟨_, ht⟩, flush0_9 _, ?_⟩
    obtain ⟨e0, e1⟩ := index9 ⟨_, ht⟩
    refine (mem9 _ i).2 ?_
    refine fun a => match a with
    | ⟨0, _⟩ => ?_
    | ⟨1, _⟩ => ?_
    · show win0_9.index ⟨_, ht⟩ (0 : Fin 2) * 544 ≤ (i 0).val ∧ (i 0).val < win0_9.index ⟨_, ht⟩ (0 : Fin 2) * 544 + 544
      rw [e0]; dsimp only; omega
    · show win0_9.index ⟨_, ht⟩ (1 : Fin 2) * 1024 ≤ (i 1).val ∧ (i 1).val < win0_9.index ⟨_, ht⟩ (1 : Fin 2) * 1024 + 1024
      rw [e1]; omega

end Cert.MixerOut

end
-- ==== Proof.MixerPlain.lean ====
/- The mixer's plain program over the extended reals: its three results are those of the kernel. -/
module

public import proofs.«01_k».proof.Proof.MixerArrays
public import proofs.«01_k».proof.Proof.Gen.MixerReferenceIdeal.Read

@[expose] public section

noncomputable section

namespace Cert.MixerOut

open Idealize.ShloMosaic Cert.MixerReferenceIdeal Cert.MixerReferenceIdeal.Read Cert.Hidden Cert.Forward

variable {x0 x1 : FVec Ideal S2176x512 .f32} {x2 x3 : FVec Ideal S512 .f32} {x4 : FVec Ideal S1024x1024 .f32} {x5 : FVec Ideal S2176x1024 .f32} {x6 : FVec Ideal S1024 .f32}
  {A R ga gr W H G : ℕ → ℕ → EReal}

theorem plain_attention_sum (h : Of2 (a := 2176) (b := 512) (φ := .f32) x0 A) (y : S2176.Idx) :
    val_main_v1 (F := Ideal) x0 y = (∑ k : Fin 512, A (y 0).val k * A (y 0).val k : EReal) := by
  rw [val_main_v1_apply, val_main_cst_apply]
  refine (congrArg₂ (· + ·) zero (Finset.sum_congr rfl fun k _ => ?_)).trans (zero_add _)
  have hx := (congrArg x0 (ValueIdx.eq_ix2 (idx_main_v1 y k))).trans (h _ _)
  rw [val_main_v0_apply]
  exact congrArg₂ (· * ·) hx hx

theorem plain_attention_scale (h : Of2 (a := 2176) (b := 512) (φ := .f32) x0 A) (y : S2176x1.Idx) : val_main_v7 (F := Ideal) x0 y = halfScale A (y 0).val := by
  rw [val_main_v7_apply, val_main_v6_apply, val_main_v4_apply, val_main_v2_apply, val_main_v3_apply, val_main_v5_apply, val_main_cst_0_apply, val_main_cst_1_apply, plain_attention_sum h]
  rfl

/-- The plain program's normalised rows of the attention. -/
theorem plain_attention (h : Of2 (a := 2176) (b := 512) (φ := .f32) x0 A) (hg : Of1 (b := 512) (φ := .f32) x2 ga) (y : S2176x512.Idx) :
    val_main_v12 (F := Ideal) x0 x2 y = halfNorm A ga (y 0).val (y 1).val := by
  have hx : x0 y = A (y 0).val (y 1).val := (congrArg x0 (ValueIdx.eq_ix2 y)).trans (h _ _)
  have hr : x2 (idx_main_v10 (idx_main_v11 y)) = ga 0 (y 1).val := (congrArg x2 (ValueIdx.eq_ix1 _)).trans (hg _)
  rw [val_main_v12_apply, val_main_v9_apply, val_main_v8_apply, val_main_v11_apply, val_main_v10_apply, plain_attention_scale h, hx, hr]
  rfl

theorem plain_recurrence_sum (h : Of2 (a := 2176) (b := 512) (φ := .f32) x1 R) (y : S2176.Idx) :
    val_main_v14 (F := Ideal) x1 y = (∑ k : Fin 512, R (y 0).val k * R (y 0).val k : EReal) := by
  rw [val_main_v14_apply, val_main_cst_2_apply]
  refine (congrArg₂ (· + ·) zero (Finset.sum_congr rfl fun k _ => ?_)).trans (zero_add _)
  have hx := (congrArg x1 (ValueIdx.eq_ix2 (idx_main_v14 y k))).trans (h _ _)
  rw [val_main_v13_apply]
  exact congrArg₂ (· * ·) hx hx

theorem plain_recurrence_scale (h : Of2 (a := 2176) (b := 512) (φ := .f32) x1 R) (y : S2176x1.Idx) : val_main_v20 (F := Ideal) x1 y = halfScale R (y 0).val := by
  rw [val_main_v20_apply, val_main_v19_apply, val_main_v17_apply, val_main_v15_apply, val_main_v16_apply, val_main_v18_apply, val_main_cst_3_apply, val_main_cst_4_apply, plain_recurrence_sum h]
  rfl

/-- The plain program's normalised rows of the recurrence. -/
theorem plain_recurrence (h : Of2 (a := 2176) (b := 512) (φ := .f32) x1 R) (hg : Of1 (b := 512) (φ := .f32) x3 gr) (y : S2176x512.Idx) :
    val_main_v25 (F := Ideal) x1 x3 y = halfNorm R gr (y 0).val (y 1).val := by
  have hx : x1 y = R (y 0).val (y 1).val := (congrArg x1 (ValueIdx.eq_ix2 y)).trans (h _ _)
  have hr : x3 (idx_main_v23 (idx_main_v24 y)) = gr 0 (y 1).val := (congrArg x3 (ValueIdx.eq_ix1 _)).trans (hg _)
  rw [val_main_v25_apply, val_main_v22_apply, val_main_v21_apply, val_main_v24_apply, val_main_v23_apply, plain_recurrence_scale h, hx, hr]
  rfl

variable (h0 : Of2 (a := 2176) (b := 512) (φ := .f32) x0 A) (h1 : Of2 (a := 2176) (b := 512) (φ := .f32) x1 R)
  (h2 : Of1 (b := 512) (φ := .f32) x2 ga) (h3 : Of1 (b := 512) (φ := .f32) x3 gr)
  (h4 : Of2 (a := 1024) (b := 1024) (φ := .f32) x4 W) (h5 : Of2 (a := 2176) (b := 1024) (φ := .f32) x5 H)
  (h6 : Of1 (b := 1024) (φ := .f32) x6 G)

include h0 h1 h2 h3

/-- The plain program's two halves side by side. -/
theorem plain_mix (y : S2176x1024.Idx) : val_main_v26 (F := Ideal) x0 x1 x2 x3 y = mix A R ga gr (y 0).val (y 1).val := by
  have hj : (y 1).val < 1024 := (y 1).isLt
  unfold val_main_v26
  by_cases h : (y 1).val < 512
  · refine ((concatenate_pair_apply_left (1 : Fin S2176x1024.rank) (val_main_v12 (F := Ideal) x0 x2) (val_main_v25 (F := Ideal) x1 x3) Gen.concatenates_S2176x512_S2176x512_S2176x1024_d1 y rfl
      (ix2 (show Fin 2176 from y 0) (⟨(y 1).val, h⟩ : Fin 512)) ?_).trans (plain_attention h0 h2 _)).trans (if_pos h).symm
    exact fun e => match e with | ⟨0, _⟩ => rfl | ⟨1, _⟩ => rfl
  · have h' : (y 1).val - 512 < 512 := by omega
    refine ((concatenate_pair_apply_right (1 : Fin S2176x1024.rank) (val_main_v12 (F := Ideal) x0 x2) (val_main_v25 (F := Ideal) x1 x3) Gen.concatenates_S2176x512_S2176x512_S2176x1024_d1 y rfl rfl
      (ix2 (show Fin 2176 from y 0) (⟨(y 1).val - 512, h'⟩ : Fin 512)) ?_ ?_).trans (plain_recurrence h1 h3 _)).trans (if_neg h).symm
    · exact fun e => match e with | ⟨0, _⟩ => fun _ => rfl | ⟨1, _⟩ => fun ne => absurd rfl ne
    · show (y 1).val - 512 + 512 = (y 1).val
      omega

theorem plain_mix_stored (y : S2176x1024.Idx) : val_main_v43 (F := Ideal) x0 x1 x2 x3 y = mix A R ga gr (y 0).val (y 1).val := by
  rw [val_main_v43_apply, plain_mix h0 h1 h2 h3]
  rfl

include h4 h5

/-- The plain program's stream after the mixer. -/
theorem plain_added (y : S2176x1024.Idx) : val_main_v28 (F := Ideal) x0 x1 x2 x3 x4 x5 y = added (mix A R ga gr) W H (y 0).val (y 1).val := by
  rw [val_main_v28_apply, val_main_v27_apply]
  refine congrArg₂ (· + ·) ((congrArg x5 (ValueIdx.eq_ix2 y)).trans (h5 _ _)) (Finset.sum_congr rfl fun k _ => ?_)
  rw [plain_mix h0 h1 h2 h3]
  exact congrArg (_ * ·) ((congrArg x4 (ValueIdx.eq_ix2 _)).trans (h4 _ _))

theorem plain_sum (y : S2176.Idx) : val_main_v30 (F := Ideal) x0 x1 x2 x3 x4 x5 y
    = (∑ k : Fin 1024, added (mix A R ga gr) W H (y 0).val k * added (mix A R ga gr) W H (y 0).val k : EReal) := by
  rw [val_main_v30_apply, val_main_cst_5_apply]
  refine (congrArg₂ (· + ·) zero (Finset.sum_congr rfl fun k _ => ?_)).trans (zero_add _)
  rw [val_main_v29_apply, plain_added h0 h1 h2 h3 h4 h5]
  rfl

theorem plain_scale (y : S2176x1.Idx) : val_main_v36 (F := Ideal) x0 x1 x2 x3 x4 x5 y = scale (added (mix A R ga gr) W H) (y 0).val := by
  rw [val_main_v36_apply, val_main_v35_apply, val_main_v33_apply, val_main_v31_apply, val_main_v32_apply, val_main_v34_apply,
    val_main_cst_6_apply, val_main_cst_7_apply, plain_sum h0 h1 h2 h3 h4 h5]
  rfl

include h6

/-- The plain program's normalised rows of that stream. -/
theorem plain_norm (y : S2176x1024.Idx) : val_main_v42 (F := Ideal) x0 x1 x2 x3 x4 x5 x6 y = norm (added (mix A R ga gr) W H) G (y 0).val (y 1).val := by
  rw [val_main_v42_apply, val_main_v41_apply, val_main_v38_apply, val_main_v37_apply, val_main_v40_apply, val_main_v39_apply,
    plain_added h0 h1 h2 h3 h4 h5, plain_scale h0 h1 h2 h3 h4 h5]
  have hg : x6 (idx_main_v39 (idx_main_v40 y)) = G 0 (y 1).val := (congrArg x6 (ValueIdx.eq_ix1 _)).trans (h6 _)
  rw [hg]
  rfl

end Cert.MixerOut

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpIdeal.Value
public import proofs.«01_k».proof.Proof.Gen.MlpReferenceIdeal
public import proofs.«01_k».proof.Proof.Gen.MlpReferenceIdeal.Run
public import proofs.«01_k».proof.Proof.Gen.MlpReferenceIdeal.Read
public import proofs.«01_k».proof.Proof.Gen.MlpForward
public import proofs.«01_k».proof.Proof.Gen.MlpForward.Skeleton
public import proofs.«01_k».proof.Proof.Gen.MlpForward.Launch
public import proofs.«01_k».proof.Proof.Gen.MlpForward.Points
public import proofs.«01_k».proof.Proof.Gen.MlpForward.Frame
public import proofs.«01_k».proof.Proof.Gen.MlpForwardIdeal
public import proofs.«01_k».proof.Proof.Gen.MlpForwardIdeal.Skeleton
public import proofs.«01_k».proof.Proof.Gen.MlpForwardIdeal.Launch
public import proofs.«01_k».proof.Proof.Gen.MlpForwardIdeal.Points
public import proofs.«01_k».proof.Proof.Gen.MlpForwardIdeal.Frame
public import proofs.«01_k».proof.Proof.Gen.MlpForwardIdeal.Value
public import proofs.«01_k».proof.Proof.Gen.MlpForwardReferenceIdeal
public import proofs.«01_k».proof.Proof.Gen.MlpForwardReferenceIdeal.Run
public import proofs.«01_k».proof.Proof.Gen.MlpForwardReferenceIdeal.Read
public import proofs.«01_k».proof.Proof.Gen.Pieces
public import proofs.«01_k».proof.Proof.Gen.Pieces.Skeleton
public import proofs.«01_k».proof.Proof.Gen.Pieces.Launch
public import proofs.«01_k».proof.Proof.Gen.Pieces.Points
public import proofs.«01_k».proof.Proof.Gen.Pieces.Frame
public import proofs.«01_k».proof.Proof.Gen.PiecesIdeal
public import proofs.«01_k».proof.Proof.Gen.PiecesIdeal.Skeleton
public import proofs.«01_k».proof.Proof.Gen.PiecesIdeal.Launch
public import proofs.«01_k».proof.Proof.Gen.PiecesIdeal.Points
public import proofs.«01_k».proof.Proof.Gen.PiecesIdeal.Frame
public import proofs.«01_k».proof.Proof.Gen.PiecesIdeal.Value
public import proofs.«01_k».proof.Proof.Gen.PiecesReferenceIdeal
public import proofs.«01_k».proof.Proof.Gen.PiecesReferenceIdeal.Run
public import proofs.«01_k».proof.Proof.Gen.PiecesReferenceIdeal.Read
public import proofs.«01_k».proof.Proof.Gen.Mixer
public import proofs.«01_k».proof.Proof.Gen.Mixer.Skeleton
public import proofs.«01_k».proof.Proof.Gen.Mixer.Launch
public import proofs.«01_k».proof.Proof.Gen.Mixer.Points
public import proofs.«01_k».proof.Proof.Gen.Mixer.Frame
public import proofs.«01_k».proof.Proof.Gen.MixerIdeal
public import proofs.«01_k».proof.Proof.Gen.MixerIdeal.Skeleton
public import proofs.«01_k».proof.Proof.Gen.MixerIdeal.Launch
public import proofs.«01_k».proof.Proof.Gen.MixerIdeal.Points
public import proofs.«01_k».proof.Proof.Gen.MixerIdeal.Frame
public import proofs.«01_k».proof.Proof.Gen.MixerIdeal.Value
public import proofs.«01_k».proof.Proof.Gen.MixerReferenceIdeal
public import proofs.«01_k».proof.Proof.Gen.MixerReferenceIdeal.Run
public import proofs.«01_k».proof.Proof.Gen.MixerReferenceIdeal.Read
public import proofs.«01_k».proof.Proof.Arrays
public import proofs.«01_k».proof.Proof.Blocks
public import proofs.«01_k».proof.Proof.Finite
public import proofs.«01_k».proof.Proof.MlpArrays
public import proofs.«01_k».proof.Proof.MlpPlain
public import proofs.«01_k».proof.Proof.ForwardPlain
public import proofs.«01_k».proof.Proof.PiecesPlain
public import proofs.«01_k».proof.Proof.MixerPlain
public import Idealize.ShloMosaic.Adequacy
public import Idealize.ShloMosaic.Init

@[expose] public section

noncomputable section

namespace Cert.Proof

open Idealize.ShloMosaic Idealize.SL.Sem Cert.Model Cert.Reals

instance : Cert.Pre_finite.Facts := Cert.Pre_finite.facts

/-- The plain program has no semaphores: they are zero when it ends. -/
theorem quiescent_reference : Cert.quiescent_ReferenceIdeal := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

section Values

open Cert.KernelIdeal Cert.KernelIdeal.Gen Cert.Cases

variable (m : (ℓ : Loc nD τ sig) → Buf (Elt Ideal) ℓ) (ρ : Dev nD → PrngReg)

/-- Under the precondition the arguments of each device hold real numbers, and so do the largest scores of the plain program. -/
theorem weights (h : Cert.Pre_KernelIdeal m) (c : Dev nD) :
    ∃ (e : Input) (M : ℕ → ℕ → ℝ), Plain.Weights e M (a0 m c) (a1 m c) (a2 m c) (a3 m c) (a4 m c) := by
  obtain ⟨e, H⟩ := Cert.Pre_finite.holds (h c)
  obtain ⟨M, hM⟩ := Plain.v21 H
  exact ⟨e, M, { H with largest := hM }⟩

/-- What the kernel leaves in its four results. -/
theorem kernel_values {e : (c : Dev nD) → Input} {M : Dev nD → ℕ → ℕ → ℝ}
    (H : ∀ c, Plain.Weights (e c) (M c) (a0 m c) (a1 m c) (a2 m c) (a3 m c) (a4 m c)) :
    θ_run defs (onTc (τ := τ) (main (F := Ideal))) ⟨m, fun _ => 0, ρ⟩ fun r => ∀ c : Dev nD,
      r.2.mem ((c.tc : Thread nD τ).loc main_v35_0) = arr2 (a := 2176) (b := 512) ((e c).data (M c)).gradQ
      ∧ r.2.mem ((c.tc : Thread nD τ).loc main_v35_1) = arr2 (a := 2176) (b := 512) ((e c).data (M c)).gradK
      ∧ r.2.mem ((c.tc : Thread nD τ).loc main_v35_2) = arr2 (a := 2176) (b := 512) ((e c).data (M c)).gradV
      ∧ r.2.mem ((c.tc : Thread nD τ).loc main_v35_3) = arr2 (a := 2176) (b := 128) ((e c).data (M c)).gradC
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨((h.1 c).1 7).trans (final7 (windows m c (H c))), ((h.1 c).1 8).trans (final8 (windows m c (H c))),
      ((h.1 c).1 9).trans (final9 (windows m c (H c))), ((h.1 c).1 10).trans (final10 (windows m c (H c))), h.2 c⟩)
    (θ_run_and (run_main m ρ) (unchanged m ρ))

end Values

section Values

open Cert.ReferenceIdeal Cert.ReferenceIdeal.Read

variable (m : (ℓ : Loc nD τ sig) → Buf (Elt Ideal) ℓ) (ρ : Dev nD → PrngReg)

/-- What the plain program leaves in its four results. -/
theorem reference_values {e : (c : Dev nD) → Input} {M : Dev nD → ℕ → ℕ → ℝ}
    (H : ∀ c : Dev nD, Plain.Weights (e c) (M c) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))) :
    θ_run defs (onTc (τ := τ) (main (F := Ideal))) ⟨m, fun _ => 0, ρ⟩ fun r => ∀ c : Dev nD,
      r.2.mem ((c.tc : Thread nD τ).loc main_v88) = arr2 (a := 2176) (b := 512) ((e c).data (M c)).gradQ
      ∧ r.2.mem ((c.tc : Thread nD τ).loc main_v89) = arr2 (a := 2176) (b := 512) ((e c).data (M c)).gradK
      ∧ r.2.mem ((c.tc : Thread nD τ).loc main_v90) = arr2 (a := 2176) (b := 512) ((e c).data (M c)).gradV
      ∧ r.2.mem ((c.tc : Thread nD τ).loc main_v92) = arr2 (a := 2176) (b := 128) ((e c).data (M c)).gradC
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans ((val_main_v88_eq m c).trans (funext (Plain.dq (H c)))),
      (h c).2.1.trans ((val_main_v89_eq m c).trans (funext (Plain.dk (H c)))),
      (h c).2.2.1.trans ((val_main_v90_eq m c).trans (funext (Plain.dv (H c)))),
      (h c).2.2.2.1.trans ((val_main_v92_eq m c).trans (funext (Plain.dc (H c)))), (h c).2.2.2.2⟩)
    (Value.run (F := Ideal) m ρ)

end Values

/-- Both programs end with the gradients of attention of the reals the arguments hold. -/
theorem algebraic : Cert.algebraic_KernelIdeal_ReferenceIdeal := fun m ρ m' ρ' hpre hagree => by
  choose e M H using weights m hpre
  refine ⟨_, _, _, _, kernel_values m ρ H, reference_values m' ρ' fun c => ?_⟩
  obtain ⟨h0, h1, h2, h3, h4⟩ := hagree c
  rw [h0, h1, h2, h3, h4]
  exact H c

/-- The MLP's plain program has no semaphores: they are zero when it ends. -/
theorem quiescent_mlp_reference : Cert.quiescent_MlpReferenceIdeal := fun m ρ _ =>
  (θ_run Cert.MlpReferenceIdeal.defs _ _).mono (fun r h => ⟨fun c => (h c).2.2.2, sem_eq_zero_of_no_sems (by decide) r.2⟩)
    (Cert.MlpReferenceIdeal.Value.run (F := Ideal) m ρ)

section Mlp

open Cert.MlpIdeal Cert.MlpIdeal.Gen Cert.Hidden

variable (m : (ℓ : Loc nD τ sig) → Buf (Elt Ideal) ℓ) (ρ : Dev nD → PrngReg)

/-- What the MLP's kernel leaves in its three results. -/
theorem mlp_values : θ_run defs (onTc (τ := τ) (main (F := Ideal))) ⟨m, fun _ => 0, ρ⟩ fun r => ∀ c : Dev nD,
      r.2.mem ((c.tc : Thread nD τ).loc main_v6_0) = grid2 (a := 2176) (b := 4096) (gradUp (eP m c) (eH m c) (eW m c))
      ∧ r.2.mem ((c.tc : Thread nD τ).loc main_v6_1) = grid2 (a := 4096) (b := 1024) (gradDown (eP m c) (eH m c))
      ∧ r.2.mem ((c.tc : Thread nD τ).loc main_v6_2) = slabs3 (gradIn (eP m c) (eH m c) (eW m c) (eZ m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (final4 m c), (h c).2.1.trans (final5 m c), (h c).2.2.1.trans (final6 m c), (h c).2.2.2⟩)
    (Value.run_blocks m ρ)

end Mlp

section Mlp

open Cert.MlpReferenceIdeal Cert.MlpReferenceIdeal.Read Cert.Hidden

variable (m : (ℓ : Loc nD τ sig) → Buf (Elt Ideal) ℓ) (ρ : Dev nD → PrngReg)

/-- What the MLP's plain program leaves in its three results. -/
theorem mlp_reference_values {Z U W H : (c : Dev nD) → ℕ → ℕ → EReal}
    (h0 : ∀ c : Dev nD, Of2 (a := 2176) (b := 1024) (φ := .f32) (m ((c.tc : Thread nD τ).loc main_arg0)) (Z c))
    (h1 : ∀ c : Dev nD, Of2 (a := 1024) (b := 4096) (φ := .f32) (m ((c.tc : Thread nD τ).loc main_arg1)) (U c))
    (h2 : ∀ c : Dev nD, Of2 (a := 4096) (b := 1024) (φ := .f32) (m ((c.tc : Thread nD τ).loc main_arg2)) (W c))
    (h3 : ∀ c : Dev nD, Of2 (a := 2176) (b := 1024) (φ := .f32) (m ((c.tc : Thread nD τ).loc main_arg3)) (H c)) :
    θ_run defs (onTc (τ := τ) (main (F := Ideal))) ⟨m, fun _ => 0, ρ⟩ fun r => ∀ c : Dev nD,
      r.2.mem ((c.tc : Thread nD τ).loc main_v20) = grid2 (a := 2176) (b := 4096) (gradUp (up (Z c) (U c)) (H c) (W c))
      ∧ r.2.mem ((c.tc : Thread nD τ).loc main_v21) = grid2 (a := 4096) (b := 1024) (gradDown (up (Z c) (U c)) (H c))
      ∧ r.2.mem ((c.tc : Thread nD τ).loc main_v22) = slabs3 (gradIn (up (Z c) (U c)) (H c) (W c) (Z c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans ((val_main_v20_eq _ _ _ _).trans (funext (plain_gradUp (h0 c) (h1 c) (h2 c) (h3 c)))),
      (h c).2.1.trans ((val_main_v21_eq _ _ _).trans (funext (plain_gradDown (h0 c) (h1 c) (h3 c)))),
      (h c).2.2.1.trans ((val_main_v22_eq _ _ _ _).trans (funext (plain_gradIn (h0 c) (h1 c) (h2 c) (h3 c)))), (h c).2.2.2⟩)
    (Value.run (F := Ideal) m ρ)

end Mlp

/-- Both programs end with the gradients of the MLP of the entries the arguments hold. -/
theorem mlp_algebraic : Cert.algebraic_MlpIdeal_MlpReferenceIdeal := fun m ρ m' ρ' _ hagree => by
  refine ⟨_, _, _, mlp_values m ρ, mlp_reference_values m' ρ' (fun c => ?_) (fun c => ?_) (fun c => ?_) fun c => ?_⟩
  · rw [(hagree c).1]
    exact Hidden.entries_of _
  · rw [(hagree c).2.1]
    exact Hidden.entries_of _
  · rw [(hagree c).2.2.1]
    exact Hidden.entries_of _
  · rw [(hagree c).2.2.2]
    exact Hidden.entries_of _

/-- The plain forward program has no semaphores either. -/
theorem quiescent_forward_reference : Cert.quiescent_MlpForwardReferenceIdeal := fun m ρ _ =>
  (θ_run Cert.MlpForwardReferenceIdeal.defs _ _).mono (fun r h => ⟨fun c => (h c).2.2.2, sem_eq_zero_of_no_sems (by decide) r.2⟩)
    (Cert.MlpForwardReferenceIdeal.Value.run (F := Ideal) m ρ)

/-- Nor has the plain program of the projections' weight gradients. -/
theorem quiescent_pieces_reference : Cert.quiescent_PiecesReferenceIdeal := fun m ρ _ =>
  (θ_run Cert.PiecesReferenceIdeal.defs _ _).mono (fun r h => ⟨fun c => (h c).2.2.2.2.2.2, sem_eq_zero_of_no_sems (by decide) r.2⟩)
    (Cert.PiecesReferenceIdeal.Value.run (F := Ideal) m ρ)

section Forward

open Cert.MlpForwardIdeal Cert.MlpForwardIdeal.Gen Cert.Hidden Cert.Forward

variable (m : (ℓ : Loc nD τ sig) → Buf (Elt Ideal) ℓ) (ρ : Dev nD → PrngReg)

/-- What the MLP's forward kernel leaves in its three results. -/
theorem forward_values : θ_run defs (onTc (τ := τ) (main (F := Ideal))) ⟨m, fun _ => 0, ρ⟩ fun r => ∀ c : Dev nD,
      r.2.mem ((c.tc : Thread nD τ).loc main_v7_0) = grid2 (a := 2176) (b := 4096) (up (Forward.eZ m c) (Forward.eU m c))
      ∧ r.2.mem ((c.tc : Thread nD τ).loc main_v7_1) = grid2 (a := 2176) (b := 1024) (layer (Forward.eZ m c) (Forward.eU m c) (Forward.eW m c) (Forward.eH m c))
      ∧ r.2.mem ((c.tc : Thread nD τ).loc main_v7_2)
        = grid2 (a := 2176) (b := 1024) (norm (layer (Forward.eZ m c) (Forward.eU m c) (Forward.eW m c) (Forward.eH m c)) (Forward.eG m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (Forward.final5 m c), (h c).2.1.trans (Forward.final6 m c), (h c).2.2.1.trans (Forward.final7 m c), (h c).2.2.2⟩)
    (Value.run_blocks m ρ)

end Forward

section Forward

open Cert.MlpForwardReferenceIdeal Cert.MlpForwardReferenceIdeal.Read Cert.Hidden Cert.Forward

variable (m : (ℓ : Loc nD τ sig) → Buf (Elt Ideal) ℓ) (ρ : Dev nD → PrngReg)

/-- What the MLP's plain forward program leaves in its three results. -/
theorem forward_reference_values {Z U W H G : (c : Dev nD) → ℕ → ℕ → EReal}
    (h0 : ∀ c : Dev nD, Of2 (a := 2176) (b := 1024) (φ := .f32) (m ((c.tc : Thread nD τ).loc main_arg0)) (Z c))
    (h1 : ∀ c : Dev nD, Of2 (a := 1024) (b := 4096) (φ := .f32) (m ((c.tc : Thread nD τ).loc main_arg1)) (U c))
    (h2 : ∀ c : Dev nD, Of2 (a := 4096) (b := 1024) (φ := .f32) (m ((c.tc : Thread nD τ).loc main_arg2)) (W c))
    (h3 : ∀ c : Dev nD, Of2 (a := 2176) (b := 1024) (φ := .f32) (m ((c.tc : Thread nD τ).loc main_arg3)) (H c))
    (h4 : ∀ c : Dev nD, Of1 (b := 1024) (φ := .f32) (m ((c.tc : Thread nD τ).loc main_arg4)) (G c)) :
    θ_run defs (onTc (τ := τ) (main (F := Ideal))) ⟨m, fun _ => 0, ρ⟩ fun r => ∀ c : Dev nD,
      r.2.mem ((c.tc : Thread nD τ).loc main_v5) = grid2 (a := 2176) (b := 4096) (up (Z c) (U c))
      ∧ r.2.mem ((c.tc : Thread nD τ).loc main_v4) = grid2 (a := 2176) (b := 1024) (layer (Z c) (U c) (W c) (H c))
      ∧ r.2.mem ((c.tc : Thread nD τ).loc main_v19) = grid2 (a := 2176) (b := 1024) (norm (layer (Z c) (U c) (W c) (H c)) (G c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans ((val_main_v5_eq _ _).trans (funext (plain_before (h0 c) (h1 c)))),
      (h c).2.1.trans ((val_main_v4_eq _ _ _ _).trans (funext (plain_layer (h0 c) (h1 c) (h2 c) (h3 c)))),
      (h c).2.2.1.trans ((val_main_v19_eq _ _ _ _ _).trans (funext (plain_norm (h0 c) (h1 c) (h2 c) (h3 c) (h4 c)))), (h c).2.2.2⟩)
    (Value.run (F := Ideal) m ρ)

end Forward

/-- Both programs end with the MLP's layer of the entries the arguments hold, and its rows normalised. -/
theorem forward_algebraic : Cert.algebraic_MlpForwardIdeal_MlpForwardReferenceIdeal := fun m ρ m' ρ' _ hagree => by
  refine ⟨_, _, _, forward_values m ρ, forward_reference_values m' ρ' (fun c => ?_) (fun c => ?_) (fun c => ?_) (fun c => ?_) fun c => ?_⟩
  · rw [(hagree c).1]
    exact Hidden.entries_of _
  · rw [(hagree c).2.1]
    exact Hidden.entries_of _
  · rw [(hagree c).2.2.1]
    exact Hidden.entries_of _
  · rw [(hagree c).2.2.2.1]
    exact Hidden.entries_of _
  · rw [(hagree c).2.2.2.2]
    exact Forward.entriesRow_of _

section Pieces

open Cert.PiecesIdeal Cert.PiecesIdeal.Gen Cert.Hidden

variable (m : (ℓ : Loc nD τ sig) → Buf (Elt Ideal) ℓ) (ρ : Dev nD → PrngReg)

/-- What the kernel of the projections' weight gradients leaves in its six results. -/
theorem pieces_values : θ_run defs (onTc (τ := τ) (main (F := Ideal))) ⟨m, fun _ => 0, ρ⟩ fun r => ∀ c : Dev nD,
      r.2.mem ((c.tc : Thread nD τ).loc main_v7_0) = grid2 (a := 512) (b := 1024) (Pieces.grad (Pieces.g1 m c) (Pieces.eZ m c))
      ∧ r.2.mem ((c.tc : Thread nD τ).loc main_v7_1) = grid2 (a := 512) (b := 1024) (Pieces.grad (Pieces.g2 m c) (Pieces.eZ m c))
      ∧ r.2.mem ((c.tc : Thread nD τ).loc main_v7_2) = grid2 (a := 512) (b := 1024) (Pieces.grad (Pieces.g3 m c) (Pieces.eZ m c))
      ∧ r.2.mem ((c.tc : Thread nD τ).loc main_v7_3) = grid2 (a := 512) (b := 1024) (Pieces.grad (Pieces.g4 m c) (Pieces.eZ m c))
      ∧ r.2.mem ((c.tc : Thread nD τ).loc main_v7_4) = grid2 (a := 512) (b := 1024) (Pieces.grad (Pieces.g5 m c) (Pieces.eZ m c))
      ∧ r.2.mem ((c.tc : Thread nD τ).loc main_v7_5) = grid2 (a := 128) (b := 1024) (Pieces.grad (Pieces.g6 m c) (Pieces.eZ m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨(h c).1.trans (Pieces.final7 m c),
      (h c).2.1.trans (Pieces.final8 m c),
      (h c).2.2.1.trans (Pieces.final9 m c),
      (h c).2.2.2.1.trans (Pieces.final10 m c),
      (h c).2.2.2.2.1.trans (Pieces.final11 m c),
      (h c).2.2.2.2.2.1.trans (Pieces.final12 m c), (h c).2.2.2.2.2.2⟩)
    (Value.run_blocks m ρ)

end Pieces

section Pieces

open Cert.PiecesReferenceIdeal Cert.PiecesReferenceIdeal.Read Cert.Hidden

variable (m : (ℓ : Loc nD τ sig) → Buf (Elt Ideal) ℓ) (ρ : Dev nD → PrngReg)

/-- What the plain program of the projections' weight gradients leaves in its six results. -/
theorem pieces_reference_values {Z P1 P2 P3 P4 P5 P6 : (c : Dev nD) → ℕ → ℕ → EReal}
    (h0 : ∀ c : Dev nD, Of2 (a := 2176) (b := 1024) (φ := .f32) (m ((c.tc : Thread nD τ).loc main_arg0)) (Z c))
    (h1 : ∀ c : Dev nD, Of2 (a := 2176) (b := 512) (φ := .f32) (m ((c.tc : Thread nD τ).loc main_arg1)) (P1 c))
    (h2 : ∀ c : Dev nD, Of2 (a := 2176) (b := 512) (φ := .f32) (m ((c.tc : Thread nD τ).loc main_arg2)) (P2 c))
    (h3 : ∀ c : Dev nD, Of2 (a := 2176) (b := 512) (φ := .f32) (m ((c.tc : Thread nD τ).loc main_arg3)) (P3 c))
    (h4 : ∀ c : Dev nD, Of2 (a := 2176) (b := 512) (φ := .f32) (m ((c.tc : Thread nD τ).loc main_arg4)) (P4 c))
    (h5 : ∀ c : Dev nD, Of2 (a := 2176) (b := 512) (φ := .f32) (m ((c.tc : Thread nD τ).loc main_arg5)) (P5 c))
    (h6 : ∀ c : Dev nD, Of2 (a := 2176) (b := 128) (φ := .f32) (m ((c.tc : Thread nD τ).loc main_arg6)) (P6 c)) :
    θ_run defs (onTc (τ := τ) (main (F := Ideal))) ⟨m, fun _ => 0, ρ⟩ fun r => ∀ c : Dev nD,
      r.2.mem ((c.tc : Thread nD τ).loc main_v3) = grid2 (a := 512) (b := 1024) (Pieces.grad (P1 c) (Z c))
      ∧ r.2.mem ((c.tc : Thread nD τ).loc main_v7) = grid2 (a := 512) (b := 1024) (Pieces.grad (P2 c) (Z c))
      ∧ r.2.mem ((c.tc : Thread nD τ).loc main_v11) = grid2 (a := 512) (b := 1024) (Pieces.grad (P3 c) (Z c))
      ∧ r.2.mem ((c.tc : Thread nD τ).loc main_v15) = grid2 (a := 512) (b := 1024) (Pieces.grad (P4 c) (Z c))
      ∧ r.2.mem ((c.tc : Thread nD τ).loc main_v19) = grid2 (a := 512) (b := 1024) (Pieces.grad (P5 c) (Z c))
      ∧ r.2.mem ((c.tc : Thread nD τ).loc main_v23) = grid2 (a := 128) (b := 1024) (Pieces.grad (P6 c) (Z c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨(h c).1.trans ((val_main_v3_eq _ _).trans (funext (Pieces.plain1 (h0 c) (h1 c)))),
      (h c).2.1.trans ((val_main_v7_eq _ _).trans (funext (Pieces.plain2 (h0 c) (h2 c)))),
      (h c).2.2.1.trans ((val_main_v11_eq _ _).trans (funext (Pieces.plain3 (h0 c) (h3 c)))),
      (h c).2.2.2.1.trans ((val_main_v15_eq _ _).trans (funext (Pieces.plain4 (h0 c) (h4 c)))),
      (h c).2.2.2.2.1.trans ((val_main_v19_eq _ _).trans (funext (Pieces.plain5 (h0 c) (h5 c)))),
      (h c).2.2.2.2.2.1.trans ((val_main_v23_eq _ _).trans (funext (Pieces.plain6 (h0 c) (h6 c)))), (h c).2.2.2.2.2.2⟩)
    (Value.run (F := Ideal) m ρ)

end Pieces

/-- Both programs end with the weight gradients of the entries the arguments hold. -/
theorem pieces_algebraic : Cert.algebraic_PiecesIdeal_PiecesReferenceIdeal := fun m ρ m' ρ' _ hagree => by
  refine ⟨_, _, _, _, _, _, pieces_values m ρ, pieces_reference_values m' ρ' (fun c => ?_) (fun c => ?_) (fun c => ?_) (fun c => ?_) (fun c => ?_) (fun c => ?_) fun c => ?_⟩
  · rw [(hagree c).1]
    exact Hidden.entries_of _
  · rw [(hagree c).2.1]
    exact Hidden.entries_of _
  · rw [(hagree c).2.2.1]
    exact Hidden.entries_of _
  · rw [(hagree c).2.2.2.1]
    exact Hidden.entries_of _
  · rw [(hagree c).2.2.2.2.1]
    exact Hidden.entries_of _
  · rw [(hagree c).2.2.2.2.2.1]
    exact Hidden.entries_of _
  · rw [(hagree c).2.2.2.2.2.2]
    exact Hidden.entries_of _

/-- Nor has the mixer's plain program. -/
theorem quiescent_mixer_reference : Cert.quiescent_MixerReferenceIdeal := fun m ρ _ =>
  (θ_run Cert.MixerReferenceIdeal.defs _ _).mono (fun r h => ⟨fun c => (h c).2.2.2, sem_eq_zero_of_no_sems (by decide) r.2⟩)
    (Cert.MixerReferenceIdeal.Value.run (F := Ideal) m ρ)

section Mixer

open Cert.MixerIdeal Cert.MixerIdeal.Gen Cert.Hidden Cert.Forward Cert.MixerOut

variable (m : (ℓ : Loc nD τ sig) → Buf (Elt Ideal) ℓ) (ρ : Dev nD → PrngReg)

/-- What the mixer's output kernel leaves in its three results. -/
theorem mixer_values : θ_run defs (onTc (τ := τ) (main (F := Ideal))) ⟨m, fun _ => 0, ρ⟩ fun r => ∀ c : Dev nD,
      r.2.mem ((c.tc : Thread nD τ).loc main_v5_0) = grid2 (a := 2176) (b := 1024) (added (mix (MixerOut.eA m c) (MixerOut.eR m c) (MixerOut.eGa m c) (MixerOut.eGr m c)) (MixerOut.eWo m c) (MixerOut.eHm m c))
      ∧ r.2.mem ((c.tc : Thread nD τ).loc main_v5_1)
        = grid2 (a := 2176) (b := 1024) (norm (added (mix (MixerOut.eA m c) (MixerOut.eR m c) (MixerOut.eGa m c) (MixerOut.eGr m c)) (MixerOut.eWo m c) (MixerOut.eHm m c)) (MixerOut.eGn m c))
      ∧ r.2.mem ((c.tc : Thread nD τ).loc main_v5_2) = grid2 (a := 2176) (b := 1024) (mix (MixerOut.eA m c) (MixerOut.eR m c) (MixerOut.eGa m c) (MixerOut.eGr m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨(h c).1.trans (MixerOut.final7 m c), (h c).2.1.trans (MixerOut.final8 m c), (h c).2.2.1.trans (MixerOut.final9 m c), (h c).2.2.2⟩)
    (Value.run_blocks m ρ)

end Mixer

section Mixer

open Cert.MixerReferenceIdeal Cert.MixerReferenceIdeal.Read Cert.Hidden Cert.Forward Cert.MixerOut

variable (m : (ℓ : Loc nD τ sig) → Buf (Elt Ideal) ℓ) (ρ : Dev nD → PrngReg)

/-- What the mixer's plain program leaves in its three results. -/
theorem mixer_reference_values {A R ga gr W H G : (c : Dev nD) → ℕ → ℕ → EReal}
    (h0 : ∀ c : Dev nD, Of2 (a := 2176) (b := 512) (φ := .f32) (m ((c.tc : Thread nD τ).loc main_arg0)) (A c))
    (h1 : ∀ c : Dev nD, Of2 (a := 2176) (b := 512) (φ := .f32) (m ((c.tc : Thread nD τ).loc main_arg1)) (R c))
    (h2 : ∀ c : Dev nD, Of1 (b := 512) (φ := .f32) (m ((c.tc : Thread nD τ).loc main_arg2)) (ga c))
    (h3 : ∀ c : Dev nD, Of1 (b := 512) (φ := .f32) (m ((c.tc : Thread nD τ).loc main_arg3)) (gr c))
    (h4 : ∀ c : Dev nD, Of2 (a := 1024) (b := 1024) (φ := .f32) (m ((c.tc : Thread nD τ).loc main_arg4)) (W c))
    (h5 : ∀ c : Dev nD, Of2 (a := 2176) (b := 1024) (φ := .f32) (m ((c.tc : Thread nD τ).loc main_arg5)) (H c))
    (h6 : ∀ c : Dev nD, Of1 (b := 1024) (φ := .f32) (m ((c.tc : Thread nD τ).loc main_arg6)) (G c)) :
    θ_run defs (onTc (τ := τ) (main (F := Ideal))) ⟨m, fun _ => 0, ρ⟩ fun r => ∀ c : Dev nD,
      r.2.mem ((c.tc : Thread nD τ).loc main_v28) = grid2 (a := 2176) (b := 1024) (added (mix (A c) (R c) (ga c) (gr c)) (W c) (H c))
      ∧ r.2.mem ((c.tc : Thread nD τ).loc main_v42) = grid2 (a := 2176) (b := 1024) (norm (added (mix (A c) (R c) (ga c) (gr c)) (W c) (H c)) (G c))
      ∧ r.2.mem ((c.tc : Thread nD τ).loc main_v43) = grid2 (a := 2176) (b := 1024) (mix (A c) (R c) (ga c) (gr c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨(h c).1.trans ((val_main_v28_eq _ _ _ _ _ _).trans (funext (plain_added (h0 c) (h1 c) (h2 c) (h3 c) (h4 c) (h5 c)))),
      (h c).2.1.trans ((val_main_v42_eq m c).trans (funext (MixerOut.plain_norm (h0 c) (h1 c) (h2 c) (h3 c) (h4 c) (h5 c) (h6 c)))),
      (h c).2.2.1.trans ((val_main_v43_eq _ _ _ _).trans (funext (plain_mix_stored (h0 c) (h1 c) (h2 c) (h3 c)))), (h c).2.2.2⟩)
    (Value.run (F := Ideal) m ρ)

end Mixer

/-- Both programs end with the stream after the mixer, its rows normalised, and the mixed halves of the entries the arguments hold. -/
theorem mixer_algebraic : Cert.algebraic_MixerIdeal_MixerReferenceIdeal := fun m ρ m' ρ' _ hagree => by
  refine ⟨_, _, _, mixer_values m ρ, mixer_reference_values m' ρ' (fun c => ?_) (fun c => ?_) (fun c => ?_) (fun c => ?_) (fun c => ?_) (fun c => ?_) fun c => ?_⟩
  · rw [(hagree c).1]
    exact Hidden.entries_of _
  · rw [(hagree c).2.1]
    exact Hidden.entries_of _
  · rw [(hagree c).2.2.1]
    exact Forward.entriesRow_of _
  · rw [(hagree c).2.2.2.1]
    exact Forward.entriesRow_of _
  · rw [(hagree c).2.2.2.2.1]
    exact Hidden.entries_of _
  · rw [(hagree c).2.2.2.2.2.1]
    exact Hidden.entries_of _
  · rw [(hagree c).2.2.2.2.2.2]
    exact Forward.entriesRow_of _

theorem claim : Cert.Claim := ⟨Cert.Kernel.Gen.facts, Cert.KernelIdeal.Gen.facts, Cert.ReferenceIdeal.Gen.facts,
  Cert.Mlp.Gen.facts, Cert.MlpIdeal.Gen.facts, Cert.MlpReferenceIdeal.Gen.facts,
  Cert.MlpForward.Gen.facts, Cert.MlpForwardIdeal.Gen.facts, Cert.MlpForwardReferenceIdeal.Gen.facts,
  Cert.Pieces.Gen.facts, Cert.PiecesIdeal.Gen.facts, Cert.PiecesReferenceIdeal.Gen.facts,
  Cert.Mixer.Gen.facts, Cert.MixerIdeal.Gen.facts, Cert.MixerReferenceIdeal.Gen.facts, Cert.Pre_finite.facts,
  fun m ρ _ => Cert.Kernel.Gen.frame m ρ, fun m ρ _ => Cert.KernelIdeal.Gen.frame m ρ, quiescent_reference,
  fun m ρ _ => Cert.Mlp.Gen.frame m ρ, fun m ρ _ => Cert.MlpIdeal.Gen.frame m ρ, quiescent_mlp_reference,
  fun m ρ _ => Cert.MlpForward.Gen.frame m ρ, fun m ρ _ => Cert.MlpForwardIdeal.Gen.frame m ρ, quiescent_forward_reference,
  fun m ρ _ => Cert.Pieces.Gen.frame m ρ, fun m ρ _ => Cert.PiecesIdeal.Gen.frame m ρ, quiescent_pieces_reference,
  fun m ρ _ => Cert.Mixer.Gen.frame m ρ, fun m ρ _ => Cert.MixerIdeal.Gen.frame m ρ, quiescent_mixer_reference,
  IdealRules.named_const.statement Cert.KernelIdeal.κ "mask" .f32 0xF149F2CA#32 ⊥ rfl, algebraic, trivial, mlp_algebraic,
  trivial, forward_algebraic, trivial, pieces_algebraic, trivial, mixer_algebraic⟩

end Cert.Proof

end
